-- ==== Defs.lean ====
def Pre_Kernel [hPre_idx_in_range : Cert.Pre_idx_in_range.Facts] (m : (ℓ : Loc Cert.Kernel.nD Cert.Kernel.τ Cert.Kernel.sig) → Buf (Elt Bits) ℓ) : Prop :=
  ∀ c : Dev Cert.Kernel.nD,
    (Cert.Pre_idx_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_idx_in_range : Cert.Pre_idx_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_idx_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_idx_in_range [hPre_idx_in_range : Cert.Pre_idx_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_idx_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Fps (m : (ℓ : Loc Cert.Fps.nD Cert.Fps.τ Cert.Fps.sig) → Buf (Elt Bits) ℓ) : Prop :=
  True

def Pre_FpsIdeal (m : (ℓ : Loc Cert.FpsIdeal.nD Cert.FpsIdeal.τ Cert.FpsIdeal.sig) → Buf (Elt Ideal) ℓ) : Prop :=
  True

def Pre_FpsIdeal_finite [hPre_finite : Cert.Pre_finite.Facts] (m : (ℓ : Loc Cert.FpsIdeal.nD Cert.FpsIdeal.τ Cert.FpsIdeal.sig) → Buf (Elt Ideal) ℓ) : Prop :=
  ∀ c : Dev Cert.FpsIdeal.nD,
    (Cert.Pre_finite.fn (F := Ideal) (m ((c.tc : Thread Cert.FpsIdeal.nD Cert.FpsIdeal.τ).loc Cert.FpsIdeal.main_arg0))) = (fun _ => 1#1)

def Pre_FpsReferenceIdeal (m : (ℓ : Loc Cert.FpsReferenceIdeal.nD Cert.FpsReferenceIdeal.τ Cert.FpsReferenceIdeal.sig) → Buf (Elt Ideal) ℓ) : Prop :=
  True

def Pre_FpsReferenceIdeal_finite [hPre_finite : Cert.Pre_finite.Facts] (m : (ℓ : Loc Cert.FpsReferenceIdeal.nD Cert.FpsReferenceIdeal.τ Cert.FpsReferenceIdeal.sig) → Buf (Elt Ideal) ℓ) : Prop :=
  ∀ c : Dev Cert.FpsReferenceIdeal.nD,
    (Cert.Pre_finite.fn (F := Ideal) (m ((c.tc : Thread Cert.FpsReferenceIdeal.nD Cert.FpsReferenceIdeal.τ).loc Cert.FpsReferenceIdeal.main_arg0))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_tame [hPre_tame : Cert.Pre_tame.Facts] (m : (ℓ : Loc Cert.MlpIdeal.nD Cert.MlpIdeal.τ Cert.MlpIdeal.sig) → Buf (Elt Ideal) ℓ) : Prop :=
  ∀ c : Dev Cert.MlpIdeal.nD,
    (Cert.Pre_tame.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5)) (m ((c.tc : Thread Cert.MlpIdeal.nD Cert.MlpIdeal.τ).loc Cert.MlpIdeal.main_arg6)) (m ((c.tc : Thread Cert.MlpIdeal.nD Cert.MlpIdeal.τ).loc Cert.MlpIdeal.main_arg7)) (m ((c.tc : Thread Cert.MlpIdeal.nD Cert.MlpIdeal.τ).loc Cert.MlpIdeal.main_arg8)) (m ((c.tc : Thread Cert.MlpIdeal.nD Cert.MlpIdeal.τ).loc Cert.MlpIdeal.main_arg9)) (m ((c.tc : Thread Cert.MlpIdeal.nD Cert.MlpIdeal.τ).loc Cert.MlpIdeal.main_arg10)) (m ((c.tc : Thread Cert.MlpIdeal.nD Cert.MlpIdeal.τ).loc Cert.MlpIdeal.main_arg11)) (m ((c.tc : Thread Cert.MlpIdeal.nD Cert.MlpIdeal.τ).loc Cert.MlpIdeal.main_arg12))) = (fun _ => 1#1)

def Pre_MlpReferenceIdeal (m : (ℓ : Loc Cert.MlpReferenceIdeal.nD Cert.MlpReferenceIdeal.τ Cert.MlpReferenceIdeal.sig) → Buf (Elt Ideal) ℓ) : Prop :=
  True

def Pre_MlpReferenceIdeal_tame [hPre_tame : Cert.Pre_tame.Facts] (m : (ℓ : Loc Cert.MlpReferenceIdeal.nD Cert.MlpReferenceIdeal.τ Cert.MlpReferenceIdeal.sig) → Buf (Elt Ideal) ℓ) : Prop :=
  ∀ c : Dev Cert.MlpReferenceIdeal.nD,
    (Cert.Pre_tame.fn (F := Ideal) (m ((c.tc : Thread Cert.MlpReferenceIdeal.nD Cert.MlpReferenceIdeal.τ).loc Cert.MlpReferenceIdeal.main_arg0)) (m ((c.tc : Thread Cert.MlpReferenceIdeal.nD Cert.MlpReferenceIdeal.τ).loc Cert.MlpReferenceIdeal.main_arg1)) (m ((c.tc : Thread Cert.MlpReferenceIdeal.nD Cert.MlpReferenceIdeal.τ).loc Cert.MlpReferenceIdeal.main_arg2)) (m ((c.tc : Thread Cert.MlpReferenceIdeal.nD Cert.MlpReferenceIdeal.τ).loc Cert.MlpReferenceIdeal.main_arg3)) (m ((c.tc : Thread Cert.MlpReferenceIdeal.nD Cert.MlpReferenceIdeal.τ).loc Cert.MlpReferenceIdeal.main_arg4)) (m ((c.tc : Thread Cert.MlpReferenceIdeal.nD Cert.MlpReferenceIdeal.τ).loc Cert.MlpReferenceIdeal.main_arg5)) (m ((c.tc : Thread Cert.MlpReferenceIdeal.nD Cert.MlpReferenceIdeal.τ).loc Cert.MlpReferenceIdeal.main_arg6)) (m ((c.tc : Thread Cert.MlpReferenceIdeal.nD Cert.MlpReferenceIdeal.τ).loc Cert.MlpReferenceIdeal.main_arg7)) (m ((c.tc : Thread Cert.MlpReferenceIdeal.nD Cert.MlpReferenceIdeal.τ).loc Cert.MlpReferenceIdeal.main_arg8)) (m ((c.tc : Thread Cert.MlpReferenceIdeal.nD Cert.MlpReferenceIdeal.τ).loc Cert.MlpReferenceIdeal.main_arg9)) (m ((c.tc : Thread Cert.MlpReferenceIdeal.nD Cert.MlpReferenceIdeal.τ).loc Cert.MlpReferenceIdeal.main_arg10)) (m ((c.tc : Thread Cert.MlpReferenceIdeal.nD Cert.MlpReferenceIdeal.τ).loc Cert.MlpReferenceIdeal.main_arg11)) (m ((c.tc : Thread Cert.MlpReferenceIdeal.nD Cert.MlpReferenceIdeal.τ).loc Cert.MlpReferenceIdeal.main_arg12))) = (fun _ => 1#1)

def quiescent_Kernel [hKernel : Cert.Kernel.Facts] [hPre_idx_in_range : Cert.Pre_idx_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_idx_in_range [hReferenceIdeal : Cert.ReferenceIdeal.Facts] [hPre_idx_in_range : Cert.Pre_idx_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_idx_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Fps [hFps : Cert.Fps.Facts] : Prop :=
  ∀ (m : (ℓ : Loc Cert.Fps.nD Cert.Fps.τ Cert.Fps.sig) → Buf (Elt Bits) ℓ) (g : Dev Cert.Fps.nD → PrngReg), Pre_Fps m →
    θ_run (Cert.Fps.defs (F := Bits)) (onTc (τ := Cert.Fps.τ) (Cert.Fps.main (F := Bits))) ⟨m, fun _ => 0, g⟩ (fun r => (∀ c : Dev Cert.Fps.nD,
      r.2.mem ((c.tc : Thread Cert.Fps.nD Cert.Fps.τ).loc Cert.Fps.main_arg0) = m ((c.tc : Thread Cert.Fps.nD Cert.Fps.τ).loc Cert.Fps.main_arg0))
      ∧ r.2.sem = fun _ => 0)

def quiescent_FpsIdeal [hFpsIdeal : Cert.FpsIdeal.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def quiescent_FpsIdeal_pre_finite [hFpsIdeal : Cert.FpsIdeal.Facts] [hPre_finite : Cert.Pre_finite.Facts] : Prop :=
  ∀ (m : (ℓ : Loc Cert.FpsIdeal.nD Cert.FpsIdeal.τ Cert.FpsIdeal.sig) → Buf (Elt Ideal) ℓ) (g : Dev Cert.FpsIdeal.nD → PrngReg), Pre_FpsIdeal_finite m →
    θ_run (Cert.FpsIdeal.defs (F := Ideal)) (onTc (τ := Cert.FpsIdeal.τ) (Cert.FpsIdeal.main (F := Ideal))) ⟨m, fun _ => 0, g⟩ (fun r => (∀ c : Dev Cert.FpsIdeal.nD,
      r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ r.2.sem = fun _ => 0)

def quiescent_FpsReferenceIdeal [hFpsReferenceIdeal : Cert.FpsReferenceIdeal.Facts] : Prop :=
  ∀ (m : (ℓ : Loc Cert.FpsReferenceIdeal.nD Cert.FpsReferenceIdeal.τ Cert.FpsReferenceIdeal.sig) → Buf (Elt Ideal) ℓ) (g : Dev Cert.FpsReferenceIdeal.nD → PrngReg), Pre_FpsReferenceIdeal m →
    θ_run (Cert.FpsReferenceIdeal.defs (F := Ideal)) (onTc (τ := Cert.FpsReferenceIdeal.τ) (Cert.FpsReferenceIdeal.main (F := Ideal))) ⟨m, fun _ => 0, g⟩ (fun r => (∀ c : Dev Cert.FpsReferenceIdeal.nD,
      r.2.mem ((c.tc : Thread Cert.FpsReferenceIdeal.nD Cert.FpsReferenceIdeal.τ).loc Cert.FpsReferenceIdeal.main_arg0) = m ((c.tc : Thread Cert.FpsReferenceIdeal.nD Cert.FpsReferenceIdeal.τ).loc Cert.FpsReferenceIdeal.main_arg0))
      ∧ r.2.sem = fun _ => 0)

def quiescent_FpsReferenceIdeal_pre_finite [hFpsReferenceIdeal : Cert.FpsReferenceIdeal.Facts] [hPre_finite : Cert.Pre_finite.Facts] : Prop :=
  ∀ (m : (ℓ : Loc Cert.FpsReferenceIdeal.nD Cert.FpsReferenceIdeal.τ Cert.FpsReferenceIdeal.sig) → Buf (Elt Ideal) ℓ) (g : Dev Cert.FpsReferenceIdeal.nD → PrngReg), Pre_FpsReferenceIdeal_finite m →
    θ_run (Cert.FpsReferenceIdeal.defs (F := Ideal)) (onTc (τ := Cert.FpsReferenceIdeal.τ) (Cert.FpsReferenceIdeal.main (F := Ideal))) ⟨m, fun _ => 0, g⟩ (fun r => (∀ c : Dev Cert.FpsReferenceIdeal.nD,
      r.2.mem ((c.tc : Thread Cert.FpsReferenceIdeal.nD Cert.FpsReferenceIdeal.τ).loc Cert.FpsReferenceIdeal.main_arg0) = m ((c.tc : Thread Cert.FpsReferenceIdeal.nD Cert.FpsReferenceIdeal.τ).loc Cert.FpsReferenceIdeal.main_arg0))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5)
      ∧ r.2.mem ((c.tc : Thread Cert.Mlp.nD Cert.Mlp.τ).loc Cert.Mlp.main_arg6) = m ((c.tc : Thread Cert.Mlp.nD Cert.Mlp.τ).loc Cert.Mlp.main_arg6)
      ∧ r.2.mem ((c.tc : Thread Cert.Mlp.nD Cert.Mlp.τ).loc Cert.Mlp.main_arg7) = m ((c.tc : Thread Cert.Mlp.nD Cert.Mlp.τ).loc Cert.Mlp.main_arg7)
      ∧ r.2.mem ((c.tc : Thread Cert.Mlp.nD Cert.Mlp.τ).loc Cert.Mlp.main_arg8) = m ((c.tc : Thread Cert.Mlp.nD Cert.Mlp.τ).loc Cert.Mlp.main_arg8)
      ∧ r.2.mem ((c.tc : Thread Cert.Mlp.nD Cert.Mlp.τ).loc Cert.Mlp.main_arg9) = m ((c.tc : Thread Cert.Mlp.nD Cert.Mlp.τ).loc Cert.Mlp.main_arg9)
      ∧ r.2.mem ((c.tc : Thread Cert.Mlp.nD Cert.Mlp.τ).loc Cert.Mlp.main_arg10) = m ((c.tc : Thread Cert.Mlp.nD Cert.Mlp.τ).loc Cert.Mlp.main_arg10)
      ∧ r.2.mem ((c.tc : Thread Cert.Mlp.nD Cert.Mlp.τ).loc Cert.Mlp.main_arg11) = m ((c.tc : Thread Cert.Mlp.nD Cert.Mlp.τ).loc Cert.Mlp.main_arg11)
      ∧ r.2.mem ((c.tc : Thread Cert.Mlp.nD Cert.Mlp.τ).loc Cert.Mlp.main_arg12) = m ((c.tc : Thread Cert.Mlp.nD Cert.Mlp.τ).loc Cert.Mlp.main_arg12))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ r.2.sem = fun _ => 0)

def quiescent_MlpIdeal_pre_tame [hMlpIdeal : Cert.MlpIdeal.Facts] [hPre_tame : Cert.Pre_tame.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_tame m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12))
      ∧ r.2.sem = fun _ => 0)

def quiescent_MlpReferenceIdeal_pre_tame [hMlpReferenceIdeal : Cert.MlpReferenceIdeal.Facts] [hPre_tame : Cert.Pre_tame.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal_tame m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3)
      ∧ r.2.mem ((c.tc : Thread Cert.MlpReferenceIdeal.nD Cert.MlpReferenceIdeal.τ).loc Cert.MlpReferenceIdeal.main_arg4) = m ((c.tc : Thread Cert.MlpReferenceIdeal.nD Cert.MlpReferenceIdeal.τ).loc Cert.MlpReferenceIdeal.main_arg4)
      ∧ r.2.mem ((c.tc : Thread Cert.MlpReferenceIdeal.nD Cert.MlpReferenceIdeal.τ).loc Cert.MlpReferenceIdeal.main_arg5) = m ((c.tc : Thread Cert.MlpReferenceIdeal.nD Cert.MlpReferenceIdeal.τ).loc Cert.MlpReferenceIdeal.main_arg5)
      ∧ r.2.mem ((c.tc : Thread Cert.MlpReferenceIdeal.nD Cert.MlpReferenceIdeal.τ).loc Cert.MlpReferenceIdeal.main_arg6) = m ((c.tc : Thread Cert.MlpReferenceIdeal.nD Cert.MlpReferenceIdeal.τ).loc Cert.MlpReferenceIdeal.main_arg6)
      ∧ r.2.mem ((c.tc : Thread Cert.MlpReferenceIdeal.nD Cert.MlpReferenceIdeal.τ).loc Cert.MlpReferenceIdeal.main_arg7) = m ((c.tc : Thread Cert.MlpReferenceIdeal.nD Cert.MlpReferenceIdeal.τ).loc Cert.MlpReferenceIdeal.main_arg7)
      ∧ r.2.mem ((c.tc : Thread Cert.MlpReferenceIdeal.nD Cert.MlpReferenceIdeal.τ).loc Cert.MlpReferenceIdeal.main_arg8) = m ((c.tc : Thread Cert.MlpReferenceIdeal.nD Cert.MlpReferenceIdeal.τ).loc Cert.MlpReferenceIdeal.main_arg8)
      ∧ r.2.mem ((c.tc : Thread Cert.MlpReferenceIdeal.nD Cert.MlpReferenceIdeal.τ).loc Cert.MlpReferenceIdeal.main_arg9) = m ((c.tc : Thread Cert.MlpReferenceIdeal.nD Cert.MlpReferenceIdeal.τ).loc Cert.MlpReferenceIdeal.main_arg9)
      ∧ r.2.mem ((c.tc : Thread Cert.MlpReferenceIdeal.nD Cert.MlpReferenceIdeal.τ).loc Cert.MlpReferenceIdeal.main_arg10) = m ((c.tc : Thread Cert.MlpReferenceIdeal.nD Cert.MlpReferenceIdeal.τ).loc Cert.MlpReferenceIdeal.main_arg10)
      ∧ r.2.mem ((c.tc : Thread Cert.MlpReferenceIdeal.nD Cert.MlpReferenceIdeal.τ).loc Cert.MlpReferenceIdeal.main_arg11) = m ((c.tc : Thread Cert.MlpReferenceIdeal.nD Cert.MlpReferenceIdeal.τ).loc Cert.MlpReferenceIdeal.main_arg11)
      ∧ r.2.mem ((c.tc : Thread Cert.MlpReferenceIdeal.nD Cert.MlpReferenceIdeal.τ).loc Cert.MlpReferenceIdeal.main_arg12) = m ((c.tc : Thread Cert.MlpReferenceIdeal.nD Cert.MlpReferenceIdeal.τ).loc Cert.MlpReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_idx_in_range : Cert.Pre_idx_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Fps_FpsIdeal : Prop :=
  IdealRules.named_const.Statement Cert.FpsIdeal.κ "big" .f32 0x7F61B1E6#32 ⊤

def algebraic_FpsIdeal_FpsReferenceIdeal_pre_finite [hFpsIdeal : Cert.FpsIdeal.Facts] [hFpsReferenceIdeal : Cert.FpsReferenceIdeal.Facts] [hPre_finite : Cert.Pre_finite.Facts] : Prop :=
  ∀ (m : (ℓ : Loc Cert.FpsIdeal.nD Cert.FpsIdeal.τ Cert.FpsIdeal.sig) → Buf (Elt Ideal) ℓ) (g : Dev Cert.FpsIdeal.nD → PrngReg)
    (m' : (ℓ : Loc Cert.FpsReferenceIdeal.nD Cert.FpsReferenceIdeal.τ Cert.FpsReferenceIdeal.sig) → Buf (Elt Ideal) ℓ) (g' : Dev Cert.FpsReferenceIdeal.nD → PrngReg), Pre_FpsIdeal_finite m →
    (∀ c : Dev Cert.FpsIdeal.nD,
      m' ((c.tc : Thread Cert.FpsReferenceIdeal.nD Cert.FpsReferenceIdeal.τ).loc Cert.FpsReferenceIdeal.main_arg0) = m ((c.tc : Thread Cert.FpsIdeal.nD Cert.FpsIdeal.τ).loc Cert.FpsIdeal.main_arg0)) →
    ∃ (v0 : (c : Dev Cert.FpsIdeal.nD) → Buf (Elt Ideal) ((c.tc : Thread Cert.FpsIdeal.nD Cert.FpsIdeal.τ).loc Cert.FpsIdeal.main_v2)) (v1 : (c : Dev Cert.FpsIdeal.nD) → Buf (Elt Ideal) ((c.tc : Thread Cert.FpsIdeal.nD Cert.FpsIdeal.τ).loc Cert.FpsIdeal.main_v1_0)) (v2 : (c : Dev Cert.FpsIdeal.nD) → Buf (Elt Ideal) ((c.tc : Thread Cert.FpsIdeal.nD Cert.FpsIdeal.τ).loc Cert.FpsIdeal.main_v1_1)),
      θ_run (Cert.FpsIdeal.defs (F := Ideal)) (onTc (τ := Cert.FpsIdeal.τ) (Cert.FpsIdeal.main (F := Ideal))) ⟨m, fun _ => 0, g⟩ (fun r => ∀ c : Dev Cert.FpsIdeal.nD,
          r.2.mem ((c.tc : Thread Cert.FpsIdeal.nD Cert.FpsIdeal.τ).loc Cert.FpsIdeal.main_v2) = v0 c
          ∧ r.2.mem ((c.tc : Thread Cert.FpsIdeal.nD Cert.FpsIdeal.τ).loc Cert.FpsIdeal.main_v1_0) = v1 c
          ∧ r.2.mem ((c.tc : Thread Cert.FpsIdeal.nD Cert.FpsIdeal.τ).loc Cert.FpsIdeal.main_v1_1) = v2 c
          ∧ r.2.mem ((c.tc : Thread Cert.FpsIdeal.nD Cert.FpsIdeal.τ).loc Cert.FpsIdeal.main_arg0) = m ((c.tc : Thread Cert.FpsIdeal.nD Cert.FpsIdeal.τ).loc Cert.FpsIdeal.main_arg0))
      ∧ θ_run (Cert.FpsReferenceIdeal.defs (F := Ideal)) (onTc (τ := Cert.FpsReferenceIdeal.τ) (Cert.FpsReferenceIdeal.main (F := Ideal))) ⟨m', fun _ => 0, g'⟩ (fun r => ∀ c : Dev Cert.FpsReferenceIdeal.nD,
          r.2.mem ((c.tc : Thread Cert.FpsReferenceIdeal.nD Cert.FpsReferenceIdeal.τ).loc Cert.FpsReferenceIdeal.main_v6) = v0 c
          ∧ r.2.mem ((c.tc : Thread Cert.FpsReferenceIdeal.nD Cert.FpsReferenceIdeal.τ).loc Cert.FpsReferenceIdeal.main_v15) = v1 c
          ∧ r.2.mem ((c.tc : Thread Cert.FpsReferenceIdeal.nD Cert.FpsReferenceIdeal.τ).loc Cert.FpsReferenceIdeal.main_v16) = v2 c
          ∧ r.2.mem ((c.tc : Thread Cert.FpsReferenceIdeal.nD Cert.FpsReferenceIdeal.τ).loc Cert.FpsReferenceIdeal.main_arg0) = m' ((c.tc : Thread Cert.FpsReferenceIdeal.nD Cert.FpsReferenceIdeal.τ).loc Cert.FpsReferenceIdeal.main_arg0))

def preserves_Mlp_MlpIdeal : Prop :=
  True

def algebraic_MlpIdeal_MlpReferenceIdeal_pre_tame [hMlpIdeal : Cert.MlpIdeal.Facts] [hMlpReferenceIdeal : Cert.MlpReferenceIdeal.Facts] [hPre_tame : Cert.Pre_tame.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal_tame m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)
      ∧ m' ((c.tc : Thread Cert.MlpReferenceIdeal.nD Cert.MlpReferenceIdeal.τ).loc Cert.MlpReferenceIdeal.main_arg4) = m ((c.tc : Thread Cert.MlpIdeal.nD Cert.MlpIdeal.τ).loc Cert.MlpIdeal.main_arg4)
      ∧ m' ((c.tc : Thread Cert.MlpReferenceIdeal.nD Cert.MlpReferenceIdeal.τ).loc Cert.MlpReferenceIdeal.main_arg5) = m ((c.tc : Thread Cert.MlpIdeal.nD Cert.MlpIdeal.τ).loc Cert.MlpIdeal.main_arg5)
      ∧ m' ((c.tc : Thread Cert.MlpReferenceIdeal.nD Cert.MlpReferenceIdeal.τ).loc Cert.MlpReferenceIdeal.main_arg6) = m ((c.tc : Thread Cert.MlpIdeal.nD Cert.MlpIdeal.τ).loc Cert.MlpIdeal.main_arg6)
      ∧ m' ((c.tc : Thread Cert.MlpReferenceIdeal.nD Cert.MlpReferenceIdeal.τ).loc Cert.MlpReferenceIdeal.main_arg7) = m ((c.tc : Thread Cert.MlpIdeal.nD Cert.MlpIdeal.τ).loc Cert.MlpIdeal.main_arg7)
      ∧ m' ((c.tc : Thread Cert.MlpReferenceIdeal.nD Cert.MlpReferenceIdeal.τ).loc Cert.MlpReferenceIdeal.main_arg8) = m ((c.tc : Thread Cert.MlpIdeal.nD Cert.MlpIdeal.τ).loc Cert.MlpIdeal.main_arg8)
      ∧ m' ((c.tc : Thread Cert.MlpReferenceIdeal.nD Cert.MlpReferenceIdeal.τ).loc Cert.MlpReferenceIdeal.main_arg9) = m ((c.tc : Thread Cert.MlpIdeal.nD Cert.MlpIdeal.τ).loc Cert.MlpIdeal.main_arg9)
      ∧ m' ((c.tc : Thread Cert.MlpReferenceIdeal.nD Cert.MlpReferenceIdeal.τ).loc Cert.MlpReferenceIdeal.main_arg10) = m ((c.tc : Thread Cert.MlpIdeal.nD Cert.MlpIdeal.τ).loc Cert.MlpIdeal.main_arg10)
      ∧ m' ((c.tc : Thread Cert.MlpReferenceIdeal.nD Cert.MlpReferenceIdeal.τ).loc Cert.MlpReferenceIdeal.main_arg11) = m ((c.tc : Thread Cert.MlpIdeal.nD Cert.MlpIdeal.τ).loc Cert.MlpIdeal.main_arg11)
      ∧ m' ((c.tc : Thread Cert.MlpReferenceIdeal.nD Cert.MlpReferenceIdeal.τ).loc Cert.MlpReferenceIdeal.main_arg12) = m ((c.tc : Thread Cert.MlpIdeal.nD Cert.MlpIdeal.τ).loc Cert.MlpIdeal.main_arg12)) →
    ∃ (v0 : (c : Dev Cert.MlpIdeal.nD) → Buf (Elt Ideal) ((c.tc : Thread Cert.MlpIdeal.nD Cert.MlpIdeal.τ).loc Cert.MlpIdeal.main_v12)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v12) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
          ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
          ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
          ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
          ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
          ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
          ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
          ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v74) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3)
          ∧ r.2.mem ((c.tc : Thread Cert.MlpReferenceIdeal.nD Cert.MlpReferenceIdeal.τ).loc Cert.MlpReferenceIdeal.main_arg4) = m' ((c.tc : Thread Cert.MlpReferenceIdeal.nD Cert.MlpReferenceIdeal.τ).loc Cert.MlpReferenceIdeal.main_arg4)
          ∧ r.2.mem ((c.tc : Thread Cert.MlpReferenceIdeal.nD Cert.MlpReferenceIdeal.τ).loc Cert.MlpReferenceIdeal.main_arg5) = m' ((c.tc : Thread Cert.MlpReferenceIdeal.nD Cert.MlpReferenceIdeal.τ).loc Cert.MlpReferenceIdeal.main_arg5)
          ∧ r.2.mem ((c.tc : Thread Cert.MlpReferenceIdeal.nD Cert.MlpReferenceIdeal.τ).loc Cert.MlpReferenceIdeal.main_arg6) = m' ((c.tc : Thread Cert.MlpReferenceIdeal.nD Cert.MlpReferenceIdeal.τ).loc Cert.MlpReferenceIdeal.main_arg6)
          ∧ r.2.mem ((c.tc : Thread Cert.MlpReferenceIdeal.nD Cert.MlpReferenceIdeal.τ).loc Cert.MlpReferenceIdeal.main_arg7) = m' ((c.tc : Thread Cert.MlpReferenceIdeal.nD Cert.MlpReferenceIdeal.τ).loc Cert.MlpReferenceIdeal.main_arg7)
          ∧ r.2.mem ((c.tc : Thread Cert.MlpReferenceIdeal.nD Cert.MlpReferenceIdeal.τ).loc Cert.MlpReferenceIdeal.main_arg8) = m' ((c.tc : Thread Cert.MlpReferenceIdeal.nD Cert.MlpReferenceIdeal.τ).loc Cert.MlpReferenceIdeal.main_arg8)
          ∧ r.2.mem ((c.tc : Thread Cert.MlpReferenceIdeal.nD Cert.MlpReferenceIdeal.τ).loc Cert.MlpReferenceIdeal.main_arg9) = m' ((c.tc : Thread Cert.MlpReferenceIdeal.nD Cert.MlpReferenceIdeal.τ).loc Cert.MlpReferenceIdeal.main_arg9)
          ∧ r.2.mem ((c.tc : Thread Cert.MlpReferenceIdeal.nD Cert.MlpReferenceIdeal.τ).loc Cert.MlpReferenceIdeal.main_arg10) = m' ((c.tc : Thread Cert.MlpReferenceIdeal.nD Cert.MlpReferenceIdeal.τ).loc Cert.MlpReferenceIdeal.main_arg10)
          ∧ r.2.mem ((c.tc : Thread Cert.MlpReferenceIdeal.nD Cert.MlpReferenceIdeal.τ).loc Cert.MlpReferenceIdeal.main_arg11) = m' ((c.tc : Thread Cert.MlpReferenceIdeal.nD Cert.MlpReferenceIdeal.τ).loc Cert.MlpReferenceIdeal.main_arg11)
          ∧ r.2.mem ((c.tc : Thread Cert.MlpReferenceIdeal.nD Cert.MlpReferenceIdeal.τ).loc Cert.MlpReferenceIdeal.main_arg12) = m' ((c.tc : Thread Cert.MlpReferenceIdeal.nD Cert.MlpReferenceIdeal.τ).loc Cert.MlpReferenceIdeal.main_arg12))

def Claim : Prop :=
  ∃ (hKernel : Cert.Kernel.Facts) (hKernelIdeal : Cert.KernelIdeal.Facts) (hReferenceIdeal : Cert.ReferenceIdeal.Facts) (hFps : Cert.Fps.Facts) (hFpsIdeal : Cert.FpsIdeal.Facts) (hFpsReferenceIdeal : Cert.FpsReferenceIdeal.Facts) (hMlp : Cert.Mlp.Facts) (hMlpIdeal : Cert.MlpIdeal.Facts) (hMlpReferenceIdeal : Cert.MlpReferenceIdeal.Facts) (hPre_idx_in_range : Cert.Pre_idx_in_range.Facts) (hPre_finite : Cert.Pre_finite.Facts) (hPre_tame : Cert.Pre_tame.Facts),
    quiescent_Kernel (hKernel := hKernel) (hPre_idx_in_range := hPre_idx_in_range)
    ∧ quiescent_KernelIdeal (hKernelIdeal := hKernelIdeal) (hPre_idx_in_range := hPre_idx_in_range)
    ∧ quiescent_ReferenceIdeal (hReferenceIdeal := hReferenceIdeal)
    ∧ quiescent_ReferenceIdeal_pre_idx_in_range (hReferenceIdeal := hReferenceIdeal) (hPre_idx_in_range := hPre_idx_in_range)
    ∧ quiescent_Fps (hFps := hFps)
    ∧ quiescent_FpsIdeal (hFpsIdeal := hFpsIdeal)
    ∧ quiescent_FpsIdeal_pre_finite (hFpsIdeal := hFpsIdeal) (hPre_finite := hPre_finite)
    ∧ quiescent_FpsReferenceIdeal (hFpsReferenceIdeal := hFpsReferenceIdeal)
    ∧ quiescent_FpsReferenceIdeal_pre_finite (hFpsReferenceIdeal := hFpsReferenceIdeal) (hPre_finite := hPre_finite)
    ∧ quiescent_Mlp (hMlp := hMlp)
    ∧ quiescent_MlpIdeal (hMlpIdeal := hMlpIdeal)
    ∧ quiescent_MlpIdeal_pre_tame (hMlpIdeal := hMlpIdeal) (hPre_tame := hPre_tame)
    ∧ quiescent_MlpReferenceIdeal (hMlpReferenceIdeal := hMlpReferenceIdeal)
    ∧ quiescent_MlpReferenceIdeal_pre_tame (hMlpReferenceIdeal := hMlpReferenceIdeal) (hPre_tame := hPre_tame)
    ∧ preserves_Kernel_KernelIdeal
    ∧ algebraic_KernelIdeal_ReferenceIdeal (hKernelIdeal := hKernelIdeal) (hReferenceIdeal := hReferenceIdeal) (hPre_idx_in_range := hPre_idx_in_range)
    ∧ preserves_Fps_FpsIdeal
    ∧ algebraic_FpsIdeal_FpsReferenceIdeal_pre_finite (hFpsIdeal := hFpsIdeal) (hFpsReferenceIdeal := hFpsReferenceIdeal) (hPre_finite := hPre_finite)
    ∧ preserves_Mlp_MlpIdeal
    ∧ algebraic_MlpIdeal_MlpReferenceIdeal_pre_tame (hMlpIdeal := hMlpIdeal) (hMlpReferenceIdeal := hMlpReferenceIdeal) (hPre_tame := hPre_tame)
-- ==== Pre_finite.lean ====
abbrev S16x4096x3 : Shape := ⟨3, ![16, 4096, 3]⟩
abbrev S_ : Shape := ⟨0, ![]⟩

class Facts : Prop where
  bcast_S_S16x4096x3 : S_.BroadcastsInDim S16x4096x3 (![] : Fin 0 → Fin S16x4096x3.rank)
  reducesTo_S16x4096x3_S_d0_1_2 : S16x4096x3.ReducesTo [0, 1, 2] S_
  h_S_ : 0 < S_.numel

variable [Facts]

def fn {F : FTy → Type} [FloatOps F] (main_arg0 : FVec F S16x4096x3 .f32) : IVec S_ 1 :=
  let main_v0 : FVec F S16x4096x3 .f32 := Host.absf main_arg0
  let main_cst : FVec F S_ .f32 := constant S_ .f32 0x7F800000#32
  let main_v1 : FVec F S16x4096x3 .f32 := broadcastInDim S16x4096x3 ![] bcast_S_S16x4096x3 main_cst
  let main_v2 : IVec S16x4096x3 1 := cmpf .olt main_v0 main_v1
  let main_c : IVec S_ 1 := constantI S_ 1 1#1
  let main_v3 : IVec S_ 1 := (fun x v => Host.reduce IntOp.andi x v reducesTo_S16x4096x3_S_d0_1_2 h_S_) main_v2 main_c
  main_v3
-- ==== Pre_idx_in_range.lean ====
abbrev S16x4096x3 : Shape := ⟨3, ![16, 4096, 3]⟩
abbrev S16x3x128 : Shape := ⟨3, ![16, 3, 128]⟩
abbrev S16x32x128 : Shape := ⟨3, ![16, 32, 128]⟩
abbrev S_ : Shape := ⟨0, ![]⟩

class Facts : Prop where
  bcast_S_S16x32x128 : S_.BroadcastsInDim S16x32x128 (![] : Fin 0 → Fin S16x32x128.rank)
  reducesTo_S16x32x128_S_d0_1_2 : S16x32x128.ReducesTo [0, 1, 2] S_
  h_S_ : 0 < S_.numel

variable [Facts]

def fn {F : FTy → Type} [FloatOps F] (main_arg0 : FVec F S16x4096x3 .f32) (main_arg1 : FVec F S16x3x128 .f32) (main_arg2 : IVec S16x32x128 32) : IVec S_ 1 :=
  let main_c : IVec S_ 32 := constantI S_ 32 0#32
  let main_v0 : IVec S16x32x128 32 := broadcastInDim S16x32x128 ![] bcast_S_S16x32x128 main_c
  let main_v1 : IVec S16x32x128 1 := cmpi .sge main_arg2 main_v0
  let main_c_0 : IVec S_ 32 := constantI S_ 32 4096#32
  let main_v2 : IVec S16x32x128 32 := broadcastInDim S16x32x128 ![] bcast_S_S16x32x128 main_c_0
  let main_v3 : IVec S16x32x128 1 := cmpi .slt main_arg2 main_v2
  let main_v4 : IVec S16x32x128 1 := andi main_v1 main_v3
  let main_c_1 : IVec S_ 1 := constantI S_ 1 1#1
  let main_v5 : IVec S_ 1 := (fun x v => Host.reduce IntOp.andi x v reducesTo_S16x32x128_S_d0_1_2 h_S_) main_v4 main_c_1
  main_v5
-- ==== Pre_tame.lean ====
abbrev S16x3x4096 : Shape := ⟨3, ![16, 3, 4096]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x384 : Shape := ⟨2, ![128, 384]⟩
abbrev S384 : Shape := ⟨1, ![384]⟩
abbrev S_ : Shape := ⟨0, ![]⟩

class Facts : Prop where
  bcast_S_S384 : S_.BroadcastsInDim S384 (![] : Fin 0 → Fin S384.rank)
  reducesTo_S384_S_d0 : S384.ReducesTo [0] S_
  h_S_ : 0 < S_.numel
  bcast_S_S16x3x4096 : S_.BroadcastsInDim S16x3x4096 (![] : Fin 0 → Fin S16x3x4096.rank)
  reducesTo_S16x3x4096_S_d0_1_2 : S16x3x4096.ReducesTo [0, 1, 2] S_
  bcast_S_S3x64 : S_.BroadcastsInDim S3x64 (![] : Fin 0 → Fin S3x64.rank)
  reducesTo_S3x64_S_d0_1 : S3x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x384 : S_.BroadcastsInDim S128x384 (![] : Fin 0 → Fin S128x384.rank)
  reducesTo_S128x384_S_d0_1 : S128x384.ReducesTo [0, 1] S_

variable [Facts]

def fn_part3 {F : FTy → Type} [FloatOps F] (main_arg10 : FVec F S384 .f32) (main_arg11 : FVec F S384 .f32) (main_v47 : IVec S_ 1) (main_v50 : IVec S128x384 1) : IVec S_ 1 :=
  let main_c_19 : IVec S_ 1 := constantI S_ 1 1#1
  let main_v51 : IVec S_ 1 := (fun x v => Host.reduce IntOp.andi x v reducesTo_S128x384_S_d0_1 h_S_) main_v50 main_c_19
  let main_v52 : IVec S_ 1 := andi main_v47 main_v51
  let main_v53 : FVec F S384 .f32 := Host.absf main_arg10
  let main_cst_20 : FVec F S_ .f32 := constant S_ .f32 0x7F800000#32
  let main_v54 : FVec F S384 .f32 := broadcastInDim S384 ![] bcast_S_S384 main_cst_20
  let main_v55 : IVec S384 1 := cmpf .olt main_v53 main_v54
  let main_c_21 : IVec S_ 1 := constantI S_ 1 1#1
  let main_v56 : IVec S_ 1 := (fun x v => Host.reduce IntOp.andi x v reducesTo_S384_S_d0 h_S_) main_v55 main_c_21
  let main_v57 : IVec S_ 1 := andi main_v52 main_v56
  let main_v58 : FVec F S384 .f32 := Host.absf main_arg11
  let main_cst_22 : FVec F S_ .f32 := constant S_ .f32 0x7F800000#32
  let main_v59 : FVec F S384 .f32 := broadcastInDim S384 ![] bcast_S_S384 main_cst_22
  let main_v60 : IVec S384 1 := cmpf .olt main_v58 main_v59
  let main_c_23 : IVec S_ 1 := constantI S_ 1 1#1
  let main_v61 : IVec S_ 1 := (fun x v => Host.reduce IntOp.andi x v reducesTo_S384_S_d0 h_S_) main_v60 main_c_23
  let main_v62 : IVec S_ 1 := andi main_v57 main_v61
  main_v62

def fn_part2 {F : FTy → Type} [FloatOps F] (main_arg7 : FVec F S128 .f32) (main_arg8 : FVec F S128 .f32) (main_arg9 : FVec F S128x384 .f32) (main_arg10 : FVec F S384 .f32) (main_arg11 : FVec F S384 .f32) (main_v32 : IVec S_ 1) (main_v33 : FVec F S128 .f32) : IVec S_ 1 :=
  let main_cst_12 : FVec F S_ .f32 := constant S_ .f32 0x7F800000#32
  let main_v34 : FVec F S128 .f32 := broadcastInDim S128 ![] bcast_S_S128 main_cst_12
  let main_v35 : IVec S128 1 := cmpf .olt main_v33 main_v34
  let main_c_13 : IVec S_ 1 := constantI S_ 1 1#1
  let main_v36 : IVec S_ 1 := (fun x v => Host.reduce IntOp.andi x v reducesTo_S128_S_d0 h_S_) main_v35 main_c_13
  let main_v37 : IVec S_ 1 := andi main_v32 main_v36
  let main_v38 : FVec F S128 .f32 := Host.absf main_arg7
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128 .f32 := Host.absf main_arg8
  let main_cst_16 : FVec F S_ .f32 := constant S_ .f32 0x7F800000#32
  let main_v44 : FVec F S128 .f32 := broadcastInDim S128 ![] bcast_S_S128 main_cst_16
  let main_v45 : IVec S128 1 := cmpf .olt main_v43 main_v44
  let main_c_17 : IVec S_ 1 := constantI S_ 1 1#1
  let main_v46 : IVec S_ 1 := (fun x v => Host.reduce IntOp.andi x v reducesTo_S128_S_d0 h_S_) main_v45 main_c_17
  let main_v47 : IVec S_ 1 := andi main_v42 main_v46
  let main_v48 : FVec F S128x384 .f32 := Host.absf main_arg9
  let main_cst_18 : FVec F S_ .f32 := constant S_ .f32 0x7F800000#32
  let main_v49 : FVec F S128x384 .f32 := broadcastInDim S128x384 ![] bcast_S_S128x384 main_cst_18
  let main_v50 : IVec S128x384 1 := cmpf .olt main_v48 main_v49
  fn_part3 (F := F) main_arg10 main_arg11 main_v47 main_v50

def fn_part1 {F : FTy → Type} [FloatOps F] (main_arg3 : FVec F S64 .f32) (main_arg4 : FVec F S64 .f32) (main_arg5 : FVec F S64x128 .f32) (main_arg6 : FVec F S128 .f32) (main_arg7 : FVec F S128 .f32) (main_arg8 : FVec F S128 .f32) (main_arg9 : FVec F S128x384 .f32) (main_arg10 : FVec F S384 .f32) (main_arg11 : FVec F S384 .f32) (main_v12 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v12 main_v16
  let main_v18 : FVec F S64 .f32 := Host.absf main_arg3
  let main_cst_6 : FVec F S_ .f32 := constant S_ .f32 0x7F800000#32
  let main_v19 : FVec F S64 .f32 := broadcastInDim S64 ![] bcast_S_S64 main_cst_6
  let main_v20 : IVec S64 1 := cmpf .olt main_v18 main_v19
  let main_c_7 : IVec S_ 1 := constantI S_ 1 1#1
  let main_v21 : IVec S_ 1 := (fun x v => Host.reduce IntOp.andi x v reducesTo_S64_S_d0 h_S_) main_v20 main_c_7
  let main_v22 : IVec S_ 1 := andi main_v17 main_v21
  let main_v23 : FVec F S64 .f32 := Host.absf main_arg4
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v22 main_v26
  let main_v28 : FVec F S64x128 .f32 := Host.absf main_arg5
  let main_cst_10 : FVec F S_ .f32 := constant S_ .f32 0x7F800000#32
  let main_v29 : FVec F S64x128 .f32 := broadcastInDim S64x128 ![] bcast_S_S64x128 main_cst_10
  let main_v30 : IVec S64x128 1 := cmpf .olt main_v28 main_v29
  let main_c_11 : IVec S_ 1 := constantI S_ 1 1#1
  let main_v31 : IVec S_ 1 := (fun x v => Host.reduce IntOp.andi x v reducesTo_S64x128_S_d0_1 h_S_) main_v30 main_c_11
  let main_v32 : IVec S_ 1 := andi main_v27 main_v31
  let main_v33 : FVec F S128 .f32 := Host.absf main_arg6
  fn_part2 (F := F) main_arg7 main_arg8 main_arg9 main_arg10 main_arg11 main_v32 main_v33

def fn {F : FTy → Type} [FloatOps F] (main_arg0 : FVec F S16x3x4096 .f32) (main_arg1 : FVec F S3x64 .f32) (main_arg2 : FVec F S64 .f32) (main_arg3 : FVec F S64 .f32) (main_arg4 : FVec F S64 .f32) (main_arg5 : FVec F S64x128 .f32) (main_arg6 : FVec F S128 .f32) (main_arg7 : FVec F S128 .f32) (main_arg8 : FVec F S128 .f32) (main_arg9 : FVec F S128x384 .f32) (main_arg10 : FVec F S384 .f32) (main_arg11 : FVec F S384 .f32) (main_arg12 : FVec F S384 .f32) : IVec S_ 1 :=
  let main_cst : FVec F S_ .f32 := constant S_ .f32 0x00000000#32
  let main_v0 : FVec F S384 .f32 := broadcastInDim S384 ![] bcast_S_S384 main_cst
  let main_v1 : IVec S384 1 := cmpf .oge main_arg11 main_v0
  let main_c : IVec S_ 1 := constantI S_ 1 1#1
  let main_v2 : IVec S_ 1 := (fun x v => Host.reduce IntOp.andi x v reducesTo_S384_S_d0 h_S_) main_v1 main_c
  let main_v3 : FVec F S16x3x4096 .f32 := Host.absf main_arg0
  let main_cst_0 : FVec F S_ .f32 := constant S_ .f32 0x7F800000#32
  let main_v4 : FVec F S16x3x4096 .f32 := broadcastInDim S16x3x4096 ![] bcast_S_S16x3x4096 main_cst_0
  let main_v5 : IVec S16x3x4096 1 := cmpf .olt main_v3 main_v4
  let main_c_1 : IVec S_ 1 := constantI S_ 1 1#1
  let main_v6 : IVec S_ 1 := (fun x v => Host.reduce IntOp.andi x v reducesTo_S16x3x4096_S_d0_1_2 h_S_) main_v5 main_c_1
  let main_v7 : IVec S_ 1 := andi main_v2 main_v6
  let main_v8 : FVec F S3x64 .f32 := Host.absf main_arg1
  let main_cst_2 : FVec F S_ .f32 := constant S_ .f32 0x7F800000#32
  let main_v9 : FVec F S3x64 .f32 := broadcastInDim S3x64 ![] bcast_S_S3x64 main_cst_2
  let main_v10 : IVec S3x64 1 := cmpf .olt main_v8 main_v9
  let main_c_3 : IVec S_ 1 := constantI S_ 1 1#1
  let main_v11 : IVec S_ 1 := (fun x v => Host.reduce IntOp.andi x v reducesTo_S3x64_S_d0_1 h_S_) main_v10 main_c_3
  let main_v12 : IVec S_ 1 := andi main_v7 main_v11
  let main_v13 : FVec F S64 .f32 := Host.absf main_arg2
  let main_cst_4 : FVec F S_ .f32 := constant S_ .f32 0x7F800000#32
  let main_v14 : FVec F S64 .f32 := broadcastInDim S64 ![] bcast_S_S64 main_cst_4
  let main_v15 : IVec S64 1 := cmpf .olt main_v13 main_v14
  let main_c_5 : IVec S_ 1 := constantI S_ 1 1#1
  fn_part1 (F := F) main_arg3 main_arg4 main_arg5 main_arg6 main_arg7 main_arg8 main_arg9 main_arg10 main_arg11 main_v12 main_v15 main_c_5
-- ==== Kernel.lean ====
abbrev S16x4096x3 : Shape := ⟨3, ![16, 4096, 3]⟩
abbrev S16x3x128 : Shape := ⟨3, ![16, 3, 128]⟩
abbrev S16x32x128 : Shape := ⟨3, ![16, 32, 128]⟩
abbrev S16x3x4096 : Shape := ⟨3, ![16, 3, 4096]⟩
abbrev S65536 : Shape := ⟨1, ![65536]⟩
abbrev S196608 : Shape := ⟨1, ![196608]⟩
abbrev S6144 : Shape := ⟨1, ![6144]⟩
abbrev S4096 : Shape := ⟨1, ![4096]⟩
abbrev S128 : Shape := ⟨1, ![128]⟩
abbrev S2048 : Shape := ⟨1, ![2048]⟩
abbrev S_ : Shape := ⟨0, ![]⟩
abbrev S16 : Shape := ⟨1, ![16]⟩

abbrev nBuf : Table → Nat
  | .hbm => 9
  | .local .scVector .vmem => 10
  | _ => 0

abbrev bufTy : (tb : Table) → Fin (nBuf tb) → BufTy
  | .hbm, ⟨0, _⟩ => ⟨S16x4096x3, .f32⟩
  | .hbm, ⟨1, _⟩ => ⟨S16x3x128, .f32⟩
  | .hbm, ⟨2, _⟩ => ⟨S16x32x128, .i32⟩
  | .hbm, ⟨3, _⟩ => ⟨S16x3x4096, .f32⟩
  | .hbm, ⟨4, _⟩ => ⟨S65536, .i32⟩
  | .hbm, ⟨5, _⟩ => ⟨S196608, .f32⟩
  | .hbm, ⟨6, _⟩ => ⟨S6144, .f32⟩
  | .hbm, ⟨7, _⟩ => ⟨S196608, .f32⟩
  | .hbm, ⟨8, _⟩ => ⟨S16x3x4096, .f32⟩
  | .local .scVector .vmem, ⟨0, _⟩ => ⟨S4096, .f32⟩
  | .local .scVector .vmem, ⟨1, _⟩ => ⟨S4096, .f32⟩
  | .local .scVector .vmem, ⟨2, _⟩ => ⟨S4096, .f32⟩
  | .local .scVector .vmem, ⟨3, _⟩ => ⟨S128, .f32⟩
  | .local .scVector .vmem, ⟨4, _⟩ => ⟨S128, .f32⟩
  | .local .scVector .vmem, ⟨5, _⟩ => ⟨S128, .f32⟩
  | .local .scVector .vmem, ⟨6, _⟩ => ⟨S2048, .i32⟩
  | .local .scVector .vmem, ⟨7, _⟩ => ⟨S2048, .f32⟩
  | .local .scVector .vmem, ⟨8, _⟩ => ⟨S2048, .f32⟩
  | .local .scVector .vmem, ⟨9, _⟩ => ⟨S2048, .f32⟩
  | _, _ => ⟨S16x4096x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v2_scv : Ref sig .scVector := ⟨.hbm, 5, rfl⟩
abbrev main_v3_scv : Ref sig .scVector := ⟨.hbm, 6, rfl⟩
abbrev main_v1_scv : Ref sig .scVector := ⟨.hbm, 4, rfl⟩
abbrev main_v4_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev cc0_scratch9 : Ref sig .scVector := ⟨.vmem, 9, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32 : BitVec 32 := 3#32
  let v30 : BitVec 32 := Scalar.muli v18 c3_i32
  let c0_i32_11 : BitVec 32 := 0#32
  let v31 : BitVec 32 := Scalar.addi v30 c0_i32_11
  let c4096_i32 : BitVec 32 := 4096#32
  let v32 : BitVec 32 := Scalar.muli v31 c4096_i32
  v32
def k0_off1 (i : grid0.Coords) (c0_i32_11 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32 : BitVec 32 := 3#32
  let v30 : BitVec 32 := Scalar.muli v18 c3_i32
  let v31 : BitVec 32 := Scalar.addi v30 c0_i32_11
  let c4096_i32 : BitVec 32 := 4096#32
  let v32 : BitVec 32 := Scalar.muli v31 c4096_i32
  let v33 : BitVec 32 := v32
  ![v33.toNat]
def k0_mult2 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_12 : BitVec 32 := 3#32
  let v34 : BitVec 32 := Scalar.muli v18 c3_i32_12
  let c0_i32_13 : BitVec 32 := 0#32
  let v35 : BitVec 32 := Scalar.addi v34 c0_i32_13
  let c128_i32 : BitVec 32 := 128#32
  let v36 : BitVec 32 := Scalar.muli v35 c128_i32
  v36
def k0_off2 (i : grid0.Coords) (c0_i32_13 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_12 : BitVec 32 := 3#32
  let v34 : BitVec 32 := Scalar.muli v18 c3_i32_12
  let v35 : BitVec 32 := Scalar.addi v34 c0_i32_13
  let c128_i32 : BitVec 32 := 128#32
  let v36 : BitVec 32 := Scalar.muli v35 c128_i32
  let v37 : BitVec 32 := v36
  ![v37.toNat]
def k0_mult3 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_14 : BitVec 32 := 3#32
  let v38 : BitVec 32 := Scalar.muli v18 c3_i32_14
  let c1_i32_15 : BitVec 32 := 1#32
  let v39 : BitVec 32 := Scalar.addi v38 c1_i32_15
  let c4096_i32_16 : BitVec 32 := 4096#32
  let v40 : BitVec 32 := Scalar.muli v39 c4096_i32_16
  v40
def k0_mult4 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_17 : BitVec 32 := 3#32
  let v42 : BitVec 32 := Scalar.muli v18 c3_i32_17
  let c1_i32_18 : BitVec 32 := 1#32
  let v43 : BitVec 32 := Scalar.addi v42 c1_i32_18
  let c128_i32_19 : BitVec 32 := 128#32
  let v44 : BitVec 32 := Scalar.muli v43 c128_i32_19
  v44
def k0_mult5 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_20 : BitVec 32 := 3#32
  let v46 : BitVec 32 := Scalar.muli v18 c3_i32_20
  let c2_i32_21 : BitVec 32 := 2#32
  let v47 : BitVec 32 := Scalar.addi v46 c2_i32_21
  let c4096_i32_22 : BitVec 32 := 4096#32
  let v48 : BitVec 32 := Scalar.muli v47 c4096_i32_22
  v48
def k0_mult6 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_23 : BitVec 32 := 3#32
  let v50 : BitVec 32 := Scalar.muli v18 c3_i32_23
  let c2_i32_24 : BitVec 32 := 2#32
  let v51 : BitVec 32 := Scalar.addi v50 c2_i32_24
  let c128_i32_25 : BitVec 32 := 128#32
  let v52 : BitVec 32 := Scalar.muli v51 c128_i32_25
  v52
def k0_mult7 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32_26 : BitVec 32 := 4096#32
  let v54 : BitVec 32 := Scalar.muli v18 c4096_i32_26
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v55 : BitVec 32 := Scalar.addi v54 v29
  v55
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c4096_i32_26 : BitVec 32 := 4096#32
  let v54 : BitVec 32 := Scalar.muli v18 c4096_i32_26
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v55 : BitVec 32 := Scalar.addi v54 v29
  let v56 : BitVec 32 := v55
  ![v56.toNat]

def k0_chk1 (v57 : IVec S16 32) : Prop :=
  (∀ a x, ((![v57] : Fin 1 → IVec S16 32) a x).toNat < S4096.size a) ∧
  (∀ a x, ((![v57] : Fin 1 → IVec S16 32) a x).toNat < S4096.size a) ∧
  (∀ a x, ((![v57] : Fin 1 → IVec S16 32) a x).toNat < S4096.size a)
theorem k0_idx1_inb : ∀ (v57 : IVec S16 32) (k0_hw1 : k0_chk1 v57), ∀ a x, ((![v57] : Fin 1 → IVec S16 32) a x).toNat < S4096.size a := fun v57 k0_hw1 => k0_hw1.1
theorem k0_idx2_inb : ∀ (v57 : IVec S16 32) (k0_hw1 : k0_chk1 v57), ∀ a x, ((![v57] : Fin 1 → IVec S16 32) a x).toNat < S4096.size a := fun v57 k0_hw1 => k0_hw1.2.1
theorem k0_idx3_inb : ∀ (v57 : IVec S16 32) (k0_hw1 : k0_chk1 v57), ∀ a x, ((![v57] : Fin 1 → IVec S16 32) a x).toNat < S4096.size a := fun v57 k0_hw1 => k0_hw1.2.2

def k0_chk2 (v70 : IVec S16 32) : Prop :=
  (∀ a x, ((![v70] : Fin 1 → IVec S16 32) a x).toNat < S4096.size a) ∧
  (∀ a x, ((![v70] : Fin 1 → IVec S16 32) a x).toNat < S4096.size a) ∧
  (∀ a x, ((![v70] : Fin 1 → IVec S16 32) a x).toNat < S4096.size a)
theorem k0_idx4_inb : ∀ (v70 : IVec S16 32) (k0_hw2 : k0_chk2 v70), ∀ a x, ((![v70] : Fin 1 → IVec S16 32) a x).toNat < S4096.size a := fun v70 k0_hw2 => k0_hw2.1
theorem k0_idx5_inb : ∀ (v70 : IVec S16 32) (k0_hw2 : k0_chk2 v70), ∀ a x, ((![v70] : Fin 1 → IVec S16 32) a x).toNat < S4096.size a := fun v70 k0_hw2 => k0_hw2.2.1
theorem k0_idx6_inb : ∀ (v70 : IVec S16 32) (k0_hw2 : k0_chk2 v70), ∀ a x, ((![v70] : Fin 1 → IVec S16 32) a x).toNat < S4096.size a := fun v70 k0_hw2 => k0_hw2.2.2

def k0_chk3 (v83 : IVec S16 32) : Prop :=
  (∀ a x, ((![v83] : Fin 1 → IVec S16 32) a x).toNat < S4096.size a) ∧
  (∀ a x, ((![v83] : Fin 1 → IVec S16 32) a x).toNat < S4096.size a) ∧
  (∀ a x, ((![v83] : Fin 1 → IVec S16 32) a x).toNat < S4096.size a)
theorem k0_idx7_inb : ∀ (v83 : IVec S16 32) (k0_hw3 : k0_chk3 v83), ∀ a x, ((![v83] : Fin 1 → IVec S16 32) a x).toNat < S4096.size a := fun v83 k0_hw3 => k0_hw3.1
theorem k0_idx8_inb : ∀ (v83 : IVec S16 32) (k0_hw3 : k0_chk3 v83), ∀ a x, ((![v83] : Fin 1 → IVec S16 32) a x).toNat < S4096.size a := fun v83 k0_hw3 => k0_hw3.2.1
theorem k0_idx9_inb : ∀ (v83 : IVec S16 32) (k0_hw3 : k0_chk3 v83), ∀ a x, ((![v83] : Fin 1 → IVec S16 32) a x).toNat < S4096.size a := fun v83 k0_hw3 => k0_hw3.2.2

def k0_chk4 (v96 : IVec S16 32) : Prop :=
  (∀ a x, ((![v96] : Fin 1 → IVec S16 32) a x).toNat < S4096.size a) ∧
  (∀ a x, ((![v96] : Fin 1 → IVec S16 32) a x).toNat < S4096.size a) ∧
  (∀ a x, ((![v96] : Fin 1 → IVec S16 32) a x).toNat < S4096.size a)
theorem k0_idx10_inb : ∀ (v96 : IVec S16 32) (k0_hw4 : k0_chk4 v96), ∀ a x, ((![v96] : Fin 1 → IVec S16 32) a x).toNat < S4096.size a := fun v96 k0_hw4 => k0_hw4.1
theorem k0_idx11_inb : ∀ (v96 : IVec S16 32) (k0_hw4 : k0_chk4 v96), ∀ a x, ((![v96] : Fin 1 → IVec S16 32) a x).toNat < S4096.size a := fun v96 k0_hw4 => k0_hw4.2.1
theorem k0_idx12_inb : ∀ (v96 : IVec S16 32) (k0_hw4 : k0_chk4 v96), ∀ a x, ((![v96] : Fin 1 → IVec S16 32) a x).toNat < S4096.size a := fun v96 k0_hw4 => k0_hw4.2.2

def k0_chk5 (v109 : IVec S16 32) : Prop :=
  (∀ a x, ((![v109] : Fin 1 → IVec S16 32) a x).toNat < S4096.size a) ∧
  (∀ a x, ((![v109] : Fin 1 → IVec S16 32) a x).toNat < S4096.size a) ∧
  (∀ a x, ((![v109] : Fin 1 → IVec S16 32) a x).toNat < S4096.size a)
theorem k0_idx13_inb : ∀ (v109 : IVec S16 32) (k0_hw5 : k0_chk5 v109), ∀ a x, ((![v109] : Fin 1 → IVec S16 32) a x).toNat < S4096.size a := fun v109 k0_hw5 => k0_hw5.1
theorem k0_idx14_inb : ∀ (v109 : IVec S16 32) (k0_hw5 : k0_chk5 v109), ∀ a x, ((![v109] : Fin 1 → IVec S16 32) a x).toNat < S4096.size a := fun v109 k0_hw5 => k0_hw5.2.1
theorem k0_idx15_inb : ∀ (v109 : IVec S16 32) (k0_hw5 : k0_chk5 v109), ∀ a x, ((![v109] : Fin 1 → IVec S16 32) a x).toNat < S4096.size a := fun v109 k0_hw5 => k0_hw5.2.2

def k0_chk6 (v122 : IVec S16 32) : Prop :=
  (∀ a x, ((![v122] : Fin 1 → IVec S16 32) a x).toNat < S4096.size a) ∧
  (∀ a x, ((![v122] : Fin 1 → IVec S16 32) a x).toNat < S4096.size a) ∧
  (∀ a x, ((![v122] : Fin 1 → IVec S16 32) a x).toNat < S4096.size a)
theorem k0_idx16_inb : ∀ (v122 : IVec S16 32) (k0_hw6 : k0_chk6 v122), ∀ a x, ((![v122] : Fin 1 → IVec S16 32) a x).toNat < S4096.size a := fun v122 k0_hw6 => k0_hw6.1
theorem k0_idx17_inb : ∀ (v122 : IVec S16 32) (k0_hw6 : k0_chk6 v122), ∀ a x, ((![v122] : Fin 1 → IVec S16 32) a x).toNat < S4096.size a := fun v122 k0_hw6 => k0_hw6.2.1
theorem k0_idx18_inb : ∀ (v122 : IVec S16 32) (k0_hw6 : k0_chk6 v122), ∀ a x, ((![v122] : Fin 1 → IVec S16 32) a x).toNat < S4096.size a := fun v122 k0_hw6 => k0_hw6.2.2

def k0_chk7 (v135 : IVec S16 32) : Prop :=
  (∀ a x, ((![v135] : Fin 1 → IVec S16 32) a x).toNat < S4096.size a) ∧
  (∀ a x, ((![v135] : Fin 1 → IVec S16 32) a x).toNat < S4096.size a) ∧
  (∀ a x, ((![v135] : Fin 1 → IVec S16 32) a x).toNat < S4096.size a)
theorem k0_idx19_inb : ∀ (v135 : IVec S16 32) (k0_hw7 : k0_chk7 v135), ∀ a x, ((![v135] : Fin 1 → IVec S16 32) a x).toNat < S4096.size a := fun v135 k0_hw7 => k0_hw7.1
theorem k0_idx20_inb : ∀ (v135 : IVec S16 32) (k0_hw7 : k0_chk7 v135), ∀ a x, ((![v135] : Fin 1 → IVec S16 32) a x).toNat < S4096.size a := fun v135 k0_hw7 => k0_hw7.2.1
theorem k0_idx21_inb : ∀ (v135 : IVec S16 32) (k0_hw7 : k0_chk7 v135), ∀ a x, ((![v135] : Fin 1 → IVec S16 32) a x).toNat < S4096.size a := fun v135 k0_hw7 => k0_hw7.2.2

def k0_chk8 (v148 : IVec S16 32) : Prop :=
  (∀ a x, ((![v148] : Fin 1 → IVec S16 32) a x).toNat < S4096.size a) ∧
  (∀ a x, ((![v148] : Fin 1 → IVec S16 32) a x).toNat < S4096.size a) ∧
  (∀ a x, ((![v148] : Fin 1 → IVec S16 32) a x).toNat < S4096.size a)
theorem k0_idx22_inb : ∀ (v148 : IVec S16 32) (k0_hw8 : k0_chk8 v148), ∀ a x, ((![v148] : Fin 1 → IVec S16 32) a x).toNat < S4096.size a := fun v148 k0_hw8 => k0_hw8.1
theorem k0_idx23_inb : ∀ (v148 : IVec S16 32) (k0_hw8 : k0_chk8 v148), ∀ a x, ((![v148] : Fin 1 → IVec S16 32) a x).toNat < S4096.size a := fun v148 k0_hw8 => k0_hw8.2.1
theorem k0_idx24_inb : ∀ (v148 : IVec S16 32) (k0_hw8 : k0_chk8 v148), ∀ a x, ((![v148] : Fin 1 → IVec S16 32) a x).toNat < S4096.size a := fun v148 k0_hw8 => k0_hw8.2.2

def k0_chk9 (v161 : IVec S16 32) : Prop :=
  (∀ a x, ((![v161] : Fin 1 → IVec S16 32) a x).toNat < S4096.size a) ∧
  (∀ a x, ((![v161] : Fin 1 → IVec S16 32) a x).toNat < S4096.size a) ∧
  (∀ a x, ((![v161] : Fin 1 → IVec S16 32) a x).toNat < S4096.size a)
theorem k0_idx25_inb : ∀ (v161 : IVec S16 32) (k0_hw9 : k0_chk9 v161), ∀ a x, ((![v161] : Fin 1 → IVec S16 32) a x).toNat < S4096.size a := fun v161 k0_hw9 => k0_hw9.1
theorem k0_idx26_inb : ∀ (v161 : IVec S16 32) (k0_hw9 : k0_chk9 v161), ∀ a x, ((![v161] : Fin 1 → IVec S16 32) a x).toNat < S4096.size a := fun v161 k0_hw9 => k0_hw9.2.1
theorem k0_idx27_inb : ∀ (v161 : IVec S16 32) (k0_hw9 : k0_chk9 v161), ∀ a x, ((![v161] : Fin 1 → IVec S16 32) a x).toNat < S4096.size a := fun v161 k0_hw9 => k0_hw9.2.2

def k0_chk10 (v174 : IVec S16 32) : Prop :=
  (∀ a x, ((![v174] : Fin 1 → IVec S16 32) a x).toNat < S4096.size a) ∧
  (∀ a x, ((![v174] : Fin 1 → IVec S16 32) a x).toNat < S4096.size a) ∧
  (∀ a x, ((![v174] : Fin 1 → IVec S16 32) a x).toNat < S4096.size a)
theorem k0_idx28_inb : ∀ (v174 : IVec S16 32) (k0_hw10 : k0_chk10 v174), ∀ a x, ((![v174] : Fin 1 → IVec S16 32) a x).toNat < S4096.size a := fun v174 k0_hw10 => k0_hw10.1
theorem k0_idx29_inb : ∀ (v174 : IVec S16 32) (k0_hw10 : k0_chk10 v174), ∀ a x, ((![v174] : Fin 1 → IVec S16 32) a x).toNat < S4096.size a := fun v174 k0_hw10 => k0_hw10.2.1
theorem k0_idx30_inb : ∀ (v174 : IVec S16 32) (k0_hw10 : k0_chk10 v174), ∀ a x, ((![v174] : Fin 1 → IVec S16 32) a x).toNat < S4096.size a := fun v174 k0_hw10 => k0_hw10.2.2

def k0_chk11 (v187 : IVec S16 32) : Prop :=
  (∀ a x, ((![v187] : Fin 1 → IVec S16 32) a x).toNat < S4096.size a) ∧
  (∀ a x, ((![v187] : Fin 1 → IVec S16 32) a x).toNat < S4096.size a) ∧
  (∀ a x, ((![v187] : Fin 1 → IVec S16 32) a x).toNat < S4096.size a)
theorem k0_idx31_inb : ∀ (v187 : IVec S16 32) (k0_hw11 : k0_chk11 v187), ∀ a x, ((![v187] : Fin 1 → IVec S16 32) a x).toNat < S4096.size a := fun v187 k0_hw11 => k0_hw11.1
theorem k0_idx32_inb : ∀ (v187 : IVec S16 32) (k0_hw11 : k0_chk11 v187), ∀ a x, ((![v187] : Fin 1 → IVec S16 32) a x).toNat < S4096.size a := fun v187 k0_hw11 => k0_hw11.2.1
theorem k0_idx33_inb : ∀ (v187 : IVec S16 32) (k0_hw11 : k0_chk11 v187), ∀ a x, ((![v187] : Fin 1 → IVec S16 32) a x).toNat < S4096.size a := fun v187 k0_hw11 => k0_hw11.2.2

def k0_chk12 (v200 : IVec S16 32) : Prop :=
  (∀ a x, ((![v200] : Fin 1 → IVec S16 32) a x).toNat < S4096.size a) ∧
  (∀ a x, ((![v200] : Fin 1 → IVec S16 32) a x).toNat < S4096.size a) ∧
  (∀ a x, ((![v200] : Fin 1 → IVec S16 32) a x).toNat < S4096.size a)
theorem k0_idx34_inb : ∀ (v200 : IVec S16 32) (k0_hw12 : k0_chk12 v200), ∀ a x, ((![v200] : Fin 1 → IVec S16 32) a x).toNat < S4096.size a := fun v200 k0_hw12 => k0_hw12.1
theorem k0_idx35_inb : ∀ (v200 : IVec S16 32) (k0_hw12 : k0_chk12 v200), ∀ a x, ((![v200] : Fin 1 → IVec S16 32) a x).toNat < S4096.size a := fun v200 k0_hw12 => k0_hw12.2.1
theorem k0_idx36_inb : ∀ (v200 : IVec S16 32) (k0_hw12 : k0_chk12 v200), ∀ a x, ((![v200] : Fin 1 → IVec S16 32) a x).toNat < S4096.size a := fun v200 k0_hw12 => k0_hw12.2.2

def k0_chk13 (v213 : IVec S16 32) : Prop :=
  (∀ a x, ((![v213] : Fin 1 → IVec S16 32) a x).toNat < S4096.size a) ∧
  (∀ a x, ((![v213] : Fin 1 → IVec S16 32) a x).toNat < S4096.size a) ∧
  (∀ a x, ((![v213] : Fin 1 → IVec S16 32) a x).toNat < S4096.size a)
theorem k0_idx37_inb : ∀ (v213 : IVec S16 32) (k0_hw13 : k0_chk13 v213), ∀ a x, ((![v213] : Fin 1 → IVec S16 32) a x).toNat < S4096.size a := fun v213 k0_hw13 => k0_hw13.1
theorem k0_idx38_inb : ∀ (v213 : IVec S16 32) (k0_hw13 : k0_chk13 v213), ∀ a x, ((![v213] : Fin 1 → IVec S16 32) a x).toNat < S4096.size a := fun v213 k0_hw13 => k0_hw13.2.1
theorem k0_idx39_inb : ∀ (v213 : IVec S16 32) (k0_hw13 : k0_chk13 v213), ∀ a x, ((![v213] : Fin 1 → IVec S16 32) a x).toNat < S4096.size a := fun v213 k0_hw13 => k0_hw13.2.2

def k0_chk14 (v226 : IVec S16 32) : Prop :=
  (∀ a x, ((![v226] : Fin 1 → IVec S16 32) a x).toNat < S4096.size a) ∧
  (∀ a x, ((![v226] : Fin 1 → IVec S16 32) a x).toNat < S4096.size a) ∧
  (∀ a x, ((![v226] : Fin 1 → IVec S16 32) a x).toNat < S4096.size a)
theorem k0_idx40_inb : ∀ (v226 : IVec S16 32) (k0_hw14 : k0_chk14 v226), ∀ a x, ((![v226] : Fin 1 → IVec S16 32) a x).toNat < S4096.size a := fun v226 k0_hw14 => k0_hw14.1
theorem k0_idx41_inb : ∀ (v226 : IVec S16 32) (k0_hw14 : k0_chk14 v226), ∀ a x, ((![v226] : Fin 1 → IVec S16 32) a x).toNat < S4096.size a := fun v226 k0_hw14 => k0_hw14.2.1
theorem k0_idx42_inb : ∀ (v226 : IVec S16 32) (k0_hw14 : k0_chk14 v226), ∀ a x, ((![v226] : Fin 1 → IVec S16 32) a x).toNat < S4096.size a := fun v226 k0_hw14 => k0_hw14.2.2

def k0_chk15 (v239 : IVec S16 32) : Prop :=
  (∀ a x, ((![v239] : Fin 1 → IVec S16 32) a x).toNat < S4096.size a) ∧
  (∀ a x, ((![v239] : Fin 1 → IVec S16 32) a x).toNat < S4096.size a) ∧
  (∀ a x, ((![v239] : Fin 1 → IVec S16 32) a x).toNat < S4096.size a)
theorem k0_idx43_inb : ∀ (v239 : IVec S16 32) (k0_hw15 : k0_chk15 v239), ∀ a x, ((![v239] : Fin 1 → IVec S16 32) a x).toNat < S4096.size a := fun v239 k0_hw15 => k0_hw15.1
theorem k0_idx44_inb : ∀ (v239 : IVec S16 32) (k0_hw15 : k0_chk15 v239), ∀ a x, ((![v239] : Fin 1 → IVec S16 32) a x).toNat < S4096.size a := fun v239 k0_hw15 => k0_hw15.2.1
theorem k0_idx45_inb : ∀ (v239 : IVec S16 32) (k0_hw15 : k0_chk15 v239), ∀ a x, ((![v239] : Fin 1 → IVec S16 32) a x).toNat < S4096.size a := fun v239 k0_hw15 => k0_hw15.2.2

def k0_chk16 (v252 : IVec S16 32) : Prop :=
  (∀ a x, ((![v252] : Fin 1 → IVec S16 32) a x).toNat < S4096.size a) ∧
  (∀ a x, ((![v252] : Fin 1 → IVec S16 32) a x).toNat < S4096.size a) ∧
  (∀ a x, ((![v252] : Fin 1 → IVec S16 32) a x).toNat < S4096.size a)
theorem k0_idx46_inb : ∀ (v252 : IVec S16 32) (k0_hw16 : k0_chk16 v252), ∀ a x, ((![v252] : Fin 1 → IVec S16 32) a x).toNat < S4096.size a := fun v252 k0_hw16 => k0_hw16.1
theorem k0_idx47_inb : ∀ (v252 : IVec S16 32) (k0_hw16 : k0_chk16 v252), ∀ a x, ((![v252] : Fin 1 → IVec S16 32) a x).toNat < S4096.size a := fun v252 k0_hw16 => k0_hw16.2.1
theorem k0_idx48_inb : ∀ (v252 : IVec S16 32) (k0_hw16 : k0_chk16 v252), ∀ a x, ((![v252] : Fin 1 → IVec S16 32) a x).toNat < S4096.size a := fun v252 k0_hw16 => k0_hw16.2.2

def k0_chk17 (v265 : IVec S16 32) : Prop :=
  (∀ a x, ((![v265] : Fin 1 → IVec S16 32) a x).toNat < S4096.size a) ∧
  (∀ a x, ((![v265] : Fin 1 → IVec S16 32) a x).toNat < S4096.size a) ∧
  (∀ a x, ((![v265] : Fin 1 → IVec S16 32) a x).toNat < S4096.size a)
theorem k0_idx49_inb : ∀ (v265 : IVec S16 32) (k0_hw17 : k0_chk17 v265), ∀ a x, ((![v265] : Fin 1 → IVec S16 32) a x).toNat < S4096.size a := fun v265 k0_hw17 => k0_hw17.1
theorem k0_idx50_inb : ∀ (v265 : IVec S16 32) (k0_hw17 : k0_chk17 v265), ∀ a x, ((![v265] : Fin 1 → IVec S16 32) a x).toNat < S4096.size a := fun v265 k0_hw17 => k0_hw17.2.1
theorem k0_idx51_inb : ∀ (v265 : IVec S16 32) (k0_hw17 : k0_chk17 v265), ∀ a x, ((![v265] : Fin 1 → IVec S16 32) a x).toNat < S4096.size a := fun v265 k0_hw17 => k0_hw17.2.2

def k0_chk18 (v278 : IVec S16 32) : Prop :=
  (∀ a x, ((![v278] : Fin 1 → IVec S16 32) a x).toNat < S4096.size a) ∧
  (∀ a x, ((![v278] : Fin 1 → IVec S16 32) a x).toNat < S4096.size a) ∧
  (∀ a x, ((![v278] : Fin 1 → IVec S16 32) a x).toNat < S4096.size a)
theorem k0_idx52_inb : ∀ (v278 : IVec S16 32) (k0_hw18 : k0_chk18 v278), ∀ a x, ((![v278] : Fin 1 → IVec S16 32) a x).toNat < S4096.size a := fun v278 k0_hw18 => k0_hw18.1
theorem k0_idx53_inb : ∀ (v278 : IVec S16 32) (k0_hw18 : k0_chk18 v278), ∀ a x, ((![v278] : Fin 1 → IVec S16 32) a x).toNat < S4096.size a := fun v278 k0_hw18 => k0_hw18.2.1
theorem k0_idx54_inb : ∀ (v278 : IVec S16 32) (k0_hw18 : k0_chk18 v278), ∀ a x, ((![v278] : Fin 1 → IVec S16 32) a x).toNat < S4096.size a := fun v278 k0_hw18 => k0_hw18.2.2

def k0_chk19 (v291 : IVec S16 32) : Prop :=
  (∀ a x, ((![v291] : Fin 1 → IVec S16 32) a x).toNat < S4096.size a) ∧
  (∀ a x, ((![v291] : Fin 1 → IVec S16 32) a x).toNat < S4096.size a) ∧
  (∀ a x, ((![v291] : Fin 1 → IVec S16 32) a x).toNat < S4096.size a)
theorem k0_idx55_inb : ∀ (v291 : IVec S16 32) (k0_hw19 : k0_chk19 v291), ∀ a x, ((![v291] : Fin 1 → IVec S16 32) a x).toNat < S4096.size a := fun v291 k0_hw19 => k0_hw19.1
theorem k0_idx56_inb : ∀ (v291 : IVec S16 32) (k0_hw19 : k0_chk19 v291), ∀ a x, ((![v291] : Fin 1 → IVec S16 32) a x).toNat < S4096.size a := fun v291 k0_hw19 => k0_hw19.2.1
theorem k0_idx57_inb : ∀ (v291 : IVec S16 32) (k0_hw19 : k0_chk19 v291), ∀ a x, ((![v291] : Fin 1 → IVec S16 32) a x).toNat < S4096.size a := fun v291 k0_hw19 => k0_hw19.2.2

def k0_chk20 (v304 : IVec S16 32) : Prop :=
  (∀ a x, ((![v304] : Fin 1 → IVec S16 32) a x).toNat < S4096.size a) ∧
  (∀ a x, ((![v304] : Fin 1 → IVec S16 32) a x).toNat < S4096.size a) ∧
  (∀ a x, ((![v304] : Fin 1 → IVec S16 32) a x).toNat < S4096.size a)
theorem k0_idx58_inb : ∀ (v304 : IVec S16 32) (k0_hw20 : k0_chk20 v304), ∀ a x, ((![v304] : Fin 1 → IVec S16 32) a x).toNat < S4096.size a := fun v304 k0_hw20 => k0_hw20.1
theorem k0_idx59_inb : ∀ (v304 : IVec S16 32) (k0_hw20 : k0_chk20 v304), ∀ a x, ((![v304] : Fin 1 → IVec S16 32) a x).toNat < S4096.size a := fun v304 k0_hw20 => k0_hw20.2.1
theorem k0_idx60_inb : ∀ (v304 : IVec S16 32) (k0_hw20 : k0_chk20 v304), ∀ a x, ((![v304] : Fin 1 → IVec S16 32) a x).toNat < S4096.size a := fun v304 k0_hw20 => k0_hw20.2.2

def k0_chk21 (v317 : IVec S16 32) : Prop :=
  (∀ a x, ((![v317] : Fin 1 → IVec S16 32) a x).toNat < S4096.size a) ∧
  (∀ a x, ((![v317] : Fin 1 → IVec S16 32) a x).toNat < S4096.size a) ∧
  (∀ a x, ((![v317] : Fin 1 → IVec S16 32) a x).toNat < S4096.size a)
theorem k0_idx61_inb : ∀ (v317 : IVec S16 32) (k0_hw21 : k0_chk21 v317), ∀ a x, ((![v317] : Fin 1 → IVec S16 32) a x).toNat < S4096.size a := fun v317 k0_hw21 => k0_hw21.1
theorem k0_idx62_inb : ∀ (v317 : IVec S16 32) (k0_hw21 : k0_chk21 v317), ∀ a x, ((![v317] : Fin 1 → IVec S16 32) a x).toNat < S4096.size a := fun v317 k0_hw21 => k0_hw21.2.1
theorem k0_idx63_inb : ∀ (v317 : IVec S16 32) (k0_hw21 : k0_chk21 v317), ∀ a x, ((![v317] : Fin 1 → IVec S16 32) a x).toNat < S4096.size a := fun v317 k0_hw21 => k0_hw21.2.2

def k0_chk22 (v330 : IVec S16 32) : Prop :=
  (∀ a x, ((![v330] : Fin 1 → IVec S16 32) a x).toNat < S4096.size a) ∧
  (∀ a x, ((![v330] : Fin 1 → IVec S16 32) a x).toNat < S4096.size a) ∧
  (∀ a x, ((![v330] : Fin 1 → IVec S16 32) a x).toNat < S4096.size a)
theorem k0_idx64_inb : ∀ (v330 : IVec S16 32) (k0_hw22 : k0_chk22 v330), ∀ a x, ((![v330] : Fin 1 → IVec S16 32) a x).toNat < S4096.size a := fun v330 k0_hw22 => k0_hw22.1
theorem k0_idx65_inb : ∀ (v330 : IVec S16 32) (k0_hw22 : k0_chk22 v330), ∀ a x, ((![v330] : Fin 1 → IVec S16 32) a x).toNat < S4096.size a := fun v330 k0_hw22 => k0_hw22.2.1
theorem k0_idx66_inb : ∀ (v330 : IVec S16 32) (k0_hw22 : k0_chk22 v330), ∀ a x, ((![v330] : Fin 1 → IVec S16 32) a x).toNat < S4096.size a := fun v330 k0_hw22 => k0_hw22.2.2

def k0_chk23 (v343 : IVec S16 32) : Prop :=
  (∀ a x, ((![v343] : Fin 1 → IVec S16 32) a x).toNat < S4096.size a) ∧
  (∀ a x, ((![v343] : Fin 1 → IVec S16 32) a x).toNat < S4096.size a) ∧
  (∀ a x, ((![v343] : Fin 1 → IVec S16 32) a x).toNat < S4096.size a)
theorem k0_idx67_inb : ∀ (v343 : IVec S16 32) (k0_hw23 : k0_chk23 v343), ∀ a x, ((![v343] : Fin 1 → IVec S16 32) a x).toNat < S4096.size a := fun v343 k0_hw23 => k0_hw23.1
theorem k0_idx68_inb : ∀ (v343 : IVec S16 32) (k0_hw23 : k0_chk23 v343), ∀ a x, ((![v343] : Fin 1 → IVec S16 32) a x).toNat < S4096.size a := fun v343 k0_hw23 => k0_hw23.2.1
theorem k0_idx69_inb : ∀ (v343 : IVec S16 32) (k0_hw23 : k0_chk23 v343), ∀ a x, ((![v343] : Fin 1 → IVec S16 32) a x).toNat < S4096.size a := fun v343 k0_hw23 => k0_hw23.2.2

def k0_chk24 (v356 : IVec S16 32) : Prop :=
  (∀ a x, ((![v356] : Fin 1 → IVec S16 32) a x).toNat < S4096.size a) ∧
  (∀ a x, ((![v356] : Fin 1 → IVec S16 32) a x).toNat < S4096.size a) ∧
  (∀ a x, ((![v356] : Fin 1 → IVec S16 32) a x).toNat < S4096.size a)
theorem k0_idx70_inb : ∀ (v356 : IVec S16 32) (k0_hw24 : k0_chk24 v356), ∀ a x, ((![v356] : Fin 1 → IVec S16 32) a x).toNat < S4096.size a := fun v356 k0_hw24 => k0_hw24.1
theorem k0_idx71_inb : ∀ (v356 : IVec S16 32) (k0_hw24 : k0_chk24 v356), ∀ a x, ((![v356] : Fin 1 → IVec S16 32) a x).toNat < S4096.size a := fun v356 k0_hw24 => k0_hw24.2.1
theorem k0_idx72_inb : ∀ (v356 : IVec S16 32) (k0_hw24 : k0_chk24 v356), ∀ a x, ((![v356] : Fin 1 → IVec S16 32) a x).toNat < S4096.size a := fun v356 k0_hw24 => k0_hw24.2.2

def k0_chk25 (v369 : IVec S16 32) : Prop :=
  (∀ a x, ((![v369] : Fin 1 → IVec S16 32) a x).toNat < S4096.size a) ∧
  (∀ a x, ((![v369] : Fin 1 → IVec S16 32) a x).toNat < S4096.size a) ∧
  (∀ a x, ((![v369] : Fin 1 → IVec S16 32) a x).toNat < S4096.size a)
theorem k0_idx73_inb : ∀ (v369 : IVec S16 32) (k0_hw25 : k0_chk25 v369), ∀ a x, ((![v369] : Fin 1 → IVec S16 32) a x).toNat < S4096.size a := fun v369 k0_hw25 => k0_hw25.1
theorem k0_idx74_inb : ∀ (v369 : IVec S16 32) (k0_hw25 : k0_chk25 v369), ∀ a x, ((![v369] : Fin 1 → IVec S16 32) a x).toNat < S4096.size a := fun v369 k0_hw25 => k0_hw25.2.1
theorem k0_idx75_inb : ∀ (v369 : IVec S16 32) (k0_hw25 : k0_chk25 v369), ∀ a x, ((![v369] : Fin 1 → IVec S16 32) a x).toNat < S4096.size a := fun v369 k0_hw25 => k0_hw25.2.2

def k0_chk26 (v382 : IVec S16 32) : Prop :=
  (∀ a x, ((![v382] : Fin 1 → IVec S16 32) a x).toNat < S4096.size a) ∧
  (∀ a x, ((![v382] : Fin 1 → IVec S16 32) a x).toNat < S4096.size a) ∧
  (∀ a x, ((![v382] : Fin 1 → IVec S16 32) a x).toNat < S4096.size a)
theorem k0_idx76_inb : ∀ (v382 : IVec S16 32) (k0_hw26 : k0_chk26 v382), ∀ a x, ((![v382] : Fin 1 → IVec S16 32) a x).toNat < S4096.size a := fun v382 k0_hw26 => k0_hw26.1
theorem k0_idx77_inb : ∀ (v382 : IVec S16 32) (k0_hw26 : k0_chk26 v382), ∀ a x, ((![v382] : Fin 1 → IVec S16 32) a x).toNat < S4096.size a := fun v382 k0_hw26 => k0_hw26.2.1
theorem k0_idx78_inb : ∀ (v382 : IVec S16 32) (k0_hw26 : k0_chk26 v382), ∀ a x, ((![v382] : Fin 1 → IVec S16 32) a x).toNat < S4096.size a := fun v382 k0_hw26 => k0_hw26.2.2

def k0_chk27 (v395 : IVec S16 32) : Prop :=
  (∀ a x, ((![v395] : Fin 1 → IVec S16 32) a x).toNat < S4096.size a) ∧
  (∀ a x, ((![v395] : Fin 1 → IVec S16 32) a x).toNat < S4096.size a) ∧
  (∀ a x, ((![v395] : Fin 1 → IVec S16 32) a x).toNat < S4096.size a)
theorem k0_idx79_inb : ∀ (v395 : IVec S16 32) (k0_hw27 : k0_chk27 v395), ∀ a x, ((![v395] : Fin 1 → IVec S16 32) a x).toNat < S4096.size a := fun v395 k0_hw27 => k0_hw27.1
theorem k0_idx80_inb : ∀ (v395 : IVec S16 32) (k0_hw27 : k0_chk27 v395), ∀ a x, ((![v395] : Fin 1 → IVec S16 32) a x).toNat < S4096.size a := fun v395 k0_hw27 => k0_hw27.2.1
theorem k0_idx81_inb : ∀ (v395 : IVec S16 32) (k0_hw27 : k0_chk27 v395), ∀ a x, ((![v395] : Fin 1 → IVec S16 32) a x).toNat < S4096.size a := fun v395 k0_hw27 => k0_hw27.2.2

def k0_chk28 (v408 : IVec S16 32) : Prop :=
  (∀ a x, ((![v408] : Fin 1 → IVec S16 32) a x).toNat < S4096.size a) ∧
  (∀ a x, ((![v408] : Fin 1 → IVec S16 32) a x).toNat < S4096.size a) ∧
  (∀ a x, ((![v408] : Fin 1 → IVec S16 32) a x).toNat < S4096.size a)
theorem k0_idx82_inb : ∀ (v408 : IVec S16 32) (k0_hw28 : k0_chk28 v408), ∀ a x, ((![v408] : Fin 1 → IVec S16 32) a x).toNat < S4096.size a := fun v408 k0_hw28 => k0_hw28.1
theorem k0_idx83_inb : ∀ (v408 : IVec S16 32) (k0_hw28 : k0_chk28 v408), ∀ a x, ((![v408] : Fin 1 → IVec S16 32) a x).toNat < S4096.size a := fun v408 k0_hw28 => k0_hw28.2.1
theorem k0_idx84_inb : ∀ (v408 : IVec S16 32) (k0_hw28 : k0_chk28 v408), ∀ a x, ((![v408] : Fin 1 → IVec S16 32) a x).toNat < S4096.size a := fun v408 k0_hw28 => k0_hw28.2.2

def k0_chk29 (v421 : IVec S16 32) : Prop :=
  (∀ a x, ((![v421] : Fin 1 → IVec S16 32) a x).toNat < S4096.size a) ∧
  (∀ a x, ((![v421] : Fin 1 → IVec S16 32) a x).toNat < S4096.size a) ∧
  (∀ a x, ((![v421] : Fin 1 → IVec S16 32) a x).toNat < S4096.size a)
theorem k0_idx85_inb : ∀ (v421 : IVec S16 32) (k0_hw29 : k0_chk29 v421), ∀ a x, ((![v421] : Fin 1 → IVec S16 32) a x).toNat < S4096.size a := fun v421 k0_hw29 => k0_hw29.1
theorem k0_idx86_inb : ∀ (v421 : IVec S16 32) (k0_hw29 : k0_chk29 v421), ∀ a x, ((![v421] : Fin 1 → IVec S16 32) a x).toNat < S4096.size a := fun v421 k0_hw29 => k0_hw29.2.1
theorem k0_idx87_inb : ∀ (v421 : IVec S16 32) (k0_hw29 : k0_chk29 v421), ∀ a x, ((![v421] : Fin 1 → IVec S16 32) a x).toNat < S4096.size a := fun v421 k0_hw29 => k0_hw29.2.2

def k0_chk30 (v434 : IVec S16 32) : Prop :=
  (∀ a x, ((![v434] : Fin 1 → IVec S16 32) a x).toNat < S4096.size a) ∧
  (∀ a x, ((![v434] : Fin 1 → IVec S16 32) a x).toNat < S4096.size a) ∧
  (∀ a x, ((![v434] : Fin 1 → IVec S16 32) a x).toNat < S4096.size a)
theorem k0_idx88_inb : ∀ (v434 : IVec S16 32) (k0_hw30 : k0_chk30 v434), ∀ a x, ((![v434] : Fin 1 → IVec S16 32) a x).toNat < S4096.size a := fun v434 k0_hw30 => k0_hw30.1
theorem k0_idx89_inb : ∀ (v434 : IVec S16 32) (k0_hw30 : k0_chk30 v434), ∀ a x, ((![v434] : Fin 1 → IVec S16 32) a x).toNat < S4096.size a := fun v434 k0_hw30 => k0_hw30.2.1
theorem k0_idx90_inb : ∀ (v434 : IVec S16 32) (k0_hw30 : k0_chk30 v434), ∀ a x, ((![v434] : Fin 1 → IVec S16 32) a x).toNat < S4096.size a := fun v434 k0_hw30 => k0_hw30.2.2

def k0_chk31 (v447 : IVec S16 32) : Prop :=
  (∀ a x, ((![v447] : Fin 1 → IVec S16 32) a x).toNat < S4096.size a) ∧
  (∀ a x, ((![v447] : Fin 1 → IVec S16 32) a x).toNat < S4096.size a) ∧
  (∀ a x, ((![v447] : Fin 1 → IVec S16 32) a x).toNat < S4096.size a)
theorem k0_idx91_inb : ∀ (v447 : IVec S16 32) (k0_hw31 : k0_chk31 v447), ∀ a x, ((![v447] : Fin 1 → IVec S16 32) a x).toNat < S4096.size a := fun v447 k0_hw31 => k0_hw31.1
theorem k0_idx92_inb : ∀ (v447 : IVec S16 32) (k0_hw31 : k0_chk31 v447), ∀ a x, ((![v447] : Fin 1 → IVec S16 32) a x).toNat < S4096.size a := fun v447 k0_hw31 => k0_hw31.2.1
theorem k0_idx93_inb : ∀ (v447 : IVec S16 32) (k0_hw31 : k0_chk31 v447), ∀ a x, ((![v447] : Fin 1 → IVec S16 32) a x).toNat < S4096.size a := fun v447 k0_hw31 => k0_hw31.2.2

def k0_chk32 (v460 : IVec S16 32) : Prop :=
  (∀ a x, ((![v460] : Fin 1 → IVec S16 32) a x).toNat < S4096.size a) ∧
  (∀ a x, ((![v460] : Fin 1 → IVec S16 32) a x).toNat < S4096.size a) ∧
  (∀ a x, ((![v460] : Fin 1 → IVec S16 32) a x).toNat < S4096.size a)
theorem k0_idx94_inb : ∀ (v460 : IVec S16 32) (k0_hw32 : k0_chk32 v460), ∀ a x, ((![v460] : Fin 1 → IVec S16 32) a x).toNat < S4096.size a := fun v460 k0_hw32 => k0_hw32.1
theorem k0_idx95_inb : ∀ (v460 : IVec S16 32) (k0_hw32 : k0_chk32 v460), ∀ a x, ((![v460] : Fin 1 → IVec S16 32) a x).toNat < S4096.size a := fun v460 k0_hw32 => k0_hw32.2.1
theorem k0_idx96_inb : ∀ (v460 : IVec S16 32) (k0_hw32 : k0_chk32 v460), ∀ a x, ((![v460] : Fin 1 → IVec S16 32) a x).toNat < S4096.size a := fun v460 k0_hw32 => k0_hw32.2.2

def k0_chk33 (v473 : IVec S16 32) : Prop :=
  (∀ a x, ((![v473] : Fin 1 → IVec S16 32) a x).toNat < S4096.size a) ∧
  (∀ a x, ((![v473] : Fin 1 → IVec S16 32) a x).toNat < S4096.size a) ∧
  (∀ a x, ((![v473] : Fin 1 → IVec S16 32) a x).toNat < S4096.size a)
theorem k0_idx97_inb : ∀ (v473 : IVec S16 32) (k0_hw33 : k0_chk33 v473), ∀ a x, ((![v473] : Fin 1 → IVec S16 32) a x).toNat < S4096.size a := fun v473 k0_hw33 => k0_hw33.1
theorem k0_idx98_inb : ∀ (v473 : IVec S16 32) (k0_hw33 : k0_chk33 v473), ∀ a x, ((![v473] : Fin 1 → IVec S16 32) a x).toNat < S4096.size a := fun v473 k0_hw33 => k0_hw33.2.1
theorem k0_idx99_inb : ∀ (v473 : IVec S16 32) (k0_hw33 : k0_chk33 v473), ∀ a x, ((![v473] : Fin 1 → IVec S16 32) a x).toNat < S4096.size a := fun v473 k0_hw33 => k0_hw33.2.2

def k0_chk34 (v486 : IVec S16 32) : Prop :=
  (∀ a x, ((![v486] : Fin 1 → IVec S16 32) a x).toNat < S4096.size a) ∧
  (∀ a x, ((![v486] : Fin 1 → IVec S16 32) a x).toNat < S4096.size a) ∧
  (∀ a x, ((![v486] : Fin 1 → IVec S16 32) a x).toNat < S4096.size a)
theorem k0_idx100_inb : ∀ (v486 : IVec S16 32) (k0_hw34 : k0_chk34 v486), ∀ a x, ((![v486] : Fin 1 → IVec S16 32) a x).toNat < S4096.size a := fun v486 k0_hw34 => k0_hw34.1
theorem k0_idx101_inb : ∀ (v486 : IVec S16 32) (k0_hw34 : k0_chk34 v486), ∀ a x, ((![v486] : Fin 1 → IVec S16 32) a x).toNat < S4096.size a := fun v486 k0_hw34 => k0_hw34.2.1
theorem k0_idx102_inb : ∀ (v486 : IVec S16 32) (k0_hw34 : k0_chk34 v486), ∀ a x, ((![v486] : Fin 1 → IVec S16 32) a x).toNat < S4096.size a := fun v486 k0_hw34 => k0_hw34.2.2

def k0_chk35 (v499 : IVec S16 32) : Prop :=
  (∀ a x, ((![v499] : Fin 1 → IVec S16 32) a x).toNat < S4096.size a) ∧
  (∀ a x, ((![v499] : Fin 1 → IVec S16 32) a x).toNat < S4096.size a) ∧
  (∀ a x, ((![v499] : Fin 1 → IVec S16 32) a x).toNat < S4096.size a)
theorem k0_idx103_inb : ∀ (v499 : IVec S16 32) (k0_hw35 : k0_chk35 v499), ∀ a x, ((![v499] : Fin 1 → IVec S16 32) a x).toNat < S4096.size a := fun v499 k0_hw35 => k0_hw35.1
theorem k0_idx104_inb : ∀ (v499 : IVec S16 32) (k0_hw35 : k0_chk35 v499), ∀ a x, ((![v499] : Fin 1 → IVec S16 32) a x).toNat < S4096.size a := fun v499 k0_hw35 => k0_hw35.2.1
theorem k0_idx105_inb : ∀ (v499 : IVec S16 32) (k0_hw35 : k0_chk35 v499), ∀ a x, ((![v499] : Fin 1 → IVec S16 32) a x).toNat < S4096.size a := fun v499 k0_hw35 => k0_hw35.2.2

def k0_chk36 (v512 : IVec S16 32) : Prop :=
  (∀ a x, ((![v512] : Fin 1 → IVec S16 32) a x).toNat < S4096.size a) ∧
  (∀ a x, ((![v512] : Fin 1 → IVec S16 32) a x).toNat < S4096.size a) ∧
  (∀ a x, ((![v512] : Fin 1 → IVec S16 32) a x).toNat < S4096.size a)
theorem k0_idx106_inb : ∀ (v512 : IVec S16 32) (k0_hw36 : k0_chk36 v512), ∀ a x, ((![v512] : Fin 1 → IVec S16 32) a x).toNat < S4096.size a := fun v512 k0_hw36 => k0_hw36.1
theorem k0_idx107_inb : ∀ (v512 : IVec S16 32) (k0_hw36 : k0_chk36 v512), ∀ a x, ((![v512] : Fin 1 → IVec S16 32) a x).toNat < S4096.size a := fun v512 k0_hw36 => k0_hw36.2.1
theorem k0_idx108_inb : ∀ (v512 : IVec S16 32) (k0_hw36 : k0_chk36 v512), ∀ a x, ((![v512] : Fin 1 → IVec S16 32) a x).toNat < S4096.size a := fun v512 k0_hw36 => k0_hw36.2.2

def k0_chk37 (v525 : IVec S16 32) : Prop :=
  (∀ a x, ((![v525] : Fin 1 → IVec S16 32) a x).toNat < S4096.size a) ∧
  (∀ a x, ((![v525] : Fin 1 → IVec S16 32) a x).toNat < S4096.size a) ∧
  (∀ a x, ((![v525] : Fin 1 → IVec S16 32) a x).toNat < S4096.size a)
theorem k0_idx109_inb : ∀ (v525 : IVec S16 32) (k0_hw37 : k0_chk37 v525), ∀ a x, ((![v525] : Fin 1 → IVec S16 32) a x).toNat < S4096.size a := fun v525 k0_hw37 => k0_hw37.1
theorem k0_idx110_inb : ∀ (v525 : IVec S16 32) (k0_hw37 : k0_chk37 v525), ∀ a x, ((![v525] : Fin 1 → IVec S16 32) a x).toNat < S4096.size a := fun v525 k0_hw37 => k0_hw37.2.1
theorem k0_idx111_inb : ∀ (v525 : IVec S16 32) (k0_hw37 : k0_chk37 v525), ∀ a x, ((![v525] : Fin 1 → IVec S16 32) a x).toNat < S4096.size a := fun v525 k0_hw37 => k0_hw37.2.2

def k0_chk38 (v538 : IVec S16 32) : Prop :=
  (∀ a x, ((![v538] : Fin 1 → IVec S16 32) a x).toNat < S4096.size a) ∧
  (∀ a x, ((![v538] : Fin 1 → IVec S16 32) a x).toNat < S4096.size a) ∧
  (∀ a x, ((![v538] : Fin 1 → IVec S16 32) a x).toNat < S4096.size a)
theorem k0_idx112_inb : ∀ (v538 : IVec S16 32) (k0_hw38 : k0_chk38 v538), ∀ a x, ((![v538] : Fin 1 → IVec S16 32) a x).toNat < S4096.size a := fun v538 k0_hw38 => k0_hw38.1
theorem k0_idx113_inb : ∀ (v538 : IVec S16 32) (k0_hw38 : k0_chk38 v538), ∀ a x, ((![v538] : Fin 1 → IVec S16 32) a x).toNat < S4096.size a := fun v538 k0_hw38 => k0_hw38.2.1
theorem k0_idx114_inb : ∀ (v538 : IVec S16 32) (k0_hw38 : k0_chk38 v538), ∀ a x, ((![v538] : Fin 1 → IVec S16 32) a x).toNat < S4096.size a := fun v538 k0_hw38 => k0_hw38.2.2

def k0_chk39 (v551 : IVec S16 32) : Prop :=
  (∀ a x, ((![v551] : Fin 1 → IVec S16 32) a x).toNat < S4096.size a) ∧
  (∀ a x, ((![v551] : Fin 1 → IVec S16 32) a x).toNat < S4096.size a) ∧
  (∀ a x, ((![v551] : Fin 1 → IVec S16 32) a x).toNat < S4096.size a)
theorem k0_idx115_inb : ∀ (v551 : IVec S16 32) (k0_hw39 : k0_chk39 v551), ∀ a x, ((![v551] : Fin 1 → IVec S16 32) a x).toNat < S4096.size a := fun v551 k0_hw39 => k0_hw39.1
theorem k0_idx116_inb : ∀ (v551 : IVec S16 32) (k0_hw39 : k0_chk39 v551), ∀ a x, ((![v551] : Fin 1 → IVec S16 32) a x).toNat < S4096.size a := fun v551 k0_hw39 => k0_hw39.2.1
theorem k0_idx117_inb : ∀ (v551 : IVec S16 32) (k0_hw39 : k0_chk39 v551), ∀ a x, ((![v551] : Fin 1 → IVec S16 32) a x).toNat < S4096.size a := fun v551 k0_hw39 => k0_hw39.2.2

def k0_chk40 (v564 : IVec S16 32) : Prop :=
  (∀ a x, ((![v564] : Fin 1 → IVec S16 32) a x).toNat < S4096.size a) ∧
  (∀ a x, ((![v564] : Fin 1 → IVec S16 32) a x).toNat < S4096.size a) ∧
  (∀ a x, ((![v564] : Fin 1 → IVec S16 32) a x).toNat < S4096.size a)
theorem k0_idx118_inb : ∀ (v564 : IVec S16 32) (k0_hw40 : k0_chk40 v564), ∀ a x, ((![v564] : Fin 1 → IVec S16 32) a x).toNat < S4096.size a := fun v564 k0_hw40 => k0_hw40.1
theorem k0_idx119_inb : ∀ (v564 : IVec S16 32) (k0_hw40 : k0_chk40 v564), ∀ a x, ((![v564] : Fin 1 → IVec S16 32) a x).toNat < S4096.size a := fun v564 k0_hw40 => k0_hw40.2.1
theorem k0_idx120_inb : ∀ (v564 : IVec S16 32) (k0_hw40 : k0_chk40 v564), ∀ a x, ((![v564] : Fin 1 → IVec S16 32) a x).toNat < S4096.size a := fun v564 k0_hw40 => k0_hw40.2.2

def k0_chk41 (v577 : IVec S16 32) : Prop :=
  (∀ a x, ((![v577] : Fin 1 → IVec S16 32) a x).toNat < S4096.size a) ∧
  (∀ a x, ((![v577] : Fin 1 → IVec S16 32) a x).toNat < S4096.size a) ∧
  (∀ a x, ((![v577] : Fin 1 → IVec S16 32) a x).toNat < S4096.size a)
theorem k0_idx121_inb : ∀ (v577 : IVec S16 32) (k0_hw41 : k0_chk41 v577), ∀ a x, ((![v577] : Fin 1 → IVec S16 32) a x).toNat < S4096.size a := fun v577 k0_hw41 => k0_hw41.1
theorem k0_idx122_inb : ∀ (v577 : IVec S16 32) (k0_hw41 : k0_chk41 v577), ∀ a x, ((![v577] : Fin 1 → IVec S16 32) a x).toNat < S4096.size a := fun v577 k0_hw41 => k0_hw41.2.1
theorem k0_idx123_inb : ∀ (v577 : IVec S16 32) (k0_hw41 : k0_chk41 v577), ∀ a x, ((![v577] : Fin 1 → IVec S16 32) a x).toNat < S4096.size a := fun v577 k0_hw41 => k0_hw41.2.2

def k0_chk42 (v590 : IVec S16 32) : Prop :=
  (∀ a x, ((![v590] : Fin 1 → IVec S16 32) a x).toNat < S4096.size a) ∧
  (∀ a x, ((![v590] : Fin 1 → IVec S16 32) a x).toNat < S4096.size a) ∧
  (∀ a x, ((![v590] : Fin 1 → IVec S16 32) a x).toNat < S4096.size a)
theorem k0_idx124_inb : ∀ (v590 : IVec S16 32) (k0_hw42 : k0_chk42 v590), ∀ a x, ((![v590] : Fin 1 → IVec S16 32) a x).toNat < S4096.size a := fun v590 k0_hw42 => k0_hw42.1
theorem k0_idx125_inb : ∀ (v590 : IVec S16 32) (k0_hw42 : k0_chk42 v590), ∀ a x, ((![v590] : Fin 1 → IVec S16 32) a x).toNat < S4096.size a := fun v590 k0_hw42 => k0_hw42.2.1
theorem k0_idx126_inb : ∀ (v590 : IVec S16 32) (k0_hw42 : k0_chk42 v590), ∀ a x, ((![v590] : Fin 1 → IVec S16 32) a x).toNat < S4096.size a := fun v590 k0_hw42 => k0_hw42.2.2

def k0_chk43 (v603 : IVec S16 32) : Prop :=
  (∀ a x, ((![v603] : Fin 1 → IVec S16 32) a x).toNat < S4096.size a) ∧
  (∀ a x, ((![v603] : Fin 1 → IVec S16 32) a x).toNat < S4096.size a) ∧
  (∀ a x, ((![v603] : Fin 1 → IVec S16 32) a x).toNat < S4096.size a)
theorem k0_idx127_inb : ∀ (v603 : IVec S16 32) (k0_hw43 : k0_chk43 v603), ∀ a x, ((![v603] : Fin 1 → IVec S16 32) a x).toNat < S4096.size a := fun v603 k0_hw43 => k0_hw43.1
theorem k0_idx128_inb : ∀ (v603 : IVec S16 32) (k0_hw43 : k0_chk43 v603), ∀ a x, ((![v603] : Fin 1 → IVec S16 32) a x).toNat < S4096.size a := fun v603 k0_hw43 => k0_hw43.2.1
theorem k0_idx129_inb : ∀ (v603 : IVec S16 32) (k0_hw43 : k0_chk43 v603), ∀ a x, ((![v603] : Fin 1 → IVec S16 32) a x).toNat < S4096.size a := fun v603 k0_hw43 => k0_hw43.2.2

def k0_chk44 (v616 : IVec S16 32) : Prop :=
  (∀ a x, ((![v616] : Fin 1 → IVec S16 32) a x).toNat < S4096.size a) ∧
  (∀ a x, ((![v616] : Fin 1 → IVec S16 32) a x).toNat < S4096.size a) ∧
  (∀ a x, ((![v616] : Fin 1 → IVec S16 32) a x).toNat < S4096.size a)
theorem k0_idx130_inb : ∀ (v616 : IVec S16 32) (k0_hw44 : k0_chk44 v616), ∀ a x, ((![v616] : Fin 1 → IVec S16 32) a x).toNat < S4096.size a := fun v616 k0_hw44 => k0_hw44.1
theorem k0_idx131_inb : ∀ (v616 : IVec S16 32) (k0_hw44 : k0_chk44 v616), ∀ a x, ((![v616] : Fin 1 → IVec S16 32) a x).toNat < S4096.size a := fun v616 k0_hw44 => k0_hw44.2.1
theorem k0_idx132_inb : ∀ (v616 : IVec S16 32) (k0_hw44 : k0_chk44 v616), ∀ a x, ((![v616] : Fin 1 → IVec S16 32) a x).toNat < S4096.size a := fun v616 k0_hw44 => k0_hw44.2.2

def k0_chk45 (v629 : IVec S16 32) : Prop :=
  (∀ a x, ((![v629] : Fin 1 → IVec S16 32) a x).toNat < S4096.size a) ∧
  (∀ a x, ((![v629] : Fin 1 → IVec S16 32) a x).toNat < S4096.size a) ∧
  (∀ a x, ((![v629] : Fin 1 → IVec S16 32) a x).toNat < S4096.size a)
theorem k0_idx133_inb : ∀ (v629 : IVec S16 32) (k0_hw45 : k0_chk45 v629), ∀ a x, ((![v629] : Fin 1 → IVec S16 32) a x).toNat < S4096.size a := fun v629 k0_hw45 => k0_hw45.1
theorem k0_idx134_inb : ∀ (v629 : IVec S16 32) (k0_hw45 : k0_chk45 v629), ∀ a x, ((![v629] : Fin 1 → IVec S16 32) a x).toNat < S4096.size a := fun v629 k0_hw45 => k0_hw45.2.1
theorem k0_idx135_inb : ∀ (v629 : IVec S16 32) (k0_hw45 : k0_chk45 v629), ∀ a x, ((![v629] : Fin 1 → IVec S16 32) a x).toNat < S4096.size a := fun v629 k0_hw45 => k0_hw45.2.2

def k0_chk46 (v642 : IVec S16 32) : Prop :=
  (∀ a x, ((![v642] : Fin 1 → IVec S16 32) a x).toNat < S4096.size a) ∧
  (∀ a x, ((![v642] : Fin 1 → IVec S16 32) a x).toNat < S4096.size a) ∧
  (∀ a x, ((![v642] : Fin 1 → IVec S16 32) a x).toNat < S4096.size a)
theorem k0_idx136_inb : ∀ (v642 : IVec S16 32) (k0_hw46 : k0_chk46 v642), ∀ a x, ((![v642] : Fin 1 → IVec S16 32) a x).toNat < S4096.size a := fun v642 k0_hw46 => k0_hw46.1
theorem k0_idx137_inb : ∀ (v642 : IVec S16 32) (k0_hw46 : k0_chk46 v642), ∀ a x, ((![v642] : Fin 1 → IVec S16 32) a x).toNat < S4096.size a := fun v642 k0_hw46 => k0_hw46.2.1
theorem k0_idx138_inb : ∀ (v642 : IVec S16 32) (k0_hw46 : k0_chk46 v642), ∀ a x, ((![v642] : Fin 1 → IVec S16 32) a x).toNat < S4096.size a := fun v642 k0_hw46 => k0_hw46.2.2

def k0_chk47 (v655 : IVec S16 32) : Prop :=
  (∀ a x, ((![v655] : Fin 1 → IVec S16 32) a x).toNat < S4096.size a) ∧
  (∀ a x, ((![v655] : Fin 1 → IVec S16 32) a x).toNat < S4096.size a) ∧
  (∀ a x, ((![v655] : Fin 1 → IVec S16 32) a x).toNat < S4096.size a)
theorem k0_idx139_inb : ∀ (v655 : IVec S16 32) (k0_hw47 : k0_chk47 v655), ∀ a x, ((![v655] : Fin 1 → IVec S16 32) a x).toNat < S4096.size a := fun v655 k0_hw47 => k0_hw47.1
theorem k0_idx140_inb : ∀ (v655 : IVec S16 32) (k0_hw47 : k0_chk47 v655), ∀ a x, ((![v655] : Fin 1 → IVec S16 32) a x).toNat < S4096.size a := fun v655 k0_hw47 => k0_hw47.2.1
theorem k0_idx141_inb : ∀ (v655 : IVec S16 32) (k0_hw47 : k0_chk47 v655), ∀ a x, ((![v655] : Fin 1 → IVec S16 32) a x).toNat < S4096.size a := fun v655 k0_hw47 => k0_hw47.2.2

def k0_chk48 (v668 : IVec S16 32) : Prop :=
  (∀ a x, ((![v668] : Fin 1 → IVec S16 32) a x).toNat < S4096.size a) ∧
  (∀ a x, ((![v668] : Fin 1 → IVec S16 32) a x).toNat < S4096.size a) ∧
  (∀ a x, ((![v668] : Fin 1 → IVec S16 32) a x).toNat < S4096.size a)
theorem k0_idx142_inb : ∀ (v668 : IVec S16 32) (k0_hw48 : k0_chk48 v668), ∀ a x, ((![v668] : Fin 1 → IVec S16 32) a x).toNat < S4096.size a := fun v668 k0_hw48 => k0_hw48.1
theorem k0_idx143_inb : ∀ (v668 : IVec S16 32) (k0_hw48 : k0_chk48 v668), ∀ a x, ((![v668] : Fin 1 → IVec S16 32) a x).toNat < S4096.size a := fun v668 k0_hw48 => k0_hw48.2.1
theorem k0_idx144_inb : ∀ (v668 : IVec S16 32) (k0_hw48 : k0_chk48 v668), ∀ a x, ((![v668] : Fin 1 → IVec S16 32) a x).toNat < S4096.size a := fun v668 k0_hw48 => k0_hw48.2.2

def k0_chk49 (v681 : IVec S16 32) : Prop :=
  (∀ a x, ((![v681] : Fin 1 → IVec S16 32) a x).toNat < S4096.size a) ∧
  (∀ a x, ((![v681] : Fin 1 → IVec S16 32) a x).toNat < S4096.size a) ∧
  (∀ a x, ((![v681] : Fin 1 → IVec S16 32) a x).toNat < S4096.size a)
theorem k0_idx145_inb : ∀ (v681 : IVec S16 32) (k0_hw49 : k0_chk49 v681), ∀ a x, ((![v681] : Fin 1 → IVec S16 32) a x).toNat < S4096.size a := fun v681 k0_hw49 => k0_hw49.1
theorem k0_idx146_inb : ∀ (v681 : IVec S16 32) (k0_hw49 : k0_chk49 v681), ∀ a x, ((![v681] : Fin 1 → IVec S16 32) a x).toNat < S4096.size a := fun v681 k0_hw49 => k0_hw49.2.1
theorem k0_idx147_inb : ∀ (v681 : IVec S16 32) (k0_hw49 : k0_chk49 v681), ∀ a x, ((![v681] : Fin 1 → IVec S16 32) a x).toNat < S4096.size a := fun v681 k0_hw49 => k0_hw49.2.2

def k0_chk50 (v694 : IVec S16 32) : Prop :=
  (∀ a x, ((![v694] : Fin 1 → IVec S16 32) a x).toNat < S4096.size a) ∧
  (∀ a x, ((![v694] : Fin 1 → IVec S16 32) a x).toNat < S4096.size a) ∧
  (∀ a x, ((![v694] : Fin 1 → IVec S16 32) a x).toNat < S4096.size a)
theorem k0_idx148_inb : ∀ (v694 : IVec S16 32) (k0_hw50 : k0_chk50 v694), ∀ a x, ((![v694] : Fin 1 → IVec S16 32) a x).toNat < S4096.size a := fun v694 k0_hw50 => k0_hw50.1
theorem k0_idx149_inb : ∀ (v694 : IVec S16 32) (k0_hw50 : k0_chk50 v694), ∀ a x, ((![v694] : Fin 1 → IVec S16 32) a x).toNat < S4096.size a := fun v694 k0_hw50 => k0_hw50.2.1
theorem k0_idx150_inb : ∀ (v694 : IVec S16 32) (k0_hw50 : k0_chk50 v694), ∀ a x, ((![v694] : Fin 1 → IVec S16 32) a x).toNat < S4096.size a := fun v694 k0_hw50 => k0_hw50.2.2

def k0_chk51 (v707 : IVec S16 32) : Prop :=
  (∀ a x, ((![v707] : Fin 1 → IVec S16 32) a x).toNat < S4096.size a) ∧
  (∀ a x, ((![v707] : Fin 1 → IVec S16 32) a x).toNat < S4096.size a) ∧
  (∀ a x, ((![v707] : Fin 1 → IVec S16 32) a x).toNat < S4096.size a)
theorem k0_idx151_inb : ∀ (v707 : IVec S16 32) (k0_hw51 : k0_chk51 v707), ∀ a x, ((![v707] : Fin 1 → IVec S16 32) a x).toNat < S4096.size a := fun v707 k0_hw51 => k0_hw51.1
theorem k0_idx152_inb : ∀ (v707 : IVec S16 32) (k0_hw51 : k0_chk51 v707), ∀ a x, ((![v707] : Fin 1 → IVec S16 32) a x).toNat < S4096.size a := fun v707 k0_hw51 => k0_hw51.2.1
theorem k0_idx153_inb : ∀ (v707 : IVec S16 32) (k0_hw51 : k0_chk51 v707), ∀ a x, ((![v707] : Fin 1 → IVec S16 32) a x).toNat < S4096.size a := fun v707 k0_hw51 => k0_hw51.2.2

def k0_chk52 (v720 : IVec S16 32) : Prop :=
  (∀ a x, ((![v720] : Fin 1 → IVec S16 32) a x).toNat < S4096.size a) ∧
  (∀ a x, ((![v720] : Fin 1 → IVec S16 32) a x).toNat < S4096.size a) ∧
  (∀ a x, ((![v720] : Fin 1 → IVec S16 32) a x).toNat < S4096.size a)
theorem k0_idx154_inb : ∀ (v720 : IVec S16 32) (k0_hw52 : k0_chk52 v720), ∀ a x, ((![v720] : Fin 1 → IVec S16 32) a x).toNat < S4096.size a := fun v720 k0_hw52 => k0_hw52.1
theorem k0_idx155_inb : ∀ (v720 : IVec S16 32) (k0_hw52 : k0_chk52 v720), ∀ a x, ((![v720] : Fin 1 → IVec S16 32) a x).toNat < S4096.size a := fun v720 k0_hw52 => k0_hw52.2.1
theorem k0_idx156_inb : ∀ (v720 : IVec S16 32) (k0_hw52 : k0_chk52 v720), ∀ a x, ((![v720] : Fin 1 → IVec S16 32) a x).toNat < S4096.size a := fun v720 k0_hw52 => k0_hw52.2.2

def k0_chk53 (v733 : IVec S16 32) : Prop :=
  (∀ a x, ((![v733] : Fin 1 → IVec S16 32) a x).toNat < S4096.size a) ∧
  (∀ a x, ((![v733] : Fin 1 → IVec S16 32) a x).toNat < S4096.size a) ∧
  (∀ a x, ((![v733] : Fin 1 → IVec S16 32) a x).toNat < S4096.size a)
theorem k0_idx157_inb : ∀ (v733 : IVec S16 32) (k0_hw53 : k0_chk53 v733), ∀ a x, ((![v733] : Fin 1 → IVec S16 32) a x).toNat < S4096.size a := fun v733 k0_hw53 => k0_hw53.1
theorem k0_idx158_inb : ∀ (v733 : IVec S16 32) (k0_hw53 : k0_chk53 v733), ∀ a x, ((![v733] : Fin 1 → IVec S16 32) a x).toNat < S4096.size a := fun v733 k0_hw53 => k0_hw53.2.1
theorem k0_idx159_inb : ∀ (v733 : IVec S16 32) (k0_hw53 : k0_chk53 v733), ∀ a x, ((![v733] : Fin 1 → IVec S16 32) a x).toNat < S4096.size a := fun v733 k0_hw53 => k0_hw53.2.2

def k0_chk54 (v746 : IVec S16 32) : Prop :=
  (∀ a x, ((![v746] : Fin 1 → IVec S16 32) a x).toNat < S4096.size a) ∧
  (∀ a x, ((![v746] : Fin 1 → IVec S16 32) a x).toNat < S4096.size a) ∧
  (∀ a x, ((![v746] : Fin 1 → IVec S16 32) a x).toNat < S4096.size a)
theorem k0_idx160_inb : ∀ (v746 : IVec S16 32) (k0_hw54 : k0_chk54 v746), ∀ a x, ((![v746] : Fin 1 → IVec S16 32) a x).toNat < S4096.size a := fun v746 k0_hw54 => k0_hw54.1
theorem k0_idx161_inb : ∀ (v746 : IVec S16 32) (k0_hw54 : k0_chk54 v746), ∀ a x, ((![v746] : Fin 1 → IVec S16 32) a x).toNat < S4096.size a := fun v746 k0_hw54 => k0_hw54.2.1
theorem k0_idx162_inb : ∀ (v746 : IVec S16 32) (k0_hw54 : k0_chk54 v746), ∀ a x, ((![v746] : Fin 1 → IVec S16 32) a x).toNat < S4096.size a := fun v746 k0_hw54 => k0_hw54.2.2

def k0_chk55 (v759 : IVec S16 32) : Prop :=
  (∀ a x, ((![v759] : Fin 1 → IVec S16 32) a x).toNat < S4096.size a) ∧
  (∀ a x, ((![v759] : Fin 1 → IVec S16 32) a x).toNat < S4096.size a) ∧
  (∀ a x, ((![v759] : Fin 1 → IVec S16 32) a x).toNat < S4096.size a)
theorem k0_idx163_inb : ∀ (v759 : IVec S16 32) (k0_hw55 : k0_chk55 v759), ∀ a x, ((![v759] : Fin 1 → IVec S16 32) a x).toNat < S4096.size a := fun v759 k0_hw55 => k0_hw55.1
theorem k0_idx164_inb : ∀ (v759 : IVec S16 32) (k0_hw55 : k0_chk55 v759), ∀ a x, ((![v759] : Fin 1 → IVec S16 32) a x).toNat < S4096.size a := fun v759 k0_hw55 => k0_hw55.2.1
theorem k0_idx165_inb : ∀ (v759 : IVec S16 32) (k0_hw55 : k0_chk55 v759), ∀ a x, ((![v759] : Fin 1 → IVec S16 32) a x).toNat < S4096.size a := fun v759 k0_hw55 => k0_hw55.2.2

def k0_chk56 (v772 : IVec S16 32) : Prop :=
  (∀ a x, ((![v772] : Fin 1 → IVec S16 32) a x).toNat < S4096.size a) ∧
  (∀ a x, ((![v772] : Fin 1 → IVec S16 32) a x).toNat < S4096.size a) ∧
  (∀ a x, ((![v772] : Fin 1 → IVec S16 32) a x).toNat < S4096.size a)
theorem k0_idx166_inb : ∀ (v772 : IVec S16 32) (k0_hw56 : k0_chk56 v772), ∀ a x, ((![v772] : Fin 1 → IVec S16 32) a x).toNat < S4096.size a := fun v772 k0_hw56 => k0_hw56.1
theorem k0_idx167_inb : ∀ (v772 : IVec S16 32) (k0_hw56 : k0_chk56 v772), ∀ a x, ((![v772] : Fin 1 → IVec S16 32) a x).toNat < S4096.size a := fun v772 k0_hw56 => k0_hw56.2.1
theorem k0_idx168_inb : ∀ (v772 : IVec S16 32) (k0_hw56 : k0_chk56 v772), ∀ a x, ((![v772] : Fin 1 → IVec S16 32) a x).toNat < S4096.size a := fun v772 k0_hw56 => k0_hw56.2.2

def k0_chk57 (v785 : IVec S16 32) : Prop :=
  (∀ a x, ((![v785] : Fin 1 → IVec S16 32) a x).toNat < S4096.size a) ∧
  (∀ a x, ((![v785] : Fin 1 → IVec S16 32) a x).toNat < S4096.size a) ∧
  (∀ a x, ((![v785] : Fin 1 → IVec S16 32) a x).toNat < S4096.size a)
theorem k0_idx169_inb : ∀ (v785 : IVec S16 32) (k0_hw57 : k0_chk57 v785), ∀ a x, ((![v785] : Fin 1 → IVec S16 32) a x).toNat < S4096.size a := fun v785 k0_hw57 => k0_hw57.1
theorem k0_idx170_inb : ∀ (v785 : IVec S16 32) (k0_hw57 : k0_chk57 v785), ∀ a x, ((![v785] : Fin 1 → IVec S16 32) a x).toNat < S4096.size a := fun v785 k0_hw57 => k0_hw57.2.1
theorem k0_idx171_inb : ∀ (v785 : IVec S16 32) (k0_hw57 : k0_chk57 v785), ∀ a x, ((![v785] : Fin 1 → IVec S16 32) a x).toNat < S4096.size a := fun v785 k0_hw57 => k0_hw57.2.2

def k0_chk58 (v798 : IVec S16 32) : Prop :=
  (∀ a x, ((![v798] : Fin 1 → IVec S16 32) a x).toNat < S4096.size a) ∧
  (∀ a x, ((![v798] : Fin 1 → IVec S16 32) a x).toNat < S4096.size a) ∧
  (∀ a x, ((![v798] : Fin 1 → IVec S16 32) a x).toNat < S4096.size a)
theorem k0_idx172_inb : ∀ (v798 : IVec S16 32) (k0_hw58 : k0_chk58 v798), ∀ a x, ((![v798] : Fin 1 → IVec S16 32) a x).toNat < S4096.size a := fun v798 k0_hw58 => k0_hw58.1
theorem k0_idx173_inb : ∀ (v798 : IVec S16 32) (k0_hw58 : k0_chk58 v798), ∀ a x, ((![v798] : Fin 1 → IVec S16 32) a x).toNat < S4096.size a := fun v798 k0_hw58 => k0_hw58.2.1
theorem k0_idx174_inb : ∀ (v798 : IVec S16 32) (k0_hw58 : k0_chk58 v798), ∀ a x, ((![v798] : Fin 1 → IVec S16 32) a x).toNat < S4096.size a := fun v798 k0_hw58 => k0_hw58.2.2

def k0_chk59 (v811 : IVec S16 32) : Prop :=
  (∀ a x, ((![v811] : Fin 1 → IVec S16 32) a x).toNat < S4096.size a) ∧
  (∀ a x, ((![v811] : Fin 1 → IVec S16 32) a x).toNat < S4096.size a) ∧
  (∀ a x, ((![v811] : Fin 1 → IVec S16 32) a x).toNat < S4096.size a)
theorem k0_idx175_inb : ∀ (v811 : IVec S16 32) (k0_hw59 : k0_chk59 v811), ∀ a x, ((![v811] : Fin 1 → IVec S16 32) a x).toNat < S4096.size a := fun v811 k0_hw59 => k0_hw59.1
theorem k0_idx176_inb : ∀ (v811 : IVec S16 32) (k0_hw59 : k0_chk59 v811), ∀ a x, ((![v811] : Fin 1 → IVec S16 32) a x).toNat < S4096.size a := fun v811 k0_hw59 => k0_hw59.2.1
theorem k0_idx177_inb : ∀ (v811 : IVec S16 32) (k0_hw59 : k0_chk59 v811), ∀ a x, ((![v811] : Fin 1 → IVec S16 32) a x).toNat < S4096.size a := fun v811 k0_hw59 => k0_hw59.2.2

def k0_chk60 (v824 : IVec S16 32) : Prop :=
  (∀ a x, ((![v824] : Fin 1 → IVec S16 32) a x).toNat < S4096.size a) ∧
  (∀ a x, ((![v824] : Fin 1 → IVec S16 32) a x).toNat < S4096.size a) ∧
  (∀ a x, ((![v824] : Fin 1 → IVec S16 32) a x).toNat < S4096.size a)
theorem k0_idx178_inb : ∀ (v824 : IVec S16 32) (k0_hw60 : k0_chk60 v824), ∀ a x, ((![v824] : Fin 1 → IVec S16 32) a x).toNat < S4096.size a := fun v824 k0_hw60 => k0_hw60.1
theorem k0_idx179_inb : ∀ (v824 : IVec S16 32) (k0_hw60 : k0_chk60 v824), ∀ a x, ((![v824] : Fin 1 → IVec S16 32) a x).toNat < S4096.size a := fun v824 k0_hw60 => k0_hw60.2.1
theorem k0_idx180_inb : ∀ (v824 : IVec S16 32) (k0_hw60 : k0_chk60 v824), ∀ a x, ((![v824] : Fin 1 → IVec S16 32) a x).toNat < S4096.size a := fun v824 k0_hw60 => k0_hw60.2.2

def k0_chk61 (v837 : IVec S16 32) : Prop :=
  (∀ a x, ((![v837] : Fin 1 → IVec S16 32) a x).toNat < S4096.size a) ∧
  (∀ a x, ((![v837] : Fin 1 → IVec S16 32) a x).toNat < S4096.size a) ∧
  (∀ a x, ((![v837] : Fin 1 → IVec S16 32) a x).toNat < S4096.size a)
theorem k0_idx181_inb : ∀ (v837 : IVec S16 32) (k0_hw61 : k0_chk61 v837), ∀ a x, ((![v837] : Fin 1 → IVec S16 32) a x).toNat < S4096.size a := fun v837 k0_hw61 => k0_hw61.1
theorem k0_idx182_inb : ∀ (v837 : IVec S16 32) (k0_hw61 : k0_chk61 v837), ∀ a x, ((![v837] : Fin 1 → IVec S16 32) a x).toNat < S4096.size a := fun v837 k0_hw61 => k0_hw61.2.1
theorem k0_idx183_inb : ∀ (v837 : IVec S16 32) (k0_hw61 : k0_chk61 v837), ∀ a x, ((![v837] : Fin 1 → IVec S16 32) a x).toNat < S4096.size a := fun v837 k0_hw61 => k0_hw61.2.2

def k0_chk62 (v850 : IVec S16 32) : Prop :=
  (∀ a x, ((![v850] : Fin 1 → IVec S16 32) a x).toNat < S4096.size a) ∧
  (∀ a x, ((![v850] : Fin 1 → IVec S16 32) a x).toNat < S4096.size a) ∧
  (∀ a x, ((![v850] : Fin 1 → IVec S16 32) a x).toNat < S4096.size a)
theorem k0_idx184_inb : ∀ (v850 : IVec S16 32) (k0_hw62 : k0_chk62 v850), ∀ a x, ((![v850] : Fin 1 → IVec S16 32) a x).toNat < S4096.size a := fun v850 k0_hw62 => k0_hw62.1
theorem k0_idx185_inb : ∀ (v850 : IVec S16 32) (k0_hw62 : k0_chk62 v850), ∀ a x, ((![v850] : Fin 1 → IVec S16 32) a x).toNat < S4096.size a := fun v850 k0_hw62 => k0_hw62.2.1
theorem k0_idx186_inb : ∀ (v850 : IVec S16 32) (k0_hw62 : k0_chk62 v850), ∀ a x, ((![v850] : Fin 1 → IVec S16 32) a x).toNat < S4096.size a := fun v850 k0_hw62 => k0_hw62.2.2

def k0_chk63 (v863 : IVec S16 32) : Prop :=
  (∀ a x, ((![v863] : Fin 1 → IVec S16 32) a x).toNat < S4096.size a) ∧
  (∀ a x, ((![v863] : Fin 1 → IVec S16 32) a x).toNat < S4096.size a) ∧
  (∀ a x, ((![v863] : Fin 1 → IVec S16 32) a x).toNat < S4096.size a)
theorem k0_idx187_inb : ∀ (v863 : IVec S16 32) (k0_hw63 : k0_chk63 v863), ∀ a x, ((![v863] : Fin 1 → IVec S16 32) a x).toNat < S4096.size a := fun v863 k0_hw63 => k0_hw63.1
theorem k0_idx188_inb : ∀ (v863 : IVec S16 32) (k0_hw63 : k0_chk63 v863), ∀ a x, ((![v863] : Fin 1 → IVec S16 32) a x).toNat < S4096.size a := fun v863 k0_hw63 => k0_hw63.2.1
theorem k0_idx189_inb : ∀ (v863 : IVec S16 32) (k0_hw63 : k0_chk63 v863), ∀ a x, ((![v863] : Fin 1 → IVec S16 32) a x).toNat < S4096.size a := fun v863 k0_hw63 => k0_hw63.2.2

def k0_chk64 (v876 : IVec S16 32) : Prop :=
  (∀ a x, ((![v876] : Fin 1 → IVec S16 32) a x).toNat < S4096.size a) ∧
  (∀ a x, ((![v876] : Fin 1 → IVec S16 32) a x).toNat < S4096.size a) ∧
  (∀ a x, ((![v876] : Fin 1 → IVec S16 32) a x).toNat < S4096.size a)
theorem k0_idx190_inb : ∀ (v876 : IVec S16 32) (k0_hw64 : k0_chk64 v876), ∀ a x, ((![v876] : Fin 1 → IVec S16 32) a x).toNat < S4096.size a := fun v876 k0_hw64 => k0_hw64.1
theorem k0_idx191_inb : ∀ (v876 : IVec S16 32) (k0_hw64 : k0_chk64 v876), ∀ a x, ((![v876] : Fin 1 → IVec S16 32) a x).toNat < S4096.size a := fun v876 k0_hw64 => k0_hw64.2.1
theorem k0_idx192_inb : ∀ (v876 : IVec S16 32) (k0_hw64 : k0_chk64 v876), ∀ a x, ((![v876] : Fin 1 → IVec S16 32) a x).toNat < S4096.size a := fun v876 k0_hw64 => k0_hw64.2.2

def k0_chk65 (v889 : IVec S16 32) : Prop :=
  (∀ a x, ((![v889] : Fin 1 → IVec S16 32) a x).toNat < S4096.size a) ∧
  (∀ a x, ((![v889] : Fin 1 → IVec S16 32) a x).toNat < S4096.size a) ∧
  (∀ a x, ((![v889] : Fin 1 → IVec S16 32) a x).toNat < S4096.size a)
theorem k0_idx193_inb : ∀ (v889 : IVec S16 32) (k0_hw65 : k0_chk65 v889), ∀ a x, ((![v889] : Fin 1 → IVec S16 32) a x).toNat < S4096.size a := fun v889 k0_hw65 => k0_hw65.1
theorem k0_idx194_inb : ∀ (v889 : IVec S16 32) (k0_hw65 : k0_chk65 v889), ∀ a x, ((![v889] : Fin 1 → IVec S16 32) a x).toNat < S4096.size a := fun v889 k0_hw65 => k0_hw65.2.1
theorem k0_idx195_inb : ∀ (v889 : IVec S16 32) (k0_hw65 : k0_chk65 v889), ∀ a x, ((![v889] : Fin 1 → IVec S16 32) a x).toNat < S4096.size a := fun v889 k0_hw65 => k0_hw65.2.2

def k0_chk66 (v902 : IVec S16 32) : Prop :=
  (∀ a x, ((![v902] : Fin 1 → IVec S16 32) a x).toNat < S4096.size a) ∧
  (∀ a x, ((![v902] : Fin 1 → IVec S16 32) a x).toNat < S4096.size a) ∧
  (∀ a x, ((![v902] : Fin 1 → IVec S16 32) a x).toNat < S4096.size a)
theorem k0_idx196_inb : ∀ (v902 : IVec S16 32) (k0_hw66 : k0_chk66 v902), ∀ a x, ((![v902] : Fin 1 → IVec S16 32) a x).toNat < S4096.size a := fun v902 k0_hw66 => k0_hw66.1
theorem k0_idx197_inb : ∀ (v902 : IVec S16 32) (k0_hw66 : k0_chk66 v902), ∀ a x, ((![v902] : Fin 1 → IVec S16 32) a x).toNat < S4096.size a := fun v902 k0_hw66 => k0_hw66.2.1
theorem k0_idx198_inb : ∀ (v902 : IVec S16 32) (k0_hw66 : k0_chk66 v902), ∀ a x, ((![v902] : Fin 1 → IVec S16 32) a x).toNat < S4096.size a := fun v902 k0_hw66 => k0_hw66.2.2

def k0_chk67 (v915 : IVec S16 32) : Prop :=
  (∀ a x, ((![v915] : Fin 1 → IVec S16 32) a x).toNat < S4096.size a) ∧
  (∀ a x, ((![v915] : Fin 1 → IVec S16 32) a x).toNat < S4096.size a) ∧
  (∀ a x, ((![v915] : Fin 1 → IVec S16 32) a x).toNat < S4096.size a)
theorem k0_idx199_inb : ∀ (v915 : IVec S16 32) (k0_hw67 : k0_chk67 v915), ∀ a x, ((![v915] : Fin 1 → IVec S16 32) a x).toNat < S4096.size a := fun v915 k0_hw67 => k0_hw67.1
theorem k0_idx200_inb : ∀ (v915 : IVec S16 32) (k0_hw67 : k0_chk67 v915), ∀ a x, ((![v915] : Fin 1 → IVec S16 32) a x).toNat < S4096.size a := fun v915 k0_hw67 => k0_hw67.2.1
theorem k0_idx201_inb : ∀ (v915 : IVec S16 32) (k0_hw67 : k0_chk67 v915), ∀ a x, ((![v915] : Fin 1 → IVec S16 32) a x).toNat < S4096.size a := fun v915 k0_hw67 => k0_hw67.2.2

def k0_chk68 (v928 : IVec S16 32) : Prop :=
  (∀ a x, ((![v928] : Fin 1 → IVec S16 32) a x).toNat < S4096.size a) ∧
  (∀ a x, ((![v928] : Fin 1 → IVec S16 32) a x).toNat < S4096.size a) ∧
  (∀ a x, ((![v928] : Fin 1 → IVec S16 32) a x).toNat < S4096.size a)
theorem k0_idx202_inb : ∀ (v928 : IVec S16 32) (k0_hw68 : k0_chk68 v928), ∀ a x, ((![v928] : Fin 1 → IVec S16 32) a x).toNat < S4096.size a := fun v928 k0_hw68 => k0_hw68.1
theorem k0_idx203_inb : ∀ (v928 : IVec S16 32) (k0_hw68 : k0_chk68 v928), ∀ a x, ((![v928] : Fin 1 → IVec S16 32) a x).toNat < S4096.size a := fun v928 k0_hw68 => k0_hw68.2.1
theorem k0_idx204_inb : ∀ (v928 : IVec S16 32) (k0_hw68 : k0_chk68 v928), ∀ a x, ((![v928] : Fin 1 → IVec S16 32) a x).toNat < S4096.size a := fun v928 k0_hw68 => k0_hw68.2.2

def k0_chk69 (v941 : IVec S16 32) : Prop :=
  (∀ a x, ((![v941] : Fin 1 → IVec S16 32) a x).toNat < S4096.size a) ∧
  (∀ a x, ((![v941] : Fin 1 → IVec S16 32) a x).toNat < S4096.size a) ∧
  (∀ a x, ((![v941] : Fin 1 → IVec S16 32) a x).toNat < S4096.size a)
theorem k0_idx205_inb : ∀ (v941 : IVec S16 32) (k0_hw69 : k0_chk69 v941), ∀ a x, ((![v941] : Fin 1 → IVec S16 32) a x).toNat < S4096.size a := fun v941 k0_hw69 => k0_hw69.1
theorem k0_idx206_inb : ∀ (v941 : IVec S16 32) (k0_hw69 : k0_chk69 v941), ∀ a x, ((![v941] : Fin 1 → IVec S16 32) a x).toNat < S4096.size a := fun v941 k0_hw69 => k0_hw69.2.1
theorem k0_idx207_inb : ∀ (v941 : IVec S16 32) (k0_hw69 : k0_chk69 v941), ∀ a x, ((![v941] : Fin 1 → IVec S16 32) a x).toNat < S4096.size a := fun v941 k0_hw69 => k0_hw69.2.2

def k0_chk70 (v954 : IVec S16 32) : Prop :=
  (∀ a x, ((![v954] : Fin 1 → IVec S16 32) a x).toNat < S4096.size a) ∧
  (∀ a x, ((![v954] : Fin 1 → IVec S16 32) a x).toNat < S4096.size a) ∧
  (∀ a x, ((![v954] : Fin 1 → IVec S16 32) a x).toNat < S4096.size a)
theorem k0_idx208_inb : ∀ (v954 : IVec S16 32) (k0_hw70 : k0_chk70 v954), ∀ a x, ((![v954] : Fin 1 → IVec S16 32) a x).toNat < S4096.size a := fun v954 k0_hw70 => k0_hw70.1
theorem k0_idx209_inb : ∀ (v954 : IVec S16 32) (k0_hw70 : k0_chk70 v954), ∀ a x, ((![v954] : Fin 1 → IVec S16 32) a x).toNat < S4096.size a := fun v954 k0_hw70 => k0_hw70.2.1
theorem k0_idx210_inb : ∀ (v954 : IVec S16 32) (k0_hw70 : k0_chk70 v954), ∀ a x, ((![v954] : Fin 1 → IVec S16 32) a x).toNat < S4096.size a := fun v954 k0_hw70 => k0_hw70.2.2

def k0_chk71 (v967 : IVec S16 32) : Prop :=
  (∀ a x, ((![v967] : Fin 1 → IVec S16 32) a x).toNat < S4096.size a) ∧
  (∀ a x, ((![v967] : Fin 1 → IVec S16 32) a x).toNat < S4096.size a) ∧
  (∀ a x, ((![v967] : Fin 1 → IVec S16 32) a x).toNat < S4096.size a)
theorem k0_idx211_inb : ∀ (v967 : IVec S16 32) (k0_hw71 : k0_chk71 v967), ∀ a x, ((![v967] : Fin 1 → IVec S16 32) a x).toNat < S4096.size a := fun v967 k0_hw71 => k0_hw71.1
theorem k0_idx212_inb : ∀ (v967 : IVec S16 32) (k0_hw71 : k0_chk71 v967), ∀ a x, ((![v967] : Fin 1 → IVec S16 32) a x).toNat < S4096.size a := fun v967 k0_hw71 => k0_hw71.2.1
theorem k0_idx213_inb : ∀ (v967 : IVec S16 32) (k0_hw71 : k0_chk71 v967), ∀ a x, ((![v967] : Fin 1 → IVec S16 32) a x).toNat < S4096.size a := fun v967 k0_hw71 => k0_hw71.2.2

def k0_chk72 (v980 : IVec S16 32) : Prop :=
  (∀ a x, ((![v980] : Fin 1 → IVec S16 32) a x).toNat < S4096.size a) ∧
  (∀ a x, ((![v980] : Fin 1 → IVec S16 32) a x).toNat < S4096.size a) ∧
  (∀ a x, ((![v980] : Fin 1 → IVec S16 32) a x).toNat < S4096.size a)
theorem k0_idx214_inb : ∀ (v980 : IVec S16 32) (k0_hw72 : k0_chk72 v980), ∀ a x, ((![v980] : Fin 1 → IVec S16 32) a x).toNat < S4096.size a := fun v980 k0_hw72 => k0_hw72.1
theorem k0_idx215_inb : ∀ (v980 : IVec S16 32) (k0_hw72 : k0_chk72 v980), ∀ a x, ((![v980] : Fin 1 → IVec S16 32) a x).toNat < S4096.size a := fun v980 k0_hw72 => k0_hw72.2.1
theorem k0_idx216_inb : ∀ (v980 : IVec S16 32) (k0_hw72 : k0_chk72 v980), ∀ a x, ((![v980] : Fin 1 → IVec S16 32) a x).toNat < S4096.size a := fun v980 k0_hw72 => k0_hw72.2.2

def k0_chk73 (v993 : IVec S16 32) : Prop :=
  (∀ a x, ((![v993] : Fin 1 → IVec S16 32) a x).toNat < S4096.size a) ∧
  (∀ a x, ((![v993] : Fin 1 → IVec S16 32) a x).toNat < S4096.size a) ∧
  (∀ a x, ((![v993] : Fin 1 → IVec S16 32) a x).toNat < S4096.size a)
theorem k0_idx217_inb : ∀ (v993 : IVec S16 32) (k0_hw73 : k0_chk73 v993), ∀ a x, ((![v993] : Fin 1 → IVec S16 32) a x).toNat < S4096.size a := fun v993 k0_hw73 => k0_hw73.1
theorem k0_idx218_inb : ∀ (v993 : IVec S16 32) (k0_hw73 : k0_chk73 v993), ∀ a x, ((![v993] : Fin 1 → IVec S16 32) a x).toNat < S4096.size a := fun v993 k0_hw73 => k0_hw73.2.1
theorem k0_idx219_inb : ∀ (v993 : IVec S16 32) (k0_hw73 : k0_chk73 v993), ∀ a x, ((![v993] : Fin 1 → IVec S16 32) a x).toNat < S4096.size a := fun v993 k0_hw73 => k0_hw73.2.2

def k0_chk74 (v1006 : IVec S16 32) : Prop :=
  (∀ a x, ((![v1006] : Fin 1 → IVec S16 32) a x).toNat < S4096.size a) ∧
  (∀ a x, ((![v1006] : Fin 1 → IVec S16 32) a x).toNat < S4096.size a) ∧
  (∀ a x, ((![v1006] : Fin 1 → IVec S16 32) a x).toNat < S4096.size a)
theorem k0_idx220_inb : ∀ (v1006 : IVec S16 32) (k0_hw74 : k0_chk74 v1006), ∀ a x, ((![v1006] : Fin 1 → IVec S16 32) a x).toNat < S4096.size a := fun v1006 k0_hw74 => k0_hw74.1
theorem k0_idx221_inb : ∀ (v1006 : IVec S16 32) (k0_hw74 : k0_chk74 v1006), ∀ a x, ((![v1006] : Fin 1 → IVec S16 32) a x).toNat < S4096.size a := fun v1006 k0_hw74 => k0_hw74.2.1
theorem k0_idx222_inb : ∀ (v1006 : IVec S16 32) (k0_hw74 : k0_chk74 v1006), ∀ a x, ((![v1006] : Fin 1 → IVec S16 32) a x).toNat < S4096.size a := fun v1006 k0_hw74 => k0_hw74.2.2

def k0_chk75 (v1019 : IVec S16 32) : Prop :=
  (∀ a x, ((![v1019] : Fin 1 → IVec S16 32) a x).toNat < S4096.size a) ∧
  (∀ a x, ((![v1019] : Fin 1 → IVec S16 32) a x).toNat < S4096.size a) ∧
  (∀ a x, ((![v1019] : Fin 1 → IVec S16 32) a x).toNat < S4096.size a)
theorem k0_idx223_inb : ∀ (v1019 : IVec S16 32) (k0_hw75 : k0_chk75 v1019), ∀ a x, ((![v1019] : Fin 1 → IVec S16 32) a x).toNat < S4096.size a := fun v1019 k0_hw75 => k0_hw75.1
theorem k0_idx224_inb : ∀ (v1019 : IVec S16 32) (k0_hw75 : k0_chk75 v1019), ∀ a x, ((![v1019] : Fin 1 → IVec S16 32) a x).toNat < S4096.size a := fun v1019 k0_hw75 => k0_hw75.2.1
theorem k0_idx225_inb : ∀ (v1019 : IVec S16 32) (k0_hw75 : k0_chk75 v1019), ∀ a x, ((![v1019] : Fin 1 → IVec S16 32) a x).toNat < S4096.size a := fun v1019 k0_hw75 => k0_hw75.2.2

def k0_chk76 (v1032 : IVec S16 32) : Prop :=
  (∀ a x, ((![v1032] : Fin 1 → IVec S16 32) a x).toNat < S4096.size a) ∧
  (∀ a x, ((![v1032] : Fin 1 → IVec S16 32) a x).toNat < S4096.size a) ∧
  (∀ a x, ((![v1032] : Fin 1 → IVec S16 32) a x).toNat < S4096.size a)
theorem k0_idx226_inb : ∀ (v1032 : IVec S16 32) (k0_hw76 : k0_chk76 v1032), ∀ a x, ((![v1032] : Fin 1 → IVec S16 32) a x).toNat < S4096.size a := fun v1032 k0_hw76 => k0_hw76.1
theorem k0_idx227_inb : ∀ (v1032 : IVec S16 32) (k0_hw76 : k0_chk76 v1032), ∀ a x, ((![v1032] : Fin 1 → IVec S16 32) a x).toNat < S4096.size a := fun v1032 k0_hw76 => k0_hw76.2.1
theorem k0_idx228_inb : ∀ (v1032 : IVec S16 32) (k0_hw76 : k0_chk76 v1032), ∀ a x, ((![v1032] : Fin 1 → IVec S16 32) a x).toNat < S4096.size a := fun v1032 k0_hw76 => k0_hw76.2.2

def k0_chk77 (v1045 : IVec S16 32) : Prop :=
  (∀ a x, ((![v1045] : Fin 1 → IVec S16 32) a x).toNat < S4096.size a) ∧
  (∀ a x, ((![v1045] : Fin 1 → IVec S16 32) a x).toNat < S4096.size a) ∧
  (∀ a x, ((![v1045] : Fin 1 → IVec S16 32) a x).toNat < S4096.size a)
theorem k0_idx229_inb : ∀ (v1045 : IVec S16 32) (k0_hw77 : k0_chk77 v1045), ∀ a x, ((![v1045] : Fin 1 → IVec S16 32) a x).toNat < S4096.size a := fun v1045 k0_hw77 => k0_hw77.1
theorem k0_idx230_inb : ∀ (v1045 : IVec S16 32) (k0_hw77 : k0_chk77 v1045), ∀ a x, ((![v1045] : Fin 1 → IVec S16 32) a x).toNat < S4096.size a := fun v1045 k0_hw77 => k0_hw77.2.1
theorem k0_idx231_inb : ∀ (v1045 : IVec S16 32) (k0_hw77 : k0_chk77 v1045), ∀ a x, ((![v1045] : Fin 1 → IVec S16 32) a x).toNat < S4096.size a := fun v1045 k0_hw77 => k0_hw77.2.2

def k0_chk78 (v1058 : IVec S16 32) : Prop :=
  (∀ a x, ((![v1058] : Fin 1 → IVec S16 32) a x).toNat < S4096.size a) ∧
  (∀ a x, ((![v1058] : Fin 1 → IVec S16 32) a x).toNat < S4096.size a) ∧
  (∀ a x, ((![v1058] : Fin 1 → IVec S16 32) a x).toNat < S4096.size a)
theorem k0_idx232_inb : ∀ (v1058 : IVec S16 32) (k0_hw78 : k0_chk78 v1058), ∀ a x, ((![v1058] : Fin 1 → IVec S16 32) a x).toNat < S4096.size a := fun v1058 k0_hw78 => k0_hw78.1
theorem k0_idx233_inb : ∀ (v1058 : IVec S16 32) (k0_hw78 : k0_chk78 v1058), ∀ a x, ((![v1058] : Fin 1 → IVec S16 32) a x).toNat < S4096.size a := fun v1058 k0_hw78 => k0_hw78.2.1
theorem k0_idx234_inb : ∀ (v1058 : IVec S16 32) (k0_hw78 : k0_chk78 v1058), ∀ a x, ((![v1058] : Fin 1 → IVec S16 32) a x).toNat < S4096.size a := fun v1058 k0_hw78 => k0_hw78.2.2

def k0_chk79 (v1071 : IVec S16 32) : Prop :=
  (∀ a x, ((![v1071] : Fin 1 → IVec S16 32) a x).toNat < S4096.size a) ∧
  (∀ a x, ((![v1071] : Fin 1 → IVec S16 32) a x).toNat < S4096.size a) ∧
  (∀ a x, ((![v1071] : Fin 1 → IVec S16 32) a x).toNat < S4096.size a)
theorem k0_idx235_inb : ∀ (v1071 : IVec S16 32) (k0_hw79 : k0_chk79 v1071), ∀ a x, ((![v1071] : Fin 1 → IVec S16 32) a x).toNat < S4096.size a := fun v1071 k0_hw79 => k0_hw79.1
theorem k0_idx236_inb : ∀ (v1071 : IVec S16 32) (k0_hw79 : k0_chk79 v1071), ∀ a x, ((![v1071] : Fin 1 → IVec S16 32) a x).toNat < S4096.size a := fun v1071 k0_hw79 => k0_hw79.2.1
theorem k0_idx237_inb : ∀ (v1071 : IVec S16 32) (k0_hw79 : k0_chk79 v1071), ∀ a x, ((![v1071] : Fin 1 → IVec S16 32) a x).toNat < S4096.size a := fun v1071 k0_hw79 => k0_hw79.2.2

def k0_chk80 (v1084 : IVec S16 32) : Prop :=
  (∀ a x, ((![v1084] : Fin 1 → IVec S16 32) a x).toNat < S4096.size a) ∧
  (∀ a x, ((![v1084] : Fin 1 → IVec S16 32) a x).toNat < S4096.size a) ∧
  (∀ a x, ((![v1084] : Fin 1 → IVec S16 32) a x).toNat < S4096.size a)
theorem k0_idx238_inb : ∀ (v1084 : IVec S16 32) (k0_hw80 : k0_chk80 v1084), ∀ a x, ((![v1084] : Fin 1 → IVec S16 32) a x).toNat < S4096.size a := fun v1084 k0_hw80 => k0_hw80.1
theorem k0_idx239_inb : ∀ (v1084 : IVec S16 32) (k0_hw80 : k0_chk80 v1084), ∀ a x, ((![v1084] : Fin 1 → IVec S16 32) a x).toNat < S4096.size a := fun v1084 k0_hw80 => k0_hw80.2.1
theorem k0_idx240_inb : ∀ (v1084 : IVec S16 32) (k0_hw80 : k0_chk80 v1084), ∀ a x, ((![v1084] : Fin 1 → IVec S16 32) a x).toNat < S4096.size a := fun v1084 k0_hw80 => k0_hw80.2.2

def k0_chk81 (v1097 : IVec S16 32) : Prop :=
  (∀ a x, ((![v1097] : Fin 1 → IVec S16 32) a x).toNat < S4096.size a) ∧
  (∀ a x, ((![v1097] : Fin 1 → IVec S16 32) a x).toNat < S4096.size a) ∧
  (∀ a x, ((![v1097] : Fin 1 → IVec S16 32) a x).toNat < S4096.size a)
theorem k0_idx241_inb : ∀ (v1097 : IVec S16 32) (k0_hw81 : k0_chk81 v1097), ∀ a x, ((![v1097] : Fin 1 → IVec S16 32) a x).toNat < S4096.size a := fun v1097 k0_hw81 => k0_hw81.1
theorem k0_idx242_inb : ∀ (v1097 : IVec S16 32) (k0_hw81 : k0_chk81 v1097), ∀ a x, ((![v1097] : Fin 1 → IVec S16 32) a x).toNat < S4096.size a := fun v1097 k0_hw81 => k0_hw81.2.1
theorem k0_idx243_inb : ∀ (v1097 : IVec S16 32) (k0_hw81 : k0_chk81 v1097), ∀ a x, ((![v1097] : Fin 1 → IVec S16 32) a x).toNat < S4096.size a := fun v1097 k0_hw81 => k0_hw81.2.2

def k0_chk82 (v1110 : IVec S16 32) : Prop :=
  (∀ a x, ((![v1110] : Fin 1 → IVec S16 32) a x).toNat < S4096.size a) ∧
  (∀ a x, ((![v1110] : Fin 1 → IVec S16 32) a x).toNat < S4096.size a) ∧
  (∀ a x, ((![v1110] : Fin 1 → IVec S16 32) a x).toNat < S4096.size a)
theorem k0_idx244_inb : ∀ (v1110 : IVec S16 32) (k0_hw82 : k0_chk82 v1110), ∀ a x, ((![v1110] : Fin 1 → IVec S16 32) a x).toNat < S4096.size a := fun v1110 k0_hw82 => k0_hw82.1
theorem k0_idx245_inb : ∀ (v1110 : IVec S16 32) (k0_hw82 : k0_chk82 v1110), ∀ a x, ((![v1110] : Fin 1 → IVec S16 32) a x).toNat < S4096.size a := fun v1110 k0_hw82 => k0_hw82.2.1
theorem k0_idx246_inb : ∀ (v1110 : IVec S16 32) (k0_hw82 : k0_chk82 v1110), ∀ a x, ((![v1110] : Fin 1 → IVec S16 32) a x).toNat < S4096.size a := fun v1110 k0_hw82 => k0_hw82.2.2

def k0_chk83 (v1123 : IVec S16 32) : Prop :=
  (∀ a x, ((![v1123] : Fin 1 → IVec S16 32) a x).toNat < S4096.size a) ∧
  (∀ a x, ((![v1123] : Fin 1 → IVec S16 32) a x).toNat < S4096.size a) ∧
  (∀ a x, ((![v1123] : Fin 1 → IVec S16 32) a x).toNat < S4096.size a)
theorem k0_idx247_inb : ∀ (v1123 : IVec S16 32) (k0_hw83 : k0_chk83 v1123), ∀ a x, ((![v1123] : Fin 1 → IVec S16 32) a x).toNat < S4096.size a := fun v1123 k0_hw83 => k0_hw83.1
theorem k0_idx248_inb : ∀ (v1123 : IVec S16 32) (k0_hw83 : k0_chk83 v1123), ∀ a x, ((![v1123] : Fin 1 → IVec S16 32) a x).toNat < S4096.size a := fun v1123 k0_hw83 => k0_hw83.2.1
theorem k0_idx249_inb : ∀ (v1123 : IVec S16 32) (k0_hw83 : k0_chk83 v1123), ∀ a x, ((![v1123] : Fin 1 → IVec S16 32) a x).toNat < S4096.size a := fun v1123 k0_hw83 => k0_hw83.2.2

def k0_chk84 (v1136 : IVec S16 32) : Prop :=
  (∀ a x, ((![v1136] : Fin 1 → IVec S16 32) a x).toNat < S4096.size a) ∧
  (∀ a x, ((![v1136] : Fin 1 → IVec S16 32) a x).toNat < S4096.size a) ∧
  (∀ a x, ((![v1136] : Fin 1 → IVec S16 32) a x).toNat < S4096.size a)
theorem k0_idx250_inb : ∀ (v1136 : IVec S16 32) (k0_hw84 : k0_chk84 v1136), ∀ a x, ((![v1136] : Fin 1 → IVec S16 32) a x).toNat < S4096.size a := fun v1136 k0_hw84 => k0_hw84.1
theorem k0_idx251_inb : ∀ (v1136 : IVec S16 32) (k0_hw84 : k0_chk84 v1136), ∀ a x, ((![v1136] : Fin 1 → IVec S16 32) a x).toNat < S4096.size a := fun v1136 k0_hw84 => k0_hw84.2.1
theorem k0_idx252_inb : ∀ (v1136 : IVec S16 32) (k0_hw84 : k0_chk84 v1136), ∀ a x, ((![v1136] : Fin 1 → IVec S16 32) a x).toNat < S4096.size a := fun v1136 k0_hw84 => k0_hw84.2.2

def k0_chk85 (v1149 : IVec S16 32) : Prop :=
  (∀ a x, ((![v1149] : Fin 1 → IVec S16 32) a x).toNat < S4096.size a) ∧
  (∀ a x, ((![v1149] : Fin 1 → IVec S16 32) a x).toNat < S4096.size a) ∧
  (∀ a x, ((![v1149] : Fin 1 → IVec S16 32) a x).toNat < S4096.size a)
theorem k0_idx253_inb : ∀ (v1149 : IVec S16 32) (k0_hw85 : k0_chk85 v1149), ∀ a x, ((![v1149] : Fin 1 → IVec S16 32) a x).toNat < S4096.size a := fun v1149 k0_hw85 => k0_hw85.1
theorem k0_idx254_inb : ∀ (v1149 : IVec S16 32) (k0_hw85 : k0_chk85 v1149), ∀ a x, ((![v1149] : Fin 1 → IVec S16 32) a x).toNat < S4096.size a := fun v1149 k0_hw85 => k0_hw85.2.1
theorem k0_idx255_inb : ∀ (v1149 : IVec S16 32) (k0_hw85 : k0_chk85 v1149), ∀ a x, ((![v1149] : Fin 1 → IVec S16 32) a x).toNat < S4096.size a := fun v1149 k0_hw85 => k0_hw85.2.2

def k0_chk86 (v1162 : IVec S16 32) : Prop :=
  (∀ a x, ((![v1162] : Fin 1 → IVec S16 32) a x).toNat < S4096.size a) ∧
  (∀ a x, ((![v1162] : Fin 1 → IVec S16 32) a x).toNat < S4096.size a) ∧
  (∀ a x, ((![v1162] : Fin 1 → IVec S16 32) a x).toNat < S4096.size a)
theorem k0_idx256_inb : ∀ (v1162 : IVec S16 32) (k0_hw86 : k0_chk86 v1162), ∀ a x, ((![v1162] : Fin 1 → IVec S16 32) a x).toNat < S4096.size a := fun v1162 k0_hw86 => k0_hw86.1
theorem k0_idx257_inb : ∀ (v1162 : IVec S16 32) (k0_hw86 : k0_chk86 v1162), ∀ a x, ((![v1162] : Fin 1 → IVec S16 32) a x).toNat < S4096.size a := fun v1162 k0_hw86 => k0_hw86.2.1
theorem k0_idx258_inb : ∀ (v1162 : IVec S16 32) (k0_hw86 : k0_chk86 v1162), ∀ a x, ((![v1162] : Fin 1 → IVec S16 32) a x).toNat < S4096.size a := fun v1162 k0_hw86 => k0_hw86.2.2

def k0_chk87 (v1175 : IVec S16 32) : Prop :=
  (∀ a x, ((![v1175] : Fin 1 → IVec S16 32) a x).toNat < S4096.size a) ∧
  (∀ a x, ((![v1175] : Fin 1 → IVec S16 32) a x).toNat < S4096.size a) ∧
  (∀ a x, ((![v1175] : Fin 1 → IVec S16 32) a x).toNat < S4096.size a)
theorem k0_idx259_inb : ∀ (v1175 : IVec S16 32) (k0_hw87 : k0_chk87 v1175), ∀ a x, ((![v1175] : Fin 1 → IVec S16 32) a x).toNat < S4096.size a := fun v1175 k0_hw87 => k0_hw87.1
theorem k0_idx260_inb : ∀ (v1175 : IVec S16 32) (k0_hw87 : k0_chk87 v1175), ∀ a x, ((![v1175] : Fin 1 → IVec S16 32) a x).toNat < S4096.size a := fun v1175 k0_hw87 => k0_hw87.2.1
theorem k0_idx261_inb : ∀ (v1175 : IVec S16 32) (k0_hw87 : k0_chk87 v1175), ∀ a x, ((![v1175] : Fin 1 → IVec S16 32) a x).toNat < S4096.size a := fun v1175 k0_hw87 => k0_hw87.2.2

def k0_chk88 (v1188 : IVec S16 32) : Prop :=
  (∀ a x, ((![v1188] : Fin 1 → IVec S16 32) a x).toNat < S4096.size a) ∧
  (∀ a x, ((![v1188] : Fin 1 → IVec S16 32) a x).toNat < S4096.size a) ∧
  (∀ a x, ((![v1188] : Fin 1 → IVec S16 32) a x).toNat < S4096.size a)
theorem k0_idx262_inb : ∀ (v1188 : IVec S16 32) (k0_hw88 : k0_chk88 v1188), ∀ a x, ((![v1188] : Fin 1 → IVec S16 32) a x).toNat < S4096.size a := fun v1188 k0_hw88 => k0_hw88.1
theorem k0_idx263_inb : ∀ (v1188 : IVec S16 32) (k0_hw88 : k0_chk88 v1188), ∀ a x, ((![v1188] : Fin 1 → IVec S16 32) a x).toNat < S4096.size a := fun v1188 k0_hw88 => k0_hw88.2.1
theorem k0_idx264_inb : ∀ (v1188 : IVec S16 32) (k0_hw88 : k0_chk88 v1188), ∀ a x, ((![v1188] : Fin 1 → IVec S16 32) a x).toNat < S4096.size a := fun v1188 k0_hw88 => k0_hw88.2.2

def k0_chk89 (v1201 : IVec S16 32) : Prop :=
  (∀ a x, ((![v1201] : Fin 1 → IVec S16 32) a x).toNat < S4096.size a) ∧
  (∀ a x, ((![v1201] : Fin 1 → IVec S16 32) a x).toNat < S4096.size a) ∧
  (∀ a x, ((![v1201] : Fin 1 → IVec S16 32) a x).toNat < S4096.size a)
theorem k0_idx265_inb : ∀ (v1201 : IVec S16 32) (k0_hw89 : k0_chk89 v1201), ∀ a x, ((![v1201] : Fin 1 → IVec S16 32) a x).toNat < S4096.size a := fun v1201 k0_hw89 => k0_hw89.1
theorem k0_idx266_inb : ∀ (v1201 : IVec S16 32) (k0_hw89 : k0_chk89 v1201), ∀ a x, ((![v1201] : Fin 1 → IVec S16 32) a x).toNat < S4096.size a := fun v1201 k0_hw89 => k0_hw89.2.1
theorem k0_idx267_inb : ∀ (v1201 : IVec S16 32) (k0_hw89 : k0_chk89 v1201), ∀ a x, ((![v1201] : Fin 1 → IVec S16 32) a x).toNat < S4096.size a := fun v1201 k0_hw89 => k0_hw89.2.2

def k0_chk90 (v1214 : IVec S16 32) : Prop :=
  (∀ a x, ((![v1214] : Fin 1 → IVec S16 32) a x).toNat < S4096.size a) ∧
  (∀ a x, ((![v1214] : Fin 1 → IVec S16 32) a x).toNat < S4096.size a) ∧
  (∀ a x, ((![v1214] : Fin 1 → IVec S16 32) a x).toNat < S4096.size a)
theorem k0_idx268_inb : ∀ (v1214 : IVec S16 32) (k0_hw90 : k0_chk90 v1214), ∀ a x, ((![v1214] : Fin 1 → IVec S16 32) a x).toNat < S4096.size a := fun v1214 k0_hw90 => k0_hw90.1
theorem k0_idx269_inb : ∀ (v1214 : IVec S16 32) (k0_hw90 : k0_chk90 v1214), ∀ a x, ((![v1214] : Fin 1 → IVec S16 32) a x).toNat < S4096.size a := fun v1214 k0_hw90 => k0_hw90.2.1
theorem k0_idx270_inb : ∀ (v1214 : IVec S16 32) (k0_hw90 : k0_chk90 v1214), ∀ a x, ((![v1214] : Fin 1 → IVec S16 32) a x).toNat < S4096.size a := fun v1214 k0_hw90 => k0_hw90.2.2

def k0_chk91 (v1227 : IVec S16 32) : Prop :=
  (∀ a x, ((![v1227] : Fin 1 → IVec S16 32) a x).toNat < S4096.size a) ∧
  (∀ a x, ((![v1227] : Fin 1 → IVec S16 32) a x).toNat < S4096.size a) ∧
  (∀ a x, ((![v1227] : Fin 1 → IVec S16 32) a x).toNat < S4096.size a)
theorem k0_idx271_inb : ∀ (v1227 : IVec S16 32) (k0_hw91 : k0_chk91 v1227), ∀ a x, ((![v1227] : Fin 1 → IVec S16 32) a x).toNat < S4096.size a := fun v1227 k0_hw91 => k0_hw91.1
theorem k0_idx272_inb : ∀ (v1227 : IVec S16 32) (k0_hw91 : k0_chk91 v1227), ∀ a x, ((![v1227] : Fin 1 → IVec S16 32) a x).toNat < S4096.size a := fun v1227 k0_hw91 => k0_hw91.2.1
theorem k0_idx273_inb : ∀ (v1227 : IVec S16 32) (k0_hw91 : k0_chk91 v1227), ∀ a x, ((![v1227] : Fin 1 → IVec S16 32) a x).toNat < S4096.size a := fun v1227 k0_hw91 => k0_hw91.2.2

def k0_chk92 (v1240 : IVec S16 32) : Prop :=
  (∀ a x, ((![v1240] : Fin 1 → IVec S16 32) a x).toNat < S4096.size a) ∧
  (∀ a x, ((![v1240] : Fin 1 → IVec S16 32) a x).toNat < S4096.size a) ∧
  (∀ a x, ((![v1240] : Fin 1 → IVec S16 32) a x).toNat < S4096.size a)
theorem k0_idx274_inb : ∀ (v1240 : IVec S16 32) (k0_hw92 : k0_chk92 v1240), ∀ a x, ((![v1240] : Fin 1 → IVec S16 32) a x).toNat < S4096.size a := fun v1240 k0_hw92 => k0_hw92.1
theorem k0_idx275_inb : ∀ (v1240 : IVec S16 32) (k0_hw92 : k0_chk92 v1240), ∀ a x, ((![v1240] : Fin 1 → IVec S16 32) a x).toNat < S4096.size a := fun v1240 k0_hw92 => k0_hw92.2.1
theorem k0_idx276_inb : ∀ (v1240 : IVec S16 32) (k0_hw92 : k0_chk92 v1240), ∀ a x, ((![v1240] : Fin 1 → IVec S16 32) a x).toNat < S4096.size a := fun v1240 k0_hw92 => k0_hw92.2.2

def k0_chk93 (v1253 : IVec S16 32) : Prop :=
  (∀ a x, ((![v1253] : Fin 1 → IVec S16 32) a x).toNat < S4096.size a) ∧
  (∀ a x, ((![v1253] : Fin 1 → IVec S16 32) a x).toNat < S4096.size a) ∧
  (∀ a x, ((![v1253] : Fin 1 → IVec S16 32) a x).toNat < S4096.size a)
theorem k0_idx277_inb : ∀ (v1253 : IVec S16 32) (k0_hw93 : k0_chk93 v1253), ∀ a x, ((![v1253] : Fin 1 → IVec S16 32) a x).toNat < S4096.size a := fun v1253 k0_hw93 => k0_hw93.1
theorem k0_idx278_inb : ∀ (v1253 : IVec S16 32) (k0_hw93 : k0_chk93 v1253), ∀ a x, ((![v1253] : Fin 1 → IVec S16 32) a x).toNat < S4096.size a := fun v1253 k0_hw93 => k0_hw93.2.1
theorem k0_idx279_inb : ∀ (v1253 : IVec S16 32) (k0_hw93 : k0_chk93 v1253), ∀ a x, ((![v1253] : Fin 1 → IVec S16 32) a x).toNat < S4096.size a := fun v1253 k0_hw93 => k0_hw93.2.2

def k0_chk94 (v1266 : IVec S16 32) : Prop :=
  (∀ a x, ((![v1266] : Fin 1 → IVec S16 32) a x).toNat < S4096.size a) ∧
  (∀ a x, ((![v1266] : Fin 1 → IVec S16 32) a x).toNat < S4096.size a) ∧
  (∀ a x, ((![v1266] : Fin 1 → IVec S16 32) a x).toNat < S4096.size a)
theorem k0_idx280_inb : ∀ (v1266 : IVec S16 32) (k0_hw94 : k0_chk94 v1266), ∀ a x, ((![v1266] : Fin 1 → IVec S16 32) a x).toNat < S4096.size a := fun v1266 k0_hw94 => k0_hw94.1
theorem k0_idx281_inb : ∀ (v1266 : IVec S16 32) (k0_hw94 : k0_chk94 v1266), ∀ a x, ((![v1266] : Fin 1 → IVec S16 32) a x).toNat < S4096.size a := fun v1266 k0_hw94 => k0_hw94.2.1
theorem k0_idx282_inb : ∀ (v1266 : IVec S16 32) (k0_hw94 : k0_chk94 v1266), ∀ a x, ((![v1266] : Fin 1 → IVec S16 32) a x).toNat < S4096.size a := fun v1266 k0_hw94 => k0_hw94.2.2

def k0_chk95 (v1279 : IVec S16 32) : Prop :=
  (∀ a x, ((![v1279] : Fin 1 → IVec S16 32) a x).toNat < S4096.size a) ∧
  (∀ a x, ((![v1279] : Fin 1 → IVec S16 32) a x).toNat < S4096.size a) ∧
  (∀ a x, ((![v1279] : Fin 1 → IVec S16 32) a x).toNat < S4096.size a)
theorem k0_idx283_inb : ∀ (v1279 : IVec S16 32) (k0_hw95 : k0_chk95 v1279), ∀ a x, ((![v1279] : Fin 1 → IVec S16 32) a x).toNat < S4096.size a := fun v1279 k0_hw95 => k0_hw95.1
theorem k0_idx284_inb : ∀ (v1279 : IVec S16 32) (k0_hw95 : k0_chk95 v1279), ∀ a x, ((![v1279] : Fin 1 → IVec S16 32) a x).toNat < S4096.size a := fun v1279 k0_hw95 => k0_hw95.2.1
theorem k0_idx285_inb : ∀ (v1279 : IVec S16 32) (k0_hw95 : k0_chk95 v1279), ∀ a x, ((![v1279] : Fin 1 → IVec S16 32) a x).toNat < S4096.size a := fun v1279 k0_hw95 => k0_hw95.2.2

def k0_chk96 (v1292 : IVec S16 32) : Prop :=
  (∀ a x, ((![v1292] : Fin 1 → IVec S16 32) a x).toNat < S4096.size a) ∧
  (∀ a x, ((![v1292] : Fin 1 → IVec S16 32) a x).toNat < S4096.size a) ∧
  (∀ a x, ((![v1292] : Fin 1 → IVec S16 32) a x).toNat < S4096.size a)
theorem k0_idx286_inb : ∀ (v1292 : IVec S16 32) (k0_hw96 : k0_chk96 v1292), ∀ a x, ((![v1292] : Fin 1 → IVec S16 32) a x).toNat < S4096.size a := fun v1292 k0_hw96 => k0_hw96.1
theorem k0_idx287_inb : ∀ (v1292 : IVec S16 32) (k0_hw96 : k0_chk96 v1292), ∀ a x, ((![v1292] : Fin 1 → IVec S16 32) a x).toNat < S4096.size a := fun v1292 k0_hw96 => k0_hw96.2.1
theorem k0_idx288_inb : ∀ (v1292 : IVec S16 32) (k0_hw96 : k0_chk96 v1292), ∀ a x, ((![v1292] : Fin 1 → IVec S16 32) a x).toNat < S4096.size a := fun v1292 k0_hw96 => k0_hw96.2.2

def k0_chk97 (v1305 : IVec S16 32) : Prop :=
  (∀ a x, ((![v1305] : Fin 1 → IVec S16 32) a x).toNat < S4096.size a) ∧
  (∀ a x, ((![v1305] : Fin 1 → IVec S16 32) a x).toNat < S4096.size a) ∧
  (∀ a x, ((![v1305] : Fin 1 → IVec S16 32) a x).toNat < S4096.size a)
theorem k0_idx289_inb : ∀ (v1305 : IVec S16 32) (k0_hw97 : k0_chk97 v1305), ∀ a x, ((![v1305] : Fin 1 → IVec S16 32) a x).toNat < S4096.size a := fun v1305 k0_hw97 => k0_hw97.1
theorem k0_idx290_inb : ∀ (v1305 : IVec S16 32) (k0_hw97 : k0_chk97 v1305), ∀ a x, ((![v1305] : Fin 1 → IVec S16 32) a x).toNat < S4096.size a := fun v1305 k0_hw97 => k0_hw97.2.1
theorem k0_idx291_inb : ∀ (v1305 : IVec S16 32) (k0_hw97 : k0_chk97 v1305), ∀ a x, ((![v1305] : Fin 1 → IVec S16 32) a x).toNat < S4096.size a := fun v1305 k0_hw97 => k0_hw97.2.2

def k0_chk98 (v1318 : IVec S16 32) : Prop :=
  (∀ a x, ((![v1318] : Fin 1 → IVec S16 32) a x).toNat < S4096.size a) ∧
  (∀ a x, ((![v1318] : Fin 1 → IVec S16 32) a x).toNat < S4096.size a) ∧
  (∀ a x, ((![v1318] : Fin 1 → IVec S16 32) a x).toNat < S4096.size a)
theorem k0_idx292_inb : ∀ (v1318 : IVec S16 32) (k0_hw98 : k0_chk98 v1318), ∀ a x, ((![v1318] : Fin 1 → IVec S16 32) a x).toNat < S4096.size a := fun v1318 k0_hw98 => k0_hw98.1
theorem k0_idx293_inb : ∀ (v1318 : IVec S16 32) (k0_hw98 : k0_chk98 v1318), ∀ a x, ((![v1318] : Fin 1 → IVec S16 32) a x).toNat < S4096.size a := fun v1318 k0_hw98 => k0_hw98.2.1
theorem k0_idx294_inb : ∀ (v1318 : IVec S16 32) (k0_hw98 : k0_chk98 v1318), ∀ a x, ((![v1318] : Fin 1 → IVec S16 32) a x).toNat < S4096.size a := fun v1318 k0_hw98 => k0_hw98.2.2

def k0_chk99 (v1331 : IVec S16 32) : Prop :=
  (∀ a x, ((![v1331] : Fin 1 → IVec S16 32) a x).toNat < S4096.size a) ∧
  (∀ a x, ((![v1331] : Fin 1 → IVec S16 32) a x).toNat < S4096.size a) ∧
  (∀ a x, ((![v1331] : Fin 1 → IVec S16 32) a x).toNat < S4096.size a)
theorem k0_idx295_inb : ∀ (v1331 : IVec S16 32) (k0_hw99 : k0_chk99 v1331), ∀ a x, ((![v1331] : Fin 1 → IVec S16 32) a x).toNat < S4096.size a := fun v1331 k0_hw99 => k0_hw99.1
theorem k0_idx296_inb : ∀ (v1331 : IVec S16 32) (k0_hw99 : k0_chk99 v1331), ∀ a x, ((![v1331] : Fin 1 → IVec S16 32) a x).toNat < S4096.size a := fun v1331 k0_hw99 => k0_hw99.2.1
theorem k0_idx297_inb : ∀ (v1331 : IVec S16 32) (k0_hw99 : k0_chk99 v1331), ∀ a x, ((![v1331] : Fin 1 → IVec S16 32) a x).toNat < S4096.size a := fun v1331 k0_hw99 => k0_hw99.2.2

def k0_chk100 (v1344 : IVec S16 32) : Prop :=
  (∀ a x, ((![v1344] : Fin 1 → IVec S16 32) a x).toNat < S4096.size a) ∧
  (∀ a x, ((![v1344] : Fin 1 → IVec S16 32) a x).toNat < S4096.size a) ∧
  (∀ a x, ((![v1344] : Fin 1 → IVec S16 32) a x).toNat < S4096.size a)
theorem k0_idx298_inb : ∀ (v1344 : IVec S16 32) (k0_hw100 : k0_chk100 v1344), ∀ a x, ((![v1344] : Fin 1 → IVec S16 32) a x).toNat < S4096.size a := fun v1344 k0_hw100 => k0_hw100.1
theorem k0_idx299_inb : ∀ (v1344 : IVec S16 32) (k0_hw100 : k0_chk100 v1344), ∀ a x, ((![v1344] : Fin 1 → IVec S16 32) a x).toNat < S4096.size a := fun v1344 k0_hw100 => k0_hw100.2.1
theorem k0_idx300_inb : ∀ (v1344 : IVec S16 32) (k0_hw100 : k0_chk100 v1344), ∀ a x, ((![v1344] : Fin 1 → IVec S16 32) a x).toNat < S4096.size a := fun v1344 k0_hw100 => k0_hw100.2.2

def k0_chk101 (v1357 : IVec S16 32) : Prop :=
  (∀ a x, ((![v1357] : Fin 1 → IVec S16 32) a x).toNat < S4096.size a) ∧
  (∀ a x, ((![v1357] : Fin 1 → IVec S16 32) a x).toNat < S4096.size a) ∧
  (∀ a x, ((![v1357] : Fin 1 → IVec S16 32) a x).toNat < S4096.size a)
theorem k0_idx301_inb : ∀ (v1357 : IVec S16 32) (k0_hw101 : k0_chk101 v1357), ∀ a x, ((![v1357] : Fin 1 → IVec S16 32) a x).toNat < S4096.size a := fun v1357 k0_hw101 => k0_hw101.1
theorem k0_idx302_inb : ∀ (v1357 : IVec S16 32) (k0_hw101 : k0_chk101 v1357), ∀ a x, ((![v1357] : Fin 1 → IVec S16 32) a x).toNat < S4096.size a := fun v1357 k0_hw101 => k0_hw101.2.1
theorem k0_idx303_inb : ∀ (v1357 : IVec S16 32) (k0_hw101 : k0_chk101 v1357), ∀ a x, ((![v1357] : Fin 1 → IVec S16 32) a x).toNat < S4096.size a := fun v1357 k0_hw101 => k0_hw101.2.2

def k0_chk102 (v1370 : IVec S16 32) : Prop :=
  (∀ a x, ((![v1370] : Fin 1 → IVec S16 32) a x).toNat < S4096.size a) ∧
  (∀ a x, ((![v1370] : Fin 1 → IVec S16 32) a x).toNat < S4096.size a) ∧
  (∀ a x, ((![v1370] : Fin 1 → IVec S16 32) a x).toNat < S4096.size a)
theorem k0_idx304_inb : ∀ (v1370 : IVec S16 32) (k0_hw102 : k0_chk102 v1370), ∀ a x, ((![v1370] : Fin 1 → IVec S16 32) a x).toNat < S4096.size a := fun v1370 k0_hw102 => k0_hw102.1
theorem k0_idx305_inb : ∀ (v1370 : IVec S16 32) (k0_hw102 : k0_chk102 v1370), ∀ a x, ((![v1370] : Fin 1 → IVec S16 32) a x).toNat < S4096.size a := fun v1370 k0_hw102 => k0_hw102.2.1
theorem k0_idx306_inb : ∀ (v1370 : IVec S16 32) (k0_hw102 : k0_chk102 v1370), ∀ a x, ((![v1370] : Fin 1 → IVec S16 32) a x).toNat < S4096.size a := fun v1370 k0_hw102 => k0_hw102.2.2

def k0_chk103 (v1383 : IVec S16 32) : Prop :=
  (∀ a x, ((![v1383] : Fin 1 → IVec S16 32) a x).toNat < S4096.size a) ∧
  (∀ a x, ((![v1383] : Fin 1 → IVec S16 32) a x).toNat < S4096.size a) ∧
  (∀ a x, ((![v1383] : Fin 1 → IVec S16 32) a x).toNat < S4096.size a)
theorem k0_idx307_inb : ∀ (v1383 : IVec S16 32) (k0_hw103 : k0_chk103 v1383), ∀ a x, ((![v1383] : Fin 1 → IVec S16 32) a x).toNat < S4096.size a := fun v1383 k0_hw103 => k0_hw103.1
theorem k0_idx308_inb : ∀ (v1383 : IVec S16 32) (k0_hw103 : k0_chk103 v1383), ∀ a x, ((![v1383] : Fin 1 → IVec S16 32) a x).toNat < S4096.size a := fun v1383 k0_hw103 => k0_hw103.2.1
theorem k0_idx309_inb : ∀ (v1383 : IVec S16 32) (k0_hw103 : k0_chk103 v1383), ∀ a x, ((![v1383] : Fin 1 → IVec S16 32) a x).toNat < S4096.size a := fun v1383 k0_hw103 => k0_hw103.2.2

def k0_chk104 (v1396 : IVec S16 32) : Prop :=
  (∀ a x, ((![v1396] : Fin 1 → IVec S16 32) a x).toNat < S4096.size a) ∧
  (∀ a x, ((![v1396] : Fin 1 → IVec S16 32) a x).toNat < S4096.size a) ∧
  (∀ a x, ((![v1396] : Fin 1 → IVec S16 32) a x).toNat < S4096.size a)
theorem k0_idx310_inb : ∀ (v1396 : IVec S16 32) (k0_hw104 : k0_chk104 v1396), ∀ a x, ((![v1396] : Fin 1 → IVec S16 32) a x).toNat < S4096.size a := fun v1396 k0_hw104 => k0_hw104.1
theorem k0_idx311_inb : ∀ (v1396 : IVec S16 32) (k0_hw104 : k0_chk104 v1396), ∀ a x, ((![v1396] : Fin 1 → IVec S16 32) a x).toNat < S4096.size a := fun v1396 k0_hw104 => k0_hw104.2.1
theorem k0_idx312_inb : ∀ (v1396 : IVec S16 32) (k0_hw104 : k0_chk104 v1396), ∀ a x, ((![v1396] : Fin 1 → IVec S16 32) a x).toNat < S4096.size a := fun v1396 k0_hw104 => k0_hw104.2.2

def k0_chk105 (v1409 : IVec S16 32) : Prop :=
  (∀ a x, ((![v1409] : Fin 1 → IVec S16 32) a x).toNat < S4096.size a) ∧
  (∀ a x, ((![v1409] : Fin 1 → IVec S16 32) a x).toNat < S4096.size a) ∧
  (∀ a x, ((![v1409] : Fin 1 → IVec S16 32) a x).toNat < S4096.size a)
theorem k0_idx313_inb : ∀ (v1409 : IVec S16 32) (k0_hw105 : k0_chk105 v1409), ∀ a x, ((![v1409] : Fin 1 → IVec S16 32) a x).toNat < S4096.size a := fun v1409 k0_hw105 => k0_hw105.1
theorem k0_idx314_inb : ∀ (v1409 : IVec S16 32) (k0_hw105 : k0_chk105 v1409), ∀ a x, ((![v1409] : Fin 1 → IVec S16 32) a x).toNat < S4096.size a := fun v1409 k0_hw105 => k0_hw105.2.1
theorem k0_idx315_inb : ∀ (v1409 : IVec S16 32) (k0_hw105 : k0_chk105 v1409), ∀ a x, ((![v1409] : Fin 1 → IVec S16 32) a x).toNat < S4096.size a := fun v1409 k0_hw105 => k0_hw105.2.2

def k0_chk106 (v1422 : IVec S16 32) : Prop :=
  (∀ a x, ((![v1422] : Fin 1 → IVec S16 32) a x).toNat < S4096.size a) ∧
  (∀ a x, ((![v1422] : Fin 1 → IVec S16 32) a x).toNat < S4096.size a) ∧
  (∀ a x, ((![v1422] : Fin 1 → IVec S16 32) a x).toNat < S4096.size a)
theorem k0_idx316_inb : ∀ (v1422 : IVec S16 32) (k0_hw106 : k0_chk106 v1422), ∀ a x, ((![v1422] : Fin 1 → IVec S16 32) a x).toNat < S4096.size a := fun v1422 k0_hw106 => k0_hw106.1
theorem k0_idx317_inb : ∀ (v1422 : IVec S16 32) (k0_hw106 : k0_chk106 v1422), ∀ a x, ((![v1422] : Fin 1 → IVec S16 32) a x).toNat < S4096.size a := fun v1422 k0_hw106 => k0_hw106.2.1
theorem k0_idx318_inb : ∀ (v1422 : IVec S16 32) (k0_hw106 : k0_chk106 v1422), ∀ a x, ((![v1422] : Fin 1 → IVec S16 32) a x).toNat < S4096.size a := fun v1422 k0_hw106 => k0_hw106.2.2

def k0_chk107 (v1435 : IVec S16 32) : Prop :=
  (∀ a x, ((![v1435] : Fin 1 → IVec S16 32) a x).toNat < S4096.size a) ∧
  (∀ a x, ((![v1435] : Fin 1 → IVec S16 32) a x).toNat < S4096.size a) ∧
  (∀ a x, ((![v1435] : Fin 1 → IVec S16 32) a x).toNat < S4096.size a)
theorem k0_idx319_inb : ∀ (v1435 : IVec S16 32) (k0_hw107 : k0_chk107 v1435), ∀ a x, ((![v1435] : Fin 1 → IVec S16 32) a x).toNat < S4096.size a := fun v1435 k0_hw107 => k0_hw107.1
theorem k0_idx320_inb : ∀ (v1435 : IVec S16 32) (k0_hw107 : k0_chk107 v1435), ∀ a x, ((![v1435] : Fin 1 → IVec S16 32) a x).toNat < S4096.size a := fun v1435 k0_hw107 => k0_hw107.2.1
theorem k0_idx321_inb : ∀ (v1435 : IVec S16 32) (k0_hw107 : k0_chk107 v1435), ∀ a x, ((![v1435] : Fin 1 → IVec S16 32) a x).toNat < S4096.size a := fun v1435 k0_hw107 => k0_hw107.2.2

def k0_chk108 (v1448 : IVec S16 32) : Prop :=
  (∀ a x, ((![v1448] : Fin 1 → IVec S16 32) a x).toNat < S4096.size a) ∧
  (∀ a x, ((![v1448] : Fin 1 → IVec S16 32) a x).toNat < S4096.size a) ∧
  (∀ a x, ((![v1448] : Fin 1 → IVec S16 32) a x).toNat < S4096.size a)
theorem k0_idx322_inb : ∀ (v1448 : IVec S16 32) (k0_hw108 : k0_chk108 v1448), ∀ a x, ((![v1448] : Fin 1 → IVec S16 32) a x).toNat < S4096.size a := fun v1448 k0_hw108 => k0_hw108.1
theorem k0_idx323_inb : ∀ (v1448 : IVec S16 32) (k0_hw108 : k0_chk108 v1448), ∀ a x, ((![v1448] : Fin 1 → IVec S16 32) a x).toNat < S4096.size a := fun v1448 k0_hw108 => k0_hw108.2.1
theorem k0_idx324_inb : ∀ (v1448 : IVec S16 32) (k0_hw108 : k0_chk108 v1448), ∀ a x, ((![v1448] : Fin 1 → IVec S16 32) a x).toNat < S4096.size a := fun v1448 k0_hw108 => k0_hw108.2.2

def k0_chk109 (v1461 : IVec S16 32) : Prop :=
  (∀ a x, ((![v1461] : Fin 1 → IVec S16 32) a x).toNat < S4096.size a) ∧
  (∀ a x, ((![v1461] : Fin 1 → IVec S16 32) a x).toNat < S4096.size a) ∧
  (∀ a x, ((![v1461] : Fin 1 → IVec S16 32) a x).toNat < S4096.size a)
theorem k0_idx325_inb : ∀ (v1461 : IVec S16 32) (k0_hw109 : k0_chk109 v1461), ∀ a x, ((![v1461] : Fin 1 → IVec S16 32) a x).toNat < S4096.size a := fun v1461 k0_hw109 => k0_hw109.1
theorem k0_idx326_inb : ∀ (v1461 : IVec S16 32) (k0_hw109 : k0_chk109 v1461), ∀ a x, ((![v1461] : Fin 1 → IVec S16 32) a x).toNat < S4096.size a := fun v1461 k0_hw109 => k0_hw109.2.1
theorem k0_idx327_inb : ∀ (v1461 : IVec S16 32) (k0_hw109 : k0_chk109 v1461), ∀ a x, ((![v1461] : Fin 1 → IVec S16 32) a x).toNat < S4096.size a := fun v1461 k0_hw109 => k0_hw109.2.2

def k0_chk110 (v1474 : IVec S16 32) : Prop :=
  (∀ a x, ((![v1474] : Fin 1 → IVec S16 32) a x).toNat < S4096.size a) ∧
  (∀ a x, ((![v1474] : Fin 1 → IVec S16 32) a x).toNat < S4096.size a) ∧
  (∀ a x, ((![v1474] : Fin 1 → IVec S16 32) a x).toNat < S4096.size a)
theorem k0_idx328_inb : ∀ (v1474 : IVec S16 32) (k0_hw110 : k0_chk110 v1474), ∀ a x, ((![v1474] : Fin 1 → IVec S16 32) a x).toNat < S4096.size a := fun v1474 k0_hw110 => k0_hw110.1
theorem k0_idx329_inb : ∀ (v1474 : IVec S16 32) (k0_hw110 : k0_chk110 v1474), ∀ a x, ((![v1474] : Fin 1 → IVec S16 32) a x).toNat < S4096.size a := fun v1474 k0_hw110 => k0_hw110.2.1
theorem k0_idx330_inb : ∀ (v1474 : IVec S16 32) (k0_hw110 : k0_chk110 v1474), ∀ a x, ((![v1474] : Fin 1 → IVec S16 32) a x).toNat < S4096.size a := fun v1474 k0_hw110 => k0_hw110.2.2

def k0_chk111 (v1487 : IVec S16 32) : Prop :=
  (∀ a x, ((![v1487] : Fin 1 → IVec S16 32) a x).toNat < S4096.size a) ∧
  (∀ a x, ((![v1487] : Fin 1 → IVec S16 32) a x).toNat < S4096.size a) ∧
  (∀ a x, ((![v1487] : Fin 1 → IVec S16 32) a x).toNat < S4096.size a)
theorem k0_idx331_inb : ∀ (v1487 : IVec S16 32) (k0_hw111 : k0_chk111 v1487), ∀ a x, ((![v1487] : Fin 1 → IVec S16 32) a x).toNat < S4096.size a := fun v1487 k0_hw111 => k0_hw111.1
theorem k0_idx332_inb : ∀ (v1487 : IVec S16 32) (k0_hw111 : k0_chk111 v1487), ∀ a x, ((![v1487] : Fin 1 → IVec S16 32) a x).toNat < S4096.size a := fun v1487 k0_hw111 => k0_hw111.2.1
theorem k0_idx333_inb : ∀ (v1487 : IVec S16 32) (k0_hw111 : k0_chk111 v1487), ∀ a x, ((![v1487] : Fin 1 → IVec S16 32) a x).toNat < S4096.size a := fun v1487 k0_hw111 => k0_hw111.2.2

def k0_chk112 (v1500 : IVec S16 32) : Prop :=
  (∀ a x, ((![v1500] : Fin 1 → IVec S16 32) a x).toNat < S4096.size a) ∧
  (∀ a x, ((![v1500] : Fin 1 → IVec S16 32) a x).toNat < S4096.size a) ∧
  (∀ a x, ((![v1500] : Fin 1 → IVec S16 32) a x).toNat < S4096.size a)
theorem k0_idx334_inb : ∀ (v1500 : IVec S16 32) (k0_hw112 : k0_chk112 v1500), ∀ a x, ((![v1500] : Fin 1 → IVec S16 32) a x).toNat < S4096.size a := fun v1500 k0_hw112 => k0_hw112.1
theorem k0_idx335_inb : ∀ (v1500 : IVec S16 32) (k0_hw112 : k0_chk112 v1500), ∀ a x, ((![v1500] : Fin 1 → IVec S16 32) a x).toNat < S4096.size a := fun v1500 k0_hw112 => k0_hw112.2.1
theorem k0_idx336_inb : ∀ (v1500 : IVec S16 32) (k0_hw112 : k0_chk112 v1500), ∀ a x, ((![v1500] : Fin 1 → IVec S16 32) a x).toNat < S4096.size a := fun v1500 k0_hw112 => k0_hw112.2.2

def k0_chk113 (v1513 : IVec S16 32) : Prop :=
  (∀ a x, ((![v1513] : Fin 1 → IVec S16 32) a x).toNat < S4096.size a) ∧
  (∀ a x, ((![v1513] : Fin 1 → IVec S16 32) a x).toNat < S4096.size a) ∧
  (∀ a x, ((![v1513] : Fin 1 → IVec S16 32) a x).toNat < S4096.size a)
theorem k0_idx337_inb : ∀ (v1513 : IVec S16 32) (k0_hw113 : k0_chk113 v1513), ∀ a x, ((![v1513] : Fin 1 → IVec S16 32) a x).toNat < S4096.size a := fun v1513 k0_hw113 => k0_hw113.1
theorem k0_idx338_inb : ∀ (v1513 : IVec S16 32) (k0_hw113 : k0_chk113 v1513), ∀ a x, ((![v1513] : Fin 1 → IVec S16 32) a x).toNat < S4096.size a := fun v1513 k0_hw113 => k0_hw113.2.1
theorem k0_idx339_inb : ∀ (v1513 : IVec S16 32) (k0_hw113 : k0_chk113 v1513), ∀ a x, ((![v1513] : Fin 1 → IVec S16 32) a x).toNat < S4096.size a := fun v1513 k0_hw113 => k0_hw113.2.2

def k0_chk114 (v1526 : IVec S16 32) : Prop :=
  (∀ a x, ((![v1526] : Fin 1 → IVec S16 32) a x).toNat < S4096.size a) ∧
  (∀ a x, ((![v1526] : Fin 1 → IVec S16 32) a x).toNat < S4096.size a) ∧
  (∀ a x, ((![v1526] : Fin 1 → IVec S16 32) a x).toNat < S4096.size a)
theorem k0_idx340_inb : ∀ (v1526 : IVec S16 32) (k0_hw114 : k0_chk114 v1526), ∀ a x, ((![v1526] : Fin 1 → IVec S16 32) a x).toNat < S4096.size a := fun v1526 k0_hw114 => k0_hw114.1
theorem k0_idx341_inb : ∀ (v1526 : IVec S16 32) (k0_hw114 : k0_chk114 v1526), ∀ a x, ((![v1526] : Fin 1 → IVec S16 32) a x).toNat < S4096.size a := fun v1526 k0_hw114 => k0_hw114.2.1
theorem k0_idx342_inb : ∀ (v1526 : IVec S16 32) (k0_hw114 : k0_chk114 v1526), ∀ a x, ((![v1526] : Fin 1 → IVec S16 32) a x).toNat < S4096.size a := fun v1526 k0_hw114 => k0_hw114.2.2

def k0_chk115 (v1539 : IVec S16 32) : Prop :=
  (∀ a x, ((![v1539] : Fin 1 → IVec S16 32) a x).toNat < S4096.size a) ∧
  (∀ a x, ((![v1539] : Fin 1 → IVec S16 32) a x).toNat < S4096.size a) ∧
  (∀ a x, ((![v1539] : Fin 1 → IVec S16 32) a x).toNat < S4096.size a)
theorem k0_idx343_inb : ∀ (v1539 : IVec S16 32) (k0_hw115 : k0_chk115 v1539), ∀ a x, ((![v1539] : Fin 1 → IVec S16 32) a x).toNat < S4096.size a := fun v1539 k0_hw115 => k0_hw115.1
theorem k0_idx344_inb : ∀ (v1539 : IVec S16 32) (k0_hw115 : k0_chk115 v1539), ∀ a x, ((![v1539] : Fin 1 → IVec S16 32) a x).toNat < S4096.size a := fun v1539 k0_hw115 => k0_hw115.2.1
theorem k0_idx345_inb : ∀ (v1539 : IVec S16 32) (k0_hw115 : k0_chk115 v1539), ∀ a x, ((![v1539] : Fin 1 → IVec S16 32) a x).toNat < S4096.size a := fun v1539 k0_hw115 => k0_hw115.2.2

def k0_chk116 (v1552 : IVec S16 32) : Prop :=
  (∀ a x, ((![v1552] : Fin 1 → IVec S16 32) a x).toNat < S4096.size a) ∧
  (∀ a x, ((![v1552] : Fin 1 → IVec S16 32) a x).toNat < S4096.size a) ∧
  (∀ a x, ((![v1552] : Fin 1 → IVec S16 32) a x).toNat < S4096.size a)
theorem k0_idx346_inb : ∀ (v1552 : IVec S16 32) (k0_hw116 : k0_chk116 v1552), ∀ a x, ((![v1552] : Fin 1 → IVec S16 32) a x).toNat < S4096.size a := fun v1552 k0_hw116 => k0_hw116.1
theorem k0_idx347_inb : ∀ (v1552 : IVec S16 32) (k0_hw116 : k0_chk116 v1552), ∀ a x, ((![v1552] : Fin 1 → IVec S16 32) a x).toNat < S4096.size a := fun v1552 k0_hw116 => k0_hw116.2.1
theorem k0_idx348_inb : ∀ (v1552 : IVec S16 32) (k0_hw116 : k0_chk116 v1552), ∀ a x, ((![v1552] : Fin 1 → IVec S16 32) a x).toNat < S4096.size a := fun v1552 k0_hw116 => k0_hw116.2.2

def k0_chk117 (v1565 : IVec S16 32) : Prop :=
  (∀ a x, ((![v1565] : Fin 1 → IVec S16 32) a x).toNat < S4096.size a) ∧
  (∀ a x, ((![v1565] : Fin 1 → IVec S16 32) a x).toNat < S4096.size a) ∧
  (∀ a x, ((![v1565] : Fin 1 → IVec S16 32) a x).toNat < S4096.size a)
theorem k0_idx349_inb : ∀ (v1565 : IVec S16 32) (k0_hw117 : k0_chk117 v1565), ∀ a x, ((![v1565] : Fin 1 → IVec S16 32) a x).toNat < S4096.size a := fun v1565 k0_hw117 => k0_hw117.1
theorem k0_idx350_inb : ∀ (v1565 : IVec S16 32) (k0_hw117 : k0_chk117 v1565), ∀ a x, ((![v1565] : Fin 1 → IVec S16 32) a x).toNat < S4096.size a := fun v1565 k0_hw117 => k0_hw117.2.1
theorem k0_idx351_inb : ∀ (v1565 : IVec S16 32) (k0_hw117 : k0_chk117 v1565), ∀ a x, ((![v1565] : Fin 1 → IVec S16 32) a x).toNat < S4096.size a := fun v1565 k0_hw117 => k0_hw117.2.2

def k0_chk118 (v1578 : IVec S16 32) : Prop :=
  (∀ a x, ((![v1578] : Fin 1 → IVec S16 32) a x).toNat < S4096.size a) ∧
  (∀ a x, ((![v1578] : Fin 1 → IVec S16 32) a x).toNat < S4096.size a) ∧
  (∀ a x, ((![v1578] : Fin 1 → IVec S16 32) a x).toNat < S4096.size a)
theorem k0_idx352_inb : ∀ (v1578 : IVec S16 32) (k0_hw118 : k0_chk118 v1578), ∀ a x, ((![v1578] : Fin 1 → IVec S16 32) a x).toNat < S4096.size a := fun v1578 k0_hw118 => k0_hw118.1
theorem k0_idx353_inb : ∀ (v1578 : IVec S16 32) (k0_hw118 : k0_chk118 v1578), ∀ a x, ((![v1578] : Fin 1 → IVec S16 32) a x).toNat < S4096.size a := fun v1578 k0_hw118 => k0_hw118.2.1
theorem k0_idx354_inb : ∀ (v1578 : IVec S16 32) (k0_hw118 : k0_chk118 v1578), ∀ a x, ((![v1578] : Fin 1 → IVec S16 32) a x).toNat < S4096.size a := fun v1578 k0_hw118 => k0_hw118.2.2

def k0_chk119 (v1591 : IVec S16 32) : Prop :=
  (∀ a x, ((![v1591] : Fin 1 → IVec S16 32) a x).toNat < S4096.size a) ∧
  (∀ a x, ((![v1591] : Fin 1 → IVec S16 32) a x).toNat < S4096.size a) ∧
  (∀ a x, ((![v1591] : Fin 1 → IVec S16 32) a x).toNat < S4096.size a)
theorem k0_idx355_inb : ∀ (v1591 : IVec S16 32) (k0_hw119 : k0_chk119 v1591), ∀ a x, ((![v1591] : Fin 1 → IVec S16 32) a x).toNat < S4096.size a := fun v1591 k0_hw119 => k0_hw119.1
theorem k0_idx356_inb : ∀ (v1591 : IVec S16 32) (k0_hw119 : k0_chk119 v1591), ∀ a x, ((![v1591] : Fin 1 → IVec S16 32) a x).toNat < S4096.size a := fun v1591 k0_hw119 => k0_hw119.2.1
theorem k0_idx357_inb : ∀ (v1591 : IVec S16 32) (k0_hw119 : k0_chk119 v1591), ∀ a x, ((![v1591] : Fin 1 → IVec S16 32) a x).toNat < S4096.size a := fun v1591 k0_hw119 => k0_hw119.2.2

def k0_chk120 (v1604 : IVec S16 32) : Prop :=
  (∀ a x, ((![v1604] : Fin 1 → IVec S16 32) a x).toNat < S4096.size a) ∧
  (∀ a x, ((![v1604] : Fin 1 → IVec S16 32) a x).toNat < S4096.size a) ∧
  (∀ a x, ((![v1604] : Fin 1 → IVec S16 32) a x).toNat < S4096.size a)
theorem k0_idx358_inb : ∀ (v1604 : IVec S16 32) (k0_hw120 : k0_chk120 v1604), ∀ a x, ((![v1604] : Fin 1 → IVec S16 32) a x).toNat < S4096.size a := fun v1604 k0_hw120 => k0_hw120.1
theorem k0_idx359_inb : ∀ (v1604 : IVec S16 32) (k0_hw120 : k0_chk120 v1604), ∀ a x, ((![v1604] : Fin 1 → IVec S16 32) a x).toNat < S4096.size a := fun v1604 k0_hw120 => k0_hw120.2.1
theorem k0_idx360_inb : ∀ (v1604 : IVec S16 32) (k0_hw120 : k0_chk120 v1604), ∀ a x, ((![v1604] : Fin 1 → IVec S16 32) a x).toNat < S4096.size a := fun v1604 k0_hw120 => k0_hw120.2.2

def k0_chk121 (v1617 : IVec S16 32) : Prop :=
  (∀ a x, ((![v1617] : Fin 1 → IVec S16 32) a x).toNat < S4096.size a) ∧
  (∀ a x, ((![v1617] : Fin 1 → IVec S16 32) a x).toNat < S4096.size a) ∧
  (∀ a x, ((![v1617] : Fin 1 → IVec S16 32) a x).toNat < S4096.size a)
theorem k0_idx361_inb : ∀ (v1617 : IVec S16 32) (k0_hw121 : k0_chk121 v1617), ∀ a x, ((![v1617] : Fin 1 → IVec S16 32) a x).toNat < S4096.size a := fun v1617 k0_hw121 => k0_hw121.1
theorem k0_idx362_inb : ∀ (v1617 : IVec S16 32) (k0_hw121 : k0_chk121 v1617), ∀ a x, ((![v1617] : Fin 1 → IVec S16 32) a x).toNat < S4096.size a := fun v1617 k0_hw121 => k0_hw121.2.1
theorem k0_idx363_inb : ∀ (v1617 : IVec S16 32) (k0_hw121 : k0_chk121 v1617), ∀ a x, ((![v1617] : Fin 1 → IVec S16 32) a x).toNat < S4096.size a := fun v1617 k0_hw121 => k0_hw121.2.2

def k0_chk122 (v1630 : IVec S16 32) : Prop :=
  (∀ a x, ((![v1630] : Fin 1 → IVec S16 32) a x).toNat < S4096.size a) ∧
  (∀ a x, ((![v1630] : Fin 1 → IVec S16 32) a x).toNat < S4096.size a) ∧
  (∀ a x, ((![v1630] : Fin 1 → IVec S16 32) a x).toNat < S4096.size a)
theorem k0_idx364_inb : ∀ (v1630 : IVec S16 32) (k0_hw122 : k0_chk122 v1630), ∀ a x, ((![v1630] : Fin 1 → IVec S16 32) a x).toNat < S4096.size a := fun v1630 k0_hw122 => k0_hw122.1
theorem k0_idx365_inb : ∀ (v1630 : IVec S16 32) (k0_hw122 : k0_chk122 v1630), ∀ a x, ((![v1630] : Fin 1 → IVec S16 32) a x).toNat < S4096.size a := fun v1630 k0_hw122 => k0_hw122.2.1
theorem k0_idx366_inb : ∀ (v1630 : IVec S16 32) (k0_hw122 : k0_chk122 v1630), ∀ a x, ((![v1630] : Fin 1 → IVec S16 32) a x).toNat < S4096.size a := fun v1630 k0_hw122 => k0_hw122.2.2

def k0_chk123 (v1643 : IVec S16 32) : Prop :=
  (∀ a x, ((![v1643] : Fin 1 → IVec S16 32) a x).toNat < S4096.size a) ∧
  (∀ a x, ((![v1643] : Fin 1 → IVec S16 32) a x).toNat < S4096.size a) ∧
  (∀ a x, ((![v1643] : Fin 1 → IVec S16 32) a x).toNat < S4096.size a)
theorem k0_idx367_inb : ∀ (v1643 : IVec S16 32) (k0_hw123 : k0_chk123 v1643), ∀ a x, ((![v1643] : Fin 1 → IVec S16 32) a x).toNat < S4096.size a := fun v1643 k0_hw123 => k0_hw123.1
theorem k0_idx368_inb : ∀ (v1643 : IVec S16 32) (k0_hw123 : k0_chk123 v1643), ∀ a x, ((![v1643] : Fin 1 → IVec S16 32) a x).toNat < S4096.size a := fun v1643 k0_hw123 => k0_hw123.2.1
theorem k0_idx369_inb : ∀ (v1643 : IVec S16 32) (k0_hw123 : k0_chk123 v1643), ∀ a x, ((![v1643] : Fin 1 → IVec S16 32) a x).toNat < S4096.size a := fun v1643 k0_hw123 => k0_hw123.2.2

def k0_chk124 (v1656 : IVec S16 32) : Prop :=
  (∀ a x, ((![v1656] : Fin 1 → IVec S16 32) a x).toNat < S4096.size a) ∧
  (∀ a x, ((![v1656] : Fin 1 → IVec S16 32) a x).toNat < S4096.size a) ∧
  (∀ a x, ((![v1656] : Fin 1 → IVec S16 32) a x).toNat < S4096.size a)
theorem k0_idx370_inb : ∀ (v1656 : IVec S16 32) (k0_hw124 : k0_chk124 v1656), ∀ a x, ((![v1656] : Fin 1 → IVec S16 32) a x).toNat < S4096.size a := fun v1656 k0_hw124 => k0_hw124.1
theorem k0_idx371_inb : ∀ (v1656 : IVec S16 32) (k0_hw124 : k0_chk124 v1656), ∀ a x, ((![v1656] : Fin 1 → IVec S16 32) a x).toNat < S4096.size a := fun v1656 k0_hw124 => k0_hw124.2.1
theorem k0_idx372_inb : ∀ (v1656 : IVec S16 32) (k0_hw124 : k0_chk124 v1656), ∀ a x, ((![v1656] : Fin 1 → IVec S16 32) a x).toNat < S4096.size a := fun v1656 k0_hw124 => k0_hw124.2.2

def k0_chk125 (v1669 : IVec S16 32) : Prop :=
  (∀ a x, ((![v1669] : Fin 1 → IVec S16 32) a x).toNat < S4096.size a) ∧
  (∀ a x, ((![v1669] : Fin 1 → IVec S16 32) a x).toNat < S4096.size a) ∧
  (∀ a x, ((![v1669] : Fin 1 → IVec S16 32) a x).toNat < S4096.size a)
theorem k0_idx373_inb : ∀ (v1669 : IVec S16 32) (k0_hw125 : k0_chk125 v1669), ∀ a x, ((![v1669] : Fin 1 → IVec S16 32) a x).toNat < S4096.size a := fun v1669 k0_hw125 => k0_hw125.1
theorem k0_idx374_inb : ∀ (v1669 : IVec S16 32) (k0_hw125 : k0_chk125 v1669), ∀ a x, ((![v1669] : Fin 1 → IVec S16 32) a x).toNat < S4096.size a := fun v1669 k0_hw125 => k0_hw125.2.1
theorem k0_idx375_inb : ∀ (v1669 : IVec S16 32) (k0_hw125 : k0_chk125 v1669), ∀ a x, ((![v1669] : Fin 1 → IVec S16 32) a x).toNat < S4096.size a := fun v1669 k0_hw125 => k0_hw125.2.2

def k0_chk126 (v1682 : IVec S16 32) : Prop :=
  (∀ a x, ((![v1682] : Fin 1 → IVec S16 32) a x).toNat < S4096.size a) ∧
  (∀ a x, ((![v1682] : Fin 1 → IVec S16 32) a x).toNat < S4096.size a) ∧
  (∀ a x, ((![v1682] : Fin 1 → IVec S16 32) a x).toNat < S4096.size a)
theorem k0_idx376_inb : ∀ (v1682 : IVec S16 32) (k0_hw126 : k0_chk126 v1682), ∀ a x, ((![v1682] : Fin 1 → IVec S16 32) a x).toNat < S4096.size a := fun v1682 k0_hw126 => k0_hw126.1
theorem k0_idx377_inb : ∀ (v1682 : IVec S16 32) (k0_hw126 : k0_chk126 v1682), ∀ a x, ((![v1682] : Fin 1 → IVec S16 32) a x).toNat < S4096.size a := fun v1682 k0_hw126 => k0_hw126.2.1
theorem k0_idx378_inb : ∀ (v1682 : IVec S16 32) (k0_hw126 : k0_chk126 v1682), ∀ a x, ((![v1682] : Fin 1 → IVec S16 32) a x).toNat < S4096.size a := fun v1682 k0_hw126 => k0_hw126.2.2

def k0_chk127 (v1695 : IVec S16 32) : Prop :=
  (∀ a x, ((![v1695] : Fin 1 → IVec S16 32) a x).toNat < S4096.size a) ∧
  (∀ a x, ((![v1695] : Fin 1 → IVec S16 32) a x).toNat < S4096.size a) ∧
  (∀ a x, ((![v1695] : Fin 1 → IVec S16 32) a x).toNat < S4096.size a)
theorem k0_idx379_inb : ∀ (v1695 : IVec S16 32) (k0_hw127 : k0_chk127 v1695), ∀ a x, ((![v1695] : Fin 1 → IVec S16 32) a x).toNat < S4096.size a := fun v1695 k0_hw127 => k0_hw127.1
theorem k0_idx380_inb : ∀ (v1695 : IVec S16 32) (k0_hw127 : k0_chk127 v1695), ∀ a x, ((![v1695] : Fin 1 → IVec S16 32) a x).toNat < S4096.size a := fun v1695 k0_hw127 => k0_hw127.2.1
theorem k0_idx381_inb : ∀ (v1695 : IVec S16 32) (k0_hw127 : k0_chk127 v1695), ∀ a x, ((![v1695] : Fin 1 → IVec S16 32) a x).toNat < S4096.size a := fun v1695 k0_hw127 => k0_hw127.2.2

def k0_chk128 (v1708 : IVec S16 32) : Prop :=
  (∀ a x, ((![v1708] : Fin 1 → IVec S16 32) a x).toNat < S4096.size a) ∧
  (∀ a x, ((![v1708] : Fin 1 → IVec S16 32) a x).toNat < S4096.size a) ∧
  (∀ a x, ((![v1708] : Fin 1 → IVec S16 32) a x).toNat < S4096.size a)
theorem k0_idx382_inb : ∀ (v1708 : IVec S16 32) (k0_hw128 : k0_chk128 v1708), ∀ a x, ((![v1708] : Fin 1 → IVec S16 32) a x).toNat < S4096.size a := fun v1708 k0_hw128 => k0_hw128.1
theorem k0_idx383_inb : ∀ (v1708 : IVec S16 32) (k0_hw128 : k0_chk128 v1708), ∀ a x, ((![v1708] : Fin 1 → IVec S16 32) a x).toNat < S4096.size a := fun v1708 k0_hw128 => k0_hw128.2.1
theorem k0_idx384_inb : ∀ (v1708 : IVec S16 32) (k0_hw128 : k0_chk128 v1708), ∀ a x, ((![v1708] : Fin 1 → IVec S16 32) a x).toNat < S4096.size a := fun v1708 k0_hw128 => k0_hw128.2.2
def k0_mult8 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_795 : BitVec 32 := 3#32
  let v1721 : BitVec 32 := Scalar.muli v18 c3_i32_795
  let c0_i32_796 : BitVec 32 := 0#32
  let v1722 : BitVec 32 := Scalar.addi v1721 c0_i32_796
  let c4096_i32_797 : BitVec 32 := 4096#32
  let v1723 : BitVec 32 := Scalar.muli v1722 c4096_i32_797
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v1724 : BitVec 32 := Scalar.addi v1723 v29
  v1724
def k0_off4 (i : grid0.Coords) (c0_i32_796 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_795 : BitVec 32 := 3#32
  let v1721 : BitVec 32 := Scalar.muli v18 c3_i32_795
  let v1722 : BitVec 32 := Scalar.addi v1721 c0_i32_796
  let c4096_i32_797 : BitVec 32 := 4096#32
  let v1723 : BitVec 32 := Scalar.muli v1722 c4096_i32_797
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v1724 : BitVec 32 := Scalar.addi v1723 v29
  let v1725 : BitVec 32 := v1724
  ![v1725.toNat]
def k0_mult9 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_798 : BitVec 32 := 3#32
  let v1726 : BitVec 32 := Scalar.muli v18 c3_i32_798
  let c1_i32_799 : BitVec 32 := 1#32
  let v1727 : BitVec 32 := Scalar.addi v1726 c1_i32_799
  let c4096_i32_800 : BitVec 32 := 4096#32
  let v1728 : BitVec 32 := Scalar.muli v1727 c4096_i32_800
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v1729 : BitVec 32 := Scalar.addi v1728 v29
  v1729
def k0_mult10 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c3_i32_801 : BitVec 32 := 3#32
  let v1731 : BitVec 32 := Scalar.muli v18 c3_i32_801
  let c2_i32_802 : BitVec 32 := 2#32
  let v1732 : BitVec 32 := Scalar.addi v1731 c2_i32_802
  let c4096_i32_803 : BitVec 32 := 4096#32
  let v1733 : BitVec 32 := Scalar.muli v1732 c4096_i32_803
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c2048_i32 : BitVec 32 := 2048#32
  let v29 : BitVec 32 := Scalar.muli v28 c2048_i32
  let v1734 : BitVec 32 := Scalar.addi v1733 v29
  v1734
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x3 : Shape := ⟨3, ![16, 4096, 3]⟩
abbrev S16x3x128 : Shape := ⟨3, ![16, 3, 128]⟩
abbrev S16x32x128 : Shape := ⟨3, ![16, 32, 128]⟩
abbrev S16x128x3 : Shape := ⟨3, ![16, 128, 3]⟩
abbrev S16x128x32 : Shape := ⟨3, ![16, 128, 32]⟩
abbrev S16x1x4096x3 : Shape := ⟨4, ![16, 1, 4096, 3]⟩
abbrev S16x128x4096x3 : Shape := ⟨4, ![16, 128, 4096, 3]⟩
abbrev S16x128x32x1 : Shape := ⟨4, ![16, 128, 32, 1]⟩
abbrev S16x128x32x3 : Shape := ⟨4, ![16, 128, 32, 3]⟩
abbrev S_ : Shape := ⟨0, ![]⟩
abbrev S16x128x32x3x1 : Shape := ⟨5, ![16, 128, 32, 3, 1]⟩
abbrev S1 : Shape := ⟨1, ![1]⟩
abbrev S1x1x1x1x1 : Shape := ⟨5, ![1, 1, 1, 1, 1]⟩
abbrev S16x128x1x3 : Shape := ⟨4, ![16, 128, 1, 3]⟩
abbrev S16x3x32x128 : Shape := ⟨4, ![16, 3, 32, 128]⟩
abbrev S16x3x4096 : Shape := ⟨3, ![16, 3, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S16x3x128, .f32⟩
  | .hbm, ⟨2, _⟩ => ⟨S16x32x128, .i32⟩
  | .hbm, ⟨3, _⟩ => ⟨S16x128x3, .f32⟩
  | .hbm, ⟨4, _⟩ => ⟨S16x128x32, .i32⟩
  | .hbm, ⟨5, _⟩ => ⟨S16x1x4096x3, .f32⟩
  | .hbm, ⟨6, _⟩ => ⟨S16x128x4096x3, .f32⟩
  | .hbm, ⟨7, _⟩ => ⟨S16x128x32x1, .i32⟩
  | .hbm, ⟨8, _⟩ => ⟨S16x128x32x3, .i32⟩
  | .hbm, ⟨9, _⟩ => ⟨S_, .i32⟩
  | .hbm, ⟨10, _⟩ => ⟨S16x128x32x3, .i32⟩
  | .hbm, ⟨11, _⟩ => ⟨S16x128x32x3, .i1⟩
  | .hbm, ⟨12, _⟩ => ⟨S_, .i32⟩
  | .hbm, ⟨13, _⟩ => ⟨S16x128x32x3, .i32⟩
  | .hbm, ⟨14, _⟩ => ⟨S16x128x32x3, .i32⟩
  | .hbm, ⟨15, _⟩ => ⟨S16x128x32x3, .i32⟩
  | .hbm, ⟨16, _⟩ => ⟨S16x128x32x3x1, .i32⟩
  | .hbm, ⟨17, _⟩ => ⟨S1, .i32⟩
  | .hbm, ⟨18, _⟩ => ⟨S_, .i32⟩
  | .hbm, ⟨19, _⟩ => ⟨S16x128x32x3x1, .i32⟩
  | .hbm, ⟨20, _⟩ => ⟨S16x128x32x3x1, .i1⟩
  | .hbm, ⟨21, _⟩ => ⟨S1x1x1x1x1, .i32⟩
  | .hbm, ⟨22, _⟩ => ⟨S16x128x32x3x1, .i32⟩
  | .hbm, ⟨23, _⟩ => ⟨S16x128x32x3x1, .i1⟩
  | .hbm, ⟨24, _⟩ => ⟨S16x128x32x3x1, .i1⟩
  | .hbm, ⟨25, _⟩ => ⟨S_, .i1⟩
  | .hbm, ⟨26, _⟩ => ⟨S16x128x32x3, .i1⟩
  | .hbm, ⟨27, _⟩ => ⟨S16x128x32x3, .f32⟩
  | .hbm, ⟨28, _⟩ => ⟨S_, .f32⟩
  | .hbm, ⟨29, _⟩ => ⟨S16x128x32x3, .f32⟩
  | .hbm, ⟨30, _⟩ => ⟨S16x128x32x3, .f32⟩
  | .hbm, ⟨31, _⟩ => ⟨S16x128x1x3, .f32⟩
  | .hbm, ⟨32, _⟩ => ⟨S16x128x32x3, .f32⟩
  | .hbm, ⟨33, _⟩ => ⟨S16x128x32x3, .f32⟩
  | .hbm, ⟨34, _⟩ => ⟨S16x3x32x128, .f32⟩
  | .hbm, ⟨35, _⟩ => ⟨S16x3x4096, .f32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩

abbrev nD : Nat := 1
abbrev τ : Topo := Topo.v7x

variable {F : FTy → Type} [FloatOps F]
-- ==== Fps.lean ====
abbrev S16x4096x3 : Shape := ⟨3, ![16, 4096, 3]⟩
abbrev S16x3x4096 : Shape := ⟨3, ![16, 3, 4096]⟩
abbrev S16x3x128 : Shape := ⟨3, ![16, 3, 128]⟩
abbrev S16x32x128 : Shape := ⟨3, ![16, 32, 128]⟩
abbrev S1x32x128 : Shape := ⟨3, ![1, 32, 128]⟩
abbrev S16x1x4096 : Shape := ⟨3, ![16, 1, 4096]⟩
abbrev S16x4096 : Shape := ⟨2, ![16, 4096]⟩
abbrev S16x128 : Shape := ⟨2, ![16, 128]⟩
abbrev S16 : Shape := ⟨1, ![16]⟩
abbrev S16x1 : Shape := ⟨2, ![16, 1]⟩
abbrev S16x1x128 : Shape := ⟨3, ![16, 1, 128]⟩
abbrev S1x1x4096 : Shape := ⟨3, ![1, 1, 4096]⟩
abbrev S4096 : Shape := ⟨1, ![4096]⟩
abbrev S1x4096 : Shape := ⟨2, ![1, 4096]⟩
abbrev S1x1x128 : Shape := ⟨3, ![1, 1, 128]⟩
abbrev S128 : Shape := ⟨1, ![128]⟩
abbrev S128x1 : Shape := ⟨2, ![128, 1]⟩
abbrev S128x4096 : Shape := ⟨2, ![128, 4096]⟩
abbrev S16x128x3 : Shape := ⟨3, ![16, 128, 3]⟩

abbrev nBuf : Space → Nat
  | .hbm => 5
  | .vmem => 4
  | .smem => 0
  | _ => 0

abbrev bufTy : (tb : Table) → Fin (tcTables nBuf tb) → BufTy
  | .hbm, ⟨0, _⟩ => ⟨S16x4096x3, .f32⟩
  | .hbm, ⟨1, _⟩ => ⟨S16x3x4096, .f32⟩
  | .hbm, ⟨2, _⟩ => ⟨S16x3x128, .f32⟩
  | .hbm, ⟨3, _⟩ => ⟨S16x32x128, .i32⟩
  | .hbm, ⟨4, _⟩ => ⟨S16x128x3, .f32⟩
  | .local _ .vmem, ⟨0, _⟩ => ⟨S16x3x4096, .f32⟩
  | .local _ .vmem, ⟨1, _⟩ => ⟨S16x3x128, .f32⟩
  | .local _ .vmem, ⟨2, _⟩ => ⟨S1x32x128, .i32⟩
  | .local _ .vmem, ⟨3, _⟩ => ⟨S1x32x128, .i32⟩
  | _, _ => ⟨S16x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_sem0_0 : DmaSem sig := 0
abbrev cc0_sem1_0 : DmaSem sig := 1
abbrev cc0_sem2_0 : DmaSem sig := 2
abbrev cc0_sem2_1 : DmaSem sig := 3

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_10 : BitVec 32 := 0#32
  let c128_i32 : BitVec 32 := 128#32
  let v17 : BitVec 32 := Scalar.addi c0_i32_10 c128_i32
  let c1_i32 : BitVec 32 := 1#32
  ⟨c0_i32_10, v17, c1_i32⟩
def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let v4 : BitVec 32 := Scalar.extui v3
  let c0_i32_2 : BitVec 32 := 0#32
  let v5 : BitVec 1 := Scalar.cmpi .ne v4 c0_i32_2
  v5

def k0_off1 (i : grid0.Coords) : Fin 3 → Nat :=
  let arg0 : BitVec 32 := BitVec.ofNat 32 (i 0).val
  let c1_i32 : BitVec 32 := 1#32
  let v6 : BitVec 32 := Scalar.subi arg0 c1_i32
  let v7 : Index := Scalar.indexCast v6
  let c0 : Index := 0#32
  let c0_3 : Index := 0#32
  ![v7.toNat, 0, 0]
def k0_off2 (i : grid0.Coords) : Fin 3 → Nat :=
  let arg0 : BitVec 32 := BitVec.ofNat 32 (i 0).val
  let c1_i32 : BitVec 32 := 1#32
  let v6 : BitVec 32 := Scalar.subi arg0 c1_i32
  let v11 : Index := Scalar.indexCast v6
  let c1 : Index := 1#32
  let c0_4 : Index := 0#32
  ![v11.toNat, 1, 0]
def k0_off3 (i : grid0.Coords) : Fin 3 → Nat :=
  let arg0 : BitVec 32 := BitVec.ofNat 32 (i 0).val
  let c1_i32 : BitVec 32 := 1#32
  let v6 : BitVec 32 := Scalar.subi arg0 c1_i32
  let v15 : Index := Scalar.indexCast v6
  let c2 : Index := 2#32
  let c0_5 : Index := 0#32
  ![v15.toNat, 2, 0]
def k0_off4 (i : grid0.Coords) : Fin 3 → Nat :=
  let arg0 : BitVec 32 := BitVec.ofNat 32 (i 0).val
  let c1_i32 : BitVec 32 := 1#32
  let v6 : BitVec 32 := Scalar.subi arg0 c1_i32
  let v19 : Index := Scalar.indexCast v6
  let c0_6 : Index := 0#32
  let c0_7 : Index := 0#32
  ![v19.toNat, 0, 0]
def k0_off5 (i : grid0.Coords) : Fin 3 → Nat :=
  let arg0 : BitVec 32 := BitVec.ofNat 32 (i 0).val
  let c1_i32 : BitVec 32 := 1#32
  let v6 : BitVec 32 := Scalar.subi arg0 c1_i32
  let v23 : Index := Scalar.indexCast v6
  let c1_8 : Index := 1#32
  let c0_9 : Index := 0#32
  ![v23.toNat, 1, 0]
def k0_off6 (i : grid0.Coords) : Fin 3 → Nat :=
  let arg0 : BitVec 32 := BitVec.ofNat 32 (i 0).val
  let c1_i32 : BitVec 32 := 1#32
  let v6 : BitVec 32 := Scalar.subi arg0 c1_i32
  let v27 : Index := Scalar.indexCast v6
  let c2_10 : Index := 2#32
  let c0_11 : Index := 0#32
  ![v27.toNat, 2, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 1 → Memref sig .tc .vmem S16x3x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FpsIdeal.lean ====
variable {F : FTy → Type} [FloatOps F] [Named F]
def κ : String → Option EReal := fun
  | "big" => some ⊤
  | _ => none
-- ==== FpsReferenceIdeal.lean ====
abbrev S16x4096x3 : Shape := ⟨3, ![16, 4096, 3]⟩
abbrev S_ : Shape := ⟨0, ![]⟩
abbrev S16x128 : Shape := ⟨2, ![16, 128]⟩
abbrev S16x4096 : Shape := ⟨2, ![16, 4096]⟩
abbrev S16 : Shape := ⟨1, ![16]⟩
abbrev S1 : Shape := ⟨1, ![1]⟩
abbrev S16x1 : Shape := ⟨2, ![16, 1]⟩
abbrev S16x2 : Shape := ⟨2, ![16, 2]⟩
abbrev S16x3 : Shape := ⟨2, ![16, 3]⟩
abbrev S16x1x3 : Shape := ⟨3, ![16, 1, 3]⟩
abbrev S16x128x1 : Shape := ⟨3, ![16, 128, 1]⟩
abbrev S16x128x3 : Shape := ⟨3, ![16, 128, 3]⟩
abbrev S16x128x3x1 : Shape := ⟨4, ![16, 128, 3, 1]⟩
abbrev S1x1x1x1 : Shape := ⟨4, ![1, 1, 1, 1]⟩
abbrev S16x128x1x3 : Shape := ⟨4, ![16, 128, 1, 3]⟩
abbrev S16x1x4096x3 : Shape := ⟨4, ![16, 1, 4096, 3]⟩
abbrev S16x128x4096x3 : Shape := ⟨4, ![16, 128, 4096, 3]⟩
abbrev S16x128x4096 : Shape := ⟨3, ![16, 128, 4096]⟩
abbrev S16x128x32 : Shape := ⟨3, ![16, 128, 32]⟩
abbrev S16x3x128 : Shape := ⟨3, ![16, 3, 128]⟩
abbrev S16x32x128 : Shape := ⟨3, ![16, 32, 128]⟩

abbrev nBuf : Space → Nat
  | .hbm => 97
  | .vmem => 0
  | .smem => 0
  | _ => 0

abbrev bufTy : (tb : Table) → Fin (tcTables nBuf tb) → BufTy
  | .hbm, ⟨0, _⟩ => ⟨S16x4096x3, .f32⟩
  | .hbm, ⟨1, _⟩ => ⟨S_, .i32⟩
  | .hbm, ⟨2, _⟩ => ⟨S16x128, .i32⟩
  | .hbm, ⟨3, _⟩ => ⟨S_, .f32⟩
  | .hbm, ⟨4, _⟩ => ⟨S16x4096, .f32⟩
  | .hbm, ⟨5, _⟩ => ⟨S_, .i32⟩
  | .hbm, ⟨6, _⟩ => ⟨S16, .i32⟩
  | .hbm, ⟨7, _⟩ => ⟨S_, .i32⟩
  | .hbm, ⟨8, _⟩ => ⟨S_, .i32⟩
  | .hbm, ⟨9, _⟩ => ⟨S16x4096x3, .f32⟩
  | .hbm, ⟨10, _⟩ => ⟨S_, .i32⟩
  | .hbm, ⟨11, _⟩ => ⟨S_, .i32⟩
  | .hbm, ⟨12, _⟩ => ⟨S16x128, .i32⟩
  | .hbm, ⟨13, _⟩ => ⟨S16x4096, .f32⟩
  | .hbm, ⟨14, _⟩ => ⟨S16, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S1, .i32⟩
  | .hbm, ⟨26, _⟩ => ⟨S16x128, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i1⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S16, .i32⟩
  | .hbm, ⟨35, _⟩ => ⟨S_, .i32⟩
  | .hbm, ⟨36, _⟩ => ⟨S16, .i32⟩
  | .hbm, ⟨37, _⟩ => ⟨S16, .i1⟩
  | .hbm, ⟨38, _⟩ => ⟨S_, .i32⟩
  | .hbm, ⟨39, _⟩ => ⟨S16, .i32⟩
  | .hbm, ⟨40, _⟩ => ⟨S16, .i32⟩
  | .hbm, ⟨41, _⟩ => ⟨S16, .i32⟩
  | .hbm, ⟨42, _⟩ => ⟨S16x1, .i32⟩
  | .hbm, ⟨43, _⟩ => ⟨S16x1, .i32⟩
  | .hbm, ⟨44, _⟩ => ⟨S16x2, .i32⟩
  | .hbm, ⟨45, _⟩ => ⟨S16x3, .f32⟩
  | .hbm, ⟨46, _⟩ => ⟨S16x1x3, .f32⟩
  | .hbm, ⟨47, _⟩ => ⟨S16x4096x3, .f32⟩
  | .hbm, ⟨48, _⟩ => ⟨S16x4096x3, .f32⟩
  | .hbm, ⟨49, _⟩ => ⟨S16x4096x3, .f32⟩
  | .hbm, ⟨50, _⟩ => ⟨S_, .f32⟩
  | .hbm, ⟨51, _⟩ => ⟨S16x4096, .f32⟩
  | .hbm, ⟨52, _⟩ => ⟨S16x4096, .f32⟩
  | .hbm, ⟨53, _⟩ => ⟨S16x4096, .i32⟩
  | .hbm, ⟨54, _⟩ => ⟨S_, .f32⟩
  | .hbm, ⟨55, _⟩ => ⟨S_, .i32⟩
  | .hbm, ⟨56, _⟩ => ⟨S16, .f32⟩
  | .hbm, ⟨57, _⟩ => ⟨S16, .i32⟩
  | .hbm, ⟨58, _⟩ => ⟨S_, .i32⟩
  | .hbm, ⟨59, _⟩ => ⟨S_, .i32⟩
  | .hbm, ⟨60, _⟩ => ⟨S16x128x1, .i32⟩
  | .hbm, ⟨61, _⟩ => ⟨S16x128x3, .i32⟩
  | .hbm, ⟨62, _⟩ => ⟨S_, .i32⟩
  | .hbm, ⟨63, _⟩ => ⟨S16x128x3, .i32⟩
  | .hbm, ⟨64, _⟩ => ⟨S16x128x3, .i1⟩
  | .hbm, ⟨65, _⟩ => ⟨S_, .i32⟩
  | .hbm, ⟨66, _⟩ => ⟨S16x128x3, .i32⟩
  | .hbm, ⟨67, _⟩ => ⟨S16x128x3, .i32⟩
  | .hbm, ⟨68, _⟩ => ⟨S16x128x3, .i32⟩
  | .hbm, ⟨69, _⟩ => ⟨S16x128x3x1, .i32⟩
  | .hbm, ⟨70, _⟩ => ⟨S1, .i32⟩
  | .hbm, ⟨71, _⟩ => ⟨S_, .i32⟩
  | .hbm, ⟨72, _⟩ => ⟨S16x128x3x1, .i32⟩
  | .hbm, ⟨73, _⟩ => ⟨S16x128x3x1, .i1⟩
  | .hbm, ⟨74, _⟩ => ⟨S1x1x1x1, .i32⟩
  | .hbm, ⟨75, _⟩ => ⟨S16x128x3x1, .i32⟩
  | .hbm, ⟨76, _⟩ => ⟨S16x128x3x1, .i1⟩
  | .hbm, ⟨77, _⟩ => ⟨S16x128x3x1, .i1⟩
  | .hbm, ⟨78, _⟩ => ⟨S_, .i1⟩
  | .hbm, ⟨79, _⟩ => ⟨S16x128x3, .i1⟩
  | .hbm, ⟨80, _⟩ => ⟨S16x128x3, .f32⟩
  | .hbm, ⟨81, _⟩ => ⟨S_, .f32⟩
  | .hbm, ⟨82, _⟩ => ⟨S16x128x3, .f32⟩
  | .hbm, ⟨83, _⟩ => ⟨S16x128x3, .f32⟩
  | .hbm, ⟨84, _⟩ => ⟨S16x128x1x3, .f32⟩
  | .hbm, ⟨85, _⟩ => ⟨S16x1x4096x3, .f32⟩
  | .hbm, ⟨86, _⟩ => ⟨S16x128x4096x3, .f32⟩
  | .hbm, ⟨87, _⟩ => ⟨S16x128x4096x3, .f32⟩
  | .hbm, ⟨88, _⟩ => ⟨S16x128x4096x3, .f32⟩
  | .hbm, ⟨89, _⟩ => ⟨S16x128x4096x3, .f32⟩
  | .hbm, ⟨90, _⟩ => ⟨S_, .f32⟩
  | .hbm, ⟨91, _⟩ => ⟨S16x128x4096, .f32⟩
  | .hbm, ⟨92, _⟩ => ⟨S16x128x4096, .f32⟩
  | .hbm, ⟨93, _⟩ => ⟨S16x128x32, .f32⟩
  | .hbm, ⟨94, _⟩ => ⟨S16x128x32, .i32⟩
  | .hbm, ⟨95, _⟩ => ⟨S16x3x128, .f32⟩
  | .hbm, ⟨96, _⟩ => ⟨S16x32x128, .i32⟩
  | _, _ => ⟨S16x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_c_1 : Ref sig .tc := ⟨.hbm, 7, rfl⟩
abbrev main_c_2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev main_v3_5 : Ref sig .tc := ⟨.hbm, 14, rfl⟩
abbrev main_while0c_c_9 : Ref sig .tc := ⟨.hbm, 15, rfl⟩
abbrev main_while0c_v17 : Ref sig .tc := ⟨.hbm, 16, rfl⟩
abbrev main_while0b_c_9 : Ref sig .tc := ⟨.hbm, 17, rfl⟩
abbrev main_while0b_v17 : Ref sig .tc := ⟨.hbm, 18, rfl⟩
abbrev main_while0b_c_10 : Ref sig .tc := ⟨.hbm, 19, rfl⟩
abbrev main_while0b_v18 : Ref sig .tc := ⟨.hbm, 20, rfl⟩
abbrev main_while0b_c_11 : Ref sig .tc := ⟨.hbm, 21, rfl⟩
abbrev main_while0b_v19 : Ref sig .tc := ⟨.hbm, 22, rfl⟩
abbrev main_while0b_v20 : Ref sig .tc := ⟨.hbm, 23, rfl⟩
abbrev main_while0b_v21 : Ref sig .tc := ⟨.hbm, 24, rfl⟩
abbrev main_while0b_v22 : Ref sig .tc := ⟨.hbm, 25, rfl⟩
abbrev main_while0b_v23 : Ref sig .tc := ⟨.hbm, 26, rfl⟩
abbrev main_while0b_v24 : Ref sig .tc := ⟨.hbm, 27, rfl⟩
abbrev main_while0b_c_12 : Ref sig .tc := ⟨.hbm, 28, rfl⟩
abbrev main_while0b_v25 : Ref sig .tc := ⟨.hbm, 29, rfl⟩
abbrev main_while0b_v26 : Ref sig .tc := ⟨.hbm, 30, rfl⟩
abbrev main_while0b_c_13 : Ref sig .tc := ⟨.hbm, 31, rfl⟩
abbrev main_while0b_v27 : Ref sig .tc := ⟨.hbm, 32, rfl⟩
abbrev main_while0b_v28 : Ref sig .tc := ⟨.hbm, 33, rfl⟩
abbrev main_while0b_v29 : Ref sig .tc := ⟨.hbm, 34, rfl⟩
abbrev main_while0b_c_14 : Ref sig .tc := ⟨.hbm, 35, rfl⟩
abbrev main_while0b_v30 : Ref sig .tc := ⟨.hbm, 36, rfl⟩
abbrev main_while0b_v31 : Ref sig .tc := ⟨.hbm, 37, rfl⟩
abbrev main_while0b_c_15 : Ref sig .tc := ⟨.hbm, 38, rfl⟩
abbrev main_while0b_v32 : Ref sig .tc := ⟨.hbm, 39, rfl⟩
abbrev main_while0b_v33 : Ref sig .tc := ⟨.hbm, 40, rfl⟩
abbrev main_while0b_v34 : Ref sig .tc := ⟨.hbm, 41, rfl⟩
abbrev main_while0b_v35 : Ref sig .tc := ⟨.hbm, 42, rfl⟩
abbrev main_while0b_v36 : Ref sig .tc := ⟨.hbm, 43, rfl⟩
abbrev main_while0b_v37 : Ref sig .tc := ⟨.hbm, 44, rfl⟩
abbrev main_while0b_v38 : Ref sig .tc := ⟨.hbm, 45, rfl⟩
abbrev main_while0b_v39 : Ref sig .tc := ⟨.hbm, 46, rfl⟩
abbrev main_while0b_v40 : Ref sig .tc := ⟨.hbm, 47, rfl⟩
abbrev main_while0b_v41 : Ref sig .tc := ⟨.hbm, 48, rfl⟩
abbrev main_while0b_v42 : Ref sig .tc := ⟨.hbm, 49, rfl⟩
abbrev main_while0b_cst_16 : Ref sig .tc := ⟨.hbm, 50, rfl⟩
abbrev main_while0b_v43 : Ref sig .tc := ⟨.hbm, 51, rfl⟩
abbrev main_while0b_v44 : Ref sig .tc := ⟨.hbm, 52, rfl⟩
abbrev main_while0b_call0_v0 : Ref sig .tc := ⟨.hbm, 53, rfl⟩
abbrev main_while0b_call0_cst : Ref sig .tc := ⟨.hbm, 54, rfl⟩
abbrev main_while0b_call0_c : Ref sig .tc := ⟨.hbm, 55, rfl⟩
abbrev main_while0b_call0_v1_0 : Ref sig .tc := ⟨.hbm, 56, rfl⟩
abbrev main_while0b_v45 : Ref sig .tc := ⟨.hbm, 57, rfl⟩
abbrev main_while0b_c_17 : Ref sig .tc := ⟨.hbm, 58, rfl⟩
abbrev main_while0b_v46 : Ref sig .tc := ⟨.hbm, 59, rfl⟩
abbrev main_v4 : Ref sig .tc := ⟨.hbm, 60, rfl⟩
abbrev main_v5 : Ref sig .tc := ⟨.hbm, 61, rfl⟩
abbrev main_call1_c : Ref sig .tc := ⟨.hbm, 62, rfl⟩
abbrev main_call1_v0 : Ref sig .tc := ⟨.hbm, 63, rfl⟩
abbrev main_call1_v1 : Ref sig .tc := ⟨.hbm, 64, rfl⟩
abbrev main_call1_c_0 : Ref sig .tc := ⟨.hbm, 65, rfl⟩
abbrev main_call1_v2 : Ref sig .tc := ⟨.hbm, 66, rfl⟩
abbrev main_call1_v3 : Ref sig .tc := ⟨.hbm, 67, rfl⟩
abbrev main_call1_v4 : Ref sig .tc := ⟨.hbm, 68, rfl⟩
abbrev main_call1_v5 : Ref sig .tc := ⟨.hbm, 69, rfl⟩
abbrev main_call1_c_1 : Ref sig .tc := ⟨.hbm, 70, rfl⟩
abbrev main_call1_c_2 : Ref sig .tc := ⟨.hbm, 71, rfl⟩
abbrev main_call1_v6 : Ref sig .tc := ⟨.hbm, 72, rfl⟩
abbrev main_call1_v7 : Ref sig .tc := ⟨.hbm, 73, rfl⟩
abbrev main_call1_v8 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_c_3 : Ref sig .tc := ⟨.hbm, 78, rfl⟩
abbrev main_call1_v12 : Ref sig .tc := ⟨.hbm, 79, rfl⟩
abbrev main_call1_v13 : Ref sig .tc := ⟨.hbm, 80, rfl⟩
abbrev main_call1_cst : Ref sig .tc := ⟨.hbm, 81, rfl⟩
abbrev main_call1_v14 : Ref sig .tc := ⟨.hbm, 82, rfl⟩
abbrev main_v6 : Ref sig .tc := ⟨.hbm, 83, rfl⟩
abbrev main_v7 : Ref sig .tc := ⟨.hbm, 84, rfl⟩
abbrev main_v8 : Ref sig .tc := ⟨.hbm, 85, rfl⟩
abbrev main_v9 : Ref sig .tc := ⟨.hbm, 86, rfl⟩
abbrev main_v10 : Ref sig .tc := ⟨.hbm, 87, rfl⟩
abbrev main_v11 : Ref sig .tc := ⟨.hbm, 88, rfl⟩
abbrev main_v12 : Ref sig .tc := ⟨.hbm, 89, rfl⟩
abbrev main_cst_3 : Ref sig .tc := ⟨.hbm, 90, rfl⟩
abbrev main_v13 : Ref sig .tc := ⟨.hbm, 91, rfl⟩
abbrev main_v14 : Ref sig .tc := ⟨.hbm, 92, rfl⟩
abbrev main_values : Ref sig .tc := ⟨.hbm, 93, rfl⟩
abbrev main_indices : Ref sig .tc := ⟨.hbm, 94, rfl⟩
abbrev main_v15 : Ref sig .tc := ⟨.hbm, 95, rfl⟩
abbrev main_v16 : Ref sig .tc := ⟨.hbm, 96, rfl⟩

abbrev nD : Nat := 1
abbrev τ : Topo := Topo.v7x

variable {F : FTy → Type} [FloatOps F]

abbrev main_while0_count : Scf.Loop 32 := ⟨0#32, 128#32, 1#32⟩
-- ==== Mlp.lean ====
abbrev S16x3x4096 : Shape := ⟨3, ![16, 3, 4096]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x384 : Shape := ⟨2, ![128, 384]⟩
abbrev S384 : Shape := ⟨1, ![384]⟩
abbrev S64x3 : Shape := ⟨2, ![64, 3]⟩
abbrev S64x1 : Shape := ⟨2, ![64, 1]⟩
abbrev S128x64 : Shape := ⟨2, ![128, 64]⟩
abbrev S128x1 : Shape := ⟨2, ![128, 1]⟩
abbrev S384x128 : Shape := ⟨2, ![384, 128]⟩
abbrev S384x1 : Shape := ⟨2, ![384, 1]⟩
abbrev S16x128x384 : Shape := ⟨3, ![16, 128, 384]⟩
abbrev S2x3x4096 : Shape := ⟨3, ![2, 3, 4096]⟩
abbrev S16x128x4096 : Shape := ⟨3, ![16, 128, 4096]⟩
abbrev S16x384x128 : Shape := ⟨3, ![16, 384, 128]⟩
abbrev S128x128 : Shape := ⟨2, ![128, 128]⟩
abbrev S1x3x4096 : Shape := ⟨3, ![1, 3, 4096]⟩
abbrev S3x4096 : Shape := ⟨2, ![3, 4096]⟩
abbrev S3x8192 : Shape := ⟨2, ![3, 8192]⟩
abbrev S1x8192 : Shape := ⟨2, ![1, 8192]⟩
abbrev S64x8192 : Shape := ⟨2, ![64, 8192]⟩
abbrev S128x8192 : Shape := ⟨2, ![128, 8192]⟩
abbrev S128x4096 : Shape := ⟨2, ![128, 4096]⟩
abbrev S1x128x4096 : Shape := ⟨3, ![1, 128, 4096]⟩
abbrev S384x4096 : Shape := ⟨2, ![384, 4096]⟩
abbrev S1x384x128 : Shape := ⟨3, ![1, 384, 128]⟩
abbrev S1x128x384 : Shape := ⟨3, ![1, 128, 384]⟩

abbrev nBuf : Space → Nat
  | .hbm => 26
  | .vmem => 23
  | .smem => 0
  | _ => 0

abbrev bufTy : (tb : Table) → Fin (tcTables nBuf tb) → BufTy
  | .hbm, ⟨0, _⟩ => ⟨S16x3x4096, .f32⟩
  | .hbm, ⟨1, _⟩ => ⟨S3x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x384, .f32⟩
  | .hbm, ⟨10, _⟩ => ⟨S384, .f32⟩
  | .hbm, ⟨11, _⟩ => ⟨S384, .f32⟩
  | .hbm, ⟨12, _⟩ => ⟨S384, .f32⟩
  | .hbm, ⟨13, _⟩ => ⟨S64x3, .f32⟩
  | .hbm, ⟨14, _⟩ => ⟨S64x1, .f32⟩
  | .hbm, ⟨15, _⟩ => ⟨S64x1, .f32⟩
  | .hbm, ⟨16, _⟩ => ⟨S64x1, .f32⟩
  | .hbm, ⟨17, _⟩ => ⟨S128x64, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S384x128, .f32⟩
  | .hbm, ⟨22, _⟩ => ⟨S384x1, .f32⟩
  | .hbm, ⟨23, _⟩ => ⟨S384x1, .f32⟩
  | .hbm, ⟨24, _⟩ => ⟨S384x1, .f32⟩
  | .hbm, ⟨25, _⟩ => ⟨S16x128x384, .f32⟩
  | .local _ .vmem, ⟨0, _⟩ => ⟨S2x3x4096, .f32⟩
  | .local _ .vmem, ⟨1, _⟩ => ⟨S2x3x4096, .f32⟩
  | .local _ .vmem, ⟨2, _⟩ => ⟨S64x3, .f32⟩
  | .local _ .vmem, ⟨3, _⟩ => ⟨S64x1, .f32⟩
  | .local _ .vmem, ⟨4, _⟩ => ⟨S64x1, .f32⟩
  | .local _ .vmem, ⟨5, _⟩ => ⟨S64x1, .f32⟩
  | .local _ .vmem, ⟨6, _⟩ => ⟨S128x64, .f32⟩
  | .local _ .vmem, ⟨7, _⟩ => ⟨S128x1, .f32⟩
  | .local _ .vmem, ⟨8, _⟩ => ⟨S128x1, .f32⟩
  | .local _ .vmem, ⟨9, _⟩ => ⟨S128x1, .f32⟩
  | .local _ .vmem, ⟨10, _⟩ => ⟨S384x128, .f32⟩
  | .local _ .vmem, ⟨11, _⟩ => ⟨S384x1, .f32⟩
  | .local _ .vmem, ⟨12, _⟩ => ⟨S384x1, .f32⟩
  | .local _ .vmem, ⟨13, _⟩ => ⟨S384x1, .f32⟩
  | .local _ .vmem, ⟨14, _⟩ => ⟨S16x128x384, .f32⟩
  | .local _ .vmem, ⟨15, _⟩ => ⟨S16x128x4096, .f32⟩
  | .local _ .vmem, ⟨16, _⟩ => ⟨S16x384x128, .f32⟩
  | .local _ .vmem, ⟨17, _⟩ => ⟨S64x128, .f32⟩
  | .local _ .vmem, ⟨18, _⟩ => ⟨S64x128, .f32⟩
  | .local _ .vmem, ⟨19, _⟩ => ⟨S128x128, .f32⟩
  | .local _ .vmem, ⟨20, _⟩ => ⟨S128x128, .f32⟩
  | .local _ .vmem, ⟨21, _⟩ => ⟨S384x128, .f32⟩
  | .local _ .vmem, ⟨22, _⟩ => ⟨S384x128, .f32⟩
  | _, _ => ⟨S16x3x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14

abbrev nD : Nat := 1
abbrev τ : Topo := Topo.v7x

variable {F : FTy → Type} [FloatOps F]

abbrev grid0 : Pipeline.Grid := ⟨1, ![25], ![false]⟩

def k0_cond3 (i : grid0.Coords) : BitVec 1 :=
  let arg0 : BitVec 32 := BitVec.ofNat 32 (i 0).val
  let c8_i32_2 : BitVec 32 := 8#32
  let v6 : BitVec 1 := Scalar.cmpi .sge arg0 c8_i32_2
  let c16_i32 : BitVec 32 := 16#32
  let v7 : BitVec 1 := Scalar.cmpi .slt arg0 c16_i32
  let v8 : BitVec 1 := Scalar.andi v6 v7
  let v9 : BitVec 32 := Scalar.extui v8
  let c0_i32_3 : BitVec 32 := 0#32
  let v10 : BitVec 1 := Scalar.cmpi .ne v9 c0_i32_3
  v10

def k0_off1 (i : grid0.Coords) : Fin 3 → Nat :=
  let c2_i32 : BitVec 32 := 2#32
  let arg0 : BitVec 32 := BitVec.ofNat 32 (i 0).val
  let c8_i32_8 : BitVec 32 := 8#32
  let v19 : BitVec 32 := Scalar.subi arg0 c8_i32_8
  let v86 : BitVec 32 := Scalar.muli c2_i32 v19
  let v87 : Index := Scalar.indexCast v86
  let c0_35 : Index := 0#32
  let c0_36 : Index := 0#32
  ![v87.toNat, 0, 0]
def k0_off2 (i : grid0.Coords) : Fin 3 → Nat :=
  let c2_i32_37 : BitVec 32 := 2#32
  let arg0 : BitVec 32 := BitVec.ofNat 32 (i 0).val
  let c8_i32_8 : BitVec 32 := 8#32
  let v19 : BitVec 32 := Scalar.subi arg0 c8_i32_8
  let v93 : BitVec 32 := Scalar.muli c2_i32_37 v19
  let c1_i32 : BitVec 32 := 1#32
  let v94 : BitVec 32 := Scalar.addi v93 c1_i32
  let v95 : Index := Scalar.indexCast v94
  let c0_38 : Index := 0#32
  let c0_39 : Index := 0#32
  ![v95.toNat, 0, 0]
def k0_cond4 (i : grid0.Coords) : BitVec 1 :=
  let arg0 : BitVec 32 := BitVec.ofNat 32 (i 0).val
  let c16_i32_4 : BitVec 32 := 16#32
  let v11 : BitVec 1 := Scalar.cmpi .sge arg0 c16_i32_4
  let c24_i32 : BitVec 32 := 24#32
  let v12 : BitVec 1 := Scalar.cmpi .slt arg0 c24_i32
  let v13 : BitVec 1 := Scalar.andi v11 v12
  let v14 : BitVec 32 := Scalar.extui v13
  let c0_i32_5 : BitVec 32 := 0#32
  let v15 : BitVec 1 := Scalar.cmpi .ne v14 c0_i32_5
  v15

def k0_off3 (i : grid0.Coords) (c0_i32_9 : BitVec 32) : Fin 3 → Nat :=
  let c2_i32 : BitVec 32 := 2#32
  let arg0 : BitVec 32 := BitVec.ofNat 32 (i 0).val
  let c16_i32_8 : BitVec 32 := 16#32
  let v19 : BitVec 32 := Scalar.subi arg0 c16_i32_8
  let v20 : BitVec 32 := Scalar.muli c2_i32 v19
  let v21 : BitVec 32 := Scalar.addi v20 c0_i32_9
  let v22 : Index := Scalar.indexCast v21
  let c0 : Index := 0#32
  let c0_10 : Index := 0#32
  ![v22.toNat, 0, 0]
def k0_off4 (i : grid0.Coords) (c0_i32_40 : BitVec 32) : Fin 3 → Nat :=
  let c2_i32_39 : BitVec 32 := 2#32
  let arg0 : BitVec 32 := BitVec.ofNat 32 (i 0).val
  let c16_i32_8 : BitVec 32 := 16#32
  let v19 : BitVec 32 := Scalar.subi arg0 c16_i32_8
  let v265 : BitVec 32 := Scalar.muli c2_i32_39 v19
  let v266 : BitVec 32 := Scalar.addi v265 c0_i32_40
  let v267 : Index := Scalar.indexCast v266
  let c0_41 : Index := 0#32
  let c0_42 : Index := 0#32
  ![v267.toNat, 0, 0]
def k0_cond5 (i : grid0.Coords) : BitVec 1 :=
  let arg0 : BitVec 32 := BitVec.ofNat 32 (i 0).val
  let c24_i32_6 : BitVec 32 := 24#32
  let v16 : BitVec 1 := Scalar.cmpi .eq arg0 c24_i32_6
  let v17 : BitVec 32 := Scalar.extui v16
  let c0_i32_7 : BitVec 32 := 0#32
  let v18 : BitVec 1 := Scalar.cmpi .ne v17 c0_i32_7
  v18

def cc0_transform_0 (i : grid0.Coords) : Fin 3 → Nat :=
  let arg0 : BitVec 32 := BitVec.ofNat 32 (i 0).val
  let c8_i32 : BitVec 32 := 8#32
  let v0 : BitVec 1 := Scalar.cmpi .slt arg0 c8_i32
  let c16_i32 : BitVec 32 := 16#32
  let v1 : BitVec 1 := Scalar.cmpi .slt arg0 c16_i32
  let c8_i32_0 : BitVec 32 := 8#32
  let v2 : BitVec 32 := Scalar.subi arg0 c8_i32_0
  let c24_i32 : BitVec 32 := 24#32
  let v3 : BitVec 1 := Scalar.cmpi .slt arg0 c24_i32
  let c16_i32_1 : BitVec 32 := 16#32
  let v4 : BitVec 32 := Scalar.subi arg0 c16_i32_1
  let c0_i32 : BitVec 32 := 0#32
  let v5 : BitVec 32 := Scalar.select v3 v4 c0_i32
  let v6 : BitVec 32 := Scalar.select v1 v2 v5
  let v7 : BitVec 32 := Scalar.select v0 arg0 v6
  let c0_i32_2 : BitVec 32 := 0#32
  let c0_i32_3 : BitVec 32 := 0#32
  let c0_i32_4 : BitVec 32 := 0#32
  ![v7.toNat, c0_i32_2.toNat, c0_i32_3.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2x3x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x128x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MlpReferenceIdeal.lean ====
abbrev S16x3x4096 : Shape := ⟨3, ![16, 3, 4096]⟩
abbrev S3x64 : Shape := ⟨2, ![3, 64]⟩
abbrev S64 : Shape := ⟨1, ![64]⟩
abbrev S64x128 : Shape := ⟨2, ![64, 128]⟩
abbrev S128 : Shape := ⟨1, ![128]⟩
abbrev S128x384 : Shape := ⟨2, ![128, 384]⟩
abbrev S384 : Shape := ⟨1, ![384]⟩
abbrev S16x3x32x128 : Shape := ⟨4, ![16, 3, 32, 128]⟩
abbrev S16x128x32x3 : Shape := ⟨4, ![16, 128, 32, 3]⟩
abbrev S65536x3 : Shape := ⟨2, ![65536, 3]⟩
abbrev S65536x64 : Shape := ⟨2, ![65536, 64]⟩
abbrev S1x64 : Shape := ⟨2, ![1, 64]⟩
abbrev S_ : Shape := ⟨0, ![]⟩
abbrev S65536x128 : Shape := ⟨2, ![65536, 128]⟩
abbrev S1x128 : Shape := ⟨2, ![1, 128]⟩
abbrev S65536x384 : Shape := ⟨2, ![65536, 384]⟩
abbrev S1x384 : Shape := ⟨2, ![1, 384]⟩
abbrev S2048x32x384 : Shape := ⟨3, ![2048, 32, 384]⟩
abbrev S2048x384 : Shape := ⟨2, ![2048, 384]⟩
abbrev S16x128x384 : Shape := ⟨3, ![16, 128, 384]⟩

abbrev nBuf : Space → Nat
  | .hbm => 173
  | .vmem => 0
  | .smem => 0
  | _ => 0

abbrev hbmTy0_0 (i : Nat) : BufTy := match i % 128 with
  | 0 => ⟨S16x3x4096, .f32⟩
  | 1 => ⟨S3x64, .f32⟩
  | 2 => ⟨S64, .f32⟩
  | 3 => ⟨S64, .f32⟩
  | 4 => ⟨S64, .f32⟩
  | 5 => ⟨S64x128, .f32⟩
  | 6 => ⟨S128, .f32⟩
  | 7 => ⟨S128, .f32⟩
  | 8 => ⟨S128, .f32⟩
  | 9 => ⟨S128x384, .f32⟩
  | 10 => ⟨S384, .f32⟩
  | 11 => ⟨S384, .f32⟩
  | 12 => ⟨S384, .f32⟩
  | 13 => ⟨S16x3x32x128, .f32⟩
  | 14 => ⟨S16x128x32x3, .f32⟩
  | 15 => ⟨S65536x3, .f32⟩
  | 16 => ⟨S65536x64, .f32⟩
  | 17 => ⟨S1x64, .f32⟩
  | 18 => ⟨S65536x64, .f32⟩
  | 19 => ⟨S65536x64, .f32⟩
  | 20 => ⟨S_, .f32⟩
  | 21 => ⟨S64, .f32⟩
  | 22 => ⟨S1x64, .f32⟩
  | 23 => ⟨S_, .f32⟩
  | 24 => ⟨S1x64, .f32⟩
  | 25 => ⟨S1x64, .f32⟩
  | 26 => ⟨S_, .i32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S65536x64, .f32⟩
  | 34 => ⟨S65536x64, .f32⟩
  | 35 => ⟨S65536x64, .f32⟩
  | 36 => ⟨S_, .f32⟩
  | 37 => ⟨S_, .f32⟩
  | 38 => ⟨S_, .f32⟩
  | 39 => ⟨S_, .f32⟩
  | 40 => ⟨S64, .f32⟩
  | 41 => ⟨S1x64, .f32⟩
  | 42 => ⟨S1x64, .f32⟩
  | 43 => ⟨S1x64, .f32⟩
  | 44 => ⟨S_, .f32⟩
  | 45 => ⟨S_, .i1⟩
  | 46 => ⟨S_, .f32⟩
  | 47 => ⟨S_, .f32⟩
  | 48 => ⟨S1x64, .f32⟩
  | 49 => ⟨S1x64, .f32⟩
  | 50 => ⟨S65536x64, .f32⟩
  | 51 => ⟨S65536x64, .f32⟩
  | 52 => ⟨S1x64, .f32⟩
  | 53 => ⟨S65536x64, .f32⟩
  | 54 => ⟨S65536x64, .f32⟩
  | 55 => ⟨S_, .f32⟩
  | 56 => ⟨S1x64, .f32⟩
  | 57 => ⟨S1x64, .f32⟩
  | 58 => ⟨S1x64, .f32⟩
  | 59 => ⟨S65536x64, .f32⟩
  | 60 => ⟨S65536x64, .f32⟩
  | 61 => ⟨S1x64, .f32⟩
  | 62 => ⟨S65536x64, .f32⟩
  | 63 => ⟨S65536x64, .f32⟩
  | 64 => ⟨S_, .f32⟩
  | 65 => ⟨S65536x64, .f32⟩
  | 66 => ⟨S65536x64, .f32⟩
  | 67 => ⟨S65536x128, .f32⟩
  | 68 => ⟨S1x128, .f32⟩
  | 69 => ⟨S65536x128, .f32⟩
  | 70 => ⟨S65536x128, .f32⟩
  | 71 => ⟨S_, .f32⟩
  | 72 => ⟨S128, .f32⟩
  | 73 => ⟨S1x128, .f32⟩
  | 74 => ⟨S_, .f32⟩
  | 75 => ⟨S1x128, .f32⟩
  | 76 => ⟨S1x128, .f32⟩
  | 77 => ⟨S_, .i32⟩
  | 78 => ⟨S_, .f32⟩
  | 79 => ⟨S128, .f32⟩
  | 80 => ⟨S1x128, .f32⟩
  | 81 => ⟨S_, .f32⟩
  | 82 => ⟨S1x128, .f32⟩
  | 83 => ⟨S1x128, .f32⟩
  | 84 => ⟨S65536x128, .f32⟩
  | 85 => ⟨S65536x128, .f32⟩
  | 86 => ⟨S65536x128, .f32⟩
  | 87 => ⟨S_, .f32⟩
  | 88 => ⟨S_, .f32⟩
  | 89 => ⟨S_, .f32⟩
  | 90 => ⟨S_, .f32⟩
  | 91 => ⟨S128, .f32⟩
  | 92 => ⟨S1x128, .f32⟩
  | 93 => ⟨S1x128, .f32⟩
  | 94 => ⟨S1x128, .f32⟩
  | 95 => ⟨S_, .f32⟩
  | 96 => ⟨S_, .i1⟩
  | 97 => ⟨S_, .f32⟩
  | 98 => ⟨S_, .f32⟩
  | 99 => ⟨S1x128, .f32⟩
  | 100 => ⟨S1x128, .f32⟩
  | 101 => ⟨S65536x128, .f32⟩
  | 102 => ⟨S65536x128, .f32⟩
  | 103 => ⟨S1x128, .f32⟩
  | 104 => ⟨S65536x128, .f32⟩
  | 105 => ⟨S65536x128, .f32⟩
  | 106 => ⟨S_, .f32⟩
  | 107 => ⟨S1x128, .f32⟩
  | 108 => ⟨S1x128, .f32⟩
  | 109 => ⟨S1x128, .f32⟩
  | 110 => ⟨S65536x128, .f32⟩
  | 111 => ⟨S65536x128, .f32⟩
  | 112 => ⟨S1x128, .f32⟩
  | 113 => ⟨S65536x128, .f32⟩
  | 114 => ⟨S65536x128, .f32⟩
  | 115 => ⟨S_, .f32⟩
  | 116 => ⟨S65536x128, .f32⟩
  | 117 => ⟨S65536x128, .f32⟩
  | 118 => ⟨S65536x384, .f32⟩
  | 119 => ⟨S1x384, .f32⟩
  | 120 => ⟨S65536x384, .f32⟩
  | 121 => ⟨S65536x384, .f32⟩
  | 122 => ⟨S_, .f32⟩
  | 123 => ⟨S384, .f32⟩
  | 124 => ⟨S1x384, .f32⟩
  | 125 => ⟨S_, .f32⟩
  | 126 => ⟨S1x384, .f32⟩
  | 127 => ⟨S1x384, .f32⟩
  | _ => ⟨S16x3x4096, .f32⟩

abbrev hbmTy0_1 (i : Nat) : BufTy := match i % 128 with
  | 0 => ⟨S_, .i32⟩
  | 1 => ⟨S_, .f32⟩
  | 2 => ⟨S384, .f32⟩
  | 3 => ⟨S1x384, .f32⟩
  | 4 => ⟨S_, .f32⟩
  | 5 => ⟨S1x384, .f32⟩
  | 6 => ⟨S1x384, .f32⟩
  | 7 => ⟨S65536x384, .f32⟩
  | 8 => ⟨S65536x384, .f32⟩
  | 9 => ⟨S65536x384, .f32⟩
  | 10 => ⟨S_, .f32⟩
  | 11 => ⟨S_, .f32⟩
  | 12 => ⟨S_, .f32⟩
  | 13 => ⟨S_, .f32⟩
  | 14 => ⟨S384, .f32⟩
  | 15 => ⟨S1x384, .f32⟩
  | 16 => ⟨S1x384, .f32⟩
  | 17 => ⟨S1x384, .f32⟩
  | 18 => ⟨S_, .f32⟩
  | 19 => ⟨S_, .i1⟩
  | 20 => ⟨S_, .f32⟩
  | 21 => ⟨S_, .f32⟩
  | 22 => ⟨S1x384, .f32⟩
  | 23 => ⟨S1x384, .f32⟩
  | 24 => ⟨S65536x384, .f32⟩
  | 25 => ⟨S65536x384, .f32⟩
  | 26 => ⟨S1x384, .f32⟩
  | 27 => ⟨S65536x384, .f32⟩
  | 28 => ⟨S65536x384, .f32⟩
  | 29 => ⟨S_, .f32⟩
  | 30 => ⟨S1x384, .f32⟩
  | 31 => ⟨S1x384, .f32⟩
  | 32 => ⟨S1x384, .f32⟩
  | 33 => ⟨S65536x384, .f32⟩
  | 34 => ⟨S65536x384, .f32⟩
  | 35 => ⟨S1x384, .f32⟩
  | 36 => ⟨S65536x384, .f32⟩
  | 37 => ⟨S65536x384, .f32⟩
  | 38 => ⟨S_, .f32⟩
  | 39 => ⟨S65536x384, .f32⟩
  | 40 => ⟨S65536x384, .f32⟩
  | 41 => ⟨S2048x32x384, .f32⟩
  | 42 => ⟨S_, .f32⟩
  | 43 => ⟨S2048x384, .f32⟩
  | 44 => ⟨S16x128x384, .f32⟩
  | _ => ⟨S16x3x4096, .f32⟩

abbrev hbmTy (i : Nat) : BufTy := match i / 128 with
  | 0 => hbmTy0_0 i
  | 1 => hbmTy0_1 i
  | _ => ⟨S16x3x4096, .f32⟩

abbrev bufTy : (tb : Table) → Fin (tcTables nBuf tb) → BufTy
  | .hbm, ⟨i, _⟩ => hbmTy i
  | _, _ => ⟨S16x3x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_c : Ref sig .tc := ⟨.hbm, 26, rfl⟩
abbrev main_call0_cst : Ref sig .tc := ⟨.hbm, 27, rfl⟩
abbrev main_call0_v0 : Ref sig .tc := ⟨.hbm, 28, rfl⟩
abbrev main_call0_v1 : Ref sig .tc := ⟨.hbm, 29, rfl⟩
abbrev main_call0_cst_0 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_cst_1 : Ref sig .tc := ⟨.hbm, 37, rfl⟩
abbrev main_call0_v8 : Ref sig .tc := ⟨.hbm, 38, rfl⟩
abbrev main_call0_cst_2 : Ref sig .tc := ⟨.hbm, 39, rfl⟩
abbrev main_call0_v9 : Ref sig .tc := ⟨.hbm, 40, rfl⟩
abbrev main_call0_v10 : Ref sig .tc := ⟨.hbm, 41, rfl⟩
abbrev main_call0_v11 : Ref sig .tc := ⟨.hbm, 42, rfl⟩
abbrev main_call0_v12 : Ref sig .tc := ⟨.hbm, 43, rfl⟩
abbrev main_call0_cst_3 : Ref sig .tc := ⟨.hbm, 44, rfl⟩
abbrev main_call0_v13 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_cst_1 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_call1_cst : Ref sig .tc := ⟨.hbm, 64, rfl⟩
abbrev main_call1_v0 : Ref sig .tc := ⟨.hbm, 65, rfl⟩
abbrev main_v25 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_cst_2 : Ref sig .tc := ⟨.hbm, 71, rfl⟩
abbrev main_v30 : Ref sig .tc := ⟨.hbm, 72, rfl⟩
abbrev main_v31 : Ref sig .tc := ⟨.hbm, 73, rfl⟩
abbrev main_cst_3 : Ref sig .tc := ⟨.hbm, 74, rfl⟩
abbrev main_v32 : Ref sig .tc := ⟨.hbm, 75, rfl⟩
abbrev main_v33 : Ref sig .tc := ⟨.hbm, 76, rfl⟩
abbrev main_c_4 : Ref sig .tc := ⟨.hbm, 77, rfl⟩
abbrev main_call2_cst : Ref sig .tc := ⟨.hbm, 78, rfl⟩
abbrev main_call2_v0 : Ref sig .tc := ⟨.hbm, 79, rfl⟩
abbrev main_call2_v1 : Ref sig .tc := ⟨.hbm, 80, rfl⟩
abbrev main_call2_cst_0 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_cst_1 : Ref sig .tc := ⟨.hbm, 88, rfl⟩
abbrev main_call2_v8 : Ref sig .tc := ⟨.hbm, 89, rfl⟩
abbrev main_call2_cst_2 : Ref sig .tc := ⟨.hbm, 90, rfl⟩
abbrev main_call2_v9 : Ref sig .tc := ⟨.hbm, 91, rfl⟩
abbrev main_call2_v10 : Ref sig .tc := ⟨.hbm, 92, rfl⟩
abbrev main_call2_v11 : Ref sig .tc := ⟨.hbm, 93, rfl⟩
abbrev main_call2_v12 : Ref sig .tc := ⟨.hbm, 94, rfl⟩
abbrev main_call2_cst_3 : Ref sig .tc := ⟨.hbm, 95, rfl⟩
abbrev main_call2_v13 : Ref sig .tc := ⟨.hbm, 96, rfl⟩
abbrev main_call2_cst_4 : Ref sig .tc := ⟨.hbm, 97, rfl⟩
abbrev main_call2_call0_v0 : Ref sig .tc := ⟨.hbm, 98, rfl⟩
abbrev main_call2_call0_v1 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_cst_5 : Ref sig .tc := ⟨.hbm, 106, rfl⟩
abbrev main_v40 : Ref sig .tc := ⟨.hbm, 107, rfl⟩
abbrev main_v41 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_v45 : Ref sig .tc := ⟨.hbm, 112, rfl⟩
abbrev main_v46 : Ref sig .tc := ⟨.hbm, 113, rfl⟩
abbrev main_v47 : Ref sig .tc := ⟨.hbm, 114, rfl⟩
abbrev main_call3_cst : Ref sig .tc := ⟨.hbm, 115, rfl⟩
abbrev main_call3_v0 : Ref sig .tc := ⟨.hbm, 116, rfl⟩
abbrev main_v48 : Ref sig .tc := ⟨.hbm, 117, rfl⟩
abbrev main_v49 : Ref sig .tc := ⟨.hbm, 118, rfl⟩
abbrev main_v50 : Ref sig .tc := ⟨.hbm, 119, rfl⟩
abbrev main_v51 : Ref sig .tc := ⟨.hbm, 120, rfl⟩
abbrev main_v52 : Ref sig .tc := ⟨.hbm, 121, rfl⟩
abbrev main_cst_6 : Ref sig .tc := ⟨.hbm, 122, rfl⟩
abbrev main_v53 : Ref sig .tc := ⟨.hbm, 123, rfl⟩
abbrev main_v54 : Ref sig .tc := ⟨.hbm, 124, rfl⟩
abbrev main_cst_7 : Ref sig .tc := ⟨.hbm, 125, rfl⟩
abbrev main_v55 : Ref sig .tc := ⟨.hbm, 126, rfl⟩
abbrev main_v56 : Ref sig .tc := ⟨.hbm, 127, rfl⟩
abbrev main_c_8 : Ref sig .tc := ⟨.hbm, 128, rfl⟩
abbrev main_call4_cst : Ref sig .tc := ⟨.hbm, 129, rfl⟩
abbrev main_call4_v0 : Ref sig .tc := ⟨.hbm, 130, rfl⟩
abbrev main_call4_v1 : Ref sig .tc := ⟨.hbm, 131, rfl⟩
abbrev main_call4_cst_0 : Ref sig .tc := ⟨.hbm, 132, rfl⟩
abbrev main_call4_v2 : Ref sig .tc := ⟨.hbm, 133, rfl⟩
abbrev main_call4_v3 : Ref sig .tc := ⟨.hbm, 134, rfl⟩
abbrev main_call4_v4 : Ref sig .tc := ⟨.hbm, 135, rfl⟩
abbrev main_call4_v5 : Ref sig .tc := ⟨.hbm, 136, rfl⟩
abbrev main_call4_v6 : Ref sig .tc := ⟨.hbm, 137, rfl⟩
abbrev main_call4_v7 : Ref sig .tc := ⟨.hbm, 138, rfl⟩
abbrev main_call4_cst_1 : Ref sig .tc := ⟨.hbm, 139, rfl⟩
abbrev main_call4_v8 : Ref sig .tc := ⟨.hbm, 140, rfl⟩
abbrev main_call4_cst_2 : Ref sig .tc := ⟨.hbm, 141, rfl⟩
abbrev main_call4_v9 : Ref sig .tc := ⟨.hbm, 142, rfl⟩
abbrev main_call4_v10 : Ref sig .tc := ⟨.hbm, 143, rfl⟩
abbrev main_call4_v11 : Ref sig .tc := ⟨.hbm, 144, rfl⟩
abbrev main_call4_v12 : Ref sig .tc := ⟨.hbm, 145, rfl⟩
abbrev main_call4_cst_3 : Ref sig .tc := ⟨.hbm, 146, rfl⟩
abbrev main_call4_v13 : Ref sig .tc := ⟨.hbm, 147, rfl⟩
abbrev main_call4_cst_4 : Ref sig .tc := ⟨.hbm, 148, rfl⟩
abbrev main_call4_call0_v0 : Ref sig .tc := ⟨.hbm, 149, rfl⟩
abbrev main_call4_call0_v1 : Ref sig .tc := ⟨.hbm, 150, rfl⟩
abbrev main_v57 : Ref sig .tc := ⟨.hbm, 151, rfl⟩
abbrev main_v58 : Ref sig .tc := ⟨.hbm, 152, rfl⟩
abbrev main_v59 : Ref sig .tc := ⟨.hbm, 153, rfl⟩
abbrev main_v60 : Ref sig .tc := ⟨.hbm, 154, rfl⟩
abbrev main_v61 : Ref sig .tc := ⟨.hbm, 155, rfl⟩
abbrev main_v62 : Ref sig .tc := ⟨.hbm, 156, rfl⟩
abbrev main_cst_9 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_call5_cst : Ref sig .tc := ⟨.hbm, 166, rfl⟩
abbrev main_call5_v0 : Ref sig .tc := ⟨.hbm, 167, rfl⟩
abbrev main_v71 : Ref sig .tc := ⟨.hbm, 168, rfl⟩
abbrev main_v72 : Ref sig .tc := ⟨.hbm, 169, rfl⟩
abbrev main_cst_10 : Ref sig .tc := ⟨.hbm, 170, rfl⟩
abbrev main_v73 : Ref sig .tc := ⟨.hbm, 171, rfl⟩
abbrev main_v74 : Ref sig .tc := ⟨.hbm, 172, rfl⟩

abbrev nD : Nat := 1
abbrev τ : Topo := Topo.v7x

variable {F : FTy → Type} [FloatOps F]
-- ==== Proof.Steps.lean ====
/-
  The steps of the gather kernel's unrolled middle, once for a symbolic block of sixteen elements.

  A tile holds one batch's three coordinate rows (`mx`), the three rows of centres (`mc`), its stretch of neighbour
  numbers (`mi`) and three rows of results (`mo`). Block `n` loads sixteen numbers, and per coordinate gathers sixteen
  elements, subtracts the centres' and stores the differences. `chSt` says of one coordinate that its first `n` blocks
  hold the differences already; each lemma below runs one piece of a block's text and moves the state on.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.WritesUnit
public import Idealize.ShloMosaic.Lib.VecWindow
public import Idealize.ShloMosaic.Lib.Tactic
public import proofs.«01_k».proof.Proof.Gen.KernelIdeal

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

abbrev UH : Type := URounds (GSem nD τ sig) ℕ
abbrev UU : Type := UH × Counters

local notation "𝕄" => MT nD τ sig (HIx 1) (Elt F) ℕ UU ℕ

abbrev 𝒱₀ : Variants := Variants.none

/-- The vector subcore the grid's point `i` runs on. -/
abbrev thr (d : Dev nD) (i : grid0.Coords) : Thread nD τ := V d ((i 0).castLE hcore0) ((i 1).castLE hsub0)

/-- The kernel's programs at the grid's point `i`. -/
abbrev PR (F : FTy → Type) (i : grid0.Coords) (α : Type) : Type 1 :=
  Prog (TpuEff nD τ sig (Elt F) Λ₀ (.scVector ((i 0).castLE hcore0) ((i 1).castLE hsub0))) α

/-! ## The values -/

/-- The element of a one-axis row at position `k` (taken modulo its length). -/
def at1 {n : ℕ} (hn : 0 < n) (k : ℕ) : (⟨1, ![n]⟩ : Shape).Idx := Shape.ofLane (d := ![n]) ⟨k % n, Nat.mod_lt _ hn⟩

@[simp] theorem at1_val {n : ℕ} (hn : 0 < n) (k : ℕ) (a : Fin 1) : (at1 hn k a).val = k % n := rfl

abbrev XRow (F : FTy → Type) : Type := Vec F S4096 .f32
abbrev CRow (F : FTy → Type) : Type := Vec F S128 .f32
abbrev ORow (F : FTy → Type) : Type := Vec F S2048 .f32
abbrev IRow (F : FTy → Type) : Type := Vec F S2048 .i32

/-- One coordinate's results: at position `j`, the gathered coordinate minus the coordinate of the centre the position
    belongs to. -/
def T1 (X : XRow F) (C : CRow F) (I : IRow F) : ORow F := fun j =>
  FloatOps.subf (X (at1 (n := 4096) (by decide) (I j).toNat)) (C (at1 (n := 128) (by decide) (j 0).val))

/-- Block `n` of the numbers. -/
def iBlk (I : IRow F) (n : ℕ) : Vec F S16 .i32 := fun x => I (at1 (n := 2048) (by decide) (16 * n + (x 0).val))
/-- Block `n` of the results. -/
def tBlk (T : ORow F) (n : ℕ) : Vec F S16 .f32 := fun x => T (at1 (n := 2048) (by decide) (16 * n + (x 0).val))
/-- The block of centres that results' block `n` subtracts. -/
def cBlk (C : CRow F) (n : ℕ) : Vec F S16 .f32 := fun x => C (at1 (n := 128) (by decide) (16 * n + (x 0).val))

theorem inbO {n : ℕ} (hn : n < 128) : ∀ a, (![16 * n] : Fin 1 → ℕ) a + S16.size a ≤ S2048.size a := by
  intro a; fin_cases a; show 16 * n + 16 ≤ 2048; omega
theorem inbC (n : ℕ) : ∀ a, (![16 * (n % 8)] : Fin 1 → ℕ) a + S16.size a ≤ S128.size a := by
  intro a; fin_cases a; show 16 * (n % 8) + 16 ≤ 128; omega

theorem lane_lt (x : S16.Idx) : (x 0).val < 16 := (x 0).isLt

/-- What block `n` stores is its block of the results. -/
theorem pay_eq (X : XRow F) (C : CRow F) (I : IRow F) {n : ℕ} (hn : n < 128) (h : ∀ a x, ((![iBlk I n] : Fin 1 → IVec S16 32) a x).toNat < S4096.size a) :
    (subf (loadIdx (t := S16) (F := F) X ![iBlk I n] h) (cBlk C n) : FVec F S16 .f32) = tBlk (T1 X C I) n := by
  funext x
  show FloatOps.subf (X _) (C _) = FloatOps.subf (X _) (C _)
  have hx := lane_lt x
  congr 1
  · congr 1
    funext a; fin_cases a
    refine Fin.ext ?_
    show (iBlk I n x).toNat = (I (at1 (n := 2048) _ (16 * n + (x 0).val))).toNat % 4096
    exact (Nat.mod_eq_of_lt (h 0 x)).symm
  · congr 1
    funext a; fin_cases a
    refine Fin.ext ?_
    show (16 * n + (x 0).val) % 128 = ((16 * n + (x 0).val) % 2048) % 128
    omega

/-! ## The states -/

section States

variable (d : Dev nD) (i : grid0.Coords)

/-- A scratch row holding `X`. -/
def holds {s : Shape} {e : EltTy} (mx : Memref sig .scVector .vmem s e) (X : Vec F s e) : sProp 𝕄 :=
  iprop(∃ f, ⌜mx.view.read (Elt F) f = X⌝ ∗ mx.view.loc (thr d i) ↦{fullShare} f)

/-- A row of results whose first `n` blocks are `T`'s. -/
def done (mo : Memref sig .scVector .vmem S2048 .f32) (T : ORow F) (n : ℕ) : sProp 𝕄 :=
  iprop(∃ f, ⌜∀ j : S2048.Idx, (j 0).val < 16 * n → mo.view.read (Elt F) f j = T j⌝ ∗ mo.view.loc (thr d i) ↦{fullShare} f)

theorem done_all (mo : Memref sig .scVector .vmem S2048 .f32) (T : ORow F) : done d i mo T 128 ⊢ (holds d i mo T : sProp 𝕄) := by
  unfold done holds
  iintro ⟨%f, %h, H⟩
  iexists f
  isplitr
  · ipureintro; exact funext fun j => h j (j 0).isLt
  · iexact H

/-- A load of sixteen elements of a row that holds `X`. -/
theorem load_wp {α : Type} {Q : α → sProp 𝕄} {s : Shape} {e : EltTy} (mx : Memref sig .scVector .vmem s e) (X : Vec F s e) (r : Rect s) (hl : mx.view.LoadsAt r.toLoadRect)
    (k : Vec F r.shape e → PR F i α) :
    holds d i mx X ⊢ iprop((holds d i mx X -∗ wp frame (wpE (defs₀ (F := F)) 𝒱₀ (thr d i) none) Set.univ (k (fun x => X (r.emb x))) Q)
      -∗ wp frame (wpE (defs₀ (F := F)) 𝒱₀ (thr d i) none) Set.univ (Prog.lift (.load mx r.toLoadRect hl) >>= k) Q) := by
  unfold holds
  iintro ⟨%f, %hf, H⟩ Hk
  iapply (wp_load 𝒱₀ (thr d i) none Set.univ (m := mx) (r := r.toLoadRect) (hl := hl) (k := k) (S := Finset.univ) (q := fullShare) (f := f) (Finset.subset_univ _)) $$ H
  iintro H
  rw [show mx.view.readAt (Elt F) r.toLoadRect f = fun x => X (r.emb x) from funext fun x => congrFun hf (r.emb x)]
  iapply Hk
  iexists f
  isplitr; · ipureintro; exact hf
  iexact H

/-- A load of a row of results, whose value nothing reads. -/
theorem skip_wp {α : Type} {Q : α → sProp 𝕄} (mo : Memref sig .scVector .vmem S2048 .f32) (T : ORow F) (n : ℕ) (r : Rect S2048) (hl : mo.view.LoadsAt r.toLoadRect)
    (k : PR F i α) :
    done d i mo T n ⊢ iprop((done d i mo T n -∗ wp frame (wpE (defs₀ (F := F)) 𝒱₀ (thr d i) none) Set.univ k Q)
      -∗ wp frame (wpE (defs₀ (F := F)) 𝒱₀ (thr d i) none) Set.univ (Prog.lift (.load mo r.toLoadRect hl) >>= fun _ => k) Q) := by
  unfold done
  iintro ⟨%f, %hf, H⟩ Hk
  iapply (wp_load 𝒱₀ (thr d i) none Set.univ (m := mo) (r := r.toLoadRect) (hl := hl) (k := fun _ => k) (S := Finset.univ) (q := fullShare) (f := f) (Finset.subset_univ _)) $$ H
  iintro H
  iapply Hk
  iexists f
  isplitr; · ipureintro; exact hf
  iexact H

/-- A gather from a row that holds `X`. -/
theorem gather_wp {α : Type} {Q : α → sProp 𝕄} (mx : Memref sig .scVector .vmem S4096 .f32) (X : XRow F) (v : IVec S16 32)
    (h : ∀ a x, ((![v] : Fin 1 → IVec S16 32) a x).toNat < S4096.size a) (hl : mx.view.Loads) (k : Vec F S16 .f32 → PR F i α) :
    holds d i mx X ⊢ iprop((holds d i mx X -∗ wp frame (wpE (defs₀ (F := F)) 𝒱₀ (thr d i) none) Set.univ (k (loadIdx (t := S16) X ![v] h)) Q)
      -∗ wp frame (wpE (defs₀ (F := F)) 𝒱₀ (thr d i) none) Set.univ (SparseCore.vectorLoadIdx mx ![v] h hl >>= k) Q) := by
  unfold holds
  iintro ⟨%f, %hf, H⟩ Hk
  iapply (SparseCore.wp_vectorLoadIdx 𝒱₀ (thr d i) none Set.univ (base := mx) (idxs := ![v]) (h := h) (hl := hl) (k := k) (S := Finset.univ) (q := fullShare) (f := f) (Finset.subset_univ _)) $$ H
  iintro H
  rw [show (mx.access (.whole S4096)).read (Elt F) f = X from funext fun x => by
    rw [← hf]
    exact congrArg (mx.view.read (Elt F) f) (funext fun a => Fin.ext (by show 0 + 1 * (x a).val = (x a).val; omega))]
  iapply Hk
  iexists f
  isplitr; · ipureintro; exact hf
  iexact H

/-- A store of block `n`'s results. -/
theorem store_wp {α : Type} {Q : α → sProp 𝕄} (mo : Memref sig .scVector .vmem S2048 .f32) (T : ORow F) (n : ℕ) (hn : n < 128) (w : FVec F S16 .f32) (hw : w = tBlk T n)
    (hx : (mo.access (Rect.unit (s := S2048) ![16 * n] S16.size (inbO hn))).Stores Finset.univ) (hm) (k : PR F i α) :
    done d i mo T n ⊢ iprop((done d i mo T (n + 1) -∗ wp frame (wpE (defs₀ (F := F)) 𝒱₀ (thr d i) none) Set.univ k Q)
      -∗ wp frame (wpE (defs₀ (F := F)) 𝒱₀ (thr d i) none) Set.univ
          (Prog.lift (.store mo (Rect.unit (s := S2048) ![16 * n] S16.size (inbO hn)) w Finset.univ hx hm) >>= fun _ => k) Q) := by
  unfold done
  iintro ⟨%f, %hf, H⟩ Hk
  iapply (wp_store 𝒱₀ (thr d i) none Set.univ (m := mo) (r := Rect.unit (s := S2048) ![16 * n] S16.size (inbO hn)) (w := w) (hx := hx) (hm := hm)
    (k := fun _ => k) (S := Finset.univ) (f := f) (Finset.subset_univ _)) $$ H
  iintro H
  iapply Hk
  iexists _
  isplitr
  · ipureintro
    intro j hj
    have hmem := View.read_writes_cons_unit mo.view f (inbO hn) w [] j rfl
    refine hmem.trans ?_
    by_cases hj' : (j 0).val < 16 * n
    · rw [dif_neg (fun h => absurd (h 0).1 (by show ¬ 16 * n ≤ (j 0).val; omega))]
      exact hf j hj'
    · rw [dif_pos (fun a => by fin_cases a; exact ⟨by show 16 * n ≤ (j 0).val; omega, by show (j 0).val < 16 * n + 16; omega⟩), hw]
      show T _ = T j
      congr 1
      funext a; fin_cases a
      refine Fin.ext ?_
      show (16 * n + ((j 0).val - 16 * n)) % 2048 = (j 0).val
      have : (j 0).val < 2048 := (j 0).isLt
      omega
  · iexact H

end States

end Cert.Proof.Gather

end
-- ==== Proof.Middle.lean ====
/-
  The unrolled middle of the gather kernel: 128 blocks of sixteen elements, cut by the printer into windows that
  alternate in two shapes. `evenP n` and `oddP n` are the two shapes at a symbolic block, `round_wp` runs one after the
  other and moves the state on by five blocks; the kernel's own windows are these programs at the numbers they stand at.
-/
module

public import proofs.«01_k».proof.Proof.Steps

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Middle

variable (d : Dev nD) (i : grid0.Coords)

/-- Every number is below the row length. -/
def inRange (I : IRow F) : Prop := ∀ j : S2048.Idx, BitVec.toNat (I j) < 4096

theorem chk_blk {I : IRow F} (hI : inRange I) (n : ℕ) : k0_chk1 (iBlk I n) := by
  have h : ∀ a x, ((![iBlk I n] : Fin 1 → IVec S16 32) a x).toNat < S4096.size a := by
    intro a x; fin_cases a; exact hI _
  exact ⟨h, h, h⟩

/-- The numbers of block `n`, loaded, and their range, which the kernel assumes. -/
theorem idx_wp {α : Type} {Q : α → sProp 𝕄} (mi : Memref sig .scVector .vmem S2048 .i32) (I : IRow F) (hI : inRange I) (n : ℕ) (hn : n < 128)
    (hl : mi.view.LoadsAt (Rect.unit (s := S2048) ![16 * n] S16.size (inbO hn)).toLoadRect) (k : (v : Vec F S16 .i32) → PLift (k0_chk1 v) → PR F i α) :
    holds d i mi I ⊢ iprop((holds d i mi I -∗ wp frame (wpE (defs₀ (F := F)) 𝒱₀ (thr d i) none) Set.univ (k (iBlk I n) ⟨chk_blk hI n⟩) Q)
      -∗ wp frame (wpE (defs₀ (F := F)) 𝒱₀ (thr d i) none) Set.univ
          (Prog.lift (.load mi (Rect.unit (s := S2048) ![16 * n] S16.size (inbO hn)).toLoadRect hl) >>= fun (v : Vec F S16 .i32) =>
            Prog.lift (TpuEff.assume (k0_chk1 v) (k0_chk1.dec v)) >>= fun h => k v h) Q) := by
  iintro H Hk
  iapply (load_wp d i mi I _ hl _) $$ H
  iintro H
  rw [show (fun x => I ((Rect.unit (s := S2048) ![16 * n] S16.size (inbO hn)).emb x)) = iBlk I n from funext fun x => congrArg I (funext fun a => by
    fin_cases a
    refine Fin.ext ?_
    have hx := lane_lt x
    show 16 * n + 1 * (x 0).val = (16 * n + (x 0).val) % 2048
    omega)]
  iapply (Entails.of_eq (wp_assume_of 𝒱₀ (thr d i) none Set.univ (k := fun h => k (iBlk I n) h) (chk_blk hI n)).symm)
  iapply Hk
  iexact H

/-- The centres block `n` subtracts, loaded. -/
theorem cen_wp {α : Type} {Q : α → sProp 𝕄} (mc : Memref sig .scVector .vmem S128 .f32) (C : CRow F) (n : ℕ)
    (hl : mc.view.LoadsAt (Rect.unit (s := S128) ![16 * (n % 8)] S16.size (inbC n)).toLoadRect) (k : Vec F S16 .f32 → PR F i α) :
    holds d i mc C ⊢ iprop((holds d i mc C -∗ wp frame (wpE (defs₀ (F := F)) 𝒱₀ (thr d i) none) Set.univ (k (cBlk C n)) Q)
      -∗ wp frame (wpE (defs₀ (F := F)) 𝒱₀ (thr d i) none) Set.univ
          (Prog.lift (.load mc (Rect.unit (s := S128) ![16 * (n % 8)] S16.size (inbC n)).toLoadRect hl) >>= k) Q) := by
  iintro H Hk
  iapply (load_wp d i mc C _ hl _) $$ H
  iintro H
  rw [show (fun x => C ((Rect.unit (s := S128) ![16 * (n % 8)] S16.size (inbC n)).emb x)) = cBlk C n from funext fun x => congrArg C (funext fun a => by
    fin_cases a
    refine Fin.ext ?_
    have hx := lane_lt x
    show 16 * (n % 8) + 1 * (x 0).val = (16 * n + (x 0).val) % 128
    omega)]
  iapply Hk
  iexact H

/-- The first half of one coordinate's part of block `n`: the sixteen elements gathered and the centres loaded. -/
theorem half_wp {α : Type} {Q : α → sProp 𝕄} (mx : Memref sig .scVector .vmem S4096 .f32) (mc : Memref sig .scVector .vmem S128 .f32)
    (X : XRow F) (C : CRow F) (v : IVec S16 32) (n : ℕ)
    (h : ∀ a x, ((![v] : Fin 1 → IVec S16 32) a x).toNat < S4096.size a) (hl : mx.view.Loads)
    (hc : mc.view.LoadsAt (Rect.unit (s := S128) ![16 * (n % 8)] S16.size (inbC n)).toLoadRect) (k : Vec F S16 .f32 → Vec F S16 .f32 → PR F i α) :
    iprop(holds d i mx X ∗ holds d i mc C) ⊢
      iprop((iprop(holds d i mx X ∗ holds d i mc C) -∗ wp frame (wpE (defs₀ (F := F)) 𝒱₀ (thr d i) none) Set.univ (k (loadIdx (t := S16) X ![v] h) (cBlk C n)) Q)
      -∗ wp frame (wpE (defs₀ (F := F)) 𝒱₀ (thr d i) none) Set.univ
          (SparseCore.vectorLoadIdx mx ![v] h hl >>= fun g =>
            Prog.lift (.load mc (Rect.unit (s := S128) ![16 * (n % 8)] S16.size (inbC n)).toLoadRect hc) >>= fun c => k g c) Q) := by
  iintro ⟨Hx, Hc⟩ Hk
  iapply (gather_wp d i mx X v h hl _) $$ Hx
  iintro Hx
  iapply (cen_wp d i mc C n hc _) $$ Hc
  iintro Hc
  iapply Hk
  isplitl [Hx] <;> iassumption

/-- The second half: the row of results loaded (and dropped), then the differences stored. -/
theorem put_wp {α : Type} {Q : α → sProp 𝕄} (mo : Memref sig .scVector .vmem S2048 .f32) (T : ORow F) (n : ℕ) (hn : n < 128) (w : FVec F S16 .f32) (hw : w = tBlk T n)
    (hl : mo.view.LoadsAt (Rect.unit (s := S2048) ![16 * n] S16.size (inbO hn)).toLoadRect)
    (hx : (mo.access (Rect.unit (s := S2048) ![16 * n] S16.size (inbO hn))).Stores Finset.univ) (hm) (k : PR F i α) :
    done d i mo T n ⊢ iprop((done d i mo T (n + 1) -∗ wp frame (wpE (defs₀ (F := F)) 𝒱₀ (thr d i) none) Set.univ k Q)
      -∗ wp frame (wpE (defs₀ (F := F)) 𝒱₀ (thr d i) none) Set.univ
          (Prog.lift (.load mo (Rect.unit (s := S2048) ![16 * n] S16.size (inbO hn)).toLoadRect hl) >>= fun _ =>
            Prog.lift (.store mo (Rect.unit (s := S2048) ![16 * n] S16.size (inbO hn)) w Finset.univ hx hm) >>= fun _ => k) Q) := by
  iintro H Hk
  iapply (skip_wp d i mo T n _ hl _) $$ H
  iintro H
  iapply (store_wp d i mo T n hn w hw hx hm k) $$ H
  iexact Hk

/-- One coordinate's part of block `n`, whole. -/
theorem chan_wp {α : Type} {Q : α → sProp 𝕄} (mx : Memref sig .scVector .vmem S4096 .f32) (mc : Memref sig .scVector .vmem S128 .f32)
    (mo : Memref sig .scVector .vmem S2048 .f32) (X : XRow F) (C : CRow F) (I : IRow F) (n : ℕ) (hn : n < 128)
    (h : ∀ a x, ((![iBlk I n] : Fin 1 → IVec S16 32) a x).toNat < S4096.size a) (hl : mx.view.Loads)
    (hc : mc.view.LoadsAt (Rect.unit (s := S128) ![16 * (n % 8)] S16.size (inbC n)).toLoadRect)
    (ho : mo.view.LoadsAt (Rect.unit (s := S2048) ![16 * n] S16.size (inbO hn)).toLoadRect)
    (hx : (mo.access (Rect.unit (s := S2048) ![16 * n] S16.size (inbO hn))).Stores Finset.univ) (hm) (k : PR F i α) :
    iprop(holds d i mx X ∗ holds d i mc C ∗ done d i mo (T1 X C I) n) ⊢
      iprop((iprop(holds d i mx X ∗ holds d i mc C ∗ done d i mo (T1 X C I) (n + 1)) -∗ wp frame (wpE (defs₀ (F := F)) 𝒱₀ (thr d i) none) Set.univ k Q)
      -∗ wp frame (wpE (defs₀ (F := F)) 𝒱₀ (thr d i) none) Set.univ
          (SparseCore.vectorLoadIdx mx ![iBlk I n] h hl >>= fun g =>
            Prog.lift (.load mc (Rect.unit (s := S128) ![16 * (n % 8)] S16.size (inbC n)).toLoadRect hc) >>= fun c =>
            Prog.lift (.load mo (Rect.unit (s := S2048) ![16 * n] S16.size (inbO hn)).toLoadRect ho) >>= fun _ =>
            Prog.lift (.store mo (Rect.unit (s := S2048) ![16 * n] S16.size (inbO hn)) (subf g c : FVec F S16 .f32) Finset.univ hx hm) >>= fun _ => k) Q) := by
  iintro ⟨Hx, Hc, Ho⟩ Hk
  iapply (half_wp d i mx mc X C _ n h hl hc _) $$ [Hx Hc]
  · isplitl [Hx] <;> iassumption
  iintro ⟨Hx, Hc⟩
  iapply (put_wp d i mo (T1 X C I) n hn _ (pay_eq X C I hn h) ho hx hm k) $$ Ho
  iintro Ho
  iapply Hk
  isplitl [Hx]; · iexact Hx
  isplitl [Hc] <;> iassumption

variable (a6 a7 a8 : Memref sig .scVector .vmem S4096 .f32) (a9 a10 a11 : Memref sig .scVector .vmem S128 .f32)
  (a12 : Memref sig .scVector .vmem S2048 .i32) (a13 a14 a15 : Memref sig .scVector .vmem S2048 .f32)
  (X : Fin 3 → XRow F) (C : Fin 3 → CRow F) (I : IRow F)

/-- The tile's rows, with `p`, `q`, `r` blocks of the three coordinates' results done. -/
def St (p q r : ℕ) : sProp 𝕄 :=
  iprop(holds d i a12 I
    ∗ (holds d i a6 (X 0) ∗ holds d i a9 (C 0) ∗ done d i a13 (T1 (X 0) (C 0) I) p)
    ∗ (holds d i a7 (X 1) ∗ holds d i a10 (C 1) ∗ done d i a14 (T1 (X 1) (C 1) I) q)
    ∗ (holds d i a8 (X 2) ∗ holds d i a11 (C 2) ∗ done d i a15 (T1 (X 2) (C 2) I) r))

/-- Block `n`'s stored values of the third coordinate (what a window hands the next one, not yet stored). -/
abbrev pend2 (n : ℕ) : FVec F S16 .f32 := tBlk (T1 (X 2) (C 2) I) n
/-- Block `n`'s values of the first coordinate, the same. -/
abbrev pend0 (n : ℕ) : FVec F S16 .f32 := tBlk (T1 (X 0) (C 0) I) n

/-- Block `n`, whole, before the rest `k` of a window. -/
def blkP {α : Type} (n : ℕ) (hn : n < 128) (k : PR F i α) : PR F i α := do
  let v : Vec F S16 .i32 ← Prog.lift (.load a12 (Rect.unit (s := S2048) ![16 * n] S16.size (inbO (by omega))).toLoadRect (View.loadsAt_vmem h_S16))
  have hv : k0_chk1 v := (← Prog.lift (TpuEff.assume (k0_chk1 v) (k0_chk1.dec v))).down
  let g0 : Vec F S16 .f32 ← SparseCore.vectorLoadIdx a6 ![v] (k0_idx1_inb v hv) (View.loads_vmem h_S4096)
  let c0 : Vec F S16 .f32 ← Prog.lift (.load a9 (Rect.unit (s := S128) ![16 * (n % 8)] S16.size (inbC _)).toLoadRect (View.loadsAt_vmem h_S16))
  let _ : Vec F S16 .f32 ← Prog.lift (.load a13 (Rect.unit (s := S2048) ![16 * n] S16.size (inbO (by omega))).toLoadRect (View.loadsAt_vmem h_S16))
  Prog.lift (.store a13 (Rect.unit (s := S2048) ![16 * n] S16.size (inbO (by omega))) (subf g0 c0) Finset.univ (View.stores_vmem_bits_univ h_S16 rfl) (.inl rfl))
  let g1 : Vec F S16 .f32 ← SparseCore.vectorLoadIdx a7 ![v] (k0_idx1_inb v hv) (View.loads_vmem h_S4096)
  let c1 : Vec F S16 .f32 ← Prog.lift (.load a10 (Rect.unit (s := S128) ![16 * (n % 8)] S16.size (inbC _)).toLoadRect (View.loadsAt_vmem h_S16))
  let _ : Vec F S16 .f32 ← Prog.lift (.load a14 (Rect.unit (s := S2048) ![16 * n] S16.size (inbO (by omega))).toLoadRect (View.loadsAt_vmem h_S16))
  Prog.lift (.store a14 (Rect.unit (s := S2048) ![16 * n] S16.size (inbO (by omega))) (subf g1 c1) Finset.univ (View.stores_vmem_bits_univ h_S16 rfl) (.inl rfl))
  let g2 : Vec F S16 .f32 ← SparseCore.vectorLoadIdx a8 ![v] (k0_idx1_inb v hv) (View.loads_vmem h_S4096)
  let c2 : Vec F S16 .f32 ← Prog.lift (.load a11 (Rect.unit (s := S128) ![16 * (n % 8)] S16.size (inbC _)).toLoadRect (View.loadsAt_vmem h_S16))
  let _ : Vec F S16 .f32 ← Prog.lift (.load a15 (Rect.unit (s := S2048) ![16 * n] S16.size (inbO (by omega))).toLoadRect (View.loadsAt_vmem h_S16))
  Prog.lift (.store a15 (Rect.unit (s := S2048) ![16 * n] S16.size (inbO (by omega))) (subf g2 c2) Finset.univ (View.stores_vmem_bits_univ h_S16 rfl) (.inl rfl))
  k

theorem blk_wp {α : Type} {Q : α → sProp 𝕄} (hI : inRange I) (n : ℕ) (hn : n < 128) (k : PR F i α) :
    St d i a6 a7 a8 a9 a10 a11 a12 a13 a14 a15 X C I n n n ⊢
      iprop((St d i a6 a7 a8 a9 a10 a11 a12 a13 a14 a15 X C I (n + 1) (n + 1) (n + 1) -∗ wp frame (wpE (defs₀ (F := F)) 𝒱₀ (thr d i) none) Set.univ k Q)
      -∗ wp frame (wpE (defs₀ (F := F)) 𝒱₀ (thr d i) none) Set.univ (blkP i a6 a7 a8 a9 a10 a11 a12 a13 a14 a15 n hn k) Q) := by
  unfold blkP St
  iintro ⟨Hi, H0, H1, H2⟩ Hk
  iapply (idx_wp d i a12 I hI n hn _ _) $$ Hi
  iintro Hi
  iapply (chan_wp d i a6 a9 a13 (X 0) (C 0) I n hn _ _ _ _ _ _ _) $$ H0
  iintro H0
  iapply (chan_wp d i a7 a10 a14 (X 1) (C 1) I n hn _ _ _ _ _ _ _) $$ H1
  iintro H1
  iapply (chan_wp d i a8 a11 a15 (X 2) (C 2) I n hn _ _ _ _ _ _ _) $$ H2
  iintro H2
  iapply Hk
  isplitl [Hi]; · iexact Hi
  isplitl [H0]; · iexact H0
  isplitl [H1] <;> iassumption

/-- A window of the first shape: the third coordinate of block `n` stored, blocks `n + 1` and `n + 2`, and of block
    `n + 3` the first coordinate's differences. -/
def evenP (n : ℕ) (hn : n + 5 < 128) (pv : FVec F S16 .f32) : PR F i (Σ' (v : Vec F S16 .i32) (_ : k0_chk1 v), FVec F S16 .f32) := do
  let _ : Vec F S16 .f32 ← Prog.lift (.load a15 (Rect.unit (s := S2048) ![16 * n] S16.size (inbO (by omega))).toLoadRect (View.loadsAt_vmem h_S16))
  Prog.lift (.store a15 (Rect.unit (s := S2048) ![16 * n] S16.size (inbO (by omega))) pv Finset.univ (View.stores_vmem_bits_univ h_S16 rfl) (.inl rfl))
  blkP i a6 a7 a8 a9 a10 a11 a12 a13 a14 a15 (n + 1) (by omega) do
  blkP i a6 a7 a8 a9 a10 a11 a12 a13 a14 a15 (n + 2) (by omega) do
  let w : Vec F S16 .i32 ← Prog.lift (.load a12 (Rect.unit (s := S2048) ![16 * (n + 3)] S16.size (inbO (by omega))).toLoadRect (View.loadsAt_vmem h_S16))
  have hw : k0_chk1 w := (← Prog.lift (TpuEff.assume (k0_chk1 w) (k0_chk1.dec w))).down
  let g0 : Vec F S16 .f32 ← SparseCore.vectorLoadIdx a6 ![w] (k0_idx1_inb w hw) (View.loads_vmem h_S4096)
  let c0 : Vec F S16 .f32 ← Prog.lift (.load a9 (Rect.unit (s := S128) ![16 * ((n + 3) % 8)] S16.size (inbC _)).toLoadRect (View.loadsAt_vmem h_S16))
  let _ : Vec F S16 .f32 ← Prog.lift (.load a13 (Rect.unit (s := S2048) ![16 * (n + 3)] S16.size (inbO (by omega))).toLoadRect (View.loadsAt_vmem h_S16))
  pure ⟨w, hw, subf g0 c0⟩

/-- A window of the second shape: the rest of block `n + 3`, block `n + 4`, and of block `n + 5` all but the third
    coordinate's store. -/
def oddP (n : ℕ) (hn : n + 5 < 128) (v : Vec F S16 .i32) (hv : k0_chk1 v) (pv : FVec F S16 .f32) : PR F i (FVec F S16 .f32) := do
  Prog.lift (.store a13 (Rect.unit (s := S2048) ![16 * (n + 3)] S16.size (inbO (by omega))) pv Finset.univ (View.stores_vmem_bits_univ h_S16 rfl) (.inl rfl))
  let g1 : Vec F S16 .f32 ← SparseCore.vectorLoadIdx a7 ![v] (k0_idx1_inb v hv) (View.loads_vmem h_S4096)
  let c1 : Vec F S16 .f32 ← Prog.lift (.load a10 (Rect.unit (s := S128) ![16 * ((n + 3) % 8)] S16.size (inbC _)).toLoadRect (View.loadsAt_vmem h_S16))
  let _ : Vec F S16 .f32 ← Prog.lift (.load a14 (Rect.unit (s := S2048) ![16 * (n + 3)] S16.size (inbO (by omega))).toLoadRect (View.loadsAt_vmem h_S16))
  Prog.lift (.store a14 (Rect.unit (s := S2048) ![16 * (n + 3)] S16.size (inbO (by omega))) (subf g1 c1) Finset.univ (View.stores_vmem_bits_univ h_S16 rfl) (.inl rfl))
  let g2 : Vec F S16 .f32 ← SparseCore.vectorLoadIdx a8 ![v] (k0_idx1_inb v hv) (View.loads_vmem h_S4096)
  let c2 : Vec F S16 .f32 ← Prog.lift (.load a11 (Rect.unit (s := S128) ![16 * ((n + 3) % 8)] S16.size (inbC _)).toLoadRect (View.loadsAt_vmem h_S16))
  let _ : Vec F S16 .f32 ← Prog.lift (.load a15 (Rect.unit (s := S2048) ![16 * (n + 3)] S16.size (inbO (by omega))).toLoadRect (View.loadsAt_vmem h_S16))
  Prog.lift (.store a15 (Rect.unit (s := S2048) ![16 * (n + 3)] S16.size (inbO (by omega))) (subf g2 c2) Finset.univ (View.stores_vmem_bits_univ h_S16 rfl) (.inl rfl))
  blkP i a6 a7 a8 a9 a10 a11 a12 a13 a14 a15 (n + 4) (by omega) do
  let w : Vec F S16 .i32 ← Prog.lift (.load a12 (Rect.unit (s := S2048) ![16 * (n + 5)] S16.size (inbO (by omega))).toLoadRect (View.loadsAt_vmem h_S16))
  have hw : k0_chk1 w := (← Prog.lift (TpuEff.assume (k0_chk1 w) (k0_chk1.dec w))).down
  let g0 : Vec F S16 .f32 ← SparseCore.vectorLoadIdx a6 ![w] (k0_idx1_inb w hw) (View.loads_vmem h_S4096)
  let c0 : Vec F S16 .f32 ← Prog.lift (.load a9 (Rect.unit (s := S128) ![16 * ((n + 5) % 8)] S16.size (inbC _)).toLoadRect (View.loadsAt_vmem h_S16))
  let _ : Vec F S16 .f32 ← Prog.lift (.load a13 (Rect.unit (s := S2048) ![16 * (n + 5)] S16.size (inbO (by omega))).toLoadRect (View.loadsAt_vmem h_S16))
  Prog.lift (.store a13 (Rect.unit (s := S2048) ![16 * (n + 5)] S16.size (inbO (by omega))) (subf g0 c0) Finset.univ (View.stores_vmem_bits_univ h_S16 rfl) (.inl rfl))
  let g1 : Vec F S16 .f32 ← SparseCore.vectorLoadIdx a7 ![w] (k0_idx1_inb w hw) (View.loads_vmem h_S4096)
  let c1 : Vec F S16 .f32 ← Prog.lift (.load a10 (Rect.unit (s := S128) ![16 * ((n + 5) % 8)] S16.size (inbC _)).toLoadRect (View.loadsAt_vmem h_S16))
  let _ : Vec F S16 .f32 ← Prog.lift (.load a14 (Rect.unit (s := S2048) ![16 * (n + 5)] S16.size (inbO (by omega))).toLoadRect (View.loadsAt_vmem h_S16))
  Prog.lift (.store a14 (Rect.unit (s := S2048) ![16 * (n + 5)] S16.size (inbO (by omega))) (subf g1 c1) Finset.univ (View.stores_vmem_bits_univ h_S16 rfl) (.inl rfl))
  let g2 : Vec F S16 .f32 ← SparseCore.vectorLoadIdx a8 ![w] (k0_idx1_inb w hw) (View.loads_vmem h_S4096)
  let c2 : Vec F S16 .f32 ← Prog.lift (.load a11 (Rect.unit (s := S128) ![16 * ((n + 5) % 8)] S16.size (inbC _)).toLoadRect (View.loadsAt_vmem h_S16))
  pure (subf g2 c2)

theorem even_wp {α : Type} {Q : α → sProp 𝕄} (hI : inRange I) (n : ℕ) (hn : n + 5 < 128) (k : (Σ' (v : Vec F S16 .i32) (_ : k0_chk1 v), FVec F S16 .f32) → PR F i α) :
    St d i a6 a7 a8 a9 a10 a11 a12 a13 a14 a15 X C I (n + 1) (n + 1) n ⊢
      iprop((St d i a6 a7 a8 a9 a10 a11 a12 a13 a14 a15 X C I (n + 3) (n + 3) (n + 3)
          -∗ wp frame (wpE (defs₀ (F := F)) 𝒱₀ (thr d i) none) Set.univ (k ⟨iBlk I (n + 3), chk_blk hI (n + 3), pend0 X C I (n + 3)⟩) Q)
      -∗ wp frame (wpE (defs₀ (F := F)) 𝒱₀ (thr d i) none) Set.univ (evenP i a6 a7 a8 a9 a10 a11 a12 a13 a14 a15 n hn (pend2 X C I n) >>= k) Q) := by
  rw [wp_bind]
  unfold evenP
  iintro H Hk
  unfold St
  icases H with ⟨Hi, H0, H1, ⟨Hx2, Hc2, Ho2⟩⟩
  iapply (put_wp d i a15 (T1 (X 2) (C 2) I) n (by omega) _ rfl _ _ _ _) $$ Ho2
  iintro Ho2
  iapply (blk_wp d i a6 a7 a8 a9 a10 a11 a12 a13 a14 a15 X C I hI (n + 1) _ _) $$ [Hi H0 H1 Hx2 Hc2 Ho2]
  · unfold St
    isplitl [Hi]; · iexact Hi
    isplitl [H0]; · iexact H0
    isplitl [H1]; · iexact H1
    isplitl [Hx2]; · iexact Hx2
    isplitl [Hc2] <;> iassumption
  iintro H
  iapply (blk_wp d i a6 a7 a8 a9 a10 a11 a12 a13 a14 a15 X C I hI (n + 2) _ _) $$ H
  iintro H
  unfold St
  icases H with ⟨Hi, ⟨Hx0, Hc0, Ho0⟩, H1, H2⟩
  iapply (idx_wp d i a12 I hI (n + 3) (by omega) _ _) $$ Hi
  iintro Hi
  iapply (half_wp d i a6 a9 (X 0) (C 0) _ (n + 3) _ _ _ _) $$ [Hx0 Hc0]
  · isplitl [Hx0] <;> iassumption
  iintro ⟨Hx0, Hc0⟩
  iapply (skip_wp d i a13 (T1 (X 0) (C 0) I) (n + 3) _ _ _) $$ Ho0
  iintro Ho0
  rw [pay_eq (X 0) (C 0) I (by omega) (k0_idx1_inb _ (chk_blk hI (n + 3)))]
  rw [wp_pure]; imodintro
  iapply Hk
  isplitl [Hi]; · iexact Hi
  isplitl [Hx0 Hc0 Ho0]
  · isplitl [Hx0]; · iexact Hx0
    isplitl [Hc0] <;> iassumption
  isplitl [H1] <;> iassumption

theorem odd_wp {α : Type} {Q : α → sProp 𝕄} (hI : inRange I) (n : ℕ) (hn : n + 5 < 128) (k : FVec F S16 .f32 → PR F i α) :
    St d i a6 a7 a8 a9 a10 a11 a12 a13 a14 a15 X C I (n + 3) (n + 3) (n + 3) ⊢
      iprop((St d i a6 a7 a8 a9 a10 a11 a12 a13 a14 a15 X C I (n + 6) (n + 6) (n + 5)
          -∗ wp frame (wpE (defs₀ (F := F)) 𝒱₀ (thr d i) none) Set.univ (k (pend2 X C I (n + 5))) Q)
      -∗ wp frame (wpE (defs₀ (F := F)) 𝒱₀ (thr d i) none) Set.univ
          (oddP i a6 a7 a8 a9 a10 a11 a12 a13 a14 a15 n hn (iBlk I (n + 3)) (chk_blk hI (n + 3)) (pend0 X C I (n + 3)) >>= k) Q) := by
  rw [wp_bind]
  unfold oddP
  iintro H Hk
  unfold St
  icases H with ⟨Hi, ⟨Hx0, Hc0, Ho0⟩, H1, H2⟩
  iapply (store_wp d i a13 (T1 (X 0) (C 0) I) (n + 3) (by omega) _ rfl _ _ _) $$ Ho0
  iintro Ho0
  iapply (chan_wp d i a7 a10 a14 (X 1) (C 1) I (n + 3) (by omega) _ _ _ _ _ _ _) $$ H1
  iintro H1
  iapply (chan_wp d i a8 a11 a15 (X 2) (C 2) I (n + 3) (by omega) _ _ _ _ _ _ _) $$ H2
  iintro H2
  iapply (blk_wp d i a6 a7 a8 a9 a10 a11 a12 a13 a14 a15 X C I hI (n + 4) _ _) $$ [Hi Hx0 Hc0 Ho0 H1 H2]
  · unfold St
    isplitl [Hi]; · iexact Hi
    isplitl [Hx0 Hc0 Ho0]
    · isplitl [Hx0]; · iexact Hx0
      isplitl [Hc0] <;> iassumption
    isplitl [H1] <;> iassumption
  iintro H
  unfold St
  icases H with ⟨Hi, H0, H1, ⟨Hx2, Hc2, Ho2⟩⟩
  iapply (idx_wp d i a12 I hI (n + 5) (by omega) _ _) $$ Hi
  iintro Hi
  iapply (chan_wp d i a6 a9 a13 (X 0) (C 0) I (n + 5) (by omega) _ _ _ _ _ _ _) $$ H0
  iintro H0
  iapply (chan_wp d i a7 a10 a14 (X 1) (C 1) I (n + 5) (by omega) _ _ _ _ _ _ _) $$ H1
  iintro H1
  iapply (half_wp d i a8 a11 (X 2) (C 2) _ (n + 5) _ _ _ _) $$ [Hx2 Hc2]
  · isplitl [Hx2] <;> iassumption
  iintro ⟨Hx2, Hc2⟩
  rw [pay_eq (X 2) (C 2) I (by omega) (k0_idx1_inb _ (chk_blk hI (n + 5)))]
  rw [wp_pure]; imodintro
  iapply Hk
  isplitl [Hi]; · iexact Hi
  isplitl [H0]; · iexact H0
  isplitl [H1]; · iexact H1
  isplitl [Hx2]; · iexact Hx2
  isplitl [Hc2] <;> iassumption

/-- Two windows: five blocks further. -/
theorem round_wp {α : Type} {Q : α → sProp 𝕄} {R : sProp 𝕄} (hI : inRange I) (n : ℕ) (hn : n + 5 < 128) (k : FVec F S16 .f32 → PR F i α)
    (H : iprop(St d i a6 a7 a8 a9 a10 a11 a12 a13 a14 a15 X C I (n + 6) (n + 6) (n + 5) ∗ R)
      ⊢ wp frame (wpE (defs₀ (F := F)) 𝒱₀ (thr d i) none) Set.univ (k (pend2 X C I (n + 5))) Q) :
    iprop(St d i a6 a7 a8 a9 a10 a11 a12 a13 a14 a15 X C I (n + 1) (n + 1) n ∗ R) ⊢
      wp frame (wpE (defs₀ (F := F)) 𝒱₀ (thr d i) none) Set.univ
        (evenP i a6 a7 a8 a9 a10 a11 a12 a13 a14 a15 n hn (pend2 X C I n) >>= fun r =>
          oddP i a6 a7 a8 a9 a10 a11 a12 a13 a14 a15 n hn r.1 r.2.1 r.2.2 >>= k) Q := by
  iintro ⟨HS, HR⟩
  iapply (even_wp d i a6 a7 a8 a9 a10 a11 a12 a13 a14 a15 X C I hI n hn _) $$ HS
  iintro HS
  iapply (odd_wp d i a6 a7 a8 a9 a10 a11 a12 a13 a14 a15 X C I hI n hn _) $$ HS
  iintro HS
  iapply H
  isplitl [HS] <;> iassumption

end Middle

end Cert.Proof.Gather

end
-- ==== Proof.Copy.lean ====
/-
  The tile's copies: a row fetched from a slice of an HBM array that several tiles read, and a row of results written
  to the tile's own slice of the output.
-/
module

public import proofs.«01_k».proof.Proof.Middle

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Copies

variable (d : Dev nD) (i : grid0.Coords)

/-- What the tile owes all along: `O`, having waited only at the index no launch uses since it held `W`. -/
def owing (O : CellTallies nD τ sig (HIx 1)) (W : Waits sig (HIx 1)) : sProp 𝕄 :=
  iprop(Transfers.MayWaits (thr d i) (none : HIx 1) O ∗ ∃ W', ⌜∀ p ∈ W', p ∈ W ∨ p.2 = none⌝ ∗ owes (thr d i) O W')

/-- A scratch row, whatever it holds. -/
def any {s : Shape} {e : EltTy} (m : Memref sig .scVector .vmem s e) : sProp 𝕄 :=
  iprop(∃ f : Buf (Elt F) (m.view.loc (thr d i)), m.view.loc (thr d i) ↦{fullShare} f)

theorem holds_any {s : Shape} {e : EltTy} (m : Memref sig .scVector .vmem s e) (X : Vec F s e) : (holds d i m X : sProp 𝕄) ⊢ any (F := F) d i m := by
  unfold holds any
  iintro ⟨%f, -, H⟩
  iexists f
  iexact H

/-- The whole of an HBM array, held at share `q` with contents `f`, seen from the tile through a slice of it. -/
abbrev shares {s : Shape} {e : EltTy} (src : Memref sig .scVector .hbm s e) (q : PosShare TreeShare) (f : Buf (Elt F) (src.view.loc (thr d i))) : sProp 𝕄 :=
  iprop(src.view.loc (thr d i) ↦{q} f)

theorem fetch_wp {α : Type} {Q : α → sProp 𝕄} {s : Shape} {e : EltTy} (hs : 0 < s.numel)
    (src : Memref sig .scVector .hbm s e) (md : Memref sig .scVector .vmem s e) (sem : DmaSem sig)
    {h1 : src.view.WordExact} {h2 : md.view.WordExact} {h3} {h4 : src.view.WordExact} {h5 : md.view.WordExact}
    (q : PosShare TreeShare) (f : Buf (Elt F) (src.view.loc (thr d i)))
    (O : CellTallies nD τ sig (HIx 1)) (W : Waits sig (HIx 1)) (k : PR F i α) :
    iprop(shares d i src q f ∗ any (F := F) d i md ∗ semVal (thr d i, .dma sem) 0 ∗ owing (F := F) d i O W)
      ⊢ iprop((iprop(shares d i src q f ∗ holds d i md (src.view.read (Elt F) f) ∗ semVal (thr d i, .dma sem) 0 ∗ owing (F := F) d i O W)
            -∗ wp frame (wpE (defs₀ (F := F)) 𝒱₀ (thr d i) none) Set.univ k Q)
        -∗ wp frame (wpE (defs₀ (F := F)) 𝒱₀ (thr d i) none) Set.univ
            ((Prog.lift (.enqueueDma src (.here md) (.dma sem) h1 h2 h3) : PR F i PUnit) >>= fun _ =>
              (Prog.lift (.waitDma2 sem src md h4 h5) : PR F i PUnit) >>= fun _ => k) Q) := by
  unfold owing any holds shares
  iintro ⟨Hs, ⟨%g, Hd⟩, Hv, #Hmw, ⟨%W', %hW, HO⟩⟩ Hk
  have hsub : src.view.set ⊆ (Finset.univ : Finset (Idx (src.view.loc (thr d i)))) := Finset.subset_univ _
  ihave Hs2 := (pointsTo_split_subset (q := q) (f := f) hsub).1 $$ Hs
  icases Hs2 with ⟨Hs, Hrest⟩
  iapply (Transfers.wp_dmaLocal (countersEmb) 𝒱₀ (thr d i) none (src := src) (via := .same) (dst := md) (sm := .dma sem) (fs := f) (fd := g) (Sd := Finset.univ) none
      (md.view.amount (.dma sem)) rfl (View.amount_pos _ _ hs) (Finset.subset_univ _)) $$ [Hs Hd Hv]
  · isplitl [Hs]; · iexact Hs
    isplitl [Hd]; · iexact Hd
    iexact Hv
  iintro Hfl
  iapply (Transfers.wp_waitLocalO (countersEmb) 𝒱₀ (thr d i) none (sem := sem) (srcw := src) (dstw := md) none rfl) $$ [Hfl HO]
  · isplitl [Hfl]; · iexact Hfl
    isplitl [HO]; · iexact HO
    iapply (Transfers.MayWaits.elim (.dma sem)) $$ Hmw
  iintro ⟨⟨Hd, Hs⟩, Hv, HO⟩
  ihave Hs := (pointsTo_split_subset (q := q) (f := f) hsub).2 $$ [Hs Hrest]
  · isplitl [Hs]; · iexact Hs
    iexact Hrest
  iapply Hk
  isplitl [Hs]; · iexact Hs
  isplitl [Hd]
  · iexists _
    isplitr
    rotate_left
    · iexact Hd
    · ipureintro
      exact View.read_write_univ _ _
  isplitl [Hv]; · iexact Hv
  isplitr; · iexact Hmw
  iexists (insert (SemLoc.dma sem, none) W')
  isplitr
  · ipureintro
    intro p hp
    rcases Finset.mem_insert.mp hp with rfl | hp
    · exact .inr rfl
    · exact hW p hp
  iexact HO

/-- A slice of the output holding `T`, held for writing. -/
def hasOut {s : Shape} {e : EltTy} (dst : Memref sig .scVector .hbm s e) (T : Vec F s e) : sProp 𝕄 :=
  iprop(∃ f, ⌜dst.view.read (Elt F) f = T⌝ ∗ dst.view.loc (thr d i) ↦[dst.view.set]{fullShare} f)
/-- A slice of the output, whatever it holds, held for writing. -/
def anyOut {s : Shape} {e : EltTy} (dst : Memref sig .scVector .hbm s e) : sProp 𝕄 :=
  iprop(∃ f : Buf (Elt F) (dst.view.loc (thr d i)), dst.view.loc (thr d i) ↦[dst.view.set]{fullShare} f)

/-- The copy of a row of results on its way. -/
def sending {s : Shape} {e : EltTy} (mo : Memref sig .scVector .vmem s e) (T : Vec F s e) (dst : Memref sig .scVector .hbm s e) (sem : DmaSem sig) : sProp 𝕄 :=
  iprop(∃ (f : Buf (Elt F) (mo.view.loc (thr d i))) (g : Buf (Elt F) (dst.view.loc (thr d i))), ⌜mo.view.read (Elt F) f = T⌝
    ∗ Transfers.Flight (countersEmb) (thr d i) (.dma sem) (none : HIx 1) (dst.view.amount (.dma sem))
        iprop((dst.view.loc (thr d i) ↦[dst.view.set]{fullShare} (dst.view.write (Elt F) g (mo.view.read (Elt F) f) Finset.univ))
          ∗ (mo.view.loc (thr d i) ↦[mo.view.set]{fullShare} f))
    ∗ (mo.view.loc (thr d i) ↦[Finset.univ \ mo.view.set]{fullShare} f))

theorem send_wp {α : Type} {Q : α → sProp 𝕄} {s : Shape} {e : EltTy} (hs : 0 < s.numel)
    (mo : Memref sig .scVector .vmem s e) (dst : Memref sig .scVector .hbm s e) (sem : DmaSem sig)
    {h1 : mo.view.WordExact} {h2 : dst.view.WordExact} {h3} (T : Vec F s e) (k : PUnit → PR F i α) :
    iprop(holds d i mo T ∗ anyOut (F := F) d i dst ∗ semVal (thr d i, .dma sem) 0)
      ⊢ iprop((sending d i mo T dst sem -∗ wp frame (wpE (defs₀ (F := F)) 𝒱₀ (thr d i) none) Set.univ (k ⟨⟩) Q)
        -∗ wp frame (wpE (defs₀ (F := F)) 𝒱₀ (thr d i) none) Set.univ
            ((Prog.lift (.enqueueDma mo (.here dst) (.dma sem) h1 h2 h3) : PR F i PUnit) >>= k) Q) := by
  unfold holds anyOut sending
  iintro ⟨⟨%f, %hf, Hs⟩, ⟨%g, Hd⟩, Hv⟩ Hk
  have hsub : mo.view.set ⊆ (Finset.univ : Finset (Idx (mo.view.loc (thr d i)))) := Finset.subset_univ _
  ihave Hs2 := (pointsTo_split_subset hsub).1 $$ Hs
  icases Hs2 with ⟨Hs, Hrest⟩
  iapply (Transfers.wp_dmaLocal (countersEmb) 𝒱₀ (thr d i) none (src := mo) (via := .same) (dst := dst) (sm := .dma sem) (fs := f) (fd := g) (Sd := dst.view.set) none
      (dst.view.amount (.dma sem)) rfl (View.amount_pos _ _ hs) (Finset.Subset.refl _)) $$ [Hs Hd Hv]
  · isplitl [Hs]; · iexact Hs
    isplitl [Hd]; · iexact Hd
    iexact Hv
  iintro Hfl
  iapply Hk
  iexists f
  iexists g
  isplitr; · ipureintro; exact hf
  isplitl [Hfl]; · iexact Hfl
  iexact Hrest

theorem sent_wp {α : Type} {Q : α → sProp 𝕄} {s : Shape} {e : EltTy}
    (mo : Memref sig .scVector .vmem s e) (dst : Memref sig .scVector .hbm s e) (sem : DmaSem sig)
    {h1 : mo.view.WordExact} {h2 : dst.view.WordExact} (T : Vec F s e)
    (O : CellTallies nD τ sig (HIx 1)) (W : Waits sig (HIx 1)) (k : PUnit → PR F i α) :
    iprop(sending d i mo T dst sem ∗ owing (F := F) d i O W)
      ⊢ iprop((iprop(hasOut d i dst T ∗ holds d i mo T ∗ semVal (thr d i, .dma sem) 0 ∗ owing (F := F) d i O W)
            -∗ wp frame (wpE (defs₀ (F := F)) 𝒱₀ (thr d i) none) Set.univ (k ⟨⟩) Q)
        -∗ wp frame (wpE (defs₀ (F := F)) 𝒱₀ (thr d i) none) Set.univ
            ((Prog.lift (.waitDma2 sem mo dst h1 h2) : PR F i PUnit) >>= k) Q) := by
  unfold sending owing
  iintro ⟨⟨%f, %g, %hf, Hfl, Hrest⟩, #Hmw, ⟨%W', %hW, HO⟩⟩ Hk
  iapply (Transfers.wp_waitLocalO (countersEmb) 𝒱₀ (thr d i) none (sem := sem) (srcw := mo) (dstw := dst) none rfl) $$ [Hfl HO]
  · isplitl [Hfl]; · iexact Hfl
    isplitl [HO]; · iexact HO
    iapply (Transfers.MayWaits.elim (.dma sem)) $$ Hmw
  iintro ⟨⟨Hd, Hs⟩, Hv, HO⟩
  have hsub : mo.view.set ⊆ (Finset.univ : Finset (Idx (mo.view.loc (thr d i)))) := Finset.subset_univ _
  ihave Hs := (pointsTo_split_subset (q := fullShare) (f := f) hsub).2 $$ [Hs Hrest]
  · isplitl [Hs]; · iexact Hs
    iexact Hrest
  iapply Hk
  unfold hasOut holds
  isplitl [Hd]
  · iexists _
    isplitr
    rotate_left
    · iexact Hd
    · ipureintro
      exact (View.read_write_univ _ _).trans hf
  isplitl [Hs]
  · iexists f
    isplitr; · ipureintro; exact hf
    iexact Hs
  isplitl [Hv]; · iexact Hv
  isplitr; · iexact Hmw
  iexists (insert (SemLoc.dma sem, none) W')
  isplitr
  · ipureintro
    intro p hp
    rcases Finset.mem_insert.mp hp with rfl | hp
    · exact .inr rfl
    · exact hW p hp
  iexact HO

end Copies

end Cert.Proof.Gather
-- ==== Proof.TileRun.lean ====
/-
  The run of one tile, once for a symbolic pair of SparseCore and tile: seven fetches, the unrolled middle, three copies
  out.
-/
module

public import proofs.«01_k».proof.Proof.Copy

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The slices a tile copies -/

/-- Coordinate `r` of the tile's batch, in the flat coordinates. -/
abbrev xSl (i : grid0.Coords) (m : Memref sig .scVector .hbm S196608 .f32) (r : Fin 3) : Memref sig .scVector .hbm S4096 .f32 :=
  m.slice (Rect.unit (s := S196608) (k0_off1 i (BitVec.ofNat 32 r.val)) S4096.size (k0_off1_inb i r)) (fun _ => rfl)
/-- Coordinate `r` of the batch's centres. -/
abbrev cSl (i : grid0.Coords) (m : Memref sig .scVector .hbm S6144 .f32) (r : Fin 3) : Memref sig .scVector .hbm S128 .f32 :=
  m.slice (Rect.unit (s := S6144) (k0_off2 i (BitVec.ofNat 32 r.val)) S128.size (k0_off2_inb i r)) (fun _ => rfl)
/-- The tile's half of the batch's neighbour numbers. -/
abbrev iSl (i : grid0.Coords) (m : Memref sig .scVector .hbm S65536 .i32) : Memref sig .scVector .hbm S2048 .i32 :=
  m.slice (Rect.unit (s := S65536) (k0_off3 i) S2048.size (k0_off3_inb i)) (fun _ => rfl)
/-- The tile's half of coordinate `r` of the batch's results. -/
abbrev oSl (i : grid0.Coords) (m : Memref sig .scVector .hbm S196608 .f32) (r : Fin 3) : Memref sig .scVector .hbm S2048 .f32 :=
  m.slice (Rect.unit (s := S196608) (k0_off4 i (BitVec.ofNat 32 r.val)) S2048.size (k0_off4_inb i r)) (fun _ => rfl)

section Run

variable (d : Dev nD) (i : grid0.Coords)
variable (a2 : Memref sig .scVector .hbm S196608 .f32) (h2 : a2.IsWhole) (a3 : Memref sig .scVector .hbm S6144 .f32) (h3 : a3.IsWhole)
variable (a4 : Memref sig .scVector .hbm S65536 .i32) (h4 : a4.IsWhole) (a5 : Memref sig .scVector .hbm S196608 .f32) (h5 : a5.IsWhole)
variable (a6 : Memref sig .scVector .vmem S4096 .f32) (h6 : a6.IsWhole) (a7 : Memref sig .scVector .vmem S4096 .f32) (h7 : a7.IsWhole)
variable (a8 : Memref sig .scVector .vmem S4096 .f32) (h8 : a8.IsWhole) (a9 : Memref sig .scVector .vmem S128 .f32) (h9 : a9.IsWhole)
variable (a10 : Memref sig .scVector .vmem S128 .f32) (h10 : a10.IsWhole) (a11 : Memref sig .scVector .vmem S128 .f32) (h11 : a11.IsWhole)
variable (a12 : Memref sig .scVector .vmem S2048 .i32) (h12 : a12.IsWhole) (a13 : Memref sig .scVector .vmem S2048 .f32) (h13 : a13.IsWhole)
variable (a14 : Memref sig .scVector .vmem S2048 .f32) (h14 : a14.IsWhole) (a15 : Memref sig .scVector .vmem S2048 .f32) (h15 : a15.IsWhole)
variable (r0 r1 r2 r3 r4 r5 r6 r7 r8 r9 : DmaSems sig S_)
variable (X : Fin 3 → XRow F) (C : Fin 3 → CRow F) (I : IRow F)

theorem holds_done (mo : Memref sig .scVector .vmem S2048 .f32) (T : ORow F) : (holds d i mo T : sProp 𝕄) ⊢ done d i mo T 128 := by
  unfold holds done
  iintro ⟨%f, %h, H⟩
  iexists f
  isplitr
  · ipureintro; intro j _; exact congrFun h j
  · iexact H

theorem any_done (mo : Memref sig .scVector .vmem S2048 .f32) (T : ORow F) : (any (F := F) d i mo : sProp 𝕄) ⊢ done d i mo T 0 := by
  unfold any done
  iintro ⟨%f, H⟩
  iexists f
  isplitr
  · ipureintro; intro j hj; omega
  · iexact H

/-- The first two blocks, but for the last store of the second. -/
theorem part3_wp {α : Type} {Q : α → sProp 𝕄} (hI : inRange I) (qc qi : PosShare TreeShare)
    (fc : Buf (Elt F) (a3.view.loc (thr d i))) (fi : Buf (Elt F) (a4.view.loc (thr d i)))
    (hC : C 2 = (cSl i a3 2).view.read (Elt F) fc) (hi : I = (iSl i a4).view.read (Elt F) fi)
    (O : CellTallies nD τ sig (HIx 1)) (W : Waits sig (HIx 1)) (v18 v29 : BitVec 32) (k : FVec F S16 .f32 → PR F i α) :
    iprop((shares d i (cSl i a3 2) qc fc ∗ shares d i (iSl i a4) qi fi)
      ∗ (holds d i a6 (X 0) ∗ holds d i a9 (C 0) ∗ any (F := F) d i a13)
      ∗ (holds d i a7 (X 1) ∗ holds d i a10 (C 1) ∗ any (F := F) d i a14)
      ∗ (holds d i a8 (X 2) ∗ any (F := F) d i a11 ∗ any (F := F) d i a15)
      ∗ any (F := F) d i a12 ∗ semVal (thr d i, .dma r5.sem) 0 ∗ semVal (thr d i, .dma r6.sem) 0 ∗ owing (F := F) d i O W)
    ⊢ iprop((iprop((shares d i (cSl i a3 2) qc fc ∗ shares d i (iSl i a4) qi fi)
        ∗ St d i a6 a7 a8 a9 a10 a11 a12 a13 a14 a15 X C I 2 2 1 ∗ semVal (thr d i, .dma r5.sem) 0 ∗ semVal (thr d i, .dma r6.sem) 0 ∗ owing (F := F) d i O W)
          -∗ wp frame (wpE (defs₀ (F := F)) 𝒱₀ (thr d i) none) Set.univ (k (pend2 X C I 1)) Q)
      -∗ wp frame (wpE (defs₀ (F := F)) 𝒱₀ (thr d i) none) Set.univ (k0_part3 i a2 h2 a3 h3 a4 h4 a5 h5 a6 h6 a7 h7 a8 h8 a9 h9 a10 h10 a11 h11 a12 h12 a13 h13 a14 h14 a15 h15 r0 r1 r2 r3 r4 r5 r6 r7 r8 r9 v18 v29 >>= k) Q) := by
  rw [wp_bind]
  unfold k0_part3
  iintro ⟨⟨Hc, Hi⟩, ⟨Hx0, Hc0, Ho0⟩, ⟨Hx1, Hc1, Ho1⟩, ⟨Hx2, Hc2, Ho2⟩, H12, Hr5, Hr6, HO⟩ Hk
  iapply (fetch_wp d i (by decide) (cSl i a3 2) a11 r5.sem qc fc O W _) $$ [Hc Hc2 Hr5 HO]
  · isplitl [Hc]; · iexact Hc
    isplitl [Hc2]; · iexact Hc2
    isplitl [Hr5] <;> iassumption
  iintro ⟨Hc, Hc2, Hr5, HO⟩
  rw [← hC]
  iapply (fetch_wp d i (by decide) (iSl i a4) a12 r6.sem qi fi O W _) $$ [Hi H12 Hr6 HO]
  · isplitl [Hi]; · iexact Hi
    isplitl [H12]; · iexact H12
    isplitl [Hr6] <;> iassumption
  iintro ⟨Hi, H12, Hr6, HO⟩
  rw [← hi]
  ihave Ho0 := any_done d i a13 (T1 (X 0) (C 0) I) $$ Ho0
  ihave Ho1 := any_done d i a14 (T1 (X 1) (C 1) I) $$ Ho1
  ihave Ho2 := any_done d i a15 (T1 (X 2) (C 2) I) $$ Ho2
  iapply (blk_wp d i a6 a7 a8 a9 a10 a11 a12 a13 a14 a15 X C I hI 0 (by decide) _) $$ [H12 Hx0 Hc0 Ho0 Hx1 Hc1 Ho1 Hx2 Hc2 Ho2]
  · unfold St
    isplitl [H12]; · iexact H12
    isplitl [Hx0 Hc0 Ho0]
    · isplitl [Hx0]; · iexact Hx0
      isplitl [Hc0] <;> iassumption
    isplitl [Hx1 Hc1 Ho1]
    · isplitl [Hx1]; · iexact Hx1
      isplitl [Hc1] <;> iassumption
    isplitl [Hx2]; · iexact Hx2
    isplitl [Hc2] <;> iassumption
  iintro HS
  unfold St
  icases HS with ⟨H12, H0, H1, ⟨Hx2, Hc2, Ho2⟩⟩
  iapply (idx_wp d i a12 I hI 1 (by decide) _ _) $$ H12
  iintro H12
  iapply (chan_wp d i a6 a9 a13 (X 0) (C 0) I 1 (by decide) _ _ _ _ _ _ _) $$ H0
  iintro H0
  iapply (chan_wp d i a7 a10 a14 (X 1) (C 1) I 1 (by decide) _ _ _ _ _ _ _) $$ H1
  iintro H1
  iapply (half_wp d i a8 a11 (X 2) (C 2) _ 1 _ _ _ _) $$ [Hx2 Hc2]
  · isplitl [Hx2] <;> iassumption
  iintro ⟨Hx2, Hc2⟩
  rw [pay_eq (X 2) (C 2) I (by decide) (k0_idx1_inb _ (chk_blk hI 1))]
  rw [wp_pure]; imodintro
  iapply Hk
  isplitl [Hc Hi]
  · isplitl [Hc] <;> iassumption
  isplitl [H12 H0 H1 Hx2 Hc2 Ho2]
  · isplitl [H12]; · iexact H12
    isplitl [H0]; · iexact H0
    isplitl [H1]; · iexact H1
    isplitl [Hx2]; · iexact Hx2
    isplitl [Hc2] <;> iassumption
  isplitl [Hr5]; · iexact Hr5
  isplitl [Hr6] <;> iassumption

/-- The first fetch: the first coordinate's row. -/
theorem part1_wp {α : Type} {Q : α → sProp 𝕄} (qx : PosShare TreeShare) (fx : Buf (Elt F) (a2.view.loc (thr d i)))
    (O : CellTallies nD τ sig (HIx 1)) (W : Waits sig (HIx 1)) (k : (Σ' (_ : BitVec 32), BitVec 32) → PR F i α) :
    iprop(shares d i (xSl i a2 0) qx fx ∗ any (F := F) d i a6 ∗ semVal (thr d i, .dma r0.sem) 0 ∗ owing (F := F) d i O W)
    ⊢ iprop((∀ v, iprop(shares d i (xSl i a2 0) qx fx ∗ holds d i a6 ((xSl i a2 0).view.read (Elt F) fx) ∗ semVal (thr d i, .dma r0.sem) 0 ∗ owing (F := F) d i O W)
          -∗ wp frame (wpE (defs₀ (F := F)) 𝒱₀ (thr d i) none) Set.univ (k v) Q)
      -∗ wp frame (wpE (defs₀ (F := F)) 𝒱₀ (thr d i) none) Set.univ (k0_part1 i a2 h2 a3 h3 a4 h4 a5 h5 a6 h6 a7 h7 a8 h8 a9 h9 a10 h10 a11 h11 a12 h12 a13 h13 a14 h14 a15 h15 r0 r1 r2 r3 r4 r5 r6 r7 r8 r9 >>= k) Q) := by
  rw [wp_bind]
  unfold k0_part1
  iintro H Hk
  iapply (fetch_wp d i (by decide) (xSl i a2 0) a6 r0.sem qx fx O W _) $$ H
  iintro H
  rw [wp_pure]; imodintro
  iapply Hk $$ H

/-- The next four fetches. -/
theorem part2_wp {α : Type} {Q : α → sProp 𝕄} (qx qc : PosShare TreeShare) (fx : Buf (Elt F) (a2.view.loc (thr d i)))
    (fc : Buf (Elt F) (a3.view.loc (thr d i))) (O : CellTallies nD τ sig (HIx 1)) (W : Waits sig (HIx 1)) (v18 : BitVec 32) (k : PUnit → PR F i α) :
    iprop((shares d i (xSl i a2 1) qx fx ∗ shares d i (cSl i a3 0) qc fc)
      ∗ (any (F := F) d i a9 ∗ semVal (thr d i, .dma r1.sem) 0) ∗ (any (F := F) d i a7 ∗ semVal (thr d i, .dma r2.sem) 0) ∗ (any (F := F) d i a10 ∗ semVal (thr d i, .dma r3.sem) 0) ∗ (any (F := F) d i a8 ∗ semVal (thr d i, .dma r4.sem) 0) ∗ owing (F := F) d i O W)
    ⊢ iprop((iprop((shares d i (xSl i a2 1) qx fx ∗ shares d i (cSl i a3 0) qc fc)
        ∗ (holds d i a9 ((cSl i a3 0).view.read (Elt F) fc) ∗ semVal (thr d i, .dma r1.sem) 0) ∗ (holds d i a7 ((xSl i a2 1).view.read (Elt F) fx) ∗ semVal (thr d i, .dma r2.sem) 0)
        ∗ (holds d i a10 ((cSl i a3 1).view.read (Elt F) fc) ∗ semVal (thr d i, .dma r3.sem) 0) ∗ (holds d i a8 ((xSl i a2 2).view.read (Elt F) fx) ∗ semVal (thr d i, .dma r4.sem) 0) ∗ owing (F := F) d i O W)
          -∗ wp frame (wpE (defs₀ (F := F)) 𝒱₀ (thr d i) none) Set.univ (k ⟨⟩) Q)
      -∗ wp frame (wpE (defs₀ (F := F)) 𝒱₀ (thr d i) none) Set.univ (k0_part2 i a2 h2 a3 h3 a4 h4 a5 h5 a6 h6 a7 h7 a8 h8 a9 h9 a10 h10 a11 h11 a12 h12 a13 h13 a14 h14 a15 h15 r0 r1 r2 r3 r4 r5 r6 r7 r8 r9 v18 >>= k) Q) := by
  rw [wp_bind]
  unfold k0_part2
  iintro ⟨⟨Hx, Hc⟩, ⟨Hc0, Hr1⟩, ⟨Hx1, Hr2⟩, ⟨Hc1, Hr3⟩, ⟨Hx2, Hr4⟩, HO⟩ Hk
  iapply (fetch_wp d i (by decide) (cSl i a3 0) a9 r1.sem qc fc O W _) $$ [Hc Hc0 Hr1 HO]
  · isplitl [Hc]; · iexact Hc
    isplitl [Hc0]; · iexact Hc0
    isplitl [Hr1] <;> iassumption
  iintro ⟨Hc, Hc0, Hr1, HO⟩
  iapply (fetch_wp d i (by decide) (xSl i a2 1) a7 r2.sem qx fx O W _) $$ [Hx Hx1 Hr2 HO]
  · isplitl [Hx]; · iexact Hx
    isplitl [Hx1]; · iexact Hx1
    isplitl [Hr2] <;> iassumption
  iintro ⟨Hx, Hx1, Hr2, HO⟩
  iapply (fetch_wp d i (by decide) (cSl i a3 1) a10 r3.sem qc fc O W _) $$ [Hc Hc1 Hr3 HO]
  · isplitl [Hc]; · iexact Hc
    isplitl [Hc1]; · iexact Hc1
    isplitl [Hr3] <;> iassumption
  iintro ⟨Hc, Hc1, Hr3, HO⟩
  iapply (fetch_wp d i (by decide) (xSl i a2 2) a8 r4.sem qx fx O W _) $$ [Hx Hx2 Hr4 HO]
  · isplitl [Hx]; · iexact Hx
    isplitl [Hx2]; · iexact Hx2
    isplitl [Hr4] <;> iassumption
  iintro ⟨Hx, Hx2, Hr4, HO⟩
  rw [wp_pure]; imodintro
  iapply Hk
  isplitl [Hx Hc]
  · isplitl [Hx] <;> iassumption
  isplitl [Hc0 Hr1]
  · isplitl [Hc0] <;> iassumption
  isplitl [Hx1 Hr2]
  · isplitl [Hx1] <;> iassumption
  isplitl [Hc1 Hr3]
  · isplitl [Hc1] <;> iassumption
  isplitl [Hx2 Hr4]
  · isplitl [Hx2] <;> iassumption
  iexact HO

/-- The last block, and the first two copies out. -/
theorem part54_wp {α : Type} {Q : α → sProp 𝕄} (hI : inRange I)
    (O : CellTallies nD τ sig (HIx 1)) (W : Waits sig (HIx 1)) (v18 v29 : BitVec 32) (k : (Σ' (_ : BitVec 32), BitVec 32) → PR F i α) :
    iprop(St d i a6 a7 a8 a9 a10 a11 a12 a13 a14 a15 X C I 127 127 126 ∗ (anyOut (F := F) d i (oSl i a5 0) ∗ semVal (thr d i, .dma r7.sem) 0) ∗ (anyOut (F := F) d i (oSl i a5 1) ∗ semVal (thr d i, .dma r8.sem) 0) ∗ owing (F := F) d i O W)
    ⊢ iprop((∀ v, iprop(St d i a6 a7 a8 a9 a10 a11 a12 a13 a14 a15 X C I 128 128 128 ∗ (hasOut d i (oSl i a5 0) (T1 (X 0) (C 0) I) ∗ semVal (thr d i, .dma r7.sem) 0)
            ∗ (hasOut d i (oSl i a5 1) (T1 (X 1) (C 1) I) ∗ semVal (thr d i, .dma r8.sem) 0) ∗ owing (F := F) d i O W)
          -∗ wp frame (wpE (defs₀ (F := F)) 𝒱₀ (thr d i) none) Set.univ (k v) Q)
      -∗ wp frame (wpE (defs₀ (F := F)) 𝒱₀ (thr d i) none) Set.univ (k0_part54 i a2 h2 a3 h3 a4 h4 a5 h5 a6 h6 a7 h7 a8 h8 a9 h9 a10 h10 a11 h11 a12 h12 a13 h13 a14 h14 a15 h15 r0 r1 r2 r3 r4 r5 r6 r7 r8 r9 v18 v29 (pend2 X C I 126) >>= k) Q) := by
  rw [wp_bind]
  unfold k0_part54
  iintro ⟨HS, ⟨Hd0, Hr7⟩, ⟨Hd1, Hr8⟩, HO⟩ Hk
  unfold St
  icases HS with ⟨Hi, H0, H1, ⟨Hx2, Hc2, Ho2⟩⟩
  iapply (put_wp d i a15 (T1 (X 2) (C 2) I) 126 (by decide) _ rfl _ _ _ _) $$ Ho2
  iintro Ho2
  iapply (blk_wp d i a6 a7 a8 a9 a10 a11 a12 a13 a14 a15 X C I hI 127 (by decide) _) $$ [Hi H0 H1 Hx2 Hc2 Ho2]
  · unfold St
    isplitl [Hi]; · iexact Hi
    isplitl [H0]; · iexact H0
    isplitl [H1]; · iexact H1
    isplitl [Hx2]; · iexact Hx2
    isplitl [Hc2] <;> iassumption
  iintro HS
  unfold St
  icases HS with ⟨Hi, ⟨Hx0, Hc0, Ho0⟩, ⟨Hx1, Hc1, Ho1⟩, H2⟩
  ihave Ho0 := done_all d i a13 (T1 (X 0) (C 0) I) $$ Ho0
  ihave Ho1 := done_all d i a14 (T1 (X 1) (C 1) I) $$ Ho1
  iapply (send_wp d i (by decide) a13 (oSl i a5 0) r7.sem (T1 (X 0) (C 0) I) _) $$ [Ho0 Hd0 Hr7]
  · isplitl [Ho0]; · iexact Ho0
    isplitl [Hd0] <;> iassumption
  iintro Hs
  iapply (sent_wp d i a13 (oSl i a5 0) r7.sem (T1 (X 0) (C 0) I) O W _) $$ [Hs HO]
  · isplitl [Hs] <;> iassumption
  iintro ⟨Hd0, Ho0, Hr7, HO⟩
  iapply (send_wp d i (by decide) a14 (oSl i a5 1) r8.sem (T1 (X 1) (C 1) I) _) $$ [Ho1 Hd1 Hr8]
  · isplitl [Ho1]; · iexact Ho1
    isplitl [Hd1] <;> iassumption
  iintro Hs
  iapply (sent_wp d i a14 (oSl i a5 1) r8.sem (T1 (X 1) (C 1) I) O W _) $$ [Hs HO]
  · isplitl [Hs] <;> iassumption
  iintro ⟨Hd1, Ho1, Hr8, HO⟩
  ihave Ho0 := holds_done d i a13 (T1 (X 0) (C 0) I) $$ Ho0
  ihave Ho1 := holds_done d i a14 (T1 (X 1) (C 1) I) $$ Ho1
  rw [wp_pure]; imodintro
  iapply Hk
  isplitl [Hi Hx0 Hc0 Ho0 Hx1 Hc1 Ho1 H2]
  · isplitl [Hi]; · iexact Hi
    isplitl [Hx0 Hc0 Ho0]
    · isplitl [Hx0]; · iexact Hx0
      isplitl [Hc0] <;> iassumption
    isplitl [Hx1 Hc1 Ho1]
    · isplitl [Hx1]; · iexact Hx1
      isplitl [Hc1] <;> iassumption
    iexact H2
  isplitl [Hd0 Hr7]
  · isplitl [Hd0] <;> iassumption
  isplitl [Hd1 Hr8]
  · isplitl [Hd1] <;> iassumption
  iexact HO

/-- The rows' and arrays' part of what a tile runs from. -/
def pre (qx qc qi : PosShare TreeShare) (fx : Buf (Elt F) (a2.view.loc (thr d i))) (fc : Buf (Elt F) (a3.view.loc (thr d i)))
    (fi : Buf (Elt F) (a4.view.loc (thr d i))) : sProp 𝕄 :=
  iprop((shares d i (xSl i a2 0) qx fx ∗ shares d i (cSl i a3 0) qc fc ∗ shares d i (iSl i a4) qi fi)
    ∗ (anyOut (F := F) d i (oSl i a5 0) ∗ anyOut (F := F) d i (oSl i a5 1) ∗ anyOut (F := F) d i (oSl i a5 2)))

/-- … and of what it ends with. -/
def post (qx qc qi : PosShare TreeShare) (fx : Buf (Elt F) (a2.view.loc (thr d i))) (fc : Buf (Elt F) (a3.view.loc (thr d i)))
    (fi : Buf (Elt F) (a4.view.loc (thr d i))) : sProp 𝕄 :=
  iprop((shares d i (xSl i a2 0) qx fx ∗ shares d i (cSl i a3 0) qc fc ∗ shares d i (iSl i a4) qi fi)
    ∗ (hasOut d i (oSl i a5 0) (T1 ((xSl i a2 0).view.read (Elt F) fx) ((cSl i a3 0).view.read (Elt F) fc) ((iSl i a4).view.read (Elt F) fi))
      ∗ hasOut d i (oSl i a5 1) (T1 ((xSl i a2 1).view.read (Elt F) fx) ((cSl i a3 1).view.read (Elt F) fc) ((iSl i a4).view.read (Elt F) fi))
      ∗ hasOut d i (oSl i a5 2) (T1 ((xSl i a2 2).view.read (Elt F) fx) ((cSl i a3 2).view.read (Elt F) fc) ((iSl i a4).view.read (Elt F) fi))))

/-- The tile's ten scratch rows, whatever they hold. -/
def scratch : sProp 𝕄 :=
  iprop(any (F := F) d i a6 ∗ any (F := F) d i a7 ∗ any (F := F) d i a8 ∗ any (F := F) d i a9 ∗ any (F := F) d i a10 ∗ any (F := F) d i a11 ∗ any (F := F) d i a12 ∗ any (F := F) d i a13 ∗ any (F := F) d i a14 ∗ any (F := F) d i a15)
/-- The tile's ten semaphores, at zero. -/
def semaphores : sProp 𝕄 :=
  iprop(semVal (thr d i, .dma r0.sem) 0 ∗ semVal (thr d i, .dma r1.sem) 0 ∗ semVal (thr d i, .dma r2.sem) 0 ∗ semVal (thr d i, .dma r3.sem) 0 ∗ semVal (thr d i, .dma r4.sem) 0 ∗ semVal (thr d i, .dma r5.sem) 0 ∗ semVal (thr d i, .dma r6.sem) 0 ∗ semVal (thr d i, .dma r7.sem) 0 ∗ semVal (thr d i, .dma r8.sem) 0 ∗ semVal (thr d i, .dma r9.sem) 0)

theorem run_wp (qx qc qi : PosShare TreeShare) (fx : Buf (Elt F) (a2.view.loc (thr d i))) (fc : Buf (Elt F) (a3.view.loc (thr d i)))
    (fi : Buf (Elt F) (a4.view.loc (thr d i))) (hI : inRange ((iSl i a4).view.read (Elt F) fi))
    (O : CellTallies nD τ sig (HIx 1)) (W : Waits sig (HIx 1)) :
    iprop(pre d i a2 a3 a4 a5 qx qc qi fx fc fi ∗ scratch d i a6 a7 a8 a9 a10 a11 a12 a13 a14 a15 (F := F) ∗ semaphores d i r0 r1 r2 r3 r4 r5 r6 r7 r8 r9 ∗ owing (F := F) d i O W)
    ⊢ wp frame (wpE (defs₀ (F := F)) 𝒱₀ (thr d i) none) Set.univ (cc0__sc_gather_body i a2 h2 a3 h3 a4 h4 a5 h5 a6 h6 a7 h7 a8 h8 a9 h9 a10 h10 a11 h11 a12 h12 a13 h13 a14 h14 a15 h15 r0 r1 r2 r3 r4 r5 r6 r7 r8 r9 : PR F i PUnit) (fun _ =>
        iprop(post d i a2 a3 a4 a5 qx qc qi fx fc fi ∗ scratch d i a6 a7 a8 a9 a10 a11 a12 a13 a14 a15 (F := F) ∗ semaphores d i r0 r1 r2 r3 r4 r5 r6 r7 r8 r9 ∗ owing (F := F) d i O W)) := by
  unfold pre scratch semaphores cc0__sc_gather_body
  rw [wp_bind]
  unfold k0_part55
  iintro ⟨⟨⟨Hx, Hc, Hi⟩, Hd0, Hd1, Hd2⟩, ⟨H6, H7, H8, H9, H10, H11, H12, H13, H14, H15⟩, ⟨Hr0, Hr1, Hr2, Hr3, Hr4, Hr5, Hr6, Hr7, Hr8, Hr9⟩, HO⟩
  generalize hIe : (iSl i a4).view.read (Elt F) fi = I at hI
  iapply (part1_wp d i a2 h2 a3 h3 a4 h4 a5 h5 a6 h6 a7 h7 a8 h8 a9 h9 a10 h10 a11 h11 a12 h12 a13 h13 a14 h14 a15 h15 r0 r1 r2 r3 r4 r5 r6 r7 r8 r9 qx fx O W _) $$ [Hx H6 Hr0 HO]
  · isplitl [Hx]; · iexact Hx
    isplitl [H6]; · iexact H6
    isplitl [Hr0] <;> iassumption
  iintro %v ⟨Hx, H6, Hr0, HO⟩
  obtain ⟨v18, v29⟩ := v
  iapply (part2_wp d i a2 h2 a3 h3 a4 h4 a5 h5 a6 h6 a7 h7 a8 h8 a9 h9 a10 h10 a11 h11 a12 h12 a13 h13 a14 h14 a15 h15 r0 r1 r2 r3 r4 r5 r6 r7 r8 r9 qx qc fx fc O W v18 _) $$ [Hx Hc H9 Hr1 H7 Hr2 H10 Hr3 H8 Hr4 HO]
  · isplitl [Hx Hc]
    · isplitl [Hx] <;> iassumption
    isplitl [H9 Hr1]
    · isplitl [H9] <;> iassumption
    isplitl [H7 Hr2]
    · isplitl [H7] <;> iassumption
    isplitl [H10 Hr3]
    · isplitl [H10] <;> iassumption
    isplitl [H8 Hr4]
    · isplitl [H8] <;> iassumption
    iexact HO
  iintro ⟨⟨Hx, Hc⟩, ⟨H9, Hr1⟩, ⟨H7, Hr2⟩, ⟨H10, Hr3⟩, ⟨H8, Hr4⟩, HO⟩
  iapply (part3_wp d i a2 h2 a3 h3 a4 h4 a5 h5 a6 h6 a7 h7 a8 h8 a9 h9 a10 h10 a11 h11 a12 h12 a13 h13 a14 h14 a15 h15 r0 r1 r2 r3 r4 r5 r6 r7 r8 r9 (fun r => (xSl i a2 r).view.read (Elt F) fx) (fun r => (cSl i a3 r).view.read (Elt F) fc) I hI qc qi fc fi rfl hIe.symm O W v18 v29 _)
      $$ [Hc Hi H6 H9 H13 H7 H10 H14 H8 H11 H15 H12 Hr5 Hr6 HO]
  · isplitl [Hc Hi]
    · isplitl [Hc] <;> iassumption
    isplitl [H6 H9 H13]
    · isplitl [H6]; · iexact H6
      isplitl [H9] <;> iassumption
    isplitl [H7 H10 H14]
    · isplitl [H7]; · iexact H7
      isplitl [H10] <;> iassumption
    isplitl [H8 H11 H15]
    · isplitl [H8]; · iexact H8
      isplitl [H11] <;> iassumption
    isplitl [H12]; · iexact H12
    isplitl [Hr5]; · iexact Hr5
    isplitl [Hr6] <;> iassumption
  iintro ⟨⟨Hc, Hi⟩, HS, Hr5, Hr6, HO⟩
  iterate 25
    iapply (even_wp d i a6 a7 a8 a9 a10 a11 a12 a13 a14 a15 _ _ I hI _ (by decide) _) $$ HS
    iintro HS
    iapply (odd_wp d i a6 a7 a8 a9 a10 a11 a12 a13 a14 a15 _ _ I hI _ (by decide) _) $$ HS
    iintro HS
  iapply (part54_wp d i a2 h2 a3 h3 a4 h4 a5 h5 a6 h6 a7 h7 a8 h8 a9 h9 a10 h10 a11 h11 a12 h12 a13 h13 a14 h14 a15 h15 r0 r1 r2 r3 r4 r5 r6 r7 r8 r9 (fun r => (xSl i a2 r).view.read (Elt F) fx) (fun r => (cSl i a3 r).view.read (Elt F) fc) I hI O W v18 v29 _)
      $$ [HS Hd0 Hr7 Hd1 Hr8 HO]
  · isplitl [HS]; · iexact HS
    isplitl [Hd0 Hr7]
    · isplitl [Hd0] <;> iassumption
    isplitl [Hd1 Hr8]
    · isplitl [Hd1] <;> iassumption
    iexact HO
  iintro %v ⟨HS, ⟨Hd0, Hr7⟩, ⟨Hd1, Hr8⟩, HO⟩
  obtain ⟨w, w'⟩ := v
  unfold St
  icases HS with ⟨H12, ⟨H6, H9, H13⟩, ⟨H7, H10, H14⟩, ⟨H8, H11, H15⟩⟩
  ihave H15 := done_all d i a15 (T1 ((xSl i a2 2).view.read (Elt F) fx) ((cSl i a3 2).view.read (Elt F) fc) I) $$ H15
  iapply (send_wp d i (by decide) a15 (oSl i a5 2) r9.sem (T1 ((xSl i a2 2).view.read (Elt F) fx) ((cSl i a3 2).view.read (Elt F) fc) I) _) $$ [H15 Hd2 Hr9]
  · isplitl [H15]; · iexact H15
    isplitl [Hd2] <;> iassumption
  iintro Hs
  rw [wp_pure]; imodintro
  iapply (sent_wp d i a15 (oSl i a5 2) r9.sem (T1 ((xSl i a2 2).view.read (Elt F) fx) ((cSl i a3 2).view.read (Elt F) fc) I) O W _) $$ [Hs HO]
  · isplitl [Hs] <;> iassumption
  iintro ⟨Hd2, H15, Hr9, HO⟩
  rw [wp_pure]; imodintro
  ihave H13 := done_all d i a13 _ $$ H13
  ihave H14 := done_all d i a14 _ $$ H14
  isplitl [Hx Hc Hi Hd0 Hd1 Hd2]
  · unfold post
    rw [hIe]
    isplitl [Hx Hc Hi]
    · isplitl [Hx]; · iexact Hx
      isplitl [Hc] <;> iassumption
    isplitl [Hd0]; · iexact Hd0
    isplitl [Hd1] <;> iassumption
  isplitl [H6 H7 H8 H9 H10 H11 H12 H13 H14 H15]
  · isplitl [H6]; · iapply holds_any d i a6 _ $$ H6
    isplitl [H7]; · iapply holds_any d i a7 _ $$ H7
    isplitl [H8]; · iapply holds_any d i a8 _ $$ H8
    isplitl [H9]; · iapply holds_any d i a9 _ $$ H9
    isplitl [H10]; · iapply holds_any d i a10 _ $$ H10
    isplitl [H11]; · iapply holds_any d i a11 _ $$ H11
    isplitl [H12]; · iapply holds_any d i a12 _ $$ H12
    isplitl [H13]; · iapply holds_any d i a13 _ $$ H13
    isplitl [H14]; · iapply holds_any d i a14 _ $$ H14
    iapply holds_any d i a15 _ $$ H15
  isplitr [HO]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexact Hr9
  iexact HO

end Run

end Cert.Proof.Gather
-- ==== Proof.Flat.lean ====
/-
  Where a tile's slices lie in the flat arrays, what the whole output holds, and a tile's run from its part of the
  launch's arrays.
-/
module

public import proofs.«01_k».proof.Proof.TileRun

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The offsets -/

theorem off1_eq : ∀ (i : grid0.Coords) (r : Fin 3), k0_off1 i (BitVec.ofNat 32 r.val) 0 = ((i 1).val * 3 + r.val) * 4096 := by decide +kernel
theorem off2_eq : ∀ (i : grid0.Coords) (r : Fin 3), k0_off2 i (BitVec.ofNat 32 r.val) 0 = ((i 1).val * 3 + r.val) * 128 := by decide +kernel
theorem off3_eq : ∀ (i : grid0.Coords), k0_off3 i 0 = (i 1).val * 4096 + (i 0).val * 2048 := by decide +kernel
theorem off4_eq : ∀ (i : grid0.Coords) (r : Fin 3), k0_off4 i (BitVec.ofNat 32 r.val) 0 = ((i 1).val * 3 + r.val) * 4096 + (i 0).val * 2048 := by
  decide +kernel

theorem core_lt (i : grid0.Coords) : (i 0).val < 2 := (i 0).isLt
theorem sub_lt (i : grid0.Coords) : (i 1).val < 16 := (i 1).isLt

/-! ## The launch's arrays -/

abbrev xV : Memref sig .scVector .hbm S196608 .f32 := Memref.whole main_v2_scv
abbrev cV : Memref sig .scVector .hbm S6144 .f32 := Memref.whole main_v3_scv
abbrev nV : Memref sig .scVector .hbm S65536 .i32 := Memref.whole main_v1_scv
abbrev oV : Memref sig .scVector .hbm S196608 .f32 := Memref.whole main_v4_scv

abbrev xLoc (d : Dev nD) : Loc nD τ sig := (SparseCore.T d).loc main_v2
abbrev cLoc (d : Dev nD) : Loc nD τ sig := (SparseCore.T d).loc main_v3
abbrev nLoc (d : Dev nD) : Loc nD τ sig := (SparseCore.T d).loc main_v1
abbrev oLoc (d : Dev nD) : Loc nD τ sig := (SparseCore.T d).loc main_v4

/-- The whole output: at flat position `p` (batch `p / 12288`, coordinate row `p / 4096`, neighbour `p % 4096`) the
    coordinate of the point the neighbour number names, minus the centre's. -/
def outF (x : Vec F S196608 .f32) (c : Vec F S6144 .f32) (n : Vec F S65536 .i32) : Vec F S196608 .f32 := fun p =>
  FloatOps.subf
    (x (at1 (n := 196608) (by decide) ((p 0).val / 4096 * 4096
      + (n (at1 (n := 65536) (by decide) ((p 0).val / 12288 * 4096 + (p 0).val % 4096))).toNat % 4096)))
    (c (at1 (n := 6144) (by decide) ((p 0).val / 4096 * 128 + (p 0).val % 128)))

section Tile

variable (d : Dev nD) (i : grid0.Coords)

theorem x_read (r : Fin 3) (x : Buf (Elt F) (xLoc d)) (y : S4096.Idx) :
    (xSl i xV r).view.read (Elt F) x y = x (at1 (n := 196608) (by decide) (((i 1).val * 3 + r.val) * 4096 + (y 0).val)) := by
  show x _ = x _
  congr 1
  funext a; fin_cases a
  refine Fin.ext ?_
  have hy : (y 0).val < 4096 := (y 0).isLt
  have h1 := sub_lt i
  show k0_off1 i (BitVec.ofNat 32 r.val) 0 + 1 * (y 0).val = _ % 196608
  rw [off1_eq]; omega

theorem c_read (r : Fin 3) (c : Buf (Elt F) (cLoc d)) (y : S128.Idx) :
    (cSl i cV r).view.read (Elt F) c y = c (at1 (n := 6144) (by decide) (((i 1).val * 3 + r.val) * 128 + (y 0).val)) := by
  show c _ = c _
  congr 1
  funext a; fin_cases a
  refine Fin.ext ?_
  have hy : (y 0).val < 128 := (y 0).isLt
  have h1 := sub_lt i
  show k0_off2 i (BitVec.ofNat 32 r.val) 0 + 1 * (y 0).val = _ % 6144
  rw [off2_eq]; omega

theorem n_read (n : Buf (Elt F) (nLoc d)) (y : S2048.Idx) :
    (iSl i nV).view.read (Elt F) n y = n (at1 (n := 65536) (by decide) ((i 1).val * 4096 + (i 0).val * 2048 + (y 0).val)) := by
  show n _ = n _
  congr 1
  funext a; fin_cases a
  refine Fin.ext ?_
  have hy : (y 0).val < 2048 := (y 0).isLt
  have h1 := sub_lt i
  have h0 := core_lt i
  show k0_off3 i 0 + 1 * (y 0).val = _ % 65536
  rw [off3_eq]; omega

/-- The positions of the output the tile writes for coordinate `r`. -/
abbrev oSet (r : Fin 3) : Finset S196608.Idx := (oSl i oV r).view.set

theorem mem_oSet (r : Fin 3) (p : S196608.Idx) :
    p ∈ oSet i r ↔ ((i 1).val * 3 + r.val) * 4096 + (i 0).val * 2048 ≤ (p 0).val ∧ (p 0).val < ((i 1).val * 3 + r.val) * 4096 + (i 0).val * 2048 + 2048 := by
  have e : oSet i r = (Rect.unit (s := S196608) (k0_off4 i (BitVec.ofNat 32 r.val)) S2048.size (k0_off4_inb i r)).set := by
    show ((View.whole (main_v4_scv : Ref sig .scVector)).slice _).set = _
    rw [View.set_slice]; exact Finset.map_refl
  rw [e, Rect.mem_set_unit]
  rw [show (∀ a : Fin 1, k0_off4 i (BitVec.ofNat 32 r.val) a ≤ (p a).val ∧ (p a).val < k0_off4 i (BitVec.ofNat 32 r.val) a + S2048.size a)
    ↔ (k0_off4 i (BitVec.ofNat 32 r.val) 0 ≤ (p 0).val ∧ (p 0).val < k0_off4 i (BitVec.ofNat 32 r.val) 0 + 2048) from
      ⟨fun h => h 0, fun h a => by fin_cases a; exact h⟩, off4_eq]

/-- What the tile leaves in a slice is the whole output's there. -/
theorem out_read (x : Buf (Elt F) (xLoc d)) (c : Buf (Elt F) (cLoc d)) (n : Buf (Elt F) (nLoc d)) (r : Fin 3) :
    (oSl i oV r).view.read (Elt F) (outF (F := F) x c n) = T1 ((xSl i xV r).view.read (Elt F) x) ((cSl i cV r).view.read (Elt F) c) ((iSl i nV).view.read (Elt F) n) := by
  funext y
  have hy : (y 0).val < 2048 := (y 0).isLt
  have h1 := sub_lt i
  have h0 := core_lt i
  have hr := r.isLt
  have ho : ((oSl i oV r).view.emb y 0).val = ((i 1).val * 3 + r.val) * 4096 + (i 0).val * 2048 + (y 0).val := by
    show k0_off4 i (BitVec.ofNat 32 r.val) 0 + 1 * (y 0).val = _
    rw [off4_eq]; omega
  show outF (F := F) x c n ((oSl i oV r).view.emb y) = _
  unfold T1 outF
  rw [x_read (F := F) d i r x, c_read (F := F) d i r c, n_read (F := F) d i n, ho]
  have e1 : (((i 1).val * 3 + r.val) * 4096 + (i 0).val * 2048 + (y 0).val) / 4096 = (i 1).val * 3 + r.val := by omega
  have e2 : (((i 1).val * 3 + r.val) * 4096 + (i 0).val * 2048 + (y 0).val) / 12288 = (i 1).val := by omega
  have e3 : (((i 1).val * 3 + r.val) * 4096 + (i 0).val * 2048 + (y 0).val) % 4096 = (i 0).val * 2048 + (y 0).val := by omega
  have e4 : (((i 1).val * 3 + r.val) * 4096 + (i 0).val * 2048 + (y 0).val) % 128 = (y 0).val % 128 := by omega
  rw [e1, e2, e3, e4]
  simp only [at1_val, Nat.add_assoc]

/-- The tile's slice of the output holding the output. -/
abbrev oPts (r : Fin 3) (f : Buf (Elt F) (oLoc d)) : sProp 𝕄 := oLoc d ↦[oSet i r]{fullShare} f

theorem hasOut_out (x : Buf (Elt F) (xLoc d)) (c : Buf (Elt F) (cLoc d)) (n : Buf (Elt F) (nLoc d)) (r : Fin 3) :
    (hasOut d i (oSl i oV r) (T1 ((xSl i xV r).view.read (Elt F) x) ((cSl i cV r).view.read (Elt F) c) ((iSl i nV).view.read (Elt F) n)) : sProp 𝕄)
      ⊢ oPts d i r (outF (F := F) x c n) := by
  unfold hasOut
  iintro ⟨%f, %hf, H⟩
  have e : (oLoc d ↦[oSet i r]{fullShare} f : sProp 𝕄) = oPts d i r (outF (F := F) x c n) := pointsTo_congr fun p hp => by
    obtain ⟨y, -, rfl⟩ := Finset.mem_map.mp hp
    exact congrFun (hf.trans (out_read d i x c n r).symm) y
  iapply (Entails.of_eq e) $$ H

/-- A tile's part of the launch's arrays at the start: its read shares, and its slices of the output. -/
def goP (q : PosShare TreeShare) (x : Buf (Elt F) (xLoc d)) (c : Buf (Elt F) (cLoc d)) (n : Buf (Elt F) (nLoc d)) (o : Buf (Elt F) (oLoc d)) : sProp 𝕄 :=
  iprop(((xLoc d ↦{q} x) ∗ (cLoc d ↦{q} c) ∗ (nLoc d ↦{q} n)) ∗ (oPts d i 0 o ∗ oPts d i 1 o ∗ oPts d i 2 o))

theorem pre_of_go (q : PosShare TreeShare) (x : Buf (Elt F) (xLoc d)) (c : Buf (Elt F) (cLoc d)) (n : Buf (Elt F) (nLoc d)) (o : Buf (Elt F) (oLoc d)) :
    (goP d i q x c n o : sProp 𝕄) ⊢ pre d i xV cV nV oV q q q x c n := by
  unfold goP pre anyOut
  iintro ⟨H, H0, H1, H2⟩
  isplitl [H]; · iexact H
  isplitl [H0]; · iexists o; iexact H0
  isplitl [H1]; · iexists o; iexact H1
  iexists o; iexact H2

theorem go_of_post (q : PosShare TreeShare) (x : Buf (Elt F) (xLoc d)) (c : Buf (Elt F) (cLoc d)) (n : Buf (Elt F) (nLoc d)) :
    (post d i xV cV nV oV q q q x c n : sProp 𝕄) ⊢ goP d i q x c n (outF (F := F) x c n) := by
  unfold goP post
  iintro ⟨H, H0, H1, H2⟩
  isplitl [H]; · iexact H
  isplitl [H0]; · iapply hasOut_out d i x c n 0 $$ H0
  isplitl [H1]; · iapply hasOut_out d i x c n 1 $$ H1
  iapply hasOut_out d i x c n 2 $$ H2

end Tile

end Cert.Proof.Gather
-- ==== Proof.Launch.lean ====
/-
  The launch: a tile's obligation from the processor's own buffers and semaphores, what each SparseCore and tile is
  handed, the program around the call, and the run of the whole.
-/
module

public import proofs.«01_k».proof.Proof.Flat

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev ΛP : Labels := Pipeline.Sig Λ₀ (Fin 0) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
instance EH_landsIn : (EH : Emb UH 𝕄).LandsIn (upEmb : UEmb _ 𝕄) := by unfold EH; infer_instance

/-! ## A tile's own buffers and semaphores -/

section Own

variable (d : Dev nD) (i : grid0.Coords)

abbrev pr (i : grid0.Coords) : Proc τ := .scVector ((i 0).castLE hcore0) ((i 1).castLE hsub0)

theorem mem_sems (s : DmaSem sig) (h : (SemLoc.dma s : SemLoc sig).isScoped .scVector = true) : ((thr d i, .dma s) : GSem nD τ sig) ∈ ownCells (thr d i) :=
  mem_ownCells.mpr ⟨rfl, h⟩
theorem sem_ne {a b : SemLoc sig} (h : a ≠ b) : ((thr d i, a) : GSem nD τ sig) ≠ (thr d i, b) := fun e => h (Prod.mk.inj e).2
theorem mem_bufs (b : Ref sig .scVector) (h : ((pr i).devRef b).owner = .proc (pr i)) : (pr i).devRef b ∈ ownRefs (τ := τ) (pr i) :=
  SparseCore.Cfg.mem_ownRefs_of_owner (p := pr i) (b := (pr i).devRef b) h
theorem buf_ne {a b : Ref sig .scVector} (h : a ≠ b) : (pr i).devRef a ≠ (pr i).devRef b := fun e => absurd (Proc.devRef_injective _ e) h

/-- The kernel's ten semaphores, and the tile's others. -/
theorem ownSems0_V :
    (ownSems0 (thr d i) : sProp 𝕄)
      = iprop(semVal (thr d i, .dma cc0_scoped0.sem) 0 ∗ semVal (thr d i, .dma cc0_scoped1.sem) 0 ∗ semVal (thr d i, .dma cc0_scoped2.sem) 0 ∗ semVal (thr d i, .dma cc0_scoped3.sem) 0 ∗ semVal (thr d i, .dma cc0_scoped4.sem) 0 ∗ semVal (thr d i, .dma cc0_scoped5.sem) 0 ∗ semVal (thr d i, .dma cc0_scoped6.sem) 0 ∗ semVal (thr d i, .dma cc0_scoped7.sem) 0 ∗ semVal (thr d i, .dma cc0_scoped8.sem) 0 ∗ semVal (thr d i, .dma cc0_scoped9.sem) 0
          ∗ bigSep (((((((((((ownCells (thr d i)).erase (thr d i, .dma cc0_scoped0.sem)).erase (thr d i, .dma cc0_scoped1.sem)).erase (thr d i, .dma cc0_scoped2.sem)).erase (thr d i, .dma cc0_scoped3.sem)).erase (thr d i, .dma cc0_scoped4.sem)).erase (thr d i, .dma cc0_scoped5.sem)).erase (thr d i, .dma cc0_scoped6.sem)).erase (thr d i, .dma cc0_scoped7.sem)).erase (thr d i, .dma cc0_scoped8.sem)).erase (thr d i, .dma cc0_scoped9.sem)) fun g => semVal g 0) := by
  unfold SparseCore.Cfg.ownSems0
  rw [SparseCore.bigSep_erase' (mem_sems d i cc0_scoped0.sem (by decide)),
    SparseCore.bigSep_erase' (Finset.mem_erase.mpr ⟨sem_ne d i (show (SemLoc.dma cc0_scoped1.sem : SemLoc sig) ≠ .dma cc0_scoped0.sem by decide), mem_sems d i cc0_scoped1.sem (by decide)⟩),
    SparseCore.bigSep_erase' (Finset.mem_erase.mpr ⟨sem_ne d i (show (SemLoc.dma cc0_scoped2.sem : SemLoc sig) ≠ .dma cc0_scoped1.sem by decide), Finset.mem_erase.mpr ⟨sem_ne d i (show (SemLoc.dma cc0_scoped2.sem : SemLoc sig) ≠ .dma cc0_scoped0.sem by decide), mem_sems d i cc0_scoped2.sem (by decide)⟩⟩),
    SparseCore.bigSep_erase' (Finset.mem_erase.mpr ⟨sem_ne d i (show (SemLoc.dma cc0_scoped3.sem : SemLoc sig) ≠ .dma cc0_scoped2.sem by decide), Finset.mem_erase.mpr ⟨sem_ne d i (show (SemLoc.dma cc0_scoped3.sem : SemLoc sig) ≠ .dma cc0_scoped1.sem by decide), Finset.mem_erase.mpr ⟨sem_ne d i (show (SemLoc.dma cc0_scoped3.sem : SemLoc sig) ≠ .dma cc0_scoped0.sem by decide), mem_sems d i cc0_scoped3.sem (by decide)⟩⟩⟩),
    SparseCore.bigSep_erase' (Finset.mem_erase.mpr ⟨sem_ne d i (show (SemLoc.dma cc0_scoped4.sem : SemLoc sig) ≠ .dma cc0_scoped3.sem by decide), Finset.mem_erase.mpr ⟨sem_ne d i (show (SemLoc.dma cc0_scoped4.sem : SemLoc sig) ≠ .dma cc0_scoped2.sem by decide), Finset.mem_erase.mpr ⟨sem_ne d i (show (SemLoc.dma cc0_scoped4.sem : SemLoc sig) ≠ .dma cc0_scoped1.sem by decide), Finset.mem_erase.mpr ⟨sem_ne d i (show (SemLoc.dma cc0_scoped4.sem : SemLoc sig) ≠ .dma cc0_scoped0.sem by decide), mem_sems d i cc0_scoped4.sem (by decide)⟩⟩⟩⟩),
    SparseCore.bigSep_erase' (Finset.mem_erase.mpr ⟨sem_ne d i (show (SemLoc.dma cc0_scoped5.sem : SemLoc sig) ≠ .dma cc0_scoped4.sem by decide), Finset.mem_erase.mpr ⟨sem_ne d i (show (SemLoc.dma cc0_scoped5.sem : SemLoc sig) ≠ .dma cc0_scoped3.sem by decide), Finset.mem_erase.mpr ⟨sem_ne d i (show (SemLoc.dma cc0_scoped5.sem : SemLoc sig) ≠ .dma cc0_scoped2.sem by decide), Finset.mem_erase.mpr ⟨sem_ne d i (show (SemLoc.dma cc0_scoped5.sem : SemLoc sig) ≠ .dma cc0_scoped1.sem by decide), Finset.mem_erase.mpr ⟨sem_ne d i (show (SemLoc.dma cc0_scoped5.sem : SemLoc sig) ≠ .dma cc0_scoped0.sem by decide), mem_sems d i cc0_scoped5.sem (by decide)⟩⟩⟩⟩⟩),
    SparseCore.bigSep_erase' (Finset.mem_erase.mpr ⟨sem_ne d i (show (SemLoc.dma cc0_scoped6.sem : SemLoc sig) ≠ .dma cc0_scoped5.sem by decide), Finset.mem_erase.mpr ⟨sem_ne d i (show (SemLoc.dma cc0_scoped6.sem : SemLoc sig) ≠ .dma cc0_scoped4.sem by decide), Finset.mem_erase.mpr ⟨sem_ne d i (show (SemLoc.dma cc0_scoped6.sem : SemLoc sig) ≠ .dma cc0_scoped3.sem by decide), Finset.mem_erase.mpr ⟨sem_ne d i (show (SemLoc.dma cc0_scoped6.sem : SemLoc sig) ≠ .dma cc0_scoped2.sem by decide), Finset.mem_erase.mpr ⟨sem_ne d i (show (SemLoc.dma cc0_scoped6.sem : SemLoc sig) ≠ .dma cc0_scoped1.sem by decide), Finset.mem_erase.mpr ⟨sem_ne d i (show (SemLoc.dma cc0_scoped6.sem : SemLoc sig) ≠ .dma cc0_scoped0.sem by decide), mem_sems d i cc0_scoped6.sem (by decide)⟩⟩⟩⟩⟩⟩),
    SparseCore.bigSep_erase' (Finset.mem_erase.mpr ⟨sem_ne d i (show (SemLoc.dma cc0_scoped7.sem : SemLoc sig) ≠ .dma cc0_scoped6.sem by decide), Finset.mem_erase.mpr ⟨sem_ne d i (show (SemLoc.dma cc0_scoped7.sem : SemLoc sig) ≠ .dma cc0_scoped5.sem by decide), Finset.mem_erase.mpr ⟨sem_ne d i (show (SemLoc.dma cc0_scoped7.sem : SemLoc sig) ≠ .dma cc0_scoped4.sem by decide), Finset.mem_erase.mpr ⟨sem_ne d i (show (SemLoc.dma cc0_scoped7.sem : SemLoc sig) ≠ .dma cc0_scoped3.sem by decide), Finset.mem_erase.mpr ⟨sem_ne d i (show (SemLoc.dma cc0_scoped7.sem : SemLoc sig) ≠ .dma cc0_scoped2.sem by decide), Finset.mem_erase.mpr ⟨sem_ne d i (show (SemLoc.dma cc0_scoped7.sem : SemLoc sig) ≠ .dma cc0_scoped1.sem by decide), Finset.mem_erase.mpr ⟨sem_ne d i (show (SemLoc.dma cc0_scoped7.sem : SemLoc sig) ≠ .dma cc0_scoped0.sem by decide), mem_sems d i cc0_scoped7.sem (by decide)⟩⟩⟩⟩⟩⟩⟩),
    SparseCore.bigSep_erase' (Finset.mem_erase.mpr ⟨sem_ne d i (show (SemLoc.dma cc0_scoped8.sem : SemLoc sig) ≠ .dma cc0_scoped7.sem by decide), Finset.mem_erase.mpr ⟨sem_ne d i (show (SemLoc.dma cc0_scoped8.sem : SemLoc sig) ≠ .dma cc0_scoped6.sem by decide), Finset.mem_erase.mpr ⟨sem_ne d i (show (SemLoc.dma cc0_scoped8.sem : SemLoc sig) ≠ .dma cc0_scoped5.sem by decide), Finset.mem_erase.mpr ⟨sem_ne d i (show (SemLoc.dma cc0_scoped8.sem : SemLoc sig) ≠ .dma cc0_scoped4.sem by decide), Finset.mem_erase.mpr ⟨sem_ne d i (show (SemLoc.dma cc0_scoped8.sem : SemLoc sig) ≠ .dma cc0_scoped3.sem by decide), Finset.mem_erase.mpr ⟨sem_ne d i (show (SemLoc.dma cc0_scoped8.sem : SemLoc sig) ≠ .dma cc0_scoped2.sem by decide), Finset.mem_erase.mpr ⟨sem_ne d i (show (SemLoc.dma cc0_scoped8.sem : SemLoc sig) ≠ .dma cc0_scoped1.sem by decide), Finset.mem_erase.mpr ⟨sem_ne d i (show (SemLoc.dma cc0_scoped8.sem : SemLoc sig) ≠ .dma cc0_scoped0.sem by decide), mem_sems d i cc0_scoped8.sem (by decide)⟩⟩⟩⟩⟩⟩⟩⟩),
    SparseCore.bigSep_erase' (Finset.mem_erase.mpr ⟨sem_ne d i (show (SemLoc.dma cc0_scoped9.sem : SemLoc sig) ≠ .dma cc0_scoped8.sem by decide), Finset.mem_erase.mpr ⟨sem_ne d i (show (SemLoc.dma cc0_scoped9.sem : SemLoc sig) ≠ .dma cc0_scoped7.sem by decide), Finset.mem_erase.mpr ⟨sem_ne d i (show (SemLoc.dma cc0_scoped9.sem : SemLoc sig) ≠ .dma cc0_scoped6.sem by decide), Finset.mem_erase.mpr ⟨sem_ne d i (show (SemLoc.dma cc0_scoped9.sem : SemLoc sig) ≠ .dma cc0_scoped5.sem by decide), Finset.mem_erase.mpr ⟨sem_ne d i (show (SemLoc.dma cc0_scoped9.sem : SemLoc sig) ≠ .dma cc0_scoped4.sem by decide), Finset.mem_erase.mpr ⟨sem_ne d i (show (SemLoc.dma cc0_scoped9.sem : SemLoc sig) ≠ .dma cc0_scoped3.sem by decide), Finset.mem_erase.mpr ⟨sem_ne d i (show (SemLoc.dma cc0_scoped9.sem : SemLoc sig) ≠ .dma cc0_scoped2.sem by decide), Finset.mem_erase.mpr ⟨sem_ne d i (show (SemLoc.dma cc0_scoped9.sem : SemLoc sig) ≠ .dma cc0_scoped1.sem by decide), Finset.mem_erase.mpr ⟨sem_ne d i (show (SemLoc.dma cc0_scoped9.sem : SemLoc sig) ≠ .dma cc0_scoped0.sem by decide), mem_sems d i cc0_scoped9.sem (by decide)⟩⟩⟩⟩⟩⟩⟩⟩⟩)]

/-- The kernel's ten scratch rows, and the tile's other buffers. -/
theorem ownBufs_V :
    (ownBufs (thr d i) : sProp 𝕄)
      = iprop((∃ f, (thr d i).loc cc0_scratch0 ↦{fullShare} f) ∗ (∃ f, (thr d i).loc cc0_scratch1 ↦{fullShare} f) ∗ (∃ f, (thr d i).loc cc0_scratch2 ↦{fullShare} f) ∗ (∃ f, (thr d i).loc cc0_scratch3 ↦{fullShare} f) ∗ (∃ f, (thr d i).loc cc0_scratch4 ↦{fullShare} f) ∗ (∃ f, (thr d i).loc cc0_scratch5 ↦{fullShare} f) ∗ (∃ f, (thr d i).loc cc0_scratch6 ↦{fullShare} f) ∗ (∃ f, (thr d i).loc cc0_scratch7 ↦{fullShare} f) ∗ (∃ f, (thr d i).loc cc0_scratch8 ↦{fullShare} f) ∗ (∃ f, (thr d i).loc cc0_scratch9 ↦{fullShare} f)
          ∗ bigSep (((((((((((ownRefs (τ := τ) (pr i)).erase ((pr i).devRef cc0_scratch0)).erase ((pr i).devRef cc0_scratch1)).erase ((pr i).devRef cc0_scratch2)).erase ((pr i).devRef cc0_scratch3)).erase ((pr i).devRef cc0_scratch4)).erase ((pr i).devRef cc0_scratch5)).erase ((pr i).devRef cc0_scratch6)).erase ((pr i).devRef cc0_scratch7)).erase ((pr i).devRef cc0_scratch8)).erase ((pr i).devRef cc0_scratch9)) fun b => iprop(∃ f, ((d, b) : Loc nD τ sig) ↦{fullShare} f)) := by
  unfold SparseCore.Cfg.ownBufs
  refine (SparseCore.bigSep_erase' (mem_bufs i cc0_scratch0 rfl)).trans ?_
  rw [SparseCore.bigSep_erase' (Finset.mem_erase.mpr ⟨buf_ne i (show (cc0_scratch1 : Ref sig .scVector) ≠ cc0_scratch0 by decide), mem_bufs i cc0_scratch1 rfl⟩),
    SparseCore.bigSep_erase' (Finset.mem_erase.mpr ⟨buf_ne i (show (cc0_scratch2 : Ref sig .scVector) ≠ cc0_scratch1 by decide), Finset.mem_erase.mpr ⟨buf_ne i (show (cc0_scratch2 : Ref sig .scVector) ≠ cc0_scratch0 by decide), mem_bufs i cc0_scratch2 rfl⟩⟩),
    SparseCore.bigSep_erase' (Finset.mem_erase.mpr ⟨buf_ne i (show (cc0_scratch3 : Ref sig .scVector) ≠ cc0_scratch2 by decide), Finset.mem_erase.mpr ⟨buf_ne i (show (cc0_scratch3 : Ref sig .scVector) ≠ cc0_scratch1 by decide), Finset.mem_erase.mpr ⟨buf_ne i (show (cc0_scratch3 : Ref sig .scVector) ≠ cc0_scratch0 by decide), mem_bufs i cc0_scratch3 rfl⟩⟩⟩),
    SparseCore.bigSep_erase' (Finset.mem_erase.mpr ⟨buf_ne i (show (cc0_scratch4 : Ref sig .scVector) ≠ cc0_scratch3 by decide), Finset.mem_erase.mpr ⟨buf_ne i (show (cc0_scratch4 : Ref sig .scVector) ≠ cc0_scratch2 by decide), Finset.mem_erase.mpr ⟨buf_ne i (show (cc0_scratch4 : Ref sig .scVector) ≠ cc0_scratch1 by decide), Finset.mem_erase.mpr ⟨buf_ne i (show (cc0_scratch4 : Ref sig .scVector) ≠ cc0_scratch0 by decide), mem_bufs i cc0_scratch4 rfl⟩⟩⟩⟩),
    SparseCore.bigSep_erase' (Finset.mem_erase.mpr ⟨buf_ne i (show (cc0_scratch5 : Ref sig .scVector) ≠ cc0_scratch4 by decide), Finset.mem_erase.mpr ⟨buf_ne i (show (cc0_scratch5 : Ref sig .scVector) ≠ cc0_scratch3 by decide), Finset.mem_erase.mpr ⟨buf_ne i (show (cc0_scratch5 : Ref sig .scVector) ≠ cc0_scratch2 by decide), Finset.mem_erase.mpr ⟨buf_ne i (show (cc0_scratch5 : Ref sig .scVector) ≠ cc0_scratch1 by decide), Finset.mem_erase.mpr ⟨buf_ne i (show (cc0_scratch5 : Ref sig .scVector) ≠ cc0_scratch0 by decide), mem_bufs i cc0_scratch5 rfl⟩⟩⟩⟩⟩),
    SparseCore.bigSep_erase' (Finset.mem_erase.mpr ⟨buf_ne i (show (cc0_scratch6 : Ref sig .scVector) ≠ cc0_scratch5 by decide), Finset.mem_erase.mpr ⟨buf_ne i (show (cc0_scratch6 : Ref sig .scVector) ≠ cc0_scratch4 by decide), Finset.mem_erase.mpr ⟨buf_ne i (show (cc0_scratch6 : Ref sig .scVector) ≠ cc0_scratch3 by decide), Finset.mem_erase.mpr ⟨buf_ne i (show (cc0_scratch6 : Ref sig .scVector) ≠ cc0_scratch2 by decide), Finset.mem_erase.mpr ⟨buf_ne i (show (cc0_scratch6 : Ref sig .scVector) ≠ cc0_scratch1 by decide), Finset.mem_erase.mpr ⟨buf_ne i (show (cc0_scratch6 : Ref sig .scVector) ≠ cc0_scratch0 by decide), mem_bufs i cc0_scratch6 rfl⟩⟩⟩⟩⟩⟩),
    SparseCore.bigSep_erase' (Finset.mem_erase.mpr ⟨buf_ne i (show (cc0_scratch7 : Ref sig .scVector) ≠ cc0_scratch6 by decide), Finset.mem_erase.mpr ⟨buf_ne i (show (cc0_scratch7 : Ref sig .scVector) ≠ cc0_scratch5 by decide), Finset.mem_erase.mpr ⟨buf_ne i (show (cc0_scratch7 : Ref sig .scVector) ≠ cc0_scratch4 by decide), Finset.mem_erase.mpr ⟨buf_ne i (show (cc0_scratch7 : Ref sig .scVector) ≠ cc0_scratch3 by decide), Finset.mem_erase.mpr ⟨buf_ne i (show (cc0_scratch7 : Ref sig .scVector) ≠ cc0_scratch2 by decide), Finset.mem_erase.mpr ⟨buf_ne i (show (cc0_scratch7 : Ref sig .scVector) ≠ cc0_scratch1 by decide), Finset.mem_erase.mpr ⟨buf_ne i (show (cc0_scratch7 : Ref sig .scVector) ≠ cc0_scratch0 by decide), mem_bufs i cc0_scratch7 rfl⟩⟩⟩⟩⟩⟩⟩),
    SparseCore.bigSep_erase' (Finset.mem_erase.mpr ⟨buf_ne i (show (cc0_scratch8 : Ref sig .scVector) ≠ cc0_scratch7 by decide), Finset.mem_erase.mpr ⟨buf_ne i (show (cc0_scratch8 : Ref sig .scVector) ≠ cc0_scratch6 by decide), Finset.mem_erase.mpr ⟨buf_ne i (show (cc0_scratch8 : Ref sig .scVector) ≠ cc0_scratch5 by decide), Finset.mem_erase.mpr ⟨buf_ne i (show (cc0_scratch8 : Ref sig .scVector) ≠ cc0_scratch4 by decide), Finset.mem_erase.mpr ⟨buf_ne i (show (cc0_scratch8 : Ref sig .scVector) ≠ cc0_scratch3 by decide), Finset.mem_erase.mpr ⟨buf_ne i (show (cc0_scratch8 : Ref sig .scVector) ≠ cc0_scratch2 by decide), Finset.mem_erase.mpr ⟨buf_ne i (show (cc0_scratch8 : Ref sig .scVector) ≠ cc0_scratch1 by decide), Finset.mem_erase.mpr ⟨buf_ne i (show (cc0_scratch8 : Ref sig .scVector) ≠ cc0_scratch0 by decide), mem_bufs i cc0_scratch8 rfl⟩⟩⟩⟩⟩⟩⟩⟩),
    SparseCore.bigSep_erase' (Finset.mem_erase.mpr ⟨buf_ne i (show (cc0_scratch9 : Ref sig .scVector) ≠ cc0_scratch8 by decide), Finset.mem_erase.mpr ⟨buf_ne i (show (cc0_scratch9 : Ref sig .scVector) ≠ cc0_scratch7 by decide), Finset.mem_erase.mpr ⟨buf_ne i (show (cc0_scratch9 : Ref sig .scVector) ≠ cc0_scratch6 by decide), Finset.mem_erase.mpr ⟨buf_ne i (show (cc0_scratch9 : Ref sig .scVector) ≠ cc0_scratch5 by decide), Finset.mem_erase.mpr ⟨buf_ne i (show (cc0_scratch9 : Ref sig .scVector) ≠ cc0_scratch4 by decide), Finset.mem_erase.mpr ⟨buf_ne i (show (cc0_scratch9 : Ref sig .scVector) ≠ cc0_scratch3 by decide), Finset.mem_erase.mpr ⟨buf_ne i (show (cc0_scratch9 : Ref sig .scVector) ≠ cc0_scratch2 by decide), Finset.mem_erase.mpr ⟨buf_ne i (show (cc0_scratch9 : Ref sig .scVector) ≠ cc0_scratch1 by decide), Finset.mem_erase.mpr ⟨buf_ne i (show (cc0_scratch9 : Ref sig .scVector) ≠ cc0_scratch0 by decide), mem_bufs i cc0_scratch9 rfl⟩⟩⟩⟩⟩⟩⟩⟩⟩)]

theorem tile_body (q : PosShare TreeShare) (x : Buf (Elt F) (xLoc d)) (c : Buf (Elt F) (cLoc d)) (n : Buf (Elt F) (nLoc d)) (o : Buf (Elt F) (oLoc d))
    (hn : ∀ j : S65536.Idx, BitVec.toNat (w := 32) (n j) < 4096) (hF : (K (F := F)).Facts) (O : CellTallies nD τ sig (HIx 1)) (W : Waits sig (HIx 1)) (hO : ∀ g, O g none = 0) :
    iprop(levAts (K (F := F)).L (K (F := F)).lev ∗ emp ∗ goP d i q x c n o ∗ scopedBufs (thr d i) ∗ scopedSems0 (thr d i) ∗ owes (thr d i) O W)
    ⊢ wp frame (wpE (defs₀ (F := F)) 𝒱₀ (thr d i) none) Set.univ
        (cc0__sc_gather_body i xV (Memref.isWhole_whole _) cV (Memref.isWhole_whole _) nV (Memref.isWhole_whole _) oV (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8 cc0_scoped9 : PR F i PUnit)
        (fun _ => iprop(goP d i q x c n (outF (F := F) x c n) ∗ scopedBufs (thr d i) ∗ scopedSems0 (thr d i)
          ∗ ∃ W', ⌜∀ p ∈ W', p ∈ W ∨ p.2 = none⌝ ∗ owes (thr d i) O W')) := by
  rw [(K (F := F)).scopedBufs_V hF d ((i 0).castLE hcore0) ((i 1).castLE hsub0), SparseCore.Cfg.scopedSems0_V (Val := Elt F) d ((i 0).castLE hcore0) ((i 1).castLE hsub0),
    ownSems0_V, ownBufs_V]
  have hI : inRange ((iSl i nV).view.read (Elt F) n) := fun j => by rw [n_read (F := F) d i n j]; exact hn _
  iintro ⟨Hlev, -, Hgo, ⟨B0, B1, B2, B3, B4, B5, B6, B7, B8, B9, HB⟩, ⟨S0, S1, S2, S3, S4, S5, S6, S7, S8, S9, HS⟩, HO⟩
  ihave Hmw := ((K (F := F)).mayWaits_none (thr := thr d i) hO) $$ Hlev
  ihave Hpre := (pre_of_go d i q x c n o) $$ Hgo
  ihave Hwp := (run_wp d i xV (Memref.isWhole_whole _) cV (Memref.isWhole_whole _) nV (Memref.isWhole_whole _) oV (Memref.isWhole_whole _)
      (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8 cc0_scoped9 q q q x c n hI O W)
      $$ [Hpre B0 B1 B2 B3 B4 B5 B6 B7 B8 B9 S0 S1 S2 S3 S4 S5 S6 S7 S8 S9 Hmw HO]
  · isplitl [Hpre]; · iexact Hpre
    isplitl [B0 B1 B2 B3 B4 B5 B6 B7 B8 B9]
    · unfold scratch any
      isplitl [B0]; · iexact B0
      isplitl [B1]; · iexact B1
      isplitl [B2]; · iexact B2
      isplitl [B3]; · iexact B3
      isplitl [B4]; · iexact B4
      isplitl [B5]; · iexact B5
      isplitl [B6]; · iexact B6
      isplitl [B7]; · iexact B7
      isplitl [B8]; · iexact B8
      iexact B9
    isplitr [Hmw HO]
    · unfold semaphores
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    unfold owing
    isplitl [Hmw]; · iexact Hmw
    iexists W
    isplitr; · ipureintro; exact fun p hp => .inl hp
    iexact HO
  iapply (wp_wand frame (wpE (defs₀ (F := F)) 𝒱₀ (thr d i) none) Set.univ) $$ Hwp
  iintro %u ⟨Hpost, Hscr, Hsem, How⟩
  unfold scratch any semaphores owing
  icases Hscr with ⟨B0, B1, B2, B3, B4, B5, B6, B7, B8, B9⟩
  icases Hsem with ⟨S0, S1, S2, S3, S4, S5, S6, S7, S8, S9⟩
  icases How with ⟨-, HO⟩
  isplitl [Hpost]; · iapply (go_of_post d i q x c n) $$ Hpost
  isplitl [B0 B1 B2 B3 B4 B5 B6 B7 B8 B9 HB]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    iexact HB
  isplitl [S0 S1 S2 S3 S4 S5 S6 S7 S8 S9 HS]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iexact HS
  iexact HO

end Own

end Cert.Proof.Gather
-- ==== Proof.Main.lean ====
/-
  What each SparseCore and tile is handed and hands back, the program around the call, and the run of the whole.
-/
module

public import proofs.«01_k».proof.Proof.Launch

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.StableHlo (held wp_hlo_within)
open Idealize.ShloMosaic.Transfers (shareTok shareDrop)
open Idealize.ShloMosaic.SparseCore.Cfg (tileRest)

/-! ## The arrays through the program -/

abbrev ra0 : DevRef τ sig := Proc.devRef .tc (main_arg0 : Ref sig .tc)
abbrev ra1 : DevRef τ sig := Proc.devRef .tc (main_arg1 : Ref sig .tc)
abbrev ra2 : DevRef τ sig := Proc.devRef .tc (main_arg2 : Ref sig .tc)
abbrev rv0 : DevRef τ sig := Proc.devRef .tc (main_v0 : Ref sig .tc)
abbrev rv1 : DevRef τ sig := Proc.devRef .tc (main_v1 : Ref sig .tc)
abbrev rv2 : DevRef τ sig := Proc.devRef .tc (main_v2 : Ref sig .tc)
abbrev rv3 : DevRef τ sig := Proc.devRef .tc (main_v3 : Ref sig .tc)
abbrev rv4 : DevRef τ sig := Proc.devRef .tc (main_v4 : Ref sig .tc)
abbrev rv5 : DevRef τ sig := Proc.devRef .tc (main_v5 : Ref sig .tc)

abbrev op0 : HloOp τ sig (Elt F) := StableHlo.unary main_arg0 main_v0 ((transpose S16x3x4096 [0, 2, 1] · transposes_S16x4096x3_S16x3x4096_0_2_1) : (⟨S16x4096x3, .f32⟩ : BufTy).Contents (Elt F) → (⟨S16x3x4096, .f32⟩ : BufTy).Contents (Elt F))
abbrev op1 : HloOp τ sig (Elt F) := StableHlo.reshape main_arg2 main_v1 (rfl : (.i32 : EltTy) = .i32) shapeCasts_S16x32x128_S65536
abbrev op2 : HloOp τ sig (Elt F) := StableHlo.reshape main_v0 main_v2 (rfl : (.f32 : EltTy) = .f32) shapeCasts_S16x3x4096_S196608
abbrev op3 : HloOp τ sig (Elt F) := StableHlo.reshape main_arg1 main_v3 (rfl : (.f32 : EltTy) = .f32) shapeCasts_S16x3x128_S6144
abbrev op5 : HloOp τ sig (Elt F) := StableHlo.reshape main_v4 main_v5 (rfl : (.f32 : EltTy) = .f32) shapeCasts_S196608_S16x3x4096

/-- The program's arrays. -/
abbrev S9 : Finset (DevRef τ sig) := {ra0, ra1, ra2, rv0, rv1, rv2, rv3, rv4, rv5}

variable (m : (ℓ : Loc nD τ sig) → Buf (Elt F) ℓ) (ρ : Dev nD → PrngReg)

theorem held_S9 (d : Dev nD) (W : Valuation τ sig (Elt F)) :
    (held (SparseCore.T d) S9 W : sProp 𝕄) = iprop(((SparseCore.T d).loc main_arg0 ↦{fullShare} W ra0) ∗ ((SparseCore.T d).loc main_arg1 ↦{fullShare} W ra1) ∗ ((SparseCore.T d).loc main_arg2 ↦{fullShare} W ra2) ∗ ((SparseCore.T d).loc main_v0 ↦{fullShare} W rv0) ∗ ((SparseCore.T d).loc main_v1 ↦{fullShare} W rv1) ∗ ((SparseCore.T d).loc main_v2 ↦{fullShare} W rv2) ∗ ((SparseCore.T d).loc main_v3 ↦{fullShare} W rv3) ∗ ((SparseCore.T d).loc main_v4 ↦{fullShare} W rv4) ∗ ((SparseCore.T d).loc main_v5 ↦{fullShare} W rv5)) := by
  unfold held S9
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop(((SparseCore.T d).loc main_arg0 ↦{fullShare} W main_arg0) ∗ ((SparseCore.T d).loc main_arg1 ↦{fullShare} W main_arg1) ∗ ((SparseCore.T d).loc main_arg2 ↦{fullShare} W main_arg2) ∗ ((SparseCore.T d).loc main_v0 ↦{fullShare} W main_v0) ∗ ((SparseCore.T d).loc main_v1 ↦{fullShare} W main_v1) ∗ ((SparseCore.T d).loc main_v2 ↦{fullShare} W main_v2) ∗ ((SparseCore.T d).loc main_v3 ↦{fullShare} W main_v3) ∗ ((SparseCore.T d).loc main_v4 ↦{fullShare} W main_v4) ∗ ((SparseCore.T d).loc main_v5 ↦{fullShare} W main_v5)) := by
  unfold unscopedBufs
  rw [show (Finset.univ.filter fun b : Ref sig .tc => ¬ b.isScoped) = {main_arg0, main_arg1, main_arg2, main_v0, main_v1, main_v2, main_v3, main_v4, main_v5} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch's valuation, and the one the call finds. -/
def V0 (d : Dev nD) : Valuation τ sig (Elt F) := fun b => m (d, b)
def V4 (d : Dev nD) : Valuation τ sig (Elt F) := op3.result (op2.result (op1.result (op0.result (V0 m d))))

theorem unscoped_held (d : Dev nD) : (unscopedBufs d (fun b => m ((SparseCore.T d).loc b)) : sProp 𝕄) = held (SparseCore.T d) S9 (V0 m d) := by
  rw [unscopedBufs_eq, held_S9]; rfl

abbrev xF (d : Dev nD) : Buf (Elt F) (xLoc d) := V4 m d rv2
abbrev cF (d : Dev nD) : Buf (Elt F) (cLoc d) := V4 m d rv3
abbrev nF (d : Dev nD) : Buf (Elt F) (nLoc d) := V4 m d rv1
abbrev oF (d : Dev nD) : Buf (Elt F) (oLoc d) := V4 m d rv4
/-- What the call leaves in the output. -/
abbrev gF (d : Dev nD) : Buf (Elt F) (oLoc d) := outF (F := F) (xF m d) (cF m d) (nF m d)
/-- After the call, and at the end. -/
def V5 (d : Dev nD) : Valuation τ sig (Elt F) := Function.update (V4 m d) rv4 (gF m d)
def V6 (d : Dev nD) : Valuation τ sig (Elt F) := op5.result (V5 m d)

/-! ## Dealing the arrays to the tiles -/

/-- The grid's point of SparseCore `c` and tile `s`. -/
def coordsV (c : Fin (grid0.bound 0)) (s : Fin (grid0.bound 1)) : grid0.Coords :=
  fun | 0 => c | 1 => s | ⟨_ + 2, h⟩ => absurd h (Nat.not_lt.2 (Nat.le_add_left _ _))
abbrev pt (c : Fin 2) (s : Fin 16) : grid0.Coords := coordsV c s

/-- A tile's share of an array all tiles read; what is left over when every tile has one. -/
abbrev tok (c : Fin 2) (s : Fin 16) : PosShare TreeShare := shareTok (shareTok fullShare 2 c) 16 s
def left (ℓ : Loc nD τ sig) (f : Buf (Elt F) ℓ) : sProp 𝕄 :=
  iprop((ℓ ↦{shareDrop fullShare 2} f) ∗ bigSep Finset.univ fun c : Fin 2 => (ℓ ↦{shareDrop (shareTok fullShare 2 c) 16} f))

theorem deal (ℓ : Loc nD τ sig) (f : Buf (Elt F) ℓ) :
    (ℓ ↦{fullShare} f : sProp 𝕄) ⊢ iprop(left ℓ f ∗ bigSep Finset.univ fun c : Fin 2 => bigSep Finset.univ fun s : Fin 16 => ℓ ↦{tok c s} f) := by
  iintro H
  ihave H := (Transfers.pointsTo_toks_split fullShare 2) $$ H
  icases H with ⟨Hd, H⟩
  have hm : (bigSep Finset.univ fun c : Fin 2 => (ℓ ↦{shareTok fullShare 2 c} f : sProp 𝕄))
      ⊢ iprop((bigSep Finset.univ fun c : Fin 2 => ℓ ↦{shareDrop (shareTok fullShare 2 c) 16} f) ∗ bigSep Finset.univ fun c : Fin 2 => bigSep Finset.univ fun s : Fin 16 => ℓ ↦{tok c s} f) :=
    (bigSep_mono fun c _ => Transfers.pointsTo_toks_split (shareTok fullShare 2 c) 16).trans (Entails.of_eq (bigSep_sep' _ _ _))
  ihave H := hm $$ H
  icases H with ⟨Hl, H⟩
  unfold left
  isplitr [H]
  · isplitl [Hd] <;> iassumption
  iexact H

theorem undeal (ℓ : Loc nD τ sig) (f : Buf (Elt F) ℓ) :
    iprop(left ℓ f ∗ bigSep Finset.univ fun c : Fin 2 => bigSep Finset.univ fun s : Fin 16 => ℓ ↦{tok c s} f) ⊢ (ℓ ↦{fullShare} f : sProp 𝕄) := by
  unfold left
  iintro ⟨⟨Hd, Hl⟩, H⟩
  iapply (Transfers.pointsTo_toks_join fullShare 2)
  isplitl [Hd]; · iexact Hd
  have hm : (bigSep Finset.univ fun c : Fin 2 => iprop((ℓ ↦{shareDrop (shareTok fullShare 2 c) 16} f) ∗ bigSep Finset.univ fun s : Fin 16 => ℓ ↦{tok c s} f))
      ⊢ (bigSep Finset.univ fun c : Fin 2 => (ℓ ↦{shareTok fullShare 2 c} f : sProp 𝕄)) :=
    bigSep_mono fun c _ => Transfers.pointsTo_toks_join (shareTok fullShare 2 c) 16
  iapply hm
  rw [bigSep_sep']
  isplitl [Hl] <;> iassumption

/-- The tiles' slices are disjoint, and they are all of the output. -/
abbrev pieces (t : Fin 2 × Fin 16 × Fin 3) : Finset S196608.Idx := oSet (pt t.1 t.2.1) t.2.2

theorem mem_pieces (t : Fin 2 × Fin 16 × Fin 3) (p : S196608.Idx) :
    p ∈ pieces t ↔ (t.2.1.val * 3 + t.2.2.val) * 4096 + t.1.val * 2048 ≤ (p 0).val ∧ (p 0).val < (t.2.1.val * 3 + t.2.2.val) * 4096 + t.1.val * 2048 + 2048 :=
  mem_oSet (pt t.1 t.2.1) t.2.2 p

theorem pieces_disjoint : ∀ t ∈ (Finset.univ : Finset (Fin 2 × Fin 16 × Fin 3)), ∀ t' ∈ (Finset.univ : Finset (Fin 2 × Fin 16 × Fin 3)), t ≠ t' → Disjoint (pieces t) (pieces t') := by
  rintro ⟨c, s, r⟩ - ⟨c', s', r'⟩ - hne
  refine Finset.disjoint_left.mpr fun p hp hp' => hne ?_
  rw [mem_pieces] at hp hp'
  dsimp only at hp hp'
  have := c.isLt; have := c'.isLt; have := r.isLt; have := r'.isLt
  have h1 : c = c' := Fin.ext (by omega)
  have h2 : s = s' := Fin.ext (by omega)
  have h3 : r = r' := Fin.ext (by omega)
  rw [h1, h2, h3]

theorem pieces_cover : (Finset.univ : Finset (Fin 2 × Fin 16 × Fin 3)).biUnion pieces = Finset.univ := by
  refine Finset.eq_univ_of_forall fun p => Finset.mem_biUnion.mpr ?_
  have hp : (p 0).val < 196608 := (p 0).isLt
  refine ⟨(⟨(p 0).val / 2048 % 2, by omega⟩, ⟨(p 0).val / 12288, by omega⟩, ⟨(p 0).val / 4096 % 3, by omega⟩), Finset.mem_univ _, ?_⟩
  rw [mem_pieces]
  dsimp only
  omega

theorem out_pieces (d : Dev nD) (f : Buf (Elt F) (oLoc d)) :
    (oLoc d ↦{fullShare} f : sProp 𝕄)
      = bigSep Finset.univ fun c : Fin 2 => bigSep Finset.univ fun s : Fin 16 => iprop(oPts d (pt c s) 0 f ∗ oPts d (pt c s) 1 f ∗ oPts d (pt c s) 2 f) := by
  have h : (oLoc d ↦{fullShare} f : sProp 𝕄) = oLoc d ↦[(Finset.univ : Finset (Fin 2 × Fin 16 × Fin 3)).biUnion pieces]{fullShare} f := by rw [pieces_cover]
  rw [h, pointsTo_biUnion _ _ pieces_disjoint, bigSep_univ_prod]
  refine bigSep_congr fun c _ => ?_
  rw [bigSep_univ_prod]
  refine bigSep_congr fun s _ => ?_
  rw [show (Finset.univ : Finset (Fin 3)) = {0, 1, 2} by decide, SparseCore.bigSep_insert' (by decide), SparseCore.bigSep_insert' (by decide), bigSep_singleton]

/-! ## What the handshakes carry -/

/-- What the tile of SparseCore `c` and index `s` is handed, and hands back. -/
def goT (d : Dev nD) (c : Fin 2) (s : Fin 16) (o : Buf (Elt F) (oLoc d)) : sProp 𝕄 := goP d (pt c s) (tok c s) (xF m d) (cF m d) (nF m d) o
def stC (d : Dev nD) (c : Fin 2) (o : Buf (Elt F) (oLoc d)) : sProp 𝕄 := bigSep Finset.univ fun s : Fin 16 => goT m d c s o

instance goT_storable (d : Dev nD) (c : Fin 2) (s : Fin 16) (o : Buf (Elt F) (oLoc d)) : BI.Storable (upEmb : UEmb _ 𝕄) (goT m d c s o) := by
  unfold goT goP; infer_instance
instance stC_storable (d : Dev nD) (c : Fin 2) (o : Buf (Elt F) (oLoc d)) : BI.Storable (upEmb : UEmb _ 𝕄) (stC m d c o) := by
  unfold stC; infer_instance

theorem nCore_zero : (K (F := F)).nCore 0 = 2 := rfl
theorem nSub_zero : (K (F := F)).nSub 0 = 16 := rfl

def P : (K (F := F)).Pay (nD := nD) (Val := Elt F) (Name := ℕ) (U := UU) where
  st := fun q d c => match q with | 0 => stC m d (Fin.cast nCore_zero c) (oF m d)
  dn := fun q d c => match q with | 0 => stC m d (Fin.cast nCore_zero c) (gF m d)
  go := fun q d c s => match q with | 0 => goT m d (Fin.cast nCore_zero c) (Fin.cast nSub_zero s) (oF m d)
  td := fun q d c s => match q with | 0 => goT m d (Fin.cast nCore_zero c) (Fin.cast nSub_zero s) (gF m d)
  x := fun _ _ => iprop(emp)

instance P_storable : (P (F := F) m).IsStorable where
  st q d c := match q with | 0 => stC_storable m d (Fin.cast nCore_zero c) (oF m d)
  dn q d c := match q with | 0 => stC_storable m d (Fin.cast nCore_zero c) (gF m d)
  go q d c s := match q with | 0 => goT_storable m d (Fin.cast nCore_zero c) (Fin.cast nSub_zero s) (oF m d)
  td q d c s := match q with | 0 => goT_storable m d (Fin.cast nCore_zero c) (Fin.cast nSub_zero s) (gF m d)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show stC m d (Fin.cast nCore_zero c) (oF m d) ⊢ |={Set.univ}=> iprop(
      (bigSep Finset.univ fun i : Fin ((K (F := F)).nSub 0) => goT m d (Fin.cast nCore_zero c) (Fin.cast nSub_zero i) (oF m d))
      ∗ ((bigSep Finset.univ fun i : Fin ((K (F := F)).nSub 0) => goT m d (Fin.cast nCore_zero c) (Fin.cast nSub_zero i) (gF m d))
          -∗ stC m d (Fin.cast nCore_zero c) (gF m d)))
  rw [bigSep_tasks (F := F) (fun s => goT m d (Fin.cast nCore_zero c) s (oF m d)), bigSep_tasks (F := F) (fun s => goT m d (Fin.cast nCore_zero c) s (gF m d))]
  unfold stC
  iintro H; imodintro
  isplitl [H]; · iexact H
  iintro H; iexact H

set_option maxRecDepth 100000 in
theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) cV (Memref.isWhole_whole _) nV (Memref.isWhole_whole _) oV (Memref.isWhole_whole _)
          (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) cc0_scoped0 cc0_scoped1 cc0_scoped2 cc0_scoped3 cc0_scoped4 cc0_scoped5 cc0_scoped6 cc0_scoped7 cc0_scoped8 cc0_scoped9) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The neighbour numbers are in range. -/
def PreOK : Prop := ∀ (d : Dev nD) (j : S16x32x128.Idx), BitVec.toNat (w := 32) (m ((SparseCore.T d).loc main_arg2) j) < 4096

seal cc0__sc_gather_body in
set_option maxRecDepth 100000 in
theorem tileObl (hn : ∀ (d : Dev nD) (j : S65536.Idx), BitVec.toNat (w := 32) (nF m d j) < 4096) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  have e1 : (P m).go 0 d c i = goP d (coordsV ⟨_, hc.1⟩ ⟨_, hc.2⟩) (tok (Fin.cast nCore_zero c) (Fin.cast nSub_zero i)) (xF m d) (cF m d) (nF m d) (oF m d) := rfl
  have e2 : (P m).td 0 d c i = goP d (coordsV ⟨_, hc.1⟩ ⟨_, hc.2⟩) (tok (Fin.cast nCore_zero c) (Fin.cast nSub_zero i)) (xF m d) (cF m d) (nF m d) (gF m d) := rfl
  rw [e1, e2]
  have h := tile_body d (coordsV ⟨_, hc.1⟩ ⟨_, hc.2⟩) (tok (Fin.cast nCore_zero c) (Fin.cast nSub_zero i)) (xF m d) (cF m d) (nF m d) (oF m d) (hn d) facts O W hO
  have h2 := h.trans (wp_mono frame _ _ fun _ => obl_post (q := 0))
  exact h2

/-! ## The launch element of the ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## @main on the TensorCore -/

theorem st0_eq (d : Dev nD) : (bigSep Finset.univ fun c : Fin ((K (F := F)).nCore 0) => (P m).st 0 d c) = bigSep Finset.univ fun c : Fin 2 => stC m d c (oF m d) :=
  bigSep_congr fun _ _ => rfl
theorem dn0_eq (d : Dev nD) : (bigSep Finset.univ fun c : Fin ((K (F := F)).nCore 0) => (P m).dn 0 d c) = bigSep Finset.univ fun c : Fin 2 => stC m d c (gF m d) :=
  bigSep_congr fun _ _ => rfl

/-- All tiles' parts together. -/
theorem all_eq (d : Dev nD) (o : Buf (Elt F) (oLoc d)) :
    (bigSep Finset.univ fun c : Fin 2 => stC m d c o)
      = iprop(((bigSep Finset.univ fun c : Fin 2 => bigSep Finset.univ fun s : Fin 16 => xLoc d ↦{tok c s} xF m d)
          ∗ (bigSep Finset.univ fun c : Fin 2 => bigSep Finset.univ fun s : Fin 16 => cLoc d ↦{tok c s} cF m d)
          ∗ (bigSep Finset.univ fun c : Fin 2 => bigSep Finset.univ fun s : Fin 16 => nLoc d ↦{tok c s} nF m d))
          ∗ (oLoc d ↦{fullShare} o : sProp 𝕄)) := by
  rw [out_pieces]
  unfold stC goT goP
  simp only [bigSep_sep']

theorem V5_ne (d : Dev nD) (b : DevRef τ sig) (h : b ≠ rv4) : V5 m d b = V4 m d b := Function.update_of_ne h _ _
theorem V5_o (d : Dev nD) : V5 m d rv4 = gF m d := Function.update_self _ _ _

/-- What @main leaves: every array at its last contents. -/
abbrev FIN (d : Dev nD) : sProp 𝕄 := held (SparseCore.T d) S9 (V6 m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := S9) (show ({ra0, rv0} : Finset (DevRef τ sig)) ⊆ S9 by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := S9) (show ({ra2, rv1} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op2) (S := S9) (show ({rv0, rv2} : Finset (DevRef τ sig)) ⊆ S9 by decide)) $$ [Hb Hheld]
  · isplitl [Hb] <;> iassumption
  iintro ⟨Hb, Hheld⟩
  rw [wp_ret]; imodintro
  iapply (wp_hlo_within 𝒱 (SparseCore.T d) none Set.univ (op := op3) (S := S9) (show ({ra1, rv3} : Finset (DevRef τ sig)) ⊆ S9 by decide)) $$ [Hb Hheld]
  · isplitl [Hb] <;> iassumption
  iintro ⟨Hb, Hheld⟩
  rw [wp_ret]; imodintro
  ihave Hh := (Entails.of_eq (show held (SparseCore.T d) S9 (op3.result (op2.result (op1.result (op0.result (V0 m d))))) = _ from held_S9 (F := F) d (V4 m d))) $$ Hheld
  icases Hh with ⟨Ha0, Ha1, Ha2, Hv0, Hn, Hx, Hc, Ho, Hv5⟩
  ihave Hx := (deal (xLoc d) (xF m d)) $$ Hx
  ihave Hc := (deal (cLoc d) (cF m d)) $$ Hc
  ihave Hn := (deal (nLoc d) (nF m d)) $$ Hn
  icases Hx with ⟨Hxl, Hx⟩
  icases Hc with ⟨Hcl, Hc⟩
  icases Hn with ⟨Hnl, Hn⟩
  iapply ((K (F := F)).wp_run (D (F := F)) 𝒱 (EH := EH) (P := P m) κ d 0) $$ [Hst Hx Hc Hn Ho Hb Ha0 Ha1 Ha2 Hv0 Hv5 Hxl Hcl Hnl Hts]
  isplitr; · iexact Hctx
  isplitl [Hst]; · iexact Hst
  isplitl [Hx Hc Hn Ho]
  · rw [st0_eq, all_eq]
    isplitr [Ho]
    · isplitl [Hx]; · iexact Hx
      isplitl [Hc] <;> iassumption
    iexact Ho
  iintro ⟨Hst, Hdn⟩
  ihave Hdn := (Entails.of_eq ((dn0_eq m d).trans (all_eq m d (gF m d)))) $$ Hdn
  icases Hdn with ⟨⟨Hx, Hc, Hn⟩, Ho⟩
  ihave Hx := (undeal (xLoc d) (xF m d)) $$ [Hx Hxl]
  · isplitl [Hxl] <;> iassumption
  ihave Hc := (undeal (cLoc d) (cF m d)) $$ [Hc Hcl]
  · isplitl [Hcl] <;> iassumption
  ihave Hn := (undeal (nLoc d) (nF m d)) $$ [Hn Hnl]
  · isplitl [Hnl] <;> iassumption
  iapply (wp_hlo_within 𝒱 (SparseCore.T d) none Set.univ (op := op5) (S := S9) (show ({rv4, rv5} : Finset (DevRef τ sig)) ⊆ S9 by decide) (V := V5 m d)) $$ [Hb Ha0 Ha1 Ha2 Hv0 Hv5 Hx Hc Hn Ho]
  · isplitl [Hb]; · iexact Hb
    rw [held_S9, V5_o, V5_ne m d ra0 (by decide), V5_ne m d ra1 (by decide), V5_ne m d ra2 (by decide), V5_ne m d rv0 (by decide), V5_ne m d rv1 (by decide), V5_ne m d rv2 (by decide), V5_ne m d rv3 (by decide), V5_ne m d rv5 (by decide)]
    isplitl [Ha0]; · iexact Ha0
    isplitl [Ha1]; · iexact Ha1
    isplitl [Ha2]; · iexact Ha2
    isplitl [Hv0]; · iexact Hv0
    isplitl [Hn]; · iexact Hn
    isplitl [Hx]; · iexact Hx
    isplitl [Hc]; · iexact Hc
    isplitl [Ho]; · iexact Ho
    iexact Hv5
  iintro ⟨Hb, Hheld⟩
  rw [wp_ret]; imodintro; imodintro
  isplitl [Hst]; · iexact Hst
  isplitr [Hb Hts]
  · iexact Hheld
  isplitl [Hb] <;> iassumption

theorem V6_ne (d : Dev nD) (b : DevRef τ sig) (h5 : b ≠ rv5) (h4 : b ≠ rv4) (h3 : b ≠ rv3) (h2 : b ≠ rv2) (h1 : b ≠ rv1) (h0 : b ≠ rv0) : V6 m d b = m (d, b) := by
  unfold V6
  rw [(op5 (F := F)).result_of_not_mem _ (b := b) (fun h => h5 (Finset.mem_singleton.mp h)), V5_ne m d b h4]
  unfold V4
  rw [(op3 (F := F)).result_of_not_mem _ (b := b) (fun h => h3 (Finset.mem_singleton.mp h)), (op2 (F := F)).result_of_not_mem _ (b := b) (fun h => h2 (Finset.mem_singleton.mp h)),
    (op1 (F := F)).result_of_not_mem _ (b := b) (fun h => h1 (Finset.mem_singleton.mp h)), (op0 (F := F)).result_of_not_mem _ (b := b) (fun h => h0 (Finset.mem_singleton.mp h))]
  rfl

/-- What the run ends with on a device: the arguments as they were, the result computed. -/
def fq (d : Dev nD) (s' : Phys nD τ sig (Elt F)) : Prop :=
  (s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2))
  ∧ s'.mem.mem ((SparseCore.T d).loc main_v5) = V6 m d rv5

theorem agree (s' : Phys nD τ sig (Elt F)) (ℓ : Loc nD τ sig) (f : Buf (Elt F) ℓ) : iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr; · ipureintro; exact funext fun i => h i (Finset.mem_univ i)
  iexact HSI

theorem hfin (d : Dev nD) (s' : Phys nD τ sig (Elt F)) : iprop(FIN m d ∗ SI s') ⊢ (⌜fq m d s'⌝ : sProp 𝕄) := by
  unfold FIN
  rw [held_S9, V6_ne m d ra0 (by decide) (by decide) (by decide) (by decide) (by decide) (by decide), V6_ne m d ra1 (by decide) (by decide) (by decide) (by decide) (by decide) (by decide),
    V6_ne m d ra2 (by decide) (by decide) (by decide) (by decide) (by decide) (by decide)]
  iintro ⟨⟨H0, H1, H2, -, -, -, -, -, H5⟩, HSI⟩
  ihave H := (agree s' _ _) $$ [HSI H0]
  · isplitl [HSI] <;> iassumption
  icases H with ⟨%h0, HSI⟩
  ihave H := (agree s' _ _) $$ [HSI H1]
  · isplitl [HSI] <;> iassumption
  icases H with ⟨%h1, HSI⟩
  ihave H := (agree s' _ _) $$ [HSI H2]
  · isplitl [HSI] <;> iassumption
  icases H with ⟨%h2, HSI⟩
  ihave H := (agree s' _ _) $$ [HSI H5]
  · isplitl [HSI] <;> iassumption
  icases H with ⟨%h5, -⟩
  ipureintro; exact ⟨⟨h0, h1, h2⟩, h5⟩

def QC : PUnit × MemSt nD τ sig (Elt F) → Prop := fun r =>
  (∀ d : Dev nD, (r.2.mem ((SparseCore.T d).loc main_arg0) = m ((SparseCore.T d).loc main_arg0) ∧ r.2.mem ((SparseCore.T d).loc main_arg1) = m ((SparseCore.T d).loc main_arg1)
    ∧ r.2.mem ((SparseCore.T d).loc main_arg2) = m ((SparseCore.T d).loc main_arg2)) ∧ r.2.mem ((SparseCore.T d).loc main_v5) = V6 m d rv5) ∧ r.2.sem = fun _ => 0

theorem run_main [∀ e, Nonempty (Elt F e)] (hn : ∀ (d : Dev nD) (j : S65536.Idx), BitVec.toNat (w := 32) (nF m d j) < 4096) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hn)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Gather
-- ==== Proof.KernelValue.lean ====
/-
  The kernel's result, element by element, and the index range that the precondition gives.
-/
module

public import proofs.«01_k».proof.Proof.Main
public import Idealize.ShloMosaic.Lib.ValueIdxCore
public import Idealize.ShloMosaic.Lib.Pipeline.Value

@[expose] public section

noncomputable section

namespace Cert.Proof.Gather

open Cert.KernelIdeal Cert.KernelIdeal.Gen

open Idealize.ShloMosaic
open Idealize.ShloMosaic.SparseCore (S V)
open Idealize.ShloMosaic.SparseCore.Cfg (HIx Pay ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.ValueIdx
open Idealize.ShloMosaic.StableHlo (unary_result' reshape_result' unary_result_ne' reshape_result_ne')

variable (m : (ℓ : Loc nD τ sig) → Buf (Elt F) ℓ)

theorem xF_eq (d : Dev nD) : xF m d = (shapeCast S196608 (transpose S16x3x4096 [0, 2, 1] (m ((SparseCore.T d).loc main_arg0)) transposes_S16x4096x3_S16x3x4096_0_2_1) shapeCasts_S16x3x4096_S196608 : FVec F S196608 .f32) := by
  show V4 m d rv2 = _
  unfold V4
  rw [show (op3 (F := F)).result (op2.result (op1.result (op0.result (V0 m d)))) rv2 = op2.result (op1.result (op0.result (V0 m d))) rv2 from reshape_result_ne' _ _ _ _ _ (by decide),
    show (op2 (F := F)).result (op1.result (op0.result (V0 m d))) rv2 = (shapeCast S196608 (op1.result (op0.result (V0 m d)) rv0) shapeCasts_S16x3x4096_S196608 : FVec F S196608 .f32) from reshape_result' _ _ _ _ _,
    show (op1 (F := F)).result (op0.result (V0 m d)) rv0 = op0.result (V0 m d) rv0 from reshape_result_ne' _ _ _ _ _ (by decide),
    show (op0 (F := F)).result (V0 m d) rv0 = (transpose S16x3x4096 [0, 2, 1] (V0 m d ra0) transposes_S16x4096x3_S16x3x4096_0_2_1 : FVec F S16x3x4096 .f32) from unary_result' _ _ _ _]
  rfl

theorem cF_eq (d : Dev nD) : cF m d = (shapeCast S6144 (m ((SparseCore.T d).loc main_arg1)) shapeCasts_S16x3x128_S6144 : FVec F S6144 .f32) := by
  show V4 m d rv3 = _
  unfold V4
  rw [show (op3 (F := F)).result (op2.result (op1.result (op0.result (V0 m d)))) rv3 = (shapeCast S6144 (op2.result (op1.result (op0.result (V0 m d))) ra1) shapeCasts_S16x3x128_S6144 : FVec F S6144 .f32) from reshape_result' _ _ _ _ _,
    show (op2 (F := F)).result (op1.result (op0.result (V0 m d))) ra1 = op1.result (op0.result (V0 m d)) ra1 from reshape_result_ne' _ _ _ _ _ (by decide),
    show (op1 (F := F)).result (op0.result (V0 m d)) ra1 = op0.result (V0 m d) ra1 from reshape_result_ne' _ _ _ _ _ (by decide),
    show (op0 (F := F)).result (V0 m d) ra1 = V0 m d ra1 from unary_result_ne' _ _ _ _ (by decide)]
  rfl

theorem nF_eq (d : Dev nD) : nF m d = (shapeCast S65536 (m ((SparseCore.T d).loc main_arg2)) shapeCasts_S16x32x128_S65536 : IVec S65536 32) := by
  show V4 m d rv1 = _
  unfold V4
  rw [show (op3 (F := F)).result (op2.result (op1.result (op0.result (V0 m d)))) rv1 = op2.result (op1.result (op0.result (V0 m d))) rv1 from reshape_result_ne' _ _ _ _ _ (by decide),
    show (op2 (F := F)).result (op1.result (op0.result (V0 m d))) rv1 = op1.result (op0.result (V0 m d)) rv1 from reshape_result_ne' _ _ _ _ _ (by decide),
    show (op1 (F := F)).result (op0.result (V0 m d)) rv1 = (shapeCast S65536 (op0.result (V0 m d) ra2) shapeCasts_S16x32x128_S65536 : IVec S65536 32) from reshape_result' _ _ _ _ _,
    show (op0 (F := F)).result (V0 m d) ra2 = V0 m d ra2 from unary_result_ne' _ _ _ _ (by decide)]
  rfl

theorem V6_res (d : Dev nD) : V6 m d rv5 = (shapeCast S16x3x4096 (gF m d) shapeCasts_S196608_S16x3x4096 : FVec F S16x3x4096 .f32) := by
  unfold V6
  rw [show (op5 (F := F)).result (V5 m d) rv5 = (shapeCast S16x3x4096 (V5 m d rv4) shapeCasts_S196608_S16x3x4096 : FVec F S16x3x4096 .f32) from reshape_result' _ _ _ _ _, V5_o]

theorem nF_lt (h : PreOK m) (d : Dev nD) (j : S65536.Idx) : BitVec.toNat (w := 32) (nF m d j) < 4096 := by
  rw [nF_eq]; exact h d _

/-- The kernel's result, at an index. -/
theorem V6_apply (d : Dev nD) (x : FVec F S16x4096x3 .f32) (c : FVec F S16x3x128 .f32) (n : IVec S16x32x128 32)
    (hx : m ((SparseCore.T d).loc main_arg0) = x) (hc : m ((SparseCore.T d).loc main_arg1) = c) (hN : m ((SparseCore.T d).loc main_arg2) = n)
    (hn : ∀ i, BitVec.toNat (w := 32) (n i) < 4096) (b : Fin 16) (r : Fin 3) (k : Fin 32) (t : Fin 128) :
    V6 m d rv5 (ix3 b r (⟨k.val * 128 + t.val, by omega⟩ : Fin 4096))
      = FloatOps.subf (x (ix3 b (⟨BitVec.toNat (w := 32) (n (ix3 b k t)), hn _⟩ : Fin 4096) r)) (c (ix3 b r t)) := by
  rw [V6_res]
  have hp : (b.val * 3 + r.val) * 4096 + (k.val * 128 + t.val) < 196608 := by omega
  refine (shapeCast_apply _ _ _ (at1 (n := 196608) (by decide) ((b.val * 3 + r.val) * 4096 + (k.val * 128 + t.val))) (by
    rw [Shape.rowMajor_val_one, Shape.rowMajor_val_three]
    show ((b.val * 3 + r.val) * 4096 + (k.val * 128 + t.val)) % 196608 = (b.val * 3 + r.val) * 4096 + (k.val * 128 + t.val)
    exact Nat.mod_eq_of_lt hp)).trans ?_
  have hj : ((at1 (n := 196608) (by decide) ((b.val * 3 + r.val) * 4096 + (k.val * 128 + t.val))) 0).val = (b.val * 3 + r.val) * 4096 + (k.val * 128 + t.val) :=
    Nat.mod_eq_of_lt hp
  unfold gF outF
  rw [hj]
  have hnn : nF m d (at1 (n := 65536) (by decide) (((b.val * 3 + r.val) * 4096 + (k.val * 128 + t.val)) / 12288 * 4096 + ((b.val * 3 + r.val) * 4096 + (k.val * 128 + t.val)) % 4096))
      = n (ix3 b k t) := by
    rw [nF_eq, hN]
    refine shapeCast_apply _ _ _ (ix3 b k t) ?_
    rw [Shape.rowMajor_val_one, Shape.rowMajor_val_three]
    show (b.val * 32 + k.val) * 128 + t.val = (((b.val * 3 + r.val) * 4096 + (k.val * 128 + t.val)) / 12288 * 4096 + ((b.val * 3 + r.val) * 4096 + (k.val * 128 + t.val)) % 4096) % 65536
    omega
  rw [hnn]
  have h4 := hn (ix3 b k t)
  refine congrArg₂ FloatOps.subf ?_ ?_
  · rw [xF_eq, hx]
    refine (shapeCast_apply _ _ _ (ix3 b r (⟨BitVec.toNat (w := 32) (n (ix3 b k t)), h4⟩ : Fin 4096)) ?_).trans ?_
    · rw [Shape.rowMajor_val_one, Shape.rowMajor_val_three]
      show (b.val * 3 + r.val) * 4096 + BitVec.toNat (w := 32) (n (ix3 b k t)) = (((b.val * 3 + r.val) * 4096 + (k.val * 128 + t.val)) / 4096 * 4096 + BitVec.toNat (w := 32) (n (ix3 b k t)) % 4096) % 196608
      omega
    · exact transpose_apply _ _ _ _ (ix3 b (⟨BitVec.toNat (w := 32) (n (ix3 b k t)), h4⟩ : Fin 4096) r) (by intro a; fin_cases a <;> rfl)
  · rw [cF_eq, hc]
    refine shapeCast_apply _ _ _ (ix3 b r t) ?_
    rw [Shape.rowMajor_val_one, Shape.rowMajor_val_three]
    show (b.val * 3 + r.val) * 128 + t.val = (((b.val * 3 + r.val) * 4096 + (k.val * 128 + t.val)) / 4096 * 128 + ((b.val * 3 + r.val) * 4096 + (k.val * 128 + t.val)) % 128) % 6144
    omega

end Cert.Proof.Gather
-- ==== Proof.RefValue.lean ====
/-
  What the reference computes, element by element, when the neighbour numbers are in range.
-/
module

public import proofs.«01_k».proof.Proof.Gen.ReferenceIdeal.Run
public import Idealize.ShloMosaic.Lib.ValueIdxCore
public import Idealize.ShloMosaic.Lib.Pipeline.Value
public import Idealize.ShloMosaic.Lib.ReduceAll
public import Idealize.ShloMosaic.Lib.Affine

@[expose] public section

noncomputable section

namespace Cert.Proof.RefValue

open Cert.ReferenceIdeal Cert.ReferenceIdeal.Gen Idealize.ShloMosaic Idealize.ShloMosaic.TcCoe Idealize.ShloMosaic.ValueIdx

variable {F : FTy → Type} [FloatOps F]

/-- The neighbour number of every coordinate of every gathered row. -/
def wide (n : IVec S16x32x128 32) : IVec S16x128x32x3 32 :=
  broadcastInDim S16x128x32x3 ![0, 1, 2, 3] bcast_S16x128x32x1_S16x128x32x3_0_1_2_3
    (broadcastInDim S16x128x32x1 ![0, 1, 2] bcast_S16x128x32_S16x128x32x1_0_1_2 (transpose S16x128x32 [0, 2, 1] n transposes_S16x32x128_S16x128x32_0_2_1))

theorem wide_apply (n : IVec S16x32x128 32) (b : Fin 16) (m : Fin 128) (k : Fin 32) (c : Fin 3) : wide n (ix4 b m k c) = n (ix3 b k m) := by
  unfold wide
  refine (broadcastInDim_apply _ _ _ (ix4 b m k c) (ix4 b m k (0 : Fin 1)) (by intro a; fin_cases a <;> rfl)).trans ?_
  refine (broadcastInDim_apply _ _ _ _ (ix3 b m k) (by intro a; fin_cases a <;> rfl)).trans ?_
  exact transpose_apply _ _ _ _ (ix3 b k m) (by intro b; fin_cases b <;> rfl)

/-- The numbers with the negative ones counted from the end, as the gather reads them. -/
def wrapped (n : IVec S16x32x128 32) : IVec S16x128x32x3x1 32 :=
  shapeCast _ (select (cmpi .slt (wide n) (broadcastInDim S16x128x32x3 ![] bcast_S_S16x128x32x3 (constantI S_ 32 0#32)))
    (addi (wide n) (broadcastInDim S16x128x32x3 ![] bcast_S_S16x128x32x3 (constantI S_ 32 4096#32))) (wide n)) shapeCasts_S16x128x32x3_S16x128x32x3x1

theorem toInt_eq {v : BitVec 32} (h : v.toNat < 4096) : v.toInt = (v.toNat : Int) := by
  rw [BitVec.toInt_eq_toNat_cond]; omega

theorem wrapped_apply (n : IVec S16x32x128 32) (hn : ∀ i, BitVec.toNat (w := 32) (n i) < 4096) (b : Fin 16) (m : Fin 128) (k : Fin 32) (c : Fin 3) :
    wrapped n (ix5 b m k c (0 : Fin 1)) = n (ix3 b k m) := by
  unfold wrapped
  refine (shapeCast_apply _ _ _ (ix4 b m k c) (by
    rw [Shape.rowMajor_val_four, Shape.rowMajor_val_five]
    show _ = _
    simp)).trans ?_
  have hlt : IntOp.cmpi .slt (n (ix3 b k m)) 0#32 ≠ 1#1 := by
    rw [ne_eq, IntOp.cmpi_slt, toInt_eq (hn _)]; simp
  show (if IntOp.cmpi .slt (wide n (ix4 b m k c)) 0#32 = 1#1 then _ else wide n (ix4 b m k c)) = _
  rw [wide_apply, if_neg hlt]

/-- Whether each number is in range: it always is. -/
def inside (n : IVec S16x32x128 32) : IVec S16x128x32x3 1 :=
  Host.reduce IntOp.andi (andi (cmpi .sge (wrapped n) (broadcastInDim S16x128x32x3x1 ![] bcast_S_S16x128x32x3x1 (constantI S_ 32 0#32)))
    (cmpi .sle (wrapped n) (broadcastInDim S16x128x32x3x1 ![0, 1, 2, 3, 4] bcast_S1x1x1x1x1_S16x128x32x3x1_0_1_2_3_4 (broadcastInDim S1x1x1x1x1 ![4] bcast_S1_S1x1x1x1x1_4 (constantI S1 32 4095#32)))))
    (constantI S_ 1 1#1) reducesTo_S16x128x32x3x1_S16x128x32x3_d4 h_S_

theorem inside_apply (n : IVec S16x32x128 32) (hn : ∀ i, BitVec.toNat (w := 32) (n i) < 4096) (j : S16x128x32x3.Idx) : inside n j = 1#1 := by
  refine Host.reduce_andi_one _ _ _ _ j rfl fun i => ?_
  obtain ⟨b, m, k, c, z, rfl⟩ : ∃ b m k c z, i = ix5 (n0 := 16) (n1 := 128) (n2 := 32) (n3 := 3) (n4 := 1) b m k c z := ⟨_, _, _, _, _, eq_ix5 i⟩
  obtain rfl : z = 0 := Subsingleton.elim _ _
  show IntOp.andi (IntOp.cmpi .sge (wrapped n (ix5 b m k c (0 : Fin 1))) 0#32) (IntOp.cmpi .sle (wrapped n (ix5 b m k c (0 : Fin 1))) 4095#32) = 1#1
  have h := hn (ix3 b k m)
  rw [wrapped_apply n hn, IntOp.cmpi_sge.mpr (by rw [toInt_eq h]; simp), IntOp.cmpi_sle.mpr (by rw [toInt_eq h]; show _ ≤ (4095 : Int); omega)]
  rfl

/-- The gather, at an index. -/
theorem gather_apply (x : FVec F S16x128x4096x3 .f32) (w : IVec S16x128x32x3x1 32) (b : Fin 16) (m : Fin 128) (k : Fin 32) (c : Fin 3) (r : Fin 4096)
    (hr : r.val = min (w (ix5 b m k c (0 : Fin 1))).toInt.toNat 4095) :
    Host.gather gather_S16x128x4096x3_S16x128x32x3x1_S16x128x32x3_n_2_013_013_2_4_1111 x w (ix4 b m k c) = x (ix4 b m r c) := by
  unfold Host.gather
  refine congrArg x (funext fun a => Fin.ext ?_)
  show GatherDims.start _ (ix4 b m k c) w a + GatherDims.batchCoord _ (ix4 b m k c) a + GatherDims.offCoord _ (ix4 b m k c) a = _
  have hoff : GatherDims.offCoord gather_S16x128x4096x3_S16x128x32x3x1_S16x128x32x3_n_2_013_013_2_4_1111 (ix4 b m k c) a = 0 :=
    GatherDims.offCoord_eq_zero _ _ _ (by
      intro h; rw [GatherDims.mem_sKept] at h
      revert h; fin_cases a <;> decide)
  rw [hoff]
  have bat : ∀ a' : Fin 4, a' ∈ ([0, 1, 3] : List (Fin 4)) → GatherDims.start gather_S16x128x4096x3_S16x128x32x3x1_S16x128x32x3_n_2_013_013_2_4_1111 (ix4 b m k c) w a' = 0 :=
    fun a' h => GatherDims.start_batching _ _ _ _ h
  obtain rfl | rfl | rfl | rfl : a = (0 : Fin 4) ∨ a = (1 : Fin 4) ∨ a = (3 : Fin 4) ∨ a = (2 : Fin 4) := (by decide : ∀ a : Fin 4, a = 0 ∨ a = 1 ∨ a = 3 ∨ a = 2) a
  · rw [bat _ (by decide)]; exact (Nat.add_zero _).trans (Nat.zero_add _)
  · rw [bat _ (by decide)]; exact (Nat.add_zero _).trans (Nat.zero_add _)
  · rw [bat _ (by decide)]; exact (Nat.add_zero _).trans (Nat.zero_add _)
  · rw [GatherDims.batchCoord_eq_zero _ _ _ (by decide)]
    unfold GatherDims.start
    rw [dif_pos (by decide)]
    refine Eq.trans ?_ hr.symm
    have hsi : GatherDims.siIdx gather_S16x128x4096x3_S16x128x32x3x1_S16x128x32x3_n_2_013_013_2_4_1111 (ix4 b m k c) ⟨0, Nat.one_pos⟩ = ix5 b m k c (0 : Fin 1) := by
      funext q; refine Fin.ext ?_
      match q with
      | ⟨0, _⟩ => rfl
      | ⟨1, _⟩ => rfl
      | ⟨2, _⟩ => rfl
      | ⟨3, _⟩ => rfl
      | ⟨4, _⟩ => rfl
    rw [← hsi]; rfl

/-- The reference's result in the names above. -/
def patches (x : FVec F S16x4096x3 .f32) (c : FVec F S16x3x128 .f32) (n : IVec S16x32x128 32) : FVec F S16x128x32x3 .f32 :=
  subf (select (inside n) (Host.gather gather_S16x128x4096x3_S16x128x32x3x1_S16x128x32x3_n_2_013_013_2_4_1111
      (broadcastInDim S16x128x4096x3 ![0, 1, 2, 3] bcast_S16x1x4096x3_S16x128x4096x3_0_1_2_3 (broadcastInDim S16x1x4096x3 ![0, 2, 3] bcast_S16x4096x3_S16x1x4096x3_0_2_3 x)) (wrapped n))
      (broadcastInDim S16x128x32x3 ![] bcast_S_S16x128x32x3 (constant S_ .f32 0x7FC00000#32)))
    (broadcastInDim S16x128x32x3 ![0, 1, 2, 3] bcast_S16x128x1x3_S16x128x32x3_0_1_2_3
      (broadcastInDim S16x128x1x3 ![0, 1, 3] bcast_S16x128x3_S16x128x1x3_0_1_3 (transpose S16x128x3 [0, 2, 1] c transposes_S16x3x128_S16x128x3_0_2_1)))

theorem res_eq (m : (ℓ : Loc nD τ sig) → Buf (Elt F) ℓ) (d : Dev nD) :
    Value.res_out0 m d = shapeCast S16x3x4096 (transpose S16x3x32x128 [0, 3, 2, 1]
      (patches (F := F) (m ((d.tc : Thread nD τ).loc main_arg0)) (m ((d.tc : Thread nD τ).loc main_arg1)) (m ((d.tc : Thread nD τ).loc main_arg2)))
      transposes_S16x128x32x3_S16x3x32x128_0_3_2_1) shapeCasts_S16x3x32x128_S16x3x4096 := rfl

theorem select_one {s : Shape} {α : Type} (p : IVec s 1) (x y : s.Idx → α) (j : s.Idx) (h : p j = 1#1) : select p x y j = x j := by
  unfold select; rw [h]; rfl

theorem patches_apply (x : FVec F S16x4096x3 .f32) (c : FVec F S16x3x128 .f32) (n : IVec S16x32x128 32) (hn : ∀ i, BitVec.toNat (w := 32) (n i) < 4096)
    (b : Fin 16) (m : Fin 128) (k : Fin 32) (r : Fin 3) :
    patches x c n (ix4 b m k r) = FloatOps.subf (x (ix3 b (⟨BitVec.toNat (w := 32) (n (ix3 b k m)), hn _⟩ : Fin 4096) r)) (c (ix3 b r m)) := by
  unfold patches
  refine congrArg₂ FloatOps.subf ?_ ?_
  · rw [select_one _ _ _ _ (inside_apply n hn _)]
    refine (gather_apply _ _ b m k r ⟨BitVec.toNat (w := 32) (n (ix3 b k m)), hn _⟩ (by
      have h := hn (ix3 b k m)
      rw [wrapped_apply n hn, toInt_eq h]; rw [Int.toNat_natCast]; exact (Nat.min_eq_left (Nat.le_of_lt_succ h)).symm)).trans ?_
    refine (broadcastInDim_apply _ _ _ _ (ix4 b (0 : Fin 1) (⟨BitVec.toNat (w := 32) (n (ix3 b k m)), hn _⟩ : Fin 4096) r) (by intro a; fin_cases a <;> rfl)).trans ?_
    exact broadcastInDim_apply _ _ _ _ (ix3 b (⟨BitVec.toNat (w := 32) (n (ix3 b k m)), hn _⟩ : Fin 4096) r) (by intro a; fin_cases a <;> rfl)
  · refine (broadcastInDim_apply _ _ _ (ix4 b m k r) (ix4 b m (0 : Fin 1) r) (by intro a; fin_cases a <;> rfl)).trans ?_
    refine (broadcastInDim_apply _ _ _ _ (ix3 b m r) (by intro a; fin_cases a <;> rfl)).trans ?_
    exact transpose_apply _ _ _ _ (ix3 b r m) (by intro b; fin_cases b <;> rfl)

/-- The reference's result, at an index. -/
theorem res_apply (m : (ℓ : Loc nD τ sig) → Buf (Elt F) ℓ) (d : Dev nD)
    (x : FVec F S16x4096x3 .f32) (c : FVec F S16x3x128 .f32) (n : IVec S16x32x128 32)
    (hx : m ((d.tc : Thread nD τ).loc main_arg0) = x) (hc : m ((d.tc : Thread nD τ).loc main_arg1) = c) (hN : m ((d.tc : Thread nD τ).loc main_arg2) = n)
    (hn : ∀ i, BitVec.toNat (w := 32) (n i) < 4096) (b : Fin 16) (r : Fin 3) (k : Fin 32) (t : Fin 128) :
    Value.res_out0 m d (ix3 b r (⟨k.val * 128 + t.val, by omega⟩ : Fin 4096))
      = FloatOps.subf (x (ix3 b (⟨BitVec.toNat (w := 32) (n (ix3 b k t)), hn _⟩ : Fin 4096) r)) (c (ix3 b r t)) := by
  subst hx hc hN
  rw [res_eq]
  refine (shapeCast_apply _ _ _ (ix4 b r k t) (by
    rw [Shape.rowMajor_val_four, Shape.rowMajor_val_three]
    show ((b.val * 3 + r.val) * 32 + k.val) * 128 + t.val = (b.val * 3 + r.val) * 4096 + (k.val * 128 + t.val)
    omega)).trans ?_
  refine (transpose_apply _ _ _ _ (ix4 b t k r) (by intro b; fin_cases b <;> rfl)).trans ?_
  exact patches_apply _ _ _ hn b t k r

end Cert.Proof.RefValue
-- ==== Proof.Frames.lean ====
/-
  The precondition read as a range of the neighbour numbers, the frames, and the equation of the two results.
-/
module

public import proofs.«01_k».proof.Defs
public import proofs.«01_k».proof.Proof.KernelValue
public import proofs.«01_k».proof.Proof.RefValue
public import proofs.«01_k».proof.Proof.Gen.Kernel
public import proofs.«01_k».proof.Proof.Gen.Pre_idx_in_range
public import Idealize.ShloMosaic.Lib.ReduceAll

@[expose] public section

noncomputable section

namespace Cert.Proof.Frames

open Idealize.ShloMosaic Idealize.SL.Sem Idealize.ShloMosaic.ValueIdx

/-- A word that is neither negative nor above the last row, both read signed, is the number of a row. -/
theorem word_in_range (v : BitVec 32) (e : IntOp.andi (IntOp.cmpi .sge v 0#32) (IntOp.cmpi .slt v 4096#32) = 1#1) : v.toNat < 4096 := by
  have both : ∀ p q : BitVec 1, IntOp.andi p q = 1#1 → p = 1#1 ∧ q = 1#1 := by decide
  obtain ⟨h0, h1⟩ := both _ _ e
  rw [IntOp.cmpi_sge] at h0
  rw [IntOp.cmpi_slt] at h1
  rw [show (0#32 : BitVec 32).toInt = 0 by decide, BitVec.toInt_eq_toNat_cond] at h0
  rw [show (4096#32 : BitVec 32).toInt = 4096 by decide, BitVec.toInt_eq_toNat_cond] at h1
  have := v.isLt
  split at h0 <;> omega

theorem range_of_pre {F : FTy → Type} [FloatOps F] (x : FVec F Cert.Pre_idx_in_range.S16x4096x3 .f32) (c : FVec F Cert.Pre_idx_in_range.S16x3x128 .f32)
    (n : IVec Cert.Pre_idx_in_range.S16x32x128 32) (h : Cert.Pre_idx_in_range.fn x c n = fun _ => 1#1) (i : Cert.Pre_idx_in_range.S16x32x128.Idx) : (n i).toNat < 4096 := by
  have e := congrFun h ix0
  unfold Cert.Pre_idx_in_range.fn at e
  haveI : Subsingleton Cert.Pre_idx_in_range.S_.Idx := ⟨fun a b => funext fun q => q.elim0⟩
  exact word_in_range _ (Host.reduce_andi_all _ _ _ _ _ e i)

theorem ok_bits (m : (ℓ : Loc Cert.Kernel.nD Cert.Kernel.τ Cert.Kernel.sig) → Buf (Elt Bits) ℓ) (h : Cert.Pre_Kernel m) : Cert.Proof.Gather.PreOK (F := Bits) m :=
  fun d j => range_of_pre _ _ _ (h d) j

theorem ok_ideal (m : (ℓ : Loc Cert.KernelIdeal.nD Cert.KernelIdeal.τ Cert.KernelIdeal.sig) → Buf (Elt Ideal) ℓ) (h : Cert.Pre_KernelIdeal m) : Cert.Proof.Gather.PreOK (F := Ideal) m :=
  fun d j => range_of_pre _ _ _ (h d) j

theorem frame_ideal : Cert.quiescent_KernelIdeal := fun m ρ hpre =>
  (θ_run Cert.KernelIdeal.defs _ _).mono (fun _ h => ⟨fun c => (h.1 c).1, h.2⟩)
    (Cert.Proof.Gather.run_main (F := Ideal) m ρ (Cert.Proof.Gather.nF_lt m (ok_ideal m hpre)))

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- The kernel's result is the reference's. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (d : Dev Cert.KernelIdeal.nD)
    (x : FVec Ideal Cert.KernelIdeal.S16x4096x3 .f32) (c : FVec Ideal Cert.KernelIdeal.S16x3x128 .f32) (n : IVec Cert.KernelIdeal.S16x32x128 32)
    (hx : m ((SparseCore.T d).loc Cert.KernelIdeal.main_arg0) = x) (hc : m ((SparseCore.T d).loc Cert.KernelIdeal.main_arg1) = c) (hN : m ((SparseCore.T d).loc Cert.KernelIdeal.main_arg2) = n)
    (hx' : m' ((SparseCore.T d).loc Cert.ReferenceIdeal.main_arg0) = x) (hc' : m' ((SparseCore.T d).loc Cert.ReferenceIdeal.main_arg1) = c) (hN' : m' ((SparseCore.T d).loc Cert.ReferenceIdeal.main_arg2) = n)
    (hn : ∀ i, BitVec.toNat (w := 32) (n i) < 4096) :
    (Cert.Proof.Gather.V6 m d Cert.Proof.Gather.rv5 : FVec Ideal Cert.KernelIdeal.S16x3x4096 .f32) = Cert.ReferenceIdeal.Value.res_out0 m' d := by
  funext j
  obtain ⟨b, r, q, rfl⟩ : ∃ b r q, j = ix3 (n0 := 16) (n1 := 3) (n2 := 4096) b r q := ⟨_, _, _, eq_ix3 j⟩
  obtain ⟨k, t, rfl⟩ : ∃ (k : Fin 32) (t : Fin 128), q = ⟨k.val * 128 + t.val, by omega⟩ :=
    ⟨⟨q.val / 128, by omega⟩, ⟨q.val % 128, by omega⟩, Fin.ext (by show q.val = q.val / 128 * 128 + q.val % 128; omega)⟩
  exact (Cert.Proof.Gather.V6_apply m d x c n hx hc hN hn b r k t).trans (Cert.Proof.RefValue.res_apply m' d x c n hx' hc' hN' hn b r k t).symm

theorem algebraic : Cert.algebraic_KernelIdeal_ReferenceIdeal := by
  intro m g m' g' hpre hagree
  have hok := ok_ideal m hpre
  refine ⟨fun c => Cert.Proof.Gather.V6 m c Cert.Proof.Gather.rv5, ?_, ?_⟩
  · exact (θ_run Cert.KernelIdeal.defs _ _).mono (fun _ h c => ⟨(h.1 c).2, (h.1 c).1⟩) (Cert.Proof.Gather.run_main (F := Ideal) m g (Cert.Proof.Gather.nF_lt m hok))
  · refine (θ_run Cert.ReferenceIdeal.defs _ _).mono (fun _ h c => ⟨(h c).1.trans ?_, (h c).2⟩) (Cert.ReferenceIdeal.Value.run (F := Ideal) m' g')
    exact (results_eq m m' c _ _ _ rfl rfl rfl (hagree c).1 (hagree c).2.1 (hagree c).2.2 (hok c)).symm

theorem frame_kernel : Cert.quiescent_Kernel := fun m ρ hpre =>
  (θ_run Cert.KernelIdeal.defs _ _).mono (fun _ h => ⟨fun c => (h.1 c).1, h.2⟩)
    (Cert.Proof.Gather.run_main (F := Bits) m ρ (Cert.Proof.Gather.nF_lt m (ok_bits m hpre)))

end Cert.Proof.Frames
-- ==== Proof.FpsTrip.lean ====
/-
  One trip of the farthest-point loop: what it leaves in the block of centers and what it hands to the next trip, as functions
  of the state it was handed.
-/
module

public import proofs.«01_k».proof.Proof.Gen.FpsIdeal.Frame
public import proofs.«01_k».proof.Proof.Gen.FpsIdeal.Skeleton
public import Idealize.ShloMosaic.Lib.Exec
public import Idealize.ShloMosaic.Lib.WritesUnit
public import Idealize.ShloMosaic.Lib.ValueIdxCore
public import Idealize.ShloMosaic.Lib.Pipeline.Value
public import Idealize.ShloMosaic.Lib.Affine

@[expose] public section

set_option maxRecDepth 16384

noncomputable section

namespace Cert.Proof.Fps

open Cert.FpsIdeal Cert.FpsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

/-- The coordinate of the chosen point of every cloud, along the axis whose rows are `v`. -/
def pick (v : Vec F S16x1x4096 .f32) (far : FVec F S16 .f32) : FVec F S16 .f32 := k0_pay12 (k0_pay1 v) (k0_pay4 (F := F)) far

/-- The distances and the chosen points before trip `k`. -/
def st (v6 v8 v10 : Vec F S16x1x4096 .f32) : ℕ → FVec F S16x4096 .f32 × FVec F S16 .f32
  | 0 => (k0_pay5 (F := F), k0_pay6 (F := F))
  | k + 1 => (k0_pay8 v6 v8 v10 (st v6 v8 v10 k).1 (pick v6 (st v6 v8 v10 k).2) (pick v8 (st v6 v8 v10 k).2) (pick v10 (st v6 v8 v10 k).2),
      k0_pay9 v6 v8 v10 (st v6 v8 v10 k).1 (pick v6 (st v6 v8 v10 k).2) (pick v8 (st v6 v8 v10 k).2) (pick v10 (st v6 v8 v10 k).2))

/-- The numbers of the centers, as the kernel compares them with the trip's. -/
abbrev slots : IVec S16x128 32 := iota .tc S16x128 32 [1] iota_S16x128_d1_w32

/-- The three coordinates of the chosen points, as the trip stores them. -/
def cen (v6 v8 v10 : Vec F S16x1x4096 .f32) (far : FVec F S16 .f32) (a : Fin 16) (r : Fin 3) : F .f32 :=
  if r.val = 0 then pick v6 far (ix1 a) else if r.val = 1 then pick v8 far (ix1 a) else pick v10 far (ix1 a)

theorem slot_iff (k : Fin k0_t1_loop.trips) (a : Fin 16) (t : Fin 128) : k0_pay15 slots 0#32 1#32 k (ix2 a t) = 1#1 ↔ t.val = k.val := by
  have hk : k.val < 128 := Nat.lt_of_lt_of_le k.isLt k0_t1_abs.2.1
  have e : slots (ix2 a t) = BitVec.ofNat 32 t.val := iota_single_apply _ _ _ _ _ _
  show IntOp.cmpi .eq (slots (ix2 a t)) (Scf.iv 0#32 1#32 k.val) = 1#1 ↔ _
  rw [IntOp.cmpi_eq, e]
  unfold Scf.iv
  constructor
  · intro h
    have := congrArg BitVec.toNat h
    simp at this
    omega
  · intro h
    rw [h]; simp

theorem row_apply (k : Fin k0_t1_loop.trips) (old : Vec F S16x1x128 .f32) (w : FVec F S16 .f32) (a : Fin 16) (t : Fin 128) :
    k0_pay7 (k0_pay15 slots 0#32 1#32 k) (k0_pay18 old) (shapeCast S16x1 (shapeCast S16x1 w shapeCasts_S16_S16x1) shapeCasts_S16x1_S16x1) (ix3 a (0 : Fin 1) t)
      = if t.val = k.val then w (ix1 a) else old (ix3 a (0 : Fin 1) t) := by
  unfold k0_pay7 k0_pay18
  refine (shapeCast_apply _ _ _ (ix2 a t) (by rw [Shape.rowMajor_val_two, Shape.rowMajor_val_three]; show _ = _; simp)).trans ?_
  show (if k0_pay15 slots 0#32 1#32 k (ix2 a t) = 1#1 then _ else _) = _
  by_cases h : t.val = k.val
  · rw [if_pos h, if_pos ((slot_iff k a t).mpr h)]
    refine (broadcastTo_apply _ _ _ (ix2 a (0 : Fin 1)) (by intro a; fin_cases a <;> rfl)).trans ?_
    refine (shapeCast_apply _ _ _ (ix2 a (0 : Fin 1)) rfl).trans ?_
    exact shapeCast_apply _ _ _ (ix1 a) (by rw [Shape.rowMajor_val_one, Shape.rowMajor_val_two]; show _ = _; simp)
  · rw [if_neg h, if_neg fun h' => h ((slot_iff k a t).mp h')]
    exact shapeCast_apply _ _ _ (ix3 a (0 : Fin 1) t) (by rw [Shape.rowMajor_val_two, Shape.rowMajor_val_three]; show _ = _; simp)

theorem trip_read (arg2 : Memref sig .tc .vmem S16x3x128 .f32) (v6 v8 v10 : Vec F S16x1x4096 .f32) (k : Fin k0_t1_loop.trips) (far : FVec F S16 .f32)
    (f : BufTy.Contents (Elt F) arg2.view.ty) (o0 o1 o2 : Vec F S16x1x128 .f32) (inb0 : ∀ a, ![0, 0, 0] a + S16x1x128.size a ≤ S16x3x128.size a)
    (inb1 : ∀ a, ![0, 1, 0] a + S16x1x128.size a ≤ S16x3x128.size a) (inb2 : ∀ a, ![0, 2, 0] a + S16x1x128.size a ≤ S16x3x128.size a)
    (h0 : ∀ a t, o0 (ix3 a (0 : Fin 1) t) = arg2.view.read (Elt F) f (ix3 a (0 : Fin 3) t))
    (h1 : ∀ a t, o1 (ix3 a (0 : Fin 1) t) = arg2.view.read (Elt F) f (ix3 a (1 : Fin 3) t))
    (h2 : ∀ a t, o2 (ix3 a (0 : Fin 1) t) = arg2.view.read (Elt F) f (ix3 a (2 : Fin 3) t)) (a : Fin 16) (r : Fin 3) (t : Fin 128) :
    arg2.view.read (Elt F) (arg2.view.writes (Elt F) f [⟨Rect.unit ![0, 2, 0] S16x1x128.size inb2, k0_pay7 (k0_pay15 slots 0#32 1#32 k) (k0_pay18 o2) (k0_pay19 (k0_pay3 v10) (k0_pay4 (F := F)) far)⟩,
      ⟨Rect.unit ![0, 1, 0] S16x1x128.size inb1, k0_pay17 (k0_pay2 v8) (k0_pay4 (F := F)) slots 0#32 1#32 k far o1⟩,
      ⟨Rect.unit ![0, 0, 0] S16x1x128.size inb0, k0_pay16 (k0_pay1 v6) (k0_pay4 (F := F)) slots 0#32 1#32 k far o0⟩]) (ix3 a r t)
      = if t.val = k.val then cen v6 v8 v10 far a r else arg2.view.read (Elt F) f (ix3 a r t) := by
  match r with
  | ⟨0, _⟩ =>
    rw [View.read_writes_cons_unit_of_not_mem _ _ _ _ _ _ rfl (1 : Fin 3) (.inl (show (0 : ℕ) < 2 by decide)), View.read_writes_cons_unit_of_not_mem _ _ _ _ _ _ rfl (1 : Fin 3) (.inl (show (0 : ℕ) < 1 by decide))]
    refine (View.read_writes_cons_unit_of_mem _ _ _ _ _ _ (ix3 a (0 : Fin 1) t) rfl (by intro b; fin_cases b <;> simp [ix3])).trans ?_
    refine (row_apply k o0 (pick v6 far) a t).trans ?_
    rw [h0]; rfl
  | ⟨1, _⟩ =>
    rw [View.read_writes_cons_unit_of_not_mem _ _ _ _ _ _ rfl (1 : Fin 3) (.inl (show (1 : ℕ) < 2 by decide))]
    refine (View.read_writes_cons_unit_of_mem _ _ _ _ _ _ (ix3 a (0 : Fin 1) t) rfl (by intro b; fin_cases b <;> simp [ix3])).trans ?_
    refine (row_apply k o1 (pick v8 far) a t).trans ?_
    rw [h1]; rfl
  | ⟨2, _⟩ =>
    refine (View.read_writes_cons_unit_of_mem _ _ _ _ _ _ (ix3 a (0 : Fin 1) t) rfl (by intro b; fin_cases b <;> simp [ix3])).trans ?_
    refine (row_apply k o2 (pick v10 far) a t).trans ?_
    rw [h2]; rfl

theorem trip_run (𝒱 : Variants) (c : Dev nD) (bd : Option 𝒱.V) (i : grid0.Coords) (arg1 : Memref sig .tc .vmem S16x3x4096 .f32) (harg1 : arg1.IsWhole)
    (arg2 : Memref sig .tc .vmem S16x3x128 .f32) (harg2 : arg2.IsWhole) (arg3 : Memref sig .tc .vmem S1x32x128 .i32) (harg3 : arg3.IsWhole) (k0_h1 : k0_cond1 i = 1#1)
    (v6 v8 v10 : Vec F S16x1x4096 .f32) (k : Fin k0_t1_loop.trips) (E : Set ℕ) (acc : FVec F S16x4096 .f32 × FVec F S16 .f32)
    (f : BufTy.Contents (Elt F) arg2.view.ty) :
    iprop((arg2.view.loc (c : Thread nD τ) ↦[arg2.view.set]{fullShare} f))
      ⊢ (wp frame (wpE (defs₀ (F := F)) 𝒱 (c : Thread nD τ) bd) E (k0_t1_body (F := F) i arg1 harg1 arg2 harg2 arg3 harg3 k0_h1 v6 v8 v10 slots k acc)
          (fun yld => iprop(⌜yld = (k0_pay8 v6 v8 v10 acc.1 (pick v6 acc.2) (pick v8 acc.2) (pick v10 acc.2), k0_pay9 v6 v8 v10 acc.1 (pick v6 acc.2) (pick v8 acc.2) (pick v10 acc.2))⌝
            ∗ ∃ f', (arg2.view.loc (c : Thread nD τ) ↦[arg2.view.set]{fullShare} f')
              ∗ ⌜∀ a r t, arg2.view.read (Elt F) f' (ix3 a r t) = if t.val = k.val then cen v6 v8 v10 acc.2 a r else arg2.view.read (Elt F) f (ix3 a r t)⌝)) : sProp 𝕄) := by
  have hk : k.val < 128 := Nat.lt_of_lt_of_le k.isLt k0_t1_abs.2.1
  obtain ⟨d, far⟩ := acc
  simp only [k0_t1_body, k0_part1_eq_skeleton]
  iintro H
  sl_exec
  sl_step
  isplitr
  · ipureintro; rfl
  iexists _; isplitl; · iexact H
  ipureintro
  intro a r t
  refine trip_read arg2 v6 v8 v10 k far f _ _ _ _ _ _ ?_ ?_ ?_ a r t
  · intro a t
    exact congrArg (arg2.view.read (Elt F) f) (funext fun b => Fin.ext (by fin_cases b <;> simp [LoadRect.idx, ix3]))
  · intro a t
    sl_unfold_run_names
    exact congrArg (arg2.view.read (Elt F) f) (funext fun b => Fin.ext (by fin_cases b <;> simp [LoadRect.idx, ix3]))
  · intro a t
    sl_unfold_run_names
    exact congrArg (arg2.view.read (Elt F) f) (funext fun b => Fin.ext (by fin_cases b <;> simp [LoadRect.idx, ix3]))

end Cert.Proof.Fps

end
-- ==== Proof.FpsSample.lean ====
/-
  The farthest-point loop as a whole, and the body of the kernel at the first grid point: the block of centers afterwards.
-/
module

public import proofs.«01_k».proof.Proof.FpsTrip

@[expose] public section

set_option maxRecDepth 16384

noncomputable section

namespace Cert.Proof.Fps

open Cert.FpsIdeal Cert.FpsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

/-- Coordinate `r` of every point of every cloud. -/
def row (x : Vec F S16x3x4096 .f32) (r : Fin 3) : Vec F S16x1x4096 .f32 := fun j => x (ix3 (j 0) r (j 2))

/-- The centers that the loop leaves, from the clouds. -/
def centers (x : Vec F S16x3x4096 .f32) : Vec F S16x3x128 .f32 := fun y =>
  cen (row x 0) (row x 1) (row x 2) (st (row x 0) (row x 1) (row x 2) (y 2).val).2 (y 0) (y 1)

set_option warn.classDefReducibility false in
/-- The loop: before trip `k` the first `k` centers stand in the block, and the carried pair is the state after `k` trips. -/
@[sl_loop] def sampling (𝒱 : Variants) (c : Dev nD) (bd : Option 𝒱.V) (E : Set ℕ) (i : grid0.Coords) (arg1 : Memref sig .tc .vmem S16x3x4096 .f32) (harg1 : arg1.IsWhole)
    (arg2 : Memref sig .tc .vmem S16x3x128 .f32) (harg2 : arg2.IsWhole) (arg3 : Memref sig .tc .vmem S1x32x128 .i32) (harg3 : arg3.IsWhole) (k0_h1 : k0_cond1 i = 1#1)
    (v6 v8 v10 : Vec F S16x1x4096 .f32) :
    LoopInv (M := 𝕄) frame (wpE (defs₀ (F := F)) 𝒱 (c : Thread nD τ) bd) E k0_t1_loop.lb k0_t1_loop.ub k0_t1_loop.st (k0_t1_ok i k0_h1) (k0_pay5 (F := F), k0_pay6 (F := F))
      (k0_t1_body (F := F) i arg1 harg1 arg2 harg2 arg3 harg3 k0_h1 v6 v8 v10 slots) where
  inv k acc := iprop((∃ f, (arg2.view.loc (c : Thread nD τ) ↦[arg2.view.set]{fullShare} f)
    ∗ ⌜∀ a r (t : Fin 128), t.val < k → arg2.view.read (Elt F) f (ix3 a r t) = cen v6 v8 v10 (st v6 v8 v10 t.val).2 a r⌝) ∗ ⌜acc = st v6 v8 v10 k⌝)
  step k acc := by
    iintro ⟨⟨%f, H, %hf⟩, %hacc⟩
    subst hacc
    iapply (wp_wand_r frame (wpE (defs₀ (F := F)) 𝒱 (c : Thread nD τ) bd) E)
    isplitl [H]
    · iapply (trip_run 𝒱 c bd i arg1 harg1 arg2 harg2 arg3 harg3 k0_h1 v6 v8 v10 k E (st v6 v8 v10 k.val) f)
      iexact H
    · iintro %yld ⟨%hy, %f', H, %hf'⟩
      isplitl [H]
      · iexists f'
        isplitl [H]; · iexact H
        ipureintro
        intro a r t ht
        rw [hf']
        by_cases h : t.val = k.val
        · rw [if_pos h, h]
        · rw [if_neg h]; exact hf a r t (by omega)
      ipureintro; exact hy

theorem row_read (arg1 : Memref sig .tc .vmem S16x3x4096 .f32) (harg1 : arg1.IsWhole) (x : Vec F S16x3x4096 .f32) (r : Fin 3) {off : Fin 3 → ℕ} (hoff : off = ![0, r.val, 0])
    (inb : ∀ a, off a + S16x1x4096.size a ≤ S16x3x4096.size a) :
    View.readAt (Elt F) arg1.view (Rect.unit (s := S16x3x4096) off S16x1x4096.size inb).toLoadRect (harg1.unread x) = row x r := by
  subst hoff
  funext j
  obtain ⟨a, z, n, rfl⟩ : ∃ a z n, j = ix3 (n0 := 16) (n1 := 1) (n2 := 4096) a z n := ⟨_, _, _, eq_ix3 j⟩
  refine (congrFun (harg1.read_unread x) _).trans ?_
  exact congrArg x (funext fun b => Fin.ext (by fin_cases b <;> simp [LoadRect.idx, ix3]))

set_option maxHeartbeats 1000000 in
/-- The body where the first grid coordinate is 0: it fills the block of centers and leaves the other two blocks alone. -/
theorem first_run (c : Dev nD) (i : grid0.Coords) (arg1 : Memref sig .tc .vmem S16x3x4096 .f32) (harg1 : arg1.IsWhole)
    (arg2 : Memref sig .tc .vmem S16x3x128 .f32) (harg2 : arg2.IsWhole) (arg3 : Memref sig .tc .vmem S1x32x128 .i32) (harg3 : arg3.IsWhole)
    (hc1 : k0_cond1 i = 1#1) (hc2 : ¬ k0_cond2 i = 1#1) (x : Vec F S16x3x4096 .f32) (o : Vec F S1x32x128 .i32) (E : Set ℕ) (K : PUnit → sProp 𝕄) :
    iprop(owns (c : Thread nD τ) arg1 fullShare x ∗ (∃ d, owns (c : Thread nD τ) arg2 fullShare d) ∗ owns (c : Thread nD τ) arg3 fullShare o
        ∗ (iprop(owns (c : Thread nD τ) arg1 fullShare x ∗ owns (c : Thread nD τ) arg2 fullShare (centers x) ∗ owns (c : Thread nD τ) arg3 fullShare o) -∗ K ⟨⟩))
      ⊢ wp frame (wpE (defs₀ (F := F)) Variants.none c none) E (cc0__fpsknn_body i arg1 harg1 arg2 harg2 arg3 harg3) K := by
  simp only [cc0__fpsknn_body_eq_skeleton]; unfold cc0__fpsknn_body_skel
  unfold owns
  iintro ⟨⟨%f0, %hf0, H0⟩, ⟨%d1, %f1, -, H1⟩, ⟨%f2, %hf2, H2⟩, Hk⟩
  obtain rfl := harg1.eq_unread hf0; obtain rfl := harg3.eq_unread hf2
  sl_exec (disch := first | sl_exact hc1 | sl_exact hc2)
  sl_step
  iapply Hk
  isplitl [H0]
  · iexists _; isplitr; · ipureintro; exact harg1.read_unread _
    iexact H0
  isplitl [H1]
  · iexists _; isplitr
    · ipureintro
      funext y
      obtain ⟨a, r, t, rfl⟩ : ∃ a r t, y = ix3 (n0 := 16) (n1 := 3) (n2 := 128) a r t := ⟨_, _, _, eq_ix3 y⟩
      refine (hL1 a r t (lt_of_lt_of_eq t.isLt (by decide))).trans ?_
      rw [row_read arg1 harg1 x 0 (off := ![0, 0, 0]) rfl, row_read arg1 harg1 x 1 (off := ![0, 1, 0]) rfl, row_read arg1 harg1 x 2 (off := ![0, 2, 0]) rfl]
      rfl
    iexact H1
  iexists _; isplitr; · ipureintro; exact harg3.read_unread _
  iexact H2

end Cert.Proof.Fps

end
-- ==== Proof.FpsNear.lean ====
/-
  The body of the kernel at the later grid points: it reads one cloud and its centers and stores the 32 rows of the block of
  neighbour numbers.
-/
module

public import proofs.«01_k».proof.Proof.FpsSample

@[expose] public section

set_option maxRecDepth 16384

noncomputable section

namespace Cert.Proof.Fps

open Cert.FpsIdeal Cert.FpsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F] [Named F]

local notation "𝕄" => MT nD τ sig Unit (Elt F) ℕ (UR sig nD τ) ℕ

set_option maxHeartbeats 1000000 in
/-- The body where the first grid coordinate is not 0: the rows that it stores into the block of numbers, with the triple that
says so; the other two blocks stay as they are. -/
def later_run (c : Dev nD) (i : grid0.Coords) (arg1 : Memref sig .tc .vmem S16x3x4096 .f32) (harg1 : arg1.IsWhole)
    (arg2 : Memref sig .tc .vmem S16x3x128 .f32) (harg2 : arg2.IsWhole) (arg3 : Memref sig .tc .vmem S1x32x128 .i32) (harg3 : arg3.IsWhole)
    (hc1 : ¬ k0_cond1 i = 1#1) (hc2 : k0_cond2 i = 1#1) (x : Vec F S16x3x4096 .f32) (z : Vec F S16x3x128 .f32) :
    { L : List (View.Piece (Elt F) S1x32x128 .i32) // ∀ (E : Set ℕ) (K : PUnit → sProp 𝕄),
      iprop(owns (c : Thread nD τ) arg1 fullShare x ∗ owns (c : Thread nD τ) arg2 fullShare z ∗ (∃ d, owns (c : Thread nD τ) arg3 fullShare d)
          ∗ (iprop(owns (c : Thread nD τ) arg1 fullShare x ∗ owns (c : Thread nD τ) arg2 fullShare z
            ∗ (∃ f, arg3.view.loc (c : Thread nD τ) ↦[arg3.view.set]{fullShare} arg3.view.writes (Elt F) f L)) -∗ K ⟨⟩))
        ⊢ wp frame (wpE (defs₀ (F := F)) Variants.none c none) E (cc0__fpsknn_body i arg1 harg1 arg2 harg2 arg3 harg3) K } := by
  refine ⟨?_, fun E K => ?run⟩
  case run =>
    simp only [cc0__fpsknn_body_eq_skeleton]; unfold cc0__fpsknn_body_skel
    simp only [k0_part2_eq_skeleton, k0_part3_eq_skeleton, k0_part4_eq_skeleton, k0_part5_eq_skeleton, k0_part6_eq_skeleton, k0_part7_eq_skeleton, k0_part8_eq_skeleton,
      k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%f1, %hf1, H1⟩, ⟨%d2, %f2, -, H2⟩, Hk⟩
    obtain rfl := harg1.eq_unread hf0; obtain rfl := harg2.eq_unread hf1
    sl_exec (disch := first | sl_exact hc1 | sl_exact hc2)
    sl_step
    iapply Hk
    isplitl [H0]
    · iexists _; isplitr; · ipureintro; exact harg1.read_unread _
      iexact H0
    isplitl [H1]
    · iexists _; isplitr; · ipureintro; exact harg2.read_unread _
      iexact H1
    iexists _; iexact H2

end Cert.Proof.Fps

end
-- ==== Proof.FpsLaunch.lean ====
/-
  The farthest-point kernel over its grid: what every block holds after every point, the body at a generic point, and the launch.
-/
module

public import proofs.«01_k».proof.Proof.FpsNear
public import Idealize.ShloMosaic.Lib.Pipeline.FrameBody
public import Idealize.ShloMosaic.Lib.Pipeline.TableIdle
public import Idealize.ShloMosaic.Lib.Ring
public import Idealize.ShloMosaic.Lib.Claim

@[expose] public section

set_option maxRecDepth 16384

noncomputable section

namespace Cert.Proof.Fps

open Cert.FpsIdeal Cert.FpsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Which points do what -/

theorem first_iff : ∀ t : Fin cfg0.N, k0_cond1 (grid0.coords t) = 1#1 ↔ t.val = 0 :=
  (by decide +kernel : ∀ t : Fin grid0.N, k0_cond1 (grid0.coords t) = 1#1 ↔ t.val = 0)

theorem later_iff : ∀ t : Fin cfg0.N, k0_cond2 (grid0.coords t) = 1#1 ↔ t.val ≠ 0 :=
  (by decide +kernel : ∀ t : Fin grid0.N, k0_cond2 (grid0.coords t) = 1#1 ↔ t.val ≠ 0)

theorem idle0 : ∀ t : Fin cfg0.N, cfg0.idle 0 (grid0.coords t) = false :=
  (by decide +kernel : ∀ t : Fin grid0.N, cfg0.idle 0 (grid0.coords t) = false)

theorem idle1 : ∀ t : Fin cfg0.N, cfg0.idle 1 (grid0.coords t) = decide (t.val ≠ 0) :=
  (by decide +kernel : ∀ t : Fin grid0.N, cfg0.idle 1 (grid0.coords t) = decide (t.val ≠ 0))

theorem idle2 : ∀ t : Fin cfg0.N, cfg0.idle 2 (grid0.coords t) = decide (t.val = 0) :=
  (by decide +kernel : ∀ t : Fin grid0.N, cfg0.idle 2 (grid0.coords t) = decide (t.val = 0))

theorem flush2 : ∀ t : Fin cfg0.N, (cfg0.win 2).flush t = decide (t.val ≠ 0) :=
  (by decide +kernel : ∀ t : Fin grid0.N, win0_2.flush t = decide (t.val ≠ 0))

/-! ## What the blocks hold -/

/-- The clouds, as the kernel reads them. -/
def clouds (c : Dev nD) : Vec F S16x3x4096 .f32 := iblk m c 0 ⟨0, by decide⟩

theorem clouds_eq (c : Dev nD) (t : Fin cfg0.N) : iblk m c 0 t = clouds m c := rfl

theorem stage0_whole (t : Fin cfg0.N) : (st0_0 t).IsWhole := hstage0_0 ((cfg0.slots t 0).cast nbuf0_0)
theorem stage1_whole (t : Fin cfg0.N) : (st0_1 t).IsWhole := hstage0_1 ((cfg0.slots t 1).cast nbuf0_1)
theorem stage2_whole (t : Fin cfg0.N) : (st0_2 t).IsWhole := hstage0_2 ((cfg0.slots t 2).cast nbuf0_2)

/-- The rows that the body stores at a later point. -/
def rows (c : Dev nD) (t : Fin cfg0.N) (h : t.val ≠ 0) : List (View.Piece (Elt F) S1x32x128 .i32) :=
  (later_run c (grid0.coords t) (st0_0 t) (stage0_whole t) (st0_1 t) (stage1_whole t) (st0_2 t) (stage2_whole t)
    (fun h' => h ((first_iff t).mp h')) ((later_iff t).mpr h) (clouds m c) (centers (clouds m c))).1

theorem rows_cover (c : Dev nD) (t : Fin cfg0.N) (h : t.val ≠ 0) (y : S1x32x128.Idx) : ∃ p ∈ rows m c t h, y ∈ p.1.set :=
  View.cover_of_tiledL (rows m c t h) S1x1x128.size (by sl_kernel_rfl) y

/-- The block of neighbour numbers after a point. -/
def near (c : Dev nD) (t : Fin cfg0.N) : Vec F S1x32x128 .i32 :=
  if h : t.val = 0 then fun _ => 0#32
  else (st0_2 t).view.read (Elt F) ((st0_2 t).view.writes (Elt F) (stage2_whole t |>.unread fun _ => 0#32) (rows m c t h))

/-- The contents of every block after every point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => centers (clouds m c)
    | ⟨2, _⟩ => near m c t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = centers (clouds m c) := by dsimp only [dats]
theorem after2 (c : Dev nD) (t : Fin cfg0.N) : (dats m 0 c).after 2 t = near m c t := by dsimp only [dats]

theorem before0 (c : Dev nD) (t : Fin cfg0.N) (d) : (dats m 0 c).before 0 t d = iblk m c 0 t :=
  before0_0_of m (dats m 0 c) (A_eq m c 0) (after0 m c) t d

/-- Where the block of centers holds nothing yet: at the start, and once it has been written back. -/
def fresh1Tab (n : ℕ) : Bool := decide (n = 0) || decide (n = 17)

theorem fresh1Tab_step : ∀ t : Fin cfg0.N, fresh1Tab (t.val + 1) = ((cfg0.win 1).flush t || (cfg0.idle 1 (cfg0.grid.coords t) && fresh1Tab t.val)) := by
  decide +kernel

theorem fresh1 (t : Fin cfg0.N) (h : t.val ≠ 0) : cfg0.fresh 1 t.val = false := by
  rw [Pipeline.Cfg.fresh_tab cfg0 1 fresh1Tab rfl fresh1Tab_step t.val (Nat.le_of_lt t.isLt)]
  have hN : t.val < 17 := lt_of_lt_of_eq t.isLt (show cfg0.N = 17 from N_0)
  simp [fresh1Tab, h]; omega

theorem before1 (c : Dev nD) (t : Fin cfg0.N) (h : t.val ≠ 0) (d) : (dats m 0 c).before 1 t d = centers (clouds m c) := by
  rw [Dat.before_out_traj _ 1 rfl (fun _ _ => rfl) (fun t _ _ _ => by rw [after1, after1]) t.val t rfl d, if_neg (by rw [fresh1 t h]; exact Bool.false_ne_true)]
  dsimp only [dats]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

theorem leaves0 (c : Dev nD) (t : Fin cfg0.N) : (dats m 0 c).leavesExact 0 t = owns (c : Thread nD τ) (st0_0 t) fullShare (clouds m c) := by
  unfold Dat.leavesExact; rw [idle0 t, after0]; rfl

theorem leaves1_first (c : Dev nD) (t : Fin cfg0.N) (h : t.val = 0) :
    (dats m 0 c).leavesExact 1 t = owns (c : Thread nD τ) (st0_1 t) fullShare (centers (clouds m c)) := by
  unfold Dat.leavesExact; rw [idle1 t, after1, decide_eq_false (by simp [h])]

theorem leaves1_later (c : Dev nD) (t : Fin cfg0.N) (h : t.val ≠ 0) :
    owns (c : Thread nD τ) (st0_1 t) fullShare (centers (clouds m c)) ⊢ ((dats m 0 c).leavesExact 1 t : sProp 𝕄) := by
  by_cases hf : (cfg0.win 1).flush t = true
  · unfold Dat.leavesExact; rw [idle1 t, after1, hf, decide_eq_true h]
  · rw [Dat.leavesExact_idle (dats m 0 c) 1 t ((idle1 t).trans (decide_eq_true h)) (by simpa using hf)]
    simp only [before1 m c t h]
    iintro H
    iexists (fun _ => default); iexact H

theorem leaves2_first (c : Dev nD) (t : Fin cfg0.N) (h : t.val = 0) :
    (dats m 0 c).leavesExact 2 t = iprop(∃ d, owns (c : Thread nD τ) (st0_2 t) fullShare ((dats m 0 c).before 2 t d)) :=
  Dat.leavesExact_idle (dats m 0 c) 2 t ((idle2 t).trans (decide_eq_true h)) ((flush2 t).trans (decide_eq_false (by simp [h])))

theorem leaves2_later (c : Dev nD) (t : Fin cfg0.N) (h : t.val ≠ 0) :
    (dats m 0 c).leavesExact 2 t = owns (c : Thread nD τ) (st0_2 t) fullShare (near m c t) := by
  unfold Dat.leavesExact; rw [idle2 t, after2, decide_eq_false h]

set_option maxHeartbeats 800000 in
/-- The body at any point takes the blocks from what they held to what the proof data says. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, clouds_eq]
  rw [show (dats m 0 c).Φ t.succ = (dats m 0 c).Φ t.castSucc from rfl,
    show (dats m 0 c).owesAt () t.succ = (dats m 0 c).owesAt () t.castSucc from rfl, leaves0]
  by_cases h : t.val = 0
  · rw [leaves1_first m c t h, leaves2_first m c t h]
    iintro ⟨HΦ, Ho, ⟨%d0, H0⟩, ⟨%d1, H1⟩, ⟨%d2, H2⟩⟩
    iapply (first_run c (grid0.coords t) _ _ _ _ _ _ ((first_iff t).mpr h) (fun h' => (later_iff t).mp h' h) (clouds m c) _ Set.univ _)
    isplitl [H0]; · iexact H0
    isplitl [H1]; · iexists _; iexact H1
    isplitl [H2]; · iexact H2
    iintro ⟨H0, H1, H2⟩
    isplitl [HΦ]; · iexact HΦ
    isplitl [Ho]; · iexact Ho
    isplitl [H0]; · iexact H0
    isplitl [H1]; · iexact H1
    iexists _; iexact H2
  · rw [leaves2_later m c t h]
    simp only [before1 m c t h]
    iintro ⟨HΦ, Ho, ⟨%d0, H0⟩, ⟨%d1, H1⟩, ⟨%d2, H2⟩⟩
    iapply ((later_run c (grid0.coords t) _ _ _ _ _ _ (fun h' => h ((first_iff t).mp h')) ((later_iff t).mpr h) (clouds m c) (centers (clouds m c))).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iapply (leaves1_later m c t h); iexact H1
    unfold owns; iexists _; isplitr
    swap; · iexact H2
    ipureintro
    unfold near; rw [dif_neg h]
    exact View.read_writes_of_cover _ _ _ _ _ (rows_cover m c t h)

/-- The row of the table of bodies at a point. -/
theorem body_row (t : Fin cfg0.N) : defs₀ (F := F) .tc cfg0.body (cfg0.bodyArgs t (cfg0.slots t)) = bodyAt0 t := by
  unfold defs₀; rw [Defs.onTc_tc]

theorem body_sound (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

set_option backward.isDefEq.respectTransparency.types false in
/-- Every execution ends, with every array of the pipeline at what the proof data says, and every counter at zero. -/
theorem run_quiet : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) (hQ' := fun _ h => h) cfgs (dats m) (0 : Fin 1) launch0 defs₀ Variants.none m ρ main
    (hbody := fun c => (body_sound m c).loose) (hshare := fun c => (dats m 0 c).share_full fun _ => rfl)
    (howed := fun _ _ => rfl) (V₀ := V0 m) (opss := [hostOps1])
    (hsub := sfx_sub) (hfresh := sfx_fresh) (hkeep := sfx_keeps) (hmain := hmain m Variants.none) (hA := A_eq m) (hΦ := fun _ _ => rfl)

theorem run_post : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiet m ρ)

theorem frame_fps : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) :=
  θ_run_and (frame_of m ρ (dats m) (A_eq m) (run_post m ρ)) ((θ_run defs _ _).mono (fun _ h => h.2) (run_quiet m ρ))

end Cert.Proof.Fps

end
-- ==== Proof.FpsBits.lean ====
/-
  The farthest-point kernel as printed, at the printed numbers: it is the idealized text with its named constant read as
  the number it was printed from, so it runs as that text does.
-/
module

public import proofs.«01_k».proof.Proof.FpsLaunch
public import proofs.«01_k».proof.Proof.Gen.Fps.Frame
public import proofs.«01_k».proof.Defs

@[expose] public section

set_option maxRecDepth 65536

noncomputable section

namespace Cert.Proof.Fps

open Idealize.ShloMosaic Idealize.SL.Sem

/-- A named constant read as the number it was printed from. -/
local instance asPrinted : Named Bits := ⟨fun _ _ _ b => FloatOps.ofBits _ b⟩

variable [Cert.Fps.Facts]

/-- The two texts give the kernel the same body. -/
theorem bodies_eq : Cert.Fps.defs₀ (F := Bits) = Cert.FpsIdeal.defs₀ (F := Bits) := by
  unfold Cert.Fps.defs₀ Cert.FpsIdeal.defs₀
  refine congrArg _ ?_
  funext l a
  match l, a with
  | 0, (t, s) => rfl

theorem tables_eq : Cert.Fps.defs (F := Bits) = Cert.FpsIdeal.defs (F := Bits) :=
  congrArg (Pipeline.defs Cert.FpsIdeal.pcfgs) bodies_eq

theorem frame_printed : quiescent_Fps := fun m ρ _ =>
  (congrArg (fun D => θ_run D (onTc (τ := Cert.FpsIdeal.τ) (Cert.FpsIdeal.main (F := Bits))) ⟨m, fun _ => 0, ρ⟩
    (fun r => (∀ c : Dev Cert.FpsIdeal.nD,
      r.2.mem ((c.tc : Thread Cert.FpsIdeal.nD Cert.FpsIdeal.τ).loc Cert.FpsIdeal.main_arg0)
        = m ((c.tc : Thread Cert.FpsIdeal.nD Cert.FpsIdeal.τ).loc Cert.FpsIdeal.main_arg0))
      ∧ r.2.sem = fun _ => 0)) tables_eq).mpr (frame_fps (F := Bits) m ρ)

end Cert.Proof.Fps

end
-- ==== Proof.FpsArrays.lean ====
/-
  The arrays that the farthest-point kernel leaves: the block of centers, whole, and the blocks of neighbour numbers, one per batch.
-/
module

public import proofs.«01_k».proof.Proof.FpsLaunch
public import Idealize.ShloMosaic.Lib.StableHlo.Run

@[expose] public section

noncomputable section

namespace Cert.Proof.Fps

open Cert.FpsIdeal Cert.FpsIdeal.Gen
open Idealize.ShloMosaic Idealize.ShloMosaic.TcCoe Idealize.ShloMosaic.ValueIdx Idealize.SL.Sem
open Idealize.ShloMosaic.Pipeline (Dat)

variable {F : FTy → Type} [FloatOps F] [Named F]

variable (m : (ℓ : Loc nD τ sig) → Buf (Elt F) ℓ) (ρ : Dev nD → PrngReg)

/-! ## The window of centers: its one block is the whole array -/

theorem rect1_zero : ∀ (t : Fin cfg0.N) (a : Fin 3), win0_1.index t a = 0 :=
  (by decide +kernel : ∀ (t : Fin grid0.N) (a : Fin 3), win0_1.index t a = 0)

theorem flushed1 (c : Dev nD) (t : Fin cfg0.N) : (dats m 0 c).flushed 1 t = (win0_1.blk t).view.read (Elt F) (centers (clouds m c)) := by
  show (cfg0.win 1).cut (grid0.coords t) ((dats m 0 c).after 1 t) = _
  rw [after1]
  funext y
  show centers (clouds m c) _ = centers (clouds m c) _
  refine congrArg (centers (clouds m c)) (funext fun a => Fin.ext ?_)
  exact (win0_1.rect_emb_val_of_index_zero t a (rect1_zero t a) y).symm

/-- The last point, which writes the centers back. -/
abbrev last : Fin cfg0.N := (⟨16, by decide⟩ : Fin grid0.N)

theorem cover1 (i : S16x3x128.Idx) : ∃ t : Fin cfg0.N, (cfg0.win 1).flush t = true ∧ i ∈ ((cfg0.win 1).blk t).view.set := by
  refine ⟨last, (by decide +kernel : win0_1.flush last = true), ?_⟩
  show i ∈ ((View.whole main_v1_0).slice (win0_1.rect last)).set
  rw [View.set_slice_whole, Rect.mem_set_unit]
  have e : ∀ a, win0_1.index last a * win0_1.size a = 0 ∧ win0_1.xsize (grid0.coords last) a = S16x3x128.size a := by
    decide +kernel
  intro a
  show win0_1.index last a * win0_1.size a ≤ (i a : Nat) ∧ (i a : Nat) < win0_1.index last a * win0_1.size a + win0_1.xsize (grid0.coords last) a
  rw [(e a).1, (e a).2, Nat.zero_add]
  exact ⟨Nat.zero_le _, (i a).isLt⟩

theorem final1 (c : Dev nD) : (dats m 0 c).arrAt 1 cfg0.N = centers (clouds m c) :=
  (dats m 0 c).arrAt_eq_of_cover 1 (centers (clouds m c)) (fun t _ => flushed1 m c t) cover1

/-! ## The window of neighbour numbers: one block per batch, the first at the point after the sampling -/

/-- The point that stores batch `a`. -/
def point (a : Fin 16) : Fin cfg0.N := (⟨a.val + 1, by have : grid0.N = 17 := N_0; omega⟩ : Fin grid0.N)

/-- Every neighbour number, by batch. -/
def nears (c : Dev nD) : Vec F S16x32x128 .i32 := fun i => near m c (point (i 0)) (ix3 (0 : Fin 1) (i 1) (i 2))

theorem index2_fst : ∀ t : Fin cfg0.N, t.val ≠ 0 → win0_2.index t (0 : Fin 3) + 1 = t.val :=
  (by decide +kernel : ∀ t : Fin grid0.N, t.val ≠ 0 → win0_2.index t (0 : Fin 3) + 1 = t.val)

theorem index2_rest : ∀ t : Fin cfg0.N, win0_2.index t (1 : Fin 3) = 0 ∧ win0_2.index t (2 : Fin 3) = 0 :=
  (by decide +kernel : ∀ t : Fin grid0.N, win0_2.index t (1 : Fin 3) = 0 ∧ win0_2.index t (2 : Fin 3) = 0)

theorem block2 (B : Fin cfg0.N → Vec F S1x32x128 .i32) (t : Fin cfg0.N) (h : t.val ≠ 0) :
    (cfg0.win 2).cut (grid0.coords t) (B t) = (win0_2.blk t).view.read (Elt F) ((fun i => B (point (i 0)) (ix3 (0 : Fin 1) (i 1) (i 2)) : Vec F S16x32x128 .i32)) := by
  funext y
  show B t _ = B (point ((win0_2.rect t).emb y 0)) (ix3 (0 : Fin 1) ((win0_2.rect t).emb y 1) ((win0_2.rect t).emb y 2))
  have hy : (y (0 : Fin 3)).val < 1 := (y (0 : Fin 3)).isLt
  have h0 : ((win0_2.rect t).emb y (0 : Fin 3) : Nat) + 1 = t.val := by
    rw [win0_2.rect_emb_val t y 0, ← index2_fst t h]
    show win0_2.index t 0 * 1 + (y 0).val + 1 = _
    omega
  have hp : point ((win0_2.rect t).emb y 0) = t := Fin.ext h0
  rw [hp]
  refine congrArg (B t) (funext fun a => Fin.ext ?_)
  match a with
  | ⟨0, _⟩ => show (y (0 : Fin 3)).val = 0; omega
  | ⟨1, _⟩ => exact (win0_2.rect_emb_val_of_index_zero t (1 : Fin 3) (index2_rest t).1 y).symm
  | ⟨2, _⟩ => exact (win0_2.rect_emb_val_of_index_zero t (2 : Fin 3) (index2_rest t).2 y).symm

theorem flushed2 (c : Dev nD) (t : Fin cfg0.N) (h : t.val ≠ 0) : (dats m 0 c).flushed 2 t = (win0_2.blk t).view.read (Elt F) (nears m c) := by
  show (cfg0.win 2).cut (grid0.coords t) ((dats m 0 c).after 2 t) = _
  rw [after2]
  exact block2 (near m c) t h

theorem size2 : ∀ t : Fin cfg0.N, win0_2.xsize (grid0.coords t) (0 : Fin 3) = 1 ∧ win0_2.xsize (grid0.coords t) (1 : Fin 3) = 32 ∧ win0_2.xsize (grid0.coords t) (2 : Fin 3) = 128 :=
  (by decide +kernel : ∀ t : Fin grid0.N, win0_2.xsize (grid0.coords t) (0 : Fin 3) = 1 ∧ win0_2.xsize (grid0.coords t) (1 : Fin 3) = 32 ∧ win0_2.xsize (grid0.coords t) (2 : Fin 3) = 128)

theorem cover2 (i : S16x32x128.Idx) : ∃ t : Fin cfg0.N, (cfg0.win 2).flush t = true ∧ i ∈ ((cfg0.win 2).blk t).view.set := by
  have hne : (point (i 0)).val ≠ 0 := Nat.succ_ne_zero _
  refine ⟨point (i 0), (flush2 _).trans (decide_eq_true hne), ?_⟩
  show i ∈ ((View.whole main_v1_1).slice (win0_2.rect (point (i 0)))).set
  rw [View.set_slice_whole, Rect.mem_set_unit]
  intro a
  show win0_2.index (point (i 0)) a * win0_2.size a ≤ (i a : Nat) ∧ (i a : Nat) < win0_2.index (point (i 0)) a * win0_2.size a + win0_2.xsize (grid0.coords (point (i 0))) a
  have hs := size2 (point (i 0))
  match a with
  | ⟨0, _⟩ =>
    have h0 := index2_fst (point (i 0)) hne
    have h0' : win0_2.index (point (i 0)) (0 : Fin 3) = (i 0).val := by
      have : (point (i 0)).val = (i 0).val + 1 := rfl
      omega
    show win0_2.index (point (i 0)) (0 : Fin 3) * 1 ≤ (i 0 : Nat) ∧ (i 0 : Nat) < win0_2.index (point (i 0)) (0 : Fin 3) * 1 + win0_2.xsize (grid0.coords (point (i 0))) (0 : Fin 3)
    rw [hs.1, h0']; omega
  | ⟨1, _⟩ =>
    have hi : (i (1 : Fin 3)).val < 32 := (i (1 : Fin 3)).isLt
    show win0_2.index (point (i 0)) (1 : Fin 3) * 32 ≤ (i 1 : Nat) ∧ (i 1 : Nat) < win0_2.index (point (i 0)) (1 : Fin 3) * 32 + win0_2.xsize (grid0.coords (point (i 0))) (1 : Fin 3)
    rw [hs.2.1, (index2_rest (point (i 0))).1]; omega
  | ⟨2, _⟩ =>
    have hi : (i (2 : Fin 3)).val < 128 := (i (2 : Fin 3)).isLt
    show win0_2.index (point (i 0)) (2 : Fin 3) * 128 ≤ (i 2 : Nat) ∧ (i 2 : Nat) < win0_2.index (point (i 0)) (2 : Fin 3) * 128 + win0_2.xsize (grid0.coords (point (i 0))) (2 : Fin 3)
    rw [hs.2.2, (index2_rest (point (i 0))).2]; omega

theorem final2 (c : Dev nD) : (dats m 0 c).arrAt 2 cfg0.N = nears m c :=
  (dats m 0 c).arrAt_eq_of_cover 2 (nears m c) (fun t hf => flushed2 m c t (of_decide_eq_true ((flush2 t).symm.trans hf))) cover2

/-! ## The clouds: the argument, its last two axes exchanged -/

theorem rect0_zero : ∀ (t : Fin cfg0.N) (a : Fin 3), win0_0.index t a = 0 :=
  (by decide +kernel : ∀ (t : Fin grid0.N) (a : Fin 3), win0_0.index t a = 0)

theorem clouds_whole (c : Dev nD) : clouds m c = (V m c main_v0 : Vec F S16x3x4096 .f32) := by
  funext y
  show (V m c main_v0 : Vec F S16x3x4096 .f32) ((win0_0.rect ⟨0, by decide⟩).emb y) = _
  refine congrArg (V m c main_v0 : Vec F S16x3x4096 .f32) (funext fun a => Fin.ext ?_)
  exact win0_0.rect_emb_val_of_index_zero ⟨0, by decide⟩ a (rect0_zero ⟨0, by decide⟩ a) y

theorem entered (c : Dev nD) : (V m c main_v0 : Vec F S16x3x4096 .f32)
    = transpose S16x3x4096 [0, 2, 1] (m ((c.tc : Thread nD τ).loc main_arg0) : Vec F S16x4096x3 .f32) transposes_S16x4096x3_S16x3x4096_0_2_1 := by
  unfold V V0 hostOps0
  simp only [List.flatten_cons, List.flatten_nil, List.append_nil]
  after_results_simp

theorem clouds_apply (c : Dev nD) (a : Fin 16) (r : Fin 3) (n : Fin 4096) :
    clouds m c (ix3 a r n) = (m ((c.tc : Thread nD τ).loc main_arg0) : Vec F S16x4096x3 .f32) (ix3 a n r) := by
  rw [clouds_whole, entered]
  exact transpose_apply _ _ _ _ (ix3 a n r) (by intro b; fin_cases b <;> rfl)

/-- The centers, their last two axes exchanged by the host once the launch is over. -/
theorem turned (c : Dev nD) : Pipeline.afterTail₀ cfgs (dats m) 0 (V0 m) [hostOps1] c main_v2
    = transpose S16x128x3 [0, 2, 1] (centers (clouds m c)) transposes_S16x3x128_S16x128x3_0_2_1 := by
  have h : Pipeline.withArrays (cfgs 0).spec c (V0 m c) (fun w => (dats m 0 c).arrAt w (cfgs 0).N) (Proc.devRef .tc main_v1_0) = centers (clouds m c) :=
    (Pipeline.withArrays_arr (cfgs 0).spec launch0.win.arr_inj c (V0 m c) (fun w => (dats m 0 c).arrAt w (cfgs 0).N) 1).trans (final1 m c)
  unfold Pipeline.afterTail₀ hostOps1
  simp only [List.flatten_cons, List.flatten_nil, List.append_nil]
  rw [← h]
  after_results_simp

/-- Every execution ends with the centers, the neighbour numbers and the argument as said. -/
theorem run_arrays : θ_run defs (onTc (τ := τ) (main (F := F))) ⟨m, fun _ => 0, ρ⟩ (fun r => ∀ c : Dev nD,
    r.2.mem ((c.tc : Thread nD τ).loc main_v2) = transpose S16x128x3 [0, 2, 1] (centers (clouds m c)) transposes_S16x3x128_S16x128x3_0_2_1
      ∧ r.2.mem ((c.tc : Thread nD τ).loc main_v1_0) = centers (clouds m c)
      ∧ r.2.mem ((c.tc : Thread nD τ).loc main_v1_1) = nears m c
      ∧ r.2.mem ((c.tc : Thread nD τ).loc main_arg0) = m ((c.tc : Thread nD τ).loc main_arg0)) :=
  (θ_run defs _ _).mono (fun r h c => ⟨((h.1 c).2 main_v2 (Pipeline.mem_restRefs_of main_v2 (by decide) (by decide))).trans (turned m c), ((h.1 c).1 1).trans (final1 m c), ((h.1 c).1 2).trans (final2 m c), h.2.1 c⟩)
    (θ_run_and (run_post m ρ) (frame_fps m ρ))

end Cert.Proof.Fps

end
-- ==== Proof.FpsRows.lean ====
/-
  The rows of neighbour numbers that a later grid point stores: every row is the first number at which the distances are least, and the
  next row's distances are this row's with that number's put to the greatest.
-/
module

public import proofs.«01_k».proof.Proof.FpsArrays

@[expose] public section

set_option maxRecDepth 16384

noncomputable section

namespace Cert.Proof.Fps

open Cert.FpsIdeal Cert.FpsIdeal.Gen
open Idealize.ShloMosaic Idealize.ShloMosaic.TcCoe Idealize.ShloMosaic.Tactic Idealize.ShloMosaic.ValueIdx

variable {F : FTy → Type} [FloatOps F] [Named F]

/-- Where the distances are least. -/
def leastAt (D : FVec F S128x4096 .f32) : IVec S128x4096 1 :=
  cmpf .oeq D (broadcastTo S128x4096 (shapeCast S128x1 (multiReduction .minimumf [1] S128 D 0x7F800000#32 reduces_S128x4096_S128 (.inl rfl) rfl) shapeCasts_S128_S128x1) broadcasts_S128x1_S128x4096)

/-- The first number at which the distances are least. -/
def firstLeast (D : FVec F S128x4096 .f32) : FVec F S128x1 .f32 :=
  shapeCast S128x1 (multiReduction .minimumf [1] S128 (select (leastAt D) (k0_pay21 (F := F)) (broadcast S128x4096 (Scalar.ofBits .f32 0x45800000#32))) 0x7F800000#32 reduces_S128x4096_S128 (.inl rfl) rfl) shapeCasts_S128_S128x1

/-- The distances without the first least. -/
def without (D : FVec F S128x4096 .f32) : FVec F S128x4096 .f32 :=
  select (cmpf .oeq (k0_pay21 (F := F)) (broadcastTo S128x4096 (firstLeast D) broadcasts_S128x1_S128x4096)) (broadcast S128x4096 (Named.named κ "big" 0x7F61B1E6#32)) D

/-- The row of numbers stored. -/
def stored (D : FVec F S128x4096 .f32) : IVec S1x1x128 32 :=
  shapeCast S1x1x128 (fptosi 32 (shapeCast S128 (firstLeast D) shapeCasts_S128x1_S128)) shapeCasts_S128_S1x1x128

/-- The distances before row `k`. -/
def left (D : FVec F S128x4096 .f32) : ℕ → FVec F S128x4096 .f32
  | 0 => D
  | k + 1 => without (left D k)

theorem row_inb (k : Fin 32) : ∀ a, (![0, k.val, 0] : Fin 3 → ℕ) a + S1x1x128.size a ≤ S1x32x128.size a := by
  intro a
  have := k.isLt
  match a with
  | ⟨0, _⟩ => show 0 + 1 ≤ 1; omega
  | ⟨1, _⟩ => show k.val + 1 ≤ 32; omega
  | ⟨2, _⟩ => show 0 + 128 ≤ 128; omega

/-- Row `k` of a block, holding `W k`. -/
def piece (W : Fin 32 → IVec S1x1x128 32) (k : Fin 32) : View.Piece (Elt F) S1x32x128 .i32 :=
  ⟨Rect.unit ![0, k.val, 0] S1x1x128.size (row_inb k), W k⟩

/-- The rows stored are the pieces, the last first. -/
theorem later_rows (c : Dev nD) (i : grid0.Coords) (arg1 : Memref sig .tc .vmem S16x3x4096 .f32) (harg1 : arg1.IsWhole)
    (arg2 : Memref sig .tc .vmem S16x3x128 .f32) (harg2 : arg2.IsWhole) (arg3 : Memref sig .tc .vmem S1x32x128 .i32) (harg3 : arg3.IsWhole)
    (hc1 : ¬ k0_cond1 i = 1#1) (hc2 : k0_cond2 i = 1#1) (x : Vec F S16x3x4096 .f32) (z : Vec F S16x3x128 .f32) :
    (later_run c i arg1 harg1 arg2 harg2 arg3 harg3 hc1 hc2 x z).1
      = (List.finRange 32).reverse.map (piece fun k => stored (left (later_run.sl.r c i arg1 harg1 arg2 harg2 hc2 x z) k.val)) := by
  sl_kernel_rfl

theorem read_rows (v : Memref sig .tc .vmem S1x32x128 .i32) (f : BufTy.Contents (Elt F) v.view.ty) (W : Fin 32 → IVec S1x1x128 32) (k : Fin 32) (j : Fin 128) :
    ∀ l : List (Fin 32), k ∈ l → v.view.read (Elt F) (v.view.writes (Elt F) f (l.map (piece W))) (ix3 (0 : Fin 1) k j) = W k (ix3 (0 : Fin 1) (0 : Fin 1) j)
  | [], h => absurd h List.not_mem_nil
  | p :: l, h => by
    rw [List.map_cons]
    by_cases e : k = p
    · subst e
      show v.view.read (Elt F) (v.view.writes (Elt F) f (⟨Rect.unit ![0, k.val, 0] S1x1x128.size (row_inb k), W k⟩ :: l.map (piece W))) (ix3 (0 : Fin 1) k j) = _
      exact (View.read_writes_cons_unit_of_mem (off := ![0, k.val, 0]) (size := S1x1x128.size) v.view f (row_inb k) (W k) (l.map (piece W)) (ix3 (0 : Fin 1) k j) (ix3 (0 : Fin 1) (0 : Fin 1) j) rfl
        (by intro b; fin_cases b <;> simp [ix3]))
    · have hne : k.val ≠ p.val := fun h' => e (Fin.ext h')
      show v.view.read (Elt F) (v.view.writes (Elt F) f (⟨Rect.unit ![0, p.val, 0] S1x1x128.size (row_inb p), W p⟩ :: l.map (piece W))) (ix3 (0 : Fin 1) k j) = _
      refine (View.read_writes_cons_unit_of_not_mem _ _ _ _ _ _ rfl (1 : Fin 3) ?_).trans (read_rows v f W k j l ((List.mem_cons.mp h).resolve_left e))
      show k.val < p.val ∨ p.val + 1 ≤ k.val
      omega

/-! ## The distances -/

theorem lane_apply (w : Vec F S1x1x4096 .f32) (j : Fin 128) (n : Fin 4096) :
    broadcastTo S128x4096 (shapeCast S1x4096 (shapeCast S4096 w shapeCasts_S1x1x4096_S4096) shapeCasts_S4096_S1x4096) broadcasts_S1x4096_S128x4096 (ix2 j n)
      = w (ix3 (0 : Fin 1) (0 : Fin 1) n) := by
  refine (broadcastTo_apply _ _ _ (ix2 (0 : Fin 1) n) (by intro a; fin_cases a <;> rfl)).trans ?_
  refine (shapeCast_apply _ _ _ (ix1 n) (by rw [Shape.rowMajor_val_one, Shape.rowMajor_val_two]; show _ = _; simp)).trans ?_
  exact shapeCast_apply _ _ _ (ix3 (0 : Fin 1) (0 : Fin 1) n) (by rw [Shape.rowMajor_val_one, Shape.rowMajor_val_three]; show _ = _; simp)

theorem column_apply (w : Vec F S1x1x128 .f32) (j : Fin 128) (n : Fin 4096) :
    broadcastTo S128x4096 (shapeCast S128x1 (shapeCast S128 w shapeCasts_S1x1x128_S128) shapeCasts_S128_S128x1) broadcasts_S128x1_S128x4096 (ix2 j n)
      = w (ix3 (0 : Fin 1) (0 : Fin 1) j) := by
  refine (broadcastTo_apply _ _ _ (ix2 j (0 : Fin 1)) (by intro a; fin_cases a <;> rfl)).trans ?_
  refine (shapeCast_apply _ _ _ (ix1 j) (by rw [Shape.rowMajor_val_one, Shape.rowMajor_val_two]; show _ = _; simp)).trans ?_
  exact shapeCast_apply _ _ _ (ix3 (0 : Fin 1) (0 : Fin 1) j) (by rw [Shape.rowMajor_val_one, Shape.rowMajor_val_three]; show _ = _; simp)

/-- A squared difference. -/
abbrev sqd (u v : F .f32) : F .f32 := FloatOps.mulf (FloatOps.subf u v) (FloatOps.subf u v)

theorem distance_apply (x0 x1 x2 : Vec F S1x1x4096 .f32) (z0 z1 z2 : Vec F S1x1x128 .f32) (j : Fin 128) (n : Fin 4096) :
    k0_pay20 x0 x1 x2 z0 z1 z2 (ix2 j n)
      = FloatOps.addf (FloatOps.addf (sqd (z0 (ix3 (0 : Fin 1) (0 : Fin 1) j)) (x0 (ix3 (0 : Fin 1) (0 : Fin 1) n))) (sqd (z1 (ix3 (0 : Fin 1) (0 : Fin 1) j)) (x1 (ix3 (0 : Fin 1) (0 : Fin 1) n))))
          (sqd (z2 (ix3 (0 : Fin 1) (0 : Fin 1) j)) (x2 (ix3 (0 : Fin 1) (0 : Fin 1) n))) := by
  rw [← lane_apply x0 j n, ← lane_apply x1 j n, ← lane_apply x2 j n, ← column_apply z0 j n, ← column_apply z1 j n, ← column_apply z2 j n]
  rfl

theorem offsets_at : ∀ t : Fin cfg0.N, t.val ≠ 0 → k0_off1 (grid0.coords t) = ![t.val - 1, 0, 0] ∧ k0_off2 (grid0.coords t) = ![t.val - 1, 1, 0] ∧ k0_off3 (grid0.coords t) = ![t.val - 1, 2, 0]
    ∧ k0_off4 (grid0.coords t) = ![t.val - 1, 0, 0] ∧ k0_off5 (grid0.coords t) = ![t.val - 1, 1, 0] ∧ k0_off6 (grid0.coords t) = ![t.val - 1, 2, 0] :=
  (by decide +kernel : ∀ t : Fin grid0.N, t.val ≠ 0 → k0_off1 (grid0.coords t) = ![t.val - 1, 0, 0] ∧ k0_off2 (grid0.coords t) = ![t.val - 1, 1, 0] ∧ k0_off3 (grid0.coords t) = ![t.val - 1, 2, 0]
    ∧ k0_off4 (grid0.coords t) = ![t.val - 1, 0, 0] ∧ k0_off5 (grid0.coords t) = ![t.val - 1, 1, 0] ∧ k0_off6 (grid0.coords t) = ![t.val - 1, 2, 0])

theorem cloud_read (arg1 : Memref sig .tc .vmem S16x3x4096 .f32) (harg1 : arg1.IsWhole) (x : Vec F S16x3x4096 .f32) (b : Fin 16) (r : Fin 3) {off : Fin 3 → ℕ} (hoff : off = ![b.val, r.val, 0])
    (inb : ∀ a, off a + S1x1x4096.size a ≤ S16x3x4096.size a) (n : Fin 4096) :
    View.readAt (Elt F) arg1.view (Rect.unit (s := S16x3x4096) off S1x1x4096.size inb).toLoadRect (harg1.unread x) (ix3 (0 : Fin 1) (0 : Fin 1) n) = x (ix3 b r n) := by
  subst hoff
  refine (congrFun (harg1.read_unread x) _).trans ?_
  exact congrArg x (funext fun b => Fin.ext (by fin_cases b <;> simp [LoadRect.idx, ix3]))

theorem center_read (arg2 : Memref sig .tc .vmem S16x3x128 .f32) (harg2 : arg2.IsWhole) (z : Vec F S16x3x128 .f32) (b : Fin 16) (r : Fin 3) {off : Fin 3 → ℕ} (hoff : off = ![b.val, r.val, 0])
    (inb : ∀ a, off a + S1x1x128.size a ≤ S16x3x128.size a) (j : Fin 128) :
    View.readAt (Elt F) arg2.view (Rect.unit (s := S16x3x128) off S1x1x128.size inb).toLoadRect (harg2.unread z) (ix3 (0 : Fin 1) (0 : Fin 1) j) = z (ix3 b r j) := by
  subst hoff
  refine (congrFun (harg2.read_unread z) _).trans ?_
  exact congrArg z (funext fun b => Fin.ext (by fin_cases b <;> simp [LoadRect.idx, ix3]))

variable (m : (ℓ : Loc nD τ sig) → Buf (Elt F) ℓ) (c : Dev nD)

theorem point_ne (b : Fin 16) : (point b).val ≠ 0 := Nat.succ_ne_zero _

/-- The distances of batch `b`: from every center, down, to every point, across. -/
def spans (b : Fin 16) : FVec F S128x4096 .f32 :=
  later_run.sl.r c (grid0.coords (point b)) (st0_0 (point b)) (stage0_whole (point b)) (st0_1 (point b)) (stage1_whole (point b)) ((later_iff (point b)).mpr (point_ne b)) (clouds m c) (centers (clouds m c))

theorem spans_apply (b : Fin 16) (j : Fin 128) (n : Fin 4096) : spans m c b (ix2 j n)
    = FloatOps.addf (FloatOps.addf (sqd (centers (clouds m c) (ix3 b (0 : Fin 3) j)) (clouds m c (ix3 b (0 : Fin 3) n))) (sqd (centers (clouds m c) (ix3 b (1 : Fin 3) j)) (clouds m c (ix3 b (1 : Fin 3) n))))
        (sqd (centers (clouds m c) (ix3 b (2 : Fin 3) j)) (clouds m c (ix3 b (2 : Fin 3) n))) := by
  unfold spans later_run.sl.r
  obtain ⟨h1, h2, h3, h4, h5, h6⟩ := offsets_at (point b) (point_ne b)
  rw [distance_apply, cloud_read _ _ _ b 0 h1, cloud_read _ _ _ b 1 h2, cloud_read _ _ _ b 2 h3, center_read _ _ _ b 0 h4, center_read _ _ _ b 1 h5, center_read _ _ _ b 2 h6]

theorem near_apply (b : Fin 16) (k : Fin 32) (j : Fin 128) : near m c (point b) (ix3 (0 : Fin 1) k j) = stored (left (spans m c b) k.val) (ix3 (0 : Fin 1) (0 : Fin 1) j) := by
  unfold near
  rw [dif_neg (point_ne b)]
  unfold rows
  rw [later_rows]
  exact read_rows _ _ _ k j _ (List.mem_reverse.mpr (List.mem_finRange k))

/-- The neighbour numbers, element by element. -/
theorem nears_apply (b : Fin 16) (k : Fin 32) (j : Fin 128) : nears m c (ix3 b k j) = stored (left (spans m c b) k.val) (ix3 (0 : Fin 1) (0 : Fin 1) j) :=
  near_apply m c b k j

end Cert.Proof.Fps

end
-- ==== Proof.FpsRefRun.lean ====
/-
  The reference's farthest-point loop run: its operations in order, what one trip makes of the carried values, and what every
  buffer holds after the loop and the operations that follow it.
-/
module

public import proofs.«01_k».proof.Proof.Gen.FpsReferenceIdeal
public import Idealize.ShloMosaic.Lib.StableHlo.Run
public import Idealize.ShloMosaic.Lib.StableHlo.RunLoop
public import Idealize.ShloMosaic.Lib.Scf.Counter
public import Idealize.ShloMosaic.Lib.Scf.ExitTest
public import Idealize.ShloMosaic.Lib.HostLoop

@[expose] public section

set_option maxRecDepth 16384

noncomputable section

namespace Cert.Proof.FpsRef

open Cert.FpsReferenceIdeal Cert.FpsReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Pipeline (sub_ucRefs)

variable {F : FTy → Type} [FloatOps F]

/-! ## The operations -/

/-- The operations before the loop. -/
def entryOps : List (HloOp τ sig (Elt F)) :=
  [ nullary main_c (constantI S_ 32 0#32),
    unary main_c main_v0 (broadcastInDim S16x128 ![] bcast_S_S16x128 : (⟨S_, .i32⟩ : BufTy).Contents (Elt F) → (⟨S16x128, .i32⟩ : BufTy).Contents (Elt F)),
    nullary main_cst (constant S_ .f32 0x7F800000#32),
    unary main_cst main_v1 (broadcastInDim S16x4096 ![] bcast_S_S16x4096 : (⟨S_, .f32⟩ : BufTy).Contents (Elt F) → (⟨S16x4096, .f32⟩ : BufTy).Contents (Elt F)),
    nullary main_c_0 (constantI S_ 32 0#32),
    unary main_c_0 main_v2 (broadcastInDim S16 ![] bcast_S_S16 : (⟨S_, .i32⟩ : BufTy).Contents (Elt F) → (⟨S16, .i32⟩ : BufTy).Contents (Elt F)),
    nullary main_c_1 (constantI S_ 32 0#32),
    nullary main_c_2 (constantI S_ 32 0#32),
    unary main_arg0 main_v3_0 id,
    unary main_c_2 main_v3_1 id,
    unary main_c_1 main_v3_2 id,
    unary main_v0 main_v3_3 id,
    unary main_v1 main_v3_4 id,
    unary main_v2 main_v3_5 id ]

/-- The loop's test. -/
def testOps : List (HloOp τ sig (Elt F)) :=
  [ nullary main_while0c_c_9 (constantI S_ 32 128#32),
    binary main_v3_1 main_while0c_c_9 main_while0c_v17 (cmpi .slt : (⟨S_, .i32⟩ : BufTy).Contents (Elt F) → (⟨S_, .i32⟩ : BufTy).Contents (Elt F) → (⟨S_, .i1⟩ : BufTy).Contents (Elt F)) ]

/-- One trip of the loop. -/
def tripOps : List (HloOp τ sig (Elt F)) :=
  [ nullary main_while0b_c_9 (constantI S_ 32 1#32),
    binary main_v3_2 main_while0b_c_9 main_while0b_v17 (addi : (⟨S_, .i32⟩ : BufTy).Contents (Elt F) → (⟨S_, .i32⟩ : BufTy).Contents (Elt F) → (⟨S_, .i32⟩ : BufTy).Contents (Elt F)),
    nullary main_while0b_c_10 (constantI S_ 32 0#32),
    binary main_v3_2 main_while0b_c_10 main_while0b_v18 (cmpi .slt : (⟨S_, .i32⟩ : BufTy).Contents (Elt F) → (⟨S_, .i32⟩ : BufTy).Contents (Elt F) → (⟨S_, .i1⟩ : BufTy).Contents (Elt F)),
    nullary main_while0b_c_11 (constantI S_ 32 128#32),
    binary main_v3_2 main_while0b_c_11 main_while0b_v19 (addi : (⟨S_, .i32⟩ : BufTy).Contents (Elt F) → (⟨S_, .i32⟩ : BufTy).Contents (Elt F) → (⟨S_, .i32⟩ : BufTy).Contents (Elt F)),
    ternary main_while0b_v18 main_while0b_v19 main_v3_2 main_while0b_v20 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_while0b_v20 main_while0b_v21 (id : (⟨S_, .i32⟩ : BufTy).Contents (Elt F) → (⟨S_, .i32⟩ : BufTy).Contents (Elt F)),
    unary main_while0b_v21 main_while0b_v22 (broadcastInDim S1 ![] bcast_S_S1 : (⟨S_, .i32⟩ : BufTy).Contents (Elt F) → (⟨S1, .i32⟩ : BufTy).Contents (Elt F)),
    ternary main_v3_3 main_while0b_v22 main_v3_5 main_while0b_v23 ((fun x i u => Host.scatter scatter_S16x128_S1_S16_0_1_1_0 (fun _ b => b) x i u) : (⟨S16x128, .i32⟩ : BufTy).Contents (Elt F) → (⟨S1, .i32⟩ : BufTy).Contents (Elt F) → (⟨S16, .i32⟩ : BufTy).Contents (Elt F) → (⟨S16x128, .i32⟩ : BufTy).Contents (Elt F)),
    nullary main_while0b_v24 (iotaInDim S16 32 0),
    nullary main_while0b_c_12 (constantI S_ 32 0#32),
    unary main_while0b_c_12 main_while0b_v25 (broadcastInDim S16 ![] bcast_S_S16 : (⟨S_, .i32⟩ : BufTy).Contents (Elt F) → (⟨S16, .i32⟩ : BufTy).Contents (Elt F)),
    binary main_while0b_v24 main_while0b_v25 main_while0b_v26 (cmpi .slt : (⟨S16, .i32⟩ : BufTy).Contents (Elt F) → (⟨S16, .i32⟩ : BufTy).Contents (Elt F) → (⟨S16, .i1⟩ : BufTy).Contents (Elt F)),
    nullary main_while0b_c_13 (constantI S_ 32 16#32),
    unary main_while0b_c_13 main_while0b_v27 (broadcastInDim S16 ![] bcast_S_S16 : (⟨S_, .i32⟩ : BufTy).Contents (Elt F) → (⟨S16, .i32⟩ : BufTy).Contents (Elt F)),
    binary main_while0b_v24 main_while0b_v27 main_while0b_v28 (addi : (⟨S16, .i32⟩ : BufTy).Contents (Elt F) → (⟨S16, .i32⟩ : BufTy).Contents (Elt F) → (⟨S16, .i32⟩ : BufTy).Contents (Elt F)),
    ternary main_while0b_v26 main_while0b_v28 main_while0b_v24 main_while0b_v29 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    nullary main_while0b_c_14 (constantI S_ 32 0#32),
    unary main_while0b_c_14 main_while0b_v30 (broadcastInDim S16 ![] bcast_S_S16 : (⟨S_, .i32⟩ : BufTy).Contents (Elt F) → (⟨S16, .i32⟩ : BufTy).Contents (Elt F)),
    binary main_v3_5 main_while0b_v30 main_while0b_v31 (cmpi .slt : (⟨S16, .i32⟩ : BufTy).Contents (Elt F) → (⟨S16, .i32⟩ : BufTy).Contents (Elt F) → (⟨S16, .i1⟩ : BufTy).Contents (Elt F)),
    nullary main_while0b_c_15 (constantI S_ 32 4096#32),
    unary main_while0b_c_15 main_while0b_v32 (broadcastInDim S16 ![] bcast_S_S16 : (⟨S_, .i32⟩ : BufTy).Contents (Elt F) → (⟨S16, .i32⟩ : BufTy).Contents (Elt F)),
    binary main_v3_5 main_while0b_v32 main_while0b_v33 (addi : (⟨S16, .i32⟩ : BufTy).Contents (Elt F) → (⟨S16, .i32⟩ : BufTy).Contents (Elt F) → (⟨S16, .i32⟩ : BufTy).Contents (Elt F)),
    ternary main_while0b_v31 main_while0b_v33 main_v3_5 main_while0b_v34 (select : (⟨S16, .i1⟩ : BufTy).Contents (Elt F) → (⟨S16, .i32⟩ : BufTy).Contents (Elt F) → (⟨S16, .i32⟩ : BufTy).Contents (Elt F) → (⟨S16, .i32⟩ : BufTy).Contents (Elt F)),
    unary main_while0b_v29 main_while0b_v35 (broadcastInDim S16x1 ![0] bcast_S16_S16x1_0 : (⟨S16, .i32⟩ : BufTy).Contents (Elt F) → (⟨S16x1, .i32⟩ : BufTy).Contents (Elt F)),
    unary main_while0b_v34 main_while0b_v36 (broadcastInDim S16x1 ![0] bcast_S16_S16x1_0 : (⟨S16, .i32⟩ : BufTy).Contents (Elt F) → (⟨S16x1, .i32⟩ : BufTy).Contents (Elt F)),
    binary main_while0b_v35 main_while0b_v36 main_while0b_v37 ((fun a b => concatenate S16x2 1 [⟨S16x1, a⟩, ⟨S16x1, b⟩] concatenates_S16x1_S16x1_S16x2_d1) : (⟨S16x1, .i32⟩ : BufTy).Contents (Elt F) → (⟨S16x1, .i32⟩ : BufTy).Contents (Elt F) → (⟨S16x2, .i32⟩ : BufTy).Contents (Elt F)),
    binary main_v3_0 main_while0b_v37 main_while0b_v38 ((fun x i => Host.gather gather_S16x4096x3_S16x2_S16x3_1_01_n_n_01_1_113 x i) : (⟨S16x4096x3, .f32⟩ : BufTy).Contents (Elt F) → (⟨S16x2, .i32⟩ : BufTy).Contents (Elt F) → (⟨S16x3, .f32⟩ : BufTy).Contents (Elt F)),
    unary main_while0b_v38 main_while0b_v39 (broadcastInDim S16x1x3 ![0, 2] bcast_S16x3_S16x1x3_0_2 : (⟨S16x3, .f32⟩ : BufTy).Contents (Elt F) → (⟨S16x1x3, .f32⟩ : BufTy).Contents (Elt F)),
    unary main_while0b_v39 main_while0b_v40 (broadcastInDim S16x4096x3 ![0, 1, 2] bcast_S16x1x3_S16x4096x3_0_1_2 : (⟨S16x1x3, .f32⟩ : BufTy).Contents (Elt F) → (⟨S16x4096x3, .f32⟩ : BufTy).Contents (Elt F)),
    binary main_v3_0 main_while0b_v40 main_while0b_v41 (subf : (⟨S16x4096x3, .f32⟩ : BufTy).Contents (Elt F) → (⟨S16x4096x3, .f32⟩ : BufTy).Contents (Elt F) → (⟨S16x4096x3, .f32⟩ : BufTy).Contents (Elt F)),
    binary main_while0b_v41 main_while0b_v41 main_while0b_v42 (mulf : (⟨S16x4096x3, .f32⟩ : BufTy).Contents (Elt F) → (⟨S16x4096x3, .f32⟩ : BufTy).Contents (Elt F) → (⟨S16x4096x3, .f32⟩ : BufTy).Contents (Elt F)),
    nullary main_while0b_cst_16 (constant S_ .f32 0x00000000#32),
    binary main_while0b_v42 main_while0b_cst_16 main_while0b_v43 ((fun x v => Host.reduceAdd x v reducesTo_S16x4096x3_S16x4096_d2 h_S_) : (⟨S16x4096x3, .f32⟩ : BufTy).Contents (Elt F) → (⟨S_, .f32⟩ : BufTy).Contents (Elt F) → (⟨S16x4096, .f32⟩ : BufTy).Contents (Elt F)),
    binary main_v3_4 main_while0b_v43 main_while0b_v44 (minimumf : (⟨S16x4096, .f32⟩ : BufTy).Contents (Elt F) → (⟨S16x4096, .f32⟩ : BufTy).Contents (Elt F) → (⟨S16x4096, .f32⟩ : BufTy).Contents (Elt F)),
    TRef.nullary (TRef.of (T := ⟨S16x4096, .i32⟩) main_while0b_call0_v0) (iotaInDim S16x4096 32 1),
    TRef.nullary (TRef.of (T := ⟨S_, .f32⟩) main_while0b_call0_cst) (constant S_ .f32 0xFF800000#32),
    TRef.nullary (TRef.of (T := ⟨S_, .i32⟩) main_while0b_call0_c) (constantI S_ 32 0#32),
    TRef.quaternary (TRef.of (T := ⟨S16x4096, .f32⟩) main_while0b_v44) (TRef.of (T := ⟨S16x4096, .i32⟩) main_while0b_call0_v0) (TRef.of (T := ⟨S_, .f32⟩) main_while0b_call0_cst) (TRef.of (T := ⟨S_, .i32⟩) main_while0b_call0_c) (TRef.of (T := ⟨S16, .f32⟩) main_while0b_call0_v1_0) (fun x y u v j => (Host.argReduce reducer_argmax_f32_i32 x y u v reducesTo_S16x4096_S16_d1 h_S_ j).1),
    TRef.quaternary (TRef.of (T := ⟨S16x4096, .f32⟩) main_while0b_v44) (TRef.of (T := ⟨S16x4096, .i32⟩) main_while0b_call0_v0) (TRef.of (T := ⟨S_, .f32⟩) main_while0b_call0_cst) (TRef.of (T := ⟨S_, .i32⟩) main_while0b_call0_c) (TRef.of (T := ⟨S16, .i32⟩) main_while0b_v45) (fun x y u v j => (Host.argReduce reducer_argmax_f32_i32 x y u v reducesTo_S16x4096_S16_d1 h_S_ j).2),
    nullary main_while0b_c_17 (constantI S_ 32 1#32),
    binary main_v3_1 main_while0b_c_17 main_while0b_v46 (addi : (⟨S_, .i32⟩ : BufTy).Contents (Elt F) → (⟨S_, .i32⟩ : BufTy).Contents (Elt F) → (⟨S_, .i32⟩ : BufTy).Contents (Elt F)),
    unary main_while0b_v46 main_v3_1 id,
    unary main_while0b_v17 main_v3_2 id,
    unary main_while0b_v23 main_v3_3 id,
    unary main_while0b_v44 main_v3_4 id,
    unary main_while0b_v45 main_v3_5 id ]

/-- The operations after the loop. -/
def restOps : List (HloOp τ sig (Elt F)) :=
  [ unary main_v3_3 main_v4 (broadcastInDim S16x128x1 ![0, 1] bcast_S16x128_S16x128x1_0_1 : (⟨S16x128, .i32⟩ : BufTy).Contents (Elt F) → (⟨S16x128x1, .i32⟩ : BufTy).Contents (Elt F)),
    unary main_v4 main_v5 (broadcastInDim S16x128x3 ![0, 1, 2] bcast_S16x128x1_S16x128x3_0_1_2 : (⟨S16x128x1, .i32⟩ : BufTy).Contents (Elt F) → (⟨S16x128x3, .i32⟩ : BufTy).Contents (Elt F)),
    TRef.nullary (TRef.of (T := ⟨S_, .i32⟩) main_call1_c) (constantI S_ 32 0#32),
    TRef.unary (TRef.of (T := ⟨S_, .i32⟩) main_call1_c) (TRef.of (T := ⟨S16x128x3, .i32⟩) main_call1_v0) (broadcastInDim S16x128x3 ![] bcast_S_S16x128x3),
    TRef.binary (TRef.of (T := ⟨S16x128x3, .i32⟩) main_v5) (TRef.of (T := ⟨S16x128x3, .i32⟩) main_call1_v0) (TRef.of (T := ⟨S16x128x3, .i1⟩) main_call1_v1) (cmpi .slt),
    TRef.nullary (TRef.of (T := ⟨S_, .i32⟩) main_call1_c_0) (constantI S_ 32 4096#32),
    TRef.unary (TRef.of (T := ⟨S_, .i32⟩) main_call1_c_0) (TRef.of (T := ⟨S16x128x3, .i32⟩) main_call1_v2) (broadcastInDim S16x128x3 ![] bcast_S_S16x128x3),
    TRef.binary (TRef.of (T := ⟨S16x128x3, .i32⟩) main_v5) (TRef.of (T := ⟨S16x128x3, .i32⟩) main_call1_v2) (TRef.of (T := ⟨S16x128x3, .i32⟩) main_call1_v3) addi,
    TRef.ternary (TRef.of (T := ⟨S16x128x3, .i1⟩) main_call1_v1) (TRef.of (T := ⟨S16x128x3, .i32⟩) main_call1_v3) (TRef.of (T := ⟨S16x128x3, .i32⟩) main_v5) (TRef.of (T := ⟨S16x128x3, .i32⟩) main_call1_v4) select,
    TRef.reshape (TRef.of (T := ⟨S16x128x3, .i32⟩) main_call1_v4) (TRef.of (T := ⟨S16x128x3x1, .i32⟩) main_call1_v5) (rfl : (.i32 : EltTy) = .i32) shapeCasts_S16x128x3_S16x128x3x1,
    TRef.nullary (TRef.of (T := ⟨S1, .i32⟩) main_call1_c_1) (constantI S1 32 4095#32),
    TRef.nullary (TRef.of (T := ⟨S_, .i32⟩) main_call1_c_2) (constantI S_ 32 0#32),
    TRef.unary (TRef.of (T := ⟨S_, .i32⟩) main_call1_c_2) (TRef.of (T := ⟨S16x128x3x1, .i32⟩) main_call1_v6) (broadcastInDim S16x128x3x1 ![] bcast_S_S16x128x3x1),
    TRef.binary (TRef.of (T := ⟨S16x128x3x1, .i32⟩) main_call1_v5) (TRef.of (T := ⟨S16x128x3x1, .i32⟩) main_call1_v6) (TRef.of (T := ⟨S16x128x3x1, .i1⟩) main_call1_v7) (cmpi .sge),
    TRef.unary (TRef.of (T := ⟨S1, .i32⟩) main_call1_c_1) (TRef.of (T := ⟨S1x1x1x1, .i32⟩) main_call1_v8) (broadcastInDim S1x1x1x1 ![3] bcast_S1_S1x1x1x1_3),
    TRef.unary (TRef.of (T := ⟨S1x1x1x1, .i32⟩) main_call1_v8) (TRef.of (T := ⟨S16x128x3x1, .i32⟩) main_call1_v9) (broadcastInDim S16x128x3x1 ![0, 1, 2, 3] bcast_S1x1x1x1_S16x128x3x1_0_1_2_3),
    TRef.binary (TRef.of (T := ⟨S16x128x3x1, .i32⟩) main_call1_v5) (TRef.of (T := ⟨S16x128x3x1, .i32⟩) main_call1_v9) (TRef.of (T := ⟨S16x128x3x1, .i1⟩) main_call1_v10) (cmpi .sle),
    TRef.binary (TRef.of (T := ⟨S16x128x3x1, .i1⟩) main_call1_v7) (TRef.of (T := ⟨S16x128x3x1, .i1⟩) main_call1_v10) (TRef.of (T := ⟨S16x128x3x1, .i1⟩) main_call1_v11) andi,
    TRef.nullary (TRef.of (T := ⟨S_, .i1⟩) main_call1_c_3) (constantI S_ 1 1#1),
    TRef.binary (TRef.of (T := ⟨S16x128x3x1, .i1⟩) main_call1_v11) (TRef.of (T := ⟨S_, .i1⟩) main_call1_c_3) (TRef.of (T := ⟨S16x128x3, .i1⟩) main_call1_v12) (fun x v => Host.reduce IntOp.andi x v reducesTo_S16x128x3x1_S16x128x3_d3 h_S_),
    TRef.binary (TRef.of (T := ⟨S16x4096x3, .f32⟩) main_arg0) (TRef.of (T := ⟨S16x128x3x1, .i32⟩) main_call1_v5) (TRef.of (T := ⟨S16x128x3, .f32⟩) main_call1_v13) (fun x i => Host.gather gather_S16x4096x3_S16x128x3x1_S16x128x3_n_1_02_02_1_3_111 x i),
    TRef.nullary (TRef.of (T := ⟨S_, .f32⟩) main_call1_cst) (constant S_ .f32 0x7FC00000#32),
    TRef.unary (TRef.of (T := ⟨S_, .f32⟩) main_call1_cst) (TRef.of (T := ⟨S16x128x3, .f32⟩) main_call1_v14) (broadcastInDim S16x128x3 ![] bcast_S_S16x128x3),
    TRef.ternary (TRef.of (T := ⟨S16x128x3, .i1⟩) main_call1_v12) (TRef.of (T := ⟨S16x128x3, .f32⟩) main_call1_v13) (TRef.of (T := ⟨S16x128x3, .f32⟩) main_call1_v14) (TRef.of (T := ⟨S16x128x3, .f32⟩) main_v6) select,
    unary main_v6 main_v7 (broadcastInDim S16x128x1x3 ![0, 1, 3] bcast_S16x128x3_S16x128x1x3_0_1_3 : (⟨S16x128x3, .f32⟩ : BufTy).Contents (Elt F) → (⟨S16x128x1x3, .f32⟩ : BufTy).Contents (Elt F)),
    unary main_arg0 main_v8 (broadcastInDim S16x1x4096x3 ![0, 2, 3] bcast_S16x4096x3_S16x1x4096x3_0_2_3 : (⟨S16x4096x3, .f32⟩ : BufTy).Contents (Elt F) → (⟨S16x1x4096x3, .f32⟩ : BufTy).Contents (Elt F)),
    unary main_v7 main_v9 (broadcastInDim S16x128x4096x3 ![0, 1, 2, 3] bcast_S16x128x1x3_S16x128x4096x3_0_1_2_3 : (⟨S16x128x1x3, .f32⟩ : BufTy).Contents (Elt F) → (⟨S16x128x4096x3, .f32⟩ : BufTy).Contents (Elt F)),
    unary main_v8 main_v10 (broadcastInDim S16x128x4096x3 ![0, 1, 2, 3] bcast_S16x1x4096x3_S16x128x4096x3_0_1_2_3 : (⟨S16x1x4096x3, .f32⟩ : BufTy).Contents (Elt F) → (⟨S16x128x4096x3, .f32⟩ : BufTy).Contents (Elt F)),
    binary main_v9 main_v10 main_v11 (subf : (⟨S16x128x4096x3, .f32⟩ : BufTy).Contents (Elt F) → (⟨S16x128x4096x3, .f32⟩ : BufTy).Contents (Elt F) → (⟨S16x128x4096x3, .f32⟩ : BufTy).Contents (Elt F)),
    binary main_v11 main_v11 main_v12 (mulf : (⟨S16x128x4096x3, .f32⟩ : BufTy).Contents (Elt F) → (⟨S16x128x4096x3, .f32⟩ : BufTy).Contents (Elt F) → (⟨S16x128x4096x3, .f32⟩ : BufTy).Contents (Elt F)),
    nullary main_cst_3 (constant S_ .f32 0x00000000#32),
    binary main_v12 main_cst_3 main_v13 ((fun x v => Host.reduceAdd x v reducesTo_S16x128x4096x3_S16x128x4096_d3 h_S_) : (⟨S16x128x4096x3, .f32⟩ : BufTy).Contents (Elt F) → (⟨S_, .f32⟩ : BufTy).Contents (Elt F) → (⟨S16x128x4096, .f32⟩ : BufTy).Contents (Elt F)),
    unary main_v13 main_v14 (Host.negf : (⟨S16x128x4096, .f32⟩ : BufTy).Contents (Elt F) → (⟨S16x128x4096, .f32⟩ : BufTy).Contents (Elt F)),
    unary main_v14 main_values ((fun x => (Host.topK S16x128x32 2 (FloatOps.cmpfTotal .gt) x sliceFits_S16x128x4096_S16x128x32).1) : (⟨S16x128x4096, .f32⟩ : BufTy).Contents (Elt F) → (⟨S16x128x32, .f32⟩ : BufTy).Contents (Elt F)),
    unary main_v14 main_indices ((fun x => (Host.topK S16x128x32 2 (FloatOps.cmpfTotal .gt) x sliceFits_S16x128x4096_S16x128x32).2) : (⟨S16x128x4096, .f32⟩ : BufTy).Contents (Elt F) → (⟨S16x128x32, .i32⟩ : BufTy).Contents (Elt F)),
    unary main_v6 main_v15 ((transpose S16x3x128 [0, 2, 1] · transposes_S16x128x3_S16x3x128_0_2_1) : (⟨S16x128x3, .f32⟩ : BufTy).Contents (Elt F) → (⟨S16x3x128, .f32⟩ : BufTy).Contents (Elt F)),
    unary main_indices main_v16 ((transpose S16x32x128 [0, 2, 1] · transposes_S16x128x32_S16x32x128_0_2_1) : (⟨S16x128x32, .i32⟩ : BufTy).Contents (Elt F) → (⟨S16x32x128, .i32⟩ : BufTy).Contents (Elt F)) ]

theorem entryOps_sub : (entryOps : List (HloOp τ sig (Elt F))).Forall fun op => op.bufs ⊆ tcRefs τ sig :=
  ⟨nullary_bufs_sub .., unary_bufs_sub .., nullary_bufs_sub .., unary_bufs_sub .., nullary_bufs_sub .., unary_bufs_sub .., nullary_bufs_sub .., nullary_bufs_sub .., unary_bufs_sub .., unary_bufs_sub .., unary_bufs_sub .., unary_bufs_sub .., unary_bufs_sub .., unary_bufs_sub ..⟩

theorem testOps_sub : (testOps : List (HloOp τ sig (Elt F))).Forall fun op => op.bufs ⊆ tcRefs τ sig :=
  ⟨nullary_bufs_sub .., binary_bufs_sub ..⟩

theorem tripOps_sub : (tripOps : List (HloOp τ sig (Elt F))).Forall fun op => op.bufs ⊆ tcRefs τ sig :=
  ⟨nullary_bufs_sub .., binary_bufs_sub .., nullary_bufs_sub .., binary_bufs_sub .., nullary_bufs_sub .., binary_bufs_sub .., ternary_bufs_sub .., unary_bufs_sub .., unary_bufs_sub .., ternary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., binary_bufs_sub .., unary_bufs_sub .., unary_bufs_sub .., binary_bufs_sub .., binary_bufs_sub .., nullary_bufs_sub .., binary_bufs_sub .., binary_bufs_sub .., nullary_bufs_sub .., nullary_bufs_sub .., nullary_bufs_sub .., quaternary_bufs_sub .., quaternary_bufs_sub .., nullary_bufs_sub .., binary_bufs_sub .., unary_bufs_sub .., unary_bufs_sub .., unary_bufs_sub .., unary_bufs_sub .., unary_bufs_sub ..⟩

theorem restOps_sub : (restOps : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., unary_bufs_sub .., unary_bufs_sub .., unary_bufs_sub .., unary_bufs_sub .., binary_bufs_sub .., binary_bufs_sub .., nullary_bufs_sub .., binary_bufs_sub .., unary_bufs_sub .., unary_bufs_sub .., unary_bufs_sub .., unary_bufs_sub .., unary_bufs_sub ..⟩

/-! ## What a trip computes -/

/-- The batch's own row numbers. -/
def batchNo : IVec S16 32 :=
  select (cmpi .slt (iotaInDim S16 32 0) (broadcastInDim S16 ![] bcast_S_S16 (constantI S_ 32 0#32)))
    (addi (iotaInDim S16 32 0) (broadcastInDim S16 ![] bcast_S_S16 (constantI S_ 32 16#32))) (iotaInDim S16 32 0)

/-- A point number, counted from the end if it is negative. -/
def pointNo (f : IVec S16 32) : IVec S16 32 :=
  select (cmpi .slt f (broadcastInDim S16 ![] bcast_S_S16 (constantI S_ 32 0#32)))
    (addi f (broadcastInDim S16 ![] bcast_S_S16 (constantI S_ 32 4096#32))) f

/-- The point of each batch that `f` names. -/
def picked (x : FVec F S16x4096x3 .f32) (f : IVec S16 32) : FVec F S16x3 .f32 :=
  Host.gather gather_S16x4096x3_S16x2_S16x3_1_01_n_n_01_1_113 x
    (concatenate S16x2 1 [⟨S16x1, broadcastInDim S16x1 ![0] bcast_S16_S16x1_0 batchNo⟩, ⟨S16x1, broadcastInDim S16x1 ![0] bcast_S16_S16x1_0 (pointNo f)⟩]
      concatenates_S16x1_S16x1_S16x2_d1)

/-- Every point's offset from the point that `f` names. -/
def offset (x : FVec F S16x4096x3 .f32) (f : IVec S16 32) : FVec F S16x4096x3 .f32 :=
  subf x (broadcastInDim S16x4096x3 ![0, 1, 2] bcast_S16x1x3_S16x4096x3_0_1_2 (broadcastInDim S16x1x3 ![0, 2] bcast_S16x3_S16x1x3_0_2 (picked x f)))

/-- The squared distances, each the lesser of what it was and the one from the point that `f` names. -/
def lesser (x : FVec F S16x4096x3 .f32) (d : FVec F S16x4096 .f32) (f : IVec S16 32) : FVec F S16x4096 .f32 :=
  minimumf d (Host.reduceAdd (mulf (offset x f) (offset x f)) (constant S_ .f32 0x00000000#32) reducesTo_S16x4096x3_S16x4096_d2 h_S_)

/-- The first point at the greatest distance. -/
def farthest (d : FVec F S16x4096 .f32) : IVec S16 32 := fun j =>
  (Host.argReduce reducer_argmax_f32_i32 d (iotaInDim S16x4096 32 1) (constant S_ .f32 0xFF800000#32) (constantI S_ 32 0#32) reducesTo_S16x4096_S16_d1 h_S_ j).2

/-- The table of chosen points with column `i` set to `f`. -/
def chosen (t : IVec S16x128 32) (i : IVec S_ 32) (f : IVec S16 32) : IVec S16x128 32 :=
  Host.scatter scatter_S16x128_S1_S16_0_1_1_0 (fun _ b => b) t
    (broadcastInDim S1 ![] bcast_S_S1 (select (cmpi .slt i (constantI S_ 32 0#32)) (addi i (constantI S_ 32 128#32)) i)) f

variable (W : Valuation τ sig (Elt F))

/-- One trip with its test before it. -/
def trip : Valuation τ sig (Elt F) := after tripOps (after testOps W)

theorem trip_arg : trip W (Proc.devRef .tc main_arg0) = (W (Proc.devRef .tc main_arg0)) := by
  unfold trip
  simp only [tripOps, testOps, TRef.binary, TRef.nullary, TRef.quaternary, TRef.ternary, TRef.unary, TRef.toBuf, TRef.ofBuf, cast_eq]
  after_results_simp <;> rfl

theorem trip_cloud : trip W (Proc.devRef .tc main_v3_0) = (W (Proc.devRef .tc main_v3_0)) := by
  unfold trip
  simp only [tripOps, testOps, TRef.binary, TRef.nullary, TRef.quaternary, TRef.ternary, TRef.unary, TRef.toBuf, TRef.ofBuf, cast_eq]
  after_results_simp <;> rfl

theorem trip_count : trip W (Proc.devRef .tc main_v3_1) = addi (W (Proc.devRef .tc main_v3_1)) (constantI S_ 32 1#32) := by
  unfold trip
  simp only [tripOps, testOps, TRef.binary, TRef.nullary, TRef.quaternary, TRef.ternary, TRef.unary, TRef.toBuf, TRef.ofBuf, cast_eq]
  after_results_simp <;> rfl

theorem trip_index : trip W (Proc.devRef .tc main_v3_2) = addi (W (Proc.devRef .tc main_v3_2)) (constantI S_ 32 1#32) := by
  unfold trip
  simp only [tripOps, testOps, TRef.binary, TRef.nullary, TRef.quaternary, TRef.ternary, TRef.unary, TRef.toBuf, TRef.ofBuf, cast_eq]
  after_results_simp <;> rfl

theorem trip_chosen : trip W (Proc.devRef .tc main_v3_3) = chosen (W (Proc.devRef .tc main_v3_3)) (W (Proc.devRef .tc main_v3_2)) (W (Proc.devRef .tc main_v3_5)) := by
  unfold trip chosen
  simp only [tripOps, testOps, TRef.binary, TRef.nullary, TRef.quaternary, TRef.ternary, TRef.unary, TRef.toBuf, TRef.ofBuf, cast_eq]
  after_results_simp
  simp only [id]

theorem trip_lesser : trip W (Proc.devRef .tc main_v3_4) = lesser (F := F) (W (Proc.devRef .tc main_v3_0)) (W (Proc.devRef .tc main_v3_4)) (W (Proc.devRef .tc main_v3_5)) := by
  unfold trip
  simp only [tripOps, testOps, TRef.binary, TRef.nullary, TRef.quaternary, TRef.ternary, TRef.unary, TRef.toBuf, TRef.ofBuf, cast_eq]
  after_results_simp <;> rfl

theorem trip_farthest : trip W (Proc.devRef .tc main_v3_5) = farthest (F := F) (lesser (W (Proc.devRef .tc main_v3_0)) (W (Proc.devRef .tc main_v3_4)) (W (Proc.devRef .tc main_v3_5))) := by
  unfold trip
  simp only [tripOps, testOps, TRef.binary, TRef.nullary, TRef.quaternary, TRef.ternary, TRef.unary, TRef.toBuf, TRef.ofBuf, cast_eq]
  after_results_simp <;> rfl

theorem body_chain : (main_while0_body : Prog (TpuEff nD τ sig (Elt F) _ .tc) PUnit) = Pipeline.chain ([tripOps].map fun ops => (seq ops : Prog _ PUnit)) := by
  chain_rfl

theorem main_chain (c : Dev nD) : main (F := F) c = Pipeline.chain (([entryOps].map fun ops => (seq ops : Prog _ PUnit)) ++ HostLoop.enter 0 :: [restOps].map fun ops => (seq ops : Prog _ PUnit)) := by
  chain_rfl

/-! ## The carried values before every trip -/

/-- The distances and the point chosen next, before trip `k`. -/
def state (x : FVec F S16x4096x3 .f32) : ℕ → FVec F S16x4096 .f32 × IVec S16 32
  | 0 => (broadcastInDim S16x4096 ![] bcast_S_S16x4096 (constant S_ .f32 0x7F800000#32), broadcastInDim S16 ![] bcast_S_S16 (constantI S_ 32 0#32))
  | k + 1 => (lesser x (state x k).1 (state x k).2, farthest (lesser x (state x k).1 (state x k).2))

theorem state_succ (x : FVec F S16x4096x3 .f32) (k : ℕ) :
    state x (k + 1) = (lesser x (state x k).1 (state x k).2, farthest (lesser x (state x k).1 (state x k).2)) := by
  rw [state]

/-- The table of chosen points before trip `k`. -/
def table (x : FVec F S16x4096x3 .f32) : ℕ → IVec S16x128 32
  | 0 => broadcastInDim S16x128 ![] bcast_S_S16x128 (constantI S_ 32 0#32)
  | k + 1 => chosen (table x k) (fun _ => Scf.iv 0#32 1#32 k) (state x k).2

variable (m : (ℓ : Loc nD τ sig) → Buf (Elt F) ℓ) (ρ : Dev nD → PrngReg) (c : Dev nD)

abbrev entry : Dev nD → Valuation τ sig (Elt F) := entryContents [entryOps] m

/-- The argument of device `c`. -/
abbrev arg : FVec F S16x4096x3 .f32 := m ((c.tc : Thread nD τ).loc main_arg0)

/-- Every buffer before the `k`-th test. -/
abbrev before (k : ℕ) (c : Dev nD) : Valuation τ sig (Elt F) := atTrip testOps [tripOps] (entry m) k c

theorem before_succ (k : ℕ) : before m (k + 1) c = trip (before m k c) := rfl

theorem entry_arg : before m 0 c (Proc.devRef .tc main_arg0) = arg m c := by
  show after entryOps (launchContents m c) (Proc.devRef .tc main_arg0) = _
  simp only [entryOps]
  after_results_simp <;> rfl

theorem entry_cloud : before m 0 c (Proc.devRef .tc main_v3_0) = arg m c := by
  show after entryOps (launchContents m c) (Proc.devRef .tc main_v3_0) = _
  simp only [entryOps]
  after_results_simp <;> rfl

theorem entry_count : before m 0 c (Proc.devRef .tc main_v3_1) = fun _ => 0#32 := by
  show after entryOps (launchContents m c) (Proc.devRef .tc main_v3_1) = _
  simp only [entryOps]
  after_results_simp <;> rfl

theorem entry_index : before m 0 c (Proc.devRef .tc main_v3_2) = fun _ => 0#32 := by
  show after entryOps (launchContents m c) (Proc.devRef .tc main_v3_2) = _
  simp only [entryOps]
  after_results_simp <;> rfl

theorem entry_chosen : before m 0 c (Proc.devRef .tc main_v3_3) = table (arg m c) 0 := by
  show after entryOps (launchContents m c) (Proc.devRef .tc main_v3_3) = _
  simp only [entryOps]
  after_results_simp <;> rfl

theorem entry_lesser : before m 0 c (Proc.devRef .tc main_v3_4) = (state (arg m c) 0).1 := by
  show after entryOps (launchContents m c) (Proc.devRef .tc main_v3_4) = _
  simp only [entryOps]
  after_results_simp <;> rfl

theorem entry_farthest : before m 0 c (Proc.devRef .tc main_v3_5) = (state (arg m c) 0).2 := by
  show after entryOps (launchContents m c) (Proc.devRef .tc main_v3_5) = _
  simp only [entryOps]
  after_results_simp <;> rfl

theorem before_arg (k : ℕ) : before m k c (Proc.devRef .tc main_arg0) = arg m c := by
  induction k with
  | zero => exact entry_arg m c
  | succ k ih => rw [before_succ, trip_arg, ih]

theorem before_cloud (k : ℕ) : before m k c (Proc.devRef .tc main_v3_0) = arg m c := by
  induction k with
  | zero => exact entry_cloud m c
  | succ k ih => rw [before_succ, trip_cloud, ih]

theorem before_count (k : ℕ) : before m k c (Proc.devRef .tc main_v3_1) = fun _ => Scf.iv 0#32 1#32 k := by
  induction k with
  | zero => rw [entry_count, Scf.iv_zero]
  | succ k ih => rw [before_succ, trip_count, ih, Scf.iv_succ]; rfl

theorem before_index (k : ℕ) : before m k c (Proc.devRef .tc main_v3_2) = fun _ => Scf.iv 0#32 1#32 k := by
  induction k with
  | zero => rw [entry_index, Scf.iv_zero]
  | succ k ih => rw [before_succ, trip_index, ih, Scf.iv_succ]; rfl

theorem before_state (k : ℕ) : before m k c (Proc.devRef .tc main_v3_4) = (state (arg m c) k).1
    ∧ before m k c (Proc.devRef .tc main_v3_5) = (state (arg m c) k).2 := by
  induction k with
  | zero => exact ⟨entry_lesser m c, entry_farthest m c⟩
  | succ k ih =>
    rw [before_succ, trip_lesser, trip_farthest, ih.1, ih.2, before_cloud, state_succ]
    dsimp only
    exact ⟨Eq.refl _, Eq.refl _⟩

theorem before_table (k : ℕ) : before m k c (Proc.devRef .tc main_v3_3) = table (arg m c) k := by
  induction k with
  | zero => exact entry_chosen m c
  | succ k ih => rw [before_succ, trip_chosen, ih, before_index, (before_state m c k).2]; rfl

/-! ## After the loop -/

/-- The chosen points' numbers, once per coordinate. -/
def place (t : IVec S16x128 32) : IVec S16x128x3 32 :=
  broadcastInDim S16x128x3 ![0, 1, 2] bcast_S16x128x1_S16x128x3_0_1_2 (broadcastInDim S16x128x1 ![0, 1] bcast_S16x128_S16x128x1_0_1 t)

/-- The same, counted from the end where negative. -/
def placeNo (t : IVec S16x128 32) : IVec S16x128x3x1 32 :=
  shapeCast S16x128x3x1 (select (cmpi .slt (place t) (broadcastInDim S16x128x3 ![] bcast_S_S16x128x3 (constantI S_ 32 0#32)))
    (addi (place t) (broadcastInDim S16x128x3 ![] bcast_S_S16x128x3 (constantI S_ 32 4096#32))) (place t)) shapeCasts_S16x128x3_S16x128x3x1

/-- Which of them number a point. -/
def inside (t : IVec S16x128 32) : IVec S16x128x3 1 :=
  Host.reduce IntOp.andi (andi (cmpi .sge (placeNo t) (broadcastInDim S16x128x3x1 ![] bcast_S_S16x128x3x1 (constantI S_ 32 0#32)))
    (cmpi .sle (placeNo t) (broadcastInDim S16x128x3x1 ![0, 1, 2, 3] bcast_S1x1x1x1_S16x128x3x1_0_1_2_3 (broadcastInDim S1x1x1x1 ![3] bcast_S1_S1x1x1x1_3 (constantI S1 32 4095#32)))))
    (constantI S_ 1 1#1) reducesTo_S16x128x3x1_S16x128x3_d3 h_S_

/-- The chosen points. -/
def taken (x : FVec F S16x4096x3 .f32) (t : IVec S16x128 32) : FVec F S16x128x3 .f32 :=
  select (inside t) (Host.gather gather_S16x4096x3_S16x128x3x1_S16x128x3_n_1_02_02_1_3_111 x (placeNo t))
    (broadcastInDim S16x128x3 ![] bcast_S_S16x128x3 (constant S_ .f32 0x7FC00000#32))

/-- Every point's offset from every chosen point. -/
def offsets (x : FVec F S16x4096x3 .f32) (p : FVec F S16x128x3 .f32) : FVec F S16x128x4096x3 .f32 :=
  subf (broadcastInDim S16x128x4096x3 ![0, 1, 2, 3] bcast_S16x128x1x3_S16x128x4096x3_0_1_2_3 (broadcastInDim S16x128x1x3 ![0, 1, 3] bcast_S16x128x3_S16x128x1x3_0_1_3 p))
    (broadcastInDim S16x128x4096x3 ![0, 1, 2, 3] bcast_S16x1x4096x3_S16x128x4096x3_0_1_2_3 (broadcastInDim S16x1x4096x3 ![0, 2, 3] bcast_S16x4096x3_S16x1x4096x3_0_2_3 x))

/-- Every point's squared distance from every chosen point. -/
def apart (x : FVec F S16x4096x3 .f32) (p : FVec F S16x128x3 .f32) : FVec F S16x128x4096 .f32 :=
  Host.reduceAdd (mulf (offsets x p) (offsets x p)) (constant S_ .f32 0x00000000#32) reducesTo_S16x128x4096x3_S16x128x4096_d3 h_S_

/-- The numbers of the 32 points nearest to every chosen point. -/
def nearest (x : FVec F S16x4096x3 .f32) (p : FVec F S16x128x3 .f32) : IVec S16x128x32 32 :=
  (Host.topK S16x128x32 2 (FloatOps.cmpfTotal .gt) (Host.negf (apart x p)) sliceFits_S16x128x4096_S16x128x32).2

theorem rest_arg : after restOps W (Proc.devRef .tc main_arg0) = W (Proc.devRef .tc main_arg0) := by
  simp only [restOps, TRef.binary, TRef.nullary, TRef.reshape, TRef.quaternary, TRef.ternary, TRef.unary, TRef.toBuf, TRef.ofBuf, cast_eq]
  after_results_simp <;> rfl

theorem rest_chosen : after restOps W (Proc.devRef .tc main_v6) = taken (F := F) (W (Proc.devRef .tc main_arg0)) (W (Proc.devRef .tc main_v3_3)) := by
  simp only [restOps, TRef.binary, TRef.nullary, TRef.reshape, TRef.quaternary, TRef.ternary, TRef.unary, TRef.toBuf, TRef.ofBuf, cast_eq]
  after_results_simp <;> rfl

theorem rest_centers : after restOps W (Proc.devRef .tc main_v15)
    = transpose S16x3x128 [0, 2, 1] (taken (F := F) (W (Proc.devRef .tc main_arg0)) (W (Proc.devRef .tc main_v3_3))) transposes_S16x128x3_S16x3x128_0_2_1 := by
  simp only [restOps, TRef.binary, TRef.nullary, TRef.reshape, TRef.quaternary, TRef.ternary, TRef.unary, TRef.toBuf, TRef.ofBuf, cast_eq]
  after_results_simp <;> rfl

theorem rest_nearest : after restOps W (Proc.devRef .tc main_v16)
    = transpose S16x32x128 [0, 2, 1] (nearest (F := F) (W (Proc.devRef .tc main_arg0)) (taken (F := F) (W (Proc.devRef .tc main_arg0)) (W (Proc.devRef .tc main_v3_3))))
      transposes_S16x128x32_S16x32x128_0_2_1 := by
  simp only [restOps, TRef.binary, TRef.nullary, TRef.reshape, TRef.quaternary, TRef.ternary, TRef.unary, TRef.toBuf, TRef.ofBuf, cast_eq]
  after_results_simp <;> rfl

/-! ## The run -/

theorem trips_eq : Scf.trips (0#32 : BitVec 32) 128#32 1#32 = 128 := by decide +kernel

theorem lists_plain (ops : List (HloOp τ sig (Elt F))) (h : ops.Forall fun op => op.bufs ⊆ tcRefs τ sig) (hf : ∀ op ∈ ops, op.fresh = ∅) : Plain [ops] :=
  .cons h .nil hf

set_option backward.isDefEq.respectTransparency.types false in
/-- The test, run for the `k`-th time, is passed while `k` is below the number of trips. -/
theorem test_spec : CondSpec (pcfgs (F := F)) defs₀ loops main_while0_cond testOps [tripOps] (entry m) 128 := by
  intro k hk c bd
  have hctr := before_count m c k
  unfold main_while0_cond
  rw [wp_bind]
  iintro ⟨Hb, Hh⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (before m k c) main_v3_1 HostLoop.idx0)
        (HloOp.result _ (before m k c) main_while0c_c_9 HostLoop.idx0) = 1#1) (k < 128)
    rw [StableHlo.nullary_result_ne _ _ _ _ (by decide), StableHlo.nullary_result, hctr]
    exact (Scf.cmpi_slt_iv_ub_iff (Facts₀.main_while0_ok) (by rw [trips_eq]; exact hk)).trans (by rw [trips_eq])
  isplitl [Hb]; · iexact Hb
  unfold testOps; rw [StableHlo.after_cons, StableHlo.after_cons, StableHlo.after_nil]; iexact Hh

/-- Every buffer at the end. -/
abbrev final (c : Dev nD) : Valuation τ sig (Elt F) := finalContents testOps [entryOps] [tripOps] [restOps] 128 m c

theorem run_all : θ_run defs (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  run_loop pcfgs defs₀ loops main 0 main_while0_cond main_while0_body rfl [entryOps] [tripOps] [restOps] testOps
    (.cons entryOps_sub .nil) (.cons tripOps_sub .nil) (.cons restOps_sub .nil) main_chain body_chain 128 m ρ (test_spec m)

/-- Every buffer when the loop is left. -/
abbrev left (c : Dev nD) : Valuation τ sig (Elt F) := after testOps (before m 128 c)

theorem left_arg : left m c (Proc.devRef .tc main_arg0) = arg m c := by
  rw [← before_arg m c 128]; unfold left; simp only [testOps]; after_results_simp

theorem left_table : left m c (Proc.devRef .tc main_v3_3) = table (arg m c) 128 := by
  rw [← before_table m c 128]; unfold left; simp only [testOps]; after_results_simp

theorem final_arg : final m c (Proc.devRef .tc main_arg0) = arg m c :=
  (rest_arg (left m c)).trans (left_arg m c)

theorem final_chosen : final m c (Proc.devRef .tc main_v6) = taken (arg m c) (table (arg m c) 128) :=
  (rest_chosen (left m c)).trans (by rw [left_arg, left_table])

theorem final_centers : final m c (Proc.devRef .tc main_v15)
    = transpose S16x3x128 [0, 2, 1] (taken (arg m c) (table (arg m c) 128)) transposes_S16x128x3_S16x3x128_0_2_1 :=
  (rest_centers (left m c)).trans (by rw [left_arg, left_table])

theorem final_nearest : final m c (Proc.devRef .tc main_v16)
    = transpose S16x32x128 [0, 2, 1] (nearest (arg m c) (taken (arg m c) (table (arg m c) 128))) transposes_S16x128x32_S16x32x128_0_2_1 :=
  (rest_nearest (left m c)).trans (by rw [left_arg, left_table])

/-- Every execution ends with the chosen points, their nearest points, and the argument as it was. -/
theorem run_ref : θ_run defs (onTc (τ := τ) (main (F := F))) ⟨m, fun _ => 0, ρ⟩ (fun r => ∀ c : Dev nD,
    (r.2.mem ((c.tc : Thread nD τ).loc main_v6) = taken (arg m c) (table (arg m c) 128)
      ∧ r.2.mem ((c.tc : Thread nD τ).loc main_v15) = transpose S16x3x128 [0, 2, 1] (taken (arg m c) (table (arg m c) 128)) transposes_S16x128x3_S16x3x128_0_2_1
      ∧ r.2.mem ((c.tc : Thread nD τ).loc main_v16)
        = transpose S16x32x128 [0, 2, 1] (nearest (arg m c) (taken (arg m c) (table (arg m c) 128))) transposes_S16x128x32_S16x32x128_0_2_1)
    ∧ r.2.mem ((c.tc : Thread nD τ).loc main_arg0) = arg m c) :=
  (θ_run defs _ _).mono (fun _ h c => ⟨⟨(h c main_v6 rfl).trans (final_chosen m c), (h c main_v15 rfl).trans (final_centers m c), (h c main_v16 rfl).trans (final_nearest m c)⟩,
    (h c main_arg0 rfl).trans (final_arg m c)⟩) (run_all m ρ)

end Cert.Proof.FpsRef

end
-- ==== Proof.FpsFirst.lean ====
/-
  First numbers: the smallest number of a point at which a condition holds, as the kernel finds it (a row's least candidate) and
  as an arg-max of the reference finds it.
-/
module

public import proofs.«01_k».proof.Proof.Gen.FpsReferenceIdeal
public import Idealize.ShloMosaic.PureOps.Ideal.Laws
public import Idealize.ShloMosaic.Lib.ValueIdxCore
public import Idealize.ShloMosaic.Lib.Pipeline.Value
public import Idealize.ShloMosaic.Lib.Affine

@[expose] public section

noncomputable section

namespace Cert.Proof.First

open Idealize.ShloMosaic Idealize.ShloMosaic.TcCoe Idealize.ShloMosaic.ValueIdx

/-- `n` is the smallest number at which `p` holds. -/
def First (p : Fin 4096 → Prop) (n : Fin 4096) : Prop := p n ∧ ∀ k, p k → n ≤ k

theorem First.unique {p : Fin 4096 → Prop} {n k : Fin 4096} (hn : First p n) (hk : First p k) : n = k :=
  le_antisymm (hn.2 k hk.1) (hk.2 n hn.1)

theorem exists_first {p : Fin 4096 → Prop} (h : ∃ n, p n) : ∃ n, First p n := by
  obtain ⟨n, hn, hm⟩ := wellFounded_lt.has_min {n | p n} h
  exact ⟨n, hn, fun k hk => not_lt.mp (hm k hk)⟩

/-- Where `v` is greatest. -/
def Top (v : Fin 4096 → EReal) (n : Fin 4096) : Prop := ∀ k, v k ≤ v n

/-- Where `v` is least. -/
def Bottom (v : Fin 4096 → EReal) (n : Fin 4096) : Prop := ∀ k, v n ≤ v k

theorem exists_top (v : Fin 4096 → EReal) : ∃ n, First (Top v) n := exists_first (Finite.exists_max v)
theorem exists_bottom (v : Fin 4096 → EReal) : ∃ n, First (Bottom v) n := exists_first (Finite.exists_min v)

/-- A number as an extended real. -/
abbrev num (n : ℕ) : EReal := ((n : ℝ) : EReal)

theorem num_le {a b : ℕ} : num a ≤ num b ↔ a ≤ b := by simp [num]
theorem num_inj {a b : ℕ} : num a = num b ↔ a = b := by simp [num]

theorem bits_4096 : Ideal.ofBits .f32 0x45800000#32 = num 4096 := by simp [Ideal.ofBits, Ideal.ieee, -EReal.coe_mul, num]; norm_num
theorem bits_top : Ideal.ofBits .f32 0x7F800000#32 = ⊤ := by simp [Ideal.ofBits, Ideal.ieee]
theorem bits_bot : Ideal.ofBits .f32 0xFF800000#32 = ⊥ := by simp [Ideal.ofBits, Ideal.ieee]

theorem toInt_num {n : ℕ} (h : n < 4097) : (BitVec.ofNat 32 n).toInt = (n : Int) := by
  rw [BitVec.toInt_eq_toNat_cond]; simp only [BitVec.toNat_ofNat]; omega

theorem num_of_word {n : ℕ} (h : n < 4097) : (((BitVec.ofNat 32 n).toInt : ℝ) : EReal) = num n := by
  rw [toInt_num h]; simp [num]

theorem word_of_num {n : ℕ} (h : n < 4097) : Ideal.fptosi 32 (num n) = BitVec.ofNat 32 n := by
  show BitVec.ofInt 32 (max (-(2 ^ 31 : ℕ) : Int) (min (((2 ^ 31 : ℕ) : Int) - 1) (if (0 : ℝ) ≤ (n : ℝ) then ⌊(n : ℝ)⌋ else ⌈(n : ℝ)⌉))) = _
  rw [if_pos (Nat.cast_nonneg n), Int.floor_natCast, min_eq_right (by norm_num; omega), max_eq_right (by norm_num)]
  exact BitVec.ofInt_natCast 32 n

theorem ofBool_iff (p : Prop) [Decidable p] : BitVec.ofBool (decide p) = 1#1 ↔ p := by
  by_cases hp : p <;> simp [hp]

/-- The comparisons of two extended reals. -/
theorem oeq_iff (x y : EReal) : FloatOps.cmpf (F := Ideal) (φ := .f32) .oeq x y = 1#1 ↔ x = y := ofBool_iff _
theorem ogt_iff (x y : EReal) : FloatOps.cmpf (F := Ideal) (φ := .f32) .ogt x y = 1#1 ↔ y < x := ofBool_iff _
theorem une_iff (x y : EReal) : FloatOps.cmpf (F := Ideal) (φ := .f32) .une x y = 1#1 ↔ x ≠ y := ofBool_iff _

variable {r : ℕ} (h : Shape.Reduces ⟨2, ![r, 4096]⟩ [1] ⟨1, ![r]⟩)

include h in
theorem drop_iff (a : Fin r) (i : (⟨2, ![r, 4096]⟩ : Shape).Idx) : h.drop i = ix1 a ↔ i 0 = a := by
  have e : (h.drop i 0).val = (i 0).val := rfl
  constructor
  · intro e'
    rw [e'] at e
    exact Fin.ext e.symm
  · rintro rfl
    funext q
    obtain rfl : q = 0 := Subsingleton.elim _ _
    exact Fin.ext e

/-- A row's maximum bounds the row. -/
theorem row_le_max (d : FVec Ideal ⟨2, ![r, 4096]⟩ .f32) (hφ : FKind.Formats .f32) (hacc : (0xFF800000#32 : BitVec 32) = FKind.maximumf.neutral .f32 hφ) (a : Fin r) (k : Fin 4096) :
    d (ix2 a k) ≤ (multiReduction .maximumf [1] ⟨1, ![r]⟩ d 0xFF800000#32 h hφ hacc (ix1 a) : EReal) := by
  rw [multiReduction_maximumf_eq_fold]
  exact (Finset.le_fold_max (b := FloatOps.ofBits (F := Ideal) .f32 0xFF800000#32) _).mpr (.inr ⟨ix2 a k, Finset.mem_filter.mpr ⟨Finset.mem_univ _, (drop_iff h a _).mpr rfl⟩, le_rfl⟩)

/-- A row's maximum is taken. -/
theorem max_taken (d : FVec Ideal ⟨2, ![r, 4096]⟩ .f32) (hφ : FKind.Formats .f32) (hacc : (0xFF800000#32 : BitVec 32) = FKind.maximumf.neutral .f32 hφ) (a : Fin r) :
    ∃ k, (multiReduction .maximumf [1] ⟨1, ![r]⟩ d 0xFF800000#32 h hφ hacc (ix1 a) : EReal) = d (ix2 a k) := by
  by_contra hne
  push Not at hne
  have hlt : (multiReduction .maximumf [1] ⟨1, ![r]⟩ d 0xFF800000#32 h hφ hacc (ix1 a) : EReal) ≤ ⊥ := by
    have e := multiReduction_maximumf_eq_fold d _ h hφ hacc (ix1 a)
    rcases (Finset.le_fold_max (b := FloatOps.ofBits (F := Ideal) .f32 0xFF800000#32) (multiReduction .maximumf [1] ⟨1, ![r]⟩ d 0xFF800000#32 h hφ hacc (ix1 a) : EReal)).mp (le_of_eq e) with hb | ⟨i, hi, hle⟩
    · exact hb.trans (le_of_eq bits_bot)
    · obtain rfl := (drop_iff h a i).mp (Finset.mem_filter.mp hi).2
      have e2 : i = ix2 (i 0) (i 1) := eq_ix2 i
      exact absurd (le_antisymm hle (e2 ▸ row_le_max h d hφ hacc (i 0) (i 1))) (by rw [e2]; exact hne (i 1))
  exact hne 0 (le_antisymm (hlt.trans bot_le) (row_le_max h d hφ hacc a 0))

/-- A row's minimum bounds the row. -/
theorem min_le_row (d : FVec Ideal ⟨2, ![r, 4096]⟩ .f32) (hφ : FKind.Formats .f32) (hacc : (0x7F800000#32 : BitVec 32) = FKind.minimumf.neutral .f32 hφ) (a : Fin r) (k : Fin 4096) :
    (multiReduction .minimumf [1] ⟨1, ![r]⟩ d 0x7F800000#32 h hφ hacc (ix1 a) : EReal) ≤ d (ix2 a k) := by
  rw [multiReduction_minimumf_eq_fold]
  exact (Finset.fold_min_le (b := FloatOps.ofBits (F := Ideal) .f32 0x7F800000#32) _).mpr (.inr ⟨ix2 a k, Finset.mem_filter.mpr ⟨Finset.mem_univ _, (drop_iff h a _).mpr rfl⟩, le_rfl⟩)

/-- A row's minimum is taken. -/
theorem min_taken (d : FVec Ideal ⟨2, ![r, 4096]⟩ .f32) (hφ : FKind.Formats .f32) (hacc : (0x7F800000#32 : BitVec 32) = FKind.minimumf.neutral .f32 hφ) (a : Fin r) :
    ∃ k, (multiReduction .minimumf [1] ⟨1, ![r]⟩ d 0x7F800000#32 h hφ hacc (ix1 a) : EReal) = d (ix2 a k) := by
  by_contra hne
  push Not at hne
  have hlt : ⊤ ≤ (multiReduction .minimumf [1] ⟨1, ![r]⟩ d 0x7F800000#32 h hφ hacc (ix1 a) : EReal) := by
    have e := multiReduction_minimumf_eq_fold d _ h hφ hacc (ix1 a)
    rcases (Finset.fold_min_le (b := FloatOps.ofBits (F := Ideal) .f32 0x7F800000#32) (multiReduction .minimumf [1] ⟨1, ![r]⟩ d 0x7F800000#32 h hφ hacc (ix1 a) : EReal)).mp (le_of_eq e.symm) with hb | ⟨i, hi, hle⟩
    · exact (le_of_eq bits_top.symm).trans hb
    · obtain rfl := (drop_iff h a i).mp (Finset.mem_filter.mp hi).2
      have e2 : i = ix2 (i 0) (i 1) := eq_ix2 i
      exact absurd (le_antisymm (e2 ▸ min_le_row h d hφ hacc (i 0) (i 1)) hle) (by rw [e2]; exact hne (i 1))
  exact hne 0 (le_antisymm (min_le_row h d hφ hacc a 0) (le_top.trans hlt))

/-- The least candidate of a row, the candidates being the numbers where `p` holds, is the first such number. -/
theorem least_number (p : Fin 4096 → Prop) (cand : FVec Ideal ⟨2, ![r, 4096]⟩ .f32) (hφ : FKind.Formats .f32) (hacc : (0x7F800000#32 : BitVec 32) = FKind.minimumf.neutral .f32 hφ) (a : Fin r)
    (hp : ∀ k, p k → cand (ix2 a k) = num k.val) (hq : ∀ k, ¬ p k → cand (ix2 a k) = num 4096) {n : Fin 4096} (hn : First p n) :
    (multiReduction .minimumf [1] ⟨1, ![r]⟩ cand 0x7F800000#32 h hφ hacc (ix1 a) : EReal) = num n.val := by
  refine le_antisymm ((min_le_row h cand hφ hacc a n).trans (le_of_eq (hp n hn.1))) ?_
  obtain ⟨k, hk⟩ := min_taken h cand hφ hacc a
  rw [hk]
  by_cases hpk : p k
  · rw [hp k hpk]; exact num_le.mpr (hn.2 k hpk)
  · rw [hq k hpk]; exact num_le.mpr (le_of_lt n.isLt)

/-! ## The arg-max -/

/-- A pair is at least as good as another: a greater value, or the same value at a number no greater. -/
def Good (p q : Ideal .f32 × BitVec 32) : Prop := (q.1 : EReal) < p.1 ∨ ((q.1 : EReal) = p.1 ∧ p.2.toInt ≤ q.2.toInt)

theorem Good.rfl' (p : Ideal .f32 × BitVec 32) : Good p p := .inr ⟨rfl, le_rfl⟩

theorem Good.trans {p q s : Ideal .f32 × BitVec 32} (h1 : Good p q) (h2 : Good q s) : Good p s := by
  rcases h1 with h1 | ⟨h1, h1'⟩ <;> rcases h2 with h2 | ⟨h2, h2'⟩
  · exact .inl (h2.trans h1)
  · exact .inl (h2 ▸ h1)
  · exact .inl (h1 ▸ h2)
  · exact .inr ⟨h2.trans h1, h1'.trans h2'⟩

theorem better (p q : Ideal .f32 × BitVec 32) :
    Good (Cert.FpsReferenceIdeal.reducer_argmax_f32_i32 p q) p ∧ Good (Cert.FpsReferenceIdeal.reducer_argmax_f32_i32 p q) q
      ∧ (Cert.FpsReferenceIdeal.reducer_argmax_f32_i32 p q = p ∨ Cert.FpsReferenceIdeal.reducer_argmax_f32_i32 p q = q) := by
  obtain ⟨x, i⟩ := p; obtain ⟨y, j⟩ := q
  have hu : FloatOps.cmpf (F := Ideal) (φ := .f32) .une x x = 0#1 := by
    rcases (by decide : ∀ b : BitVec 1, b = 0#1 ∨ b = 1#1) (FloatOps.cmpf (F := Ideal) (φ := .f32) .une x x) with h | h
    · exact h
    · exact absurd rfl ((une_iff x x).mp h)
  have zero : ∀ b : BitVec 1, b ≠ 1#1 → b = 0#1 := by decide
  unfold Cert.FpsReferenceIdeal.reducer_argmax_f32_i32 Scalar.select
  dsimp only
  rw [hu]
  rcases lt_trichotomy (x : EReal) y with hlt | heq | hgt
  · rw [zero _ fun e => absurd ((ogt_iff x y).mp e) (not_lt.mpr hlt.le), zero _ fun e => absurd ((oeq_iff x y).mp e) hlt.ne]
    have e : ∀ b : BitVec 1, IntOp.ori (IntOp.ori 0#1 0#1) (IntOp.andi 0#1 b) = 0#1 := by decide
    rw [e]
    exact ⟨.inl hlt, Good.rfl' _, .inr rfl⟩
  · rw [zero _ fun e => absurd ((ogt_iff x y).mp e) (not_lt.mpr heq.le), (oeq_iff x y).mpr heq]
    have e : ∀ b : BitVec 1, IntOp.ori (IntOp.ori 0#1 0#1) (IntOp.andi 1#1 b) = b := by decide
    rw [e]
    subst heq
    by_cases hij : IntOp.cmpi .slt i j = 1#1
    · rw [hij]
      rw [IntOp.cmpi_slt] at hij
      exact ⟨Good.rfl' _, .inr ⟨rfl, hij.le⟩, .inl rfl⟩
    · rw [zero _ hij]
      rw [IntOp.cmpi_slt] at hij
      exact ⟨.inr ⟨rfl, not_lt.mp hij⟩, Good.rfl' _, .inr rfl⟩
  · rw [(ogt_iff x y).mpr hgt]
    have e : ∀ b : BitVec 1, IntOp.ori (IntOp.ori 1#1 0#1) b = 1#1 := by decide
    rw [e]
    exact ⟨Good.rfl' _, .inl hgt, .inl rfl⟩

theorem best (L : List (Ideal .f32 × BitVec 32)) (p : Ideal .f32 × BitVec 32) :
    (∀ q ∈ p :: L, Good (L.foldl Cert.FpsReferenceIdeal.reducer_argmax_f32_i32 p) q) ∧ L.foldl Cert.FpsReferenceIdeal.reducer_argmax_f32_i32 p ∈ p :: L := by
  induction L generalizing p with
  | nil => exact ⟨fun q hq => by obtain rfl := List.mem_singleton.mp hq; exact Good.rfl' _, List.mem_singleton.mpr rfl⟩
  | cons q L ih =>
    obtain ⟨hp, hq, hm⟩ := better p q
    obtain ⟨h1, h2⟩ := ih (Cert.FpsReferenceIdeal.reducer_argmax_f32_i32 p q)
    refine ⟨fun s hs => ?_, ?_⟩
    · have h0 := h1 _ List.mem_cons_self
      rcases List.mem_cons.mp hs with rfl | hs
      · exact h0.trans hp
      rcases List.mem_cons.mp hs with rfl | hs
      · exact h0.trans hq
      · exact h1 s (List.mem_cons_of_mem _ hs)
    · rcases List.mem_cons.mp h2 with e | e
      · rw [List.foldl_cons, e]
        rcases hm with hm | hm <;> rw [hm] <;> simp
      · exact List.mem_cons_of_mem _ (List.mem_cons_of_mem _ e)

/-- The arg-max of a row is the first number at which the row is greatest. -/
theorem argmax_number (h' : Shape.ReducesTo ⟨2, ![16, 4096]⟩ [1] ⟨1, ![16]⟩) (hu : 0 < (⟨0, ![]⟩ : Shape).numel) (h : Shape.Reduces ⟨2, ![16, 4096]⟩ [1] ⟨1, ![16]⟩)
    (d : FVec Ideal ⟨2, ![16, 4096]⟩ .f32) (a : Fin 16) {n : Fin 4096} (hn : First (Top fun k => d (ix2 a k)) n) :
    (Host.argReduce Cert.FpsReferenceIdeal.reducer_argmax_f32_i32 d (iotaInDim ⟨2, ![16, 4096]⟩ 32 1) (constant ⟨0, ![]⟩ .f32 0xFF800000#32) (constantI ⟨0, ![]⟩ 32 0#32) h' hu (ix1 a)).2
      = BitVec.ofNat 32 n.val := by
  rw [Ideal.argReduce_eq_reduce2, Host.reduce2_eq_foldl_fiber]
  set L := Host.argReduceFiber d (iotaInDim ⟨2, ![16, 4096]⟩ 32 1) h' (ix1 a) with hL
  set p0 : Ideal .f32 × BitVec 32 := (constant (F := Ideal) ⟨0, ![]⟩ .f32 0xFF800000#32 (Shape.Idx.first hu), constantI ⟨0, ![]⟩ 32 0#32 (Shape.Idx.first hu)) with hp0
  have mem : ∀ q, q ∈ L ↔ ∃ k : Fin 4096, q = (d (ix2 a k), BitVec.ofNat 32 k.val) := by
    intro q
    rw [hL, Host.argReduceFiber, List.mem_map]
    constructor
    · rintro ⟨i, hi, rfl⟩
      have hd := (List.mem_filter.mp hi).2
      rw [decide_eq_true_eq, Shape.ReducesTo.drop_eq_drop h' h, drop_iff h] at hd
      have e := eq_ix2 ((⟨2, ![16, 4096]⟩ : Shape).rowMajor.symm i)
      rw [hd] at e
      exact ⟨_, by rw [e]; rfl⟩
    · rintro ⟨k, rfl⟩
      refine ⟨(⟨2, ![16, 4096]⟩ : Shape).rowMajor (ix2 a k), List.mem_filter.mpr ⟨List.mem_finRange _, ?_⟩, ?_⟩
      · rw [decide_eq_true_eq, Shape.ReducesTo.drop_eq_drop h' h, drop_iff h, Equiv.symm_apply_apply]
      · rw [Equiv.symm_apply_apply]; rfl
  obtain ⟨h1, h2⟩ := best L p0
  set z := L.foldl Cert.FpsReferenceIdeal.reducer_argmax_f32_i32 p0 with hz
  have good : ∀ k : Fin 4096, Good z (d (ix2 a k), BitVec.ofNat 32 k.val) := fun k => h1 _ (List.mem_cons_of_mem _ ((mem _).mpr ⟨k, rfl⟩))
  rcases List.mem_cons.mp h2 with e | e
  · have hz1 : (z.1 : EReal) = ⊥ := (congrArg Prod.fst e).trans bits_bot
    have hz2 : z.2 = 0#32 := congrArg Prod.snd e
    have all : ∀ k : Fin 4096, (d (ix2 a k) : EReal) = ⊥ := fun k => by
      rcases good k with g | g
      · rw [hz1] at g; exact absurd g not_lt_bot
      · exact g.1.trans hz1
    have n0 : n ≤ 0 := hn.2 0 fun k => (le_of_eq (all k)).trans bot_le
    obtain rfl : n = 0 := Fin.ext (Nat.le_zero.mp n0)
    rw [hz2]; rfl
  · obtain ⟨k, hk⟩ := (mem _).mp e
    have hz1 : (z.1 : EReal) = d (ix2 a k) := congrArg Prod.fst hk
    have hz2 : z.2 = BitVec.ofNat 32 k.val := congrArg Prod.snd hk
    have first : First (Top fun k => d (ix2 a k)) k := by
      refine ⟨fun j => ?_, fun j hj => ?_⟩
      · rcases good j with g | g
        · exact g.le.trans (le_of_eq hz1)
        · exact g.1.le.trans (le_of_eq hz1)
      · rcases good j with g | g
        · exact absurd (lt_of_lt_of_eq g hz1) (not_lt.mpr (hj k))
        · have := g.2
          rw [hz2, toInt_num (by omega), toInt_num (by omega)] at this
          exact Fin.le_def.mpr (by exact_mod_cast this)
    rw [hz2, hn.unique first]

end Cert.Proof.First

end
-- ==== Proof.FpsRefPoint.lean ====
/-
  The reference's farthest-point loop, element by element: the point that a number names, the distances, the next number, and the
  chosen points taken from the table.
-/
module

public import proofs.«01_k».proof.Proof.FpsRefRun
public import proofs.«01_k».proof.Proof.FpsFirst
public import Idealize.ShloMosaic.Lib.Routing.OpsOne
public import Idealize.ShloMosaic.Lib.ReduceAll

@[expose] public section

noncomputable section

namespace Cert.Proof.FpsRef

open Cert.FpsReferenceIdeal Cert.FpsReferenceIdeal.Gen
open Idealize.ShloMosaic Idealize.ShloMosaic.TcCoe Idealize.ShloMosaic.ValueIdx
open Cert.Proof.First

variable {F : FTy → Type} [FloatOps F]

theorem not_negative {n : ℕ} (h : n < 4097) : ¬ IntOp.cmpi .slt (BitVec.ofNat 32 n) 0#32 = 1#1 := by
  rw [IntOp.cmpi_slt, toInt_num h]; simp

theorem batchNo_apply (a : Fin 16) : batchNo (ix1 a) = BitVec.ofNat 32 a.val := by
  show (if IntOp.cmpi .slt (BitVec.ofNat 32 a.val) 0#32 = 1#1 then _ else BitVec.ofNat 32 a.val) = _
  rw [if_neg (not_negative (by omega))]

theorem pointNo_apply (f : IVec S16 32) (a : Fin 16) (n : Fin 4096) (h : f (ix1 a) = BitVec.ofNat 32 n.val) : pointNo f (ix1 a) = BitVec.ofNat 32 n.val := by
  show (if IntOp.cmpi .slt (f (ix1 a)) 0#32 = 1#1 then _ else f (ix1 a)) = _
  rw [h, if_neg (not_negative (by omega))]

/-- The pairs of numbers that the gather of one point per batch reads. -/
def pairs (f : IVec S16 32) : IVec S16x2 32 :=
  concatenate S16x2 1 [⟨S16x1, broadcastInDim S16x1 ![0] bcast_S16_S16x1_0 batchNo⟩, ⟨S16x1, broadcastInDim S16x1 ![0] bcast_S16_S16x1_0 (pointNo f)⟩]
    concatenates_S16x1_S16x1_S16x2_d1

theorem pairs_fst (f : IVec S16 32) (a : Fin 16) : pairs f (ix2 a (0 : Fin 2)) = BitVec.ofNat 32 a.val := by
  refine (concatenate_pair_apply_left (t := S16x2) (s₁ := S16x1) (s₂ := S16x1) 1 _ _ concatenates_S16x1_S16x1_S16x2_d1 (ix2 a (0 : Fin 2)) rfl (ix2 a (0 : Fin 1))
    (by intro b; match b with | ⟨0, _⟩ => rfl | ⟨1, _⟩ => rfl)).trans ?_
  exact (broadcastInDim_apply _ _ _ _ (ix1 a) (by intro b; fin_cases b; rfl)).trans (batchNo_apply a)

theorem pairs_snd (f : IVec S16 32) (a : Fin 16) (n : Fin 4096) (h : f (ix1 a) = BitVec.ofNat 32 n.val) : pairs f (ix2 a (1 : Fin 2)) = BitVec.ofNat 32 n.val := by
  refine (concatenate_pair_apply_right (t := S16x2) (s₁ := S16x1) (s₂ := S16x1) 1 _ _ concatenates_S16x1_S16x1_S16x2_d1 (ix2 a (1 : Fin 2)) rfl rfl (ix2 a (0 : Fin 1))
    (by intro b hb; match b with | ⟨0, _⟩ => rfl | ⟨1, _⟩ => exact absurd rfl hb) rfl).trans ?_
  exact (broadcastInDim_apply _ _ _ _ (ix1 a) (by intro b; fin_cases b; rfl)).trans (pointNo_apply f a n h)

theorem gather_pair (x : FVec F S16x4096x3 .f32) (w : IVec S16x2 32) (a : Fin 16) (r : Fin 3) (n : Fin 4096)
    (h0 : w (ix2 a (0 : Fin 2)) = BitVec.ofNat 32 a.val) (h1 : w (ix2 a (1 : Fin 2)) = BitVec.ofNat 32 n.val) :
    Host.gather gather_S16x4096x3_S16x2_S16x3_1_01_n_n_01_1_113 x w (ix2 a r) = x (ix3 a n r) := by
  unfold Host.gather
  refine congrArg x (funext fun b => Fin.ext ?_)
  show GatherDims.start _ (ix2 a r) w b + GatherDims.batchCoord _ (ix2 a r) b + GatherDims.offCoord _ (ix2 a r) b = _
  rw [GatherDims.batchCoord_eq_zero _ _ _ (by intro h; exact absurd h List.not_mem_nil)]
  have si : ∀ q : Fin 2, GatherDims.siIdx gather_S16x4096x3_S16x2_S16x3_1_01_n_n_01_1_113 (ix2 a r) q = ix2 a q := by
    intro q; funext p; refine Fin.ext ?_
    match p with
    | ⟨0, _⟩ => rfl
    | ⟨1, _⟩ => rfl
  obtain rfl | rfl | rfl : b = (0 : Fin 3) ∨ b = (1 : Fin 3) ∨ b = (2 : Fin 3) := (by decide : ∀ b : Fin 3, b = 0 ∨ b = 1 ∨ b = 2) b
  · rw [GatherDims.offCoord_eq_zero _ _ _ (by intro h; rw [GatherDims.mem_sKept] at h; revert h; decide)]
    unfold GatherDims.start
    rw [dif_pos (by decide)]
    refine (congrArg (fun v : BitVec 32 => min v.toInt.toNat 15 + 0 + 0) ((congrArg w (si 0)).trans h0)).trans ?_
    rw [toInt_num (by omega), Int.toNat_natCast]
    exact Nat.min_eq_left (by omega)
  · rw [GatherDims.offCoord_eq_zero _ _ _ (by intro h; rw [GatherDims.mem_sKept] at h; revert h; decide)]
    unfold GatherDims.start
    rw [dif_pos (by decide)]
    refine (congrArg (fun v : BitVec 32 => min v.toInt.toNat 4095 + 0 + 0) ((congrArg w (si 1)).trans h1)).trans ?_
    rw [toInt_num (by omega), Int.toNat_natCast]
    exact Nat.min_eq_left (by omega)
  · unfold GatherDims.start
    rw [dif_neg (by decide)]
    unfold GatherDims.offCoord
    rw [dif_pos (by decide)]
    exact (Nat.zero_add _)

/-- The point of batch `a` that the number names. -/
theorem picked_apply (x : FVec F S16x4096x3 .f32) (f : IVec S16 32) (a : Fin 16) (r : Fin 3) (n : Fin 4096) (h : f (ix1 a) = BitVec.ofNat 32 n.val) :
    picked x f (ix2 a r) = x (ix3 a n r) :=
  gather_pair x (pairs f) a r n (pairs_fst f a) (pairs_snd f a n h)

theorem offset_apply (x : FVec F S16x4096x3 .f32) (f : IVec S16 32) (a : Fin 16) (k : Fin 4096) (r : Fin 3) (n : Fin 4096) (h : f (ix1 a) = BitVec.ofNat 32 n.val) :
    offset x f (ix3 a k r) = FloatOps.subf (x (ix3 a k r)) (x (ix3 a n r)) := by
  unfold offset
  refine congrArg (FloatOps.subf (x (ix3 a k r))) ?_
  refine (broadcastInDim_apply _ _ _ _ (ix3 a (0 : Fin 1) r) (by intro b; fin_cases b <;> rfl)).trans ?_
  refine (broadcastInDim_apply _ _ _ _ (ix2 a r) (by intro b; fin_cases b <;> rfl)).trans ?_
  exact picked_apply x f a r n h

/-- The square of an extended real's difference from another. -/
abbrev sq (u v : EReal) : EReal := (u - v) * (u - v)

theorem lesser_apply (x : FVec Ideal S16x4096x3 .f32) (d : FVec Ideal S16x4096 .f32) (f : IVec S16 32) (a : Fin 16) (k n : Fin 4096) (h : f (ix1 a) = BitVec.ofNat 32 n.val) :
    (lesser x d f (ix2 a k) : EReal) = min (d (ix2 a k) : EReal) (sq (x (ix3 a k 0)) (x (ix3 a n 0)) + sq (x (ix3 a k 1)) (x (ix3 a n 1)) + sq (x (ix3 a k 2)) (x (ix3 a n 2))) := by
  unfold lesser
  show min (d (ix2 a k) : EReal) (Ideal.hostReduceAdd reducesTo_S16x4096x3_S16x4096_d2 (mulf (offset x f) (offset x f)) (Ideal.ofBits .f32 0x00000000#32) (ix2 a k)) = _
  rw [Ideal.hostReduceAdd_single reducesTo_S16x4096x3_S16x4096_d2 (by decide) _ _ _, Ideal.ofBits_zero_f32, zero_add]
  refine congrArg (min (d (ix2 a k) : EReal)) ?_
  have e : ∀ r : Fin 3, (mulf (offset x f) (offset x f) ((by decide : Shape.Reduces S16x4096x3 [2] S16x4096).lift (ix2 a k) r) : EReal) = sq (x (ix3 a k r)) (x (ix3 a n r)) := by
    intro r
    have hl : (by decide : Shape.Reduces S16x4096x3 [2] S16x4096).lift (ix2 a k) r = ix3 a k r := by
      funext b; fin_cases b <;> rfl
    rw [hl]
    show (offset x f (ix3 a k r) : EReal) * offset x f (ix3 a k r) = _
    rw [offset_apply x f a k r n h]; rfl
  exact (Fin.sum_univ_three _).trans (congrArg₂ (· + ·) (congrArg₂ (· + ·) (e 0) (e 1)) (e 2))

/-- The next number is the first at which the distances are greatest. -/
theorem farthest_apply (d : FVec Ideal S16x4096 .f32) (a : Fin 16) {n : Fin 4096} (hn : First (Top fun k => d (ix2 a k)) n) : farthest d (ix1 a) = BitVec.ofNat 32 n.val :=
  argmax_number _ _ (by decide) d a hn

theorem chosen_apply (t : IVec S16x128 32) (f : IVec S16 32) (k : ℕ) (hk : k < 128) (a : Fin 16) (j : Fin 128) :
    chosen t (fun _ => Scf.iv 0#32 1#32 k) f (ix2 a j) = if j.val = k then f (ix1 a) else t (ix2 a j) := by
  unfold chosen
  have e : (Scf.iv 0#32 1#32 k : BitVec 32) = BitVec.ofNat 32 k := by unfold Scf.iv; simp
  refine (Routing.scatter_col _ rfl rfl t _ f ⟨k, hk⟩ (by show k < 2 ^ 31; omega) ?_ a j).trans ?_
  · refine (broadcastInDim_apply _ _ _ _ ix0 (by intro b; exact b.elim0)).trans ?_
    show (if IntOp.cmpi .slt (Scf.iv 0#32 1#32 k) 0#32 = 1#1 then _ else (Scf.iv 0#32 1#32 k : BitVec 32)) = _
    rw [e, if_neg (not_negative (by omega))]
  · simp only [Fin.ext_iff]

/-! ## The chosen points -/

theorem place_apply (t : IVec S16x128 32) (a : Fin 16) (j : Fin 128) (r : Fin 3) : place t (ix3 a j r) = t (ix2 a j) := by
  unfold place
  refine (broadcastInDim_apply _ _ _ _ (ix3 a j (0 : Fin 1)) (by intro b; fin_cases b <;> rfl)).trans ?_
  exact broadcastInDim_apply _ _ _ _ (ix2 a j) (by intro b; fin_cases b <;> rfl)

/-- Every entry of the table numbers a point. -/
def Named (t : IVec S16x128 32) (g : Fin 16 → Fin 128 → Fin 4096) : Prop := ∀ a j, t (ix2 a j) = BitVec.ofNat 32 (g a j).val

variable {t : IVec S16x128 32} {g : Fin 16 → Fin 128 → Fin 4096}

theorem placeNo_apply (ht : Named t g) (a : Fin 16) (j : Fin 128) (r : Fin 3) : placeNo t (ix4 a j r (0 : Fin 1)) = BitVec.ofNat 32 (g a j).val := by
  unfold placeNo
  refine (shapeCast_apply _ _ _ (ix3 a j r) (by rw [Shape.rowMajor_val_three, Shape.rowMajor_val_four]; show _ = _; simp)).trans ?_
  show (if IntOp.cmpi .slt (place t (ix3 a j r)) 0#32 = 1#1 then _ else place t (ix3 a j r)) = _
  rw [place_apply, ht, if_neg (not_negative (by omega))]

theorem inside_apply (ht : Named t g) (j : S16x128x3.Idx) : inside t j = 1#1 := by
  refine Host.reduce_andi_one _ _ _ _ j rfl fun i => ?_
  obtain ⟨a, k, r, z, rfl⟩ : ∃ a k r z, i = ix4 (n0 := 16) (n1 := 128) (n2 := 3) (n3 := 1) a k r z := ⟨_, _, _, _, eq_ix4 i⟩
  obtain rfl : z = 0 := Subsingleton.elim _ _
  show IntOp.andi (IntOp.cmpi .sge (placeNo t (ix4 a k r (0 : Fin 1))) 0#32) (IntOp.cmpi .sle (placeNo t (ix4 a k r (0 : Fin 1))) 4095#32) = 1#1
  have h := (g a k).isLt
  rw [placeNo_apply ht, IntOp.cmpi_sge.mpr (by rw [toInt_num (n := (g a k).val) (by omega)]; show (0 : Int) ≤ _; omega), IntOp.cmpi_sle.mpr (by rw [toInt_num (n := (g a k).val) (by omega)]; show _ ≤ (4095 : Int); omega)]
  rfl

theorem gather_taken (x : FVec F S16x4096x3 .f32) (w : IVec S16x128x3x1 32) (a : Fin 16) (j : Fin 128) (r : Fin 3) (n : Fin 4096)
    (h : w (ix4 a j r (0 : Fin 1)) = BitVec.ofNat 32 n.val) :
    Host.gather gather_S16x4096x3_S16x128x3x1_S16x128x3_n_1_02_02_1_3_111 x w (ix3 a j r) = x (ix3 a n r) := by
  unfold Host.gather
  refine congrArg x (funext fun b => Fin.ext ?_)
  show GatherDims.start _ (ix3 a j r) w b + GatherDims.batchCoord _ (ix3 a j r) b + GatherDims.offCoord _ (ix3 a j r) b = _
  rw [GatherDims.offCoord_eq_zero _ _ _ (by
      intro h; rw [GatherDims.mem_sKept] at h
      revert h; fin_cases b <;> decide)]
  obtain rfl | rfl | rfl : b = (0 : Fin 3) ∨ b = (2 : Fin 3) ∨ b = (1 : Fin 3) := (by decide : ∀ b : Fin 3, b = 0 ∨ b = 2 ∨ b = 1) b
  · rw [GatherDims.start_batching _ _ _ _ (by decide)]; exact (Nat.add_zero _).trans (Nat.zero_add _)
  · rw [GatherDims.start_batching _ _ _ _ (by decide)]; exact (Nat.add_zero _).trans (Nat.zero_add _)
  · rw [GatherDims.batchCoord_eq_zero _ _ _ (by decide)]
    unfold GatherDims.start
    rw [dif_pos (by decide)]
    have si : GatherDims.siIdx gather_S16x4096x3_S16x128x3x1_S16x128x3_n_1_02_02_1_3_111 (ix3 a j r) ⟨0, Nat.one_pos⟩ = ix4 a j r (0 : Fin 1) := by
      funext q; refine Fin.ext ?_
      match q with
      | ⟨0, _⟩ => rfl
      | ⟨1, _⟩ => rfl
      | ⟨2, _⟩ => rfl
      | ⟨3, _⟩ => rfl
    refine (congrArg (fun v : BitVec 32 => min v.toInt.toNat 4095 + 0 + 0) ((congrArg w si).trans h)).trans ?_
    rw [toInt_num (by omega), Int.toNat_natCast]
    exact Nat.min_eq_left (by omega)

theorem select_of_one {α : Type} {s : Shape} (c : IVec s 1) (u v : s.Idx → α) (i : s.Idx) (h : c i = 1#1) : select c u v i = u i := if_pos h

/-- The chosen points, element by element. -/
theorem taken_apply (ht : Named t g) (x : FVec F S16x4096x3 .f32) (a : Fin 16) (j : Fin 128) (r : Fin 3) : taken x t (ix3 a j r) = x (ix3 a (g a j) r) := by
  unfold taken
  refine (select_of_one _ _ _ _ (inside_apply ht (ix3 a j r))).trans ?_
  exact gather_taken x _ a j r _ (placeNo_apply ht a j r)

end Cert.Proof.FpsRef

end
-- ==== Proof.FpsMatch.lean ====
/-
  The kernel's farthest-point loop and the reference's go through the same distances and name the same points, so the block of centers
  is the reference's.
-/
module

public import proofs.«01_k».proof.Proof.FpsSample
public import proofs.«01_k».proof.Proof.FpsRefPoint

@[expose] public section

noncomputable section

namespace Cert.Proof.Fps

open Cert.FpsIdeal Cert.FpsIdeal.Gen
open Idealize.ShloMosaic Idealize.ShloMosaic.TcCoe Idealize.ShloMosaic.ValueIdx
open Cert.Proof.First

/-! ## The kernel's loop, element by element -/

theorem number_apply (a : Fin 16) (k : Fin 4096) : (k0_pay4 (F := Ideal) (ix2 a k) : EReal) = num k.val := by
  have e : iota .tc S16x4096 32 [1] iota_S16x4096_d1_w32 (ix2 a k) = BitVec.ofNat 32 k.val := iota_single_apply _ _ _ _ _ _
  show (((iota .tc S16x4096 32 [1] iota_S16x4096_d1_w32 (ix2 a k)).toInt : ℝ) : EReal) = _
  rw [e]; exact num_of_word (by omega)

theorem spread_apply (w : FVec Ideal S16 .f32) (a : Fin 16) (k : Fin 4096) :
    broadcastTo S16x4096 (shapeCast S16x1 w shapeCasts_S16_S16x1) broadcasts_S16x1_S16x4096 (ix2 a k) = w (ix1 a) := by
  refine (broadcastTo_apply _ _ _ (ix2 a (0 : Fin 1)) (by intro a; fin_cases a <;> rfl)).trans ?_
  exact shapeCast_apply _ _ _ (ix1 a) (by rw [Shape.rowMajor_val_one, Shape.rowMajor_val_two]; show _ = _; simp)

theorem flat_apply (v : Vec Ideal S16x1x4096 .f32) (a : Fin 16) (k : Fin 4096) :
    shapeCast S16x4096 v shapeCasts_S16x1x4096_S16x4096 (ix2 a k) = v (ix3 a (0 : Fin 1) k) :=
  shapeCast_apply _ _ _ (ix3 a (0 : Fin 1) k) (by rw [Shape.rowMajor_val_two, Shape.rowMajor_val_three]; show _ = _; simp)

theorem chosen_iff (far : FVec Ideal S16 .f32) (a : Fin 16) (k f : Fin 4096) (h : (far (ix1 a) : EReal) = num f.val) :
    k0_pay11 (F := Ideal) k0_pay4 far (ix2 a k) = 1#1 ↔ k = f := by
  show FloatOps.cmpf (F := Ideal) (φ := .f32) .oeq (k0_pay4 (F := Ideal) (ix2 a k)) (broadcastTo S16x4096 (shapeCast S16x1 far shapeCasts_S16_S16x1) broadcasts_S16x1_S16x4096 (ix2 a k)) = 1#1 ↔ _
  rw [spread_apply, oeq_iff, number_apply, h, num_inj, Fin.ext_iff]

/-- The coordinate picked is that of the named point. -/
theorem pick_apply (v : Vec Ideal S16x1x4096 .f32) (far : FVec Ideal S16 .f32) (a : Fin 16) (f : Fin 4096) (h : (far (ix1 a) : EReal) = num f.val) :
    pick v far (ix1 a) = v (ix3 a (0 : Fin 1) f) := by
  show multiReduction .add [1] S16 (select (k0_pay11 (F := Ideal) k0_pay4 far) (k0_pay1 v) (broadcast S16x4096 (Ideal.ofBits .f32 0x00000000#32))) 0x00000000#32 reduces_S16x4096_S16 (.inl rfl) rfl (ix1 a) = _
  refine (Ideal.multiReduction_add_single _ _ _ _ _ _).trans ?_
  have e : ∀ k : Fin 4096, (select (k0_pay11 (F := Ideal) k0_pay4 far) (k0_pay1 v) (broadcast S16x4096 (Ideal.ofBits .f32 0x00000000#32)) (reduces_S16x4096_S16.lift (ix1 a) k) : EReal)
      = if k = f then (v (ix3 a (0 : Fin 1) f) : EReal) else 0 := by
    intro k
    have hl : reduces_S16x4096_S16.lift (ix1 a) k = ix2 a k := by funext b; fin_cases b <;> rfl
    rw [hl]
    by_cases hk : k = f
    · rw [if_pos hk]
      refine (if_pos ((chosen_iff far a k f h).mpr hk)).trans ?_
      rw [← hk]; exact flat_apply v a k
    · rw [if_neg hk]
      refine (if_neg (fun h' => hk ((chosen_iff far a k f h).mp h'))).trans ?_
      exact Ideal.ofBits_zero_f32
  refine (Finset.sum_congr rfl (fun k _ => e k)).trans ?_
  exact (Finset.sum_ite_eq' _ _ _).trans (if_pos (Finset.mem_univ _))

variable (v6 v8 v10 : Vec Ideal S16x1x4096 .f32) (d : FVec Ideal S16x4096 .f32) (c0 c1 c2 : FVec Ideal S16 .f32)

theorem next_apply (a : Fin 16) (k : Fin 4096) : (k0_pay8 v6 v8 v10 d c0 c1 c2 (ix2 a k) : EReal)
    = min (d (ix2 a k) : EReal) (FpsRef.sq (v6 (ix3 a (0 : Fin 1) k)) (c0 (ix1 a)) + FpsRef.sq (v8 (ix3 a (0 : Fin 1) k)) (c1 (ix1 a)) + FpsRef.sq (v10 (ix3 a (0 : Fin 1) k)) (c2 (ix1 a))) := by
  rw [← flat_apply v6, ← flat_apply v8, ← flat_apply v10, ← spread_apply c0 a k, ← spread_apply c1 a k, ← spread_apply c2 a k]
  rfl

/-- The next number is the first at which the distances are greatest. -/
theorem next_number (a : Fin 16) {n : Fin 4096} (hn : First (Top fun k => k0_pay8 v6 v8 v10 d c0 c1 c2 (ix2 a k)) n) :
    (k0_pay9 v6 v8 v10 d c0 c1 c2 (ix1 a) : EReal) = num n.val := by
  unfold k0_pay9
  generalize hD : k0_pay8 v6 v8 v10 d c0 c1 c2 = D at hn ⊢
  have hm : ∀ k, cmpf .oeq D (broadcastTo S16x4096 (shapeCast S16x1 (multiReduction .maximumf [1] S16 D 0xFF800000#32 reduces_S16x4096_S16 (.inl rfl) rfl) shapeCasts_S16_S16x1) broadcasts_S16x1_S16x4096) (ix2 a k) = 1#1
      ↔ Top (fun k => D (ix2 a k)) k := by
    intro k
    show FloatOps.cmpf (F := Ideal) (φ := .f32) .oeq (D (ix2 a k)) (broadcastTo S16x4096 _ broadcasts_S16x1_S16x4096 (ix2 a k)) = 1#1 ↔ _
    rw [spread_apply, oeq_iff]
    constructor
    · intro e k'
      exact (row_le_max reduces_S16x4096_S16 D (.inl rfl) rfl a k').trans (le_of_eq e.symm)
    · intro ht
      obtain ⟨k', hk'⟩ := max_taken reduces_S16x4096_S16 D (.inl rfl) rfl a
      exact le_antisymm (row_le_max reduces_S16x4096_S16 D (.inl rfl) rfl a k) ((le_of_eq hk').trans (ht k'))
  exact least_number reduces_S16x4096_S16 _ _ (.inl rfl) rfl a (fun k hk => (if_pos ((hm k).mpr hk)).trans (number_apply a k))
    (fun k hk => (if_neg (fun h' => hk ((hm k).mp h'))).trans bits_4096) hn

theorem big_apply (i : S16x4096.Idx) : (k0_pay5 (F := Ideal) i : EReal) = ⊤ :=
  IdealRules.named_const.ideal_named_scalar _ _ _ _ rfl

theorem zero_apply (i : S16.Idx) : (k0_pay6 (F := Ideal) i : EReal) = num 0 := by
  refine (Ideal.ofBits_zero_f32).trans ?_
  simp [num]

/-! ## The two loops together -/

/-- The kernel's points and the reference's are the same, their axes in another order. -/
def Same (X : Vec Ideal S16x3x4096 .f32) (x : FVec Ideal Cert.FpsReferenceIdeal.S16x4096x3 .f32) : Prop := ∀ a r n, X (ix3 a r n) = x (ix3 a n r)

variable {X : Vec Ideal S16x3x4096 .f32} {x : FVec Ideal Cert.FpsReferenceIdeal.S16x4096x3 .f32}

/-- The kernel's state before trip `k`. -/
abbrev kst (X : Vec Ideal S16x3x4096 .f32) (k : ℕ) := st (row X 0) (row X 1) (row X 2) k

/-- Before every trip the distances agree, and both name the same point. -/
def Agree (X : Vec Ideal S16x3x4096 .f32) (x : FVec Ideal Cert.FpsReferenceIdeal.S16x4096x3 .f32) (k : ℕ) : Prop :=
  (∀ a n, ((kst X k).1 (ix2 a n) : EReal) = (FpsRef.state x k).1 (ix2 a n))
    ∧ ∀ a, ∃ f : Fin 4096, ((kst X k).2 (ix1 a) : EReal) = num f.val ∧ (FpsRef.state x k).2 (ix1 a) = BitVec.ofNat 32 f.val

theorem agree_zero : Agree X x 0 := by
  refine ⟨fun a n => ?_, fun a => ⟨0, zero_apply (ix1 a), rfl⟩⟩
  exact (big_apply (ix2 a n)).trans bits_top.symm

theorem lesser_eq (hX : Same X x) (k : ℕ) (h : Agree X x k) (a : Fin 16) (n : Fin 4096) :
    (k0_pay8 (row X 0) (row X 1) (row X 2) (kst X k).1 (pick (row X 0) (kst X k).2) (pick (row X 1) (kst X k).2) (pick (row X 2) (kst X k).2) (ix2 a n) : EReal)
      = FpsRef.lesser x (FpsRef.state x k).1 (FpsRef.state x k).2 (ix2 a n) := by
  obtain ⟨f, hf, hf'⟩ := h.2 a
  have hr : ∀ (r : Fin 3) (n : Fin 4096), row X r (ix3 a (0 : Fin 1) n) = x (ix3 a n r) := fun r n => hX a r n
  rw [next_apply, FpsRef.lesser_apply x _ _ a n f hf', pick_apply _ _ a f hf, pick_apply _ _ a f hf, pick_apply _ _ a f hf, h.1 a n, hr, hr, hr, hr, hr, hr]

theorem kst_succ (k : ℕ) : kst X (k + 1) = (k0_pay8 (row X 0) (row X 1) (row X 2) (kst X k).1 (pick (row X 0) (kst X k).2) (pick (row X 1) (kst X k).2) (pick (row X 2) (kst X k).2),
    k0_pay9 (row X 0) (row X 1) (row X 2) (kst X k).1 (pick (row X 0) (kst X k).2) (pick (row X 1) (kst X k).2) (pick (row X 2) (kst X k).2)) := by
  rw [kst, st]

theorem agree_succ (hX : Same X x) (k : ℕ) (h : Agree X x k) : Agree X x (k + 1) := by
  have hl := lesser_eq hX k h
  refine ⟨fun a n => ?_, fun a => ?_⟩
  · rw [FpsRef.state_succ, kst_succ]; dsimp only; exact hl a n
  · obtain ⟨n, hn⟩ := exists_top fun n => (FpsRef.lesser x (FpsRef.state x k).1 (FpsRef.state x k).2 (ix2 a n) : EReal)
    refine ⟨n, ?_, ?_⟩
    · rw [kst_succ]
      dsimp only
      refine next_number _ _ _ _ _ _ _ a ?_
      rw [show (fun n => k0_pay8 (row X 0) (row X 1) (row X 2) (kst X k).1 (pick (row X 0) (kst X k).2) (pick (row X 1) (kst X k).2) (pick (row X 2) (kst X k).2) (ix2 a n)) = _ from funext (hl a)]
      exact hn
    · rw [FpsRef.state_succ]
      dsimp only
      exact FpsRef.farthest_apply _ a hn

theorem agree (hX : Same X x) (k : ℕ) : Agree X x k := by
  induction k with
  | zero => exact agree_zero
  | succ k ih => exact agree_succ hX k ih

theorem table_apply (x : FVec Ideal Cert.FpsReferenceIdeal.S16x4096x3 .f32) (k : ℕ) (hk : k ≤ 128) (a : Fin 16) (j : Fin 128) (hj : j.val < k) :
    FpsRef.table x k (ix2 a j) = (FpsRef.state x j.val).2 (ix1 a) := by
  induction k with
  | zero => exact absurd hj (Nat.not_lt_zero _)
  | succ k ih =>
    rw [FpsRef.table, FpsRef.chosen_apply _ _ k (by omega) a j]
    by_cases h : j.val = k
    · rw [if_pos h, h]
    · rw [if_neg h]; exact ih (by omega) (by omega)

/-- Both loops name the same points. -/
theorem names (hX : Same X x) : ∃ g : Fin 16 → Fin 128 → Fin 4096, FpsRef.Named (FpsRef.table x 128) g
    ∧ ∀ a j, ((kst X j.val).2 (ix1 a) : EReal) = num (g a j).val := by
  choose g hg hg' using fun (a : Fin 16) (j : Fin 128) => (agree hX j.val).2 a
  exact ⟨g, fun a j => (table_apply x 128 le_rfl a j j.isLt).trans (hg' a j), hg⟩

/-- The centers, element by element. -/
theorem centers_apply (hX : Same X x) {g : Fin 16 → Fin 128 → Fin 4096} (hg : ∀ a j, ((kst X j.val).2 (ix1 a) : EReal) = num (g a j).val) (a : Fin 16) (r : Fin 3) (j : Fin 128) :
    centers X (ix3 a r j) = x (ix3 a (g a j) r) := by
  show cen (row X 0) (row X 1) (row X 2) (kst X j.val).2 a r = _
  have hr : ∀ (r : Fin 3), pick (row X r) (kst X j.val).2 (ix1 a) = x (ix3 a (g a j) r) := fun r => (pick_apply _ _ a _ (hg a j)).trans (hX a r _)
  unfold cen
  obtain rfl | rfl | rfl : r = (0 : Fin 3) ∨ r = (1 : Fin 3) ∨ r = (2 : Fin 3) := (by decide : ∀ b : Fin 3, b = 0 ∨ b = 1 ∨ b = 2) r
  · exact (if_pos rfl).trans (hr 0)
  · exact (if_neg (by decide)).trans ((if_pos rfl).trans (hr 1))
  · exact (if_neg (by decide)).trans ((if_neg (by decide)).trans (hr 2))

/-- The block of centers is the reference's, its last two axes exchanged. -/
theorem centers_eq (hX : Same X x) : (centers X : Cert.FpsReferenceIdeal.S16x3x128.Idx → EReal)
    = transpose Cert.FpsReferenceIdeal.S16x3x128 [0, 2, 1] (FpsRef.taken x (FpsRef.table x 128)) Cert.FpsReferenceIdeal.Gen.transposes_S16x128x3_S16x3x128_0_2_1 := by
  obtain ⟨g, ht, hg⟩ := names hX
  funext y
  obtain ⟨a, r, j, rfl⟩ : ∃ a r j, y = ix3 (n0 := 16) (n1 := 3) (n2 := 128) a r j := ⟨_, _, _, eq_ix3 y⟩
  refine (centers_apply hX hg a r j).trans ?_
  refine Eq.trans ?_ (transpose_apply _ _ _ _ (ix3 a j r) (by intro b; fin_cases b <;> rfl)).symm
  exact (FpsRef.taken_apply ht x a j r).symm

end Cert.Proof.Fps

end
-- ==== Proof.FpsSort.lean ====
/-
  The stable sort of 4096 values: its first positions are, one after the other, the first number at which what is left is least.
-/
module

public import proofs.«01_k».proof.Proof.FpsFirst
public import Idealize.ShloMosaic.Lib.SortFacts

@[expose] public section

noncomputable section

namespace Cert.Proof.First

open Idealize.ShloMosaic

/-- `b` comes before `c`: a smaller value, or the same value at a smaller number. -/
def Earlier {N : ℕ} (d : Fin N → EReal) (b c : Fin N) : Prop := d b < d c ∨ (d b = d c ∧ b < c)

theorem Earlier.trans {N : ℕ} {d : Fin N → EReal} {a b c : Fin N} (h1 : Earlier d a b) (h2 : Earlier d b c) : Earlier d a c := by
  rcases h1 with h1 | ⟨h1, h1'⟩ <;> rcases h2 with h2 | ⟨h2, h2'⟩
  · exact .inl (h1.trans h2)
  · exact .inl (h2 ▸ h1)
  · exact .inl (h1 ▸ h2)
  · exact .inr ⟨h1.trans h2, h1'.trans h2'⟩

theorem earlier_insert {N : ℕ} (d : Fin N → EReal) (R : Fin N → Fin N → Bool) (hR : ∀ a b, R a b = true ↔ d a < d b) (a : Fin N) :
    ∀ l : List (Fin N), l.Pairwise (Earlier d) → (∀ b ∈ l, a < b) → (insertBefore R a l).Pairwise (Earlier d)
  | [], _, _ => List.pairwise_singleton _ _
  | b :: l, hl, ha => by
    have hl' := List.pairwise_cons.mp hl
    unfold insertBefore
    by_cases hb : R b a = true
    · rw [if_pos hb]
      refine List.pairwise_cons.mpr ⟨fun c hc => ?_, earlier_insert d R hR a l hl'.2 fun c hc => ha c (List.mem_cons_of_mem _ hc)⟩
      rcases List.mem_cons.mp ((perm_insertBefore R a l).mem_iff.mp hc) with rfl | hc
      · exact .inl ((hR _ _).mp hb)
      · exact hl'.1 c hc
    · rw [if_neg hb]
      have hab : Earlier d a b := by
        rcases lt_or_eq_of_le (not_lt.mp fun h => hb ((hR _ _).mpr h)) with h | h
        · exact .inl h
        · exact .inr ⟨h, ha b List.mem_cons_self⟩
      refine List.pairwise_cons.mpr ⟨fun c hc => ?_, hl⟩
      rcases List.mem_cons.mp hc with rfl | hc
      · exact hab
      · exact hab.trans (hl'.1 c hc)

theorem earlier_sort {N : ℕ} (d : Fin N → EReal) (R : Fin N → Fin N → Bool) (hR : ∀ a b, R a b = true ↔ d a < d b) :
    ∀ l : List (Fin N), l.Pairwise (· < ·) → (stableSort R l).Pairwise (Earlier d)
  | [], _ => List.Pairwise.nil
  | a :: l, h => by
    have h' := List.pairwise_cons.mp h
    unfold stableSort
    exact earlier_insert d R hR a _ (earlier_sort d R hR l h'.2) fun b hb => h'.1 b ((perm_stableSort R l).mem_iff.mp hb)

/-- Of two sorted positions the first one's source comes before. -/
theorem earlier_from {N : ℕ} (d : Fin N → EReal) (R : Fin N → Fin N → Bool) (hR : ∀ a b, R a b = true ↔ d a < d b) (i j : Fin N) (hij : i < j) :
    Earlier d (sortedFrom R i) (sortedFrom R j) := by
  have hp : ∀ a b : Fin (sortPositions N R).length, a < b → Earlier d ((sortPositions N R).get a) ((sortPositions N R).get b) :=
    List.pairwise_iff_get.mp (earlier_sort d R hR (List.finRange N) (List.pairwise_lt_finRange N))
  unfold sortedFrom
  exact hp _ _ (by simp only [Fin.lt_def, Fin.val_cast]; exact hij)

/-- What is left of `d` once the sources of the first `k` sorted positions are put to the greatest. -/
def rest (d : Fin 4096 → EReal) (R : Fin 4096 → Fin 4096 → Bool) (k : ℕ) (n : Fin 4096) : EReal :=
  open Classical in if ∃ i : Fin 4096, i.val < k ∧ sortedFrom R i = n then ⊤ else d n

theorem rest_pos {d : Fin 4096 → EReal} {R : Fin 4096 → Fin 4096 → Bool} {k : ℕ} {n : Fin 4096} (h : ∃ i : Fin 4096, i.val < k ∧ sortedFrom R i = n) :
    rest d R k n = ⊤ := by
  unfold rest
  exact if_pos h

theorem rest_neg {d : Fin 4096 → EReal} {R : Fin 4096 → Fin 4096 → Bool} {k : ℕ} {n : Fin 4096} (h : ¬ ∃ i : Fin 4096, i.val < k ∧ sortedFrom R i = n) :
    rest d R k n = d n := by
  unfold rest
  exact if_neg h

theorem rest_zero (d : Fin 4096 → EReal) (R : Fin 4096 → Fin 4096 → Bool) (n : Fin 4096) : rest d R 0 n = d n := by
  unfold rest
  exact if_neg fun ⟨i, hi, _⟩ => Nat.not_lt_zero _ hi

theorem rest_succ (d : Fin 4096 → EReal) (R : Fin 4096 → Fin 4096 → Bool) (k : Fin 4096) (n : Fin 4096) :
    rest d R (k.val + 1) n = if n = sortedFrom R k then ⊤ else rest d R k.val n := by
  classical
  unfold rest
  by_cases h : n = sortedFrom R k
  · rw [if_pos h]
    exact if_pos ⟨k, Nat.lt_succ_self _, h.symm⟩
  · rw [if_neg h]
    refine if_congr ⟨fun ⟨i, hi, e⟩ => ⟨i, ?_, e⟩, fun ⟨i, hi, e⟩ => ⟨i, Nat.lt_succ_of_lt hi, e⟩⟩ rfl rfl
    rcases Nat.lt_succ_iff_lt_or_eq.mp hi with h' | h'
    · exact h'
    · obtain rfl : i = k := Fin.ext h'
      exact absurd e.symm h

/-- The source of sorted position `k` is the first number at which what is left is least. -/
theorem rest_first (d : Fin 4096 → EReal) (R : Fin 4096 → Fin 4096 → Bool) (hR : ∀ a b, R a b = true ↔ d a < d b) (hd : ∀ n, d n < ⊤) (k : Fin 4096) :
    First (Bottom (rest d R k.val)) (sortedFrom R k) := by
  have own : rest d R k.val (sortedFrom R k) = d (sortedFrom R k) := by
    unfold rest
    refine if_neg fun ⟨i, hi, e⟩ => ?_
    rw [sortedFrom_injective R e] at hi
    exact lt_irrefl _ hi
  have other : ∀ n, rest d R k.val n = ⊤ ∨ (rest d R k.val n = d n ∧ (n = sortedFrom R k ∨ Earlier d (sortedFrom R k) n)) := by
    intro n
    obtain ⟨i, rfl⟩ := sortedFrom_surjective R n
    by_cases h : ∃ i' : Fin 4096, i'.val < k.val ∧ sortedFrom R i' = sortedFrom R i
    · exact .inl (rest_pos h)
    · refine .inr ⟨rest_neg h, ?_⟩
      rcases lt_trichotomy i k with hik | hik | hik
      · exact absurd ⟨i, hik, rfl⟩ h
      · exact .inl (by rw [hik])
      · exact .inr (earlier_from d R hR k i hik)
  refine ⟨fun n => ?_, fun n hn => ?_⟩
  · rw [own]
    rcases other n with e | ⟨e, h | h | h⟩
    · rw [e]; exact le_top
    · rw [e, h]
    · rw [e]; exact h.le
    · rw [e]; exact h.1.le
  · have hle := hn (sortedFrom R k)
    rw [own] at hle
    rcases other n with e | ⟨e, h | h | h⟩
    · rw [e] at hle; exact absurd (hd _) (not_lt.mpr hle)
    · exact h.symm.le
    · rw [e] at hle; exact absurd h (not_lt.mpr hle)
    · exact h.2.le

end Cert.Proof.First

end
-- ==== Proof.FpsTop.lean ====
/-
  The kernel's rows of neighbour numbers are the first positions of a stable sort of the distances, which is what the reference's
  selection of the 32 nearest points is.
-/
module

public import proofs.«01_k».proof.Proof.FpsRows
public import proofs.«01_k».proof.Proof.FpsMatch
public import proofs.«01_k».proof.Proof.FpsSort
public import proofs.«01_k».proof.Proof.Gen.Pre_finite
public import Idealize.ShloMosaic.Lib.ReduceAll

@[expose] public section

noncomputable section

namespace Cert.Proof.Fps

open Cert.FpsIdeal Cert.FpsIdeal.Gen
open Idealize.ShloMosaic Idealize.ShloMosaic.TcCoe Idealize.ShloMosaic.ValueIdx
open Cert.Proof.First

/-! ## The kernel's rows -/

theorem select_of_one {s : Shape} (c : IVec s 1) (u v : s.Idx → Ideal .f32) (i : s.Idx) (h : c i = 1#1) : select c u v i = u i := if_pos h
theorem select_of_not {s : Shape} (c : IVec s 1) (u v : s.Idx → Ideal .f32) (i : s.Idx) (h : ¬ c i = 1#1) : select c u v i = v i := if_neg h

theorem lanes_apply (j : Fin 128) (n : Fin 4096) : (k0_pay21 (F := Ideal) (ix2 j n) : EReal) = num n.val := by
  have e : iota .tc S128x4096 32 [1] iota_S128x4096_d1_w32 (ix2 j n) = BitVec.ofNat 32 n.val := iota_single_apply _ _ _ _ _ _
  show (((iota .tc S128x4096 32 [1] iota_S128x4096_d1_w32 (ix2 j n)).toInt : ℝ) : EReal) = _
  rw [e]; exact num_of_word (by omega)

theorem flag_apply (w : FVec Ideal S128 .f32) (j : Fin 128) (u : Fin 1) : shapeCast S128x1 w shapeCasts_S128_S128x1 (ix2 j u) = w (ix1 j) :=
  shapeCast_apply _ _ _ (ix1 j) (by rw [Shape.rowMajor_val_one, Shape.rowMajor_val_two]; show _ = _; simp)

theorem wide_apply (w : FVec Ideal S128x1 .f32) (j : Fin 128) (n : Fin 4096) : broadcastTo S128x4096 w broadcasts_S128x1_S128x4096 (ix2 j n) = w (ix2 j (0 : Fin 1)) :=
  broadcastTo_apply _ _ _ (ix2 j (0 : Fin 1)) (by intro a; fin_cases a <;> rfl)

variable (D : FVec Ideal S128x4096 .f32) (j : Fin 128)

theorem leastAt_iff (n : Fin 4096) : leastAt D (ix2 j n) = 1#1 ↔ Bottom (fun n => D (ix2 j n)) n := by
  show FloatOps.cmpf (F := Ideal) (φ := .f32) .oeq (D (ix2 j n)) (broadcastTo S128x4096 _ broadcasts_S128x1_S128x4096 (ix2 j n)) = 1#1 ↔ _
  rw [wide_apply, flag_apply, oeq_iff]
  constructor
  · intro e k
    exact (le_of_eq e).trans (min_le_row reduces_S128x4096_S128 D (.inl rfl) rfl j k)
  · intro hb
    obtain ⟨k, hk⟩ := min_taken reduces_S128x4096_S128 D (.inl rfl) rfl j
    exact le_antisymm ((hb k).trans (le_of_eq hk.symm)) (min_le_row reduces_S128x4096_S128 D (.inl rfl) rfl j n)

variable {D} {j} {f : Fin 4096}

theorem firstLeast_apply (hf : First (Bottom fun n => D (ix2 j n)) f) (u : Fin 1) : (firstLeast D (ix2 j u) : EReal) = num f.val := by
  unfold firstLeast
  rw [flag_apply]
  exact least_number reduces_S128x4096_S128 _ _ (.inl rfl) rfl j (fun k hk => (if_pos ((leastAt_iff D j k).mpr hk)).trans (lanes_apply j k))
    (fun k hk => (if_neg (fun h' => hk ((leastAt_iff D j k).mp h'))).trans bits_4096) hf

theorem without_apply (hf : First (Bottom fun n => D (ix2 j n)) f) (n : Fin 4096) : (without D (ix2 j n) : EReal) = if n = f then ⊤ else D (ix2 j n) := by
  have hm : cmpf .oeq (k0_pay21 (F := Ideal)) (broadcastTo S128x4096 (firstLeast D) broadcasts_S128x1_S128x4096) (ix2 j n) = 1#1 ↔ n = f := by
    show FloatOps.cmpf (F := Ideal) (φ := .f32) .oeq (k0_pay21 (F := Ideal) (ix2 j n)) (broadcastTo S128x4096 _ broadcasts_S128x1_S128x4096 (ix2 j n)) = 1#1 ↔ _
    rw [wide_apply, firstLeast_apply hf, oeq_iff, lanes_apply, num_inj, Fin.ext_iff]
  by_cases h : n = f
  · rw [if_pos h]
    unfold without
    exact (select_of_one _ _ _ _ (hm.mpr h)).trans (IdealRules.named_const.ideal_named_scalar _ _ _ _ rfl)
  · rw [if_neg h]
    unfold without
    exact select_of_not _ _ _ _ fun h' => h (hm.mp h')

theorem stored_apply (hf : First (Bottom fun n => D (ix2 j n)) f) : stored D (ix3 (0 : Fin 1) (0 : Fin 1) j) = BitVec.ofNat 32 f.val := by
  unfold stored
  refine (shapeCast_apply _ _ _ (ix1 j) (by rw [Shape.rowMajor_val_one, Shape.rowMajor_val_three]; show _ = _; simp)).trans ?_
  show Ideal.fptosi 32 (shapeCast S128 (firstLeast D) shapeCasts_S128x1_S128 (ix1 j)) = _
  have e : shapeCast S128 (firstLeast D) shapeCasts_S128x1_S128 (ix1 j) = firstLeast D (ix2 j (0 : Fin 1)) :=
    shapeCast_apply _ _ _ (ix2 j (0 : Fin 1)) (by rw [Shape.rowMajor_val_one, Shape.rowMajor_val_two]; show _ = _; simp)
  rw [e, firstLeast_apply hf]
  exact word_of_num (by omega)

/-- Before row `k` the distances are what is left by the sort's first `k` positions. -/
theorem left_apply (R : Fin 4096 → Fin 4096 → Bool) (hR : ∀ a b, R a b = true ↔ (D (ix2 j a) : EReal) < D (ix2 j b)) (hd : ∀ n, (D (ix2 j n) : EReal) < ⊤) :
    ∀ k : ℕ, k ≤ 32 → ∀ n, (left D k (ix2 j n) : EReal) = rest (fun n => D (ix2 j n)) R k n
  | 0, _, n => (rest_zero (fun n => D (ix2 j n)) R n).symm
  | k + 1, hk, n => by
    have ih := left_apply R hR hd k (by omega)
    have hf := rest_first (fun n => D (ix2 j n)) R hR hd ⟨k, by omega⟩
    have hf' : First (Bottom fun n => left D k (ix2 j n)) (sortedFrom R ⟨k, by omega⟩) := by rw [show (fun n => left D k (ix2 j n)) = _ from funext ih]; exact hf
    have e := rest_succ (fun n => D (ix2 j n)) R ⟨k, by omega⟩ n
    refine ((without_apply hf' n).trans ?_).trans e.symm
    rw [ih n]

theorem row_number (R : Fin 4096 → Fin 4096 → Bool) (hR : ∀ a b, R a b = true ↔ (D (ix2 j a) : EReal) < D (ix2 j b)) (hd : ∀ n, (D (ix2 j n) : EReal) < ⊤) (k : Fin 32) :
    stored (left D k.val) (ix3 (0 : Fin 1) (0 : Fin 1) j) = BitVec.ofNat 32 (sortedFrom R ⟨k.val, by omega⟩).val := by
  refine stored_apply ?_
  rw [show (fun n => left D k.val (ix2 j n)) = _ from funext (left_apply R hR hd k.val (by omega))]
  exact rest_first (fun n => D (ix2 j n)) R hR hd ⟨k.val, by omega⟩

end Cert.Proof.Fps

/-! ## The reference's selection -/

namespace Cert.Proof.FpsRef

open Cert.FpsReferenceIdeal Cert.FpsReferenceIdeal.Gen
open Idealize.ShloMosaic Idealize.ShloMosaic.ValueIdx
open Cert.Proof.First

variable (x : FVec Ideal S16x4096x3 .f32) (p : FVec Ideal S16x128x3 .f32)

theorem offsets_apply (a : Fin 16) (j : Fin 128) (n : Fin 4096) (r : Fin 3) :
    (offsets x p (ix4 a j n r) : EReal) = (p (ix3 a j r) : EReal) - x (ix3 a n r) := by
  have e1 : broadcastInDim S16x128x4096x3 ![0, 1, 2, 3] bcast_S16x128x1x3_S16x128x4096x3_0_1_2_3 (broadcastInDim S16x128x1x3 ![0, 1, 3] bcast_S16x128x3_S16x128x1x3_0_1_3 p) (ix4 a j n r) = p (ix3 a j r) :=
    (broadcastInDim_apply _ _ _ _ (ix4 a j (0 : Fin 1) r) (by intro b; fin_cases b <;> rfl)).trans (broadcastInDim_apply _ _ _ _ (ix3 a j r) (by intro b; fin_cases b <;> rfl))
  have e2 : broadcastInDim S16x128x4096x3 ![0, 1, 2, 3] bcast_S16x1x4096x3_S16x128x4096x3_0_1_2_3 (broadcastInDim S16x1x4096x3 ![0, 2, 3] bcast_S16x4096x3_S16x1x4096x3_0_2_3 x) (ix4 a j n r) = x (ix3 a n r) :=
    (broadcastInDim_apply _ _ _ _ (ix4 a (0 : Fin 1) n r) (by intro b; fin_cases b <;> rfl)).trans (broadcastInDim_apply _ _ _ _ (ix3 a n r) (by intro b; fin_cases b <;> rfl))
  rw [← e1, ← e2]
  rfl

theorem reduces_d3 : Shape.Reduces S16x128x4096x3 [3] S16x128x4096 := by decide

theorem apart_apply (a : Fin 16) (j : Fin 128) (n : Fin 4096) :
    (apart x p (ix3 a j n) : EReal) = sq (p (ix3 a j (0 : Fin 3))) (x (ix3 a n (0 : Fin 3))) + sq (p (ix3 a j (1 : Fin 3))) (x (ix3 a n (1 : Fin 3))) + sq (p (ix3 a j (2 : Fin 3))) (x (ix3 a n (2 : Fin 3))) := by
  have hl : ∀ r : Fin 3, reduces_d3.lift (ix3 a j n) r = ix4 a j n r := fun r => by funext b; fin_cases b <;> rfl
  have ht : ∀ r : Fin 3, (mulf (offsets x p) (offsets x p) (reduces_d3.lift (ix3 a j n) r) : EReal) = sq (p (ix3 a j r)) (x (ix3 a n r)) := by
    intro r
    rw [hl]
    show (offsets x p (ix4 a j n r) : EReal) * offsets x p (ix4 a j n r) = _
    rw [offsets_apply]
  unfold apart
  show (Host.reduceAdd (mulf (offsets x p) (offsets x p)) _ _ _ (ix3 a j n) : EReal) = _
  refine (Ideal.hostReduceAdd_single _ reduces_d3 (mulf (offsets x p) (offsets x p)) _ (ix3 a j n)).trans ?_
  refine (congrArg₂ (· + ·) Ideal.ofBits_zero_f32 (Finset.sum_congr rfl fun r _ => ht r)).trans ?_
  rw [zero_add]
  exact Fin.sum_univ_three _

/-- Whether one point is nearer than another, `d` being the distances. -/
def nearer (d : Fin 4096 → EReal) (k k' : Fin 4096) : Bool := FloatOps.cmpfTotal (F := Ideal) (φ := .f32) .gt (-d k) (-d k') == 1#1

theorem nearer_iff (d : Fin 4096 → EReal) (k k' : Fin 4096) : nearer d k k' = true ↔ d k < d k' := by
  unfold nearer
  rw [beq_iff_eq]
  refine (ofBool_iff ((-d k') < -d k)).trans ?_
  exact EReal.neg_lt_neg_iff

/-- The position `n` of the row through `i`. -/
def onRow (i : S16x128x4096.Idx) (n : Fin 4096) : S16x128x4096.Idx := Shape.Idx.along i (2 : Fin 3) n

theorem along_apply (a : Fin 16) (j : Fin 128) (k n : Fin 4096) : onRow (ix3 a j k) n = ix3 a j n := by
  funext b
  fin_cases b <;> rfl

theorem sort_apply (gt : Ideal .f32 → Ideal .f32 → BitVec 1) (X : FVec Ideal S16x128x4096 .f32) (Y : IVec S16x128x4096 32) (hY : ∀ {a : Fin 16} {j : Fin 128} (n : Fin 4096), Y (ix3 a j n) = BitVec.ofNat 32 n.val)
    (a : Fin 16) (j : Fin 128) (k : Fin 4096) :
    (Host.sort2 S16x128x4096 2 (fun l r => gt l.1 r.1) X Y).2 (ix3 a j k)
      = BitVec.ofNat 32 (sortedFrom (fun n n' : Fin 4096 => gt (X (ix3 a j n)) (X (ix3 a j n')) == 1#1) k).val := by
  have e : (Host.sort2 S16x128x4096 2 (fun l r => gt l.1 r.1) X Y).2 (ix3 a j k)
      = Y (onRow (ix3 a j k) (sortedFrom (fun n n' : Fin 4096 =>
          gt (X (onRow (ix3 a j k) n)) (X (onRow (ix3 a j k) n')) == 1#1) k)) := by
    unfold Host.sort2
    rw [dif_pos (by decide : 2 < S16x128x4096.rank)]
    rfl
  rw [e, along_apply, hY]
  simp only [along_apply]

/-- The numbers a selection of the 32 greatest gives are the sources of the first 32 sorted positions. -/
theorem top_apply (gt : Ideal .f32 → Ideal .f32 → BitVec 1) (X : FVec Ideal S16x128x4096 .f32) (a : Fin 16) (j : Fin 128) (k : Fin 32) :
    (Host.topK S16x128x32 2 gt X sliceFits_S16x128x4096_S16x128x32).2 (ix3 a j k)
      = BitVec.ofNat 32 (sortedFrom (fun n n' : Fin 4096 => gt (X (ix3 a j n)) (X (ix3 a j n')) == 1#1) ⟨k.val, by omega⟩).val := by
  unfold Host.topK
  dsimp only
  refine (extractStridedSlice_apply _ _ _ (ix3 a j k) (ix3 a j (⟨k.val, by omega⟩ : Fin 4096)) (by intro b; fin_cases b <;> simp [ix3])).trans ?_
  exact sort_apply gt X _ (fun n => rfl) a j _

theorem nearest_apply (a : Fin 16) (j : Fin 128) (k : Fin 32) :
    nearest x p (ix3 a j k) = BitVec.ofNat 32 (sortedFrom (nearer fun n => apart x p (ix3 a j n)) ⟨k.val, by omega⟩).val :=
  top_apply _ _ a j k

end Cert.Proof.FpsRef

namespace Cert.Proof.Fps

open Cert.FpsIdeal Cert.FpsIdeal.Gen
open Idealize.ShloMosaic Idealize.ShloMosaic.TcCoe Idealize.ShloMosaic.ValueIdx
open Cert.Proof.First

/-! ## The two together -/

theorem real_of_finite {v : EReal} (h : max v (-v) < ⊤) : ∃ q : ℝ, v = q := by
  induction v with
  | bot => simp at h
  | coe q => exact ⟨q, rfl⟩
  | top => simp at h

theorem finite_of_pre (x : FVec Ideal Cert.Pre_finite.S16x4096x3 .f32) (h : Cert.Pre_finite.fn x = fun _ => 1#1) (i : Cert.Pre_finite.S16x4096x3.Idx) : ∃ q : ℝ, (x i : EReal) = q := by
  have e := congrFun h ix0
  unfold Cert.Pre_finite.fn at e
  haveI : Subsingleton Cert.Pre_finite.S_.Idx := ⟨fun a b => funext fun q => q.elim0⟩
  have e' := Host.reduce_andi_all _ _ _ _ _ e i
  refine real_of_finite (v := x i) ?_
  have e2 : max (x i : EReal) (-(x i : EReal)) < Ideal.ofBits .f32 0x7F800000#32 := (ofBool_iff _).mp e'
  exact e2.trans_eq bits_top

variable (m : (ℓ : Loc nD τ sig) → Buf (Elt Ideal) ℓ) (c : Dev nD)

/-- The points on device `c`. -/
abbrev pts : FVec Ideal Cert.FpsReferenceIdeal.S16x4096x3 .f32 := m ((c.tc : Thread nD τ).loc main_arg0)

theorem same : Same (clouds m c) (pts m c) := fun a r n => clouds_apply m c a r n

theorem spans_eq {g : Fin 16 → Fin 128 → Fin 4096} (ht : FpsRef.Named (FpsRef.table (pts m c) 128) g)
    (hg : ∀ a j, ((kst (clouds m c) j.val).2 (ix1 a) : EReal) = num (g a j).val) (a : Fin 16) (j : Fin 128) (n : Fin 4096) :
    (spans m c a (ix2 j n) : EReal) = FpsRef.apart (pts m c) (FpsRef.taken (pts m c) (FpsRef.table (pts m c) 128)) (ix3 a j n) := by
  rw [spans_apply, FpsRef.apart_apply]
  simp only [centers_apply (same m c) hg, FpsRef.taken_apply ht, same m c a _ n]
  rfl

theorem apart_finite (hx : ∀ i, ∃ q : ℝ, (pts m c i : EReal) = q) {g : Fin 16 → Fin 128 → Fin 4096} (ht : FpsRef.Named (FpsRef.table (pts m c) 128) g) (a : Fin 16) (j : Fin 128) (n : Fin 4096) :
    (FpsRef.apart (pts m c) (FpsRef.taken (pts m c) (FpsRef.table (pts m c) 128)) (ix3 a j n) : EReal) < ⊤ := by
  rw [FpsRef.apart_apply]
  simp only [FpsRef.taken_apply ht]
  choose q hq using hx
  simp only [hq, FpsRef.sq, ← EReal.coe_sub, ← EReal.coe_mul, ← EReal.coe_add]
  exact EReal.coe_lt_top _

/-- The block of neighbour numbers is the reference's, its last two axes exchanged. -/
theorem nears_eq (hx : ∀ i, ∃ q : ℝ, (pts m c i : EReal) = q) :
    (nears m c : Cert.FpsReferenceIdeal.S16x32x128.Idx → BitVec 32)
      = transpose Cert.FpsReferenceIdeal.S16x32x128 [0, 2, 1] (FpsRef.nearest (pts m c) (FpsRef.taken (pts m c) (FpsRef.table (pts m c) 128))) Cert.FpsReferenceIdeal.Gen.transposes_S16x128x32_S16x32x128_0_2_1 := by
  obtain ⟨g, ht, hg⟩ := names (same m c)
  funext i
  obtain ⟨a, k, j, rfl⟩ : ∃ a k j, i = ix3 (n0 := 16) (n1 := 32) (n2 := 128) a k j := ⟨_, _, _, eq_ix3 i⟩
  refine (nears_apply m c a k j).trans ?_
  refine Eq.trans ?_ (transpose_apply _ _ _ _ (ix3 a j k) (by intro b; fin_cases b <;> rfl)).symm
  rw [FpsRef.nearest_apply]
  have hs : (fun n => FpsRef.apart (pts m c) (FpsRef.taken (pts m c) (FpsRef.table (pts m c) 128)) (ix3 a j n)) = fun n => (spans m c a (ix2 j n) : EReal) := funext fun n => (spans_eq m c ht hg a j n).symm
  rw [hs]
  refine row_number _ (fun u v => FpsRef.nearer_iff (fun n => (spans m c a (ix2 j n) : EReal)) u v) (fun n => ?_) k
  rw [spans_eq m c ht hg]
  exact apart_finite m c hx ht a j n

end Cert.Proof.Fps

end
-- ==== Proof.FpsClaims.lean ====
/-
  The claims about the farthest-point call: its frame, the named constant, and the equality of its results with the reference's.
-/
module

public import proofs.«01_k».proof.Defs
public import proofs.«01_k».proof.Proof.FpsBits
public import proofs.«01_k».proof.Proof.FpsTop

@[expose] public section

noncomputable section

namespace Cert.Proof.Fps

open Idealize.ShloMosaic Idealize.SL.Sem

theorem frame_named : Cert.quiescent_FpsIdeal := fun m ρ _ => frame_fps m ρ

theorem frame_plain : Cert.quiescent_FpsReferenceIdeal := fun m ρ _ =>
  (θ_run Cert.FpsReferenceIdeal.defs _ _).mono (fun r h => ⟨fun c => (h c).2, sem_eq_zero_of_no_sems (by decide) r.2⟩) (FpsRef.run_ref (F := Ideal) m ρ)

theorem big_named : Cert.preserves_Fps_FpsIdeal := IdealRules.named_const.statement Cert.FpsIdeal.κ "big" .f32 0x7F61B1E6#32 ⊤ rfl

/-- Exchanging the last two axes twice changes nothing. -/
theorem turned_back {u : Cert.FpsReferenceIdeal.S16x3x128.Idx → EReal} {v : Cert.FpsReferenceIdeal.S16x128x3.Idx → EReal}
    {h : Cert.FpsReferenceIdeal.S16x128x3.Transposes [0, 2, 1] Cert.FpsReferenceIdeal.S16x3x128}
    (e : u = transpose Cert.FpsReferenceIdeal.S16x3x128 [0, 2, 1] v h) (k : Cert.FpsReferenceIdeal.S16x3x128.Transposes [0, 2, 1] Cert.FpsReferenceIdeal.S16x128x3) :
    v = transpose Cert.FpsReferenceIdeal.S16x128x3 [0, 2, 1] u k := by
  have key : ∀ (a : Fin 16) (j : Fin 128) (r : Fin 3), v (ValueIdx.ix3 a j r) = transpose Cert.FpsReferenceIdeal.S16x128x3 [0, 2, 1] u k (ValueIdx.ix3 a j r) := fun a j r => by
    refine ((transpose_apply _ _ _ _ (ValueIdx.ix3 a r j) (by intro b; fin_cases b <;> rfl)).trans ?_).symm
    rw [e]
    exact transpose_apply _ _ _ _ (ValueIdx.ix3 a j r) (by intro b; fin_cases b <;> rfl)
  funext i
  have hi : i = ValueIdx.ix3 (i 0) (i 1) (i 2) := by funext a; fin_cases a <;> rfl
  rw [hi]
  exact key _ _ _

theorem algebraic : Cert.algebraic_FpsIdeal_FpsReferenceIdeal_pre_finite := by
  intro m g m' g' hpre hagree
  refine ⟨fun c => transpose Cert.FpsIdeal.S16x128x3 [0, 2, 1] (centers (clouds m c)) Cert.FpsIdeal.Gen.transposes_S16x3x128_S16x128x3_0_2_1,
    fun c => centers (clouds m c), fun c => nears m c, run_arrays (F := Ideal) m g, ?_⟩
  refine (θ_run Cert.FpsReferenceIdeal.defs _ _).mono (fun _ h c => ?_) (FpsRef.run_ref (F := Ideal) m' g')
  have hx : ∀ i, ∃ q : ℝ, (pts m c i : EReal) = q := finite_of_pre _ (hpre c)
  have ha : m' ((c.tc : Thread Cert.FpsReferenceIdeal.nD Cert.FpsReferenceIdeal.τ).loc Cert.FpsReferenceIdeal.main_arg0) = pts m c := hagree c
  obtain ⟨⟨h0, h1, h2⟩, h3⟩ := h c
  refine ⟨h0.trans ?_, h1.trans ?_, h2.trans ?_, h3⟩
  · rw [show FpsRef.arg m' c = pts m c from ha]
    exact turned_back (centers_eq (same m c)) _
  · rw [show FpsRef.arg m' c = pts m c from ha]
    exact (centers_eq (same m c)).symm
  · rw [show FpsRef.arg m' c = pts m c from ha]
    exact (nears_eq m c hx).symm

end Cert.Proof.Fps

end
-- ==== Proof.MlpSteps.lean ====
/-
  The layers of the multilayer perceptron as the kernel computes them, one pair of clouds or one cloud at a time: the sums
  and the sums of squares that the normalisations divide, and the maximum over the neighbours.
-/
module

public import proofs.«01_k».proof.Proof.Gen.MlpIdeal.Skeleton
public import Idealize.ShloMosaic.Lib.ValueIdx

@[expose] public section

set_option maxRecDepth 65536

noncomputable section

namespace Cert.Proof.Mlp

open Cert.MlpIdeal Cert.MlpIdeal.Gen
open Idealize.ShloMosaic Idealize.ShloMosaic.ValueIdx

variable {F : FTy → Type} [FloatOps F]

/-! ## Sums and maxima over the column blocks -/

variable {C N : ℕ}

theorem columns_fit (k : ℕ) (h : (k + 1) * 128 ≤ N) : (⟨2, ![C, N]⟩ : Shape).Slices ![0, k * 128] ⟨2, ![C, 128]⟩ :=
  ⟨rfl, fun a => by
    fin_cases a
    · show 0 + C ≤ C; omega
    · exact Nat.le_trans (Nat.le_of_eq (Nat.succ_mul k 128).symm) h⟩

/-- The `k`-th block of 128 columns. -/
def columns (y : FVec F ⟨2, ![C, N]⟩ .f32) (k : ℕ) (h : (k + 1) * 128 ≤ N) : FVec F ⟨2, ![C, 128]⟩ .f32 :=
  extractStridedSlice ⟨2, ![C, 128]⟩ ![0, k * 128] y (columns_fit k h)

theorem fits_pred {k : ℕ} (h : (k + 1) * 128 ≤ N) : k * 128 ≤ N :=
  Nat.le_trans (Nat.mul_le_mul_right 128 (Nat.le_succ k)) h

/-- The sum of the first `k` blocks. -/
def adds (y : FVec F ⟨2, ![C, N]⟩ .f32) : (k : ℕ) → k * 128 ≤ N → FVec F ⟨2, ![C, 128]⟩ .f32
  | 0, _ => broadcast ⟨2, ![C, 128]⟩ (Scalar.ofBits .f32 0x00000000#32)
  | k + 1, h => addf (adds y k (fits_pred h)) (columns y k h)

/-- The sum of the squares of the first `k` blocks. -/
def squares (y : FVec F ⟨2, ![C, N]⟩ .f32) : (k : ℕ) → k * 128 ≤ N → FVec F ⟨2, ![C, 128]⟩ .f32
  | 0, _ => broadcast ⟨2, ![C, 128]⟩ (Scalar.ofBits .f32 0x00000000#32)
  | k + 1, h => addf (squares y k (fits_pred h)) (mulf (columns y k h) (columns y k h))

theorem fits_more {k : ℕ} (h : (k + 1) * 128 + 128 ≤ N) : k * 128 + 128 ≤ N :=
  Nat.le_trans (Nat.add_le_add_right (Nat.mul_le_mul_right 128 (Nat.le_succ k)) 128) h
theorem fits_next {k : ℕ} (h : (k + 1) * 128 + 128 ≤ N) : (k + 1 + 1) * 128 ≤ N :=
  Nat.le_trans (Nat.le_of_eq (Nat.succ_mul (k + 1) 128)) h

/-- The maximum of block 0 and the `k` blocks after it. -/
def tops (y : FVec F ⟨2, ![C, N]⟩ .f32) (h₀ : (0 + 1) * 128 ≤ N) : (k : ℕ) → k * 128 + 128 ≤ N → FVec F ⟨2, ![C, 128]⟩ .f32
  | 0, _ => columns y 0 h₀
  | k + 1, h => maximumf (tops y h₀ k (fits_more h)) (columns y (k + 1) (fits_next h))

/-! ## The layers -/

/-- One cloud of a pair. -/
def half (x : Vec F S2x3x4096 .f32) (h : Fin 2) : Vec F S1x3x4096 .f32 := fun j => x (ix3 h (j 1) (j 2))

/-- The first layer before its normalisation, of a pair of clouds. -/
def first (x : Vec F S2x3x4096 .f32) (w : Vec F S64x3 .f32) (b : Vec F S64x1 .f32) : FVec F S64x8192 .f32 :=
  k0_pay16 (half x 0) (half x 1) w b

/-- The second layer before its normalisation, of a pair of clouds. -/
def second (x : Vec F S2x3x4096 .f32) (w : Vec F S64x3 .f32) (b g e : Vec F S64x1 .f32) (s q : Vec F S64x128 .f32)
    (w' : Vec F S128x64 .f32) (b' : Vec F S128x1 .f32) : FVec F S128x8192 .f32 :=
  k0_pay95 (first x w b) q (k0_pay92 g) (k0_pay93 e) (k0_pay94 s) w' b'

/-- One cloud's part of the second layer. -/
def second0 (y : FVec F S128x8192 .f32) : FVec F S1x128x4096 .f32 :=
  shapeCast S1x128x4096 (shapeCast S1x128x4096 (extractStridedSlice S128x4096 ![0, 0] y slices_S128x8192_o0_0_S128x4096) shapeCasts_S128x4096_S1x128x4096)
    shapeCasts_S1x128x4096_S1x128x4096
def second1 (y : FVec F S128x8192 .f32) : FVec F S1x128x4096 .f32 :=
  shapeCast S1x128x4096 (shapeCast S1x128x4096 (extractStridedSlice S128x4096 ![0, 4096] y slices_S128x8192_o0_4096_S128x4096) shapeCasts_S128x4096_S1x128x4096)
    shapeCasts_S1x128x4096_S1x128x4096

/-- The third layer before its normalisation, of one cloud. -/
def third (y : Vec F S1x128x4096 .f32) (s q : Vec F S128x128 .f32) (g e : Vec F S128x1 .f32) (w : Vec F S384x128 .f32) (b : Vec F S384x1 .f32) : FVec F S384x4096 .f32 :=
  k0_pay209 y s q g e w b

/-- The result of one cloud. -/
def result (s q : Vec F S384x128 .f32) (g e : Vec F S384x1 .f32) (t : Vec F S1x384x128 .f32) : FVec F S1x128x384 .f32 :=
  k0_pay255 s q g e t

/-- A block with a leading axis of length one. -/
def lifted (t : FVec F S384x128 .f32) : FVec F S1x384x128 .f32 :=
  shapeCast S1x384x128 (shapeCast S1x384x128 t shapeCasts_S384x128_S1x384x128) shapeCasts_S1x384x128_S1x384x128

/-- The running sums, the next part of a cloud or of a pair added. -/
def more {C : ℕ} (p s : FVec F ⟨2, ![C, 128]⟩ .f32) : FVec F ⟨2, ![C, 128]⟩ .f32 :=
  shapeCast ⟨2, ![C, 128]⟩ (addf s p) rfl

/-! ## Rows of a stack of blocks -/

variable {A B : ℕ} {e : EltTy}

/-- Row `n` of a stack. -/
def rowOf (Y : Vec F ⟨3, ![A, B, C]⟩ e) (n : ℕ) (h : n < A) : Vec F ⟨3, ![1, B, C]⟩ e := fun j => Y (ix3 ⟨n, h⟩ (j 1) (j 2))

/-- A stack with row `n` replaced. -/
def put (Y : Vec F ⟨3, ![A, B, C]⟩ e) (n : ℕ) (r : Vec F ⟨3, ![1, B, C]⟩ e) : Vec F ⟨3, ![A, B, C]⟩ e :=
  fun j => if (j 0).val = n then r (ix3 0 (j 1) (j 2)) else Y j

theorem rowOf_put (Y : Vec F ⟨3, ![A, B, C]⟩ e) (n : ℕ) (h : n < A) (r : Vec F ⟨3, ![1, B, C]⟩ e) : rowOf (put Y n r) n h = r := by
  funext j
  have h0 : j = ix3 0 (j 1) (j 2) := by
    funext a; fin_cases a
    · exact Fin.ext (Nat.lt_one_iff.mp (j 0).isLt)
    · rfl
    · rfl
  exact (if_pos rfl).trans (congrArg r h0.symm)

theorem rowOf_put_ne (Y : Vec F ⟨3, ![A, B, C]⟩ e) (n m : ℕ) (h : m < A) (hm : m ≠ n) (r : Vec F ⟨3, ![1, B, C]⟩ e) : rowOf (put Y n r) m h = rowOf Y m h := by
  funext j
  exact if_neg hm

/-- The results of all clouds. -/
def results (s q : Vec F S384x128 .f32) (g e : Vec F S384x1 .f32) (T : Vec F S16x384x128 .f32) : FVec F S16x128x384 .f32 :=
  fun j => result s q g e (rowOf T (j 0).val (j 0).isLt) (ix3 0 (j 1) (j 2))

end Cert.Proof.Mlp

end
-- ==== Proof.MlpBody.lean ====
/-
  The body of the multilayer perceptron's kernel in its first phase: the sums of the first layer, pair of clouds by pair of clouds.
-/
module

public import proofs.«01_k».proof.Proof.MlpSteps
public import proofs.«01_k».proof.Proof.Gen.MlpIdeal.Frame
public import Idealize.ShloMosaic.Lib.Exec
public import Idealize.ShloMosaic.Lib.WritesUnit
public import Idealize.ShloMosaic.Lib.VecWindow
public import Idealize.ShloMosaic.Lib.ValueIdxCore
public import Idealize.ShloMosaic.Lib.Pipeline.Value

@[expose] public section

set_option maxRecDepth 65536

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

/-! ## Which grid points do what -/

/-- The kernel's conditions at a grid point that the body does not name. -/
def cond1 (i : grid0.Coords) : BitVec 1 :=
  let v1 : BitVec 32 := Scalar.extui (Scalar.cmpi .eq (BitVec.ofNat 32 (i 0).val) 0#32)
  Scalar.cmpi .ne v1 0#32
def cond2 (i : grid0.Coords) : BitVec 1 :=
  let v4 : BitVec 32 := Scalar.extui (Scalar.cmpi .slt (BitVec.ofNat 32 (i 0).val) 8#32)
  Scalar.cmpi .ne v4 0#32

/-- What a load of a cloud reads from a pair of clouds. -/
theorem half_read (M : Memref sig .tc .vmem S2x3x4096 .f32) (hM : M.IsWhole) (x : Vec F S2x3x4096 .f32) (h : Fin 2) {off : Fin 3 → ℕ} (hoff : off = ![h.val, 0, 0])
    (inb : ∀ a, off a + S1x3x4096.size a ≤ S2x3x4096.size a) :
    M.view.readAt (Elt F) (Rect.unit (s := S2x3x4096) off S1x3x4096.size inb).toLoadRect (hM.unread x) = half x h := by
  subst hoff
  funext j
  rw [View.readAt_apply, hM.read_unread]
  refine congrArg x (funext fun b => Fin.ext ?_)
  have : (j 0).val = 0 := by have := (j 0).isLt; simp at this; omega
  fin_cases b <;> simp [LoadRect.idx, ix3, this]

/-- A load of a whole block. -/
theorem whole_read {s : Shape} {e : EltTy} (M : Memref sig .tc .vmem s e) (hM : M.IsWhole) (x : s.Idx → Elt F e) {off : Fin s.rank → ℕ} (inb : ∀ a, off a + s.size a ≤ s.size a) :
    M.view.readAt (Elt F) (Rect.unit off s.size inb).toLoadRect (hM.unread x) = x :=
  (View.readAt_full _ _ _).trans (hM.read_unread _)

section Rows

variable {A B C : ℕ} {e : EltTy} (M : Memref sig .tc .vmem ⟨3, ![A, B, C]⟩ e)

/-- A stack of which one row has been stored. -/
theorem read_row (f : BufTy.Contents (Elt F) M.view.ty) (L : List (View.Piece (Elt F) ⟨3, ![A, B, C]⟩ e)) {off : Fin 3 → ℕ} (n : ℕ) (hoff : off = ![n, 0, 0])
    (inb : ∀ a, off a + (![1, B, C] : Fin 3 → ℕ) a ≤ (![A, B, C] : Fin 3 → ℕ) a) (r : Vec F ⟨3, ![1, B, C]⟩ e) :
    M.view.read (Elt F) (M.view.writes (Elt F) f (⟨Rect.unit (s := ⟨3, ![A, B, C]⟩) off ![1, B, C] inb, r⟩ :: L)) = put (M.view.read (Elt F) (M.view.writes (Elt F) f L)) n r := by
  funext j
  by_cases h : (j 0).val = n
  · refine Eq.trans ?_ (if_pos h).symm
    exact View.read_writes_cons_unit_of_mem M.view f inb r L j (ix3 0 (j 1) (j 2)) hoff (by intro a; fin_cases a <;> simp [ix3, h])
  · refine Eq.trans ?_ (if_neg h).symm
    exact View.read_writes_cons_unit_of_not_mem M.view f inb r L j hoff (0 : Fin 3) (by show (j 0).val < n ∨ n + 1 ≤ (j 0).val; omega)

/-- A load of a row of a stack. -/
theorem row_read (hM : M.IsWhole) (Y : Vec F ⟨3, ![A, B, C]⟩ e) {off : Fin 3 → ℕ} (n : ℕ) (hn : n < A) (hoff : off = ![n, 0, 0])
    (inb : ∀ a, off a + (![1, B, C] : Fin 3 → ℕ) a ≤ (![A, B, C] : Fin 3 → ℕ) a) :
    M.view.readAt (Elt F) (Rect.unit (s := ⟨3, ![A, B, C]⟩) off ![1, B, C] inb).toLoadRect (hM.unread Y) = rowOf Y n hn := by
  subst hoff
  funext j
  rw [View.readAt_apply, hM.read_unread]
  refine congrArg Y (funext fun b => Fin.ext ?_)
  have h0 : (j 0).val = 0 := Nat.lt_one_iff.mp (j 0).isLt
  fin_cases b
  · simp [LoadRect.idx, ix3, h0]
  · simp [LoadRect.idx, ix3]
  · simp [LoadRect.idx, ix3]

end Rows

variable (arg1 : Memref sig .tc .vmem S2x3x4096 .f32) (harg1 : arg1.IsWhole) (arg2 : Memref sig .tc .vmem S64x3 .f32) (harg2 : arg2.IsWhole)
  (arg3 : Memref sig .tc .vmem S64x1 .f32) (harg3 : arg3.IsWhole) (arg4 : Memref sig .tc .vmem S64x1 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S128x1 .f32) (harg9 : arg9.IsWhole) (arg10 : Memref sig .tc .vmem S384x128 .f32) (harg10 : arg10.IsWhole)
  (arg11 : Memref sig .tc .vmem S384x1 .f32) (harg11 : arg11.IsWhole) (arg12 : Memref sig .tc .vmem S384x1 .f32) (harg12 : arg12.IsWhole)
  (arg13 : Memref sig .tc .vmem S384x1 .f32) (harg13 : arg13.IsWhole) (arg14 : Memref sig .tc .vmem S16x128x384 .f32) (harg14 : arg14.IsWhole)
  (arg15 : Memref sig .tc .vmem S16x128x4096 .f32) (harg15 : arg15.IsWhole) (arg16 : Memref sig .tc .vmem S16x384x128 .f32) (harg16 : arg16.IsWhole)
  (arg17 : Memref sig .tc .vmem S64x128 .f32) (harg17 : arg17.IsWhole) (arg18 : Memref sig .tc .vmem S64x128 .f32) (harg18 : arg18.IsWhole)
  (arg19 : Memref sig .tc .vmem S128x128 .f32) (harg19 : arg19.IsWhole) (arg20 : Memref sig .tc .vmem S128x128 .f32) (harg20 : arg20.IsWhole)
  (arg21 : Memref sig .tc .vmem S384x128 .f32) (harg21 : arg21.IsWhole) (arg22 : Memref sig .tc .vmem S384x128 .f32) (harg22 : arg22.IsWhole)

/-- The first layer of the pair that the loads read. -/
theorem first_read (x : Vec F S2x3x4096 .f32) (w : Vec F S64x3 .f32) (b : Vec F S64x1 .f32) :
    k0_pay16 (arg1.view.readAt (Elt F) (Rect.unit (s := S2x3x4096) ![0, 0, 0] S1x3x4096.size inb_S2x3x4096_S1x3x4096_0_0_0).toLoadRect (harg1.unread x))
      (arg1.view.readAt (Elt F) (Rect.unit (s := S2x3x4096) ![1, 0, 0] S1x3x4096.size inb_S2x3x4096_S1x3x4096_1_0_0).toLoadRect (harg1.unread x))
      (arg2.view.readAt (Elt F) (Rect.unit (s := S64x3) ![0, 0] S64x3.size inb_S64x3_S64x3_0_0).toLoadRect (harg2.unread w))
      (arg3.view.readAt (Elt F) (Rect.unit (s := S64x1) ![0, 0] S64x1.size inb_S64x1_S64x1_0_0).toLoadRect (harg3.unread b)) = first x w b := by
  exact congr (congr (congr (congrArg k0_pay16 (half_read arg1 harg1 x 0 rfl _)) (half_read arg1 harg1 x 1 rfl _)) (whole_read _ _ _ _)) (whole_read _ _ _ _)

/-- The body on its arguments. -/
abbrev bodyOn (i : grid0.Coords) : Prog (TpuEff nD τ sig (Elt F) Λ₀ .tc) PUnit :=
  cc0__fused_mlp_body i arg1 harg1 arg2 harg2 arg3 harg3 arg4 harg4 arg5 harg5 arg6 harg6 arg7 harg7 arg8 harg8 arg9 harg9 arg10 harg10 arg11 harg11 arg12 harg12 arg13 harg13 arg14 harg14
    arg15 harg15 arg16 harg16 arg17 harg17 arg18 harg18 arg19 harg19 arg20 harg20 arg21 harg21 arg22 harg22

set_option maxHeartbeats 1000000 in
/-- A later point of the first phase. -/
theorem sums_run (c : Dev nD) (i : grid0.Coords) (h1 : ¬ cond1 i = 1#1) (h2 : cond2 i = 1#1) (h3 : ¬ k0_cond3 i = 1#1) (h4 : ¬ k0_cond4 i = 1#1) (h5 : ¬ k0_cond5 i = 1#1)
    (x : Vec F S2x3x4096 .f32) (w : Vec F S64x3 .f32) (b : Vec F S64x1 .f32) (s q : Vec F S64x128 .f32) (E : Set ℕ) (K : PUnit → sProp 𝕄) :
    iprop(owns (c : Thread nD τ) arg1 fullShare x ∗ owns (c : Thread nD τ) arg2 fullShare w ∗ owns (c : Thread nD τ) arg3 fullShare b
        ∗ owns (c : Thread nD τ) arg17 fullShare s ∗ owns (c : Thread nD τ) arg18 fullShare q
        ∗ (iprop(owns (c : Thread nD τ) arg1 fullShare x ∗ owns (c : Thread nD τ) arg2 fullShare w ∗ owns (c : Thread nD τ) arg3 fullShare b
          ∗ owns (c : Thread nD τ) arg17 fullShare (more (adds (first x w b) 64 (by decide)) s)
          ∗ owns (c : Thread nD τ) arg18 fullShare (more (squares (first x w b) 64 (by decide)) q)) -∗ K ⟨⟩))
      ⊢ wp frame (wpE (defs₀ (F := F)) Variants.none c none) E (bodyOn arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22 i) K := by
  unfold bodyOn
  simp only [cc0__fused_mlp_body_eq_skeleton]; unfold cc0__fused_mlp_body_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f17, %hf17, H17⟩, ⟨%f18, %hf18, H18⟩, Hk⟩
  obtain rfl := harg1.eq_unread hf1; obtain rfl := harg2.eq_unread hf2; obtain rfl := harg3.eq_unread hf3
  obtain rfl := harg17.eq_unread hf17; obtain rfl := harg18.eq_unread hf18
  sl_exec (disch := first | sl_exact h1 | sl_exact h2 | sl_exact h3 | sl_exact h4 | sl_exact h5)
  sl_step
  iapply Hk
  isplitl [H1]
  · iexists _; isplitr; · ipureintro; exact harg1.read_unread _
    iexact H1
  isplitl [H2]
  · iexists _; isplitr; · ipureintro; exact harg2.read_unread _
    iexact H2
  isplitl [H3]
  · iexists _; isplitr; · ipureintro; exact harg3.read_unread _
    iexact H3
  isplitl [H17]
  · iexists _; isplitr
    swap; · iexact H17
    ipureintro
    refine (View.read_writes_full _ _ _ _ _).trans (congrArg₂ k0_pay7 ?_ ((View.readAt_full _ _ _).trans (harg17.read_unread _)))
    rw [← first_read arg1 harg1 arg2 harg2 arg3 harg3]
    sl_unfold_run_names
    sl_kernel_rfl
  iexists _; isplitr
  swap; · iexact H18
  ipureintro
  refine (View.read_writes_full _ _ _ _ _).trans (congrArg₂ k0_pay8 ?_ ((View.readAt_full _ _ _).trans (harg18.read_unread _)))
  rw [← first_read arg1 harg1 arg2 harg2 arg3 harg3]
  sl_unfold_run_names
  sl_kernel_rfl

set_option maxHeartbeats 4000000 in
/-- The first point: the sums are put to zero, and the first pair is added. -/
theorem start_run (c : Dev nD) (i : grid0.Coords) (h1 : cond1 i = 1#1) (h2 : cond2 i = 1#1) (h3 : ¬ k0_cond3 i = 1#1) (h4 : ¬ k0_cond4 i = 1#1) (h5 : ¬ k0_cond5 i = 1#1)
    (x : Vec F S2x3x4096 .f32) (w : Vec F S64x3 .f32) (b : Vec F S64x1 .f32) (s₁ s₂ : Vec F S64x128 .f32) (s₃ s₄ : Vec F S128x128 .f32) (s₅ s₆ : Vec F S384x128 .f32) (E : Set ℕ) (K : PUnit → sProp 𝕄) :
    iprop(owns (c : Thread nD τ) arg1 fullShare x
        ∗ owns (c : Thread nD τ) arg2 fullShare w
        ∗ owns (c : Thread nD τ) arg3 fullShare b
        ∗ owns (c : Thread nD τ) arg17 fullShare s₁
        ∗ owns (c : Thread nD τ) arg18 fullShare s₂
        ∗ owns (c : Thread nD τ) arg19 fullShare s₃
        ∗ owns (c : Thread nD τ) arg20 fullShare s₄
        ∗ owns (c : Thread nD τ) arg21 fullShare s₅
        ∗ owns (c : Thread nD τ) arg22 fullShare s₆
        ∗ (iprop(owns (c : Thread nD τ) arg1 fullShare x
          ∗ owns (c : Thread nD τ) arg2 fullShare w
          ∗ owns (c : Thread nD τ) arg3 fullShare b
          ∗ owns (c : Thread nD τ) arg17 fullShare (more (adds (first x w b) 64 (by decide)) k0_pay1)
          ∗ owns (c : Thread nD τ) arg18 fullShare (more (squares (first x w b) 64 (by decide)) k0_pay2)
          ∗ owns (c : Thread nD τ) arg19 fullShare k0_pay3
          ∗ owns (c : Thread nD τ) arg20 fullShare k0_pay4
          ∗ owns (c : Thread nD τ) arg21 fullShare k0_pay5
          ∗ owns (c : Thread nD τ) arg22 fullShare k0_pay6) -∗ K ⟨⟩))
      ⊢ wp frame (wpE (defs₀ (F := F)) Variants.none c none) E (bodyOn arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22 i) K := by
  unfold bodyOn
  simp only [cc0__fused_mlp_body_eq_skeleton]; unfold cc0__fused_mlp_body_skel
  simp only [k0_part1_eq_skeleton, k0_part2_eq_skeleton, k0_part3_eq_skeleton, k0_part4_eq_skeleton, k0_part5_eq_skeleton]
  unfold owns
  iintro ⟨⟨%f1, %hf1, H1⟩, ⟨%f2, %hf2, H2⟩, ⟨%f3, %hf3, H3⟩, ⟨%f17, %hf17, H17⟩, ⟨%f18, %hf18, H18⟩, ⟨%f19, %hf19, H19⟩, ⟨%f20, %hf20, H20⟩, ⟨%f21, %hf21, H21⟩, ⟨%f22, %hf22, H22⟩, Hk⟩
  obtain rfl := harg1.eq_unread hf1
  obtain rfl := harg2.eq_unread hf2
  obtain rfl := harg3.eq_unread hf3
  obtain rfl := harg17.eq_unread hf17
  obtain rfl := harg18.eq_unread hf18
  obtain rfl := harg19.eq_unread hf19
  obtain rfl := harg20.eq_unread hf20
  obtain rfl := harg21.eq_unread hf21
  obtain rfl := harg22.eq_unread hf22
  sl_exec (disch := first | sl_exact h1 | sl_exact h2 | sl_exact h3 | sl_exact h4 | sl_exact h5)
  sl_step
  iapply Hk
  isplitl [H1]
  · iexists _; isplitr
    swap; · iexact H1
    ipureintro
    exact harg1.read_unread _
  isplitl [H2]
  · iexists _; isplitr
    swap; · iexact H2
    ipureintro
    exact harg2.read_unread _
  isplitl [H3]
  · iexists _; isplitr
    swap; · iexact H3
    ipureintro
    exact harg3.read_unread _
  isplitl [H17]
  · iexists _; isplitr
    swap; · iexact H17
    ipureintro
    refine (View.read_writes_full _ _ _ _ _).trans (congrArg₂ more ?_ ?_)
    · rw [← first_read arg1 harg1 arg2 harg2 arg3 harg3]
      sl_unfold_run_names
      sl_kernel_rfl
    · sl_unfold_run_names
      exact View.readCov_full _ _ _ _ _
  isplitl [H18]
  · iexists _; isplitr
    swap; · iexact H18
    ipureintro
    refine (View.read_writes_full _ _ _ _ _).trans (congrArg₂ more ?_ ?_)
    · rw [← first_read arg1 harg1 arg2 harg2 arg3 harg3]
      sl_unfold_run_names
      sl_kernel_rfl
    · sl_unfold_run_names
      exact View.readCov_full _ _ _ _ _
  isplitl [H19]
  · iexists _; isplitr
    swap; · iexact H19
    ipureintro
    exact View.read_writes_full _ _ _ _ _
  isplitl [H20]
  · iexists _; isplitr
    swap; · iexact H20
    ipureintro
    exact View.read_writes_full _ _ _ _ _
  isplitl [H21]
  · iexists _; isplitr
    swap; · iexact H21
    ipureintro
    exact View.read_writes_full _ _ _ _ _
  iexists _; isplitr
  swap; · iexact H22
  ipureintro
  exact View.read_writes_full _ _ _ _ _

end Cert.Proof.Mlp

end
-- ==== Proof.MlpSeconds.lean ====
/-
  The body of the multilayer perceptron's kernel in its second phase: the second layer of a pair of clouds, and its sums.
-/
module

public import proofs.«01_k».proof.Proof.MlpBody
public import Idealize.ShloMosaic.Lib.Exec
public import Idealize.ShloMosaic.Lib.WritesUnit
public import Idealize.ShloMosaic.Lib.VecWindow
public import Idealize.ShloMosaic.Lib.ValueIdxCore
public import Idealize.ShloMosaic.Lib.Pipeline.Value

@[expose] public section

set_option maxRecDepth 65536

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

variable (arg1 : Memref sig .tc .vmem S2x3x4096 .f32) (harg1 : arg1.IsWhole) (arg2 : Memref sig .tc .vmem S64x3 .f32) (harg2 : arg2.IsWhole)
  (arg3 : Memref sig .tc .vmem S64x1 .f32) (harg3 : arg3.IsWhole) (arg4 : Memref sig .tc .vmem S64x1 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S128x1 .f32) (harg9 : arg9.IsWhole) (arg10 : Memref sig .tc .vmem S384x128 .f32) (harg10 : arg10.IsWhole)
  (arg11 : Memref sig .tc .vmem S384x1 .f32) (harg11 : arg11.IsWhole) (arg12 : Memref sig .tc .vmem S384x1 .f32) (harg12 : arg12.IsWhole)
  (arg13 : Memref sig .tc .vmem S384x1 .f32) (harg13 : arg13.IsWhole) (arg14 : Memref sig .tc .vmem S16x128x384 .f32) (harg14 : arg14.IsWhole)
  (arg15 : Memref sig .tc .vmem S16x128x4096 .f32) (harg15 : arg15.IsWhole) (arg16 : Memref sig .tc .vmem S16x384x128 .f32) (harg16 : arg16.IsWhole)
  (arg17 : Memref sig .tc .vmem S64x128 .f32) (harg17 : arg17.IsWhole) (arg18 : Memref sig .tc .vmem S64x128 .f32) (harg18 : arg18.IsWhole)
  (arg19 : Memref sig .tc .vmem S128x128 .f32) (harg19 : arg19.IsWhole) (arg20 : Memref sig .tc .vmem S128x128 .f32) (harg20 : arg20.IsWhole)
  (arg21 : Memref sig .tc .vmem S384x128 .f32) (harg21 : arg21.IsWhole) (arg22 : Memref sig .tc .vmem S384x128 .f32) (harg22 : arg22.IsWhole)

/-- The second layer of the pair that the loads read. -/
theorem second_read (x : Vec F S2x3x4096 .f32) (w : Vec F S64x3 .f32) (b g e : Vec F S64x1 .f32) (s q : Vec F S64x128 .f32) (w' : Vec F S128x64 .f32) (b' : Vec F S128x1 .f32) :
    k0_pay95 (k0_pay16 (arg1.view.readAt (Elt F) (Rect.unit (s := S2x3x4096) ![0, 0, 0] S1x3x4096.size inb_S2x3x4096_S1x3x4096_0_0_0).toLoadRect (harg1.unread x))
        (arg1.view.readAt (Elt F) (Rect.unit (s := S2x3x4096) ![1, 0, 0] S1x3x4096.size inb_S2x3x4096_S1x3x4096_1_0_0).toLoadRect (harg1.unread x))
        (arg2.view.readAt (Elt F) (Rect.unit (s := S64x3) ![0, 0] S64x3.size inb_S64x3_S64x3_0_0).toLoadRect (harg2.unread w))
        (arg3.view.readAt (Elt F) (Rect.unit (s := S64x1) ![0, 0] S64x1.size inb_S64x1_S64x1_0_0).toLoadRect (harg3.unread b)))
      (arg18.view.readAt (Elt F) (Rect.unit (s := S64x128) ![0, 0] S64x128.size inb_S64x128_S64x128_0_0).toLoadRect (harg18.unread q))
      (k0_pay92 (arg4.view.readAt (Elt F) (Rect.unit (s := S64x1) ![0, 0] S64x1.size inb_S64x1_S64x1_0_0).toLoadRect (harg4.unread g)))
      (k0_pay93 (arg5.view.readAt (Elt F) (Rect.unit (s := S64x1) ![0, 0] S64x1.size inb_S64x1_S64x1_0_0).toLoadRect (harg5.unread e)))
      (k0_pay94 (arg17.view.readAt (Elt F) (Rect.unit (s := S64x128) ![0, 0] S64x128.size inb_S64x128_S64x128_0_0).toLoadRect (harg17.unread s)))
      (arg6.view.readAt (Elt F) (Rect.unit (s := S128x64) ![0, 0] S128x64.size inb_S128x64_S128x64_0_0).toLoadRect (harg6.unread w'))
      (arg7.view.readAt (Elt F) (Rect.unit (s := S128x1) ![0, 0] S128x1.size inb_S128x1_S128x1_0_0).toLoadRect (harg7.unread b')) = second x w b g e s q w' b' :=
  congr (congr (congr (congr (congr (congr (congrArg k0_pay95 (first_read arg1 harg1 arg2 harg2 arg3 harg3 x w b)) (whole_read _ _ _ _))
    (congrArg k0_pay92 (whole_read _ _ _ _))) (congrArg k0_pay93 (whole_read _ _ _ _))) (congrArg k0_pay94 (whole_read _ _ _ _))) (whole_read _ _ _ _)) (whole_read _ _ _ _)

set_option maxHeartbeats 4000000 in
/-- A point of the second phase: the second layer of a pair of clouds is kept, and its sums are added. -/
theorem seconds_run (c : Dev nD) (i : grid0.Coords) (h1 : ¬ cond1 i = 1#1) (h2 : ¬ cond2 i = 1#1) (h3 : k0_cond3 i = 1#1) (h4 : ¬ k0_cond4 i = 1#1) (h5 : ¬ k0_cond5 i = 1#1)
    (n : ℕ) (ho1 : k0_off1 i = ![n, 0, 0]) (ho2 : k0_off2 i = ![n + 1, 0, 0])
    (x : Vec F S2x3x4096 .f32) (w : Vec F S64x3 .f32) (b g e : Vec F S64x1 .f32) (w' : Vec F S128x64 .f32) (b' : Vec F S128x1 .f32) (Y : Vec F S16x128x4096 .f32) (s q : Vec F S64x128 .f32) (s' q' : Vec F S128x128 .f32) (E : Set ℕ) (K : PUnit → sProp 𝕄) :
    iprop(owns (c : Thread nD τ) arg1 fullShare x
        ∗ owns (c : Thread nD τ) arg2 fullShare w
        ∗ owns (c : Thread nD τ) arg3 fullShare b
        ∗ owns (c : Thread nD τ) arg4 fullShare g
        ∗ owns (c : Thread nD τ) arg5 fullShare e
        ∗ owns (c : Thread nD τ) arg6 fullShare w'
        ∗ owns (c : Thread nD τ) arg7 fullShare b'
        ∗ owns (c : Thread nD τ) arg15 fullShare Y
        ∗ owns (c : Thread nD τ) arg17 fullShare s
        ∗ owns (c : Thread nD τ) arg18 fullShare q
        ∗ owns (c : Thread nD τ) arg19 fullShare s'
        ∗ owns (c : Thread nD τ) arg20 fullShare q'
        ∗ (iprop(owns (c : Thread nD τ) arg1 fullShare x
          ∗ owns (c : Thread nD τ) arg2 fullShare w
          ∗ owns (c : Thread nD τ) arg3 fullShare b
          ∗ owns (c : Thread nD τ) arg4 fullShare g
          ∗ owns (c : Thread nD τ) arg5 fullShare e
          ∗ owns (c : Thread nD τ) arg6 fullShare w'
          ∗ owns (c : Thread nD τ) arg7 fullShare b'
          ∗ owns (c : Thread nD τ) arg15 fullShare (put (put Y n (second0 (second x w b g e s q w' b'))) (n + 1) (second1 (second x w b g e s q w' b')))
          ∗ owns (c : Thread nD τ) arg17 fullShare s
          ∗ owns (c : Thread nD τ) arg18 fullShare q
          ∗ owns (c : Thread nD τ) arg19 fullShare (more (adds (second x w b g e s q w' b') 64 (by decide)) s')
          ∗ owns (c : Thread nD τ) arg20 fullShare (more (squares (second x w b g e s q w' b') 64 (by decide)) q')) -∗ K ⟨⟩))
      ⊢ wp frame (wpE (defs₀ (F := F)) Variants.none c none) E (bodyOn arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22 i) K := by
  unfold bodyOn
  simp only [cc0__fused_mlp_body_eq_skeleton]; unfold cc0__fused_mlp_body_skel
  simp only [k0_part6_eq_skeleton, k0_part7_eq_skeleton, k0_part8_eq_skeleton, k0_part9_eq_skeleton, k0_part10_eq_skeleton, k0_part11_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f15, %hf15, H15⟩, ⟨%f17, %hf17, H17⟩, ⟨%f18, %hf18, H18⟩, ⟨%f19, %hf19, H19⟩, ⟨%f20, %hf20, H20⟩, Hk⟩
  obtain rfl := harg1.eq_unread hf1
  obtain rfl := harg2.eq_unread hf2
  obtain rfl := harg3.eq_unread hf3
  obtain rfl := harg4.eq_unread hf4
  obtain rfl := harg5.eq_unread hf5
  obtain rfl := harg6.eq_unread hf6
  obtain rfl := harg7.eq_unread hf7
  obtain rfl := harg15.eq_unread hf15
  obtain rfl := harg17.eq_unread hf17
  obtain rfl := harg18.eq_unread hf18
  obtain rfl := harg19.eq_unread hf19
  obtain rfl := harg20.eq_unread hf20
  sl_exec (disch := first | sl_exact h1 | sl_exact h2 | sl_exact h3 | sl_exact h4 | sl_exact h5)
  sl_step
  iapply Hk
  isplitl [H1]
  · iexists _; isplitr
    swap; · iexact H1
    ipureintro
    exact harg1.read_unread _
  isplitl [H2]
  · iexists _; isplitr
    swap; · iexact H2
    ipureintro
    exact harg2.read_unread _
  isplitl [H3]
  · iexists _; isplitr
    swap; · iexact H3
    ipureintro
    exact harg3.read_unread _
  isplitl [H4]
  · iexists _; isplitr
    swap; · iexact H4
    ipureintro
    exact harg4.read_unread _
  isplitl [H5]
  · iexists _; isplitr
    swap; · iexact H5
    ipureintro
    exact harg5.read_unread _
  isplitl [H6]
  · iexists _; isplitr
    swap; · iexact H6
    ipureintro
    exact harg6.read_unread _
  isplitl [H7]
  · iexists _; isplitr
    swap; · iexact H7
    ipureintro
    exact harg7.read_unread _
  isplitl [H15]
  · iexists _; isplitr
    swap; · iexact H15
    ipureintro
    refine (read_row arg15 _ _ (n + 1) ho2 _ _).trans (congrArg₂ (fun a b => put a (n + 1) b)
      ((read_row arg15 _ _ n ho1 _ _).trans (congrArg₂ (fun a b => put a n b) (harg15.read_unread Y) ?_)) ?_)
    all_goals
      rw [← second_read arg1 harg1 arg2 harg2 arg3 harg3 arg4 harg4 arg5 harg5 arg6 harg6 arg7 harg7 arg17 harg17 arg18 harg18]
      sl_unfold_run_names
      sl_kernel_rfl
  isplitl [H17]
  · iexists _; isplitr
    swap; · iexact H17
    ipureintro
    exact harg17.read_unread _
  isplitl [H18]
  · iexists _; isplitr
    swap; · iexact H18
    ipureintro
    exact harg18.read_unread _
  isplitl [H19]
  · iexists _; isplitr
    swap; · iexact H19
    ipureintro
    refine (View.read_writes_full _ _ _ _ _).trans (congrArg₂ more ?_ ((View.readAt_full _ _ _).trans (harg19.read_unread _)))
    rw [← second_read arg1 harg1 arg2 harg2 arg3 harg3 arg4 harg4 arg5 harg5 arg6 harg6 arg7 harg7 arg17 harg17 arg18 harg18]
    sl_unfold_run_names
    sl_kernel_rfl
  iexists _; isplitr
  swap; · iexact H20
  ipureintro
  refine (View.read_writes_full _ _ _ _ _).trans (congrArg₂ more ?_ ((View.readAt_full _ _ _).trans (harg20.read_unread _)))
  rw [← second_read arg1 harg1 arg2 harg2 arg3 harg3 arg4 harg4 arg5 harg5 arg6 harg6 arg7 harg7 arg17 harg17 arg18 harg18]
  sl_unfold_run_names
  sl_kernel_rfl

end Cert.Proof.Mlp

end
-- ==== Proof.MlpThirds.lean ====
/-
  The body of the multilayer perceptron's kernel in its third phase: two clouds' third layers, their sums and their maxima.
-/
module

public import proofs.«01_k».proof.Proof.MlpBody
public import Idealize.ShloMosaic.Lib.Exec
public import Idealize.ShloMosaic.Lib.WritesUnit
public import Idealize.ShloMosaic.Lib.VecWindow
public import Idealize.ShloMosaic.Lib.ValueIdxCore
public import Idealize.ShloMosaic.Lib.Pipeline.Value

@[expose] public section

set_option maxRecDepth 65536

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

variable (arg1 : Memref sig .tc .vmem S2x3x4096 .f32) (harg1 : arg1.IsWhole) (arg2 : Memref sig .tc .vmem S64x3 .f32) (harg2 : arg2.IsWhole)
  (arg3 : Memref sig .tc .vmem S64x1 .f32) (harg3 : arg3.IsWhole) (arg4 : Memref sig .tc .vmem S64x1 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S128x1 .f32) (harg9 : arg9.IsWhole) (arg10 : Memref sig .tc .vmem S384x128 .f32) (harg10 : arg10.IsWhole)
  (arg11 : Memref sig .tc .vmem S384x1 .f32) (harg11 : arg11.IsWhole) (arg12 : Memref sig .tc .vmem S384x1 .f32) (harg12 : arg12.IsWhole)
  (arg13 : Memref sig .tc .vmem S384x1 .f32) (harg13 : arg13.IsWhole) (arg14 : Memref sig .tc .vmem S16x128x384 .f32) (harg14 : arg14.IsWhole)
  (arg15 : Memref sig .tc .vmem S16x128x4096 .f32) (harg15 : arg15.IsWhole) (arg16 : Memref sig .tc .vmem S16x384x128 .f32) (harg16 : arg16.IsWhole)
  (arg17 : Memref sig .tc .vmem S64x128 .f32) (harg17 : arg17.IsWhole) (arg18 : Memref sig .tc .vmem S64x128 .f32) (harg18 : arg18.IsWhole)
  (arg19 : Memref sig .tc .vmem S128x128 .f32) (harg19 : arg19.IsWhole) (arg20 : Memref sig .tc .vmem S128x128 .f32) (harg20 : arg20.IsWhole)
  (arg21 : Memref sig .tc .vmem S384x128 .f32) (harg21 : arg21.IsWhole) (arg22 : Memref sig .tc .vmem S384x128 .f32) (harg22 : arg22.IsWhole)

/-- The third layer of the cloud that the loads read. -/
theorem third_read (g e : Vec F S128x1 .f32) (w : Vec F S384x128 .f32) (b : Vec F S384x1 .f32) (Y : Vec F S16x128x4096 .f32) (s q : Vec F S128x128 .f32) (n : ℕ) (hn : n < 16)
    {off : Fin 3 → ℕ} (hoff : off = ![n, 0, 0]) (inb : ∀ a, off a + S1x128x4096.size a ≤ S16x128x4096.size a) :
    k0_pay209 (arg15.view.readAt (Elt F) (Rect.unit (s := S16x128x4096) off S1x128x4096.size inb).toLoadRect (harg15.unread Y))
      (arg19.view.readAt (Elt F) (Rect.unit (s := S128x128) ![0, 0] S128x128.size inb_S128x128_S128x128_0_0).toLoadRect (harg19.unread s))
      (arg20.view.readAt (Elt F) (Rect.unit (s := S128x128) ![0, 0] S128x128.size inb_S128x128_S128x128_0_0).toLoadRect (harg20.unread q))
      (arg8.view.readAt (Elt F) (Rect.unit (s := S128x1) ![0, 0] S128x1.size inb_S128x1_S128x1_0_0).toLoadRect (harg8.unread g))
      (arg9.view.readAt (Elt F) (Rect.unit (s := S128x1) ![0, 0] S128x1.size inb_S128x1_S128x1_0_0).toLoadRect (harg9.unread e))
      (arg10.view.readAt (Elt F) (Rect.unit (s := S384x128) ![0, 0] S384x128.size inb_S384x128_S384x128_0_0).toLoadRect (harg10.unread w))
      (arg11.view.readAt (Elt F) (Rect.unit (s := S384x1) ![0, 0] S384x1.size inb_S384x1_S384x1_0_0).toLoadRect (harg11.unread b)) = third (rowOf Y n hn) s q g e w b :=
  congr (congr (congr (congr (congr (congr (congrArg k0_pay209 (row_read arg15 harg15 Y n hn hoff inb)) (whole_read _ _ _ _))
    (whole_read _ _ _ _)) (whole_read _ _ _ _)) (whole_read _ _ _ _)) (whole_read _ _ _ _)) (whole_read _ _ _ _)

set_option maxHeartbeats 4000000 in
/-- A point of the third phase: of two clouds, the maxima of the third layer are kept and its sums are added. -/
theorem thirds_run (c : Dev nD) (i : grid0.Coords) (h1 : ¬ cond1 i = 1#1) (h2 : ¬ cond2 i = 1#1) (h3 : ¬ k0_cond3 i = 1#1) (h4 : k0_cond4 i = 1#1) (h5 : ¬ k0_cond5 i = 1#1)
    (n : ℕ) (hn : n < 16) (hn' : n + 1 < 16) (ho1 : k0_off3 i 0#32 = ![n, 0, 0]) (ho2 : k0_off3 i 1#32 = ![n + 1, 0, 0]) (ho3 : k0_off4 i 0#32 = ![n, 0, 0]) (ho4 : k0_off4 i 1#32 = ![n + 1, 0, 0])
    (g e : Vec F S128x1 .f32) (w : Vec F S384x128 .f32) (b : Vec F S384x1 .f32) (Y : Vec F S16x128x4096 .f32) (T : Vec F S16x384x128 .f32) (s q : Vec F S128x128 .f32) (s' q' : Vec F S384x128 .f32) (E : Set ℕ) (K : PUnit → sProp 𝕄) :
    iprop(owns (c : Thread nD τ) arg8 fullShare g
        ∗ owns (c : Thread nD τ) arg9 fullShare e
        ∗ owns (c : Thread nD τ) arg10 fullShare w
        ∗ owns (c : Thread nD τ) arg11 fullShare b
        ∗ owns (c : Thread nD τ) arg15 fullShare Y
        ∗ owns (c : Thread nD τ) arg16 fullShare T
        ∗ owns (c : Thread nD τ) arg19 fullShare s
        ∗ owns (c : Thread nD τ) arg20 fullShare q
        ∗ owns (c : Thread nD τ) arg21 fullShare s'
        ∗ owns (c : Thread nD τ) arg22 fullShare q'
        ∗ (iprop(owns (c : Thread nD τ) arg8 fullShare g
          ∗ owns (c : Thread nD τ) arg9 fullShare e
          ∗ owns (c : Thread nD τ) arg10 fullShare w
          ∗ owns (c : Thread nD τ) arg11 fullShare b
          ∗ owns (c : Thread nD τ) arg15 fullShare Y
          ∗ owns (c : Thread nD τ) arg16 fullShare (put (put T n (lifted (tops (third (rowOf Y n hn) s q g e w b) (by decide) 31 (by decide)))) (n + 1) (lifted (tops (third (rowOf Y (n + 1) hn') s q g e w b) (by decide) 31 (by decide))))
          ∗ owns (c : Thread nD τ) arg19 fullShare s
          ∗ owns (c : Thread nD τ) arg20 fullShare q
          ∗ owns (c : Thread nD τ) arg21 fullShare (more (adds (third (rowOf Y (n + 1) hn') s q g e w b) 32 (by decide)) (more (adds (third (rowOf Y n hn) s q g e w b) 32 (by decide)) s'))
          ∗ owns (c : Thread nD τ) arg22 fullShare (more (squares (third (rowOf Y (n + 1) hn') s q g e w b) 32 (by decide)) (more (squares (third (rowOf Y n hn) s q g e w b) 32 (by decide)) q'))) -∗ K ⟨⟩))
      ⊢ wp frame (wpE (defs₀ (F := F)) Variants.none c none) E (bodyOn arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22 i) K := by
  unfold bodyOn
  simp only [cc0__fused_mlp_body_eq_skeleton]; unfold cc0__fused_mlp_body_skel
  simp only [k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
  unfold owns
  iintro ⟨⟨%f8, %hf8, H8⟩, ⟨%f9, %hf9, H9⟩, ⟨%f10, %hf10, H10⟩, ⟨%f11, %hf11, H11⟩, ⟨%f15, %hf15, H15⟩, ⟨%f16, %hf16, H16⟩, ⟨%f19, %hf19, H19⟩, ⟨%f20, %hf20, H20⟩, ⟨%f21, %hf21, H21⟩, ⟨%f22, %hf22, H22⟩, Hk⟩
  obtain rfl := harg8.eq_unread hf8
  obtain rfl := harg9.eq_unread hf9
  obtain rfl := harg10.eq_unread hf10
  obtain rfl := harg11.eq_unread hf11
  obtain rfl := harg15.eq_unread hf15
  obtain rfl := harg16.eq_unread hf16
  obtain rfl := harg19.eq_unread hf19
  obtain rfl := harg20.eq_unread hf20
  obtain rfl := harg21.eq_unread hf21
  obtain rfl := harg22.eq_unread hf22
  sl_exec (disch := first | sl_exact h1 | sl_exact h2 | sl_exact h3 | sl_exact h4 | sl_exact h5)
  sl_step
  iapply Hk
  isplitl [H8]
  · iexists _; isplitr
    swap; · iexact H8
    ipureintro
    exact harg8.read_unread _
  isplitl [H9]
  · iexists _; isplitr
    swap; · iexact H9
    ipureintro
    exact harg9.read_unread _
  isplitl [H10]
  · iexists _; isplitr
    swap; · iexact H10
    ipureintro
    exact harg10.read_unread _
  isplitl [H11]
  · iexists _; isplitr
    swap; · iexact H11
    ipureintro
    exact harg11.read_unread _
  isplitl [H15]
  · iexists _; isplitr
    swap; · iexact H15
    ipureintro
    exact harg15.read_unread _
  isplitl [H16]
  · iexists _; isplitr
    swap; · iexact H16
    ipureintro
    refine (read_row arg16 _ _ (n + 1) ho4 _ _).trans (congrArg₂ (fun a b => put a (n + 1) b)
      ((read_row arg16 _ _ n ho3 _ _).trans (congrArg₂ (fun a b => put a n b) (harg16.read_unread T) ?_)) ?_)
    · rw [← third_read arg8 harg8 arg9 harg9 arg10 harg10 arg11 harg11 arg15 harg15 arg19 harg19 arg20 harg20 g e w b Y s q n hn ho1 (k0_off3_inb i h4 0)]
      sl_unfold_run_names
      sl_kernel_rfl
    · rw [← third_read arg8 harg8 arg9 harg9 arg10 harg10 arg11 harg11 arg15 harg15 arg19 harg19 arg20 harg20 g e w b Y s q (n + 1) hn' ho2 (k0_off3_inb i h4 1)]
      sl_unfold_run_names
      sl_kernel_rfl
  isplitl [H19]
  · iexists _; isplitr
    swap; · iexact H19
    ipureintro
    exact harg19.read_unread _
  isplitl [H20]
  · iexists _; isplitr
    swap; · iexact H20
    ipureintro
    exact harg20.read_unread _
  isplitl [H21]
  · iexists _; isplitr
    swap; · iexact H21
    ipureintro
    refine (View.read_writes_full _ _ _ _ _).trans (congrArg₂ more ?_ ?_)
    · rw [← third_read arg8 harg8 arg9 harg9 arg10 harg10 arg11 harg11 arg15 harg15 arg19 harg19 arg20 harg20 g e w b Y s q (n + 1) hn' ho2 (k0_off3_inb i h4 1)]
      sl_unfold_run_names
      sl_kernel_rfl
    · sl_unfold_run_names
      refine (View.readCov_full _ _ _ _ _).trans (congrArg₂ more ?_ ((View.readAt_full _ _ _).trans (harg21.read_unread _)))
      rw [← third_read arg8 harg8 arg9 harg9 arg10 harg10 arg11 harg11 arg15 harg15 arg19 harg19 arg20 harg20 g e w b Y s q n hn ho1 (k0_off3_inb i h4 0)]
      sl_kernel_rfl
  iexists _; isplitr
  swap; · iexact H22
  ipureintro
  refine (View.read_writes_full _ _ _ _ _).trans (congrArg₂ more ?_ ?_)
  · rw [← third_read arg8 harg8 arg9 harg9 arg10 harg10 arg11 harg11 arg15 harg15 arg19 harg19 arg20 harg20 g e w b Y s q (n + 1) hn' ho2 (k0_off3_inb i h4 1)]
    sl_unfold_run_names
    sl_kernel_rfl
  · sl_unfold_run_names
    refine (View.readCov_full _ _ _ _ _).trans (congrArg₂ more ?_ ((View.readAt_full _ _ _).trans (harg22.read_unread _)))
    rw [← third_read arg8 harg8 arg9 harg9 arg10 harg10 arg11 harg11 arg15 harg15 arg19 harg19 arg20 harg20 g e w b Y s q n hn ho1 (k0_off3_inb i h4 0)]
    sl_kernel_rfl

end Cert.Proof.Mlp

end
-- ==== Proof.MlpLast.lean ====
/-
  The body of the multilayer perceptron's kernel at its last point: the tokens.
-/
module

public import proofs.«01_k».proof.Proof.MlpBody
public import Idealize.ShloMosaic.Lib.Exec
public import Idealize.ShloMosaic.Lib.WritesUnit
public import Idealize.ShloMosaic.Lib.VecWindow
public import Idealize.ShloMosaic.Lib.ValueIdxCore
public import Idealize.ShloMosaic.Lib.Pipeline.Value

@[expose] public section

set_option maxRecDepth 65536

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ (UR sig nD τ) ℕ

variable (arg1 : Memref sig .tc .vmem S2x3x4096 .f32) (harg1 : arg1.IsWhole) (arg2 : Memref sig .tc .vmem S64x3 .f32) (harg2 : arg2.IsWhole)
  (arg3 : Memref sig .tc .vmem S64x1 .f32) (harg3 : arg3.IsWhole) (arg4 : Memref sig .tc .vmem S64x1 .f32) (harg4 : arg4.IsWhole)
  (arg5 : Memref sig .tc .vmem S64x1 .f32) (harg5 : arg5.IsWhole) (arg6 : Memref sig .tc .vmem S128x64 .f32) (harg6 : arg6.IsWhole)
  (arg7 : Memref sig .tc .vmem S128x1 .f32) (harg7 : arg7.IsWhole) (arg8 : Memref sig .tc .vmem S128x1 .f32) (harg8 : arg8.IsWhole)
  (arg9 : Memref sig .tc .vmem S128x1 .f32) (harg9 : arg9.IsWhole) (arg10 : Memref sig .tc .vmem S384x128 .f32) (harg10 : arg10.IsWhole)
  (arg11 : Memref sig .tc .vmem S384x1 .f32) (harg11 : arg11.IsWhole) (arg12 : Memref sig .tc .vmem S384x1 .f32) (harg12 : arg12.IsWhole)
  (arg13 : Memref sig .tc .vmem S384x1 .f32) (harg13 : arg13.IsWhole) (arg14 : Memref sig .tc .vmem S16x128x384 .f32) (harg14 : arg14.IsWhole)
  (arg15 : Memref sig .tc .vmem S16x128x4096 .f32) (harg15 : arg15.IsWhole) (arg16 : Memref sig .tc .vmem S16x384x128 .f32) (harg16 : arg16.IsWhole)
  (arg17 : Memref sig .tc .vmem S64x128 .f32) (harg17 : arg17.IsWhole) (arg18 : Memref sig .tc .vmem S64x128 .f32) (harg18 : arg18.IsWhole)
  (arg19 : Memref sig .tc .vmem S128x128 .f32) (harg19 : arg19.IsWhole) (arg20 : Memref sig .tc .vmem S128x128 .f32) (harg20 : arg20.IsWhole)
  (arg21 : Memref sig .tc .vmem S384x128 .f32) (harg21 : arg21.IsWhole) (arg22 : Memref sig .tc .vmem S384x128 .f32) (harg22 : arg22.IsWhole)

theorem row_inb (k : Fin 16) : ∀ a, (![k.val, 0, 0] : Fin 3 → ℕ) a + S1x384x128.size a ≤ S16x384x128.size a := by
  intro a
  have := k.isLt
  match a with
  | ⟨0, _⟩ => show k.val + 1 ≤ 16; omega
  | ⟨1, _⟩ => exact Nat.le_refl 384
  | ⟨2, _⟩ => exact Nat.le_refl 128
theorem token_inb (k : Fin 16) : ∀ a, (![k.val, 0, 0] : Fin 3 → ℕ) a + S1x128x384.size a ≤ S16x128x384.size a := by
  intro a
  have := k.isLt
  match a with
  | ⟨0, _⟩ => show k.val + 1 ≤ 16; omega
  | ⟨1, _⟩ => exact Nat.le_refl 128
  | ⟨2, _⟩ => exact Nat.le_refl 384

/-- The tokens of cloud `k`, holding `W k`. -/
def token (W : Fin 16 → Vec F S1x128x384 .f32) (k : Fin 16) : View.Piece (Elt F) S16x128x384 .f32 :=
  ⟨Rect.unit ![k.val, 0, 0] S1x128x384.size (token_inb k), W k⟩

theorem read_tokens (f : BufTy.Contents (Elt F) arg14.view.ty) (W : Fin 16 → Vec F S1x128x384 .f32) (k : Fin 16) (j : S16x128x384.Idx) (hj : j 0 = k) :
    ∀ l : List (Fin 16), k ∈ l → arg14.view.read (Elt F) (arg14.view.writes (Elt F) f (l.map (token W))) j = W k (ix3 0 (j 1) (j 2))
  | [], h => absurd h List.not_mem_nil
  | p :: l, h => by
    refine (congrFun (read_row arg14 f (l.map (token W)) p.val rfl (token_inb p) (W p)) j).trans ?_
    by_cases e : k = p
    · subst e
      exact if_pos (congrArg Fin.val hj)
    · exact (if_neg (fun h' => e (Fin.ext ((congrArg Fin.val hj).symm.trans h')))).trans (read_tokens f W k j hj l ((List.mem_cons.mp h).resolve_left e))

/-- The tokens of the cloud that the loads read. -/
def loaded (g e : Vec F S384x1 .f32) (T : Vec F S16x384x128 .f32) (s q : Vec F S384x128 .f32) (k : Fin 16) : Vec F S1x128x384 .f32 :=
    k0_pay255 (arg21.view.readAt (Elt F) (Rect.unit (s := S384x128) ![0, 0] S384x128.size inb_S384x128_S384x128_0_0).toLoadRect (harg21.unread s))
      (arg22.view.readAt (Elt F) (Rect.unit (s := S384x128) ![0, 0] S384x128.size inb_S384x128_S384x128_0_0).toLoadRect (harg22.unread q))
      (arg12.view.readAt (Elt F) (Rect.unit (s := S384x1) ![0, 0] S384x1.size inb_S384x1_S384x1_0_0).toLoadRect (harg12.unread g))
      (arg13.view.readAt (Elt F) (Rect.unit (s := S384x1) ![0, 0] S384x1.size inb_S384x1_S384x1_0_0).toLoadRect (harg13.unread e))
      (arg16.view.readAt (Elt F) (Rect.unit (s := S16x384x128) ![k.val, 0, 0] S1x384x128.size (row_inb k)).toLoadRect (harg16.unread T))

theorem loaded_eq (g e : Vec F S384x1 .f32) (T : Vec F S16x384x128 .f32) (s q : Vec F S384x128 .f32) (k : Fin 16) :
    loaded arg12 harg12 arg13 harg13 arg16 harg16 arg21 harg21 arg22 harg22 g e T s q k = result s q g e (rowOf T k.val k.isLt) :=
  congr (congr (congr (congr (congrArg k0_pay255 (whole_read _ _ _ _)) (whole_read _ _ _ _)) (whole_read _ _ _ _)) (whole_read _ _ _ _)) (row_read arg16 harg16 T k.val k.isLt rfl (row_inb k))

set_option maxHeartbeats 4000000 in
/-- The last point: every cloud's maxima are normalised and transposed. -/
theorem last_run (c : Dev nD) (i : grid0.Coords) (h1 : ¬ cond1 i = 1#1) (h2 : ¬ cond2 i = 1#1) (h3 : ¬ k0_cond3 i = 1#1) (h4 : ¬ k0_cond4 i = 1#1) (h5 : k0_cond5 i = 1#1)
    (g e : Vec F S384x1 .f32) (O : Vec F S16x128x384 .f32) (T : Vec F S16x384x128 .f32) (s q : Vec F S384x128 .f32) (E : Set ℕ) (K : PUnit → sProp 𝕄) :
    iprop(owns (c : Thread nD τ) arg12 fullShare g
        ∗ owns (c : Thread nD τ) arg13 fullShare e
        ∗ owns (c : Thread nD τ) arg14 fullShare O
        ∗ owns (c : Thread nD τ) arg16 fullShare T
        ∗ owns (c : Thread nD τ) arg21 fullShare s
        ∗ owns (c : Thread nD τ) arg22 fullShare q
        ∗ (iprop(owns (c : Thread nD τ) arg12 fullShare g
          ∗ owns (c : Thread nD τ) arg13 fullShare e
          ∗ owns (c : Thread nD τ) arg14 fullShare (results s q g e T)
          ∗ owns (c : Thread nD τ) arg16 fullShare T
          ∗ owns (c : Thread nD τ) arg21 fullShare s
          ∗ owns (c : Thread nD τ) arg22 fullShare q) -∗ K ⟨⟩))
      ⊢ wp frame (wpE (defs₀ (F := F)) Variants.none c none) E (bodyOn arg1 harg1 arg2 harg2 arg3 harg3 arg4 harg4 arg5 harg5 arg6 harg6 arg7 harg7 arg8 harg8 arg9 harg9 arg10 harg10 arg11 harg11
        arg12 harg12 arg13 harg13 arg14 harg14 arg15 harg15 arg16 harg16 arg17 harg17 arg18 harg18 arg19 harg19 arg20 harg20 arg21 harg21 arg22 harg22 i) K := by
  unfold bodyOn
  simp only [cc0__fused_mlp_body_eq_skeleton]; unfold cc0__fused_mlp_body_skel
  simp only [k0_part26_eq_skeleton, k0_part21_eq_skeleton, k0_part22_eq_skeleton, k0_part23_eq_skeleton, k0_part24_eq_skeleton, k0_part25_eq_skeleton]
  unfold owns
  iintro ⟨⟨%f12, %hf12, H12⟩, ⟨%f13, %hf13, H13⟩, ⟨%f14, %hf14, H14⟩, ⟨%f16, %hf16, H16⟩, ⟨%f21, %hf21, H21⟩, ⟨%f22, %hf22, H22⟩, Hk⟩
  obtain rfl := harg12.eq_unread hf12
  obtain rfl := harg13.eq_unread hf13
  obtain rfl := harg14.eq_unread hf14
  obtain rfl := harg16.eq_unread hf16
  obtain rfl := harg21.eq_unread hf21
  obtain rfl := harg22.eq_unread hf22
  sl_exec (disch := first | sl_exact h1 | sl_exact h2 | sl_exact h3 | sl_exact h4 | sl_exact h5)
  sl_step
  iapply Hk
  isplitl [H12]
  · iexists _; isplitr
    swap; · iexact H12
    ipureintro
    exact harg12.read_unread _
  isplitl [H13]
  · iexists _; isplitr
    swap; · iexact H13
    ipureintro
    exact harg13.read_unread _
  isplitl [H14]
  · iexists _; isplitr
    swap; · iexact H14
    ipureintro
    refine (congrArg (fun l => arg14.view.read (Elt F) (arg14.view.writes (Elt F) (harg14.unread O) l))
      (show _ = (List.finRange 16).reverse.map (token (fun k => loaded arg12 harg12 arg13 harg13 arg16 harg16 arg21 harg21 arg22 harg22 g e T s q k)) from ?_)).trans ?_
    · sl_unfold_run_names
      sl_kernel_rfl
    · funext j
      refine (read_tokens arg14 _ _ (j 0) j rfl _ (List.mem_reverse.mpr (List.mem_finRange _))).trans ?_
      exact congrFun (loaded_eq arg12 harg12 arg13 harg13 arg16 harg16 arg21 harg21 arg22 harg22 g e T s q (j 0)) _
  isplitl [H16]
  · iexists _; isplitr
    swap; · iexact H16
    ipureintro
    exact harg16.read_unread _
  isplitl [H21]
  · iexists _; isplitr
    swap; · iexact H21
    ipureintro
    exact harg21.read_unread _
  iexists _; isplitr
  swap; · iexact H22
  ipureintro
  exact harg22.read_unread _

end Cert.Proof.Mlp

end
-- ==== Proof.MlpLaunch.lean ====
/-
  The multilayer perceptron's kernel over its grid: what the sums and the kept layers hold before every point, the body at a
  generic point, and the launch.
-/
module

public import proofs.«01_k».proof.Proof.MlpBody
public import proofs.«01_k».proof.Proof.MlpSeconds
public import proofs.«01_k».proof.Proof.MlpThirds
public import proofs.«01_k».proof.Proof.MlpLast
public import Idealize.ShloMosaic.Lib.Pipeline.FrameBody
public import Idealize.ShloMosaic.Lib.Pipeline.TableIdle
public import Idealize.ShloMosaic.Lib.Ring
public import Idealize.ShloMosaic.Lib.Claim

@[expose] public section

set_option maxRecDepth 16384

noncomputable section

namespace Cert.Proof.Mlp

open Cert.MlpIdeal Cert.MlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which points do what -/

theorem start_iff : ∀ t : Fin cfg0.N, cond1 (grid0.coords t) = 1#1 ↔ t.val = 0 :=
  (by decide +kernel : ∀ t : Fin grid0.N, cond1 (grid0.coords t) = 1#1 ↔ t.val = 0)
theorem sums_iff : ∀ t : Fin cfg0.N, cond2 (grid0.coords t) = 1#1 ↔ t.val < 8 :=
  (by decide +kernel : ∀ t : Fin grid0.N, cond2 (grid0.coords t) = 1#1 ↔ t.val < 8)
theorem seconds_iff : ∀ t : Fin cfg0.N, k0_cond3 (grid0.coords t) = 1#1 ↔ 8 ≤ t.val ∧ t.val < 16 :=
  (by decide +kernel : ∀ t : Fin grid0.N, k0_cond3 (grid0.coords t) = 1#1 ↔ 8 ≤ t.val ∧ t.val < 16)
theorem thirds_iff : ∀ t : Fin cfg0.N, k0_cond4 (grid0.coords t) = 1#1 ↔ 16 ≤ t.val ∧ t.val < 24 :=
  (by decide +kernel : ∀ t : Fin grid0.N, k0_cond4 (grid0.coords t) = 1#1 ↔ 16 ≤ t.val ∧ t.val < 24)
theorem last_iff : ∀ t : Fin cfg0.N, k0_cond5 (grid0.coords t) = 1#1 ↔ t.val = 24 :=
  (by decide +kernel : ∀ t : Fin grid0.N, k0_cond5 (grid0.coords t) = 1#1 ↔ t.val = 24)
theorem seconds_offs : ∀ t : Fin cfg0.N, 8 ≤ t.val ∧ t.val < 16 → k0_off1 (grid0.coords t) = ![2 * (t.val - 8), 0, 0] ∧ k0_off2 (grid0.coords t) = ![2 * (t.val - 8) + 1, 0, 0] :=
  (by decide +kernel : ∀ t : Fin grid0.N, 8 ≤ t.val ∧ t.val < 16 → k0_off1 (grid0.coords t) = ![2 * (t.val - 8), 0, 0] ∧ k0_off2 (grid0.coords t) = ![2 * (t.val - 8) + 1, 0, 0])
theorem thirds_offs : ∀ t : Fin cfg0.N, 16 ≤ t.val ∧ t.val < 24 → k0_off3 (grid0.coords t) 0#32 = ![2 * (t.val - 16), 0, 0] ∧ k0_off3 (grid0.coords t) 1#32 = ![2 * (t.val - 16) + 1, 0, 0]
    ∧ k0_off4 (grid0.coords t) 0#32 = ![2 * (t.val - 16), 0, 0] ∧ k0_off4 (grid0.coords t) 1#32 = ![2 * (t.val - 16) + 1, 0, 0] :=
  (by decide +kernel : ∀ t : Fin grid0.N, 16 ≤ t.val ∧ t.val < 24 → k0_off3 (grid0.coords t) 0#32 = ![2 * (t.val - 16), 0, 0] ∧ k0_off3 (grid0.coords t) 1#32 = ![2 * (t.val - 16) + 1, 0, 0]
    ∧ k0_off4 (grid0.coords t) 0#32 = ![2 * (t.val - 16), 0, 0] ∧ k0_off4 (grid0.coords t) 1#32 = ![2 * (t.val - 16) + 1, 0, 0])
theorem idle_in : ∀ (t : Fin cfg0.N) (w : Fin cfg0.W), w ≠ 13 → cfg0.idle w (grid0.coords t) = false :=
  (by decide +kernel : ∀ (t : Fin grid0.N) (w : Fin cfg0.W), w ≠ 13 → cfg0.idle w (grid0.coords t) = false)
theorem idle_out : ∀ t : Fin cfg0.N, cfg0.idle 13 (grid0.coords t) = decide (t.val ≠ 24) :=
  (by decide +kernel : ∀ t : Fin grid0.N, cfg0.idle 13 (grid0.coords t) = decide (t.val ≠ 24))
theorem flush_out : ∀ t : Fin cfg0.N, (cfg0.win 13).flush t = decide (t.val = 24) :=
  (by decide +kernel : ∀ t : Fin grid0.N, win0_13.flush t = decide (t.val = 24))

/-! ## What the layers and the sums are -/

section Values

/-- A grid point by its number. -/
def pt (n : ℕ) : Fin cfg0.N := ⟨min n 24, by show min n 24 < 25; omega⟩

theorem pt_val (t : Fin cfg0.N) : pt t.val = t := Fin.ext (by
  have : t.val < 25 := lt_of_lt_of_eq t.isLt (show cfg0.N = 25 from N_0)
  show min t.val 24 = t.val; omega)

variable (c : Dev nD)

def w1 : Vec F S64x3 .f32 := iblk m c 1 (pt 0)
def b1 : Vec F S64x1 .f32 := iblk m c 2 (pt 0)
def g1 : Vec F S64x1 .f32 := iblk m c 3 (pt 0)
def e1 : Vec F S64x1 .f32 := iblk m c 4 (pt 0)
def w2 : Vec F S128x64 .f32 := iblk m c 5 (pt 0)
def b2 : Vec F S128x1 .f32 := iblk m c 6 (pt 0)
def g2 : Vec F S128x1 .f32 := iblk m c 7 (pt 0)
def e2 : Vec F S128x1 .f32 := iblk m c 8 (pt 0)
def w3 : Vec F S384x128 .f32 := iblk m c 9 (pt 0)
def b3 : Vec F S384x1 .f32 := iblk m c 10 (pt 0)
def g3 : Vec F S384x1 .f32 := iblk m c 11 (pt 0)
def e3 : Vec F S384x1 .f32 := iblk m c 12 (pt 0)

/-- The pair of clouds at a point. -/
def pair (n : ℕ) : Vec F S2x3x4096 .f32 := iblk m c 0 (pt n)

/-- The running sum of the parts `p 0, p 1, …`. -/
def running {C : ℕ} (p : ℕ → FVec F ⟨2, ![C, 128]⟩ .f32) (z : FVec F ⟨2, ![C, 128]⟩ .f32) : ℕ → FVec F ⟨2, ![C, 128]⟩ .f32
  | 0 => z
  | n + 1 => more (p n) (running p z n)

def y1 (n : ℕ) : FVec F S64x8192 .f32 := first (pair m c n) (w1 m c) (b1 m c)
def sum1 (n : ℕ) : FVec F S64x128 .f32 := running (fun k => adds (y1 m c k) 64 (by decide)) k0_pay1 n
def sq1 (n : ℕ) : FVec F S64x128 .f32 := running (fun k => squares (y1 m c k) 64 (by decide)) k0_pay2 n

def y2 (n : ℕ) : FVec F S128x8192 .f32 := second (pair m c (8 + n)) (w1 m c) (b1 m c) (g1 m c) (e1 m c) (sum1 m c 8) (sq1 m c 8) (w2 m c) (b2 m c)
def sum2 (n : ℕ) : FVec F S128x128 .f32 := running (fun k => adds (y2 m c k) 64 (by decide)) k0_pay3 n
def sq2 (n : ℕ) : FVec F S128x128 .f32 := running (fun k => squares (y2 m c k) 64 (by decide)) k0_pay4 n

/-- The second layer of cloud `b`. -/
def kept (b : ℕ) : FVec F S1x128x4096 .f32 := if b % 2 = 0 then second0 (y2 m c (b / 2)) else second1 (y2 m c (b / 2))

def y3 (b : ℕ) : FVec F S384x4096 .f32 := third (kept m c b) (sum2 m c 8) (sq2 m c 8) (g2 m c) (e2 m c) (w3 m c) (b3 m c)
def sum3 (n : ℕ) : FVec F S384x128 .f32 := running (fun k => adds (y3 m c k) 32 (by decide)) k0_pay5 n
def sq3 (n : ℕ) : FVec F S384x128 .f32 := running (fun k => squares (y3 m c k) 32 (by decide)) k0_pay6 n

/-- The maxima of cloud `b`. -/
def top (b : ℕ) : FVec F S1x384x128 .f32 := lifted (tops (y3 m c b) (by decide) 31 (by decide))
def allTops : FVec F S16x384x128 .f32 := fun j => top m c (j 0).val (ix3 0 (j 1) (j 2))

/-- The tokens. -/
def tokens : FVec F S16x128x384 .f32 := results (sum3 m c 16) (sq3 m c 16) (g3 m c) (e3 m c) (allTops m c)

/-- What the scratch arrays hold before point `n`. -/
structure Holds (n : ℕ) (Y : Vec F S16x128x4096 .f32) (T : Vec F S16x384x128 .f32) (s₁ q₁ : Vec F S64x128 .f32) (s₂ q₂ : Vec F S128x128 .f32) (s₃ q₃ : Vec F S384x128 .f32) : Prop where
  one : 1 ≤ n → s₁ = sum1 m c (min n 8) ∧ q₁ = sq1 m c (min n 8)
  two : 1 ≤ n → s₂ = sum2 m c (min (n - 8) 8) ∧ q₂ = sq2 m c (min (n - 8) 8)
  three : 1 ≤ n → s₃ = sum3 m c (2 * min (n - 16) 8) ∧ q₃ = sq3 m c (2 * min (n - 16) 8)
  rows : ∀ (b : ℕ) (h : b < 16), b < 2 * (n - 8) → rowOf Y b h = kept m c b
  tips : ∀ (b : ℕ) (h : b < 16), b < 2 * (n - 16) → rowOf T b h = top m c b

theorem holds_zero (Y T s₁ q₁ s₂ q₂ s₃ q₃) : Holds m c 0 Y T s₁ q₁ s₂ q₂ s₃ q₃ :=
  ⟨fun h => by omega, fun h => by omega, fun h => by omega, fun b h h' => by omega, fun b h h' => by omega⟩

/-! ## A point's step -/

variable {Y : Vec F S16x128x4096 .f32} {T : Vec F S16x384x128 .f32} {s₁ q₁ : Vec F S64x128 .f32} {s₂ q₂ : Vec F S128x128 .f32} {s₃ q₃ : Vec F S384x128 .f32}

theorem holds_start : Holds m c 1 Y T (more (adds (y1 m c 0) 64 (by decide)) k0_pay1) (more (squares (y1 m c 0) 64 (by decide)) k0_pay2) k0_pay3 k0_pay4 k0_pay5 k0_pay6 :=
  ⟨fun _ => ⟨rfl, rfl⟩, fun _ => ⟨rfl, rfl⟩, fun _ => ⟨rfl, rfl⟩, fun b h h' => by omega, fun b h h' => by omega⟩

theorem holds_sums {n : ℕ} (h0 : n ≠ 0) (h8 : n < 8) (H : Holds m c n Y T s₁ q₁ s₂ q₂ s₃ q₃) :
    Holds m c (n + 1) Y T (more (adds (y1 m c n) 64 (by decide)) s₁) (more (squares (y1 m c n) 64 (by decide)) q₁) s₂ q₂ s₃ q₃ := by
  have e1 : min n 8 = n := by omega
  have e2 : min (n + 1) 8 = n + 1 := by omega
  have e3 : n + 1 - 8 = n - 8 := by omega
  have e4 : n + 1 - 16 = n - 16 := by omega
  have h1 := H.one (by omega)
  rw [e1] at h1
  refine ⟨fun _ => ?_, fun _ => ?_, fun _ => ?_, fun b h h' => H.rows b h (by omega), fun b h h' => H.tips b h (by omega)⟩
  · rw [e2, h1.1, h1.2]; exact ⟨rfl, rfl⟩
  · rw [e3]; exact H.two (by omega)
  · rw [e4]; exact H.three (by omega)

theorem kept_even (j : ℕ) : kept m c (2 * j) = second0 (y2 m c j) := by
  unfold kept; rw [if_pos (by omega), show 2 * j / 2 = j by omega]
theorem kept_odd (j : ℕ) : kept m c (2 * j + 1) = second1 (y2 m c j) := by
  unfold kept; rw [if_neg (by omega), show (2 * j + 1) / 2 = j by omega]

theorem y2_at {n : ℕ} (h8 : 8 ≤ n) (H : Holds m c n Y T s₁ q₁ s₂ q₂ s₃ q₃) :
    second (pair m c n) (w1 m c) (b1 m c) (g1 m c) (e1 m c) s₁ q₁ (w2 m c) (b2 m c) = y2 m c (n - 8) := by
  have h1 := H.one (by omega)
  rw [show min n 8 = 8 by omega] at h1
  unfold y2
  rw [h1.1, h1.2, show 8 + (n - 8) = n by omega]

theorem holds_seconds {n : ℕ} (h8 : 8 ≤ n) (h16 : n < 16) (H : Holds m c n Y T s₁ q₁ s₂ q₂ s₃ q₃) :
    Holds m c (n + 1) (put (put Y (2 * (n - 8)) (second0 (y2 m c (n - 8)))) (2 * (n - 8) + 1) (second1 (y2 m c (n - 8)))) T s₁ q₁
      (more (adds (y2 m c (n - 8)) 64 (by decide)) s₂) (more (squares (y2 m c (n - 8)) 64 (by decide)) q₂) s₃ q₃ := by
  have h1 := H.one (by omega)
  have h2 := H.two (by omega)
  rw [show min (n - 8) 8 = n - 8 by omega] at h2
  refine ⟨fun _ => ?_, fun _ => ?_, fun _ => ?_, fun b h h' => ?_, fun b h h' => H.tips b h (by omega)⟩
  · rw [show min (n + 1) 8 = min n 8 by omega]; exact h1
  · rw [show min (n + 1 - 8) 8 = n - 8 + 1 by omega, h2.1, h2.2]; exact ⟨rfl, rfl⟩
  · rw [show n + 1 - 16 = n - 16 by omega]; exact H.three (by omega)
  · by_cases hb : b = 2 * (n - 8) + 1
    · subst hb; rw [rowOf_put, kept_odd]
    · rw [rowOf_put_ne _ _ _ _ hb]
      by_cases hb' : b = 2 * (n - 8)
      · subst hb'; rw [rowOf_put, kept_even]
      · rw [rowOf_put_ne _ _ _ _ hb']; exact H.rows b h (by omega)

theorem y3_at {n : ℕ} (h16 : 16 ≤ n) (H : Holds m c n Y T s₁ q₁ s₂ q₂ s₃ q₃) (b : ℕ) (hb : b < 16) :
    third (rowOf Y b hb) s₂ q₂ (g2 m c) (e2 m c) (w3 m c) (b3 m c) = y3 m c b := by
  have h2 := H.two (by omega)
  rw [show min (n - 8) 8 = 8 by omega] at h2
  unfold y3
  rw [h2.1, h2.2, H.rows b hb (by omega)]

theorem holds_thirds {n : ℕ} (h16 : 16 ≤ n) (h24 : n < 24) (H : Holds m c n Y T s₁ q₁ s₂ q₂ s₃ q₃) :
    Holds m c (n + 1) Y (put (put T (2 * (n - 16)) (top m c (2 * (n - 16)))) (2 * (n - 16) + 1) (top m c (2 * (n - 16) + 1))) s₁ q₁ s₂ q₂
      (more (adds (y3 m c (2 * (n - 16) + 1)) 32 (by decide)) (more (adds (y3 m c (2 * (n - 16))) 32 (by decide)) s₃))
      (more (squares (y3 m c (2 * (n - 16) + 1)) 32 (by decide)) (more (squares (y3 m c (2 * (n - 16))) 32 (by decide)) q₃)) := by
  have h1 := H.one (by omega)
  have h2 := H.two (by omega)
  have h3 := H.three (by omega)
  rw [show min (n - 16) 8 = n - 16 by omega] at h3
  refine ⟨fun _ => ?_, fun _ => ?_, fun _ => ?_, fun b h h' => H.rows b h (by omega), fun b h h' => ?_⟩
  · rw [show min (n + 1) 8 = min n 8 by omega]; exact h1
  · rw [show min (n + 1 - 8) 8 = min (n - 8) 8 by omega]; exact h2
  · rw [show 2 * min (n + 1 - 16) 8 = 2 * (n - 16) + 1 + 1 by omega, h3.1, h3.2]; exact ⟨rfl, rfl⟩
  · by_cases hb : b = 2 * (n - 16) + 1
    · subst hb; rw [rowOf_put]
    · rw [rowOf_put_ne _ _ _ _ hb]
      by_cases hb' : b = 2 * (n - 16)
      · subst hb'; rw [rowOf_put]
      · rw [rowOf_put_ne _ _ _ _ hb']; exact H.tips b h (by omega)

theorem tokens_at (H : Holds m c 24 Y T s₁ q₁ s₂ q₂ s₃ q₃) : results s₃ q₃ (g3 m c) (e3 m c) T = tokens m c := by
  have h3 := H.three (by omega)
  unfold tokens
  rw [h3.1, h3.2]
  refine congrArg (results _ _ _ _) (funext fun j => ?_)
  have hj : j = ix3 ⟨(j 0).val, (j 0).isLt⟩ (j 1) (j 2) := by
    funext a; fin_cases a <;> rfl
  exact (congrArg T hj).trans (congrFun (H.tips (j 0).val (j 0).isLt (by have := (j 0).isLt; show (j 0).val < 16; exact this)) (ix3 0 (j 1) (j 2)))

theorem holds_last {n : ℕ} (h : n = 24) (H : Holds m c n Y T s₁ q₁ s₂ q₂ s₃ q₃) : Holds m c (n + 1) Y T s₁ q₁ s₂ q₂ s₃ q₃ := by
  subst h
  have h1 := H.one (by omega)
  have h2 := H.two (by omega)
  have h3 := H.three (by omega)
  exact ⟨fun _ => h1, fun _ => h2, fun _ => h3, fun b h h' => H.rows b h (by omega), fun b h h' => H.tips b h (by omega)⟩

end Values

/-! ## The proof data -/

/-- The scratch arrays before point `n`. -/
def held (c : Dev nD) (n : ℕ) : sProp 𝕄 :=
  iprop(∃ Y T s₁ q₁ s₂ q₂ s₃ q₃, ⌜Holds m c n Y T s₁ q₁ s₂ q₂ s₃ q₃⌝
    ∗ owns (c : Thread nD τ) (Memref.whole cc0_scratch0) fullShare Y ∗ owns (c : Thread nD τ) (Memref.whole cc0_scratch1) fullShare T
    ∗ owns (c : Thread nD τ) (Memref.whole cc0_scratch2) fullShare s₁ ∗ owns (c : Thread nD τ) (Memref.whole cc0_scratch3) fullShare q₁
    ∗ owns (c : Thread nD τ) (Memref.whole cc0_scratch4) fullShare s₂ ∗ owns (c : Thread nD τ) (Memref.whole cc0_scratch5) fullShare q₂
    ∗ owns (c : Thread nD τ) (Memref.whole cc0_scratch6) fullShare s₃ ∗ owns (c : Thread nD τ) (Memref.whole cc0_scratch7) fullShare q₃)

/-- The contents of every block after every point. -/
def dats (_ : Fin 1) (c : Dev nD) : Dat τ (Elt F) Unit ℕ (UR sig nD τ) ℕ cfg0 c where
  A w := V m c (Pipeline.arrRef spec0 w)
  after w t := match w with
    | ⟨0,_⟩ => pair m c t.val
    | ⟨1,_⟩ => w1 m c
    | ⟨2,_⟩ => b1 m c
    | ⟨3,_⟩ => g1 m c
    | ⟨4,_⟩ => e1 m c
    | ⟨5,_⟩ => w2 m c
    | ⟨6,_⟩ => b2 m c
    | ⟨7,_⟩ => g2 m c
    | ⟨8,_⟩ => e2 m c
    | ⟨9,_⟩ => w3 m c
    | ⟨10,_⟩ => b3 m c
    | ⟨11,_⟩ => g3 m c
    | ⟨12,_⟩ => e3 m c
    | ⟨13, _⟩ => tokens m c
  Φ t := iprop(held m c t.val ∗ ∃ r, prngReg c r)
  q _ := fullShare
  owed _ := 0

theorem A_eq (c : Dev nD) (w : Fin cfg0.W) : (dats m 0 c).A w = V m c (Pipeline.arrRef spec0 w) := by dsimp only [dats]
theorem after_in (c : Dev nD) (t : Fin cfg0.N) : (dats m 0 c).after 0 t = pair m c t.val
    ∧ (dats m 0 c).after 1 t = w1 m c
    ∧ (dats m 0 c).after 2 t = b1 m c
    ∧ (dats m 0 c).after 3 t = g1 m c
    ∧ (dats m 0 c).after 4 t = e1 m c
    ∧ (dats m 0 c).after 5 t = w2 m c
    ∧ (dats m 0 c).after 6 t = b2 m c
    ∧ (dats m 0 c).after 7 t = g2 m c
    ∧ (dats m 0 c).after 8 t = e2 m c
    ∧ (dats m 0 c).after 9 t = w3 m c
    ∧ (dats m 0 c).after 10 t = b3 m c
    ∧ (dats m 0 c).after 11 t = g3 m c
    ∧ (dats m 0 c).after 12 t = e3 m c := by
  dsimp only [dats]; exact ⟨rfl, rfl, rfl, rfl, rfl, rfl, rfl, rfl, rfl, rfl, rfl, rfl, rfl⟩
theorem after_out (c : Dev nD) (t : Fin cfg0.N) : (dats m 0 c).after 13 t = tokens m c := by dsimp only [dats]

theorem pair_at (c : Dev nD) (t : Fin cfg0.N) : pair m c t.val = iblk m c 0 t := by
  unfold pair; rw [pt_val]

set_option maxHeartbeats 2000000 in
theorem before_in (c : Dev nD) (t : Fin cfg0.N) :
    (∀ d, (dats m 0 c).before 0 t d = pair m c t.val)
    ∧ (∀ d, (dats m 0 c).before 1 t d = w1 m c)
    ∧ (∀ d, (dats m 0 c).before 2 t d = b1 m c)
    ∧ (∀ d, (dats m 0 c).before 3 t d = g1 m c)
    ∧ (∀ d, (dats m 0 c).before 4 t d = e1 m c)
    ∧ (∀ d, (dats m 0 c).before 5 t d = w2 m c)
    ∧ (∀ d, (dats m 0 c).before 6 t d = b2 m c)
    ∧ (∀ d, (dats m 0 c).before 7 t d = g2 m c)
    ∧ (∀ d, (dats m 0 c).before 8 t d = e2 m c)
    ∧ (∀ d, (dats m 0 c).before 9 t d = w3 m c)
    ∧ (∀ d, (dats m 0 c).before 10 t d = b3 m c)
    ∧ (∀ d, (dats m 0 c).before 11 t d = g3 m c)
    ∧ (∀ d, (dats m 0 c).before 12 t d = e3 m c) :=
  ⟨fun d => (before0_0_of m _ (A_eq m c _) (fun t => (after_in m c t).1.trans (pair_at m c t)) t d).trans (pair_at m c t).symm,
    fun d => before0_1_of m _ (A_eq m c _) (fun _ => rfl) t d,
    fun d => before0_2_of m _ (A_eq m c _) (fun _ => rfl) t d,
    fun d => before0_3_of m _ (A_eq m c _) (fun _ => rfl) t d,
    fun d => before0_4_of m _ (A_eq m c _) (fun _ => rfl) t d,
    fun d => before0_5_of m _ (A_eq m c _) (fun _ => rfl) t d,
    fun d => before0_6_of m _ (A_eq m c _) (fun _ => rfl) t d,
    fun d => before0_7_of m _ (A_eq m c _) (fun _ => rfl) t d,
    fun d => before0_8_of m _ (A_eq m c _) (fun _ => rfl) t d,
    fun d => before0_9_of m _ (A_eq m c _) (fun _ => rfl) t d,
    fun d => before0_10_of m _ (A_eq m c _) (fun _ => rfl) t d,
    fun d => before0_11_of m _ (A_eq m c _) (fun _ => rfl) t d,
    fun d => before0_12_of m _ (A_eq m c _) (fun _ => rfl) t d⟩

set_option maxHeartbeats 2000000 in
theorem leaves_in (c : Dev nD) (t : Fin cfg0.N) :
    (dats m 0 c).leavesExact 0 t = owns (c : Thread nD τ) (st0_0 t) fullShare (pair m c t.val)
    ∧ (dats m 0 c).leavesExact 1 t = owns (c : Thread nD τ) (st0_1 t) fullShare (w1 m c)
    ∧ (dats m 0 c).leavesExact 2 t = owns (c : Thread nD τ) (st0_2 t) fullShare (b1 m c)
    ∧ (dats m 0 c).leavesExact 3 t = owns (c : Thread nD τ) (st0_3 t) fullShare (g1 m c)
    ∧ (dats m 0 c).leavesExact 4 t = owns (c : Thread nD τ) (st0_4 t) fullShare (e1 m c)
    ∧ (dats m 0 c).leavesExact 5 t = owns (c : Thread nD τ) (st0_5 t) fullShare (w2 m c)
    ∧ (dats m 0 c).leavesExact 6 t = owns (c : Thread nD τ) (st0_6 t) fullShare (b2 m c)
    ∧ (dats m 0 c).leavesExact 7 t = owns (c : Thread nD τ) (st0_7 t) fullShare (g2 m c)
    ∧ (dats m 0 c).leavesExact 8 t = owns (c : Thread nD τ) (st0_8 t) fullShare (e2 m c)
    ∧ (dats m 0 c).leavesExact 9 t = owns (c : Thread nD τ) (st0_9 t) fullShare (w3 m c)
    ∧ (dats m 0 c).leavesExact 10 t = owns (c : Thread nD τ) (st0_10 t) fullShare (b3 m c)
    ∧ (dats m 0 c).leavesExact 11 t = owns (c : Thread nD τ) (st0_11 t) fullShare (g3 m c)
    ∧ (dats m 0 c).leavesExact 12 t = owns (c : Thread nD τ) (st0_12 t) fullShare (e3 m c) := by
  refine ⟨?_, ?_, ?_, ?_, ?_, ?_, ?_, ?_, ?_, ?_, ?_, ?_, ?_⟩
  all_goals unfold Dat.leavesExact; rw [idle_in t _ (by decide)]; rfl

theorem leaves_idle (c : Dev nD) (t : Fin cfg0.N) (h : t.val ≠ 24) :
    (dats m 0 c).leavesExact 13 t = iprop(∃ d, owns (c : Thread nD τ) (st0_13 t) fullShare ((dats m 0 c).before 13 t d)) :=
  Dat.leavesExact_idle (dats m 0 c) 13 t ((idle_out t).trans (decide_eq_true h)) ((flush_out t).trans (decide_eq_false h))

theorem leaves_out (c : Dev nD) (t : Fin cfg0.N) (h : t.val = 24) :
    (dats m 0 c).leavesExact 13 t = owns (c : Thread nD τ) (st0_13 t) fullShare (tokens m c) := by
  unfold Dat.leavesExact; rw [idle_out t, after_out, decide_eq_false (by simp [h])]

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t)

set_option maxHeartbeats 4000000 in
/-- The body at any point takes the blocks from what they held to what the proof data says. -/
theorem sound_body (c : Dev nD) (t : Fin cfg0.N) :
    bodyPre m c t ⊢ wp frame (wpE (defs₀ (F := F)) Variants.none c none) Set.univ (bodyAt0 t) (fun _ => bodyPost m c t) := by
  have hN : t.val < 25 := lt_of_lt_of_eq t.isLt (show cfg0.N = 25 from N_0)
  obtain ⟨B0, B1, B2, B3, B4, B5, B6, B7, B8, B9, B10, B11, B12⟩ := before_in m c t
  obtain ⟨L0, L1, L2, L3, L4, L5, L6, L7, L8, L9, L10, L11, L12⟩ := leaves_in m c t
  unfold bodyPre bodyPost bodyAt0
  simp only [B0, B1, B2, B3, B4, B5, B6, B7, B8, B9, B10, B11, B12]
  rw [L0, L1, L2, L3, L4, L5, L6, L7, L8, L9, L10, L11, L12, show (dats m 0 c).Φ t.succ = iprop(held m c (t.val + 1) ∗ ∃ r, prngReg c r) from rfl,
    show (dats m 0 c).Φ t.castSucc = iprop(held m c t.val ∗ ∃ r, prngReg c r) from rfl,
    show (dats m 0 c).owesAt () t.succ = (dats m 0 c).owesAt () t.castSucc from rfl]
  unfold held
  iintro ⟨⟨⟨%Y, %T, %s₁, %q₁, %s₂, %q₂, %s₃, %q₃, %Hd, H15, H16, H17, H18, H19, H20, H21, H22⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  by_cases h24 : t.val = 24
  · rw [leaves_out m c t h24]
    iapply (last_run _ _ _ _ _ _ _ _ _ _ _ _ _ _ _ _ _ _ _ _ _ _ _ _ _ _ _ _ _ _ _ _ _ _ _ _ _ _ _ _ _ _ _ _ c (grid0.coords t) (fun h => by have := (start_iff t).mp h; omega) (fun h => by have := (sums_iff t).mp h; omega) (fun h => by have := (seconds_iff t).mp h; omega) (fun h => by have := (thirds_iff t).mp h; omega) ((last_iff t).mpr (by omega))  (g3 m c) (e3 m c) _ T s₃ q₃ Set.univ _)
    isplitl [H11]; · iexact H11
    isplitl [H12]; · iexact H12
    isplitl [H13]; · iexact H13
    isplitl [H16]; · iexact H16
    isplitl [H21]; · iexact H21
    isplitl [H22]; · iexact H22
    iintro ⟨H11, H12, H13, H16, H21, H22⟩
    isplitl [Hr H15 H16 H17 H18 H19 H20 H21 H22]
    · isplitr [Hr]; swap; · iexact Hr
      iexists _, _, _, _, _, _, _, _
      isplitr; swap
      · isplitl [H15]; · iexact H15
        isplitl [H16]; · iexact H16
        isplitl [H17]; · iexact H17
        isplitl [H18]; · iexact H18
        isplitl [H19]; · iexact H19
        isplitl [H20]; · iexact H20
        isplitl [H21]; · iexact H21
        iexact H22
      · ipureintro; exact holds_last m c h24 Hd
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    rw [tokens_at m c (h24 ▸ Hd)]; iexact H13
  rw [leaves_idle m c t h24]
  by_cases h0 : t.val = 0
  · iapply (start_run _ _ _ _ _ _ _ _ _ _ _ _ _ _ _ _ _ _ _ _ _ _ _ _ _ _ _ _ _ _ _ _ _ _ _ _ _ _ _ _ _ _ _ _ c (grid0.coords t) ((start_iff t).mpr (by omega)) ((sums_iff t).mpr (by omega)) (fun h => by have := (seconds_iff t).mp h; omega) (fun h => by have := (thirds_iff t).mp h; omega) (fun h => by have := (last_iff t).mp h; omega)  (pair m c t.val) (w1 m c) (b1 m c) s₁ q₁ s₂ q₂ s₃ q₃ Set.univ _)
    isplitl [H0]; · iexact H0
    isplitl [H1]; · iexact H1
    isplitl [H2]; · iexact H2
    isplitl [H17]; · iexact H17
    isplitl [H18]; · iexact H18
    isplitl [H19]; · iexact H19
    isplitl [H20]; · iexact H20
    isplitl [H21]; · iexact H21
    isplitl [H22]; · iexact H22
    iintro ⟨H0, H1, H2, H17, H18, H19, H20, H21, H22⟩
    isplitl [Hr H15 H16 H17 H18 H19 H20 H21 H22]
    · isplitr [Hr]; swap; · iexact Hr
      iexists _, _, _, _, _, _, _, _
      isplitr; swap
      · isplitl [H15]; · iexact H15
        isplitl [H16]; · iexact H16
        isplitl [H17]; · iexact H17
        isplitl [H18]; · iexact H18
        isplitl [H19]; · iexact H19
        isplitl [H20]; · iexact H20
        isplitl [H21]; · iexact H21
        iexact H22
      · ipureintro; exact by rw [h0]; exact holds_start m c
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  by_cases h8 : t.val < 8
  · iapply (sums_run _ _ _ _ _ _ _ _ _ _ _ _ _ _ _ _ _ _ _ _ _ _ _ _ _ _ _ _ _ _ _ _ _ _ _ _ _ _ _ _ _ _ _ _ c (grid0.coords t) (fun h => by have := (start_iff t).mp h; omega) ((sums_iff t).mpr (by omega)) (fun h => by have := (seconds_iff t).mp h; omega) (fun h => by have := (thirds_iff t).mp h; omega) (fun h => by have := (last_iff t).mp h; omega)  (pair m c t.val) (w1 m c) (b1 m c) s₁ q₁ Set.univ _)
    isplitl [H0]; · iexact H0
    isplitl [H1]; · iexact H1
    isplitl [H2]; · iexact H2
    isplitl [H17]; · iexact H17
    isplitl [H18]; · iexact H18
    iintro ⟨H0, H1, H2, H17, H18⟩
    isplitl [Hr H15 H16 H17 H18 H19 H20 H21 H22]
    · isplitr [Hr]; swap; · iexact Hr
      iexists _, _, _, _, _, _, _, _
      isplitr; swap
      · isplitl [H15]; · iexact H15
        isplitl [H16]; · iexact H16
        isplitl [H17]; · iexact H17
        isplitl [H18]; · iexact H18
        isplitl [H19]; · iexact H19
        isplitl [H20]; · iexact H20
        isplitl [H21]; · iexact H21
        iexact H22
      · ipureintro; exact holds_sums m c h0 h8 Hd
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  by_cases h16 : t.val < 16
  · iapply (seconds_run _ _ _ _ _ _ _ _ _ _ _ _ _ _ _ _ _ _ _ _ _ _ _ _ _ _ _ _ _ _ _ _ _ _ _ _ _ _ _ _ _ _ _ _ c (grid0.coords t) (fun h => by have := (start_iff t).mp h; omega) (fun h => by have := (sums_iff t).mp h; omega) ((seconds_iff t).mpr (by omega)) (fun h => by have := (thirds_iff t).mp h; omega) (fun h => by have := (last_iff t).mp h; omega) (2 * (t.val - 8)) (seconds_offs t (by omega)).1 (seconds_offs t (by omega)).2 (pair m c t.val) (w1 m c) (b1 m c) (g1 m c) (e1 m c) (w2 m c) (b2 m c) Y s₁ q₁ s₂ q₂ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H15]; · iexact H15
    isplitl [H17]; · iexact H17
    isplitl [H18]; · iexact H18
    isplitl [H19]; · iexact H19
    isplitl [H20]; · iexact H20
    iintro ⟨H0, H1, H2, H3, H4, H5, H6, H15, H17, H18, H19, H20⟩
    isplitl [Hr H15 H16 H17 H18 H19 H20 H21 H22]
    · isplitr [Hr]; swap; · iexact Hr
      iexists _, _, _, _, _, _, _, _
      isplitr; swap
      · isplitl [H15]; · iexact H15
        isplitl [H16]; · iexact H16
        isplitl [H17]; · iexact H17
        isplitl [H18]; · iexact H18
        isplitl [H19]; · iexact H19
        isplitl [H20]; · iexact H20
        isplitl [H21]; · iexact H21
        iexact H22
      · ipureintro; exact by rw [y2_at m c (by omega) Hd]; exact holds_seconds m c (by omega) h16 Hd
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13
  · iapply (thirds_run _ _ _ _ _ _ _ _ _ _ _ _ _ _ _ _ _ _ _ _ _ _ _ _ _ _ _ _ _ _ _ _ _ _ _ _ _ _ _ _ _ _ _ _ c (grid0.coords t) (fun h => by have := (start_iff t).mp h; omega) (fun h => by have := (sums_iff t).mp h; omega) (fun h => by have := (seconds_iff t).mp h; omega) ((thirds_iff t).mpr (by omega)) (fun h => by have := (last_iff t).mp h; omega) (2 * (t.val - 16)) (by omega) (by omega) (thirds_offs t (by omega)).1 (thirds_offs t (by omega)).2.1 (thirds_offs t (by omega)).2.2.1 (thirds_offs t (by omega)).2.2.2 (g2 m c) (e2 m c) (w3 m c) (b3 m c) Y T s₂ q₂ s₃ q₃ Set.univ _)
    isplitl [H7]; · iexact H7
    isplitl [H8]; · iexact H8
    isplitl [H9]; · iexact H9
    isplitl [H10]; · iexact H10
    isplitl [H15]; · iexact H15
    isplitl [H16]; · iexact H16
    isplitl [H19]; · iexact H19
    isplitl [H20]; · iexact H20
    isplitl [H21]; · iexact H21
    isplitl [H22]; · iexact H22
    iintro ⟨H7, H8, H9, H10, H15, H16, H19, H20, H21, H22⟩
    isplitl [Hr H15 H16 H17 H18 H19 H20 H21 H22]
    · isplitr [Hr]; swap; · iexact Hr
      iexists _, _, _, _, _, _, _, _
      isplitr; swap
      · isplitl [H15]; · iexact H15
        isplitl [H16]; · iexact H16
        isplitl [H17]; · iexact H17
        isplitl [H18]; · iexact H18
        isplitl [H19]; · iexact H19
        isplitl [H20]; · iexact H20
        isplitl [H21]; · iexact H21
        iexact H22
      · ipureintro; exact by rw [y3_at m c (by omega) Hd, y3_at m c (by omega) Hd]; exact holds_thirds m c (by omega) (by omega) Hd
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexists d13; iexact H13

/-- The row of the table of bodies at a point. -/
theorem body_row (t : Fin cfg0.N) : defs₀ (F := F) .tc cfg0.body (cfg0.bodyArgs t (cfg0.slots t)) = bodyAt0 t := by
  unfold defs₀; rw [Defs.onTc_tc]

theorem body_sound (c : Dev nD) : BodyObligation (dats (F := F) m 0 c) (defs₀ (F := F)) Variants.none () Set.univ := fun t => by
  rw [bigSep_W0, bigSep_W0, body_row]
  exact triple_restated (sound_body m c t) rfl .rfl fun _ => .rfl

/-! ## The launch -/

theorem held_in (c : Dev nD) : Pipeline.ΦA spec0 c ⊢ ((dats m 0 c).Φ 0 : sProp 𝕄) := by
  rw [show (dats m 0 c).Φ 0 = iprop(held m c 0 ∗ ∃ r, prngReg c r) from rfl]
  unfold Pipeline.ΦA held
  rw [scopedRest0_eq]
  simp only [owns_whole]
  iintro ⟨⟨⟨%Y, H0⟩, ⟨%T, H1⟩, ⟨%s₁, H2⟩, ⟨%q₁, H3⟩, ⟨%s₂, H4⟩, ⟨%q₂, H5⟩, ⟨%s₃, H6⟩, ⟨%q₃, H7⟩⟩, Hr⟩
  isplitr [Hr]; swap; · iexact Hr
  iexists Y, T, s₁, q₁, s₂, q₂, s₃, q₃
  isplitr; · ipureintro; exact holds_zero m c _ _ _ _ _ _ _ _
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem held_out (c : Dev nD) : ((dats m 0 c).Φ (Fin.last cfg0.N) : sProp 𝕄) ⊢ Pipeline.ΦA spec0 c := by
  rw [show (dats m 0 c).Φ (Fin.last cfg0.N) = iprop(held m c cfg0.N ∗ ∃ r, prngReg c r) from rfl]
  unfold Pipeline.ΦA held
  rw [scopedRest0_eq]
  simp only [owns_whole]
  iintro ⟨⟨%Y, %T, %s₁, %q₁, %s₂, %q₂, %s₃, %q₃, -, H0, H1, H2, H3, H4, H5, H6, H7⟩, Hr⟩
  isplitr [Hr]; swap; · iexact Hr
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  iexists _; iexact H7

set_option backward.isDefEq.respectTransparency.types false in
/-- Every execution ends, with every array of the pipeline at what the proof data says, and every counter at zero. -/
theorem run_quiet : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_sound m c).loose) (hshare := fun c => (dats m 0 c).share_full fun _ => rfl)
    (howed := fun _ _ => rfl) (V := V m) (hmain := hmain m Variants.none) (hA := A_eq m) (hin := held_in m) (hout := held_out m)

theorem run_post : θ_run defs (onTc (τ := τ) (main (F := F))) (s₀ m ρ) (Pipeline.FramePost cfgs (dats m) 0 (V m)) :=
  (θ_run defs _ _).mono (fun _ h => h.1) (run_quiet m ρ)

/-- Every execution ends with every argument array as it was and every counter at zero. -/
theorem frame_mlp : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) ∧ r.2.sem = fun _ => 0) :=
  θ_run_and (frame_of m ρ (dats m) (A_eq m) (run_post m ρ)) ((θ_run defs _ _).mono (fun _ h => h.2) (run_quiet m ρ))

end Cert.Proof.Mlp

end
-- ==== Proof.MlpBits.lean ====
/-
  The three-layer kernel as printed, at the printed numbers: it has the idealized text, so it runs as that text does.
-/
module

public import proofs.«01_k».proof.Proof.MlpLaunch
public import proofs.«01_k».proof.Proof.Gen.Mlp.Frame
public import proofs.«01_k».proof.Defs

@[expose] public section

set_option maxRecDepth 65536

noncomputable section

namespace Cert.Proof.Mlp

open Idealize.ShloMosaic Idealize.SL.Sem

variable [Cert.Mlp.Facts]

/-- The two texts give the kernel the same body. -/
theorem bodies_eq : Cert.Mlp.defs₀ (F := Bits) = Cert.MlpIdeal.defs₀ (F := Bits) := by
  unfold Cert.Mlp.defs₀ Cert.MlpIdeal.defs₀
  refine congrArg _ ?_
  funext l a
  match l, a with
  | 0, (t, s) => rfl

theorem tables_eq : Cert.Mlp.defs (F := Bits) = Cert.MlpIdeal.defs (F := Bits) :=
  congrArg (Pipeline.defs Cert.MlpIdeal.pcfgs) bodies_eq

theorem frame_printed : quiescent_Mlp := fun m ρ _ =>
  (congrArg (fun D => θ_run D (onTc (τ := Cert.MlpIdeal.τ) (Cert.MlpIdeal.main (F := Bits))) ⟨m, fun _ => 0, ρ⟩
    (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5)
      ∧ r.2.mem ((c.tc : Thread Cert.MlpIdeal.nD Cert.MlpIdeal.τ).loc Cert.MlpIdeal.main_arg6) = m ((c.tc : Thread Cert.MlpIdeal.nD Cert.MlpIdeal.τ).loc Cert.MlpIdeal.main_arg6)
      ∧ r.2.mem ((c.tc : Thread Cert.MlpIdeal.nD Cert.MlpIdeal.τ).loc Cert.MlpIdeal.main_arg7) = m ((c.tc : Thread Cert.MlpIdeal.nD Cert.MlpIdeal.τ).loc Cert.MlpIdeal.main_arg7)
      ∧ r.2.mem ((c.tc : Thread Cert.MlpIdeal.nD Cert.MlpIdeal.τ).loc Cert.MlpIdeal.main_arg8) = m ((c.tc : Thread Cert.MlpIdeal.nD Cert.MlpIdeal.τ).loc Cert.MlpIdeal.main_arg8)
      ∧ r.2.mem ((c.tc : Thread Cert.MlpIdeal.nD Cert.MlpIdeal.τ).loc Cert.MlpIdeal.main_arg9) = m ((c.tc : Thread Cert.MlpIdeal.nD Cert.MlpIdeal.τ).loc Cert.MlpIdeal.main_arg9)
      ∧ r.2.mem ((c.tc : Thread Cert.MlpIdeal.nD Cert.MlpIdeal.τ).loc Cert.MlpIdeal.main_arg10) = m ((c.tc : Thread Cert.MlpIdeal.nD Cert.MlpIdeal.τ).loc Cert.MlpIdeal.main_arg10)
      ∧ r.2.mem ((c.tc : Thread Cert.MlpIdeal.nD Cert.MlpIdeal.τ).loc Cert.MlpIdeal.main_arg11) = m ((c.tc : Thread Cert.MlpIdeal.nD Cert.MlpIdeal.τ).loc Cert.MlpIdeal.main_arg11)
      ∧ r.2.mem ((c.tc : Thread Cert.MlpIdeal.nD Cert.MlpIdeal.τ).loc Cert.MlpIdeal.main_arg12) = m ((c.tc : Thread Cert.MlpIdeal.nD Cert.MlpIdeal.τ).loc Cert.MlpIdeal.main_arg12))
      ∧ r.2.sem = fun _ => 0)) tables_eq).mpr (frame_mlp (F := Bits) m ρ)

end Cert.Proof.Mlp

end
-- ==== Proof.MlpReal.lean ====
/-
  The three layers over the real numbers: sums over all points of all clouds in the orders the two programs take them, the
  variance as the mean of the squares less the square of the mean, and the maximum over the neighbours.
-/
module

public import Idealize.ShloMosaic.PureOps.Ideal
public import Idealize.ShloMosaic.Lib.IdealHost

@[expose] public section

noncomputable section

namespace Cert.Proof.Mlp

open Finset Idealize.ShloMosaic

/-! ## Sums -/

theorem sum_blocks (f : ℕ → ℝ) (m n : ℕ) : ∑ p ∈ range (m * n), f p = ∑ i ∈ range m, ∑ j ∈ range n, f (i * n + j) := by
  induction m with
  | zero => simp
  | succ m ih => rw [Nat.succ_mul, Finset.sum_range_add, sum_range_succ, ih]

/-- The sum over every column of every cloud. -/
def total (a : ℕ → ℕ → ℝ) : ℝ := ∑ b ∈ range 16, ∑ j ∈ range 4096, a b j

/-- The sum by lanes of pairs of clouds. -/
theorem total_pairs (a A : ℕ → ℕ → ℝ) (h : ∀ i < 8, ∀ s < 2, ∀ j < 4096, A i (s * 4096 + j) = a (i * 2 + s) j) :
    ∑ l ∈ range 128, ∑ i ∈ range 8, ∑ k ∈ range 64, A i (k * 128 + l) = total a := by
  rw [sum_comm]
  have e1 : total a = ∑ i ∈ range 8, ∑ s ∈ range 2, ∑ j ∈ range 4096, a (i * 2 + s) j :=
    sum_blocks (fun b => ∑ j ∈ range 4096, a b j) 8 2
  rw [e1]
  refine sum_congr rfl fun i hi => ?_
  rw [sum_comm, ← sum_blocks (A i) 64 128, show 64 * 128 = 2 * 4096 from rfl, sum_blocks (A i) 2 4096]
  exact sum_congr rfl fun s hs => sum_congr rfl fun j hj => h i (mem_range.mp hi) s (mem_range.mp hs) j (mem_range.mp hj)

/-- The sum by lanes of clouds. -/
theorem total_clouds (a : ℕ → ℕ → ℝ) : ∑ l ∈ range 128, ∑ b ∈ range 16, ∑ k ∈ range 32, a b (k * 128 + l) = total a := by
  rw [sum_comm]
  refine sum_congr rfl fun b hb => ?_
  rw [sum_comm, ← sum_blocks (a b) 32 128]

/-- The sum by points, the neighbours of a patch together. -/
theorem total_points (a : ℕ → ℕ → ℝ) (R : ℕ → ℝ) (h : ∀ b < 16, ∀ r < 128, ∀ k < 32, R (b * 4096 + (r * 32 + k)) = a b (k * 128 + r)) :
    ∑ p ∈ range 65536, R p = total a := by
  rw [show 65536 = 16 * 4096 from rfl, sum_blocks R 16 4096]
  refine sum_congr rfl fun b hb => ?_
  rw [show 4096 = 128 * 32 from rfl, sum_blocks _ 128 32, Nat.mul_comm 128 32, sum_blocks (a b) 32 128, sum_comm]
  exact sum_congr rfl fun k hk => sum_congr rfl fun r hr => h b (mem_range.mp hb) r (mem_range.mp hr) k (mem_range.mp hk)

/-! ## Mean, variance, normalisation -/

def mean (a : ℕ → ℕ → ℝ) : ℝ := total a / 65536
def var (a : ℕ → ℕ → ℝ) : ℝ := total (fun b j => (a b j - mean a) * (a b j - mean a)) / 65536

theorem var_nonneg (a : ℕ → ℕ → ℝ) : 0 ≤ var a :=
  div_nonneg (sum_nonneg fun _ _ => sum_nonneg fun _ _ => mul_self_nonneg _) (by norm_num)

theorem var_eq (a : ℕ → ℕ → ℝ) : total (fun b j => a b j * a b j) / 65536 - mean a * mean a = var a := by
  have e : ∀ μ : ℝ, total (fun b j => (a b j - μ) * (a b j - μ)) = total (fun b j => a b j * a b j) - 2 * μ * total a + 65536 * (μ * μ) := by
    intro μ
    unfold total
    have : ∀ b j, (a b j - μ) * (a b j - μ) = a b j * a b j - 2 * μ * a b j + μ * μ := fun b j => by ring
    simp only [this, sum_add_distrib, sum_sub_distrib, ← mul_sum, sum_const, card_range, nsmul_eq_mul]
    push_cast; ring
  unfold var
  rw [e]
  have : total a = 65536 * mean a := by unfold mean; ring
  rw [this]; ring

/-- The small number under the root. -/
def small : ℝ := 10995116 * (2 : ℝ) ^ (-40 : ℤ)

theorem small_pos : 0 < small := by unfold small; positivity

theorem bits_small : Ideal.ofBits .f32 0x3727C5AC#32 = ((small : ℝ) : EReal) := by
  unfold small
  simp [Ideal.ofBits, Ideal.ieee, -EReal.coe_mul]
theorem bits_share : Ideal.ofBits .f32 0x37800000#32 = (((1 : ℝ) / 65536 : ℝ) : EReal) := by
  simp [Ideal.ofBits, Ideal.ieee, -EReal.coe_mul]; norm_num
theorem bits_count : Ideal.ofBits .f32 0x47800000#32 = ((65536 : ℝ) : EReal) := by
  simp [Ideal.ofBits, Ideal.ieee, -EReal.coe_mul]; norm_num
theorem bits_least : Ideal.ofBits .f32 0xFF800000#32 = ⊥ := by
  simp [Ideal.ofBits, Ideal.ieee]

theorem spread_pos (a : ℕ → ℕ → ℝ) : 0 < var a + small := add_pos_of_nonneg_of_pos (var_nonneg a) small_pos

/-- A value normalised, scaled and shifted. -/
def norm (g e : ℝ) (a : ℕ → ℕ → ℝ) (x : ℝ) : ℝ := g * (x - mean a) / Real.sqrt (var a + small) + e

/-- What a layer's values become. -/
def act (g e : ℝ) (a : ℕ → ℕ → ℝ) (b j : ℕ) : ℝ := max (norm g e a (a b j)) 0

theorem rsqrt_real {v : ℝ} (h : 0 < v) : Ideal.rsqrt ((v : ℝ) : EReal) = (((Real.sqrt v)⁻¹ : ℝ) : EReal) := by
  rw [Ideal.rsqrt_coe, if_neg (not_lt.mpr h.le), if_neg h.ne']
theorem sqrt_real {v : ℝ} (h : 0 < v) : Ideal.sqrt ((v : ℝ) : EReal) = ((Real.sqrt v : ℝ) : EReal) := by
  rw [Ideal.sqrt_coe, if_neg (not_lt.mpr h.le)]
theorem div_real (x : ℝ) {y : ℝ} (h : y ≠ 0) : Ideal.div (x : EReal) (y : EReal) = ((x / y : ℝ) : EReal) := by
  rw [Ideal.div_coe h, ← EReal.coe_mul]; congr 1; ring

theorem max_real (x y : ℝ) : max (x : EReal) (y : EReal) = ((max x y : ℝ) : EReal) := (EReal.coe_strictMono.monotone.map_max).symm

theorem by_sums_mean (a : ℕ → ℕ → ℝ) {S : EReal} (hS : S = ((total a : ℝ) : EReal)) : S * Ideal.ofBits .f32 0x37800000#32 = ((mean a : ℝ) : EReal) := by
  rw [hS, bits_share, ← EReal.coe_mul]; congr 1; unfold mean; ring

theorem by_sums_root (a : ℕ → ℕ → ℝ) {S Q : EReal} (hS : S = ((total a : ℝ) : EReal)) (hQ : Q = ((total (fun b j => a b j * a b j) : ℝ) : EReal)) :
    Ideal.rsqrt (Q * Ideal.ofBits .f32 0x37800000#32
      - S * Ideal.ofBits .f32 0x37800000#32 * (S * Ideal.ofBits .f32 0x37800000#32) + Ideal.ofBits .f32 0x3727C5AC#32)
      = (((Real.sqrt (var a + small))⁻¹ : ℝ) : EReal) := by
  have hv : total (fun b j => a b j * a b j) * (1 / 65536) - mean a * mean a = var a := by rw [← var_eq]; ring
  rw [by_sums_mean a hS, hQ, bits_share, bits_small, ← EReal.coe_mul, ← EReal.coe_mul, ← EReal.coe_sub, hv, ← EReal.coe_add, rsqrt_real (spread_pos a)]

/-- The normalisation with the reciprocal root, from the two sums. -/
theorem by_sums (a : ℕ → ℕ → ℝ) (g e x : ℝ) {S Q : EReal} (hS : S = ((total a : ℝ) : EReal)) (hQ : Q = ((total (fun b j => a b j * a b j) : ℝ) : EReal)) :
    (g : EReal) * ((x : EReal) - S * Ideal.ofBits .f32 0x37800000#32) * Ideal.rsqrt (Q * Ideal.ofBits .f32 0x37800000#32
      - S * Ideal.ofBits .f32 0x37800000#32 * (S * Ideal.ofBits .f32 0x37800000#32) + Ideal.ofBits .f32 0x3727C5AC#32) + (e : EReal)
      = ((norm g e a x : ℝ) : EReal) := by
  rw [by_sums_root a hS hQ, by_sums_mean a hS, ← EReal.coe_sub, ← EReal.coe_mul, ← EReal.coe_mul, ← EReal.coe_add]
  rfl

/-! ## The maximum over the neighbours -/

/-- The maximum of `f 0, …, f k`. -/
def most (f : ℕ → ℝ) : ℕ → ℝ
  | 0 => f 0
  | k + 1 => max (most f k) (f (k + 1))

theorem most_map (f : ℕ → ℝ) {φ : ℝ → ℝ} (h : Monotone φ) (k : ℕ) : φ (most f k) = most (fun i => φ (f i)) k := by
  induction k with
  | zero => rfl
  | succ k ih => show φ (max _ _) = max _ _; rw [h.map_max, ih]

theorem norm_mono {g : ℝ} (hg : 0 ≤ g) (e : ℝ) (a : ℕ → ℕ → ℝ) : Monotone fun x => norm g e a x := by
  intro x y hxy
  show norm g e a x ≤ norm g e a y
  unfold norm
  have := Real.sqrt_nonneg (var a + small)
  gcongr

theorem most_norm {g : ℝ} (hg : 0 ≤ g) (e : ℝ) (a : ℕ → ℕ → ℝ) (b r k : ℕ) :
    norm g e a (most (fun i => a b (i * 128 + r)) k) = most (fun i => norm g e a (a b (i * 128 + r))) k :=
  most_map _ (norm_mono hg e a) k

/-! ## The network -/

/-- A linear layer. -/
def lin (K : ℕ) (w : ℕ → ℕ → ℝ) (s : ℕ → ℝ) (h : ℕ → ℕ → ℕ → ℝ) (o b j : ℕ) : ℝ := ∑ d ∈ range K, h d b j * w d o + s o

/-- The arguments but the last shifts, as real numbers. -/
structure Net where
  x : ℕ → ℕ → ℕ → ℝ
  w1 : ℕ → ℕ → ℝ
  b1 : ℕ → ℝ
  g1 : ℕ → ℝ
  e1 : ℕ → ℝ
  w2 : ℕ → ℕ → ℝ
  b2 : ℕ → ℝ
  g2 : ℕ → ℝ
  e2 : ℕ → ℝ
  w3 : ℕ → ℕ → ℝ
  b3 : ℕ → ℝ
  g3 : ℕ → ℝ

namespace Net

variable (N : Net)

/-- The layers' values at output `o`, cloud `b`, column `j`: before the normalisation and after it. -/
def a1 : ℕ → ℕ → ℕ → ℝ := lin 3 N.w1 N.b1 (fun d b j => N.x b d j)
def h1 (o : ℕ) : ℕ → ℕ → ℝ := act (N.g1 o) (N.e1 o) (N.a1 o)
def a2 : ℕ → ℕ → ℕ → ℝ := lin 64 N.w2 N.b2 N.h1
def h2 (o : ℕ) : ℕ → ℕ → ℝ := act (N.g2 o) (N.e2 o) (N.a2 o)
def a3 : ℕ → ℕ → ℕ → ℝ := lin 128 N.w3 N.b3 N.h2
def n3 (o b j : ℕ) : ℝ := norm (N.g3 o) 0 (N.a3 o) (N.a3 o b j)

/-- The greatest scaled value of patch `r` of cloud `b`, at output `o`, and the token with the last shift `e`, which may be
infinite. -/
def peak (b r o : ℕ) : ℝ := most (fun k => N.n3 o b (k * 128 + r)) 31
def token (e : EReal) (b r o : ℕ) : EReal := max ((N.peak b r o : EReal) + e) 0

end Net

end Cert.Proof.Mlp

end
-- ==== Proof.MlpKernel.lean ====
/-
  The kernel's layers over the extended reals, at real inputs: every block is an array of real numbers, the ones the layers
  over the real numbers name.
-/
module

public import proofs.«01_k».proof.Proof.MlpSteps
public import proofs.«01_k».proof.Proof.MlpReal
public import Idealize.ShloMosaic.PureOps.Ideal.Laws
public import Idealize.ShloMosaic.Lib.Pointwise.Reduce
public import Idealize.ShloMosaic.Lib.MatmulPlain
public import Idealize.ShloMosaic.Lib.Pipeline.Value

@[expose] public section

set_option maxRecDepth 65536

noncomputable section

namespace Cert.Proof.Mlp

open Cert.MlpIdeal Cert.MlpIdeal.Gen
open Finset
open Idealize.ShloMosaic hiding ix1 ix2 ix3 ix4
open Idealize.ShloMosaic.ValueIdx

theorem real_sum (n : ℕ) (f : ℕ → ℝ) : ∑ k : Fin n, ((f k.val : ℝ) : EReal) = ((∑ k ∈ range n, f k : ℝ) : EReal) := by
  induction n with
  | zero => simp
  | succ n ih => rw [Fin.sum_univ_castSucc, sum_range_succ, EReal.coe_add, ← ih]; rfl

/-- A matrix of real numbers. -/
def Is {C N : ℕ} (y : FVec Ideal ⟨2, ![C, N]⟩ .f32) (A : ℕ → ℕ → ℝ) : Prop := ∀ (o : Fin C) (p : Fin N), y (ix2 o p) = ((A o.val p.val : ℝ) : EReal)

section Columns
variable {C N : ℕ} {y : FVec Ideal ⟨2, ![C, N]⟩ .f32} {A : ℕ → ℕ → ℝ} (hy : Is y A)
include hy

theorem is_columns (k : ℕ) (h : (k + 1) * 128 ≤ N) : Is (columns y k h) fun o l => A o (k * 128 + l) := by
  intro o l
  have hl : k * 128 + l.val < N := lt_of_lt_of_le (Nat.add_lt_add_left l.isLt _) (Nat.le_trans (Nat.le_of_eq (Nat.succ_mul k 128).symm) h)
  exact (extractStridedSlice_apply _ _ _ _ (ix2 o ⟨k * 128 + l.val, hl⟩) (by
    intro b; fin_cases b
    · show o.val = 0 + o.val; omega
    · rfl)).trans (hy o ⟨k * 128 + l.val, hl⟩)

theorem is_adds (k : ℕ) (h : k * 128 ≤ N) : Is (adds y k h) fun o l => ∑ i ∈ range k, A o (i * 128 + l) := by
  induction k with
  | zero => intro o l; exact (Ideal.ofBits_zero_f32).trans (by simp)
  | succ k ih =>
    intro o l
    show adds y k (fits_pred h) (ix2 o l) + columns y k h (ix2 o l) = _
    rw [ih (fits_pred h) o l, is_columns hy k h o l, ← EReal.coe_add]
    exact congrArg _ (sum_range_succ _ _).symm

theorem is_squares (k : ℕ) (h : k * 128 ≤ N) : Is (squares y k h) fun o l => ∑ i ∈ range k, A o (i * 128 + l) * A o (i * 128 + l) := by
  induction k with
  | zero => intro o l; exact (Ideal.ofBits_zero_f32).trans (by simp)
  | succ k ih =>
    intro o l
    show squares y k (fits_pred h) (ix2 o l) + columns y k h (ix2 o l) * columns y k h (ix2 o l) = _
    rw [ih (fits_pred h) o l, is_columns hy k h o l, ← EReal.coe_mul, ← EReal.coe_add]
    exact congrArg _ (sum_range_succ _ _).symm

theorem is_tops (h₀ : (0 + 1) * 128 ≤ N) (k : ℕ) (h : k * 128 + 128 ≤ N) : Is (tops y h₀ k h) fun o l => most (fun i => A o (i * 128 + l)) k := by
  induction k with
  | zero => exact is_columns hy 0 h₀
  | succ k ih =>
    intro o l
    show max (tops y h₀ k (fits_more h) (ix2 o l)) (columns y (k + 1) (fits_next h) (ix2 o l)) = _
    rw [ih (fits_more h) o l, is_columns hy (k + 1) (fits_next h) o l, max_real]; rfl

end Columns

/-- One more part of the running sums. -/
theorem is_more {C : ℕ} {p s : FVec Ideal ⟨2, ![C, 128]⟩ .f32} {P S : ℕ → ℕ → ℝ} (hp : Is p P) (hs : Is s S) : Is (more p s) fun o l => S o l + P o l := by
  intro o l
  unfold more
  rw [shapeCast_self]
  show s (ix2 o l) + p (ix2 o l) = _
  rw [hp o l, hs o l, EReal.coe_add]

/-! ## The normalisation -/

section Norm
variable {C N : ℕ}

/-- The sums of the rows over the number of points. -/
def means (s : FVec Ideal ⟨2, ![C, 128]⟩ .f32) (hr : (⟨2, ![C, 128]⟩ : Shape).Reduces [1] ⟨1, ![C]⟩) (hc : (⟨1, ![C]⟩ : Shape).ShapeCasts ⟨2, ![C, 1]⟩) : FVec Ideal ⟨2, ![C, 1]⟩ .f32 :=
  mulf (shapeCast ⟨2, ![C, 1]⟩ (multiReduction .add [1] ⟨1, ![C]⟩ s 0x00000000#32 hr (.inl rfl) rfl) hc) (broadcast ⟨2, ![C, 1]⟩ (Scalar.ofBits .f32 0x37800000#32))

/-- The reciprocal root of the variance. -/
def roots (μ ν : FVec Ideal ⟨2, ![C, 1]⟩ .f32) : FVec Ideal ⟨2, ![C, 1]⟩ .f32 :=
  rsqrt (addf (subf ν (mulf μ μ)) (broadcast ⟨2, ![C, 1]⟩ (Scalar.ofBits .f32 0x3727C5AC#32)))

/-- The layer's values. -/
def normed (y : FVec Ideal ⟨2, ![C, N]⟩ .f32) (μ ν g e : FVec Ideal ⟨2, ![C, 1]⟩ .f32) (hb : (⟨2, ![C, 1]⟩ : Shape).Broadcasts ⟨2, ![C, N]⟩) : FVec Ideal ⟨2, ![C, N]⟩ .f32 :=
  maximumf (addf (mulf (mulf (broadcastTo ⟨2, ![C, N]⟩ g hb) (subf y (broadcastTo ⟨2, ![C, N]⟩ μ hb))) (broadcastTo ⟨2, ![C, N]⟩ (roots μ ν) hb)) (broadcastTo ⟨2, ![C, N]⟩ e hb))
    (broadcast ⟨2, ![C, N]⟩ (Scalar.ofBits .f32 0x00000000#32))

theorem spread_apply (x : FVec Ideal ⟨2, ![C, 1]⟩ .f32) (hb : (⟨2, ![C, 1]⟩ : Shape).Broadcasts ⟨2, ![C, N]⟩) (o : Fin C) (p : Fin N) :
    broadcastTo ⟨2, ![C, N]⟩ x hb (ix2 o p) = x (ix2 o 0) :=
  broadcastTo_apply _ _ _ (ix2 o 0) (by
    intro a; fin_cases a
    · show o.val = if C = 1 then 0 else o.val
      have := o.isLt; split <;> omega
    · rfl)

theorem means_apply (s : FVec Ideal ⟨2, ![C, 128]⟩ .f32) (hr : (⟨2, ![C, 128]⟩ : Shape).Reduces [1] ⟨1, ![C]⟩) (hc : (⟨1, ![C]⟩ : Shape).ShapeCasts ⟨2, ![C, 1]⟩)
    {S : ℕ → ℕ → ℝ} (hs : Is s S) (o : Fin C) :
    means s hr hc (ix2 o 0) = ((∑ l ∈ range 128, S o.val l : ℝ) : EReal) * Ideal.ofBits .f32 0x37800000#32 := by
  show shapeCast ⟨2, ![C, 1]⟩ _ hc (ix2 o 0) * _ = _
  refine congrArg (· * _) ?_
  refine (shapeCast_apply _ _ _ (ix1 o) (by rw [Shape.rowMajor_val_one, Shape.rowMajor_val_two]; show o.val = o.val * 1 + 0; omega)).trans ?_
  refine (Ideal.reduceAdd_r2_a1 hr s (ix1 o)).trans ?_
  rw [← real_sum]
  exact Finset.sum_congr rfl fun l _ => hs o l

/-- From the sums by lanes to the layer's values. -/
theorem is_normed {y : FVec Ideal ⟨2, ![C, N]⟩ .f32} {s q : FVec Ideal ⟨2, ![C, 128]⟩ .f32} {g e : FVec Ideal ⟨2, ![C, 1]⟩ .f32}
    {hr : (⟨2, ![C, 128]⟩ : Shape).Reduces [1] ⟨1, ![C]⟩} {hc : (⟨1, ![C]⟩ : Shape).ShapeCasts ⟨2, ![C, 1]⟩} {hb : (⟨2, ![C, 1]⟩ : Shape).Broadcasts ⟨2, ![C, N]⟩}
    {A S Q : ℕ → ℕ → ℝ} {a : ℕ → ℕ → ℕ → ℝ} {γ ε : ℕ → ℝ} (hy : Is y A) (hs : Is s S) (hq : Is q Q)
    (hS : ∀ o, ∑ l ∈ range 128, S o l = total (a o)) (hQ : ∀ o, ∑ l ∈ range 128, Q o l = total fun b j => a o b j * a o b j)
    (hg : ∀ o : Fin C, g (ix2 o 0) = ((γ o.val : ℝ) : EReal)) (he : ∀ o : Fin C, e (ix2 o 0) = ((ε o.val : ℝ) : EReal)) :
    Is (normed y (means s hr hc) (means q hr hc) g e hb) fun o p => max (norm (γ o) (ε o) (a o) (A o p)) 0 := by
  intro o p
  show max (broadcastTo _ g hb (ix2 o p) * (y (ix2 o p) - broadcastTo _ (means s hr hc) hb (ix2 o p)) * broadcastTo _ (roots (means s hr hc) (means q hr hc)) hb (ix2 o p)
    + broadcastTo _ e hb (ix2 o p)) (Ideal.ofBits .f32 0x00000000#32) = _
  rw [spread_apply, spread_apply, spread_apply, spread_apply, hy o p, hg o, he o]
  show max (_ * (_ - means s hr hc (ix2 o 0)) * Ideal.rsqrt (means q hr hc (ix2 o 0) - means s hr hc (ix2 o 0) * means s hr hc (ix2 o 0) + Ideal.ofBits .f32 0x3727C5AC#32) + _) _ = _
  rw [means_apply s hr hc hs o, means_apply q hr hc hq o, Ideal.ofBits_zero_f32,
    by_sums (a o.val) (γ o.val) (ε o.val) (A o.val p.val) (congrArg _ (hS o.val)) (congrArg _ (hQ o.val)), ← EReal.coe_zero, max_real]

/-- A linear layer as a product of matrices. -/
theorem is_linear {M K : ℕ} (d : DotDims ⟨2, ![M, K]⟩ ⟨2, ![K, N]⟩ ⟨2, ![M, N]⟩) (hd : d = DotDims.plain M K N) {w : FVec Ideal ⟨2, ![M, K]⟩ .f32} {x : FVec Ideal ⟨2, ![K, N]⟩ .f32}
    {b : FVec Ideal ⟨2, ![M, 1]⟩ .f32} {hw : (⟨2, ![M, K]⟩ : Shape).ShapeCasts ⟨2, ![M, K]⟩} {h1 : (⟨2, ![M, 1]⟩ : Shape).ShapeCasts ⟨2, ![M, 1]⟩}
    {hb : (⟨2, ![M, 1]⟩ : Shape).Broadcasts ⟨2, ![M, N]⟩} {W X : ℕ → ℕ → ℝ} {β : ℕ → ℝ}
    (hW : ∀ (o : Fin M) (k : Fin K), w (ix2 o k) = ((W k.val o.val : ℝ) : EReal)) (hX : Is x X) (hβ : ∀ o : Fin M, b (ix2 o 0) = ((β o.val : ℝ) : EReal)) :
    Is (addf (matmul d none (shapeCast _ w hw) x (constant ⟨2, ![M, N]⟩ .f32 0x00000000#32)) (broadcastTo ⟨2, ![M, N]⟩ (shapeCast _ b h1) hb))
      fun o p => ∑ k ∈ range K, X k p * W k o + β o := by
  intro o p
  subst hd
  show FloatOps.matmul (DotDims.plain M K N) none (shapeCast _ w hw) x (constant ⟨2, ![M, N]⟩ .f32 0x00000000#32) (ix2 o p) + broadcastTo _ _ hb (ix2 o p) = _
  rw [Ideal.matmul_plain_apply, spread_apply, shapeCast_self, shapeCast_self, hβ o]
  have h0 : (constant (F := Ideal) ⟨2, ![M, N]⟩ .f32 0x00000000#32) (ix2 o p) = 0 := Ideal.ofBits_zero_f32
  rw [h0, zero_add, EReal.coe_add, ← real_sum]
  refine congrArg (· + _) (Finset.sum_congr rfl fun k _ => ?_)
  rw [hW o k, hX k p, ← EReal.coe_mul, mul_comm]

end Norm

end Cert.Proof.Mlp

end
-- ==== Proof.MlpValue.lean ====
/-
  The tokens the kernel computes, over the extended reals and at real inputs: the tokens of the layers over the real numbers.
-/
module

public import proofs.«01_k».proof.Proof.MlpKernel
public import proofs.«01_k».proof.Proof.MlpLaunch

@[expose] public section

set_option maxRecDepth 65536

noncomputable section

namespace Cert.Proof.Mlp

open Cert.MlpIdeal Cert.MlpIdeal.Gen
open Finset
open Idealize.ShloMosaic hiding ix1 ix2 ix3 ix4
open Idealize.ShloMosaic.ValueIdx

/-! ## The first layer -/

/-- Two clouds of a pair side by side. -/
theorem joined (x : Vec Ideal S2x3x4096 .f32) (d : Fin 3) (p : Fin 8192) :
    concatenate S3x8192 1 [⟨S3x4096, shapeCast S3x4096 (half x 0) shapeCasts_S1x3x4096_S3x4096⟩, ⟨S3x4096, shapeCast S3x4096 (half x 1) shapeCasts_S1x3x4096_S3x4096⟩]
      concatenates_S3x4096_S3x4096_S3x8192_d1 (ix2 d p)
      = x (ix3 ⟨p.val / 4096, by have := p.isLt; omega⟩ d ⟨p.val % 4096, Nat.mod_lt _ (by decide)⟩) := by
  have hp := p.isLt
  by_cases h : p.val < 4096
  · refine (concatenate_pair_apply_left (t := S3x8192) (s₁ := S3x4096) (s₂ := S3x4096) 1 _ _ concatenates_S3x4096_S3x4096_S3x8192_d1 (ix2 d p) rfl (ix2 d ⟨p.val, h⟩)
      (by intro b; fin_cases b <;> rfl)).trans ?_
    refine (shapeCast_apply _ _ _ (ix3 (0 : Fin 1) d ⟨p.val, h⟩) (by
      rw [Shape.rowMajor_val_three, Shape.rowMajor_val_two]; show (0 * 3 + d.val) * 4096 + p.val = d.val * 4096 + p.val; omega)).trans ?_
    refine congrArg x (funext fun a => Fin.ext ?_)
    fin_cases a
    · show 0 = p.val / 4096; omega
    · rfl
    · show p.val = p.val % 4096; omega
  · refine (concatenate_pair_apply_right (t := S3x8192) (s₁ := S3x4096) (s₂ := S3x4096) 1 _ _ concatenates_S3x4096_S3x4096_S3x8192_d1 (ix2 d p) rfl rfl (ix2 d ⟨p.val - 4096, by omega⟩)
      (by
        intro b hb; fin_cases b
        · rfl
        · exact absurd rfl hb) (by show p.val - 4096 + 4096 = p.val; omega)).trans ?_
    refine (shapeCast_apply _ _ _ (ix3 (0 : Fin 1) d ⟨p.val - 4096, by omega⟩) (by
      rw [Shape.rowMajor_val_three, Shape.rowMajor_val_two]; show (0 * 3 + d.val) * 4096 + (p.val - 4096) = d.val * 4096 + (p.val - 4096); omega)).trans ?_
    refine congrArg x (funext fun a => Fin.ext ?_)
    fin_cases a
    · show 1 = p.val / 4096; omega
    · rfl
    · show p.val - 4096 = p.val % 4096; omega

theorem is_first {x : Vec Ideal S2x3x4096 .f32} {w : Vec Ideal S64x3 .f32} {b : Vec Ideal S64x1 .f32} (X : ℕ → ℕ → ℕ → ℝ) (W : ℕ → ℕ → ℝ) (β : ℕ → ℝ)
    (hx : ∀ s d j, x (ix3 s d j) = ((X s.val d.val j.val : ℝ) : EReal)) (hw : ∀ o d, w (ix2 o d) = ((W d.val o.val : ℝ) : EReal)) (hb : ∀ o, b (ix2 o 0) = ((β o.val : ℝ) : EReal)) :
    Is (first x w b) fun o p => lin 3 W β (fun d s j => X s d j) o (p / 4096) (p % 4096) := by
  intro o p
  have col (k : ℕ) (hk : k < 3) (hs : S64x3.Slices ![0, k] S64x1) :
      broadcastTo S64x8192 (extractStridedSlice S64x1 ![0, k] (shapeCast S64x3 w shapeCasts_S64x3_S64x3) hs) broadcasts_S64x1_S64x8192 (ix2 o p) = ((W k o.val : ℝ) : EReal) := by
    rw [spread_apply, shapeCast_self]
    exact (extractStridedSlice_apply _ _ _ _ (ix2 o ⟨k, hk⟩) (by
      intro a; fin_cases a
      · show o.val = 0 + o.val; omega
      · rfl)).trans (hw o ⟨k, hk⟩)
  have row (k : ℕ) (hk : k < 3) (hs : S3x8192.Slices ![k, 0] S1x8192) :
      broadcastTo S64x8192 (extractStridedSlice S1x8192 ![k, 0] (concatenate S3x8192 1 [⟨S3x4096, shapeCast S3x4096 (half x 0) shapeCasts_S1x3x4096_S3x4096⟩,
        ⟨S3x4096, shapeCast S3x4096 (half x 1) shapeCasts_S1x3x4096_S3x4096⟩] concatenates_S3x4096_S3x4096_S3x8192_d1) hs) broadcasts_S1x8192_S64x8192 (ix2 o p)
        = ((X (p.val / 4096) k (p.val % 4096) : ℝ) : EReal) := by
    refine (broadcastTo_apply _ _ _ (ix2 (0 : Fin 1) p) (by intro a; fin_cases a <;> rfl)).trans ?_
    refine (extractStridedSlice_apply _ _ _ _ (ix2 ⟨k, hk⟩ p) (by
      intro a; fin_cases a
      · rfl
      · show p.val = 0 + p.val; omega)).trans ?_
    exact (joined x ⟨k, hk⟩ p).trans (hx _ _ _)
  have hbias : broadcastTo S64x8192 (shapeCast S64x1 b shapeCasts_S64x1_S64x1) broadcasts_S64x1_S64x8192 (ix2 o p) = ((β o.val : ℝ) : EReal) := by
    rw [spread_apply, shapeCast_self]; exact hb o
  show broadcastTo S64x8192 (shapeCast S64x1 b shapeCasts_S64x1_S64x1) broadcasts_S64x1_S64x8192 (ix2 o p) + _ * _ + _ * _ + _ * _ = _
  rw [hbias, col 0 (by decide), row 0 (by decide), col 1 (by decide), row 1 (by decide), col 2 (by decide), row 2 (by decide)]
  rw [← EReal.coe_mul, ← EReal.coe_mul, ← EReal.coe_mul, ← EReal.coe_add, ← EReal.coe_add, ← EReal.coe_add]
  refine congrArg _ ?_
  unfold lin
  simp only [sum_range_succ, range_zero, sum_empty]
  ring

/-! ## What the launch reads -/

variable (m : (ℓ : Loc nD τ sig) → Buf (Elt Ideal) ℓ) (c : Dev nD)

/-- The windows, that of the last shifts aside, hold the arguments of the network. -/
structure Reads (N : Net) : Prop where
  x : ∀ n < 16, ∀ s d j, pair m c n (ix3 s d j) = ((N.x (n % 8 * 2 + s.val) d.val j.val : ℝ) : EReal)
  w1 : ∀ o d, w1 m c (ix2 o d) = ((N.w1 d.val o.val : ℝ) : EReal)
  b1 : ∀ o, b1 m c (ix2 o 0) = ((N.b1 o.val : ℝ) : EReal)
  g1 : ∀ o, g1 m c (ix2 o 0) = ((N.g1 o.val : ℝ) : EReal)
  e1 : ∀ o, e1 m c (ix2 o 0) = ((N.e1 o.val : ℝ) : EReal)
  w2 : ∀ o d, w2 m c (ix2 o d) = ((N.w2 d.val o.val : ℝ) : EReal)
  b2 : ∀ o, b2 m c (ix2 o 0) = ((N.b2 o.val : ℝ) : EReal)
  g2 : ∀ o, g2 m c (ix2 o 0) = ((N.g2 o.val : ℝ) : EReal)
  e2 : ∀ o, e2 m c (ix2 o 0) = ((N.e2 o.val : ℝ) : EReal)
  w3 : ∀ o d, w3 m c (ix2 o d) = ((N.w3 d.val o.val : ℝ) : EReal)
  b3 : ∀ o, b3 m c (ix2 o 0) = ((N.b3 o.val : ℝ) : EReal)
  g3 : ∀ o, g3 m c (ix2 o 0) = ((N.g3 o.val : ℝ) : EReal)

variable {m c} {N : Net} (R : Reads m c N)

theorem is_running {C : ℕ} {p : ℕ → FVec Ideal ⟨2, ![C, 128]⟩ .f32} {z : FVec Ideal ⟨2, ![C, 128]⟩ .f32} {P : ℕ → ℕ → ℕ → ℝ} (hz : Is z fun _ _ => 0) (n : ℕ)
    (hp : ∀ i < n, Is (p i) (P i)) : Is (running p z n) fun o l => ∑ i ∈ range n, P i o l := by
  induction n with
  | zero => intro o l; exact (hz o l).trans (by simp)
  | succ n ih =>
    intro o l
    refine (is_more (hp n (Nat.lt_succ_self n)) (ih fun i hi => hp i (Nat.lt_succ_of_lt hi)) o l).trans (congrArg _ (sum_range_succ _ _).symm)

theorem is_zero {C : ℕ} {h : (⟨2, ![C, 128]⟩ : Shape).ShapeCasts ⟨2, ![C, 128]⟩} :
    Is (shapeCast ⟨2, ![C, 128]⟩ (broadcast ⟨2, ![C, 128]⟩ (Scalar.ofBits (F := Ideal) .f32 0x00000000#32)) h) fun _ _ => 0 := by
  intro o l
  rw [shapeCast_self]
  exact Ideal.ofBits_zero_f32.trans EReal.coe_zero.symm

include R

theorem is_y1 (i : ℕ) (hi : i < 16) : Is (y1 m c i) fun o p => N.a1 o (i % 8 * 2 + p / 4096) (p % 4096) :=
  is_first (fun s d j => N.x (i % 8 * 2 + s) d j) N.w1 N.b1 (R.x i hi) R.w1 R.b1

theorem is_sum1 : Is (sum1 m c 8) fun o l => ∑ i ∈ range 8, ∑ k ∈ range 64, N.a1 o (i % 8 * 2 + (k * 128 + l) / 4096) ((k * 128 + l) % 4096) :=
  is_running is_zero 8 fun i hi => is_adds (is_y1 R i (by omega)) 64 (by decide)

theorem is_sq1 : Is (sq1 m c 8) fun o l => ∑ i ∈ range 8, ∑ k ∈ range 64, N.a1 o (i % 8 * 2 + (k * 128 + l) / 4096) ((k * 128 + l) % 4096) * N.a1 o (i % 8 * 2 + (k * 128 + l) / 4096) ((k * 128 + l) % 4096) :=
  is_running is_zero 8 fun i hi => is_squares (is_y1 R i (by omega)) 64 (by decide)

omit R in
theorem pairs_sum (a : ℕ → ℕ → ℝ) : ∑ l ∈ range 128, ∑ i ∈ range 8, ∑ k ∈ range 64, a (i % 8 * 2 + (k * 128 + l) / 4096) ((k * 128 + l) % 4096) = total a :=
  total_pairs a (fun i p => a (i % 8 * 2 + p / 4096) (p % 4096)) fun i hi s hs j hj => by
    show a (i % 8 * 2 + (s * 4096 + j) / 4096) ((s * 4096 + j) % 4096) = _
    rw [show i % 8 = i by omega, show (s * 4096 + j) / 4096 = s by omega, show (s * 4096 + j) % 4096 = j by omega]

theorem is_y2 (i : ℕ) (hi : i < 8) : Is (y2 m c i) fun o p => N.a2 o (i * 2 + p / 4096) (p % 4096) := by
  have hx := is_normed (hr := reduces_S64x128_S64) (hc := shapeCasts_S64_S64x1) (hb := broadcasts_S64x1_S64x8192) (a := N.a1) (γ := N.g1) (ε := N.e1)
    (g := shapeCast S64x1 (g1 m c) shapeCasts_S64x1_S64x1) (e := shapeCast S64x1 (e1 m c) shapeCasts_S64x1_S64x1)
    (is_y1 R (8 + i) (by omega)) (is_sum1 R) (is_sq1 R) (fun o => pairs_sum (N.a1 o)) (fun o => pairs_sum fun b j => N.a1 o b j * N.a1 o b j)
    (fun o => by rw [shapeCast_self]; exact R.g1 o) (fun o => by rw [shapeCast_self]; exact R.e1 o)
  have hy := is_linear dot_S128x64_S64x8192_S128x8192_1_0_0_1_n_n rfl (hw := shapeCasts_S128x64_S128x64) (h1 := shapeCasts_S128x1_S128x1) (hb := broadcasts_S128x1_S128x8192)
    R.w2 hx R.b2
  intro o p
  refine (hy o p).trans ?_
  rw [show (8 + i) % 8 = i by omega]
  rfl

theorem is_sum2 : Is (sum2 m c 8) fun o l => ∑ i ∈ range 8, ∑ k ∈ range 64, N.a2 o (i * 2 + (k * 128 + l) / 4096) ((k * 128 + l) % 4096) :=
  is_running is_zero 8 fun i hi => is_adds (is_y2 R i hi) 64 (by decide)

theorem is_sq2 : Is (sq2 m c 8) fun o l => ∑ i ∈ range 8, ∑ k ∈ range 64, N.a2 o (i * 2 + (k * 128 + l) / 4096) ((k * 128 + l) % 4096) * N.a2 o (i * 2 + (k * 128 + l) / 4096) ((k * 128 + l) % 4096) :=
  is_running is_zero 8 fun i hi => is_squares (is_y2 R i hi) 64 (by decide)

omit R in
theorem pairs_sum' (a : ℕ → ℕ → ℝ) : ∑ l ∈ range 128, ∑ i ∈ range 8, ∑ k ∈ range 64, a (i * 2 + (k * 128 + l) / 4096) ((k * 128 + l) % 4096) = total a :=
  total_pairs a (fun i p => a (i * 2 + p / 4096) (p % 4096)) fun i hi s hs j hj => by
    show a (i * 2 + (s * 4096 + j) / 4096) ((s * 4096 + j) % 4096) = _
    rw [show (s * 4096 + j) / 4096 = s by omega, show (s * 4096 + j) % 4096 = j by omega]

/-- The second layer of a cloud, as the third reads it. -/
theorem is_kept (b : ℕ) (hb : b < 16) : Is (shapeCast S128x4096 (kept m c b) shapeCasts_S1x128x4096_S128x4096) fun o j => N.a2 o b j := by
  intro o j
  refine (shapeCast_apply _ _ _ (ix3 (0 : Fin 1) o j) (by
    rw [Shape.rowMajor_val_three, Shape.rowMajor_val_two]; show (0 * 128 + o.val) * 4096 + j.val = o.val * 4096 + j.val; omega)).trans ?_
  have hj := j.isLt
  have up (x : FVec Ideal S128x4096 .f32) : shapeCast S1x128x4096 (shapeCast S1x128x4096 x shapeCasts_S128x4096_S1x128x4096) shapeCasts_S1x128x4096_S1x128x4096 (ix3 (0 : Fin 1) o j) = x (ix2 o j) := by
    rw [shapeCast_self]
    exact shapeCast_apply _ _ _ (ix2 o j) (by
      rw [Shape.rowMajor_val_three, Shape.rowMajor_val_two]; show o.val * 4096 + j.val = (0 * 128 + o.val) * 4096 + j.val; omega)
  unfold kept
  by_cases h : b % 2 = 0
  · rw [if_pos h]
    refine (up _).trans ((extractStridedSlice_apply _ _ _ _ (ix2 o ⟨j.val, by omega⟩) (by
      intro a; fin_cases a
      · show o.val = 0 + o.val; omega
      · show j.val = 0 + j.val; omega)).trans ((is_y2 R (b / 2) (by omega) o ⟨j.val, by omega⟩).trans ?_))
    show ((N.a2 o.val (b / 2 * 2 + j.val / 4096) (j.val % 4096) : ℝ) : EReal) = _
    rw [show b / 2 * 2 + j.val / 4096 = b by omega, show j.val % 4096 = j.val by omega]
  · rw [if_neg h]
    refine (up _).trans ((extractStridedSlice_apply _ _ _ _ (ix2 o ⟨4096 + j.val, by omega⟩) (by
      intro a; fin_cases a
      · show o.val = 0 + o.val; omega
      · rfl)).trans ((is_y2 R (b / 2) (by omega) o ⟨4096 + j.val, by omega⟩).trans ?_))
    show ((N.a2 o.val (b / 2 * 2 + (4096 + j.val) / 4096) ((4096 + j.val) % 4096) : ℝ) : EReal) = _
    rw [show b / 2 * 2 + (4096 + j.val) / 4096 = b by omega, show (4096 + j.val) % 4096 = j.val by omega]

theorem is_y3 (b : ℕ) (hb : b < 16) : Is (y3 m c b) fun o j => N.a3 o b j := by
  have hx := is_normed (hr := reduces_S128x128_S128) (hc := shapeCasts_S128_S128x1) (hb := broadcasts_S128x1_S128x4096) (a := N.a2) (γ := N.g2) (ε := N.e2)
    (g := shapeCast S128x1 (g2 m c) shapeCasts_S128x1_S128x1) (e := shapeCast S128x1 (e2 m c) shapeCasts_S128x1_S128x1)
    (is_kept R b hb) (is_sum2 R) (is_sq2 R) (fun o => pairs_sum' (N.a2 o)) (fun o => pairs_sum' fun b j => N.a2 o b j * N.a2 o b j)
    (fun o => by rw [shapeCast_self]; exact R.g2 o) (fun o => by rw [shapeCast_self]; exact R.e2 o)
  exact is_linear dot_S384x128_S128x4096_S384x4096_1_0_0_1_n_n rfl (hw := shapeCasts_S384x128_S384x128) (h1 := shapeCasts_S384x1_S384x1) (hb := broadcasts_S384x1_S384x4096)
    R.w3 hx R.b3

theorem is_sum3 : Is (sum3 m c 16) fun o l => ∑ b ∈ range 16, ∑ k ∈ range 32, N.a3 o b (k * 128 + l) :=
  is_running is_zero 16 fun b hb => is_adds (is_y3 R b hb) 32 (by decide)

theorem is_sq3 : Is (sq3 m c 16) fun o l => ∑ b ∈ range 16, ∑ k ∈ range 32, N.a3 o b (k * 128 + l) * N.a3 o b (k * 128 + l) :=
  is_running is_zero 16 fun b hb => is_squares (is_y3 R b hb) 32 (by decide)

/-- The maximum over a patch's neighbours, before the last normalisation. -/
theorem is_top (b : ℕ) (hb : b < 16) : Is (shapeCast S384x128 (top m c b) shapeCasts_S1x384x128_S384x128) fun o r => most (fun k => N.a3 o b (k * 128 + r)) 31 := by
  intro o r
  refine (shapeCast_apply _ _ _ (ix3 (0 : Fin 1) o r) (by
    rw [Shape.rowMajor_val_three, Shape.rowMajor_val_two]; show (0 * 384 + o.val) * 128 + r.val = o.val * 128 + r.val; omega)).trans ?_
  unfold top lifted
  rw [shapeCast_self]
  exact (shapeCast_apply _ _ _ (ix2 o r) (by
    rw [Shape.rowMajor_val_three, Shape.rowMajor_val_two]; show o.val * 128 + r.val = (0 * 384 + o.val) * 128 + r.val; omega)).trans
    (is_tops (is_y3 R b hb) (by decide) 31 (by decide) o r)

/-- The tokens. -/
theorem tokens_val (hg : ∀ o, 0 ≤ N.g3 o) (b : Fin 16) (r : Fin 128) (o : Fin 384) : tokens m c (ix3 b r o) = N.token (e3 m c (ix2 o 0)) b.val r.val o.val := by
  have hS : ∑ l ∈ range 128, ∑ b ∈ range 16, ∑ k ∈ range 32, N.a3 o.val b (k * 128 + l) = total (N.a3 o.val) := total_clouds _
  have hQ : ∑ l ∈ range 128, ∑ b ∈ range 16, ∑ k ∈ range 32, N.a3 o.val b (k * 128 + l) * N.a3 o.val b (k * 128 + l) = total fun b j => N.a3 o.val b j * N.a3 o.val b j :=
    total_clouds fun b j => N.a3 o.val b j * N.a3 o.val b j
  have hμ : k0_pay252 (sum3 m c 16) (ix2 o 0) = ((mean (N.a3 o.val) : ℝ) : EReal) :=
    (means_apply _ reduces_S384x128_S384 shapeCasts_S384_S384x1 (is_sum3 R) o).trans (by_sums_mean _ (congrArg _ hS))
  have hscale : k0_pay253 (sum3 m c 16) (sq3 m c 16) (g3 m c) (ix2 o 0) = ((N.g3 o.val * (Real.sqrt (var (N.a3 o.val) + small))⁻¹ : ℝ) : EReal) := by
    show shapeCast S384x1 (g3 m c) shapeCasts_S384x1_S384x1 (ix2 o 0) * roots (means (sum3 m c 16) reduces_S384x128_S384 shapeCasts_S384_S384x1)
      (means (sq3 m c 16) reduces_S384x128_S384 shapeCasts_S384_S384x1) (ix2 o 0) = _
    rw [shapeCast_self, R.g3 o]
    show _ * Ideal.rsqrt (means (sq3 m c 16) reduces_S384x128_S384 shapeCasts_S384_S384x1 (ix2 o 0) - means (sum3 m c 16) reduces_S384x128_S384 shapeCasts_S384_S384x1 (ix2 o 0)
      * means (sum3 m c 16) reduces_S384x128_S384 shapeCasts_S384_S384x1 (ix2 o 0) + Ideal.ofBits .f32 0x3727C5AC#32) = _
    rw [means_apply _ _ _ (is_sum3 R) o, means_apply _ _ _ (is_sq3 R) o, by_sums_root (N.a3 o.val) (congrArg _ hS) (congrArg _ hQ), ← EReal.coe_mul]
  have hshift : k0_pay254 (sum3 m c 16) (sq3 m c 16) (g3 m c) (e3 m c) (ix2 o 0)
      = e3 m c (ix2 o 0) - ((mean (N.a3 o.val) * (N.g3 o.val * (Real.sqrt (var (N.a3 o.val) + small))⁻¹) : ℝ) : EReal) := by
    show shapeCast S384x1 (e3 m c) shapeCasts_S384x1_S384x1 (ix2 o 0) - k0_pay252 (sum3 m c 16) (ix2 o 0) * k0_pay253 (sum3 m c 16) (sq3 m c 16) (g3 m c) (ix2 o 0) = _
    rw [shapeCast_self, hμ, hscale, ← EReal.coe_mul]
  have hrow : rowOf (F := Ideal) (A := 16) (B := 384) (C := 128) (e := .f32) (allTops m c) b.val b.isLt = top m c b.val := by
    funext j
    refine congrArg (top m c b.val) ?_
    funext a; fin_cases a
    · exact (Fin.ext (Nat.lt_one_iff.mp (j 0).isLt)).symm
    · rfl
    · rfl
  show result (sum3 m c 16) (sq3 m c 16) (g3 m c) (e3 m c) (rowOf (allTops m c) b.val b.isLt) (ix3 0 r o) = _
  rw [hrow]
  show shapeCast S1x128x384 (transpose S128x384 [1, 0] (maximumf (addf (mulf (shapeCast S384x128 (top m c b.val) shapeCasts_S1x384x128_S384x128)
    (broadcastTo S384x128 (k0_pay253 (sum3 m c 16) (sq3 m c 16) (g3 m c)) broadcasts_S384x1_S384x128))
    (broadcastTo S384x128 (k0_pay254 (sum3 m c 16) (sq3 m c 16) (g3 m c) (e3 m c)) broadcasts_S384x1_S384x128)) (broadcast S384x128 (Scalar.ofBits .f32 0x00000000#32)))
    transposes_S384x128_p1_0_S128x384) shapeCasts_S128x384_S1x128x384 (ix3 0 r o) = _
  refine (shapeCast_apply (s := S128x384) (t := S1x128x384) _ shapeCasts_S128x384_S1x128x384 (ix3 0 r o) (ix2 r o) (by
    rw [Shape.rowMajor_val_three, Shape.rowMajor_val_two]; show r.val * 384 + o.val = (0 * 128 + r.val) * 384 + o.val; omega)).trans ?_
  refine (transpose_apply _ _ _ _ (ix2 o r) (by intro a; fin_cases a <;> rfl)).trans ?_
  show max (shapeCast S384x128 (top m c b.val) shapeCasts_S1x384x128_S384x128 (ix2 o r) * broadcastTo S384x128 (k0_pay253 (sum3 m c 16) (sq3 m c 16) (g3 m c)) broadcasts_S384x1_S384x128 (ix2 o r)
    + broadcastTo S384x128 (k0_pay254 (sum3 m c 16) (sq3 m c 16) (g3 m c) (e3 m c)) broadcasts_S384x1_S384x128 (ix2 o r)) (Ideal.ofBits .f32 0x00000000#32) = _
  rw [spread_apply, spread_apply, is_top R b.val b.isLt o r, hscale, hshift, Ideal.ofBits_zero_f32, ← EReal.coe_mul]
  unfold Net.token
  refine congrArg (max · 0) ?_
  rw [sub_eq_add_neg, add_left_comm, ← EReal.coe_neg, ← EReal.coe_add, add_comm]
  refine congrArg (fun q : ℝ => (q : EReal) + e3 m c (ix2 o 0)) (Eq.trans ?_ (most_norm (hg o.val) 0 (N.a3 o.val) b.val r.val 31))
  unfold norm
  rw [div_eq_mul_inv]; ring

end Cert.Proof.Mlp

end
-- ==== Proof.MlpGiven.lean ====
/-
  The argument arrays of the layers, the real numbers they hold when they hold real numbers, and what the precondition gives.
-/
module

public import proofs.«01_k».proof.Pre_tame
public import proofs.«01_k».proof.Proof.MlpReal
public import proofs.«01_k».proof.Proof.FpsTop

@[expose] public section

set_option maxRecDepth 65536

noncomputable section

namespace Cert.Proof.Mlp

open Idealize.ShloMosaic
open Idealize.ShloMosaic.ValueIdx
open Cert.Proof.First

/-- The thirteen argument arrays. -/
structure Arrays where
  x : FVec Ideal ⟨3, ![16, 3, 4096]⟩ .f32
  w1 : FVec Ideal ⟨2, ![3, 64]⟩ .f32
  b1 : FVec Ideal ⟨1, ![64]⟩ .f32
  g1 : FVec Ideal ⟨1, ![64]⟩ .f32
  e1 : FVec Ideal ⟨1, ![64]⟩ .f32
  w2 : FVec Ideal ⟨2, ![64, 128]⟩ .f32
  b2 : FVec Ideal ⟨1, ![128]⟩ .f32
  g2 : FVec Ideal ⟨1, ![128]⟩ .f32
  e2 : FVec Ideal ⟨1, ![128]⟩ .f32
  w3 : FVec Ideal ⟨2, ![128, 384]⟩ .f32
  b3 : FVec Ideal ⟨1, ![384]⟩ .f32
  g3 : FVec Ideal ⟨1, ![384]⟩ .f32
  e3 : FVec Ideal ⟨1, ![384]⟩ .f32

/-- The arrays, the last shifts aside, hold the real numbers of `N`. -/
structure Given (A : Arrays) (N : Net) : Prop where
  x : ∀ b d j, A.x (ix3 b d j) = ((N.x b.val d.val j.val : ℝ) : EReal)
  w1 : ∀ d o, A.w1 (ix2 d o) = ((N.w1 d.val o.val : ℝ) : EReal)
  b1 : ∀ o, A.b1 (ix1 o) = ((N.b1 o.val : ℝ) : EReal)
  g1 : ∀ o, A.g1 (ix1 o) = ((N.g1 o.val : ℝ) : EReal)
  e1 : ∀ o, A.e1 (ix1 o) = ((N.e1 o.val : ℝ) : EReal)
  w2 : ∀ d o, A.w2 (ix2 d o) = ((N.w2 d.val o.val : ℝ) : EReal)
  b2 : ∀ o, A.b2 (ix1 o) = ((N.b2 o.val : ℝ) : EReal)
  g2 : ∀ o, A.g2 (ix1 o) = ((N.g2 o.val : ℝ) : EReal)
  e2 : ∀ o, A.e2 (ix1 o) = ((N.e2 o.val : ℝ) : EReal)
  w3 : ∀ d o, A.w3 (ix2 d o) = ((N.w3 d.val o.val : ℝ) : EReal)
  b3 : ∀ o, A.b3 (ix1 o) = ((N.b3 o.val : ℝ) : EReal)
  g3 : ∀ o, A.g3 (ix1 o) = ((N.g3 o.val : ℝ) : EReal)

/-- An array's entries by natural numbers, as real numbers. -/
def line {C : ℕ} [NeZero C] (v : FVec Ideal ⟨1, ![C]⟩ .f32) (o : ℕ) : ℝ := EReal.toReal (v (ix1 (Fin.ofNat C o)))
def table {K C : ℕ} [NeZero K] [NeZero C] (v : FVec Ideal ⟨2, ![K, C]⟩ .f32) (d o : ℕ) : ℝ := EReal.toReal (v (ix2 (Fin.ofNat K d) (Fin.ofNat C o)))
def box (v : FVec Ideal ⟨3, ![16, 3, 4096]⟩ .f32) (b d j : ℕ) : ℝ := EReal.toReal (v (ix3 (Fin.ofNat 16 b) (Fin.ofNat 3 d) (Fin.ofNat 4096 j)))

theorem ofNat_self {n : ℕ} [NeZero n] (i : Fin n) : Fin.ofNat n i.val = i := Fin.ext (Nat.mod_eq_of_lt i.isLt)

theorem toReal_self {v : EReal} (h : ∃ q : ℝ, v = q) : v = ((EReal.toReal v : ℝ) : EReal) := by
  obtain ⟨q, rfl⟩ := h
  rw [EReal.toReal_coe]

theorem line_eq {C : ℕ} [NeZero C] (v : FVec Ideal ⟨1, ![C]⟩ .f32) (h : ∀ i, ∃ q : ℝ, (v i : EReal) = q) (o : Fin C) : v (ix1 o) = ((line v o.val : ℝ) : EReal) := by
  unfold line; rw [ofNat_self]; exact toReal_self (h _)

theorem table_eq {K C : ℕ} [NeZero K] [NeZero C] (v : FVec Ideal ⟨2, ![K, C]⟩ .f32) (h : ∀ i, ∃ q : ℝ, (v i : EReal) = q) (d : Fin K) (o : Fin C) :
    v (ix2 d o) = ((table v d.val o.val : ℝ) : EReal) := by
  unfold table; rw [ofNat_self, ofNat_self]; exact toReal_self (h _)

theorem box_eq (v : FVec Ideal ⟨3, ![16, 3, 4096]⟩ .f32) (h : ∀ i, ∃ q : ℝ, (v i : EReal) = q) (b : Fin 16) (d : Fin 3) (j : Fin 4096) :
    v (ix3 b d j) = ((box v b.val d.val j.val : ℝ) : EReal) := by
  unfold box; rw [ofNat_self, ofNat_self, ofNat_self]; exact toReal_self (h _)

/-- The real numbers of the arrays. -/
def Arrays.net (A : Arrays) : Net :=
  ⟨box A.x, table A.w1, line A.b1, line A.g1, line A.e1, table A.w2, line A.b2, line A.g2, line A.e2, table A.w3, line A.b3, line A.g3⟩

theorem both {a b : BitVec 1} : IntOp.andi a b = 1#1 → a = 1#1 ∧ b = 1#1 := by
  revert a b; decide

section Pre
variable [hf : Cert.Pre_tame.Facts]

open Cert.Pre_tame

/-- Every entry is a real number when all pass the test of finiteness. -/
theorem real_of_all {s : Shape} {axes : List (Fin s.rank)} (x : FVec Ideal s .f32) (hu : 0 < S_.numel) (hb : S_.BroadcastsInDim s ![]) (hr : s.ReducesTo axes S_)
    (e : Host.reduce IntOp.andi (cmpf .olt (Host.absf x) (broadcastInDim s ![] hb (constant S_ .f32 0x7F800000#32))) (constantI S_ 1 1#1) hr hu ix0 = 1#1) (i : s.Idx) :
    ∃ q : ℝ, (x i : EReal) = q := by
  haveI : Subsingleton S_.Idx := ⟨fun a b => funext fun q => q.elim0⟩
  have e' := Host.reduce_andi_all _ _ _ _ _ e i
  refine Cert.Proof.Fps.real_of_finite (v := x i) ?_
  have e2 : max (x i : EReal) (-(x i : EReal)) < Ideal.ofBits .f32 0x7F800000#32 := (ofBool_iff _).mp e'
  exact e2.trans_eq bits_top

/-- The precondition: real numbers in all arrays but the last shifts, and the last scales no less than zero. -/
theorem given_of_tame (A : Arrays) (h : fn A.x A.w1 A.b1 A.g1 A.e1 A.w2 A.b2 A.g2 A.e2 A.w3 A.b3 A.g3 A.e3 = fun _ => 1#1) :
    Given A A.net ∧ ∀ o : ℕ, 0 ≤ A.net.g3 o := by
  have t := congrFun h ix0
  unfold fn fn_part1 fn_part2 fn_part3 at t
  obtain ⟨t, r⟩ := both t
  have r11 := real_of_all A.g3 _ _ _ r
  clear r
  obtain ⟨t, r⟩ := both t
  have r10 := real_of_all A.b3 _ _ _ r
  clear r
  obtain ⟨t, r⟩ := both t
  have r9 := real_of_all A.w3 _ _ _ r
  clear r
  obtain ⟨t, r⟩ := both t
  have r8 := real_of_all A.e2 _ _ _ r
  clear r
  obtain ⟨t, r⟩ := both t
  have r7 := real_of_all A.g2 _ _ _ r
  clear r
  obtain ⟨t, r⟩ := both t
  have r6 := real_of_all A.b2 _ _ _ r
  clear r
  obtain ⟨t, r⟩ := both t
  have r5 := real_of_all A.w2 _ _ _ r
  clear r
  obtain ⟨t, r⟩ := both t
  have r4 := real_of_all A.e1 _ _ _ r
  clear r
  obtain ⟨t, r⟩ := both t
  have r3 := real_of_all A.g1 _ _ _ r
  clear r
  obtain ⟨t, r⟩ := both t
  have r2 := real_of_all A.b1 _ _ _ r
  clear r
  obtain ⟨t, r⟩ := both t
  have r1 := real_of_all A.w1 _ _ _ r
  clear r
  obtain ⟨t, r⟩ := both t
  have r0 := real_of_all A.x _ _ _ r
  clear r
  have G : Given A A.net := ⟨box_eq _ r0, table_eq _ r1, line_eq _ r2, line_eq _ r3, line_eq _ r4, table_eq _ r5, line_eq _ r6, line_eq _ r7, line_eq _ r8, table_eq _ r9, line_eq _ r10, line_eq _ r11⟩
  refine ⟨G, fun n => ?_⟩
  have en : A.net.g3 n = A.net.g3 (Fin.ofNat 384 n).val := congrArg (fun i => EReal.toReal (A.g3 (ix1 i))) (ofNat_self (Fin.ofNat 384 n)).symm
  rw [en]
  generalize Fin.ofNat 384 n = o
  haveI : Subsingleton S_.Idx := ⟨fun a b => funext fun q => q.elim0⟩
  have e' := Host.reduce_andi_all _ _ _ _ _ t (ix1 o)
  have e2 : Ideal.ofBits .f32 0x00000000#32 ≤ (A.g3 (ix1 o) : EReal) := (ofBool_iff _).mp e'
  rw [Ideal.ofBits_zero_f32, G.g3 o, ← EReal.coe_zero] at e2
  exact EReal.coe_le_coe_iff.mp e2

end Pre

end Cert.Proof.Mlp

end
-- ==== Proof.MlpArrays.lean ====
/-
  The arrays that the kernel of the layers leaves and those it reads: the tokens are the whole of its last window, the weights are the
  arguments, and each pair of clouds is a slice of the first argument.
-/
module

public import proofs.«01_k».proof.Proof.MlpLaunch
public import proofs.«01_k».proof.Proof.MlpValue
public import proofs.«01_k».proof.Proof.MlpGiven
public import Idealize.ShloMosaic.Lib.StableHlo.Run

@[expose] public section

set_option maxRecDepth 65536

noncomputable section

namespace Cert.Proof.Mlp

open Cert.MlpIdeal Cert.MlpIdeal.Gen
open Idealize.ShloMosaic hiding ix1 ix2 ix3 ix4
open Idealize.ShloMosaic.ValueIdx Idealize.ShloMosaic.TcCoe Idealize.SL.Sem
open Idealize.ShloMosaic.Pipeline (Dat)

section Out
variable {F : FTy → Type} [FloatOps F]
variable (m : (ℓ : Loc nD τ sig) → Buf (Elt F) ℓ) (ρ : Dev nD → PrngReg)

/-! ## The window of tokens: its one block is the whole array -/

theorem rect13_zero : ∀ (t : Fin cfg0.N) (a : Fin 3), win0_13.index t a = 0 :=
  (by decide +kernel : ∀ (t : Fin grid0.N) (a : Fin 3), win0_13.index t a = 0)

theorem flushed13 (c : Dev nD) (t : Fin cfg0.N) : (dats m 0 c).flushed 13 t = (win0_13.blk t).view.read (Elt F) (tokens m c) := by
  show (cfg0.win 13).cut (grid0.coords t) ((dats m 0 c).after 13 t) = _
  rw [after_out]
  funext y
  show tokens m c _ = tokens m c _
  refine congrArg (tokens m c) (funext fun a => Fin.ext ?_)
  exact (win0_13.rect_emb_val_of_index_zero t a (rect13_zero t a) y).symm

/-- The last point, which writes the tokens back. -/
abbrev final : Fin cfg0.N := (⟨24, by decide⟩ : Fin grid0.N)

theorem cover13 (i : S16x128x384.Idx) : ∃ t : Fin cfg0.N, (cfg0.win 13).flush t = true ∧ i ∈ ((cfg0.win 13).blk t).view.set := by
  refine ⟨final, (by decide +kernel : win0_13.flush final = true), ?_⟩
  show i ∈ ((View.whole main_v12).slice (win0_13.rect final)).set
  rw [View.set_slice_whole, Rect.mem_set_unit]
  have e : ∀ a, win0_13.index final a * win0_13.size a = 0 ∧ win0_13.xsize (grid0.coords final) a = S16x128x384.size a := by
    decide +kernel
  intro a
  show win0_13.index final a * win0_13.size a ≤ (i a : Nat) ∧ (i a : Nat) < win0_13.index final a * win0_13.size a + win0_13.xsize (grid0.coords final) a
  rw [(e a).1, (e a).2, Nat.zero_add]
  exact ⟨Nat.zero_le _, (i a).isLt⟩

theorem final13 (c : Dev nD) : (dats m 0 c).arrAt 13 cfg0.N = tokens m c :=
  (dats m 0 c).arrAt_eq_of_cover 13 (tokens m c) (fun t _ => flushed13 m c t) cover13

/-- Every execution ends with the tokens. -/
theorem run_tokens : θ_run defs (onTc (τ := τ) (main (F := F))) ⟨m, fun _ => 0, ρ⟩ (fun r => ∀ c : Dev nD, r.2.mem ((c.tc : Thread nD τ).loc main_v12) = tokens m c) :=
  (θ_run defs _ _).mono (fun r h c => ((h c).1 13).trans (final13 m c)) (run_post m ρ)

/-! ## The windows of weights: each one's block is the whole array -/

theorem rect_zero : ∀ (t : Fin cfg0.N) (a : Fin 2), win0_1.index t a = 0 ∧ win0_2.index t a = 0 ∧ win0_3.index t a = 0 ∧ win0_4.index t a = 0
    ∧ win0_5.index t a = 0 ∧ win0_6.index t a = 0 ∧ win0_7.index t a = 0 ∧ win0_8.index t a = 0
    ∧ win0_9.index t a = 0 ∧ win0_10.index t a = 0 ∧ win0_11.index t a = 0 ∧ win0_12.index t a = 0 :=
  (by decide +kernel : ∀ (t : Fin grid0.N) (a : Fin 2), win0_1.index t a = 0 ∧ win0_2.index t a = 0 ∧ win0_3.index t a = 0 ∧ win0_4.index t a = 0
    ∧ win0_5.index t a = 0 ∧ win0_6.index t a = 0 ∧ win0_7.index t a = 0 ∧ win0_8.index t a = 0
    ∧ win0_9.index t a = 0 ∧ win0_10.index t a = 0 ∧ win0_11.index t a = 0 ∧ win0_12.index t a = 0)

variable (c : Dev nD)

theorem w1_whole : w1 m c = (V m c main_v0 : Vec F S64x3 .f32) := by
  funext y
  show (V m c main_v0 : Vec F S64x3 .f32) ((win0_1.rect (pt 0)).emb y) = _
  exact congrArg (V m c main_v0 : Vec F S64x3 .f32) (funext fun a => Fin.ext (win0_1.rect_emb_val_of_index_zero (pt 0) a (rect_zero (pt 0) a).1 y))

theorem b1_whole : b1 m c = (V m c main_v1 : Vec F S64x1 .f32) := by
  funext y
  show (V m c main_v1 : Vec F S64x1 .f32) ((win0_2.rect (pt 0)).emb y) = _
  exact congrArg (V m c main_v1 : Vec F S64x1 .f32) (funext fun a => Fin.ext (win0_2.rect_emb_val_of_index_zero (pt 0) a (rect_zero (pt 0) a).2.1 y))

theorem g1_whole : g1 m c = (V m c main_v2 : Vec F S64x1 .f32) := by
  funext y
  show (V m c main_v2 : Vec F S64x1 .f32) ((win0_3.rect (pt 0)).emb y) = _
  exact congrArg (V m c main_v2 : Vec F S64x1 .f32) (funext fun a => Fin.ext (win0_3.rect_emb_val_of_index_zero (pt 0) a (rect_zero (pt 0) a).2.2.1 y))

theorem e1_whole : e1 m c = (V m c main_v3 : Vec F S64x1 .f32) := by
  funext y
  show (V m c main_v3 : Vec F S64x1 .f32) ((win0_4.rect (pt 0)).emb y) = _
  exact congrArg (V m c main_v3 : Vec F S64x1 .f32) (funext fun a => Fin.ext (win0_4.rect_emb_val_of_index_zero (pt 0) a (rect_zero (pt 0) a).2.2.2.1 y))

theorem w2_whole : w2 m c = (V m c main_v4 : Vec F S128x64 .f32) := by
  funext y
  show (V m c main_v4 : Vec F S128x64 .f32) ((win0_5.rect (pt 0)).emb y) = _
  exact congrArg (V m c main_v4 : Vec F S128x64 .f32) (funext fun a => Fin.ext (win0_5.rect_emb_val_of_index_zero (pt 0) a (rect_zero (pt 0) a).2.2.2.2.1 y))

theorem b2_whole : b2 m c = (V m c main_v5 : Vec F S128x1 .f32) := by
  funext y
  show (V m c main_v5 : Vec F S128x1 .f32) ((win0_6.rect (pt 0)).emb y) = _
  exact congrArg (V m c main_v5 : Vec F S128x1 .f32) (funext fun a => Fin.ext (win0_6.rect_emb_val_of_index_zero (pt 0) a (rect_zero (pt 0) a).2.2.2.2.2.1 y))

theorem g2_whole : g2 m c = (V m c main_v6 : Vec F S128x1 .f32) := by
  funext y
  show (V m c main_v6 : Vec F S128x1 .f32) ((win0_7.rect (pt 0)).emb y) = _
  exact congrArg (V m c main_v6 : Vec F S128x1 .f32) (funext fun a => Fin.ext (win0_7.rect_emb_val_of_index_zero (pt 0) a (rect_zero (pt 0) a).2.2.2.2.2.2.1 y))

theorem e2_whole : e2 m c = (V m c main_v7 : Vec F S128x1 .f32) := by
  funext y
  show (V m c main_v7 : Vec F S128x1 .f32) ((win0_8.rect (pt 0)).emb y) = _
  exact congrArg (V m c main_v7 : Vec F S128x1 .f32) (funext fun a => Fin.ext (win0_8.rect_emb_val_of_index_zero (pt 0) a (rect_zero (pt 0) a).2.2.2.2.2.2.2.1 y))

theorem w3_whole : w3 m c = (V m c main_v8 : Vec F S384x128 .f32) := by
  funext y
  show (V m c main_v8 : Vec F S384x128 .f32) ((win0_9.rect (pt 0)).emb y) = _
  exact congrArg (V m c main_v8 : Vec F S384x128 .f32) (funext fun a => Fin.ext (win0_9.rect_emb_val_of_index_zero (pt 0) a (rect_zero (pt 0) a).2.2.2.2.2.2.2.2.1 y))

theorem b3_whole : b3 m c = (V m c main_v9 : Vec F S384x1 .f32) := by
  funext y
  show (V m c main_v9 : Vec F S384x1 .f32) ((win0_10.rect (pt 0)).emb y) = _
  exact congrArg (V m c main_v9 : Vec F S384x1 .f32) (funext fun a => Fin.ext (win0_10.rect_emb_val_of_index_zero (pt 0) a (rect_zero (pt 0) a).2.2.2.2.2.2.2.2.2.1 y))

theorem g3_whole : g3 m c = (V m c main_v10 : Vec F S384x1 .f32) := by
  funext y
  show (V m c main_v10 : Vec F S384x1 .f32) ((win0_11.rect (pt 0)).emb y) = _
  exact congrArg (V m c main_v10 : Vec F S384x1 .f32) (funext fun a => Fin.ext (win0_11.rect_emb_val_of_index_zero (pt 0) a (rect_zero (pt 0) a).2.2.2.2.2.2.2.2.2.2.1 y))

theorem e3_whole : e3 m c = (V m c main_v11 : Vec F S384x1 .f32) := by
  funext y
  show (V m c main_v11 : Vec F S384x1 .f32) ((win0_12.rect (pt 0)).emb y) = _
  exact congrArg (V m c main_v11 : Vec F S384x1 .f32) (funext fun a => Fin.ext (win0_12.rect_emb_val_of_index_zero (pt 0) a (rect_zero (pt 0) a).2.2.2.2.2.2.2.2.2.2.2 y))

/-! ## The arrays as the launch finds them -/

theorem w1_entered : (V m c main_v0 : Vec F S64x3 .f32) = transpose S64x3 [1, 0] (m ((c.tc : Thread nD τ).loc main_arg1) : Vec F S3x64 .f32) transposes_S3x64_S64x3_1_0 := by
  unfold V hostOps0
  after_results_simp

theorem b1_entered : (V m c main_v1 : Vec F S64x1 .f32) = broadcastInDim S64x1 ![0] bcast_S64_S64x1_0 (m ((c.tc : Thread nD τ).loc main_arg2) : Vec F S64 .f32) := by
  unfold V hostOps0
  after_results_simp

theorem g1_entered : (V m c main_v2 : Vec F S64x1 .f32) = broadcastInDim S64x1 ![0] bcast_S64_S64x1_0 (m ((c.tc : Thread nD τ).loc main_arg3) : Vec F S64 .f32) := by
  unfold V hostOps0
  after_results_simp

theorem e1_entered : (V m c main_v3 : Vec F S64x1 .f32) = broadcastInDim S64x1 ![0] bcast_S64_S64x1_0 (m ((c.tc : Thread nD τ).loc main_arg4) : Vec F S64 .f32) := by
  unfold V hostOps0
  after_results_simp

theorem w2_entered : (V m c main_v4 : Vec F S128x64 .f32) = transpose S128x64 [1, 0] (m ((c.tc : Thread nD τ).loc main_arg5) : Vec F S64x128 .f32) transposes_S64x128_S128x64_1_0 := by
  unfold V hostOps0
  after_results_simp

theorem b2_entered : (V m c main_v5 : Vec F S128x1 .f32) = broadcastInDim S128x1 ![0] bcast_S128_S128x1_0 (m ((c.tc : Thread nD τ).loc main_arg6) : Vec F S128 .f32) := by
  unfold V hostOps0
  after_results_simp

theorem g2_entered : (V m c main_v6 : Vec F S128x1 .f32) = broadcastInDim S128x1 ![0] bcast_S128_S128x1_0 (m ((c.tc : Thread nD τ).loc main_arg7) : Vec F S128 .f32) := by
  unfold V hostOps0
  after_results_simp

theorem e2_entered : (V m c main_v7 : Vec F S128x1 .f32) = broadcastInDim S128x1 ![0] bcast_S128_S128x1_0 (m ((c.tc : Thread nD τ).loc main_arg8) : Vec F S128 .f32) := by
  unfold V hostOps0
  after_results_simp

theorem w3_entered : (V m c main_v8 : Vec F S384x128 .f32) = transpose S384x128 [1, 0] (m ((c.tc : Thread nD τ).loc main_arg9) : Vec F S128x384 .f32) transposes_S128x384_S384x128_1_0 := by
  unfold V hostOps0
  after_results_simp

theorem b3_entered : (V m c main_v9 : Vec F S384x1 .f32) = broadcastInDim S384x1 ![0] bcast_S384_S384x1_0 (m ((c.tc : Thread nD τ).loc main_arg10) : Vec F S384 .f32) := by
  unfold V hostOps0
  after_results_simp

theorem g3_entered : (V m c main_v10 : Vec F S384x1 .f32) = broadcastInDim S384x1 ![0] bcast_S384_S384x1_0 (m ((c.tc : Thread nD τ).loc main_arg11) : Vec F S384 .f32) := by
  unfold V hostOps0
  after_results_simp

theorem e3_entered : (V m c main_v11 : Vec F S384x1 .f32) = broadcastInDim S384x1 ![0] bcast_S384_S384x1_0 (m ((c.tc : Thread nD τ).loc main_arg12) : Vec F S384 .f32) := by
  unfold V hostOps0
  after_results_simp

/-- A pair of clouds is a slice of the clouds. -/
theorem pair_index : ∀ t : Fin cfg0.N, t.val < 16 → win0_0.index t (0 : Fin 3) = t.val % 8 ∧ win0_0.index t (1 : Fin 3) = 0 ∧ win0_0.index t (2 : Fin 3) = 0 :=
  (by decide +kernel : ∀ t : Fin grid0.N, t.val < 16 → win0_0.index t (0 : Fin 3) = t.val % 8 ∧ win0_0.index t (1 : Fin 3) = 0 ∧ win0_0.index t (2 : Fin 3) = 0)

theorem x_entered : (V m c main_arg0 : Vec F S16x3x4096 .f32) = m ((c.tc : Thread nD τ).loc main_arg0) := by
  unfold V hostOps0
  after_results_simp

theorem pair_apply (n : ℕ) (hn : n < 16) (s : Fin 2) (d : Fin 3) (j : Fin 4096) :
    pair m c n (ix3 s d j) = (m ((c.tc : Thread nD τ).loc main_arg0) : Vec F S16x3x4096 .f32) (ix3 ⟨n % 8 * 2 + s.val, by have := s.isLt; omega⟩ d j) := by
  have hv : (pt n).val = n := by show min n 24 = n; omega
  have h := pair_index (pt n) (by rw [hv]; exact hn)
  rw [← x_entered m c]
  show (V m c main_arg0 : Vec F S16x3x4096 .f32) ((win0_0.rect (pt n)).emb (ix3 s d j)) = _
  refine congrArg (V m c main_arg0 : Vec F S16x3x4096 .f32) (funext fun a => Fin.ext ?_)
  match a with
  | ⟨0, _⟩ =>
    refine (win0_0.rect_emb_val (pt n) (ix3 s d j) 0).trans ?_
    show win0_0.index (pt n) 0 * 2 + s.val = n % 8 * 2 + s.val
    rw [h.1, hv]
  | ⟨1, _⟩ => exact win0_0.rect_emb_val_of_index_zero (pt n) (1 : Fin 3) h.2.1 (ix3 s d j)
  | ⟨2, _⟩ => exact win0_0.rect_emb_val_of_index_zero (pt n) (2 : Fin 3) h.2.2 (ix3 s d j)

end Out

/-! ## The real numbers in them -/

variable (m : (ℓ : Loc nD τ sig) → Buf (Elt Ideal) ℓ) (c : Dev nD)

/-- The arrays the kernel is given. -/
def arrays : Arrays :=
  ⟨m ((c.tc : Thread nD τ).loc main_arg0), m ((c.tc : Thread nD τ).loc main_arg1), m ((c.tc : Thread nD τ).loc main_arg2), m ((c.tc : Thread nD τ).loc main_arg3),
    m ((c.tc : Thread nD τ).loc main_arg4), m ((c.tc : Thread nD τ).loc main_arg5), m ((c.tc : Thread nD τ).loc main_arg6), m ((c.tc : Thread nD τ).loc main_arg7),
    m ((c.tc : Thread nD τ).loc main_arg8), m ((c.tc : Thread nD τ).loc main_arg9), m ((c.tc : Thread nD τ).loc main_arg10), m ((c.tc : Thread nD τ).loc main_arg11),
    m ((c.tc : Thread nD τ).loc main_arg12)⟩

/-- A row as a column. -/
theorem column_apply {C : ℕ} (h : (⟨1, ![C]⟩ : Shape).BroadcastsInDim ⟨2, ![C, 1]⟩ ![0]) (x : FVec Ideal ⟨1, ![C]⟩ .f32) (o : Fin C) :
    broadcastInDim ⟨2, ![C, 1]⟩ ![0] h x (ix2 o 0) = x (ix1 o) :=
  broadcastInDim_apply _ _ _ _ (ix1 o) (by
    intro a; fin_cases a
    show o.val = if C = 1 then 0 else o.val
    have := o.isLt; split <;> omega)

/-- A table with its axes exchanged. -/
theorem turned_apply {K C : ℕ} (h : (⟨2, ![K, C]⟩ : Shape).Transposes [1, 0] ⟨2, ![C, K]⟩) (x : FVec Ideal ⟨2, ![K, C]⟩ .f32) (o : Fin C) (d : Fin K) :
    transpose ⟨2, ![C, K]⟩ [1, 0] x h (ix2 o d) = x (ix2 d o) :=
  transpose_apply _ _ _ _ (ix2 d o) (by intro a; fin_cases a <;> rfl)

theorem reads {N : Net} (G : Given (arrays m c) N) : Reads m c N where
  x n hn s d j := (pair_apply m c n hn s d j).trans (G.x _ _ _)
  w1 o d := by rw [w1_whole, w1_entered]; exact (turned_apply _ _ o d).trans (G.w1 d o)
  b1 o := by rw [b1_whole, b1_entered]; exact (column_apply _ _ o).trans (G.b1 o)
  g1 o := by rw [g1_whole, g1_entered]; exact (column_apply _ _ o).trans (G.g1 o)
  e1 o := by rw [e1_whole, e1_entered]; exact (column_apply _ _ o).trans (G.e1 o)
  w2 o d := by rw [w2_whole, w2_entered]; exact (turned_apply _ _ o d).trans (G.w2 d o)
  b2 o := by rw [b2_whole, b2_entered]; exact (column_apply _ _ o).trans (G.b2 o)
  g2 o := by rw [g2_whole, g2_entered]; exact (column_apply _ _ o).trans (G.g2 o)
  e2 o := by rw [e2_whole, e2_entered]; exact (column_apply _ _ o).trans (G.e2 o)
  w3 o d := by rw [w3_whole, w3_entered]; exact (turned_apply _ _ o d).trans (G.w3 d o)
  b3 o := by rw [b3_whole, b3_entered]; exact (column_apply _ _ o).trans (G.b3 o)
  g3 o := by rw [g3_whole, g3_entered]; exact (column_apply _ _ o).trans (G.g3 o)

/-- The window of the last shifts holds the last array. -/
theorem shifts (o : Fin 384) : e3 m c (ix2 o 0) = (arrays m c).e3 (ix1 o) := by
  rw [e3_whole, e3_entered]; exact column_apply _ _ o

end Cert.Proof.Mlp

end
-- ==== Proof.MlpRef.lean ====
/-
  The reference's layers over the extended reals, at real inputs: the layers over the real numbers, the points of a cloud
  counted patch by patch.
-/
module

public import proofs.«01_k».proof.Proof.Gen.MlpReferenceIdeal.Run
public import proofs.«01_k».proof.Proof.MlpKernel
public import proofs.«01_k».proof.Proof.FpsFirst
public import Idealize.ShloMosaic.Lib.StackMember

@[expose] public section

set_option maxRecDepth 65536

noncomputable section

namespace Cert.Proof.MlpRef

open Cert.MlpReferenceIdeal Cert.MlpReferenceIdeal.Gen
open Cert.Proof.Mlp
open Finset
open Idealize.ShloMosaic hiding ix0 ix1 ix2 ix3 ix4
open Idealize.ShloMosaic.ValueIdx

/-- A row of points, point `p` being column `p % 32 * 128 + p % 4096 / 32` of cloud `p / 4096`. -/
def Points {C : ℕ} (v : FVec Ideal ⟨2, ![65536, C]⟩ .f32) (a : ℕ → ℕ → ℕ → ℝ) : Prop :=
  ∀ (p : Fin 65536) (o : Fin C), v (ix2 p o) = ((a o.val (p.val / 4096) (p.val % 32 * 128 + p.val % 4096 / 32) : ℝ) : EReal)

section Layer
variable {C : ℕ}

/-- The shapes of a layer fit. -/
structure Fits (C : ℕ) : Prop where
  red : (⟨2, ![65536, C]⟩ : Shape).ReducesTo [0] ⟨1, ![C]⟩
  up : (⟨1, ![C]⟩ : Shape).BroadcastsInDim ⟨2, ![1, C]⟩ ![1]
  down : (⟨2, ![1, C]⟩ : Shape).BroadcastsInDim ⟨2, ![65536, C]⟩ ![0, 1]
  one : S_.BroadcastsInDim ⟨2, ![1, C]⟩ ![]
  all : S_.BroadcastsInDim ⟨2, ![65536, C]⟩ ![]

variable (f : Fits C)

/-- The means of the columns. -/
def centre (v : FVec Ideal ⟨2, ![65536, C]⟩ .f32) : FVec Ideal ⟨2, ![1, C]⟩ .f32 :=
  Host.divf (broadcastInDim ⟨2, ![1, C]⟩ ![1] f.up (Host.reduceAdd v (constant S_ .f32 0x00000000#32) f.red h_S_)) (broadcastInDim ⟨2, ![1, C]⟩ ![] f.one (constant S_ .f32 0x47800000#32))

/-- The distances from the means. -/
def apart (v : FVec Ideal ⟨2, ![65536, C]⟩ .f32) : FVec Ideal ⟨2, ![65536, C]⟩ .f32 := subf v (broadcastInDim ⟨2, ![65536, C]⟩ ![0, 1] f.down (centre f v))

/-- The number of points. -/
def count : FVec Ideal S_ .f32 := subf (constant S_ .f32 0x47800000#32) (sitofp .f32 (constantI S_ 32 0#32))

/-- The variances. -/
def spread (v : FVec Ideal ⟨2, ![65536, C]⟩ .f32) : FVec Ideal ⟨2, ![1, C]⟩ .f32 :=
  select (broadcastInDim ⟨2, ![1, C]⟩ ![] f.one (cmpf .ogt count (constant S_ .f32 0x00000000#32)))
    (Host.divf (broadcastInDim ⟨2, ![1, C]⟩ ![1] f.up (Host.reduceAdd (mulf (apart f v) (apart f v)) (constant S_ .f32 0x00000000#32) f.red h_S_)) (broadcastInDim ⟨2, ![1, C]⟩ ![] f.one count))
    (broadcastInDim ⟨2, ![1, C]⟩ ![] f.one (id (constant S_ .f32 0x7FC00000#32)))

/-- A layer's values. -/
def layer (v : FVec Ideal ⟨2, ![65536, C]⟩ .f32) (g e : FVec Ideal ⟨1, ![C]⟩ .f32) : FVec Ideal ⟨2, ![65536, C]⟩ .f32 :=
  maximumf (addf (Host.divf (mulf (broadcastInDim ⟨2, ![65536, C]⟩ ![0, 1] f.down (broadcastInDim ⟨2, ![1, C]⟩ ![1] f.up g)) (apart f v))
    (broadcastInDim ⟨2, ![65536, C]⟩ ![0, 1] f.down (Host.sqrt (addf (spread f v) (broadcastInDim ⟨2, ![1, C]⟩ ![] f.one (constant S_ .f32 0x3727C5AC#32))))))
    (broadcastInDim ⟨2, ![65536, C]⟩ ![0, 1] f.down (broadcastInDim ⟨2, ![1, C]⟩ ![1] f.up e))) (broadcastInDim ⟨2, ![65536, C]⟩ ![] f.all (constant S_ .f32 0x00000000#32))

theorem up_apply (h : (⟨1, ![C]⟩ : Shape).BroadcastsInDim ⟨2, ![1, C]⟩ ![1]) (x : FVec Ideal ⟨1, ![C]⟩ .f32) (o : Fin C) : broadcastInDim ⟨2, ![1, C]⟩ ![1] h x (ix2 0 o) = x (ix1 o) :=
  broadcastInDim_apply _ _ _ _ (ix1 o) (by
    intro a; fin_cases a
    show o.val = if C = 1 then 0 else o.val
    have := o.isLt; split <;> omega)

theorem down_apply (h : (⟨2, ![1, C]⟩ : Shape).BroadcastsInDim ⟨2, ![65536, C]⟩ ![0, 1]) (x : FVec Ideal ⟨2, ![1, C]⟩ .f32) (p : Fin 65536) (o : Fin C) :
    broadcastInDim ⟨2, ![65536, C]⟩ ![0, 1] h x (ix2 p o) = x (ix2 0 o) :=
  broadcastInDim_apply _ _ _ _ (ix2 0 o) (by
    intro a; fin_cases a
    · rfl
    · show o.val = if C = 1 then 0 else o.val
      have := o.isLt; split <;> omega)

theorem scalar_apply {t : Shape} (h : S_.BroadcastsInDim t ![]) {α : Type} (x : S_.Idx → α) (j : t.Idx) : broadcastInDim t ![] h x j = x ix0 :=
  broadcastInDim_apply _ _ _ _ ix0 (by intro a; exact a.elim0)

/-- The sum of a column. -/
theorem sum_apply {v : FVec Ideal ⟨2, ![65536, C]⟩ .f32} {a : ℕ → ℕ → ℕ → ℝ} (h : Points v a) (o : Fin C) :
    Host.reduceAdd v (constant S_ .f32 0x00000000#32) f.red h_S_ (ix1 o) = ((total (a o.val) : ℝ) : EReal) := by
  refine (Ideal.hostReduceAdd_r2_a0 f.red v (Ideal.ofBits .f32 0x00000000#32) (ix1 o)).trans ?_
  rw [Ideal.ofBits_zero_f32, zero_add, ← total_points (a o.val) (fun p => a o.val (p / 4096) (p % 32 * 128 + p % 4096 / 32)) (by
    intro b hb r hr k hk
    show a o.val ((b * 4096 + (r * 32 + k)) / 4096) ((b * 4096 + (r * 32 + k)) % 32 * 128 + (b * 4096 + (r * 32 + k)) % 4096 / 32) = _
    rw [show (b * 4096 + (r * 32 + k)) / 4096 = b by omega, show (b * 4096 + (r * 32 + k)) % 32 = k by omega, show (b * 4096 + (r * 32 + k)) % 4096 / 32 = r by omega]), ← real_sum]
  exact Finset.sum_congr rfl fun p _ => h p o

theorem count_apply : count ix0 = ((65536 : ℝ) : EReal) := by
  show Ideal.ofBits .f32 0x47800000#32 - (((0#32 : BitVec 32).toInt : ℝ) : EReal) = _
  rw [bits_count]
  simp

section
variable {v : FVec Ideal ⟨2, ![65536, C]⟩ .f32} {a : ℕ → ℕ → ℕ → ℝ} (h : Points v a)
include h

theorem centre_apply (o : Fin C) : centre f v (ix2 0 o) = ((mean (a o.val) : ℝ) : EReal) := by
  show Ideal.div (broadcastInDim _ _ f.up _ (ix2 0 o)) (broadcastInDim _ _ f.one _ (ix2 0 o)) = _
  rw [up_apply, scalar_apply, sum_apply f h o]
  show Ideal.div _ (Ideal.ofBits .f32 0x47800000#32) = _
  rw [bits_count, div_real _ (by norm_num)]; rfl

theorem apart_apply : Points (apart f v) fun o b j => a o b j - mean (a o) := by
  intro p o
  show v (ix2 p o) - broadcastInDim _ _ f.down (centre f v) (ix2 p o) = _
  rw [down_apply, centre_apply f h o, h p o, ← EReal.coe_sub]

theorem squares_apply : Points (mulf (apart f v) (apart f v)) fun o b j => (a o b j - mean (a o)) * (a o b j - mean (a o)) := by
  intro p o
  show apart f v (ix2 p o) * apart f v (ix2 p o) = _
  rw [apart_apply f h p o, ← EReal.coe_mul]

theorem spread_apply (o : Fin C) : spread f v (ix2 0 o) = ((var (a o.val) : ℝ) : EReal) := by
  have hc : broadcastInDim (⟨2, ![1, C]⟩ : Shape) ![] f.one (cmpf .ogt count (constant S_ .f32 0x00000000#32)) (ix2 0 o) = 1#1 := by
    rw [scalar_apply]
    refine (Cert.Proof.First.ogt_iff (count ix0) (Ideal.ofBits .f32 0x00000000#32)).mpr ?_
    rw [count_apply, Ideal.ofBits_zero_f32, ← EReal.coe_zero]
    exact EReal.coe_lt_coe_iff.mpr (by norm_num)
  refine (if_pos hc).trans ?_
  show Ideal.div (broadcastInDim _ _ f.up _ (ix2 0 o)) (broadcastInDim _ _ f.one count (ix2 0 o)) = _
  rw [up_apply, scalar_apply, sum_apply f (squares_apply f h) o, count_apply, div_real _ (by norm_num)]; rfl

theorem layer_apply {g e : FVec Ideal ⟨1, ![C]⟩ .f32} {γ ε : ℕ → ℝ} (hg : ∀ o, g (ix1 o) = ((γ o.val : ℝ) : EReal)) (he : ∀ o, e (ix1 o) = ((ε o.val : ℝ) : EReal)) :
    Points (layer f v g e) fun o => act (γ o) (ε o) (a o) := by
  intro p o
  show max (Ideal.div (broadcastInDim _ _ f.down _ (ix2 p o) * apart f v (ix2 p o)) (broadcastInDim _ _ f.down _ (ix2 p o)) + broadcastInDim _ _ f.down _ (ix2 p o))
    (broadcastInDim _ _ f.all _ (ix2 p o)) = _
  rw [down_apply, down_apply, down_apply, scalar_apply, up_apply, up_apply, hg o, he o, apart_apply f h p o]
  show max (Ideal.div _ (Ideal.sqrt (spread f v (ix2 0 o) + broadcastInDim _ _ f.one _ (ix2 0 o))) + _) (Ideal.ofBits .f32 0x00000000#32) = _
  rw [scalar_apply, spread_apply f h o]
  show max (Ideal.div _ (Ideal.sqrt (_ + Ideal.ofBits .f32 0x3727C5AC#32)) + _) _ = _
  rw [bits_small, ← EReal.coe_add, sqrt_real (spread_pos _), ← EReal.coe_mul, div_real _ (Real.sqrt_ne_zero'.mpr (spread_pos _)), ← EReal.coe_add, Ideal.ofBits_zero_f32, ← EReal.coe_zero, max_real]
  rfl

/-- A layer whose shifts may be infinite. -/
theorem last_apply {g : FVec Ideal ⟨1, ![C]⟩ .f32} {γ : ℕ → ℝ} (hg : ∀ o, g (ix1 o) = ((γ o.val : ℝ) : EReal)) (e : FVec Ideal ⟨1, ![C]⟩ .f32) (p : Fin 65536) (o : Fin C) :
    layer f v g e (ix2 p o) = max (((norm (γ o.val) 0 (a o.val) (a o.val (p.val / 4096) (p.val % 32 * 128 + p.val % 4096 / 32)) : ℝ) : EReal) + e (ix1 o)) 0 := by
  show max (Ideal.div (broadcastInDim _ _ f.down _ (ix2 p o) * apart f v (ix2 p o)) (broadcastInDim _ _ f.down _ (ix2 p o)) + broadcastInDim _ _ f.down _ (ix2 p o))
    (broadcastInDim _ _ f.all _ (ix2 p o)) = _
  rw [down_apply, down_apply, down_apply, scalar_apply, up_apply, up_apply, hg o, apart_apply f h p o]
  show max (Ideal.div _ (Ideal.sqrt (spread f v (ix2 0 o) + broadcastInDim _ _ f.one _ (ix2 0 o))) + _) (Ideal.ofBits .f32 0x00000000#32) = _
  rw [scalar_apply, spread_apply f h o]
  show max (Ideal.div _ (Ideal.sqrt (_ + Ideal.ofBits .f32 0x3727C5AC#32)) + _) _ = _
  rw [bits_small, ← EReal.coe_add, sqrt_real (spread_pos _), ← EReal.coe_mul, div_real _ (Real.sqrt_ne_zero'.mpr (spread_pos _)), Ideal.ofBits_zero_f32]
  unfold Mlp.norm
  rw [add_zero]

end

/-- A linear layer. -/
theorem linear_apply {K : ℕ} (d : DotDims ⟨2, ![65536, K]⟩ ⟨2, ![K, C]⟩ ⟨2, ![65536, C]⟩) (hd : d = DotDims.plain 65536 K C) {x : FVec Ideal ⟨2, ![65536, K]⟩ .f32} {w : FVec Ideal ⟨2, ![K, C]⟩ .f32}
    {b : FVec Ideal ⟨1, ![C]⟩ .f32} {X : ℕ → ℕ → ℕ → ℝ} {W : ℕ → ℕ → ℝ} {β : ℕ → ℝ} (hx : Points x X) (hw : ∀ k o, w (ix2 k o) = ((W k.val o.val : ℝ) : EReal))
    (hb : ∀ o, b (ix1 o) = ((β o.val : ℝ) : EReal)) :
    Points (addf (Host.dotGeneral d none x w) (broadcastInDim ⟨2, ![65536, C]⟩ ![0, 1] f.down (broadcastInDim ⟨2, ![1, C]⟩ ![1] f.up b))) (lin K W β X) := by
  intro p o
  subst hd
  show Host.dotGeneral (DotDims.plain 65536 K C) none x w (ix2 p o) + broadcastInDim _ _ f.down _ (ix2 p o) = _
  rw [StackMember.dotGeneral_plain_apply, down_apply, up_apply, hb o]
  unfold lin
  rw [EReal.coe_add, ← real_sum]
  refine congrArg (· + _) (Finset.sum_congr rfl fun k _ => ?_)
  rw [hx p k, hw k o, ← EReal.coe_mul]

end Layer

/-! ## The maximum over the neighbours -/

theorem le_most (f : ℕ → ℝ) (n : ℕ) : ∀ k ≤ n, f k ≤ most f n := by
  induction n with
  | zero => intro k hk; obtain rfl := Nat.le_zero.mp hk; exact le_rfl
  | succ n ih =>
    intro k hk
    rcases Nat.lt_or_ge n k with h | h
    · obtain rfl : k = n + 1 := by omega
      exact le_max_right _ _
    · exact (ih k h).trans (le_max_left _ _)

theorem most_mem (f : ℕ → ℝ) (n : ℕ) : ∃ k ≤ n, most f n = f k := by
  induction n with
  | zero => exact ⟨0, le_rfl, rfl⟩
  | succ n ih =>
    obtain ⟨k, hk, e⟩ := ih
    rcases max_choice (most f n) (f (n + 1)) with h | h
    · exact ⟨k, by omega, h.trans e⟩
    · exact ⟨n + 1, le_rfl, h⟩

theorem fold_most (f : ℕ → ℝ) (n : ℕ) : (Finset.univ : Finset (Fin (n + 1))).fold max (⊥ : EReal) (fun k => ((f k.val : ℝ) : EReal)) = ((most f n : ℝ) : EReal) := by
  show Finset.univ.sup (fun k : Fin (n + 1) => ((f k.val : ℝ) : EReal)) = _
  refine le_antisymm (Finset.sup_le fun k _ => EReal.coe_le_coe_iff.mpr (le_most f n k.val (Nat.lt_succ_iff.mp k.isLt))) ?_
  obtain ⟨k, hk, e⟩ := most_mem f n
  rw [e]
  exact Finset.le_sup (f := fun k : Fin (n + 1) => ((f k.val : ℝ) : EReal)) (Finset.mem_univ (⟨k, Nat.lt_succ_of_le hk⟩ : Fin (n + 1)))

/-- The same of the values shifted and cut off at zero, where the shift may be infinite. -/
theorem fold_shifted (f : ℕ → ℝ) (e : EReal) (n : ℕ) :
    (Finset.univ : Finset (Fin (n + 1))).fold max (⊥ : EReal) (fun k => max (((f k.val : ℝ) : EReal) + e) 0) = max (((most f n : ℝ) : EReal) + e) 0 := by
  show Finset.univ.sup (fun k : Fin (n + 1) => max (((f k.val : ℝ) : EReal) + e) 0) = _
  refine le_antisymm (Finset.sup_le fun k _ =>
    max_le_max_right 0 (add_le_add_left (EReal.coe_le_coe_iff.mpr (le_most f n k.val (Nat.lt_succ_iff.mp k.isLt))) e)) ?_
  obtain ⟨k, hk, h⟩ := most_mem f n
  rw [h]
  exact Finset.le_sup (f := fun k : Fin (n + 1) => max (((f k.val : ℝ) : EReal) + e) 0) (Finset.mem_univ (⟨k, Nat.lt_succ_of_le hk⟩ : Fin (n + 1)))

/-- The maximum over the neighbours of each patch, as the reference takes it. -/
def best (y : FVec Ideal S65536x384 .f32) : FVec Ideal S16x128x384 .f32 :=
  shapeCast S16x128x384 (Host.reduce FloatOps.maximumf (shapeCast S2048x32x384 y shapeCasts_S65536x384_S2048x32x384) (constant S_ .f32 0xFF800000#32) reducesTo_S2048x32x384_S2048x384_d1 h_S_)
    shapeCasts_S2048x384_S16x128x384

theorem best_apply {y : FVec Ideal S65536x384 .f32} {a : ℕ → ℕ → ℕ → ℝ} {e : Fin 384 → EReal}
    (h : ∀ p o, y (ix2 p o) = max (((a o.val (p.val / 4096) (p.val % 32 * 128 + p.val % 4096 / 32) : ℝ) : EReal) + e o) 0) (b : Fin 16) (r : Fin 128) (o : Fin 384) :
    best y (ix3 b r o) = max (((most (fun k => a o.val b.val (k * 128 + r.val)) 31 : ℝ) : EReal) + e o) 0 := by
  have hb := b.isLt
  have hr := r.isLt
  refine (shapeCast_apply (s := S2048x384) (t := S16x128x384) _ shapeCasts_S2048x384_S16x128x384 (ix3 b r o) (ix2 ⟨b.val * 128 + r.val, by omega⟩ o) (by
    rw [Shape.rowMajor_val_three, Shape.rowMajor_val_two]; show (b.val * 128 + r.val) * 384 + o.val = (b.val * 128 + r.val) * 384 + o.val; rfl)).trans ?_
  refine (Host.reduce_eq_fold _ _ _ _ _ _).trans ?_
  refine (reducesTo_S2048x32x384_S2048x384_d1.fold_fiber_r3_a1 _ _ _ _).trans ?_
  rw [← fold_shifted]
  have hz : constant (F := Ideal) S_ .f32 0xFF800000#32 (Shape.Idx.first h_S_) = (⊥ : EReal) := bits_least
  rw [hz]
  refine Finset.fold_congr fun k _ => ?_
  have hk : k.val < 32 := k.isLt
  refine (shapeCast_apply (s := S65536x384) (t := S2048x32x384) _ shapeCasts_S65536x384_S2048x32x384 _ (ix2 ⟨(b.val * 128 + r.val) * 32 + k.val, by omega⟩ o) (by
    rw [Shape.rowMajor_val_three, Shape.rowMajor_val_two]; rfl)).trans ?_
  rw [h]
  show max (((a o.val (((b.val * 128 + r.val) * 32 + k.val) / 4096) (((b.val * 128 + r.val) * 32 + k.val) % 32 * 128 + ((b.val * 128 + r.val) * 32 + k.val) % 4096 / 32) : ℝ) : EReal) + e o) 0 = _
  rw [show ((b.val * 128 + r.val) * 32 + k.val) / 4096 = b.val by omega, show ((b.val * 128 + r.val) * 32 + k.val) % 32 = k.val by omega,
    show ((b.val * 128 + r.val) * 32 + k.val) % 4096 / 32 = r.val by omega]

end Cert.Proof.MlpRef

end
-- ==== Proof.MlpRefRun.lean ====
/-
  What the reference program computes of arrays of real numbers: the tokens over the real numbers.
-/
module

public import proofs.«01_k».proof.Proof.MlpRef
public import proofs.«01_k».proof.Proof.MlpGiven

@[expose] public section

set_option maxRecDepth 65536

noncomputable section

namespace Cert.Proof.MlpRef

open Cert.MlpReferenceIdeal Cert.MlpReferenceIdeal.Gen Cert.MlpReferenceIdeal.Value
open Cert.Proof.Mlp
open Idealize.ShloMosaic hiding ix0 ix1 ix2 ix3 ix4
open Idealize.ShloMosaic.ValueIdx Idealize.ShloMosaic.TcCoe Idealize.SL.Sem

theorem fits64 : Fits 64 := ⟨reducesTo_S65536x64_S64_d0, bcast_S64_S1x64_1, bcast_S1x64_S65536x64_0_1, bcast_S_S1x64, bcast_S_S65536x64⟩
theorem fits128 : Fits 128 := ⟨reducesTo_S65536x128_S128_d0, bcast_S128_S1x128_1, bcast_S1x128_S65536x128_0_1, bcast_S_S1x128, bcast_S_S65536x128⟩
theorem fits384 : Fits 384 := ⟨reducesTo_S65536x384_S384_d0, bcast_S384_S1x384_1, bcast_S1x384_S65536x384_0_1, bcast_S_S1x384, bcast_S_S65536x384⟩

/-- The points of all clouds in one row, patch by patch. -/
def listed (x : FVec Ideal S16x3x4096 .f32) : FVec Ideal S65536x3 .f32 :=
  shapeCast S65536x3 (transpose S16x128x32x3 [0, 3, 2, 1] (shapeCast S16x3x32x128 x shapeCasts_S16x3x4096_S16x3x32x128) transposes_S16x3x32x128_S16x128x32x3_0_3_2_1)
    shapeCasts_S16x128x32x3_S65536x3

theorem listed_apply {x : FVec Ideal S16x3x4096 .f32} {X : ℕ → ℕ → ℕ → ℝ} (h : ∀ b d j, x (ix3 b d j) = ((X b.val d.val j.val : ℝ) : EReal)) :
    Points (listed x) fun d b j => X b d j := by
  intro p d
  have hp := p.isLt
  have hd := d.isLt
  refine (shapeCast_apply (s := S16x128x32x3) (t := S65536x3) _ shapeCasts_S16x128x32x3_S65536x3 (ix2 p d)
    (ix4 ⟨p.val / 4096, by omega⟩ ⟨p.val % 4096 / 32, by omega⟩ ⟨p.val % 32, by omega⟩ d) (by
      rw [Shape.rowMajor_val_four, Shape.rowMajor_val_two]
      show ((p.val / 4096 * 128 + p.val % 4096 / 32) * 32 + p.val % 32) * 3 + d.val = p.val * 3 + d.val
      omega)).trans ?_
  refine (transpose_apply _ _ _ _ (ix4 ⟨p.val / 4096, by omega⟩ d ⟨p.val % 32, by omega⟩ ⟨p.val % 4096 / 32, by omega⟩) (by intro a; fin_cases a <;> rfl)).trans ?_
  refine (shapeCast_apply (s := S16x3x4096) (t := S16x3x32x128) _ shapeCasts_S16x3x4096_S16x3x32x128 _
    (ix3 ⟨p.val / 4096, by omega⟩ d ⟨p.val % 32 * 128 + p.val % 4096 / 32, by omega⟩) (by
      rw [Shape.rowMajor_val_three, Shape.rowMajor_val_four]
      show (p.val / 4096 * 3 + d.val) * 4096 + (p.val % 32 * 128 + p.val % 4096 / 32) = ((p.val / 4096 * 3 + d.val) * 32 + p.val % 32) * 128 + p.val % 4096 / 32
      omega)).trans ?_
  exact h _ _ _

variable (V0 : Valuation τ sig (Elt Ideal))

/-- The arrays the reference is given. -/
def arrays : Arrays :=
  ⟨V0 (Proc.devRef .tc main_arg0), V0 (Proc.devRef .tc main_arg1), V0 (Proc.devRef .tc main_arg2), V0 (Proc.devRef .tc main_arg3), V0 (Proc.devRef .tc main_arg4),
    V0 (Proc.devRef .tc main_arg5), V0 (Proc.devRef .tc main_arg6), V0 (Proc.devRef .tc main_arg7), V0 (Proc.devRef .tc main_arg8),
    V0 (Proc.devRef .tc main_arg9), V0 (Proc.devRef .tc main_arg10), V0 (Proc.devRef .tc main_arg11), V0 (Proc.devRef .tc main_arg12)⟩

/-- The tokens. -/
def answer : FVec Ideal S16x128x384 .f32 := best (layer fits384 (res_main_v52 V0) (arrays V0).g3 (arrays V0).e3)

section Value
variable {V0} {N : Net} (G : Given (arrays V0) N)
include G

theorem first_apply : Points (res_main_v6 V0) N.a1 :=
  linear_apply fits64 dot_S65536x3_S3x64_S65536x64_1_0_0_1_n_n rfl (x := listed (arrays V0).x) (listed_apply G.x) G.w1 G.b1

theorem second_apply : Points (res_main_v29 V0) N.a2 :=
  linear_apply fits128 dot_S65536x64_S64x128_S65536x128_1_0_0_1_n_n rfl (x := layer fits64 (res_main_v6 V0) (arrays V0).g1 (arrays V0).e1)
    (layer_apply fits64 (first_apply G) G.g1 G.e1) G.w2 G.b2

theorem third_apply : Points (res_main_v52 V0) N.a3 :=
  linear_apply fits384 dot_S65536x128_S128x384_S65536x384_1_0_0_1_n_n rfl (x := layer fits128 (res_main_v29 V0) (arrays V0).g2 (arrays V0).e2)
    (layer_apply fits128 (second_apply G) G.g2 G.e2) G.w3 G.b3

theorem answer_apply (b : Fin 16) (r : Fin 128) (o : Fin 384) : answer V0 (ix3 b r o) = N.token ((arrays V0).e3 (ix1 o)) b.val r.val o.val :=
  best_apply (a := N.n3) (e := fun o => (arrays V0).e3 (ix1 o)) (y := layer fits384 (res_main_v52 V0) (arrays V0).g3 (arrays V0).e3) (last_apply fits384 (third_apply G) G.g3 (arrays V0).e3) b r o

end Value

/-- Every execution of the reference ends with the tokens, its arguments as they were. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v74) = answer (StableHlo.launchContents m c) :=
  (θ_run defs _ _).mono (fun r h c => (h c).1) (run (F := Ideal) m ρ)

end Cert.Proof.MlpRef

end
-- ==== Proof.MlpClaims.lean ====
/-
  The claims about the call of the layers: its frames, and the equality of its tokens with the reference's.
-/
module

public import proofs.«01_k».proof.Defs
public import proofs.«01_k».proof.Proof.MlpBits
public import proofs.«01_k».proof.Proof.MlpArrays
public import proofs.«01_k».proof.Proof.MlpRefRun
public import proofs.«01_k».proof.Proof.Gen.Pre_tame

@[expose] public section

set_option maxRecDepth 65536

noncomputable section

namespace Cert.Proof.Mlp

open Idealize.ShloMosaic Idealize.SL.Sem

theorem frame_named : Cert.quiescent_MlpIdeal := fun m ρ _ => frame_mlp m ρ

theorem frame_plain : Cert.quiescent_MlpReferenceIdeal := fun m ρ _ =>
  (θ_run Cert.MlpReferenceIdeal.defs _ _).mono (fun r h => ⟨fun c => (h c).2, sem_eq_zero_of_no_sems (by decide) r.2⟩) (Cert.MlpReferenceIdeal.Value.run (F := Ideal) m ρ)

theorem algebraic : Cert.algebraic_MlpIdeal_MlpReferenceIdeal_pre_tame := by
  intro m g m' g' hpre hagree
  refine ⟨fun c => tokens m c, (θ_run Cert.MlpIdeal.defs _ _).mono (fun _ h c => ⟨h.1 c, h.2.1 c⟩) (θ_run_and (run_tokens (F := Ideal) m g) (frame_mlp (F := Ideal) m g)), ?_⟩
  refine (θ_run Cert.MlpReferenceIdeal.defs _ _).mono (fun _ h c => ⟨(h.1 c).trans ?_, h.2.1 c⟩) (θ_run_and (MlpRef.run_ref m' g') (frame_plain m' g' trivial))
  have hA : MlpRef.arrays (StableHlo.launchContents m' c) = arrays m c := by
    obtain ⟨h0, h1, h2, h3, h4, h5, h6, h7, h8, h9, h10, h11, h12⟩ := hagree c
    show Arrays.mk _ _ _ _ _ _ _ _ _ _ _ _ _ = Arrays.mk _ _ _ _ _ _ _ _ _ _ _ _ _
    congr 1
  obtain ⟨G, hg⟩ := given_of_tame (arrays m c) (hpre c)
  have G' : Given (MlpRef.arrays (StableHlo.launchContents m' c)) (arrays m c).net := by rw [hA]; exact G
  have key : ∀ (b : Fin 16) (r : Fin 128) (o : Fin 384), MlpRef.answer (StableHlo.launchContents m' c) (ValueIdx.ix3 b r o) = tokens m c (ValueIdx.ix3 b r o) := fun b r o =>
    (MlpRef.answer_apply G' b r o).trans ((tokens_val (reads m c G) hg b r o).trans (by rw [shifts m c o, hA])).symm
  funext i
  have hi : i = ValueIdx.ix3 (i 0) (i 1) (i 2) := by funext a; fin_cases a <;> rfl
  rw [hi]
  exact key _ _ _

end Cert.Proof.Mlp

end
-- ==== Proof.lean ====
module

public import proofs.«01_k».proof.Defs
public import proofs.«01_k».proof.Proof.Frames
public import proofs.«01_k».proof.Proof.FpsClaims
public import proofs.«01_k».proof.Proof.MlpClaims
public import proofs.«01_k».proof.Proof.Gen.Fps
public import proofs.«01_k».proof.Proof.Gen.FpsIdeal
public import proofs.«01_k».proof.Proof.Gen.FpsReferenceIdeal
public import proofs.«01_k».proof.Proof.Gen.Mlp
public import proofs.«01_k».proof.Proof.Gen.MlpIdeal
public import proofs.«01_k».proof.Proof.Gen.MlpReferenceIdeal
public import proofs.«01_k».proof.Proof.Gen.Pre_finite
public import proofs.«01_k».proof.Proof.Gen.Pre_tame
public import proofs.«01_k».proof.Proof.Gen.ReferenceIdeal.Run
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_idx_in_range
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Fps.Gen.facts, Cert.FpsIdeal.Gen.facts,
  Cert.FpsReferenceIdeal.Gen.facts, Cert.Mlp.Gen.facts, Cert.MlpIdeal.Gen.facts, Cert.MlpReferenceIdeal.Gen.facts,
  Cert.Pre_idx_in_range.Gen.facts, Cert.Pre_finite.Gen.facts, Cert.Pre_tame.Gen.facts,
  Frames.frame_kernel, Frames.frame_ideal, Frames.frame_reference, fun m ρ _ => Frames.frame_reference m ρ trivial,
  @Fps.frame_printed Cert.Fps.Gen.facts, Fps.frame_named, fun m ρ _ => Fps.frame_named m ρ trivial, Fps.frame_plain, fun m ρ _ => Fps.frame_plain m ρ trivial,
  @Mlp.frame_printed Cert.Mlp.Gen.facts, Mlp.frame_named, fun m ρ _ => Mlp.frame_named m ρ trivial, Mlp.frame_plain, fun m ρ _ => Mlp.frame_plain m ρ trivial,
  trivial, Frames.algebraic, Fps.big_named, Fps.algebraic, trivial, Mlp.algebraic⟩

end Cert.Proof

end
